-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4))).2.2 = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_v44) = v1 c
          ∧ r.2.mem ((c.tc : Thread Cert.Reference3Ideal.nD Cert.Reference3Ideal.τ).loc Cert.Reference3Ideal.main_v26) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_on_gate_columns_pre_finite4 [hKernel4Ideal : Cert.Kernel4Ideal.Facts] [hReference4Ideal : Cert.Reference4Ideal.Facts] [hPre_finite4 : Cert.Pre_finite4.Facts] [hOn_gate_columns : Cert.On_gate_columns.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          (∀ i : (⟨2, ![8256, 2048]⟩ : Shape).Idx, (Cert.On_gate_columns.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 i = 1#1 → r.2.mem ((c.tc : Thread Cert.Kernel4Ideal.nD Cert.Kernel4Ideal.τ).loc Cert.Kernel4Ideal.main_v0_0) i = v0 c i)
          ∧ (∀ i : (⟨2, ![8256, 6144]⟩ : Shape).Idx, (Cert.On_gate_columns.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 i = 1#1 → r.2.mem ((c.tc : Thread Cert.Kernel4Ideal.nD Cert.Kernel4Ideal.τ).loc Cert.Kernel4Ideal.main_v0_1) i = v1 c i)
          ∧ (∀ i : (⟨2, ![1, 256]⟩ : Shape).Idx, (Cert.On_gate_columns.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2 i = 1#1 → r.2.mem ((c.tc : Thread Cert.Kernel4Ideal.nD Cert.Kernel4Ideal.τ).loc Cert.Kernel4Ideal.main_v0_2) i = v2 c i)
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          (∀ i : (⟨2, ![8256, 2048]⟩ : Shape).Idx, (Cert.On_gate_columns.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 i = 1#1 → r.2.mem ((c.tc : Thread Cert.Reference4Ideal.nD Cert.Reference4Ideal.τ).loc Cert.Reference4Ideal.main_v51) i = v0 c i)
          ∧ (∀ i : (⟨2, ![8256, 6144]⟩ : Shape).Idx, (Cert.On_gate_columns.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 i = 1#1 → r.2.mem ((c.tc : Thread Cert.Reference4Ideal.nD Cert.Reference4Ideal.τ).loc Cert.Reference4Ideal.main_v54) i = v1 c i)
          ∧ (∀ i : (⟨2, ![1, 256]⟩ : Shape).Idx, (Cert.On_gate_columns.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2 i = 1#1 → r.2.mem ((c.tc : Thread Cert.Reference4Ideal.nD Cert.Reference4Ideal.τ).loc Cert.Reference4Ideal.main_v36) i = v2 c i)
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v7) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v39) = v0 c
          ∧ r.2.mem ((c.tc : Thread Cert.Reference10Ideal.nD Cert.Reference10Ideal.τ).loc Cert.Reference10Ideal.main_v40) = v1 c
          ∧ r.2.mem ((c.tc : Thread Cert.Reference10Ideal.nD Cert.Reference10Ideal.τ).loc Cert.Reference10Ideal.main_v22) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_v16) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_v16) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal_on_gate_columns15_pre_finite15 [hKernel15Ideal : Cert.Kernel15Ideal.Facts] [hReference15Ideal : Cert.Reference15Ideal.Facts] [hPre_finite15 : Cert.Pre_finite15.Facts] [hOn_gate_columns15 : Cert.On_gate_columns15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          (∀ i : (⟨2, ![8256, 2048]⟩ : Shape).Idx, (Cert.On_gate_columns15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).1 i = 1#1 → r.2.mem ((c.tc : Thread Cert.Kernel15Ideal.nD Cert.Kernel15Ideal.τ).loc Cert.Kernel15Ideal.main_v0_0) i = v0 c i)
          ∧ (∀ i : (⟨2, ![8256, 6144]⟩ : Shape).Idx, (Cert.On_gate_columns15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.1 i = 1#1 → r.2.mem ((c.tc : Thread Cert.Kernel15Ideal.nD Cert.Kernel15Ideal.τ).loc Cert.Kernel15Ideal.main_v0_1) i = v1 c i)
          ∧ (∀ i : (⟨2, ![1, 512]⟩ : Shape).Idx, (Cert.On_gate_columns15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.2 i = 1#1 → r.2.mem ((c.tc : Thread Cert.Kernel15Ideal.nD Cert.Kernel15Ideal.τ).loc Cert.Kernel15Ideal.main_v0_2) i = v2 c i)
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          (∀ i : (⟨2, ![8256, 2048]⟩ : Shape).Idx, (Cert.On_gate_columns15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).1 i = 1#1 → r.2.mem ((c.tc : Thread Cert.Reference15Ideal.nD Cert.Reference15Ideal.τ).loc Cert.Reference15Ideal.main_v51) i = v0 c i)
          ∧ (∀ i : (⟨2, ![8256, 6144]⟩ : Shape).Idx, (Cert.On_gate_columns15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.1 i = 1#1 → r.2.mem ((c.tc : Thread Cert.Reference15Ideal.nD Cert.Reference15Ideal.τ).loc Cert.Reference15Ideal.main_v54) i = v1 c i)
          ∧ (∀ i : (⟨2, ![1, 512]⟩ : Shape).Idx, (Cert.On_gate_columns15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4))).2.2 i = 1#1 → r.2.mem ((c.tc : Thread Cert.Reference15Ideal.nD Cert.Reference15Ideal.τ).loc Cert.Reference15Ideal.main_v36) i = v2 c i)
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v1) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v6) = v2 c
          ∧ r.2.mem ((c.tc : Thread Cert.Reference18Ideal.nD Cert.Reference18Ideal.τ).loc Cert.Reference18Ideal.main_v12) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_v6) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v12) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v11) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v50) = v0 c
          ∧ r.2.mem ((c.tc : Thread Cert.Reference22Ideal.nD Cert.Reference22Ideal.τ).loc Cert.Reference22Ideal.main_v51) = v1 c
          ∧ r.2.mem ((c.tc : Thread Cert.Reference22Ideal.nD Cert.Reference22Ideal.τ).loc Cert.Reference22Ideal.main_v34) = v2 c
          ∧ r.2.mem ((c.tc : Thread Cert.Reference22Ideal.nD Cert.Reference22Ideal.τ).loc Cert.Reference22Ideal.main_v52) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v6) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v19) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_v14) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite : Cert.Pre_finite.Facts) (hPre_finite2 : Cert.Pre_finite2.Facts) (hPre_finite4 : Cert.Pre_finite4.Facts) (hPre_finite15 : Cert.Pre_finite15.Facts) (hOn_gate_columns : Cert.On_gate_columns.Facts) (hOn_gate_columns15 : Cert.On_gate_columns15.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_on_gate_columns_pre_finite4 (hKernel4Ideal := hKernel4Ideal) (hReference4Ideal := hReference4Ideal) (hPre_finite4 := hPre_finite4) (hOn_gate_columns := hOn_gate_columns)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_on_gate_columns15_pre_finite15 (hKernel15Ideal := hKernel15Ideal) (hReference15Ideal := hReference15Ideal) (hPre_finite15 := hPre_finite15) (hOn_gate_columns15 := hOn_gate_columns15)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== On_gate_columns.lean ====
abbrev S8256x1024 : Shape := ⟨2, ![8256, 1024]⟩
abbrev S2048x1024 : Shape := ⟨2, ![2048, 1024]⟩
abbrev S8256x2048 : Shape := ⟨2, ![8256, 2048]⟩
abbrev S8256x6144 : Shape := ⟨2, ![8256, 6144]⟩
abbrev S1x256 : Shape := ⟨2, ![1, 256]⟩
abbrev S_ : Shape := ⟨0, ![]⟩

class Facts : Prop where
  bcast_S_S8256x2048 : S_.BroadcastsInDim S8256x2048 (![] : Fin 0 → Fin S8256x2048.rank)
  bcast_S_S8256x6144 : S_.BroadcastsInDim S8256x6144 (![] : Fin 0 → Fin S8256x6144.rank)
  bcast_S_S1x256 : S_.BroadcastsInDim S1x256 (![] : Fin 0 → Fin S1x256.rank)

variable [Facts]

def fn {F : FTy → Type} [FloatOps F] (main_arg0 : FVec F S8256x1024 .bf16) (main_arg1 : FVec F S2048x1024 .bf16) (main_arg2 : FVec F S8256x2048 .f32) (main_arg3 : FVec F S8256x6144 .f32) (main_arg4 : FVec F S1x256 .f32) : IVec S8256x2048 1 × IVec S8256x6144 1 × IVec S1x256 1 :=
  let main_v0 : IVec S8256x6144 32 := iotaInDim S8256x6144 32 1
  let main_c : IVec S_ 1 := constantI S_ 1 1#1
  let main_v1 : IVec S8256x2048 1 := broadcastInDim S8256x2048 ![] bcast_S_S8256x2048 main_c
  let main_c_0 : IVec S_ 32 := constantI S_ 32 4096#32
  let main_v2 : IVec S8256x6144 32 := broadcastInDim S8256x6144 ![] bcast_S_S8256x6144 main_c_0
  let main_v3 : IVec S8256x6144 1 := cmpi .sge main_v0 main_v2
  let main_c_1 : IVec S_ 1 := constantI S_ 1 1#1
  let main_v4 : IVec S1x256 1 := broadcastInDim S1x256 ![] bcast_S_S1x256 main_c_1
  (main_v1, main_v3, main_v4)
-- ==== On_gate_columns15.lean ====
abbrev S8256x1024 : Shape := ⟨2, ![8256, 1024]⟩
abbrev S2048x1024 : Shape := ⟨2, ![2048, 1024]⟩
abbrev S8256x2048 : Shape := ⟨2, ![8256, 2048]⟩
abbrev S8256x6144 : Shape := ⟨2, ![8256, 6144]⟩
abbrev S1x512 : Shape := ⟨2, ![1, 512]⟩
abbrev S_ : Shape := ⟨0, ![]⟩

class Facts : Prop where
  bcast_S_S8256x2048 : S_.BroadcastsInDim S8256x2048 (![] : Fin 0 → Fin S8256x2048.rank)
  bcast_S_S8256x6144 : S_.BroadcastsInDim S8256x6144 (![] : Fin 0 → Fin S8256x6144.rank)
  bcast_S_S1x512 : S_.BroadcastsInDim S1x512 (![] : Fin 0 → Fin S1x512.rank)

variable [Facts]

def fn {F : FTy → Type} [FloatOps F] (main_arg0 : FVec F S8256x1024 .bf16) (main_arg1 : FVec F S2048x1024 .bf16) (main_arg2 : FVec F S8256x2048 .f32) (main_arg3 : FVec F S8256x6144 .f32) (main_arg4 : FVec F S1x512 .f32) : IVec S8256x2048 1 × IVec S8256x6144 1 × IVec S1x512 1 :=
  let main_v0 : IVec S8256x6144 32 := iotaInDim S8256x6144 32 1
  let main_c : IVec S_ 1 := constantI S_ 1 1#1
  let main_v1 : IVec S8256x2048 1 := broadcastInDim S8256x2048 ![] bcast_S_S8256x2048 main_c
  let main_c_0 : IVec S_ 32 := constantI S_ 32 4096#32
  let main_v2 : IVec S8256x6144 32 := broadcastInDim S8256x6144 ![] bcast_S_S8256x6144 main_c_0
  let main_v3 : IVec S8256x6144 1 := cmpi .sge main_v0 main_v2
  let main_c_1 : IVec S_ 1 := constantI S_ 1 1#1
  let main_v4 : IVec S1x512 1 := broadcastInDim S1x512 ![] bcast_S_S1x512 main_c_1
  (main_v1, main_v3, main_v4)
-- ==== Pre_finite.lean ====
abbrev S8256x2048 : Shape := ⟨2, ![8256, 2048]⟩
abbrev S129x8x64x128 : Shape := ⟨4, ![129, 8, 64, 128]⟩
abbrev S129x8x64x64 : Shape := ⟨4, ![129, 8, 64, 64]⟩
abbrev S129x8x1x1 : Shape := ⟨4, ![129, 8, 1, 1]⟩
abbrev S_ : Shape := ⟨0, ![]⟩

class Facts : Prop where
  bcast_S_S8256x2048 : S_.BroadcastsInDim S8256x2048 (![] : Fin 0 → Fin S8256x2048.rank)
  bcast_S_S129x8x64x128 : S_.BroadcastsInDim S129x8x64x128 (![] : Fin 0 → Fin S129x8x64x128.rank)
  bcast_S_S129x8x64x64 : S_.BroadcastsInDim S129x8x64x64 (![] : Fin 0 → Fin S129x8x64x64.rank)
  bcast_S_S129x8x1x1 : S_.BroadcastsInDim S129x8x1x1 (![] : Fin 0 → Fin S129x8x1x1.rank)

variable [Facts]

def fn {F : FTy → Type} [FloatOps F] (main_arg0 : FVec F S8256x2048 .f32) (main_arg1 : FVec F S129x8x64x128 .f32) (main_arg2 : FVec F S129x8x64x128 .f32) (main_arg3 : FVec F S129x8x64x64 .f32) (main_arg4 : FVec F S129x8x64x128 .f32) (main_arg5 : FVec F S129x8x1x1 .f32) : IVec S8256x2048 1 × IVec S129x8x64x128 1 × IVec S129x8x64x128 1 × IVec S129x8x64x64 1 × IVec S129x8x64x128 1 × IVec S129x8x1x1 1 :=
  let main_v0 : FVec F S8256x2048 .f32 := Host.absf main_arg0
  let main_cst : FVec F S_ .f32 := constant S_ .f32 0x7F800000#32
  let main_v1 : FVec F S8256x2048 .f32 := broadcastInDim S8256x2048 ![] bcast_S_S8256x2048 main_cst
  let main_v2 : IVec S8256x2048 1 := cmpf .olt main_v0 main_v1
  let main_v3 : FVec F S129x8x64x128 .f32 := Host.absf main_arg1
  let main_cst_0 : FVec F S_ .f32 := constant S_ .f32 0x7F800000#32
  let main_v4 : FVec F S129x8x64x128 .f32 := broadcastInDim S129x8x64x128 ![] bcast_S_S129x8x64x128 main_cst_0
  let main_v5 : IVec S129x8x64x128 1 := cmpf .olt main_v3 main_v4
  let main_v6 : FVec F S129x8x64x128 .f32 := Host.absf main_arg2
  let main_cst_1 : FVec F S_ .f32 := constant S_ .f32 0x7F800000#32
  let main_v7 : FVec F S129x8x64x128 .f32 := broadcastInDim S129x8x64x128 ![] bcast_S_S129x8x64x128 main_cst_1
  let main_v8 : IVec S129x8x64x128 1 := cmpf .olt main_v6 main_v7
  let main_v9 : FVec F S129x8x64x64 .f32 := Host.absf main_arg3
  let main_cst_2 : FVec F S_ .f32 := constant S_ .f32 0x7F800000#32
  let main_v10 : FVec F S129x8x64x64 .f32 := broadcastInDim S129x8x64x64 ![] bcast_S_S129x8x64x64 main_cst_2
  let main_v11 : IVec S129x8x64x64 1 := cmpf .olt main_v9 main_v10
  let main_v12 : FVec F S129x8x64x128 .f32 := Host.absf main_arg4
  let main_cst_3 : FVec F S_ .f32 := constant S_ .f32 0x7F800000#32
  let main_v13 : FVec F S129x8x64x128 .f32 := broadcastInDim S129x8x64x128 ![] bcast_S_S129x8x64x128 main_cst_3
  let main_v14 : IVec S129x8x64x128 1 := cmpf .olt main_v12 main_v13
  let main_v15 : FVec F S129x8x1x1 .f32 := Host.absf main_arg5
  let main_cst_4 : FVec F S_ .f32 := constant S_ .f32 0x7F800000#32
  let main_v16 : FVec F S129x8x1x1 .f32 := broadcastInDim S129x8x1x1 ![] bcast_S_S129x8x1x1 main_cst_4
  let main_v17 : IVec S129x8x1x1 1 := cmpf .olt main_v15 main_v16
  (main_v2, main_v5, main_v8, main_v11, main_v14, main_v17)
-- ==== Pre_finite15.lean ====
abbrev S8256x1024 : Shape := ⟨2, ![8256, 1024]⟩
abbrev S2048x1024 : Shape := ⟨2, ![2048, 1024]⟩
abbrev S8256x2048 : Shape := ⟨2, ![8256, 2048]⟩
abbrev S8256x6144 : Shape := ⟨2, ![8256, 6144]⟩
abbrev S1x512 : Shape := ⟨2, ![1, 512]⟩
abbrev S_ : Shape := ⟨0, ![]⟩

class Facts : Prop where
  bitsLt_bf16_f32 : FTy.bits .bf16 < FTy.bits .f32
  bcast_S_S8256x1024 : S_.BroadcastsInDim S8256x1024 (![] : Fin 0 → Fin S8256x1024.rank)
  bcast_S_S2048x1024 : S_.BroadcastsInDim S2048x1024 (![] : Fin 0 → Fin S2048x1024.rank)
  bcast_S_S1x512 : S_.BroadcastsInDim S1x512 (![] : Fin 0 → Fin S1x512.rank)

variable [Facts]

def fn {F : FTy → Type} [FloatOps F] (main_arg0 : FVec F S8256x1024 .bf16) (main_arg1 : FVec F S2048x1024 .bf16) (main_arg2 : FVec F S8256x2048 .f32) (main_arg3 : FVec F S8256x6144 .f32) (main_arg4 : FVec F S1x512 .f32) : IVec S8256x1024 1 × IVec S2048x1024 1 × IVec S1x512 1 :=
  let main_v0 : FVec F S8256x1024 .f32 := (extf .f32 · bitsLt_bf16_f32) main_arg0
  let main_v1 : FVec F S8256x1024 .f32 := Host.absf main_v0
  let main_cst : FVec F S_ .f32 := constant S_ .f32 0x7F800000#32
  let main_v2 : FVec F S8256x1024 .f32 := broadcastInDim S8256x1024 ![] bcast_S_S8256x1024 main_cst
  let main_v3 : IVec S8256x1024 1 := cmpf .olt main_v1 main_v2
  let main_v4 : FVec F S2048x1024 .f32 := (extf .f32 · bitsLt_bf16_f32) main_arg1
  let main_v5 : FVec F S2048x1024 .f32 := Host.absf main_v4
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_v8 : FVec F S1x512 .f32 := Host.absf main_arg4
  let main_cst_1 : FVec F S_ .f32 := constant S_ .f32 0x7F800000#32
  let main_v9 : FVec F S1x512 .f32 := broadcastInDim S1x512 ![] bcast_S_S1x512 main_cst_1
  let main_v10 : IVec S1x512 1 := cmpf .olt main_v8 main_v9
  (main_v3, main_v7, main_v10)
-- ==== Pre_finite2.lean ====
abbrev S8256x1024 : Shape := ⟨2, ![8256, 1024]⟩
abbrev S2816x1024 : Shape := ⟨2, ![2816, 1024]⟩
abbrev S8256x2816 : Shape := ⟨2, ![8256, 2816]⟩
abbrev S_ : Shape := ⟨0, ![]⟩

class Facts : Prop where
  bitsLt_bf16_f32 : FTy.bits .bf16 < FTy.bits .f32
  bcast_S_S8256x1024 : S_.BroadcastsInDim S8256x1024 (![] : Fin 0 → Fin S8256x1024.rank)
  bcast_S_S2816x1024 : S_.BroadcastsInDim S2816x1024 (![] : Fin 0 → Fin S2816x1024.rank)
  bcast_S_S8256x2816 : S_.BroadcastsInDim S8256x2816 (![] : Fin 0 → Fin S8256x2816.rank)

variable [Facts]

def fn {F : FTy → Type} [FloatOps F] (main_arg0 : FVec F S8256x1024 .bf16) (main_arg1 : FVec F S2816x1024 .bf16) (main_arg2 : FVec F S8256x2816 .bf16) (main_arg3 : FVec F S8256x2816 .bf16) : IVec S8256x1024 1 × IVec S2816x1024 1 × IVec S8256x2816 1 :=
  let main_v0 : FVec F S8256x1024 .f32 := (extf .f32 · bitsLt_bf16_f32) main_arg0
  let main_v1 : FVec F S8256x1024 .f32 := Host.absf main_v0
  let main_cst : FVec F S_ .f32 := constant S_ .f32 0x7F800000#32
  let main_v2 : FVec F S8256x1024 .f32 := broadcastInDim S8256x1024 ![] bcast_S_S8256x1024 main_cst
  let main_v3 : IVec S8256x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S8256x2816 .f32 := (extf .f32 · bitsLt_bf16_f32) main_arg3
  let main_v9 : FVec F S8256x2816 .f32 := Host.absf main_v8
  let main_cst_1 : FVec F S_ .f32 := constant S_ .f32 0x7F800000#32
  let main_v10 : FVec F S8256x2816 .f32 := broadcastInDim S8256x2816 ![] bcast_S_S8256x2816 main_cst_1
  let main_v11 : IVec S8256x2816 1 := cmpf .olt main_v9 main_v10
  (main_v3, main_v7, main_v11)
-- ==== Pre_finite4.lean ====
abbrev S8256x1024 : Shape := ⟨2, ![8256, 1024]⟩
abbrev S2048x1024 : Shape := ⟨2, ![2048, 1024]⟩
abbrev S8256x2048 : Shape := ⟨2, ![8256, 2048]⟩
abbrev S8256x6144 : Shape := ⟨2, ![8256, 6144]⟩
abbrev S1x256 : Shape := ⟨2, ![1, 256]⟩
abbrev S_ : Shape := ⟨0, ![]⟩

class Facts : Prop where
  bitsLt_bf16_f32 : FTy.bits .bf16 < FTy.bits .f32
  bcast_S_S8256x1024 : S_.BroadcastsInDim S8256x1024 (![] : Fin 0 → Fin S8256x1024.rank)
  bcast_S_S2048x1024 : S_.BroadcastsInDim S2048x1024 (![] : Fin 0 → Fin S2048x1024.rank)
  bcast_S_S1x256 : S_.BroadcastsInDim S1x256 (![] : Fin 0 → Fin S1x256.rank)

variable [Facts]

def fn {F : FTy → Type} [FloatOps F] (main_arg0 : FVec F S8256x1024 .bf16) (main_arg1 : FVec F S2048x1024 .bf16) (main_arg2 : FVec F S8256x2048 .f32) (main_arg3 : FVec F S8256x6144 .f32) (main_arg4 : FVec F S1x256 .f32) : IVec S8256x1024 1 × IVec S2048x1024 1 × IVec S1x256 1 :=
  let main_v0 : FVec F S8256x1024 .f32 := (extf .f32 · bitsLt_bf16_f32) main_arg0
  let main_v1 : FVec F S8256x1024 .f32 := Host.absf main_v0
  let main_cst : FVec F S_ .f32 := constant S_ .f32 0x7F800000#32
  let main_v2 : FVec F S8256x1024 .f32 := broadcastInDim S8256x1024 ![] bcast_S_S8256x1024 main_cst
  let main_v3 : IVec S8256x1024 1 := cmpf .olt main_v1 main_v2
  let main_v4 : FVec F S2048x1024 .f32 := (extf .f32 · bitsLt_bf16_f32) main_arg1
  let main_v5 : FVec F S2048x1024 .f32 := Host.absf main_v4
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_v8 : FVec F S1x256 .f32 := Host.absf main_arg4
  let main_cst_1 : FVec F S_ .f32 := constant S_ .f32 0x7F800000#32
  let main_v9 : FVec F S1x256 .f32 := broadcastInDim S1x256 ![] bcast_S_S1x256 main_cst_1
  let main_v10 : IVec S1x256 1 := cmpf .olt main_v8 main_v9
  (main_v3, main_v7, main_v10)
-- ==== Kernel.lean ====
abbrev S8256x2048 : Shape := ⟨2, ![8256, 2048]⟩
abbrev S129x8x64x128 : Shape := ⟨4, ![129, 8, 64, 128]⟩
abbrev S129x8x64x64 : Shape := ⟨4, ![129, 8, 64, 64]⟩
abbrev S129x8x1x1 : Shape := ⟨4, ![129, 8, 1, 1]⟩
abbrev S129x8x64x192 : Shape := ⟨4, ![129, 8, 64, 192]⟩
abbrev S129x8x128x64 : Shape := ⟨4, ![129, 8, 128, 64]⟩
abbrev S129x8x256x64 : Shape := ⟨4, ![129, 8, 256, 64]⟩
abbrev S129x8x8x128 : Shape := ⟨4, ![129, 8, 8, 128]⟩
abbrev S129x8x128x256 : Shape := ⟨4, ![129, 8, 128, 256]⟩
abbrev S192x2048 : Shape := ⟨2, ![192, 2048]⟩
abbrev S3x8x64x192 : Shape := ⟨4, ![3, 8, 64, 192]⟩
abbrev S3x8x256x64 : Shape := ⟨4, ![3, 8, 256, 64]⟩
abbrev S3x8x8x128 : Shape := ⟨4, ![3, 8, 8, 128]⟩
abbrev S3x8x128x256 : Shape := ⟨4, ![3, 8, 128, 256]⟩
abbrev S8x128x256 : Shape := ⟨3, ![8, 128, 256]⟩
abbrev S1x128x256 : Shape := ⟨3, ![1, 128, 256]⟩
abbrev S128x256 : Shape := ⟨2, ![128, 256]⟩
abbrev S64x256 : Shape := ⟨2, ![64, 256]⟩
abbrev S1x1x64x192 : Shape := ⟨4, ![1, 1, 64, 192]⟩
abbrev S64x192 : Shape := ⟨2, ![64, 192]⟩
abbrev S64x128 : Shape := ⟨2, ![64, 128]⟩
abbrev S64x64 : Shape := ⟨2, ![64, 64]⟩
abbrev S1x1x128x256 : Shape := ⟨4, ![1, 1, 128, 256]⟩
abbrev S1x1x8x128 : Shape := ⟨4, ![1, 1, 8, 128]⟩
abbrev S8x128 : Shape := ⟨2, ![8, 128]⟩
abbrev S1x1 : Shape := ⟨2, ![1, 1]⟩
abbrev S1x1x256x64 : Shape := ⟨4, ![1, 1, 256, 64]⟩
abbrev S256x64 : Shape := ⟨2, ![256, 64]⟩
abbrev S128x64 : Shape := ⟨2, ![128, 64]⟩

abbrev nBuf : Space → Nat
  | .hbm => 16
  | .vmem => 13
  | .smem => 0
  | _ => 0

abbrev bufTy : (tb : Table) → Fin (tcTables nBuf tb) → BufTy
  | .hbm, ⟨0, _⟩ => ⟨S8256x2048, .f32⟩
  | .hbm, ⟨1, _⟩ => ⟨S129x8x64x128, .f32⟩
  | .hbm, ⟨2, _⟩ => ⟨S129x8x64x128, .f32⟩
  | .hbm, ⟨3, _⟩ => ⟨S129x8x64x64, .f32⟩
  | .hbm, ⟨4, _⟩ => ⟨S129x8x64x128, .f32⟩
  | .hbm, ⟨5, _⟩ => ⟨S129x8x1x1, .f32⟩
  | .hbm, ⟨6, _⟩ => ⟨S129x8x64x64, .f32⟩
  | .hbm, ⟨7, _⟩ => ⟨S129x8x64x192, .f32⟩
  | .hbm, ⟨8, _⟩ => ⟨S129x8x64x192, .bf16⟩
  | .hbm, ⟨9, _⟩ => ⟨S129x8x128x64, .f32⟩
  | .hbm, ⟨10, _⟩ => ⟨S129x8x128x64, .f32⟩
  | .hbm, ⟨11, _⟩ => ⟨S129x8x256x64, .f32⟩
  | .hbm, ⟨12, _⟩ => ⟨S129x8x256x64, .bf16⟩
  | .hbm, ⟨13, _⟩ => ⟨S129x8x8x128, .f32⟩
  | .hbm, ⟨14, _⟩ => ⟨S8256x2048, .f32⟩
  | .hbm, ⟨15, _⟩ => ⟨S129x8x128x256, .bf16⟩
  | .local _ .vmem, ⟨0, _⟩ => ⟨S192x2048, .f32⟩
  | .local _ .vmem, ⟨1, _⟩ => ⟨S192x2048, .f32⟩
  | .local _ .vmem, ⟨2, _⟩ => ⟨S3x8x64x192, .bf16⟩
  | .local _ .vmem, ⟨3, _⟩ => ⟨S3x8x64x192, .bf16⟩
  | .local _ .vmem, ⟨4, _⟩ => ⟨S3x8x256x64, .bf16⟩
  | .local _ .vmem, ⟨5, _⟩ => ⟨S3x8x256x64, .bf16⟩
  | .local _ .vmem, ⟨6, _⟩ => ⟨S3x8x8x128, .f32⟩
  | .local _ .vmem, ⟨7, _⟩ => ⟨S3x8x8x128, .f32⟩
  | .local _ .vmem, ⟨8, _⟩ => ⟨S192x2048, .f32⟩
  | .local _ .vmem, ⟨9, _⟩ => ⟨S192x2048, .f32⟩
  | .local _ .vmem, ⟨10, _⟩ => ⟨S3x8x128x256, .bf16⟩
  | .local _ .vmem, ⟨11, _⟩ => ⟨S3x8x128x256, .bf16⟩
  | .local _ .vmem, ⟨12, _⟩ => ⟨S8x128x256, .f32⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c42_i32 : BitVec 32 := 42#32
  let v0 : BitVec 32 := Scalar.subi c42_i32 arg0
  let c0_i32 : BitVec 32 := 0#32
  let c0_i32_0 : BitVec 32 := 0#32
  ![v0.toNat, c0_i32.toNat]

def cc0_transform_1 (i : grid0.Coords) : Fin 4 → Nat :=
  let arg0 : BitVec 32 := BitVec.ofNat 32 (i 0).val
  let c42_i32 : BitVec 32 := 42#32
  let v0 : BitVec 32 := Scalar.subi c42_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_2 (i : grid0.Coords) : Fin 4 → Nat :=
  let arg0 : BitVec 32 := BitVec.ofNat 32 (i 0).val
  let c42_i32 : BitVec 32 := 42#32
  let v0 : BitVec 32 := Scalar.subi c42_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_3 (i : grid0.Coords) : Fin 4 → Nat :=
  let arg0 : BitVec 32 := BitVec.ofNat 32 (i 0).val
  let c42_i32 : BitVec 32 := 42#32
  let v0 : BitVec 32 := Scalar.subi c42_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 2 → Nat :=
  let arg0 : BitVec 32 := BitVec.ofNat 32 (i 0).val
  let c42_i32 : BitVec 32 := 42#32
  let v0 : BitVec 32 := Scalar.subi c42_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c42_i32 : BitVec 32 := 42#32
  let v0 : BitVec 32 := Scalar.subi c42_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S192x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x8x64x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x8x256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x8x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x8x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8256x2048 : Shape := ⟨2, ![8256, 2048]⟩
abbrev S129x8x64x128 : Shape := ⟨4, ![129, 8, 64, 128]⟩
abbrev S129x8x64x64 : Shape := ⟨4, ![129, 8, 64, 64]⟩
abbrev S129x8x1x1 : Shape := ⟨4, ![129, 8, 1, 1]⟩
abbrev S_ : Shape := ⟨0, ![]⟩
abbrev S129x8x128x256 : Shape := ⟨4, ![129, 8, 128, 256]⟩
abbrev S8x128x256 : Shape := ⟨3, ![8, 128, 256]⟩
abbrev S129x64x8x256 : Shape := ⟨4, ![129, 64, 8, 256]⟩
abbrev S129x8x64x256 : Shape := ⟨4, ![129, 8, 64, 256]⟩
abbrev S1x8x64x256 : Shape := ⟨4, ![1, 8, 64, 256]⟩
abbrev S8x64x256 : Shape := ⟨3, ![8, 64, 256]⟩
abbrev S1x8x1x1 : Shape := ⟨4, ![1, 8, 1, 1]⟩
abbrev S8x1x1 : Shape := ⟨3, ![8, 1, 1]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S8x256x64 : Shape := ⟨3, ![8, 256, 64]⟩
abbrev S8x256x128 : Shape := ⟨3, ![8, 256, 128]⟩
abbrev S1x8x128x256 : Shape := ⟨4, ![1, 8, 128, 256]⟩

abbrev nBuf : Space → Nat
  | .hbm => 96
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S129x8x64x128, .f32⟩
  | .hbm, ⟨2, _⟩ => ⟨S129x8x64x128, .f32⟩
  | .hbm, ⟨3, _⟩ => ⟨S129x8x64x64, .f32⟩
  | .hbm, ⟨4, _⟩ => ⟨S129x8x64x128, .f32⟩
  | .hbm, ⟨5, _⟩ => ⟨S129x8x1x1, .f32⟩
  | .hbm, ⟨6, _⟩ => ⟨S_, .f32⟩
  | .hbm, ⟨7, _⟩ => ⟨S8256x2048, .f32⟩
  | .hbm, ⟨8, _⟩ => ⟨S_, .f32⟩
  | .hbm, ⟨9, _⟩ => ⟨S129x8x128x256, .f32⟩
  | .hbm, ⟨10, _⟩ => ⟨S_, .f32⟩
  | .hbm, ⟨11, _⟩ => ⟨S8x128x256, .f32⟩
  | .hbm, ⟨12, _⟩ => ⟨S129x64x8x256, .f32⟩
  | .hbm, ⟨13, _⟩ => ⟨S129x8x64x256, .f32⟩
  | .hbm, ⟨14, _⟩ => ⟨S_, .f32⟩
  | .hbm, ⟨15, _⟩ => ⟨S8x128x256, .f32⟩
  | .hbm, ⟨16, _⟩ => ⟨S_, .f32⟩
  | .hbm, ⟨17, _⟩ => ⟨S129x8x64x256, .f32⟩
  | .hbm, ⟨18, _⟩ => ⟨S_, .f32⟩
  | .hbm, ⟨19, _⟩ => ⟨S129x8x128x256, .f32⟩
  | .hbm, ⟨20, _⟩ => ⟨S_, .i32⟩
  | .hbm, ⟨21, _⟩ => ⟨S129x8x64x256, .f32⟩
  | .hbm, ⟨22, _⟩ => ⟨S129x8x1x1, .f32⟩
  | .hbm, ⟨23, _⟩ => ⟨S129x8x64x128, .f32⟩
  | .hbm, ⟨24, _⟩ => ⟨S129x8x64x128, .f32⟩
  | .hbm, ⟨25, _⟩ => ⟨S129x8x64x128, .f32⟩
  | .hbm, ⟨26, _⟩ => ⟨S129x8x64x64, .f32⟩
  | .hbm, ⟨27, _⟩ => ⟨S_, .i32⟩
  | .hbm, ⟨28, _⟩ => ⟨S8x128x256, .f32⟩
  | .hbm, ⟨29, _⟩ => ⟨S129x8x64x256, .f32⟩
  | .hbm, ⟨30, _⟩ => ⟨S129x8x128x256, .f32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1x8x64x256, .f32⟩
  | .hbm, ⟨41, _⟩ => ⟨S8x64x256, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S1x8x1x1, .f32⟩
  | .hbm, ⟨46, _⟩ => ⟨S8x1x1, .f32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S1x8x64x128, .f32⟩
  | .hbm, ⟨51, _⟩ => ⟨S8x64x128, .f32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x8x64x128, .f32⟩
  | .hbm, ⟨56, _⟩ => ⟨S8x64x128, .f32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S1x8x64x128, .f32⟩
  | .hbm, ⟨61, _⟩ => ⟨S8x64x128, .f32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S1x8x64x64, .f32⟩
  | .hbm, ⟨66, _⟩ => ⟨S8x64x64, .f32⟩
  | .hbm, ⟨67, _⟩ => ⟨S8x256x64, .f32⟩
  | .hbm, ⟨68, _⟩ => ⟨S8x64x256, .f32⟩
  | .hbm, ⟨69, _⟩ => ⟨S8x128x256, .f32⟩
  | .hbm, ⟨70, _⟩ => ⟨S8x128x256, .f32⟩
  | .hbm, ⟨71, _⟩ => ⟨S8x256x64, .f32⟩
  | .hbm, ⟨72, _⟩ => ⟨S8x64x256, .f32⟩
  | .hbm, ⟨73, _⟩ => ⟨S8x64x256, .f32⟩
  | .hbm, ⟨74, _⟩ => ⟨S8x256x128, .f32⟩
  | .hbm, ⟨75, _⟩ => ⟨S8x128x256, .f32⟩
  | .hbm, ⟨76, _⟩ => ⟨S8x128x256, .f32⟩
  | .hbm, ⟨77, _⟩ => ⟨S8x64x256, .f32⟩
  | .hbm, ⟨78, _⟩ => ⟨S8x256x128, .f32⟩
  | .hbm, ⟨79, _⟩ => ⟨S8x128x256, .f32⟩
  | .hbm, ⟨80, _⟩ => ⟨S8x128x256, .f32⟩
  | .hbm, ⟨81, _⟩ => ⟨S1x8x64x256, .f32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S129x8x64x256, .f32⟩
  | .hbm, ⟨86, _⟩ => ⟨S1x8x128x256, .f32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S129x8x128x256, .f32⟩
  | .hbm, ⟨91, _⟩ => ⟨S_, .i32⟩
  | .hbm, ⟨92, _⟩ => ⟨S_, .i32⟩
  | .hbm, ⟨93, _⟩ => ⟨S129x64x8x256, .f32⟩
  | .hbm, ⟨94, _⟩ => ⟨S8256x2048, .f32⟩
  | .hbm, ⟨95, _⟩ => ⟨S129x8x128x256, .bf16⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_cst_4 : Ref sig .tc := ⟨.hbm, 18, rfl⟩
abbrev main_v7 : Ref sig .tc := ⟨.hbm, 19, rfl⟩
abbrev main_c : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev main_v8_3 : Ref sig .tc := ⟨.hbm, 24, rfl⟩
abbrev main_v8_4 : Ref sig .tc := ⟨.hbm, 25, rfl⟩
abbrev main_v8_5 : Ref sig .tc := ⟨.hbm, 26, rfl⟩
abbrev main_v8_6 : Ref sig .tc := ⟨.hbm, 27, rfl⟩
abbrev main_v8_7 : Ref sig .tc := ⟨.hbm, 28, rfl⟩
abbrev main_v8_8 : Ref sig .tc := ⟨.hbm, 29, rfl⟩
abbrev main_v8_9 : Ref sig .tc := ⟨.hbm, 30, rfl⟩
abbrev main_while0c_c_14 : Ref sig .tc := ⟨.hbm, 31, rfl⟩
abbrev main_while0c_v12 : Ref sig .tc := ⟨.hbm, 32, rfl⟩
abbrev main_while0b_c_14 : Ref sig .tc := ⟨.hbm, 33, rfl⟩
abbrev main_while0b_v12 : Ref sig .tc := ⟨.hbm, 34, rfl⟩
abbrev main_while0b_c_15 : Ref sig .tc := ⟨.hbm, 35, rfl⟩
abbrev main_while0b_v13 : Ref sig .tc := ⟨.hbm, 36, rfl⟩
abbrev main_while0b_call0_c : Ref sig .tc := ⟨.hbm, 37, rfl⟩
abbrev main_while0b_call0_c_0 : Ref sig .tc := ⟨.hbm, 38, rfl⟩
abbrev main_while0b_call0_c_1 : Ref sig .tc := ⟨.hbm, 39, rfl⟩
abbrev main_while0b_call0_v0 : Ref sig .tc := ⟨.hbm, 40, rfl⟩
abbrev main_while0b_v14 : Ref sig .tc := ⟨.hbm, 41, rfl⟩
abbrev main_while0b_call1_c : Ref sig .tc := ⟨.hbm, 42, rfl⟩
abbrev main_while0b_call1_c_0 : Ref sig .tc := ⟨.hbm, 43, rfl⟩
abbrev main_while0b_call1_c_1 : Ref sig .tc := ⟨.hbm, 44, rfl⟩
abbrev main_while0b_call1_v0 : Ref sig .tc := ⟨.hbm, 45, rfl⟩
abbrev main_while0b_v15 : Ref sig .tc := ⟨.hbm, 46, rfl⟩
abbrev main_while0b_call2_c : Ref sig .tc := ⟨.hbm, 47, rfl⟩
abbrev main_while0b_call2_c_0 : Ref sig .tc := ⟨.hbm, 48, rfl⟩
abbrev main_while0b_call2_c_1 : Ref sig .tc := ⟨.hbm, 49, rfl⟩
abbrev main_while0b_call2_v0 : Ref sig .tc := ⟨.hbm, 50, rfl⟩
abbrev main_while0b_v16 : Ref sig .tc := ⟨.hbm, 51, rfl⟩
abbrev main_while0b_call3_c : Ref sig .tc := ⟨.hbm, 52, rfl⟩
abbrev main_while0b_call3_c_0 : Ref sig .tc := ⟨.hbm, 53, rfl⟩
abbrev main_while0b_call3_c_1 : Ref sig .tc := ⟨.hbm, 54, rfl⟩
abbrev main_while0b_call3_v0 : Ref sig .tc := ⟨.hbm, 55, rfl⟩
abbrev main_while0b_v17 : Ref sig .tc := ⟨.hbm, 56, rfl⟩
abbrev main_while0b_call4_c : Ref sig .tc := ⟨.hbm, 57, rfl⟩
abbrev main_while0b_call4_c_0 : Ref sig .tc := ⟨.hbm, 58, rfl⟩
abbrev main_while0b_call4_c_1 : Ref sig .tc := ⟨.hbm, 59, rfl⟩
abbrev main_while0b_call4_v0 : Ref sig .tc := ⟨.hbm, 60, rfl⟩
abbrev main_while0b_v18 : Ref sig .tc := ⟨.hbm, 61, rfl⟩
abbrev main_while0b_call5_c : Ref sig .tc := ⟨.hbm, 62, rfl⟩
abbrev main_while0b_call5_c_0 : Ref sig .tc := ⟨.hbm, 63, rfl⟩
abbrev main_while0b_call5_c_1 : Ref sig .tc := ⟨.hbm, 64, rfl⟩
abbrev main_while0b_call5_v0 : Ref sig .tc := ⟨.hbm, 65, rfl⟩
abbrev main_while0b_v19 : Ref sig .tc := ⟨.hbm, 66, rfl⟩
abbrev main_while0b_v20 : Ref sig .tc := ⟨.hbm, 67, rfl⟩
abbrev main_while0b_v21 : Ref sig .tc := ⟨.hbm, 68, rfl⟩
abbrev main_while0b_v22 : Ref sig .tc := ⟨.hbm, 69, rfl⟩
abbrev main_while0b_v23 : Ref sig .tc := ⟨.hbm, 70, rfl⟩
abbrev main_while0b_v24 : Ref sig .tc := ⟨.hbm, 71, rfl⟩
abbrev main_while0b_v25 : Ref sig .tc := ⟨.hbm, 72, rfl⟩
abbrev main_while0b_v26 : Ref sig .tc := ⟨.hbm, 73, rfl⟩
abbrev main_while0b_v27 : Ref sig .tc := ⟨.hbm, 74, rfl⟩
abbrev main_while0b_v28 : Ref sig .tc := ⟨.hbm, 75, rfl⟩
abbrev main_while0b_v29 : Ref sig .tc := ⟨.hbm, 76, rfl⟩
abbrev main_while0b_v30 : Ref sig .tc := ⟨.hbm, 77, rfl⟩
abbrev main_while0b_v31 : Ref sig .tc := ⟨.hbm, 78, rfl⟩
abbrev main_while0b_v32 : Ref sig .tc := ⟨.hbm, 79, rfl⟩
abbrev main_while0b_v33 : Ref sig .tc := ⟨.hbm, 80, rfl⟩
abbrev main_while0b_call6_v0 : Ref sig .tc := ⟨.hbm, 81, rfl⟩
abbrev main_while0b_call6_c : Ref sig .tc := ⟨.hbm, 82, rfl⟩
abbrev main_while0b_call6_c_0 : Ref sig .tc := ⟨.hbm, 83, rfl⟩
abbrev main_while0b_call6_c_1 : Ref sig .tc := ⟨.hbm, 84, rfl⟩
abbrev main_while0b_v34 : Ref sig .tc := ⟨.hbm, 85, rfl⟩
abbrev main_while0b_call7_v0 : Ref sig .tc := ⟨.hbm, 86, rfl⟩
abbrev main_while0b_call7_c : Ref sig .tc := ⟨.hbm, 87, rfl⟩
abbrev main_while0b_call7_c_0 : Ref sig .tc := ⟨.hbm, 88, rfl⟩
abbrev main_while0b_call7_c_1 : Ref sig .tc := ⟨.hbm, 89, rfl⟩
abbrev main_while0b_v35 : Ref sig .tc := ⟨.hbm, 90, rfl⟩
abbrev main_while0b_c_16 : Ref sig .tc := ⟨.hbm, 91, rfl⟩
abbrev main_while0b_v36 : Ref sig .tc := ⟨.hbm, 92, rfl⟩
abbrev main_v9 : Ref sig .tc := ⟨.hbm, 93, rfl⟩
abbrev main_v10 : Ref sig .tc := ⟨.hbm, 94, rfl⟩
abbrev main_v11 : Ref sig .tc := ⟨.hbm, 95, rfl⟩

abbrev nD : Nat := 1
abbrev τ : Topo := Topo.v7x

variable {F : FTy → Type} [FloatOps F]

abbrev main_while0_count : Scf.Loop 32 := ⟨0#32, 129#32, 1#32⟩
-- ==== Kernel2.lean ====
abbrev S8256x1024 : Shape := ⟨2, ![8256, 1024]⟩
abbrev S2816x1024 : Shape := ⟨2, ![2816, 1024]⟩
abbrev S8256x2816 : Shape := ⟨2, ![8256, 2816]⟩
abbrev S688x1024 : Shape := ⟨2, ![688, 1024]⟩
abbrev S1408x1024 : Shape := ⟨2, ![1408, 1024]⟩
abbrev S688x1408 : Shape := ⟨2, ![688, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8256x1024, .bf16⟩
  | .hbm, ⟨1, _⟩ => ⟨S2816x1024, .bf16⟩
  | .hbm, ⟨2, _⟩ => ⟨S8256x2816, .bf16⟩
  | .hbm, ⟨3, _⟩ => ⟨S8256x2816, .bf16⟩
  | .hbm, ⟨4, _⟩ => ⟨S8256x2816, .bf16⟩
  | .hbm, ⟨5, _⟩ => ⟨S8256x2816, .bf16⟩
  | .local _ .vmem, ⟨0, _⟩ => ⟨S688x1024, .bf16⟩
  | .local _ .vmem, ⟨1, _⟩ => ⟨S688x1024, .bf16⟩
  | .local _ .vmem, ⟨2, _⟩ => ⟨S1408x1024, .bf16⟩
  | .local _ .vmem, ⟨3, _⟩ => ⟨S1408x1024, .bf16⟩
  | .local _ .vmem, ⟨4, _⟩ => ⟨S688x1408, .bf16⟩
  | .local _ .vmem, ⟨5, _⟩ => ⟨S688x1408, .bf16⟩
  | .local _ .vmem, ⟨6, _⟩ => ⟨S688x1408, .bf16⟩
  | .local _ .vmem, ⟨7, _⟩ => ⟨S688x1408, .bf16⟩
  | .local _ .vmem, ⟨8, _⟩ => ⟨S688x1408, .bf16⟩
  | .local _ .vmem, ⟨9, _⟩ => ⟨S688x1408, .bf16⟩
  | .local _ .vmem, ⟨10, _⟩ => ⟨S688x1408, .bf16⟩
  | .local _ .vmem, ⟨11, _⟩ => ⟨S688x1408, .bf16⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![12, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S688x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S688x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S688x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S688x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8256x1024 : Shape := ⟨2, ![8256, 1024]⟩
abbrev S2816x1024 : Shape := ⟨2, ![2816, 1024]⟩
abbrev S8256x2816 : Shape := ⟨2, ![8256, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S2816x1024, .bf16⟩
  | .hbm, ⟨2, _⟩ => ⟨S8256x2816, .bf16⟩
  | .hbm, ⟨3, _⟩ => ⟨S8256x2816, .bf16⟩
  | .hbm, ⟨4, _⟩ => ⟨S8256x2816, .f32⟩
  | .hbm, ⟨5, _⟩ => ⟨S8256x2816, .f32⟩
  | .hbm, ⟨6, _⟩ => ⟨S8256x2816, .f32⟩
  | .hbm, ⟨7, _⟩ => ⟨S8256x2816, .f32⟩
  | .hbm, ⟨8, _⟩ => ⟨S_, .f32⟩
  | .hbm, ⟨9, _⟩ => ⟨S8256x2816, .f32⟩
  | .hbm, ⟨10, _⟩ => ⟨S8256x2816, .f32⟩
  | .hbm, ⟨11, _⟩ => ⟨S_, .f32⟩
  | .hbm, ⟨12, _⟩ => ⟨S8256x2816, .f32⟩
  | .hbm, ⟨13, _⟩ => ⟨S8256x2816, .f32⟩
  | .hbm, ⟨14, _⟩ => ⟨S_, .f32⟩
  | .hbm, ⟨15, _⟩ => ⟨S8256x2816, .f32⟩
  | .hbm, ⟨16, _⟩ => ⟨S8256x2816, .f32⟩
  | .hbm, ⟨17, _⟩ => ⟨S8256x2816, .f32⟩
  | .hbm, ⟨18, _⟩ => ⟨S8256x2816, .f32⟩
  | .hbm, ⟨19, _⟩ => ⟨S8256x2816, .f32⟩
  | .hbm, ⟨20, _⟩ => ⟨S2816x1024, .f32⟩
  | .hbm, ⟨21, _⟩ => ⟨S8256x1024, .f32⟩
  | .hbm, ⟨22, _⟩ => ⟨S8256x1024, .f32⟩
  | .hbm, ⟨23, _⟩ => ⟨S8256x2816, .f32⟩
  | .hbm, ⟨24, _⟩ => ⟨S8256x2816, .f32⟩
  | .hbm, ⟨25, _⟩ => ⟨S8256x2816, .f32⟩
  | .hbm, ⟨26, _⟩ => ⟨S8256x2816, .f32⟩
  | .hbm, ⟨27, _⟩ => ⟨S8256x2816, .f32⟩
  | .hbm, ⟨28, _⟩ => ⟨S8256x2816, .f32⟩
  | .hbm, ⟨29, _⟩ => ⟨S8256x2816, .f32⟩
  | .hbm, ⟨30, _⟩ => ⟨S8256x2816, .bf16⟩
  | .hbm, ⟨31, _⟩ => ⟨S8256x2816, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel3.lean ====
abbrev S8256x2816 : Shape := ⟨2, ![8256, 2816]⟩
abbrev S1024x2816 : Shape := ⟨2, ![1024, 2816]⟩
abbrev S8256x1024 : Shape := ⟨2, ![8256, 1024]⟩
abbrev S1x1024 : Shape := ⟨2, ![1, 1024]⟩
abbrev S688x1408 : Shape := ⟨2, ![688, 1408]⟩
abbrev S1024x1408 : Shape := ⟨2, ![1024, 1408]⟩
abbrev S688x1024 : Shape := ⟨2, ![688, 1024]⟩
abbrev S688 : Shape := ⟨1, ![688]⟩
abbrev S688x1 : Shape := ⟨2, ![688, 1]⟩
abbrev S1024 : Shape := ⟨1, ![1024]⟩

abbrev nBuf : Space → Nat
  | .hbm => 10
  | .vmem => 19
  | .smem => 0
  | _ => 0

abbrev bufTy : (tb : Table) → Fin (tcTables nBuf tb) → BufTy
  | .hbm, ⟨0, _⟩ => ⟨S8256x2816, .bf16⟩
  | .hbm, ⟨1, _⟩ => ⟨S1024x2816, .bf16⟩
  | .hbm, ⟨2, _⟩ => ⟨S8256x2816, .bf16⟩
  | .hbm, ⟨3, _⟩ => ⟨S1024x2816, .bf16⟩
  | .hbm, ⟨4, _⟩ => ⟨S8256x1024, .f32⟩
  | .hbm, ⟨5, _⟩ => ⟨S1x1024, .f32⟩
  | .hbm, ⟨6, _⟩ => ⟨S8256x1024, .f32⟩
  | .hbm, ⟨7, _⟩ => ⟨S8256x1024, .f32⟩
  | .hbm, ⟨8, _⟩ => ⟨S8256x1024, .bf16⟩
  | .hbm, ⟨9, _⟩ => ⟨S1x1024, .f32⟩
  | .local _ .vmem, ⟨0, _⟩ => ⟨S688x1408, .bf16⟩
  | .local _ .vmem, ⟨1, _⟩ => ⟨S688x1408, .bf16⟩
  | .local _ .vmem, ⟨2, _⟩ => ⟨S1024x1408, .bf16⟩
  | .local _ .vmem, ⟨3, _⟩ => ⟨S1024x1408, .bf16⟩
  | .local _ .vmem, ⟨4, _⟩ => ⟨S688x1408, .bf16⟩
  | .local _ .vmem, ⟨5, _⟩ => ⟨S688x1408, .bf16⟩
  | .local _ .vmem, ⟨6, _⟩ => ⟨S1024x1408, .bf16⟩
  | .local _ .vmem, ⟨7, _⟩ => ⟨S1024x1408, .bf16⟩
  | .local _ .vmem, ⟨8, _⟩ => ⟨S688x1024, .f32⟩
  | .local _ .vmem, ⟨9, _⟩ => ⟨S688x1024, .f32⟩
  | .local _ .vmem, ⟨10, _⟩ => ⟨S1x1024, .f32⟩
  | .local _ .vmem, ⟨11, _⟩ => ⟨S688x1024, .f32⟩
  | .local _ .vmem, ⟨12, _⟩ => ⟨S688x1024, .f32⟩
  | .local _ .vmem, ⟨13, _⟩ => ⟨S688x1024, .f32⟩
  | .local _ .vmem, ⟨14, _⟩ => ⟨S688x1024, .f32⟩
  | .local _ .vmem, ⟨15, _⟩ => ⟨S688x1024, .bf16⟩
  | .local _ .vmem, ⟨16, _⟩ => ⟨S688x1024, .bf16⟩
  | .local _ .vmem, ⟨17, _⟩ => ⟨S1x1024, .f32⟩
  | .local _ .vmem, ⟨18, _⟩ => ⟨S688x1024, .f32⟩
  | _, _ => ⟨S8256x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![12, 4], ![false, false]⟩

def k0_cond4 (i : grid0.Coords) : BitVec 1 :=
  let arg1 : BitVec 32 := BitVec.ofNat 32 (i 1).val
  let c3_i32_4 : BitVec 32 := 3#32
  let v13 : BitVec 1 := Scalar.cmpi .eq arg1 c3_i32_4
  let v14 : BitVec 32 := Scalar.extui v13
  let c0_i32_5 : BitVec 32 := 0#32
  let v15 : BitVec 1 := Scalar.cmpi .ne v14 c0_i32_5
  v15

def k0_cond5 (i : grid0.Coords) : BitVec 1 :=
  let arg0 : BitVec 32 := BitVec.ofNat 32 (i 0).val
  let c0_i32_27 : BitVec 32 := 0#32
  let v53 : BitVec 1 := Scalar.cmpi .eq arg0 c0_i32_27
  let v54 : BitVec 32 := Scalar.extui v53
  let c0_i32_28 : BitVec 32 := 0#32
  let v55 : BitVec 1 := Scalar.cmpi .ne v54 c0_i32_28
  v55

def k0_cond6 (i : grid0.Coords) : BitVec 1 :=
  let arg0 : BitVec 32 := BitVec.ofNat 32 (i 0).val
  let c0_i32_29 : BitVec 32 := 0#32
  let v56 : BitVec 1 := Scalar.cmpi .sgt arg0 c0_i32_29
  let v57 : BitVec 32 := Scalar.extui v56
  let c0_i32_30 : BitVec 32 := 0#32
  let v58 : BitVec 1 := Scalar.cmpi .ne v57 c0_i32_30
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S688x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S688x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S688x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S688x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference3Ideal.lean ====
abbrev S8256x2816 : Shape := ⟨2, ![8256, 2816]⟩
abbrev S1024x2816 : Shape := ⟨2, ![1024, 2816]⟩
abbrev S8256x1024 : Shape := ⟨2, ![8256, 1024]⟩
abbrev S1x1024 : Shape := ⟨2, ![1, 1024]⟩
abbrev S_ : Shape := ⟨0, ![]⟩
abbrev S8256 : Shape := ⟨1, ![8256]⟩
abbrev S8256x1 : Shape := ⟨2, ![8256, 1]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S8256x2816, .bf16⟩
  | .hbm, ⟨1, _⟩ => ⟨S1024x2816, .bf16⟩
  | .hbm, ⟨2, _⟩ => ⟨S8256x2816, .bf16⟩
  | .hbm, ⟨3, _⟩ => ⟨S1024x2816, .bf16⟩
  | .hbm, ⟨4, _⟩ => ⟨S8256x1024, .f32⟩
  | .hbm, ⟨5, _⟩ => ⟨S1x1024, .f32⟩
  | .hbm, ⟨6, _⟩ => ⟨S8256x1024, .f32⟩
  | .hbm, ⟨7, _⟩ => ⟨S8256x1024, .f32⟩
  | .hbm, ⟨8, _⟩ => ⟨S_, .f32⟩
  | .hbm, ⟨9, _⟩ => ⟨S8256, .f32⟩
  | .hbm, ⟨10, _⟩ => ⟨S8256x1, .f32⟩
  | .hbm, ⟨11, _⟩ => ⟨S_, .f32⟩
  | .hbm, ⟨12, _⟩ => ⟨S8256x1, .f32⟩
  | .hbm, ⟨13, _⟩ => ⟨S8256x1, .f32⟩
  | .hbm, ⟨14, _⟩ => ⟨S_, .f32⟩
  | .hbm, ⟨15, _⟩ => ⟨S8256x1, .f32⟩
  | .hbm, ⟨16, _⟩ => ⟨S8256x1, .f32⟩
  | .hbm, ⟨17, _⟩ => ⟨S8256x1, .f32⟩
  | .hbm, ⟨18, _⟩ => ⟨S8256x1, .f32⟩
  | .hbm, ⟨19, _⟩ => ⟨S_, .f32⟩
  | .hbm, ⟨20, _⟩ => ⟨S8256x1, .f32⟩
  | .hbm, ⟨21, _⟩ => ⟨S8256x1, .f32⟩
  | .hbm, ⟨22, _⟩ => ⟨S8256x1024, .f32⟩
  | .hbm, ⟨23, _⟩ => ⟨S8256x1024, .f32⟩
  | .hbm, ⟨24, _⟩ => ⟨S8256x1024, .f32⟩
  | .hbm, ⟨25, _⟩ => ⟨S8256x1024, .f32⟩
  | .hbm, ⟨26, _⟩ => ⟨S1024x2816, .f32⟩
  | .hbm, ⟨27, _⟩ => ⟨S8256x2816, .f32⟩
  | .hbm, ⟨28, _⟩ => ⟨S1024x2816, .f32⟩
  | .hbm, ⟨29, _⟩ => ⟨S8256x2816, .f32⟩
  | .hbm, ⟨30, _⟩ => ⟨S8256x2816, .f32⟩
  | .hbm, ⟨31, _⟩ => ⟨S8256x2816, .f32⟩
  | .hbm, ⟨32, _⟩ => ⟨S8256x1024, .f32⟩
  | .hbm, ⟨33, _⟩ => ⟨S8256x1024, .f32⟩
  | .hbm, ⟨34, _⟩ => ⟨S8256x1024, .f32⟩
  | .hbm, ⟨35, _⟩ => ⟨S8256x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8256x1024, .f32⟩
  | .hbm, ⟨40, _⟩ => ⟨S8256x1024, .f32⟩
  | .hbm, ⟨41, _⟩ => ⟨S8256x1024, .f32⟩
  | .hbm, ⟨42, _⟩ => ⟨S_, .f32⟩
  | .hbm, ⟨43, _⟩ => ⟨S8256, .f32⟩
  | .hbm, ⟨44, _⟩ => ⟨S8256x1, .f32⟩
  | .hbm, ⟨45, _⟩ => ⟨S8256x1024, .f32⟩
  | .hbm, ⟨46, _⟩ => ⟨S8256x1024, .f32⟩
  | .hbm, ⟨47, _⟩ => ⟨S8256x1024, .f32⟩
  | .hbm, ⟨48, _⟩ => ⟨S8256x1, .f32⟩
  | .hbm, ⟨49, _⟩ => ⟨S_, .f32⟩
  | .hbm, ⟨50, _⟩ => ⟨S8256x1, .f32⟩
  | .hbm, ⟨51, _⟩ => ⟨S8256x1, .f32⟩
  | .hbm, ⟨52, _⟩ => ⟨S_, .f32⟩
  | .hbm, ⟨53, _⟩ => ⟨S8256, .f32⟩
  | .hbm, ⟨54, _⟩ => ⟨S8256x1024, .f32⟩
  | .hbm, ⟨55, _⟩ => ⟨S8256x1024, .f32⟩
  | .hbm, ⟨56, _⟩ => ⟨S8256x1024, .f32⟩
  | .hbm, ⟨57, _⟩ => ⟨S8256x1024, .f32⟩
  | .hbm, ⟨58, _⟩ => ⟨S8256x1024, .f32⟩
  | .hbm, ⟨59, _⟩ => ⟨S8256x1024, .bf16⟩
  | _, _ => ⟨S8256x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel4.lean ====
abbrev S8256x1024 : Shape := ⟨2, ![8256, 1024]⟩
abbrev S2048x1024 : Shape := ⟨2, ![2048, 1024]⟩
abbrev S8256x2048 : Shape := ⟨2, ![8256, 2048]⟩
abbrev S8256x6144 : Shape := ⟨2, ![8256, 6144]⟩
abbrev S1x256 : Shape := ⟨2, ![1, 256]⟩
abbrev S688x1024 : Shape := ⟨2, ![688, 1024]⟩
abbrev S1024x1024 : Shape := ⟨2, ![1024, 1024]⟩
abbrev S688x256 : Shape := ⟨2, ![688, 256]⟩
abbrev S688 : Shape := ⟨1, ![688]⟩
abbrev S688x1 : Shape := ⟨2, ![688, 1]⟩
abbrev S256 : Shape := ⟨1, ![256]⟩

abbrev nBuf : Space → Nat
  | .hbm => 8
  | .vmem => 14
  | .smem => 0
  | _ => 0

abbrev bufTy : (tb : Table) → Fin (tcTables nBuf tb) → BufTy
  | .hbm, ⟨0, _⟩ => ⟨S8256x1024, .bf16⟩
  | .hbm, ⟨1, _⟩ => ⟨S2048x1024, .bf16⟩
  | .hbm, ⟨2, _⟩ => ⟨S8256x2048, .f32⟩
  | .hbm, ⟨3, _⟩ => ⟨S8256x6144, .f32⟩
  | .hbm, ⟨4, _⟩ => ⟨S1x256, .f32⟩
  | .hbm, ⟨5, _⟩ => ⟨S8256x2048, .f32⟩
  | .hbm, ⟨6, _⟩ => ⟨S8256x6144, .bf16⟩
  | .hbm, ⟨7, _⟩ => ⟨S1x256, .f32⟩
  | .local _ .vmem, ⟨0, _⟩ => ⟨S688x1024, .bf16⟩
  | .local _ .vmem, ⟨1, _⟩ => ⟨S688x1024, .bf16⟩
  | .local _ .vmem, ⟨2, _⟩ => ⟨S1024x1024, .bf16⟩
  | .local _ .vmem, ⟨3, _⟩ => ⟨S1024x1024, .bf16⟩
  | .local _ .vmem, ⟨4, _⟩ => ⟨S688x1024, .f32⟩
  | .local _ .vmem, ⟨5, _⟩ => ⟨S688x1024, .f32⟩
  | .local _ .vmem, ⟨6, _⟩ => ⟨S688x1024, .f32⟩
  | .local _ .vmem, ⟨7, _⟩ => ⟨S688x1024, .f32⟩
  | .local _ .vmem, ⟨8, _⟩ => ⟨S1x256, .f32⟩
  | .local _ .vmem, ⟨9, _⟩ => ⟨S688x1024, .f32⟩
  | .local _ .vmem, ⟨10, _⟩ => ⟨S688x1024, .f32⟩
  | .local _ .vmem, ⟨11, _⟩ => ⟨S688x1024, .bf16⟩
  | .local _ .vmem, ⟨12, _⟩ => ⟨S688x1024, .bf16⟩
  | .local _ .vmem, ⟨13, _⟩ => ⟨S1x256, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![12, 2], ![false, false]⟩

def k0_cond1 (i : grid0.Coords) : BitVec 1 :=
  let arg0 : BitVec 32 := BitVec.ofNat 32 (i 0).val
  let c0_i32 : BitVec 32 := 0#32
  let v237 : BitVec 1 := Scalar.cmpi .eq arg0 c0_i32
  let arg1 : BitVec 32 := BitVec.ofNat 32 (i 1).val
  let c0_i32_91 : BitVec 32 := 0#32
  let v238 : BitVec 1 := Scalar.cmpi .eq arg1 c0_i32_91
  let v239 : BitVec 1 := Scalar.andi v237 v238
  let v240 : BitVec 32 := Scalar.extui v239
  let c0_i32_92 : BitVec 32 := 0#32
  let v241 : BitVec 1 := Scalar.cmpi .ne v240 c0_i32_92
  v241

def k0_cond2 (i : grid0.Coords) : BitVec 1 :=
  let arg0 : BitVec 32 := BitVec.ofNat 32 (i 0).val
  let c0_i32 : BitVec 32 := 0#32
  let v237 : BitVec 1 := Scalar.cmpi .eq arg0 c0_i32
  let arg1 : BitVec 32 := BitVec.ofNat 32 (i 1).val
  let c0_i32_91 : BitVec 32 := 0#32
  let v238 : BitVec 1 := Scalar.cmpi .eq arg1 c0_i32_91
  let v239 : BitVec 1 := Scalar.andi v237 v238
  let v_true : BitVec 1 := 1#1
  let v242 : BitVec 1 := Scalar.xori v239 v_true
  let v243 : BitVec 32 := Scalar.extui v242
  let c0_i32_93 : BitVec 32 := 0#32
  let v244 : BitVec 1 := Scalar.cmpi .ne v243 c0_i32_93
  v244

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S688x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference4Ideal.lean ====
abbrev S8256x1024 : Shape := ⟨2, ![8256, 1024]⟩
abbrev S2048x1024 : Shape := ⟨2, ![2048, 1024]⟩
abbrev S8256x2048 : Shape := ⟨2, ![8256, 2048]⟩
abbrev S8256x6144 : Shape := ⟨2, ![8256, 6144]⟩
abbrev S1x256 : Shape := ⟨2, ![1, 256]⟩
abbrev S8256x8x256 : Shape := ⟨3, ![8256, 8, 256]⟩
abbrev S_ : Shape := ⟨0, ![]⟩
abbrev S8256x8 : Shape := ⟨2, ![8256, 8]⟩
abbrev S8256x8x1 : Shape := ⟨3, ![8256, 8, 1]⟩
abbrev S1x1x256 : Shape := ⟨3, ![1, 1, 256]⟩
abbrev S256 : Shape := ⟨1, ![256]⟩

abbrev nBuf : Space → Nat
  | .hbm => 85
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S2048x1024, .bf16⟩
  | .hbm, ⟨2, _⟩ => ⟨S8256x2048, .f32⟩
  | .hbm, ⟨3, _⟩ => ⟨S8256x6144, .f32⟩
  | .hbm, ⟨4, _⟩ => ⟨S1x256, .f32⟩
  | .hbm, ⟨5, _⟩ => ⟨S8256x2048, .f32⟩
  | .hbm, ⟨6, _⟩ => ⟨S8256x8x256, .f32⟩
  | .hbm, ⟨7, _⟩ => ⟨S8256x8x256, .f32⟩
  | .hbm, ⟨8, _⟩ => ⟨S8256x8x256, .f32⟩
  | .hbm, ⟨9, _⟩ => ⟨S_, .f32⟩
  | .hbm, ⟨10, _⟩ => ⟨S8256x8, .f32⟩
  | .hbm, ⟨11, _⟩ => ⟨S8256x8x1, .f32⟩
  | .hbm, ⟨12, _⟩ => ⟨S_, .f32⟩
  | .hbm, ⟨13, _⟩ => ⟨S8256x8x1, .f32⟩
  | .hbm, ⟨14, _⟩ => ⟨S8256x8x1, .f32⟩
  | .hbm, ⟨15, _⟩ => ⟨S_, .f32⟩
  | .hbm, ⟨16, _⟩ => ⟨S8256x8x1, .f32⟩
  | .hbm, ⟨17, _⟩ => ⟨S8256x8x1, .f32⟩
  | .hbm, ⟨18, _⟩ => ⟨S8256x8x1, .f32⟩
  | .hbm, ⟨19, _⟩ => ⟨S8256x8x1, .f32⟩
  | .hbm, ⟨20, _⟩ => ⟨S_, .f32⟩
  | .hbm, ⟨21, _⟩ => ⟨S8256x8x1, .f32⟩
  | .hbm, ⟨22, _⟩ => ⟨S8256x8x1, .f32⟩
  | .hbm, ⟨23, _⟩ => ⟨S8256x8x256, .f32⟩
  | .hbm, ⟨24, _⟩ => ⟨S8256x8x256, .f32⟩
  | .hbm, ⟨25, _⟩ => ⟨S1x1x256, .f32⟩
  | .hbm, ⟨26, _⟩ => ⟨S8256x8x256, .f32⟩
  | .hbm, ⟨27, _⟩ => ⟨S8256x8x256, .f32⟩
  | .hbm, ⟨28, _⟩ => ⟨S8256x8x256, .f32⟩
  | .hbm, ⟨29, _⟩ => ⟨S8256x8x256, .f32⟩
  | .hbm, ⟨30, _⟩ => ⟨S_, .f32⟩
  | .hbm, ⟨31, _⟩ => ⟨S8256x8x256, .f32⟩
  | .hbm, ⟨32, _⟩ => ⟨S8256x8x256, .f32⟩
  | .hbm, ⟨33, _⟩ => ⟨S_, .f32⟩
  | .hbm, ⟨34, _⟩ => ⟨S8256x8x256, .f32⟩
  | .hbm, ⟨35, _⟩ => ⟨S8256x8x256, .f32⟩
  | .hbm, ⟨36, _⟩ => ⟨S_, .f32⟩
  | .hbm, ⟨37, _⟩ => ⟨S8256x8x256, .f32⟩
  | .hbm, ⟨38, _⟩ => ⟨S8256x8x256, .f32⟩
  | .hbm, ⟨39, _⟩ => ⟨S8256x8x256, .f32⟩
  | .hbm, ⟨40, _⟩ => ⟨S8256x8x256, .f32⟩
  | .hbm, ⟨41, _⟩ => ⟨S8256x8x256, .f32⟩
  | .hbm, ⟨42, _⟩ => ⟨S8256x2048, .f32⟩
  | .hbm, ⟨43, _⟩ => ⟨S2048x1024, .f32⟩
  | .hbm, ⟨44, _⟩ => ⟨S8256x1024, .f32⟩
  | .hbm, ⟨45, _⟩ => ⟨S8256x1024, .f32⟩
  | .hbm, ⟨46, _⟩ => ⟨S8256x2048, .f32⟩
  | .hbm, ⟨47, _⟩ => ⟨S8256x8x256, .f32⟩
  | .hbm, ⟨48, _⟩ => ⟨S8256x8x256, .f32⟩
  | .hbm, ⟨49, _⟩ => ⟨S8256x8x256, .f32⟩
  | .hbm, ⟨50, _⟩ => ⟨S8256x8x256, .f32⟩
  | .hbm, ⟨51, _⟩ => ⟨S8256x8x256, .f32⟩
  | .hbm, ⟨52, _⟩ => ⟨S8256x8x256, .f32⟩
  | .hbm, ⟨53, _⟩ => ⟨S8256x8x256, .f32⟩
  | .hbm, ⟨54, _⟩ => ⟨S8256x8x256, .f32⟩
  | .hbm, ⟨55, _⟩ => ⟨S_, .f32⟩
  | .hbm, ⟨56, _⟩ => ⟨S256, .f32⟩
  | .hbm, ⟨57, _⟩ => ⟨S1x1x256, .f32⟩
  | .hbm, ⟨58, _⟩ => ⟨S8256x8x256, .f32⟩
  | .hbm, ⟨59, _⟩ => ⟨S8256x8x256, .f32⟩
  | .hbm, ⟨60, _⟩ => ⟨S_, .f32⟩
  | .hbm, ⟨61, _⟩ => ⟨S256, .f32⟩
  | .hbm, ⟨62, _⟩ => ⟨S1x256, .f32⟩
  | .hbm, ⟨63, _⟩ => ⟨S8256x8x256, .f32⟩
  | .hbm, ⟨64, _⟩ => ⟨S_, .f32⟩
  | .hbm, ⟨65, _⟩ => ⟨S8256x8, .f32⟩
  | .hbm, ⟨66, _⟩ => ⟨S8256x8x1, .f32⟩
  | .hbm, ⟨67, _⟩ => ⟨S8256x8x256, .f32⟩
  | .hbm, ⟨68, _⟩ => ⟨S8256x8x256, .f32⟩
  | .hbm, ⟨69, _⟩ => ⟨S8256x8x1, .f32⟩
  | .hbm, ⟨70, _⟩ => ⟨S_, .f32⟩
  | .hbm, ⟨71, _⟩ => ⟨S8256x8x1, .f32⟩
  | .hbm, ⟨72, _⟩ => ⟨S8256x8x1, .f32⟩
  | .hbm, ⟨73, _⟩ => ⟨S_, .f32⟩
  | .hbm, ⟨74, _⟩ => ⟨S8256x8, .f32⟩
  | .hbm, ⟨75, _⟩ => ⟨S8256x8x256, .f32⟩
  | .hbm, ⟨76, _⟩ => ⟨S8256x8x256, .f32⟩
  | .hbm, ⟨77, _⟩ => ⟨S8256x8x256, .f32⟩
  | .hbm, ⟨78, _⟩ => ⟨S8256x8x256, .f32⟩
  | .hbm, ⟨79, _⟩ => ⟨S8256x8x256, .f32⟩
  | .hbm, ⟨80, _⟩ => ⟨S8256x2048, .f32⟩
  | .hbm, ⟨81, _⟩ => ⟨S8256x2048, .f32⟩
  | .hbm, ⟨82, _⟩ => ⟨S_, .f32⟩
  | .hbm, ⟨83, _⟩ => ⟨S8256x6144, .f32⟩
  | .hbm, ⟨84, _⟩ => ⟨S8256x6144, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_8 : Ref sig .tc := ⟨.hbm, 82, rfl⟩
abbrev main_v53 : Ref sig .tc := ⟨.hbm, 83, rfl⟩
abbrev main_v54 : Ref sig .tc := ⟨.hbm, 84, rfl⟩

abbrev nD : Nat := 1
abbrev τ : Topo := Topo.v7x

variable {F : FTy → Type} [FloatOps F]
-- ==== Kernel5.lean ====
abbrev S8256x1024 : Shape := ⟨2, ![8256, 1024]⟩
abbrev S1024x2816 : Shape := ⟨2, ![1024, 2816]⟩
abbrev S8256x2816 : Shape := ⟨2, ![8256, 2816]⟩
abbrev S688x1024 : Shape := ⟨2, ![688, 1024]⟩
abbrev S1024x1408 : Shape := ⟨2, ![1024, 1408]⟩
abbrev S688x1408 : Shape := ⟨2, ![688, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8256x1024, .bf16⟩
  | .hbm, ⟨1, _⟩ => ⟨S1024x2816, .bf16⟩
  | .hbm, ⟨2, _⟩ => ⟨S1024x2816, .bf16⟩
  | .hbm, ⟨3, _⟩ => ⟨S8256x2816, .bf16⟩
  | .hbm, ⟨4, _⟩ => ⟨S8256x2816, .bf16⟩
  | .hbm, ⟨5, _⟩ => ⟨S8256x2816, .bf16⟩
  | .local _ .vmem, ⟨0, _⟩ => ⟨S688x1024, .bf16⟩
  | .local _ .vmem, ⟨1, _⟩ => ⟨S688x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S688x1408, .bf16⟩
  | .local _ .vmem, ⟨7, _⟩ => ⟨S688x1408, .bf16⟩
  | .local _ .vmem, ⟨8, _⟩ => ⟨S688x1408, .bf16⟩
  | .local _ .vmem, ⟨9, _⟩ => ⟨S688x1408, .bf16⟩
  | .local _ .vmem, ⟨10, _⟩ => ⟨S688x1408, .bf16⟩
  | .local _ .vmem, ⟨11, _⟩ => ⟨S688x1408, .bf16⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![12, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S688x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S688x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S688x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8256x1024 : Shape := ⟨2, ![8256, 1024]⟩
abbrev S1024x2816 : Shape := ⟨2, ![1024, 2816]⟩
abbrev S8256x2816 : Shape := ⟨2, ![8256, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S1024x2816, .bf16⟩
  | .hbm, ⟨2, _⟩ => ⟨S1024x2816, .bf16⟩
  | .hbm, ⟨3, _⟩ => ⟨S8256x1024, .f32⟩
  | .hbm, ⟨4, _⟩ => ⟨S1024x2816, .f32⟩
  | .hbm, ⟨5, _⟩ => ⟨S8256x2816, .f32⟩
  | .hbm, ⟨6, _⟩ => ⟨S8256x1024, .f32⟩
  | .hbm, ⟨7, _⟩ => ⟨S1024x2816, .f32⟩
  | .hbm, ⟨8, _⟩ => ⟨S8256x2816, .f32⟩
  | .hbm, ⟨9, _⟩ => ⟨S8256x2816, .bf16⟩
  | .hbm, ⟨10, _⟩ => ⟨S8256x2816, .bf16⟩
  | .hbm, ⟨11, _⟩ => ⟨S8256x2816, .f32⟩
  | .hbm, ⟨12, _⟩ => ⟨S8256x2816, .f32⟩
  | .hbm, ⟨13, _⟩ => ⟨S_, .f32⟩
  | .hbm, ⟨14, _⟩ => ⟨S8256x2816, .f32⟩
  | .hbm, ⟨15, _⟩ => ⟨S8256x2816, .f32⟩
  | .hbm, ⟨16, _⟩ => ⟨S_, .f32⟩
  | .hbm, ⟨17, _⟩ => ⟨S8256x2816, .f32⟩
  | .hbm, ⟨18, _⟩ => ⟨S8256x2816, .f32⟩
  | .hbm, ⟨19, _⟩ => ⟨S8256x2816, .f32⟩
  | .hbm, ⟨20, _⟩ => ⟨S8256x2816, .f32⟩
  | .hbm, ⟨21, _⟩ => ⟨S8256x2816, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Kernel6.lean ====
abbrev S8256x2816 : Shape := ⟨2, ![8256, 2816]⟩
abbrev S2816x1024 : Shape := ⟨2, ![2816, 1024]⟩
abbrev S8256x1024 : Shape := ⟨2, ![8256, 1024]⟩
abbrev S688x2816 : Shape := ⟨2, ![688, 2816]⟩
abbrev S688x1024 : Shape := ⟨2, ![688, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8256x2816, .bf16⟩
  | .hbm, ⟨1, _⟩ => ⟨S2816x1024, .bf16⟩
  | .hbm, ⟨2, _⟩ => ⟨S8256x1024, .f32⟩
  | .hbm, ⟨3, _⟩ => ⟨S8256x1024, .f32⟩
  | .local _ .vmem, ⟨0, _⟩ => ⟨S688x2816, .bf16⟩
  | .local _ .vmem, ⟨1, _⟩ => ⟨S688x2816, .bf16⟩
  | .local _ .vmem, ⟨2, _⟩ => ⟨S2816x1024, .bf16⟩
  | .local _ .vmem, ⟨3, _⟩ => ⟨S688x1024, .f32⟩
  | .local _ .vmem, ⟨4, _⟩ => ⟨S688x1024, .f32⟩
  | .local _ .vmem, ⟨5, _⟩ => ⟨S688x1024, .f32⟩
  | .local _ .vmem, ⟨6, _⟩ => ⟨S688x1024, .f32⟩
  | _, _ => ⟨S8256x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![12, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8256x2816 : Shape := ⟨2, ![8256, 2816]⟩
abbrev S2816x1024 : Shape := ⟨2, ![2816, 1024]⟩
abbrev S8256x1024 : Shape := ⟨2, ![8256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8256x2816, .bf16⟩
  | .hbm, ⟨1, _⟩ => ⟨S2816x1024, .bf16⟩
  | .hbm, ⟨2, _⟩ => ⟨S8256x1024, .f32⟩
  | .hbm, ⟨3, _⟩ => ⟨S8256x2816, .f32⟩
  | .hbm, ⟨4, _⟩ => ⟨S2816x1024, .f32⟩
  | .hbm, ⟨5, _⟩ => ⟨S8256x1024, .f32⟩
  | .hbm, ⟨6, _⟩ => ⟨S8256x1024, .f32⟩
  | _, _ => ⟨S8256x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8256x2816 : Shape := ⟨2, ![8256, 2816]⟩
abbrev S8256x1024 : Shape := ⟨2, ![8256, 1024]⟩
abbrev S2816x1024 : Shape := ⟨2, ![2816, 1024]⟩
abbrev S1376x1408 : Shape := ⟨2, ![1376, 1408]⟩
abbrev S1376x1024 : Shape := ⟨2, ![1376, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8256x2816, .bf16⟩
  | .hbm, ⟨1, _⟩ => ⟨S8256x1024, .bf16⟩
  | .hbm, ⟨2, _⟩ => ⟨S2816x1024, .bf16⟩
  | .local _ .vmem, ⟨0, _⟩ => ⟨S1376x1408, .bf16⟩
  | .local _ .vmem, ⟨1, _⟩ => ⟨S1376x1408, .bf16⟩
  | .local _ .vmem, ⟨2, _⟩ => ⟨S1376x1024, .bf16⟩
  | .local _ .vmem, ⟨3, _⟩ => ⟨S1376x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8256x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond3 (i : grid0.Coords) : BitVec 1 :=
  let arg2 : BitVec 32 := BitVec.ofNat 32 (i 2).val
  let c5_i32 : BitVec 32 := 5#32
  let v6 : BitVec 1 := Scalar.cmpi .eq arg2 c5_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1376x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8256x2816 : Shape := ⟨2, ![8256, 2816]⟩
abbrev S8256x1024 : Shape := ⟨2, ![8256, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8256x2816, .bf16⟩
  | .hbm, ⟨1, _⟩ => ⟨S8256x1024, .bf16⟩
  | .hbm, ⟨2, _⟩ => ⟨S_, .f32⟩
  | .hbm, ⟨3, _⟩ => ⟨S2816x1024, .f32⟩
  | .hbm, ⟨4, _⟩ => ⟨S8256x2816, .f32⟩
  | .hbm, ⟨5, _⟩ => ⟨S8256x1024, .f32⟩
  | .hbm, ⟨6, _⟩ => ⟨S8256x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8256x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8256x1024 : Shape := ⟨2, ![8256, 1024]⟩
abbrev S8256x2816 : Shape := ⟨2, ![8256, 2816]⟩
abbrev S1024x2816 : Shape := ⟨2, ![1024, 2816]⟩
abbrev S8256x256 : Shape := ⟨2, ![8256, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S8256x1024, .bf16⟩
  | .hbm, ⟨1, _⟩ => ⟨S8256x2816, .bf16⟩
  | .hbm, ⟨2, _⟩ => ⟨S1024x2816, .bf16⟩
  | .local _ .vmem, ⟨0, _⟩ => ⟨S8256x1024, .bf16⟩
  | .local _ .vmem, ⟨1, _⟩ => ⟨S8256x256, .bf16⟩
  | .local _ .vmem, ⟨2, _⟩ => ⟨S8256x256, .bf16⟩
  | .local _ .vmem, ⟨3, _⟩ => ⟨S1024x256, .bf16⟩
  | .local _ .vmem, ⟨4, _⟩ => ⟨S1024x256, .bf16⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S8256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8256x1024 : Shape := ⟨2, ![8256, 1024]⟩
abbrev S8256x2816 : Shape := ⟨2, ![8256, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x2816, .bf16⟩
  | .hbm, ⟨2, _⟩ => ⟨S_, .f32⟩
  | .hbm, ⟨3, _⟩ => ⟨S1024x2816, .f32⟩
  | .hbm, ⟨4, _⟩ => ⟨S8256x1024, .f32⟩
  | .hbm, ⟨5, _⟩ => ⟨S8256x2816, .f32⟩
  | .hbm, ⟨6, _⟩ => ⟨S8256x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8256x1024 : Shape := ⟨2, ![8256, 1024]⟩
abbrev S1024x6144 : Shape := ⟨2, ![1024, 6144]⟩
abbrev S8256x6144 : Shape := ⟨2, ![8256, 6144]⟩
abbrev S2752x1024 : Shape := ⟨2, ![2752, 1024]⟩
abbrev S1024x512 : Shape := ⟨2, ![1024, 512]⟩
abbrev S2752x512 : Shape := ⟨2, ![2752, 512]⟩

abbrev nBuf : Space → Nat
  | .hbm => 3
  | .vmem => 6
  | .smem => 0
  | _ => 0

abbrev bufTy : (tb : Table) → Fin (tcTables nBuf tb) → BufTy
  | .hbm, ⟨0, _⟩ => ⟨S8256x1024, .bf16⟩
  | .hbm, ⟨1, _⟩ => ⟨S1024x6144, .bf16⟩
  | .hbm, ⟨2, _⟩ => ⟨S8256x6144, .f32⟩
  | .local _ .vmem, ⟨0, _⟩ => ⟨S2752x1024, .bf16⟩
  | .local _ .vmem, ⟨1, _⟩ => ⟨S2752x1024, .bf16⟩
  | .local _ .vmem, ⟨2, _⟩ => ⟨S1024x512, .bf16⟩
  | .local _ .vmem, ⟨3, _⟩ => ⟨S1024x512, .bf16⟩
  | .local _ .vmem, ⟨4, _⟩ => ⟨S2752x512, .f32⟩
  | .local _ .vmem, ⟨5, _⟩ => ⟨S2752x512, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2752x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2752x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8256x1024 : Shape := ⟨2, ![8256, 1024]⟩
abbrev S1024x6144 : Shape := ⟨2, ![1024, 6144]⟩
abbrev S8256x6144 : Shape := ⟨2, ![8256, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S1024x6144, .bf16⟩
  | .hbm, ⟨2, _⟩ => ⟨S8256x1024, .f32⟩
  | .hbm, ⟨3, _⟩ => ⟨S1024x6144, .f32⟩
  | .hbm, ⟨4, _⟩ => ⟨S8256x6144, .f32⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S8256x6144 : Shape := ⟨2, ![8256, 6144]⟩
abbrev S1024x6144 : Shape := ⟨2, ![1024, 6144]⟩
abbrev S8256x1024 : Shape := ⟨2, ![8256, 1024]⟩
abbrev S1x1024 : Shape := ⟨2, ![1, 1024]⟩
abbrev S688x1536 : Shape := ⟨2, ![688, 1536]⟩
abbrev S1024x1536 : Shape := ⟨2, ![1024, 1536]⟩
abbrev S688x1024 : Shape := ⟨2, ![688, 1024]⟩
abbrev S688 : Shape := ⟨1, ![688]⟩
abbrev S688x1 : Shape := ⟨2, ![688, 1]⟩
abbrev S1024 : Shape := ⟨1, ![1024]⟩

abbrev nBuf : Space → Nat
  | .hbm => 9
  | .vmem => 17
  | .smem => 0
  | _ => 0

abbrev bufTy : (tb : Table) → Fin (tcTables nBuf tb) → BufTy
  | .hbm, ⟨0, _⟩ => ⟨S8256x6144, .bf16⟩
  | .hbm, ⟨1, _⟩ => ⟨S1024x6144, .bf16⟩
  | .hbm, ⟨2, _⟩ => ⟨S8256x1024, .f32⟩
  | .hbm, ⟨3, _⟩ => ⟨S8256x1024, .f32⟩
  | .hbm, ⟨4, _⟩ => ⟨S1x1024, .f32⟩
  | .hbm, ⟨5, _⟩ => ⟨S8256x1024, .f32⟩
  | .hbm, ⟨6, _⟩ => ⟨S8256x1024, .f32⟩
  | .hbm, ⟨7, _⟩ => ⟨S8256x1024, .bf16⟩
  | .hbm, ⟨8, _⟩ => ⟨S1x1024, .f32⟩
  | .local _ .vmem, ⟨0, _⟩ => ⟨S688x1536, .bf16⟩
  | .local _ .vmem, ⟨1, _⟩ => ⟨S688x1536, .bf16⟩
  | .local _ .vmem, ⟨2, _⟩ => ⟨S1024x1536, .bf16⟩
  | .local _ .vmem, ⟨3, _⟩ => ⟨S1024x1536, .bf16⟩
  | .local _ .vmem, ⟨4, _⟩ => ⟨S688x1024, .f32⟩
  | .local _ .vmem, ⟨5, _⟩ => ⟨S688x1024, .f32⟩
  | .local _ .vmem, ⟨6, _⟩ => ⟨S688x1024, .f32⟩
  | .local _ .vmem, ⟨7, _⟩ => ⟨S688x1024, .f32⟩
  | .local _ .vmem, ⟨8, _⟩ => ⟨S1x1024, .f32⟩
  | .local _ .vmem, ⟨9, _⟩ => ⟨S688x1024, .f32⟩
  | .local _ .vmem, ⟨10, _⟩ => ⟨S688x1024, .f32⟩
  | .local _ .vmem, ⟨11, _⟩ => ⟨S688x1024, .f32⟩
  | .local _ .vmem, ⟨12, _⟩ => ⟨S688x1024, .f32⟩
  | .local _ .vmem, ⟨13, _⟩ => ⟨S688x1024, .bf16⟩
  | .local _ .vmem, ⟨14, _⟩ => ⟨S688x1024, .bf16⟩
  | .local _ .vmem, ⟨15, _⟩ => ⟨S1x1024, .f32⟩
  | .local _ .vmem, ⟨16, _⟩ => ⟨S688x1024, .f32⟩
  | _, _ => ⟨S8256x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![12, 4], ![false, false]⟩

def k0_cond3 (i : grid0.Coords) : BitVec 1 :=
  let arg1 : BitVec 32 := BitVec.ofNat 32 (i 1).val
  let c3_i32_2 : BitVec 32 := 3#32
  let v8 : BitVec 1 := Scalar.cmpi .eq arg1 c3_i32_2
  let v9 : BitVec 32 := Scalar.extui v8
  let c0_i32_3 : BitVec 32 := 0#32
  let v10 : BitVec 1 := Scalar.cmpi .ne v9 c0_i32_3
  v10

def k0_cond4 (i : grid0.Coords) : BitVec 1 :=
  let arg0 : BitVec 32 := BitVec.ofNat 32 (i 0).val
  let c0_i32_25 : BitVec 32 := 0#32
  let v48 : BitVec 1 := Scalar.cmpi .eq arg0 c0_i32_25
  let v49 : BitVec 32 := Scalar.extui v48
  let c0_i32_26 : BitVec 32 := 0#32
  let v50 : BitVec 1 := Scalar.cmpi .ne v49 c0_i32_26
  v50

def k0_cond5 (i : grid0.Coords) : BitVec 1 :=
  let arg0 : BitVec 32 := BitVec.ofNat 32 (i 0).val
  let c0_i32_27 : BitVec 32 := 0#32
  let v51 : BitVec 1 := Scalar.cmpi .sgt arg0 c0_i32_27
  let v52 : BitVec 32 := Scalar.extui v51
  let c0_i32_28 : BitVec 32 := 0#32
  let v53 : BitVec 1 := Scalar.cmpi .ne v52 c0_i32_28
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S688x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S688x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference10Ideal.lean ====
abbrev S8256x6144 : Shape := ⟨2, ![8256, 6144]⟩
abbrev S1024x6144 : Shape := ⟨2, ![1024, 6144]⟩
abbrev S8256x1024 : Shape := ⟨2, ![8256, 1024]⟩
abbrev S1x1024 : Shape := ⟨2, ![1, 1024]⟩
abbrev S_ : Shape := ⟨0, ![]⟩
abbrev S8256 : Shape := ⟨1, ![8256]⟩
abbrev S8256x1 : Shape := ⟨2, ![8256, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S8256x6144, .bf16⟩
  | .hbm, ⟨1, _⟩ => ⟨S1024x6144, .bf16⟩
  | .hbm, ⟨2, _⟩ => ⟨S8256x1024, .f32⟩
  | .hbm, ⟨3, _⟩ => ⟨S8256x1024, .f32⟩
  | .hbm, ⟨4, _⟩ => ⟨S1x1024, .f32⟩
  | .hbm, ⟨5, _⟩ => ⟨S8256x1024, .f32⟩
  | .hbm, ⟨6, _⟩ => ⟨S8256x1024, .f32⟩
  | .hbm, ⟨7, _⟩ => ⟨S_, .f32⟩
  | .hbm, ⟨8, _⟩ => ⟨S8256, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S_, .f32⟩
  | .hbm, ⟨14, _⟩ => ⟨S8256x1, .f32⟩
  | .hbm, ⟨15, _⟩ => ⟨S8256x1, .f32⟩
  | .hbm, ⟨16, _⟩ => ⟨S8256x1, .f32⟩
  | .hbm, ⟨17, _⟩ => ⟨S8256x1, .f32⟩
  | .hbm, ⟨18, _⟩ => ⟨S_, .f32⟩
  | .hbm, ⟨19, _⟩ => ⟨S8256x1, .f32⟩
  | .hbm, ⟨20, _⟩ => ⟨S8256x1, .f32⟩
  | .hbm, ⟨21, _⟩ => ⟨S8256x1024, .f32⟩
  | .hbm, ⟨22, _⟩ => ⟨S8256x1024, .f32⟩
  | .hbm, ⟨23, _⟩ => ⟨S8256x1024, .f32⟩
  | .hbm, ⟨24, _⟩ => ⟨S8256x1024, .f32⟩
  | .hbm, ⟨25, _⟩ => ⟨S1024x6144, .f32⟩
  | .hbm, ⟨26, _⟩ => ⟨S8256x6144, .f32⟩
  | .hbm, ⟨27, _⟩ => ⟨S8256x6144, .f32⟩
  | .hbm, ⟨28, _⟩ => ⟨S8256x1024, .f32⟩
  | .hbm, ⟨29, _⟩ => ⟨S8256x1024, .f32⟩
  | .hbm, ⟨30, _⟩ => ⟨S8256x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8256x1024, .f32⟩
  | .hbm, ⟨35, _⟩ => ⟨S8256x1024, .f32⟩
  | .hbm, ⟨36, _⟩ => ⟨S8256x1024, .f32⟩
  | .hbm, ⟨37, _⟩ => ⟨S_, .f32⟩
  | .hbm, ⟨38, _⟩ => ⟨S8256, .f32⟩
  | .hbm, ⟨39, _⟩ => ⟨S8256x1, .f32⟩
  | .hbm, ⟨40, _⟩ => ⟨S8256x1024, .f32⟩
  | .hbm, ⟨41, _⟩ => ⟨S8256x1024, .f32⟩
  | .hbm, ⟨42, _⟩ => ⟨S8256x1024, .f32⟩
  | .hbm, ⟨43, _⟩ => ⟨S8256x1, .f32⟩
  | .hbm, ⟨44, _⟩ => ⟨S_, .f32⟩
  | .hbm, ⟨45, _⟩ => ⟨S8256x1, .f32⟩
  | .hbm, ⟨46, _⟩ => ⟨S8256x1, .f32⟩
  | .hbm, ⟨47, _⟩ => ⟨S_, .f32⟩
  | .hbm, ⟨48, _⟩ => ⟨S8256, .f32⟩
  | .hbm, ⟨49, _⟩ => ⟨S8256x1024, .f32⟩
  | .hbm, ⟨50, _⟩ => ⟨S8256x1024, .f32⟩
  | .hbm, ⟨51, _⟩ => ⟨S8256x1024, .f32⟩
  | .hbm, ⟨52, _⟩ => ⟨S8256x1024, .f32⟩
  | .hbm, ⟨53, _⟩ => ⟨S8256x1024, .f32⟩
  | .hbm, ⟨54, _⟩ => ⟨S8256x1024, .bf16⟩
  | _, _ => ⟨S8256x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel11.lean ====
abbrev S8256x1024 : Shape := ⟨2, ![8256, 1024]⟩
abbrev S8256x6144 : Shape := ⟨2, ![8256, 6144]⟩
abbrev S1024x6144 : Shape := ⟨2, ![1024, 6144]⟩
abbrev S8256x512 : Shape := ⟨2, ![8256, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8256x1024, .bf16⟩
  | .hbm, ⟨1, _⟩ => ⟨S8256x6144, .bf16⟩
  | .hbm, ⟨2, _⟩ => ⟨S1024x6144, .bf16⟩
  | .local _ .vmem, ⟨0, _⟩ => ⟨S8256x1024, .bf16⟩
  | .local _ .vmem, ⟨1, _⟩ => ⟨S8256x512, .bf16⟩
  | .local _ .vmem, ⟨2, _⟩ => ⟨S8256x512, .bf16⟩
  | .local _ .vmem, ⟨3, _⟩ => ⟨S1024x512, .bf16⟩
  | .local _ .vmem, ⟨4, _⟩ => ⟨S1024x512, .bf16⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S8256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8256x1024 : Shape := ⟨2, ![8256, 1024]⟩
abbrev S8256x6144 : Shape := ⟨2, ![8256, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x6144, .bf16⟩
  | .hbm, ⟨2, _⟩ => ⟨S_, .f32⟩
  | .hbm, ⟨3, _⟩ => ⟨S1024x6144, .f32⟩
  | .hbm, ⟨4, _⟩ => ⟨S8256x1024, .f32⟩
  | .hbm, ⟨5, _⟩ => ⟨S8256x6144, .f32⟩
  | .hbm, ⟨6, _⟩ => ⟨S8256x6144, .f32⟩
  | .hbm, ⟨7, _⟩ => ⟨S6144x1024, .f32⟩
  | .hbm, ⟨8, _⟩ => ⟨S1024x6144, .f32⟩
  | .hbm, ⟨9, _⟩ => ⟨S1024x6144, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8256x2048 : Shape := ⟨2, ![8256, 2048]⟩
abbrev S2048x1024 : Shape := ⟨2, ![2048, 1024]⟩
abbrev S8256x1024 : Shape := ⟨2, ![8256, 1024]⟩
abbrev S1x1024 : Shape := ⟨2, ![1, 1024]⟩
abbrev S688x2048 : Shape := ⟨2, ![688, 2048]⟩
abbrev S688x1024 : Shape := ⟨2, ![688, 1024]⟩
abbrev S688 : Shape := ⟨1, ![688]⟩
abbrev S688x1 : Shape := ⟨2, ![688, 1]⟩

abbrev nBuf : Space → Nat
  | .hbm => 6
  | .vmem => 10
  | .smem => 0
  | _ => 0

abbrev bufTy : (tb : Table) → Fin (tcTables nBuf tb) → BufTy
  | .hbm, ⟨0, _⟩ => ⟨S8256x2048, .bf16⟩
  | .hbm, ⟨1, _⟩ => ⟨S2048x1024, .bf16⟩
  | .hbm, ⟨2, _⟩ => ⟨S8256x1024, .f32⟩
  | .hbm, ⟨3, _⟩ => ⟨S1x1024, .f32⟩
  | .hbm, ⟨4, _⟩ => ⟨S8256x1024, .f32⟩
  | .hbm, ⟨5, _⟩ => ⟨S8256x1024, .bf16⟩
  | .local _ .vmem, ⟨0, _⟩ => ⟨S688x2048, .bf16⟩
  | .local _ .vmem, ⟨1, _⟩ => ⟨S688x2048, .bf16⟩
  | .local _ .vmem, ⟨2, _⟩ => ⟨S2048x1024, .bf16⟩
  | .local _ .vmem, ⟨3, _⟩ => ⟨S688x1024, .f32⟩
  | .local _ .vmem, ⟨4, _⟩ => ⟨S688x1024, .f32⟩
  | .local _ .vmem, ⟨5, _⟩ => ⟨S1x1024, .f32⟩
  | .local _ .vmem, ⟨6, _⟩ => ⟨S688x1024, .f32⟩
  | .local _ .vmem, ⟨7, _⟩ => ⟨S688x1024, .f32⟩
  | .local _ .vmem, ⟨8, _⟩ => ⟨S688x1024, .bf16⟩
  | .local _ .vmem, ⟨9, _⟩ => ⟨S688x1024, .bf16⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![12, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S688x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference12Ideal.lean ====
abbrev S8256x2048 : Shape := ⟨2, ![8256, 2048]⟩
abbrev S2048x1024 : Shape := ⟨2, ![2048, 1024]⟩
abbrev S8256x1024 : Shape := ⟨2, ![8256, 1024]⟩
abbrev S1x1024 : Shape := ⟨2, ![1, 1024]⟩
abbrev S_ : Shape := ⟨0, ![]⟩
abbrev S8256 : Shape := ⟨1, ![8256]⟩
abbrev S8256x1 : Shape := ⟨2, ![8256, 1]⟩

abbrev nBuf : Space → Nat
  | .hbm => 24
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S2048x1024, .bf16⟩
  | .hbm, ⟨2, _⟩ => ⟨S8256x1024, .f32⟩
  | .hbm, ⟨3, _⟩ => ⟨S1x1024, .f32⟩
  | .hbm, ⟨4, _⟩ => ⟨S8256x2048, .f32⟩
  | .hbm, ⟨5, _⟩ => ⟨S2048x1024, .f32⟩
  | .hbm, ⟨6, _⟩ => ⟨S8256x1024, .f32⟩
  | .hbm, ⟨7, _⟩ => ⟨S8256x1024, .f32⟩
  | .hbm, ⟨8, _⟩ => ⟨S8256x1024, .f32⟩
  | .hbm, ⟨9, _⟩ => ⟨S_, .f32⟩
  | .hbm, ⟨10, _⟩ => ⟨S8256, .f32⟩
  | .hbm, ⟨11, _⟩ => ⟨S8256x1, .f32⟩
  | .hbm, ⟨12, _⟩ => ⟨S_, .f32⟩
  | .hbm, ⟨13, _⟩ => ⟨S8256x1, .f32⟩
  | .hbm, ⟨14, _⟩ => ⟨S8256x1, .f32⟩
  | .hbm, ⟨15, _⟩ => ⟨S_, .f32⟩
  | .hbm, ⟨16, _⟩ => ⟨S8256x1, .f32⟩
  | .hbm, ⟨17, _⟩ => ⟨S8256x1, .f32⟩
  | .hbm, ⟨18, _⟩ => ⟨S8256x1, .f32⟩
  | .hbm, ⟨19, _⟩ => ⟨S8256x1024, .f32⟩
  | .hbm, ⟨20, _⟩ => ⟨S8256x1024, .f32⟩
  | .hbm, ⟨21, _⟩ => ⟨S8256x1024, .f32⟩
  | .hbm, ⟨22, _⟩ => ⟨S8256x1024, .f32⟩
  | .hbm, ⟨23, _⟩ => ⟨S8256x1024, .bf16⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel13.lean ====
abbrev S8256x2048 : Shape := ⟨2, ![8256, 2048]⟩
abbrev S8256x1024 : Shape := ⟨2, ![8256, 1024]⟩
abbrev S2048x1024 : Shape := ⟨2, ![2048, 1024]⟩
abbrev S2752x1024 : Shape := ⟨2, ![2752, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8256x2048, .bf16⟩
  | .hbm, ⟨1, _⟩ => ⟨S8256x1024, .bf16⟩
  | .hbm, ⟨2, _⟩ => ⟨S2048x1024, .bf16⟩
  | .local _ .vmem, ⟨0, _⟩ => ⟨S2752x1024, .bf16⟩
  | .local _ .vmem, ⟨1, _⟩ => ⟨S2752x1024, .bf16⟩
  | .local _ .vmem, ⟨2, _⟩ => ⟨S2752x1024, .bf16⟩
  | .local _ .vmem, ⟨3, _⟩ => ⟨S2752x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2752x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8256x2048 : Shape := ⟨2, ![8256, 2048]⟩
abbrev S8256x1024 : Shape := ⟨2, ![8256, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8256x2048, .bf16⟩
  | .hbm, ⟨1, _⟩ => ⟨S8256x1024, .bf16⟩
  | .hbm, ⟨2, _⟩ => ⟨S_, .f32⟩
  | .hbm, ⟨3, _⟩ => ⟨S2048x1024, .f32⟩
  | .hbm, ⟨4, _⟩ => ⟨S8256x2048, .f32⟩
  | .hbm, ⟨5, _⟩ => ⟨S8256x1024, .f32⟩
  | .hbm, ⟨6, _⟩ => ⟨S8256x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S8256x2816 : Shape := ⟨2, ![8256, 2816]⟩
abbrev S2816x1024 : Shape := ⟨2, ![2816, 1024]⟩
abbrev S8256x1024 : Shape := ⟨2, ![8256, 1024]⟩
abbrev S1x1024 : Shape := ⟨2, ![1, 1024]⟩
abbrev S688x2816 : Shape := ⟨2, ![688, 2816]⟩
abbrev S688x1024 : Shape := ⟨2, ![688, 1024]⟩
abbrev S688 : Shape := ⟨1, ![688]⟩
abbrev S688x1 : Shape := ⟨2, ![688, 1]⟩

abbrev nBuf : Space → Nat
  | .hbm => 6
  | .vmem => 10
  | .smem => 0
  | _ => 0

abbrev bufTy : (tb : Table) → Fin (tcTables nBuf tb) → BufTy
  | .hbm, ⟨0, _⟩ => ⟨S8256x2816, .bf16⟩
  | .hbm, ⟨1, _⟩ => ⟨S2816x1024, .bf16⟩
  | .hbm, ⟨2, _⟩ => ⟨S8256x1024, .f32⟩
  | .hbm, ⟨3, _⟩ => ⟨S1x1024, .f32⟩
  | .hbm, ⟨4, _⟩ => ⟨S8256x1024, .f32⟩
  | .hbm, ⟨5, _⟩ => ⟨S8256x1024, .bf16⟩
  | .local _ .vmem, ⟨0, _⟩ => ⟨S688x2816, .bf16⟩
  | .local _ .vmem, ⟨1, _⟩ => ⟨S688x2816, .bf16⟩
  | .local _ .vmem, ⟨2, _⟩ => ⟨S2816x1024, .bf16⟩
  | .local _ .vmem, ⟨3, _⟩ => ⟨S688x1024, .f32⟩
  | .local _ .vmem, ⟨4, _⟩ => ⟨S688x1024, .f32⟩
  | .local _ .vmem, ⟨5, _⟩ => ⟨S1x1024, .f32⟩
  | .local _ .vmem, ⟨6, _⟩ => ⟨S688x1024, .f32⟩
  | .local _ .vmem, ⟨7, _⟩ => ⟨S688x1024, .f32⟩
  | .local _ .vmem, ⟨8, _⟩ => ⟨S688x1024, .bf16⟩
  | .local _ .vmem, ⟨9, _⟩ => ⟨S688x1024, .bf16⟩
  | _, _ => ⟨S8256x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![12, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S688x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S688x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S688x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference14Ideal.lean ====
abbrev S8256x2816 : Shape := ⟨2, ![8256, 2816]⟩
abbrev S2816x1024 : Shape := ⟨2, ![2816, 1024]⟩
abbrev S8256x1024 : Shape := ⟨2, ![8256, 1024]⟩
abbrev S1x1024 : Shape := ⟨2, ![1, 1024]⟩
abbrev S_ : Shape := ⟨0, ![]⟩
abbrev S8256 : Shape := ⟨1, ![8256]⟩
abbrev S8256x1 : Shape := ⟨2, ![8256, 1]⟩

abbrev nBuf : Space → Nat
  | .hbm => 24
  | .vmem => 0
  | .smem => 0
  | _ => 0

abbrev bufTy : (tb : Table) → Fin (tcTables nBuf tb) → BufTy
  | .hbm, ⟨0, _⟩ => ⟨S8256x2816, .bf16⟩
  | .hbm, ⟨1, _⟩ => ⟨S2816x1024, .bf16⟩
  | .hbm, ⟨2, _⟩ => ⟨S8256x1024, .f32⟩
  | .hbm, ⟨3, _⟩ => ⟨S1x1024, .f32⟩
  | .hbm, ⟨4, _⟩ => ⟨S8256x2816, .f32⟩
  | .hbm, ⟨5, _⟩ => ⟨S2816x1024, .f32⟩
  | .hbm, ⟨6, _⟩ => ⟨S8256x1024, .f32⟩
  | .hbm, ⟨7, _⟩ => ⟨S8256x1024, .f32⟩
  | .hbm, ⟨8, _⟩ => ⟨S8256x1024, .f32⟩
  | .hbm, ⟨9, _⟩ => ⟨S_, .f32⟩
  | .hbm, ⟨10, _⟩ => ⟨S8256, .f32⟩
  | .hbm, ⟨11, _⟩ => ⟨S8256x1, .f32⟩
  | .hbm, ⟨12, _⟩ => ⟨S_, .f32⟩
  | .hbm, ⟨13, _⟩ => ⟨S8256x1, .f32⟩
  | .hbm, ⟨14, _⟩ => ⟨S8256x1, .f32⟩
  | .hbm, ⟨15, _⟩ => ⟨S_, .f32⟩
  | .hbm, ⟨16, _⟩ => ⟨S8256x1, .f32⟩
  | .hbm, ⟨17, _⟩ => ⟨S8256x1, .f32⟩
  | .hbm, ⟨18, _⟩ => ⟨S8256x1, .f32⟩
  | .hbm, ⟨19, _⟩ => ⟨S8256x1024, .f32⟩
  | .hbm, ⟨20, _⟩ => ⟨S8256x1024, .f32⟩
  | .hbm, ⟨21, _⟩ => ⟨S8256x1024, .f32⟩
  | .hbm, ⟨22, _⟩ => ⟨S8256x1024, .f32⟩
  | .hbm, ⟨23, _⟩ => ⟨S8256x1024, .bf16⟩
  | _, _ => ⟨S8256x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel15.lean ====
abbrev S8256x1024 : Shape := ⟨2, ![8256, 1024]⟩
abbrev S2048x1024 : Shape := ⟨2, ![2048, 1024]⟩
abbrev S8256x2048 : Shape := ⟨2, ![8256, 2048]⟩
abbrev S8256x6144 : Shape := ⟨2, ![8256, 6144]⟩
abbrev S1x512 : Shape := ⟨2, ![1, 512]⟩
abbrev S688x1024 : Shape := ⟨2, ![688, 1024]⟩
abbrev S1024x1024 : Shape := ⟨2, ![1024, 1024]⟩
abbrev S688x512 : Shape := ⟨2, ![688, 512]⟩
abbrev S688 : Shape := ⟨1, ![688]⟩
abbrev S688x1 : Shape := ⟨2, ![688, 1]⟩
abbrev S512 : Shape := ⟨1, ![512]⟩

abbrev nBuf : Space → Nat
  | .hbm => 8
  | .vmem => 14
  | .smem => 0
  | _ => 0

abbrev bufTy : (tb : Table) → Fin (tcTables nBuf tb) → BufTy
  | .hbm, ⟨0, _⟩ => ⟨S8256x1024, .bf16⟩
  | .hbm, ⟨1, _⟩ => ⟨S2048x1024, .bf16⟩
  | .hbm, ⟨2, _⟩ => ⟨S8256x2048, .f32⟩
  | .hbm, ⟨3, _⟩ => ⟨S8256x6144, .f32⟩
  | .hbm, ⟨4, _⟩ => ⟨S1x512, .f32⟩
  | .hbm, ⟨5, _⟩ => ⟨S8256x2048, .f32⟩
  | .hbm, ⟨6, _⟩ => ⟨S8256x6144, .bf16⟩
  | .hbm, ⟨7, _⟩ => ⟨S1x512, .f32⟩
  | .local _ .vmem, ⟨0, _⟩ => ⟨S688x1024, .bf16⟩
  | .local _ .vmem, ⟨1, _⟩ => ⟨S688x1024, .bf16⟩
  | .local _ .vmem, ⟨2, _⟩ => ⟨S1024x1024, .bf16⟩
  | .local _ .vmem, ⟨3, _⟩ => ⟨S1024x1024, .bf16⟩
  | .local _ .vmem, ⟨4, _⟩ => ⟨S688x1024, .f32⟩
  | .local _ .vmem, ⟨5, _⟩ => ⟨S688x1024, .f32⟩
  | .local _ .vmem, ⟨6, _⟩ => ⟨S688x1024, .f32⟩
  | .local _ .vmem, ⟨7, _⟩ => ⟨S688x1024, .f32⟩
  | .local _ .vmem, ⟨8, _⟩ => ⟨S1x512, .f32⟩
  | .local _ .vmem, ⟨9, _⟩ => ⟨S688x1024, .f32⟩
  | .local _ .vmem, ⟨10, _⟩ => ⟨S688x1024, .f32⟩
  | .local _ .vmem, ⟨11, _⟩ => ⟨S688x1024, .bf16⟩
  | .local _ .vmem, ⟨12, _⟩ => ⟨S688x1024, .bf16⟩
  | .local _ .vmem, ⟨13, _⟩ => ⟨S1x512, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![12, 2], ![false, false]⟩

def k0_cond1 (i : grid0.Coords) : BitVec 1 :=
  let arg0 : BitVec 32 := BitVec.ofNat 32 (i 0).val
  let c0_i32 : BitVec 32 := 0#32
  let v121 : BitVec 1 := Scalar.cmpi .eq arg0 c0_i32
  let arg1 : BitVec 32 := BitVec.ofNat 32 (i 1).val
  let c0_i32_49 : BitVec 32 := 0#32
  let v122 : BitVec 1 := Scalar.cmpi .eq arg1 c0_i32_49
  let v123 : BitVec 1 := Scalar.andi v121 v122
  let v124 : BitVec 32 := Scalar.extui v123
  let c0_i32_50 : BitVec 32 := 0#32
  let v125 : BitVec 1 := Scalar.cmpi .ne v124 c0_i32_50
  v125

def k0_cond2 (i : grid0.Coords) : BitVec 1 :=
  let arg0 : BitVec 32 := BitVec.ofNat 32 (i 0).val
  let c0_i32 : BitVec 32 := 0#32
  let v121 : BitVec 1 := Scalar.cmpi .eq arg0 c0_i32
  let arg1 : BitVec 32 := BitVec.ofNat 32 (i 1).val
  let c0_i32_49 : BitVec 32 := 0#32
  let v122 : BitVec 1 := Scalar.cmpi .eq arg1 c0_i32_49
  let v123 : BitVec 1 := Scalar.andi v121 v122
  let v_true : BitVec 1 := 1#1
  let v126 : BitVec 1 := Scalar.xori v123 v_true
  let v127 : BitVec 32 := Scalar.extui v126
  let c0_i32_51 : BitVec 32 := 0#32
  let v128 : BitVec 1 := Scalar.cmpi .ne v127 c0_i32_51
  v128

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S688x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S688x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference15Ideal.lean ====
abbrev S8256x1024 : Shape := ⟨2, ![8256, 1024]⟩
abbrev S2048x1024 : Shape := ⟨2, ![2048, 1024]⟩
abbrev S8256x2048 : Shape := ⟨2, ![8256, 2048]⟩
abbrev S8256x6144 : Shape := ⟨2, ![8256, 6144]⟩
abbrev S1x512 : Shape := ⟨2, ![1, 512]⟩
abbrev S8256x4x512 : Shape := ⟨3, ![8256, 4, 512]⟩
abbrev S_ : Shape := ⟨0, ![]⟩
abbrev S8256x4 : Shape := ⟨2, ![8256, 4]⟩
abbrev S8256x4x1 : Shape := ⟨3, ![8256, 4, 1]⟩
abbrev S1x1x512 : Shape := ⟨3, ![1, 1, 512]⟩
abbrev S512 : Shape := ⟨1, ![512]⟩

abbrev nBuf : Space → Nat
  | .hbm => 85
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S2048x1024, .bf16⟩
  | .hbm, ⟨2, _⟩ => ⟨S8256x2048, .f32⟩
  | .hbm, ⟨3, _⟩ => ⟨S8256x6144, .f32⟩
  | .hbm, ⟨4, _⟩ => ⟨S1x512, .f32⟩
  | .hbm, ⟨5, _⟩ => ⟨S8256x2048, .f32⟩
  | .hbm, ⟨6, _⟩ => ⟨S8256x4x512, .f32⟩
  | .hbm, ⟨7, _⟩ => ⟨S8256x4x512, .f32⟩
  | .hbm, ⟨8, _⟩ => ⟨S8256x4x512, .f32⟩
  | .hbm, ⟨9, _⟩ => ⟨S_, .f32⟩
  | .hbm, ⟨10, _⟩ => ⟨S8256x4, .f32⟩
  | .hbm, ⟨11, _⟩ => ⟨S8256x4x1, .f32⟩
  | .hbm, ⟨12, _⟩ => ⟨S_, .f32⟩
  | .hbm, ⟨13, _⟩ => ⟨S8256x4x1, .f32⟩
  | .hbm, ⟨14, _⟩ => ⟨S8256x4x1, .f32⟩
  | .hbm, ⟨15, _⟩ => ⟨S_, .f32⟩
  | .hbm, ⟨16, _⟩ => ⟨S8256x4x1, .f32⟩
  | .hbm, ⟨17, _⟩ => ⟨S8256x4x1, .f32⟩
  | .hbm, ⟨18, _⟩ => ⟨S8256x4x1, .f32⟩
  | .hbm, ⟨19, _⟩ => ⟨S8256x4x1, .f32⟩
  | .hbm, ⟨20, _⟩ => ⟨S_, .f32⟩
  | .hbm, ⟨21, _⟩ => ⟨S8256x4x1, .f32⟩
  | .hbm, ⟨22, _⟩ => ⟨S8256x4x1, .f32⟩
  | .hbm, ⟨23, _⟩ => ⟨S8256x4x512, .f32⟩
  | .hbm, ⟨24, _⟩ => ⟨S8256x4x512, .f32⟩
  | .hbm, ⟨25, _⟩ => ⟨S1x1x512, .f32⟩
  | .hbm, ⟨26, _⟩ => ⟨S8256x4x512, .f32⟩
  | .hbm, ⟨27, _⟩ => ⟨S8256x4x512, .f32⟩
  | .hbm, ⟨28, _⟩ => ⟨S8256x4x512, .f32⟩
  | .hbm, ⟨29, _⟩ => ⟨S8256x4x512, .f32⟩
  | .hbm, ⟨30, _⟩ => ⟨S_, .f32⟩
  | .hbm, ⟨31, _⟩ => ⟨S8256x4x512, .f32⟩
  | .hbm, ⟨32, _⟩ => ⟨S8256x4x512, .f32⟩
  | .hbm, ⟨33, _⟩ => ⟨S_, .f32⟩
  | .hbm, ⟨34, _⟩ => ⟨S8256x4x512, .f32⟩
  | .hbm, ⟨35, _⟩ => ⟨S8256x4x512, .f32⟩
  | .hbm, ⟨36, _⟩ => ⟨S_, .f32⟩
  | .hbm, ⟨37, _⟩ => ⟨S8256x4x512, .f32⟩
  | .hbm, ⟨38, _⟩ => ⟨S8256x4x512, .f32⟩
  | .hbm, ⟨39, _⟩ => ⟨S8256x4x512, .f32⟩
  | .hbm, ⟨40, _⟩ => ⟨S8256x4x512, .f32⟩
  | .hbm, ⟨41, _⟩ => ⟨S8256x4x512, .f32⟩
  | .hbm, ⟨42, _⟩ => ⟨S8256x2048, .f32⟩
  | .hbm, ⟨43, _⟩ => ⟨S2048x1024, .f32⟩
  | .hbm, ⟨44, _⟩ => ⟨S8256x1024, .f32⟩
  | .hbm, ⟨45, _⟩ => ⟨S8256x1024, .f32⟩
  | .hbm, ⟨46, _⟩ => ⟨S8256x2048, .f32⟩
  | .hbm, ⟨47, _⟩ => ⟨S8256x4x512, .f32⟩
  | .hbm, ⟨48, _⟩ => ⟨S8256x4x512, .f32⟩
  | .hbm, ⟨49, _⟩ => ⟨S8256x4x512, .f32⟩
  | .hbm, ⟨50, _⟩ => ⟨S8256x4x512, .f32⟩
  | .hbm, ⟨51, _⟩ => ⟨S8256x4x512, .f32⟩
  | .hbm, ⟨52, _⟩ => ⟨S8256x4x512, .f32⟩
  | .hbm, ⟨53, _⟩ => ⟨S8256x4x512, .f32⟩
  | .hbm, ⟨54, _⟩ => ⟨S8256x4x512, .f32⟩
  | .hbm, ⟨55, _⟩ => ⟨S_, .f32⟩
  | .hbm, ⟨56, _⟩ => ⟨S512, .f32⟩
  | .hbm, ⟨57, _⟩ => ⟨S1x1x512, .f32⟩
  | .hbm, ⟨58, _⟩ => ⟨S8256x4x512, .f32⟩
  | .hbm, ⟨59, _⟩ => ⟨S8256x4x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S8256x4x512, .f32⟩
  | .hbm, ⟨64, _⟩ => ⟨S_, .f32⟩
  | .hbm, ⟨65, _⟩ => ⟨S8256x4, .f32⟩
  | .hbm, ⟨66, _⟩ => ⟨S8256x4x1, .f32⟩
  | .hbm, ⟨67, _⟩ => ⟨S8256x4x512, .f32⟩
  | .hbm, ⟨68, _⟩ => ⟨S8256x4x512, .f32⟩
  | .hbm, ⟨69, _⟩ => ⟨S8256x4x1, .f32⟩
  | .hbm, ⟨70, _⟩ => ⟨S_, .f32⟩
  | .hbm, ⟨71, _⟩ => ⟨S8256x4x1, .f32⟩
  | .hbm, ⟨72, _⟩ => ⟨S8256x4x1, .f32⟩
  | .hbm, ⟨73, _⟩ => ⟨S_, .f32⟩
  | .hbm, ⟨74, _⟩ => ⟨S8256x4, .f32⟩
  | .hbm, ⟨75, _⟩ => ⟨S8256x4x512, .f32⟩
  | .hbm, ⟨76, _⟩ => ⟨S8256x4x512, .f32⟩
  | .hbm, ⟨77, _⟩ => ⟨S8256x4x512, .f32⟩
  | .hbm, ⟨78, _⟩ => ⟨S8256x4x512, .f32⟩
  | .hbm, ⟨79, _⟩ => ⟨S8256x4x512, .f32⟩
  | .hbm, ⟨80, _⟩ => ⟨S8256x2048, .f32⟩
  | .hbm, ⟨81, _⟩ => ⟨S8256x2048, .f32⟩
  | .hbm, ⟨82, _⟩ => ⟨S_, .f32⟩
  | .hbm, ⟨83, _⟩ => ⟨S8256x6144, .f32⟩
  | .hbm, ⟨84, _⟩ => ⟨S8256x6144, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_5 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_cst_7 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_8 : Ref sig .tc := ⟨.hbm, 82, rfl⟩
abbrev main_v53 : Ref sig .tc := ⟨.hbm, 83, rfl⟩
abbrev main_v54 : Ref sig .tc := ⟨.hbm, 84, rfl⟩

abbrev nD : Nat := 1
abbrev τ : Topo := Topo.v7x

variable {F : FTy → Type} [FloatOps F]
-- ==== Kernel16.lean ====
abbrev S8x1024x768 : Shape := ⟨3, ![8, 1024, 768]⟩
abbrev S1024x768 : Shape := ⟨2, ![1024, 768]⟩
abbrev S8x256x768 : Shape := ⟨3, ![8, 256, 768]⟩
abbrev S256x768 : Shape := ⟨2, ![256, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x768, .bf16⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S8x256x768, .bf16⟩
  | .local _ .vmem, ⟨1, _⟩ => ⟨S8x256x768, .bf16⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S8x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S8x1024x768 : Shape := ⟨3, ![8, 1024, 768]⟩
abbrev S1024x768 : Shape := ⟨2, ![1024, 768]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x768, .bf16⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S8x1024x768, .f32⟩
  | .hbm, ⟨5, _⟩ => ⟨S_, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S_, .f32⟩
  | .hbm, ⟨11, _⟩ => ⟨S1024x768, .f32⟩
  | .hbm, ⟨12, _⟩ => ⟨S1024x768, .f32⟩
  | .hbm, ⟨13, _⟩ => ⟨S1024x768, .f32⟩
  | .hbm, ⟨14, _⟩ => ⟨S_, .f32⟩
  | .hbm, ⟨15, _⟩ => ⟨S1024x768, .f32⟩
  | .hbm, ⟨16, _⟩ => ⟨S1024x768, .f32⟩
  | .hbm, ⟨17, _⟩ => ⟨S1024x768, .f32⟩
  | .hbm, ⟨18, _⟩ => ⟨S_, .f32⟩
  | .hbm, ⟨19, _⟩ => ⟨S1024x768, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S_, .f32⟩
  | .hbm, ⟨26, _⟩ => ⟨S1024x768, .f32⟩
  | .hbm, ⟨27, _⟩ => ⟨S1024x768, .f32⟩
  | .hbm, ⟨28, _⟩ => ⟨S1024x768, .f32⟩
  | .hbm, ⟨29, _⟩ => ⟨S_, .f32⟩
  | .hbm, ⟨30, _⟩ => ⟨S1024x768, .f32⟩
  | .hbm, ⟨31, _⟩ => ⟨S1024x768, .f32⟩
  | .hbm, ⟨32, _⟩ => ⟨S1024x768, .f32⟩
  | .hbm, ⟨33, _⟩ => ⟨S_, .f32⟩
  | .hbm, ⟨34, _⟩ => ⟨S1024x768, .f32⟩
  | .hbm, ⟨35, _⟩ => ⟨S1024x768, .f32⟩
  | .hbm, ⟨36, _⟩ => ⟨S1024x768, .f32⟩
  | .hbm, ⟨37, _⟩ => ⟨S_, .f32⟩
  | .hbm, ⟨38, _⟩ => ⟨S1024x768, .f32⟩
  | .hbm, ⟨39, _⟩ => ⟨S1024x768, .f32⟩
  | _, _ => ⟨S8x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel17.lean ====
abbrev S8x256x1024 : Shape := ⟨3, ![8, 256, 1024]⟩
abbrev S256x1024 : Shape := ⟨2, ![256, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference17Ideal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S8x1024x770 : Shape := ⟨3, ![8, 1024, 770]⟩
abbrev S1024x770 : Shape := ⟨2, ![1024, 770]⟩
abbrev S8x128x770 : Shape := ⟨3, ![8, 128, 770]⟩
abbrev S128x770 : Shape := ⟨2, ![128, 770]⟩
abbrev S1x128x770 : Shape := ⟨3, ![1, 128, 770]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x770, .bf16⟩
  | .hbm, ⟨1, _⟩ => ⟨S1024x770, .f32⟩
  | .hbm, ⟨2, _⟩ => ⟨S1024x770, .f32⟩
  | .hbm, ⟨3, _⟩ => ⟨S1024x770, .f32⟩
  | .hbm, ⟨4, _⟩ => ⟨S1024x770, .f32⟩
  | .hbm, ⟨5, _⟩ => ⟨S1024x770, .f32⟩
  | .hbm, ⟨6, _⟩ => ⟨S1024x770, .f32⟩
  | .hbm, ⟨7, _⟩ => ⟨S1024x770, .f32⟩
  | .local _ .vmem, ⟨0, _⟩ => ⟨S8x128x770, .bf16⟩
  | .local _ .vmem, ⟨1, _⟩ => ⟨S8x128x770, .bf16⟩
  | .local _ .vmem, ⟨2, _⟩ => ⟨S128x770, .f32⟩
  | .local _ .vmem, ⟨3, _⟩ => ⟨S128x770, .f32⟩
  | .local _ .vmem, ⟨4, _⟩ => ⟨S128x770, .f32⟩
  | .local _ .vmem, ⟨5, _⟩ => ⟨S128x770, .f32⟩
  | .local _ .vmem, ⟨6, _⟩ => ⟨S128x770, .f32⟩
  | .local _ .vmem, ⟨7, _⟩ => ⟨S128x770, .f32⟩
  | .local _ .vmem, ⟨8, _⟩ => ⟨S128x770, .f32⟩
  | .local _ .vmem, ⟨9, _⟩ => ⟨S128x770, .f32⟩
  | .local _ .vmem, ⟨10, _⟩ => ⟨S128x770, .f32⟩
  | .local _ .vmem, ⟨11, _⟩ => ⟨S128x770, .f32⟩
  | .local _ .vmem, ⟨12, _⟩ => ⟨S128x770, .f32⟩
  | .local _ .vmem, ⟨13, _⟩ => ⟨S128x770, .f32⟩
  | .local _ .vmem, ⟨14, _⟩ => ⟨S128x770, .f32⟩
  | .local _ .vmem, ⟨15, _⟩ => ⟨S128x770, .f32⟩
  | _, _ => ⟨S8x1024x770, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x770 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x770 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x770 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x770 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x770 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x770 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x770 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x770 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S8x1024x770 : Shape := ⟨3, ![8, 1024, 770]⟩
abbrev S1024x770 : Shape := ⟨2, ![1024, 770]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x770, .bf16⟩
  | .hbm, ⟨1, _⟩ => ⟨S1024x770, .f32⟩
  | .hbm, ⟨2, _⟩ => ⟨S1024x770, .f32⟩
  | .hbm, ⟨3, _⟩ => ⟨S1024x770, .f32⟩
  | .hbm, ⟨4, _⟩ => ⟨S8x1024x770, .f32⟩
  | .hbm, ⟨5, _⟩ => ⟨S_, .f32⟩
  | .hbm, ⟨6, _⟩ => ⟨S1024x770, .f32⟩
  | .hbm, ⟨7, _⟩ => ⟨S_, .f32⟩
  | .hbm, ⟨8, _⟩ => ⟨S1024x770, .f32⟩
  | .hbm, ⟨9, _⟩ => ⟨S1024x770, .f32⟩
  | .hbm, ⟨10, _⟩ => ⟨S_, .f32⟩
  | .hbm, ⟨11, _⟩ => ⟨S1024x770, .f32⟩
  | .hbm, ⟨12, _⟩ => ⟨S1024x770, .f32⟩
  | .hbm, ⟨13, _⟩ => ⟨S1024x770, .f32⟩
  | .hbm, ⟨14, _⟩ => ⟨S_, .f32⟩
  | .hbm, ⟨15, _⟩ => ⟨S1024x770, .f32⟩
  | .hbm, ⟨16, _⟩ => ⟨S1024x770, .f32⟩
  | .hbm, ⟨17, _⟩ => ⟨S1024x770, .f32⟩
  | .hbm, ⟨18, _⟩ => ⟨S_, .f32⟩
  | .hbm, ⟨19, _⟩ => ⟨S1024x770, .f32⟩
  | .hbm, ⟨20, _⟩ => ⟨S1024x770, .f32⟩
  | .hbm, ⟨21, _⟩ => ⟨S1024x770, .f32⟩
  | .hbm, ⟨22, _⟩ => ⟨S_, .f32⟩
  | .hbm, ⟨23, _⟩ => ⟨S1024x770, .f32⟩
  | .hbm, ⟨24, _⟩ => ⟨S1024x770, .f32⟩
  | .hbm, ⟨25, _⟩ => ⟨S_, .f32⟩
  | .hbm, ⟨26, _⟩ => ⟨S1024x770, .f32⟩
  | .hbm, ⟨27, _⟩ => ⟨S1024x770, .f32⟩
  | .hbm, ⟨28, _⟩ => ⟨S1024x770, .f32⟩
  | .hbm, ⟨29, _⟩ => ⟨S_, .f32⟩
  | .hbm, ⟨30, _⟩ => ⟨S1024x770, .f32⟩
  | .hbm, ⟨31, _⟩ => ⟨S1024x770, .f32⟩
  | .hbm, ⟨32, _⟩ => ⟨S1024x770, .f32⟩
  | .hbm, ⟨33, _⟩ => ⟨S_, .f32⟩
  | .hbm, ⟨34, _⟩ => ⟨S1024x770, .f32⟩
  | .hbm, ⟨35, _⟩ => ⟨S1024x770, .f32⟩
  | .hbm, ⟨36, _⟩ => ⟨S1024x770, .f32⟩
  | .hbm, ⟨37, _⟩ => ⟨S_, .f32⟩
  | .hbm, ⟨38, _⟩ => ⟨S1024x770, .f32⟩
  | .hbm, ⟨39, _⟩ => ⟨S1024x770, .f32⟩
  | _, _ => ⟨S8x1024x770, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel19.lean ====
abbrev S8x2048x352 : Shape := ⟨3, ![8, 2048, 352]⟩
abbrev S2048x352 : Shape := ⟨2, ![2048, 352]⟩
abbrev S8x512x352 : Shape := ⟨3, ![8, 512, 352]⟩
abbrev S512x352 : Shape := ⟨2, ![512, 352]⟩
abbrev S1x512x352 : Shape := ⟨3, ![1, 512, 352]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x352, .bf16⟩
  | .hbm, ⟨1, _⟩ => ⟨S2048x352, .f32⟩
  | .hbm, ⟨2, _⟩ => ⟨S2048x352, .f32⟩
  | .hbm, ⟨3, _⟩ => ⟨S2048x352, .f32⟩
  | .hbm, ⟨4, _⟩ => ⟨S2048x352, .f32⟩
  | .hbm, ⟨5, _⟩ => ⟨S2048x352, .f32⟩
  | .hbm, ⟨6, _⟩ => ⟨S2048x352, .f32⟩
  | .hbm, ⟨7, _⟩ => ⟨S2048x352, .f32⟩
  | .local _ .vmem, ⟨0, _⟩ => ⟨S8x512x352, .bf16⟩
  | .local _ .vmem, ⟨1, _⟩ => ⟨S8x512x352, .bf16⟩
  | .local _ .vmem, ⟨2, _⟩ => ⟨S512x352, .f32⟩
  | .local _ .vmem, ⟨3, _⟩ => ⟨S512x352, .f32⟩
  | .local _ .vmem, ⟨4, _⟩ => ⟨S512x352, .f32⟩
  | .local _ .vmem, ⟨5, _⟩ => ⟨S512x352, .f32⟩
  | .local _ .vmem, ⟨6, _⟩ => ⟨S512x352, .f32⟩
  | .local _ .vmem, ⟨7, _⟩ => ⟨S512x352, .f32⟩
  | .local _ .vmem, ⟨8, _⟩ => ⟨S512x352, .f32⟩
  | .local _ .vmem, ⟨9, _⟩ => ⟨S512x352, .f32⟩
  | .local _ .vmem, ⟨10, _⟩ => ⟨S512x352, .f32⟩
  | .local _ .vmem, ⟨11, _⟩ => ⟨S512x352, .f32⟩
  | .local _ .vmem, ⟨12, _⟩ => ⟨S512x352, .f32⟩
  | .local _ .vmem, ⟨13, _⟩ => ⟨S512x352, .f32⟩
  | .local _ .vmem, ⟨14, _⟩ => ⟨S512x352, .f32⟩
  | .local _ .vmem, ⟨15, _⟩ => ⟨S512x352, .f32⟩
  | _, _ => ⟨S8x2048x352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S8x2048x352 : Shape := ⟨3, ![8, 2048, 352]⟩
abbrev S2048x352 : Shape := ⟨2, ![2048, 352]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x352, .bf16⟩
  | .hbm, ⟨1, _⟩ => ⟨S2048x352, .f32⟩
  | .hbm, ⟨2, _⟩ => ⟨S2048x352, .f32⟩
  | .hbm, ⟨3, _⟩ => ⟨S2048x352, .f32⟩
  | .hbm, ⟨4, _⟩ => ⟨S8x2048x352, .f32⟩
  | .hbm, ⟨5, _⟩ => ⟨S_, .f32⟩
  | .hbm, ⟨6, _⟩ => ⟨S2048x352, .f32⟩
  | .hbm, ⟨7, _⟩ => ⟨S_, .f32⟩
  | .hbm, ⟨8, _⟩ => ⟨S2048x352, .f32⟩
  | .hbm, ⟨9, _⟩ => ⟨S2048x352, .f32⟩
  | .hbm, ⟨10, _⟩ => ⟨S_, .f32⟩
  | .hbm, ⟨11, _⟩ => ⟨S2048x352, .f32⟩
  | .hbm, ⟨12, _⟩ => ⟨S2048x352, .f32⟩
  | .hbm, ⟨13, _⟩ => ⟨S2048x352, .f32⟩
  | .hbm, ⟨14, _⟩ => ⟨S_, .f32⟩
  | .hbm, ⟨15, _⟩ => ⟨S2048x352, .f32⟩
  | .hbm, ⟨16, _⟩ => ⟨S2048x352, .f32⟩
  | .hbm, ⟨17, _⟩ => ⟨S2048x352, .f32⟩
  | .hbm, ⟨18, _⟩ => ⟨S_, .f32⟩
  | .hbm, ⟨19, _⟩ => ⟨S2048x352, .f32⟩
  | .hbm, ⟨20, _⟩ => ⟨S2048x352, .f32⟩
  | .hbm, ⟨21, _⟩ => ⟨S2048x352, .f32⟩
  | .hbm, ⟨22, _⟩ => ⟨S_, .f32⟩
  | .hbm, ⟨23, _⟩ => ⟨S2048x352, .f32⟩
  | .hbm, ⟨24, _⟩ => ⟨S2048x352, .f32⟩
  | .hbm, ⟨25, _⟩ => ⟨S_, .f32⟩
  | .hbm, ⟨26, _⟩ => ⟨S2048x352, .f32⟩
  | .hbm, ⟨27, _⟩ => ⟨S2048x352, .f32⟩
  | .hbm, ⟨28, _⟩ => ⟨S2048x352, .f32⟩
  | .hbm, ⟨29, _⟩ => ⟨S_, .f32⟩
  | .hbm, ⟨30, _⟩ => ⟨S2048x352, .f32⟩
  | .hbm, ⟨31, _⟩ => ⟨S2048x352, .f32⟩
  | .hbm, ⟨32, _⟩ => ⟨S2048x352, .f32⟩
  | .hbm, ⟨33, _⟩ => ⟨S_, .f32⟩
  | .hbm, ⟨34, _⟩ => ⟨S2048x352, .f32⟩
  | .hbm, ⟨35, _⟩ => ⟨S2048x352, .f32⟩
  | .hbm, ⟨36, _⟩ => ⟨S2048x352, .f32⟩
  | .hbm, ⟨37, _⟩ => ⟨S_, .f32⟩
  | .hbm, ⟨38, _⟩ => ⟨S2048x352, .f32⟩
  | .hbm, ⟨39, _⟩ => ⟨S2048x352, .f32⟩
  | _, _ => ⟨S8x2048x352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel20.lean ====
abbrev S8x704x1024 : Shape := ⟨3, ![8, 704, 1024]⟩
abbrev S704x1024 : Shape := ⟨2, ![704, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S8x704x1024 : Shape := ⟨3, ![8, 704, 1024]⟩
abbrev S704x1024 : Shape := ⟨2, ![704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel21.lean ====
abbrev S8x10x1024 : Shape := ⟨3, ![8, 10, 1024]⟩
abbrev S10x1024 : Shape := ⟨2, ![10, 1024]⟩
abbrev S1x10x1024 : Shape := ⟨3, ![1, 10, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x10x1024, .f32⟩
  | .hbm, ⟨1, _⟩ => ⟨S10x1024, .f32⟩
  | .hbm, ⟨2, _⟩ => ⟨S10x1024, .f32⟩
  | .hbm, ⟨3, _⟩ => ⟨S10x1024, .f32⟩
  | .hbm, ⟨4, _⟩ => ⟨S10x1024, .f32⟩
  | .hbm, ⟨5, _⟩ => ⟨S10x1024, .f32⟩
  | .hbm, ⟨6, _⟩ => ⟨S10x1024, .f32⟩
  | .hbm, ⟨7, _⟩ => ⟨S10x1024, .f32⟩
  | .local _ .vmem, ⟨0, _⟩ => ⟨S8x10x1024, .f32⟩
  | .local _ .vmem, ⟨1, _⟩ => ⟨S10x1024, .f32⟩
  | .local _ .vmem, ⟨2, _⟩ => ⟨S10x1024, .f32⟩
  | .local _ .vmem, ⟨3, _⟩ => ⟨S10x1024, .f32⟩
  | .local _ .vmem, ⟨4, _⟩ => ⟨S10x1024, .f32⟩
  | .local _ .vmem, ⟨5, _⟩ => ⟨S10x1024, .f32⟩
  | .local _ .vmem, ⟨6, _⟩ => ⟨S10x1024, .f32⟩
  | .local _ .vmem, ⟨7, _⟩ => ⟨S10x1024, .f32⟩
  | _, _ => ⟨S8x10x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x10x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S10x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S10x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S10x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S10x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S10x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S10x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S10x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference21Ideal.lean ====
abbrev S8x10x1024 : Shape := ⟨3, ![8, 10, 1024]⟩
abbrev S10x1024 : Shape := ⟨2, ![10, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x10x1024, .f32⟩
  | .hbm, ⟨1, _⟩ => ⟨S10x1024, .f32⟩
  | .hbm, ⟨2, _⟩ => ⟨S10x1024, .f32⟩
  | .hbm, ⟨3, _⟩ => ⟨S10x1024, .f32⟩
  | .hbm, ⟨4, _⟩ => ⟨S_, .f32⟩
  | .hbm, ⟨5, _⟩ => ⟨S10x1024, .f32⟩
  | .hbm, ⟨6, _⟩ => ⟨S_, .f32⟩
  | .hbm, ⟨7, _⟩ => ⟨S10x1024, .f32⟩
  | .hbm, ⟨8, _⟩ => ⟨S10x1024, .f32⟩
  | .hbm, ⟨9, _⟩ => ⟨S_, .f32⟩
  | .hbm, ⟨10, _⟩ => ⟨S10x1024, .f32⟩
  | .hbm, ⟨11, _⟩ => ⟨S10x1024, .f32⟩
  | .hbm, ⟨12, _⟩ => ⟨S10x1024, .f32⟩
  | .hbm, ⟨13, _⟩ => ⟨S_, .f32⟩
  | .hbm, ⟨14, _⟩ => ⟨S10x1024, .f32⟩
  | .hbm, ⟨15, _⟩ => ⟨S10x1024, .f32⟩
  | .hbm, ⟨16, _⟩ => ⟨S10x1024, .f32⟩
  | .hbm, ⟨17, _⟩ => ⟨S_, .f32⟩
  | .hbm, ⟨18, _⟩ => ⟨S10x1024, .f32⟩
  | .hbm, ⟨19, _⟩ => ⟨S10x1024, .f32⟩
  | .hbm, ⟨20, _⟩ => ⟨S10x1024, .f32⟩
  | .hbm, ⟨21, _⟩ => ⟨S_, .f32⟩
  | .hbm, ⟨22, _⟩ => ⟨S10x1024, .f32⟩
  | .hbm, ⟨23, _⟩ => ⟨S10x1024, .f32⟩
  | .hbm, ⟨24, _⟩ => ⟨S_, .f32⟩
  | .hbm, ⟨25, _⟩ => ⟨S10x1024, .f32⟩
  | .hbm, ⟨26, _⟩ => ⟨S10x1024, .f32⟩
  | .hbm, ⟨27, _⟩ => ⟨S10x1024, .f32⟩
  | .hbm, ⟨28, _⟩ => ⟨S_, .f32⟩
  | .hbm, ⟨29, _⟩ => ⟨S10x1024, .f32⟩
  | .hbm, ⟨30, _⟩ => ⟨S10x1024, .f32⟩
  | .hbm, ⟨31, _⟩ => ⟨S10x1024, .f32⟩
  | .hbm, ⟨32, _⟩ => ⟨S_, .f32⟩
  | .hbm, ⟨33, _⟩ => ⟨S10x1024, .f32⟩
  | .hbm, ⟨34, _⟩ => ⟨S10x1024, .f32⟩
  | .hbm, ⟨35, _⟩ => ⟨S10x1024, .f32⟩
  | .hbm, ⟨36, _⟩ => ⟨S_, .f32⟩
  | .hbm, ⟨37, _⟩ => ⟨S10x1024, .f32⟩
  | .hbm, ⟨38, _⟩ => ⟨S10x1024, .f32⟩
  | _, _ => ⟨S8x10x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel22.lean ====
abbrev S8256x1024 : Shape := ⟨2, ![8256, 1024]⟩
abbrev S1x1024 : Shape := ⟨2, ![1, 1024]⟩
abbrev S8192x1024 : Shape := ⟨2, ![8192, 1024]⟩
abbrev S1x128 : Shape := ⟨2, ![1, 128]⟩
abbrev S192x1024 : Shape := ⟨2, ![192, 1024]⟩
abbrev S64x1024 : Shape := ⟨2, ![64, 1024]⟩
abbrev S1x1 : Shape := ⟨2, ![1, 1]⟩
abbrev S64 : Shape := ⟨1, ![64]⟩
abbrev S64x1 : Shape := ⟨2, ![64, 1]⟩
abbrev S1024 : Shape := ⟨1, ![1024]⟩
abbrev S1 : Shape := ⟨1, ![1]⟩

abbrev nBuf : Space → Nat
  | .hbm => 7
  | .vmem => 15
  | .smem => 0
  | _ => 0

abbrev bufTy : (tb : Table) → Fin (tcTables nBuf tb) → BufTy
  | .hbm, ⟨0, _⟩ => ⟨S8256x1024, .f32⟩
  | .hbm, ⟨1, _⟩ => ⟨S1x1024, .f32⟩
  | .hbm, ⟨2, _⟩ => ⟨S8192x1024, .f32⟩
  | .hbm, ⟨3, _⟩ => ⟨S8256x1024, .f32⟩
  | .hbm, ⟨4, _⟩ => ⟨S8256x1024, .bf16⟩
  | .hbm, ⟨5, _⟩ => ⟨S1x1024, .f32⟩
  | .hbm, ⟨6, _⟩ => ⟨S1x128, .f32⟩
  | .local _ .vmem, ⟨0, _⟩ => ⟨S192x1024, .f32⟩
  | .local _ .vmem, ⟨1, _⟩ => ⟨S192x1024, .f32⟩
  | .local _ .vmem, ⟨2, _⟩ => ⟨S1x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S192x1024, .f32⟩
  | .local _ .vmem, ⟨10, _⟩ => ⟨S192x1024, .f32⟩
  | .local _ .vmem, ⟨11, _⟩ => ⟨S192x1024, .bf16⟩
  | .local _ .vmem, ⟨12, _⟩ => ⟨S192x1024, .bf16⟩
  | .local _ .vmem, ⟨13, _⟩ => ⟨S1x1024, .f32⟩
  | .local _ .vmem, ⟨14, _⟩ => ⟨S1x128, .f32⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![43], ![false]⟩

def k0_cond1 (i : grid0.Coords) : BitVec 1 :=
  let arg0 : BitVec 32 := BitVec.ofNat 32 (i 0).val
  let c0_i32_62 : BitVec 32 := 0#32
  let v164 : BitVec 1 := Scalar.cmpi .eq arg0 c0_i32_62
  let v165 : BitVec 32 := Scalar.extui v164
  let c0_i32_63 : BitVec 32 := 0#32
  let v166 : BitVec 1 := Scalar.cmpi .ne v165 c0_i32_63
  v166

def k0_cond2 (i : grid0.Coords) : BitVec 1 :=
  let arg0 : BitVec 32 := BitVec.ofNat 32 (i 0).val
  let c0_i32_64 : BitVec 32 := 0#32
  let v167 : BitVec 1 := Scalar.cmpi .sgt arg0 c0_i32_64
  let v168 : BitVec 32 := Scalar.extui v167
  let c0_i32_65 : BitVec 32 := 0#32
  let v169 : BitVec 1 := Scalar.cmpi .ne v168 c0_i32_65
  v169

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let v0 : BitVec 32 := Scalar.muli arg0 c3_i32
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let c3_i32 : BitVec 32 := 3#32
  let v0 : BitVec 32 := Scalar.muli arg0 c3_i32
  let c1_i32 : BitVec 32 := 1#32
  let v1 : BitVec 32 := Scalar.addi v0 c1_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let c3_i32 : BitVec 32 := 3#32
  let v0 : BitVec 32 := Scalar.muli arg0 c3_i32
  let c2_i32 : BitVec 32 := 2#32
  let v1 : BitVec 32 := Scalar.addi v0 c2_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference22Ideal.lean ====
abbrev S8256x1024 : Shape := ⟨2, ![8256, 1024]⟩
abbrev S1x1024 : Shape := ⟨2, ![1, 1024]⟩
abbrev S8192x1024 : Shape := ⟨2, ![8192, 1024]⟩
abbrev S_ : Shape := ⟨0, ![]⟩
abbrev S8256 : Shape := ⟨1, ![8256]⟩
abbrev S8256x1 : Shape := ⟨2, ![8256, 1]⟩
abbrev S8192 : Shape := ⟨1, ![8192]⟩
abbrev S1024 : Shape := ⟨1, ![1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S1x1024, .f32⟩
  | .hbm, ⟨2, _⟩ => ⟨S8192x1024, .f32⟩
  | .hbm, ⟨3, _⟩ => ⟨S8256x1024, .f32⟩
  | .hbm, ⟨4, _⟩ => ⟨S_, .f32⟩
  | .hbm, ⟨5, _⟩ => ⟨S8256, .f32⟩
  | .hbm, ⟨6, _⟩ => ⟨S8256x1, .f32⟩
  | .hbm, ⟨7, _⟩ => ⟨S_, .f32⟩
  | .hbm, ⟨8, _⟩ => ⟨S8256x1, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S8256x1, .f32⟩
  | .hbm, ⟨14, _⟩ => ⟨S8256x1, .f32⟩
  | .hbm, ⟨15, _⟩ => ⟨S_, .f32⟩
  | .hbm, ⟨16, _⟩ => ⟨S8256x1, .f32⟩
  | .hbm, ⟨17, _⟩ => ⟨S8256x1, .f32⟩
  | .hbm, ⟨18, _⟩ => ⟨S8256x1024, .f32⟩
  | .hbm, ⟨19, _⟩ => ⟨S8256x1024, .f32⟩
  | .hbm, ⟨20, _⟩ => ⟨S8256x1024, .f32⟩
  | .hbm, ⟨21, _⟩ => ⟨S8256x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8256x1024, .f32⟩
  | .hbm, ⟨48, _⟩ => ⟨S8256x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8256x1024, .f32⟩
  | .hbm, ⟨53, _⟩ => ⟨S8256x1024, .f32⟩
  | .hbm, ⟨54, _⟩ => ⟨S8256x1024, .f32⟩
  | .hbm, ⟨55, _⟩ => ⟨S_, .f32⟩
  | .hbm, ⟨56, _⟩ => ⟨S8256, .f32⟩
  | .hbm, ⟨57, _⟩ => ⟨S8256x1, .f32⟩
  | .hbm, ⟨58, _⟩ => ⟨S8256x1024, .f32⟩
  | .hbm, ⟨59, _⟩ => ⟨S8256x1024, .f32⟩
  | .hbm, ⟨60, _⟩ => ⟨S8256x1, .f32⟩
  | .hbm, ⟨61, _⟩ => ⟨S_, .f32⟩
  | .hbm, ⟨62, _⟩ => ⟨S8256x1, .f32⟩
  | .hbm, ⟨63, _⟩ => ⟨S8256x1, .f32⟩
  | .hbm, ⟨64, _⟩ => ⟨S_, .f32⟩
  | .hbm, ⟨65, _⟩ => ⟨S8256, .f32⟩
  | .hbm, ⟨66, _⟩ => ⟨S8256x1024, .f32⟩
  | .hbm, ⟨67, _⟩ => ⟨S8256x1024, .f32⟩
  | .hbm, ⟨68, _⟩ => ⟨S8256x1024, .f32⟩
  | .hbm, ⟨69, _⟩ => ⟨S8256x1024, .f32⟩
  | .hbm, ⟨70, _⟩ => ⟨S8256x1024, .f32⟩
  | .hbm, ⟨71, _⟩ => ⟨S8256x1024, .bf16⟩
  | .hbm, ⟨72, _⟩ => ⟨S1x128, .f32⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_cst_12 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel23.lean ====
abbrev S8256x1024 : Shape := ⟨2, ![8256, 1024]⟩
abbrev S1024x128 : Shape := ⟨2, ![1024, 128]⟩
abbrev S8256x128 : Shape := ⟨2, ![8256, 128]⟩
abbrev S2752x1024 : Shape := ⟨2, ![2752, 1024]⟩
abbrev S2752x128 : Shape := ⟨2, ![2752, 128]⟩

abbrev nBuf : Space → Nat
  | .hbm => 3
  | .vmem => 5
  | .smem => 0
  | _ => 0

abbrev bufTy : (tb : Table) → Fin (tcTables nBuf tb) → BufTy
  | .hbm, ⟨0, _⟩ => ⟨S8256x1024, .bf16⟩
  | .hbm, ⟨1, _⟩ => ⟨S1024x128, .bf16⟩
  | .hbm, ⟨2, _⟩ => ⟨S8256x128, .f32⟩
  | .local _ .vmem, ⟨0, _⟩ => ⟨S2752x1024, .bf16⟩
  | .local _ .vmem, ⟨1, _⟩ => ⟨S2752x1024, .bf16⟩
  | .local _ .vmem, ⟨2, _⟩ => ⟨S1024x128, .bf16⟩
  | .local _ .vmem, ⟨3, _⟩ => ⟨S2752x128, .f32⟩
  | .local _ .vmem, ⟨4, _⟩ => ⟨S2752x128, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2752x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2752x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8256x1024 : Shape := ⟨2, ![8256, 1024]⟩
abbrev S1024x128 : Shape := ⟨2, ![1024, 128]⟩
abbrev S8256x128 : Shape := ⟨2, ![8256, 128]⟩

abbrev nBuf : Space → Nat
  | .hbm => 5
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S1024x128, .bf16⟩
  | .hbm, ⟨2, _⟩ => ⟨S8256x1024, .f32⟩
  | .hbm, ⟨3, _⟩ => ⟨S1024x128, .f32⟩
  | .hbm, ⟨4, _⟩ => ⟨S8256x128, .f32⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel24.lean ====
abbrev S8256x128 : Shape := ⟨2, ![8256, 128]⟩
abbrev S1024x128 : Shape := ⟨2, ![1024, 128]⟩
abbrev S8256x1024 : Shape := ⟨2, ![8256, 1024]⟩
abbrev S1376x128 : Shape := ⟨2, ![1376, 128]⟩
abbrev S1376x1024 : Shape := ⟨2, ![1376, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8256x128, .bf16⟩
  | .hbm, ⟨1, _⟩ => ⟨S1024x128, .bf16⟩
  | .hbm, ⟨2, _⟩ => ⟨S8256x1024, .f32⟩
  | .local _ .vmem, ⟨0, _⟩ => ⟨S1376x128, .bf16⟩
  | .local _ .vmem, ⟨1, _⟩ => ⟨S1376x128, .bf16⟩
  | .local _ .vmem, ⟨2, _⟩ => ⟨S1024x128, .bf16⟩
  | .local _ .vmem, ⟨3, _⟩ => ⟨S1376x1024, .f32⟩
  | .local _ .vmem, ⟨4, _⟩ => ⟨S1376x1024, .f32⟩
  | _, _ => ⟨S8256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1376x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1376x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8256x128 : Shape := ⟨2, ![8256, 128]⟩
abbrev S1024x128 : Shape := ⟨2, ![1024, 128]⟩
abbrev S_ : Shape := ⟨0, ![]⟩
abbrev S8256x1024 : Shape := ⟨2, ![8256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8256x128, .bf16⟩
  | .hbm, ⟨1, _⟩ => ⟨S1024x128, .bf16⟩
  | .hbm, ⟨2, _⟩ => ⟨S_, .f32⟩
  | .hbm, ⟨3, _⟩ => ⟨S8256x1024, .f32⟩
  | .hbm, ⟨4, _⟩ => ⟨S1024x128, .f32⟩
  | .hbm, ⟨5, _⟩ => ⟨S8256x128, .f32⟩
  | .hbm, ⟨6, _⟩ => ⟨S8256x128, .f32⟩
  | .hbm, ⟨7, _⟩ => ⟨S8256x1024, .f32⟩
  | _, _ => ⟨S8256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel25.lean ====
abbrev S8256x1024 : Shape := ⟨2, ![8256, 1024]⟩
abbrev S8256x128 : Shape := ⟨2, ![8256, 128]⟩
abbrev S1024x128 : Shape := ⟨2, ![1024, 128]⟩
abbrev S2752x1024 : Shape := ⟨2, ![2752, 1024]⟩
abbrev S2752x128 : Shape := ⟨2, ![2752, 128]⟩

abbrev nBuf : Space → Nat
  | .hbm => 3
  | .vmem => 6
  | .smem => 0
  | _ => 0

abbrev bufTy : (tb : Table) → Fin (tcTables nBuf tb) → BufTy
  | .hbm, ⟨0, _⟩ => ⟨S8256x1024, .bf16⟩
  | .hbm, ⟨1, _⟩ => ⟨S8256x128, .bf16⟩
  | .hbm, ⟨2, _⟩ => ⟨S1024x128, .bf16⟩
  | .local _ .vmem, ⟨0, _⟩ => ⟨S2752x1024, .bf16⟩
  | .local _ .vmem, ⟨1, _⟩ => ⟨S2752x1024, .bf16⟩
  | .local _ .vmem, ⟨2, _⟩ => ⟨S2752x128, .bf16⟩
  | .local _ .vmem, ⟨3, _⟩ => ⟨S2752x128, .bf16⟩
  | .local _ .vmem, ⟨4, _⟩ => ⟨S1024x128, .bf16⟩
  | .local _ .vmem, ⟨5, _⟩ => ⟨S1024x128, .f32⟩
  | _, _ => ⟨S8256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2752x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2752x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference25Ideal.lean ====
abbrev S8256x1024 : Shape := ⟨2, ![8256, 1024]⟩
abbrev S8256x128 : Shape := ⟨2, ![8256, 128]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8256x1024, .bf16⟩
  | .hbm, ⟨1, _⟩ => ⟨S8256x128, .bf16⟩
  | .hbm, ⟨2, _⟩ => ⟨S_, .f32⟩
  | .hbm, ⟨3, _⟩ => ⟨S1024x128, .f32⟩
  | .hbm, ⟨4, _⟩ => ⟨S8256x1024, .f32⟩
  | .hbm, ⟨5, _⟩ => ⟨S8256x128, .f32⟩
  | .hbm, ⟨6, _⟩ => ⟨S8256x128, .f32⟩
  | .hbm, ⟨7, _⟩ => ⟨S128x1024, .f32⟩
  | .hbm, ⟨8, _⟩ => ⟨S1024x128, .f32⟩
  | .hbm, ⟨9, _⟩ => ⟨S1024x128, .bf16⟩
  | _, _ => ⟨S8256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel26.lean ====
abbrev S8256x2048 : Shape := ⟨2, ![8256, 2048]⟩
abbrev S8256x6144 : Shape := ⟨2, ![8256, 6144]⟩
abbrev S1x256 : Shape := ⟨2, ![1, 256]⟩
abbrev S192x2048 : Shape := ⟨2, ![192, 2048]⟩
abbrev S192x256 : Shape := ⟨2, ![192, 256]⟩
abbrev S192 : Shape := ⟨1, ![192]⟩
abbrev S192x1 : Shape := ⟨2, ![192, 1]⟩

abbrev nBuf : Space → Nat
  | .hbm => 4
  | .vmem => 7
  | .smem => 0
  | _ => 0

abbrev bufTy : (tb : Table) → Fin (tcTables nBuf tb) → BufTy
  | .hbm, ⟨0, _⟩ => ⟨S8256x2048, .f32⟩
  | .hbm, ⟨1, _⟩ => ⟨S8256x6144, .f32⟩
  | .hbm, ⟨2, _⟩ => ⟨S1x256, .f32⟩
  | .hbm, ⟨3, _⟩ => ⟨S8256x2048, .bf16⟩
  | .local _ .vmem, ⟨0, _⟩ => ⟨S192x2048, .f32⟩
  | .local _ .vmem, ⟨1, _⟩ => ⟨S192x2048, .f32⟩
  | .local _ .vmem, ⟨2, _⟩ => ⟨S192x2048, .f32⟩
  | .local _ .vmem, ⟨3, _⟩ => ⟨S192x2048, .f32⟩
  | .local _ .vmem, ⟨4, _⟩ => ⟨S1x256, .f32⟩
  | .local _ .vmem, ⟨5, _⟩ => ⟨S192x2048, .bf16⟩
  | .local _ .vmem, ⟨6, _⟩ => ⟨S192x2048, .bf16⟩
  | _, _ => ⟨S8256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S192x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference26Ideal.lean ====
abbrev S8256x2048 : Shape := ⟨2, ![8256, 2048]⟩
abbrev S8256x6144 : Shape := ⟨2, ![8256, 6144]⟩
abbrev S1x256 : Shape := ⟨2, ![1, 256]⟩
abbrev S8256x8x256 : Shape := ⟨3, ![8256, 8, 256]⟩
abbrev S_ : Shape := ⟨0, ![]⟩
abbrev S8256x8 : Shape := ⟨2, ![8256, 8]⟩
abbrev S8256x8x1 : Shape := ⟨3, ![8256, 8, 1]⟩
abbrev S1x1x256 : Shape := ⟨3, ![1, 1, 256]⟩

abbrev nBuf : Space → Nat
  | .hbm => 34
  | .vmem => 0
  | .smem => 0
  | _ => 0

abbrev bufTy : (tb : Table) → Fin (tcTables nBuf tb) → BufTy
  | .hbm, ⟨0, _⟩ => ⟨S8256x2048, .f32⟩
  | .hbm, ⟨1, _⟩ => ⟨S8256x6144, .f32⟩
  | .hbm, ⟨2, _⟩ => ⟨S1x256, .f32⟩
  | .hbm, ⟨3, _⟩ => ⟨S8256x2048, .f32⟩
  | .hbm, ⟨4, _⟩ => ⟨S8256x8x256, .f32⟩
  | .hbm, ⟨5, _⟩ => ⟨S8256x8x256, .f32⟩
  | .hbm, ⟨6, _⟩ => ⟨S8256x8x256, .f32⟩
  | .hbm, ⟨7, _⟩ => ⟨S_, .f32⟩
  | .hbm, ⟨8, _⟩ => ⟨S8256x8, .f32⟩
  | .hbm, ⟨9, _⟩ => ⟨S8256x8x1, .f32⟩
  | .hbm, ⟨10, _⟩ => ⟨S_, .f32⟩
  | .hbm, ⟨11, _⟩ => ⟨S8256x8x1, .f32⟩
  | .hbm, ⟨12, _⟩ => ⟨S8256x8x1, .f32⟩
  | .hbm, ⟨13, _⟩ => ⟨S_, .f32⟩
  | .hbm, ⟨14, _⟩ => ⟨S8256x8x1, .f32⟩
  | .hbm, ⟨15, _⟩ => ⟨S8256x8x1, .f32⟩
  | .hbm, ⟨16, _⟩ => ⟨S8256x8x1, .f32⟩
  | .hbm, ⟨17, _⟩ => ⟨S8256x8x256, .f32⟩
  | .hbm, ⟨18, _⟩ => ⟨S8256x8x256, .f32⟩
  | .hbm, ⟨19, _⟩ => ⟨S1x1x256, .f32⟩
  | .hbm, ⟨20, _⟩ => ⟨S8256x8x256, .f32⟩
  | .hbm, ⟨21, _⟩ => ⟨S8256x8x256, .f32⟩
  | .hbm, ⟨22, _⟩ => ⟨S8256x8x256, .f32⟩
  | .hbm, ⟨23, _⟩ => ⟨S8256x8x256, .f32⟩
  | .hbm, ⟨24, _⟩ => ⟨S_, .f32⟩
  | .hbm, ⟨25, _⟩ => ⟨S8256x8x256, .f32⟩
  | .hbm, ⟨26, _⟩ => ⟨S8256x8x256, .f32⟩
  | .hbm, ⟨27, _⟩ => ⟨S_, .f32⟩
  | .hbm, ⟨28, _⟩ => ⟨S8256x8x256, .f32⟩
  | .hbm, ⟨29, _⟩ => ⟨S8256x8x256, .f32⟩
  | .hbm, ⟨30, _⟩ => ⟨S8256x8x256, .f32⟩
  | .hbm, ⟨31, _⟩ => ⟨S8256x8x256, .f32⟩
  | .hbm, ⟨32, _⟩ => ⟨S8256x2048, .f32⟩
  | .hbm, ⟨33, _⟩ => ⟨S8256x2048, .bf16⟩
  | _, _ => ⟨S8256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Kernel27.lean ====
abbrev S8192x1024 : Shape := ⟨2, ![8192, 1024]⟩
abbrev S16x1024 : Shape := ⟨2, ![16, 1024]⟩
abbrev S1x1024 : Shape := ⟨2, ![1, 1024]⟩
abbrev S8256x1024 : Shape := ⟨2, ![8256, 1024]⟩
abbrev S64x1024 : Shape := ⟨2, ![64, 1024]⟩
abbrev S192x1024 : Shape := ⟨2, ![192, 1024]⟩
abbrev S48x1024 : Shape := ⟨2, ![48, 1024]⟩
abbrev S64 : Shape := ⟨1, ![64]⟩
abbrev S64x1 : Shape := ⟨2, ![64, 1]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S16x1024, .f32⟩
  | .hbm, ⟨2, _⟩ => ⟨S1x1024, .f32⟩
  | .hbm, ⟨3, _⟩ => ⟨S8256x1024, .f32⟩
  | .hbm, ⟨4, _⟩ => ⟨S8256x1024, .bf16⟩
  | .local _ .vmem, ⟨0, _⟩ => ⟨S16x1024, .f32⟩
  | .local _ .vmem, ⟨1, _⟩ => ⟨S1x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S192x1024, .f32⟩
  | .local _ .vmem, ⟨9, _⟩ => ⟨S192x1024, .f32⟩
  | .local _ .vmem, ⟨10, _⟩ => ⟨S192x1024, .bf16⟩
  | .local _ .vmem, ⟨11, _⟩ => ⟨S192x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let v0 : BitVec 32 := Scalar.muli arg0 c3_i32
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let c3_i32 : BitVec 32 := 3#32
  let v0 : BitVec 32 := Scalar.muli arg0 c3_i32
  let c1_i32 : BitVec 32 := 1#32
  let v1 : BitVec 32 := Scalar.addi v0 c1_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let c3_i32 : BitVec 32 := 3#32
  let v0 : BitVec 32 := Scalar.muli arg0 c3_i32
  let c2_i32 : BitVec 32 := 2#32
  let v1 : BitVec 32 := Scalar.addi v0 c2_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference27Ideal.lean ====
abbrev S8192x1024 : Shape := ⟨2, ![8192, 1024]⟩
abbrev S16x1024 : Shape := ⟨2, ![16, 1024]⟩
abbrev S1x1024 : Shape := ⟨2, ![1, 1024]⟩
abbrev S_ : Shape := ⟨0, ![]⟩
abbrev S48x1024 : Shape := ⟨2, ![48, 1024]⟩
abbrev S8256x1024 : Shape := ⟨2, ![8256, 1024]⟩
abbrev S8256 : Shape := ⟨1, ![8256]⟩
abbrev S8256x1 : Shape := ⟨2, ![8256, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S16x1024, .f32⟩
  | .hbm, ⟨2, _⟩ => ⟨S1x1024, .f32⟩
  | .hbm, ⟨3, _⟩ => ⟨S_, .f32⟩
  | .hbm, ⟨4, _⟩ => ⟨S48x1024, .f32⟩
  | .hbm, ⟨5, _⟩ => ⟨S8256x1024, .f32⟩
  | .hbm, ⟨6, _⟩ => ⟨S8256x1024, .f32⟩
  | .hbm, ⟨7, _⟩ => ⟨S_, .f32⟩
  | .hbm, ⟨8, _⟩ => ⟨S8256, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S_, .f32⟩
  | .hbm, ⟨14, _⟩ => ⟨S8256x1, .f32⟩
  | .hbm, ⟨15, _⟩ => ⟨S8256x1, .f32⟩
  | .hbm, ⟨16, _⟩ => ⟨S8256x1, .f32⟩
  | .hbm, ⟨17, _⟩ => ⟨S8256x1024, .f32⟩
  | .hbm, ⟨18, _⟩ => ⟨S8256x1024, .f32⟩
  | .hbm, ⟨19, _⟩ => ⟨S8256x1024, .f32⟩
  | .hbm, ⟨20, _⟩ => ⟨S8256x1024, .f32⟩
  | .hbm, ⟨21, _⟩ => ⟨S8256x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Common.lean ====
module
public import Idealize.ShloMosaic.PureOps.Ideal.Laws
public import Idealize.ShloMosaic.Lib.Pipeline.Value
public import Idealize.ShloMosaic.Lib.Pipeline.FrameBody
public import Idealize.ShloMosaic.Lib.Pointwise
public import Idealize.ShloMosaic.Lib.VecWindow

/-! Facts that every call's value proof uses: finite sums of reals among the extended reals, and reading back a list of stores whose pieces all agree
with one function. -/

@[expose] public section

namespace Cert

open Idealize.ShloMosaic

theorem vec2_zero : (![0, 0] : Fin 2 → Nat) = fun _ => 0 := funext fun a => by fin_cases a <;> rfl

/-- A load of the whole of a buffer reads what the buffer holds. -/
theorem read_whole {sig : RefSig} {κ : Kind} {sp : Space} {s : Shape} {e : EltTy} (b : Memref sig κ sp s e) (h : b.IsWhole) (x : s.Idx → Elt Ideal e)
    {off : Fin s.rank → Nat} (hz : off = fun _ => 0) (inb : ∀ a, off a + s.size a ≤ s.size a) :
    b.view.readAt (Elt Ideal) (Rect.unit off s.size inb).toLoadRect (h.unread x) = x :=
  (View.readAt_eq_ld ..).trans ((View.ld_unit_zero hz _ _).trans (h.read_unread (Val := Elt Ideal) x))

/-- A finite sum of reals, read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sequence read as a function of every natural number, zero beyond its end. -/
noncomputable def ext {n : Nat} (f : Fin n → EReal) (j : Nat) : EReal := if h : j < n then f ⟨j, h⟩ else 0

theorem ext_of_lt {n : Nat} (f : Fin n → EReal) (j : Nat) (h : j < n) : ext f j = f ⟨j, h⟩ := dif_pos h

theorem sum_ext {n : Nat} (f : Fin n → EReal) : ∑ j ∈ Finset.range n, ext f j = ∑ k : Fin n, f k := by
  rw [Finset.sum_range]
  exact Finset.sum_congr rfl fun k _ => ext_of_lt f k.1 k.2

/-- The sum over the first `a + 1` blocks of `B` terms: that over the first `a` blocks and the next block's. -/
theorem sum_blocks_succ {n : Nat} (f : Fin n → EReal) (a B : Nat) (g : Fin B → EReal) (h : ∀ k : Fin B, g k = ext f (a * B + k.1)) :
    ∑ j ∈ Finset.range ((a + 1) * B), ext f j = ∑ j ∈ Finset.range (a * B), ext f j + ∑ k : Fin B, g k := by
  rw [Nat.succ_mul, Finset.sum_range_add, Finset.sum_range fun k => ext f (a * B + k)]
  exact congrArg _ (Finset.sum_congr rfl fun k _ => (h k).symm)

/-- An extended real below infinity in absolute value is a real. -/
theorem coe_toReal_of_abs_lt {x : EReal} (h : x ≠ ⊤) (h' : x ≠ ⊥) : x = ((x.toReal : ℝ) : EReal) := (EReal.coe_toReal h h').symm

/-- An extended real whose absolute value compares below positive infinity is a real. -/
theorem real_of_abs_lt {S : Shape} (x : FVec Ideal S .f32) (b : (⟨0, ![]⟩ : Shape).BroadcastsInDim S ![])
    (h : cmpf .olt (Host.absf x) (broadcastInDim S ![] b (constant (F := Ideal) ⟨0, ![]⟩ .f32 0x7F800000#32)) = fun _ => 1#1) (i : S.Idx) :
    (x i : EReal) = (((x i : EReal).toReal : ℝ) : EReal) := by
  have h := congrFun h i
  pointwise at h
  have e : Ideal.ofBits .f32 0x7F800000#32 = (⊤ : EReal) := by
    show Ideal.ieee 8 23 0x7F800000#32 = ⊤
    simp [Ideal.ieee]
  rw [e] at h
  have h : max (x i : EReal) (-(x i : EReal)) < ⊤ := by
    by_contra hc
    have : decide (FloatOps.absf (x i) < (⊤ : EReal)) = false := decide_eq_false hc
    rw [this] at h
    exact absurd h (by decide)
  refine coe_toReal_of_abs_lt (fun hx => ?_) (fun hx => ?_)
  · rw [hx] at h
    simp at h
  · rw [hx] at h
    simp at h

/-- If every piece of the later stores agrees with `f` where it lies, then reading all stores back gives `f` wherever one of these lies. -/
theorem canon_append_of_agree {Val : EltTy → Type} {s : Shape} {e : EltTy} [∀ e, Nonempty (Val e)] (f : s.Idx → Val e) (L' : List (View.Piece Val s e)) :
    ∀ (L : List (View.Piece Val s e)) (y : s.Idx), (∃ pc ∈ L, y ∈ pc.1.set) → (∀ pc ∈ L, ∀ x, pc.2 x = f (pc.1.emb x)) → View.canon (L ++ L') y = f y
  | [], y, hc, _ => by obtain ⟨pc, h, _⟩ := hc; cases h
  | p :: L, y, hc, ha => by
    rw [List.cons_append]
    by_cases hy : y ∈ p.1.set
    · rw [← Rect.map_emb_univ, Finset.mem_map] at hy
      obtain ⟨x, _, rfl⟩ := hy
      exact (View.canon_cons_emb p.1 p.2 (L ++ L') x).trans (ha p (List.mem_cons_self ..) x)
    · rw [View.canon_cons_of_not_mem p (L ++ L') hy]
      refine canon_append_of_agree f L' L y ?_ fun pc h => ha pc (List.mem_cons_of_mem _ h)
      obtain ⟨pc, h, hm⟩ := hc
      rcases List.mem_cons.1 h with rfl | h
      · exact absurd hm hy
      · exact ⟨pc, h, hm⟩

/-- If every piece agrees with `f` where it lies, then reading the stores back gives `f` wherever some piece lies. -/
theorem canon_of_agree {Val : EltTy → Type} {s : Shape} {e : EltTy} [∀ e, Nonempty (Val e)] (f : s.Idx → Val e) (L : List (View.Piece Val s e)) (y : s.Idx)
    (hc : ∃ pc ∈ L, y ∈ pc.1.set) (ha : ∀ pc ∈ L, ∀ x, pc.2 x = f (pc.1.emb x)) : View.canon L y = f y := by
  have := canon_append_of_agree f [] L y hc ha
  rwa [List.append_nil] at this

end Cert
end
-- ==== Proof.ScanModel.lean ====
module
public import proofs.«01_k».proof.Proof.Common

/-! The reverse recurrence over chunks that the delta rule's backward scan computes, over the reals: the state's gradient runs from the last chunk
to the first, and each chunk takes from it the gradient of its corrected values. -/

@[expose] public section

namespace Cert.Scan

/-- The scan's arguments as real arrays: the output's gradient, the solved keys, the decayed queries, the chunk scores, the decayed keys, and each
chunk's decay. -/
structure Inp where
  dO : Fin 8256 → Fin 2048 → ℝ
  w : Fin 129 → Fin 8 → Fin 64 → Fin 128 → ℝ
  q : Fin 129 → Fin 8 → Fin 64 → Fin 128 → ℝ
  p : Fin 129 → Fin 8 → Fin 64 → Fin 64 → ℝ
  k : Fin 129 → Fin 8 → Fin 64 → Fin 128 → ℝ
  g : Fin 129 → Fin 8 → ℝ

namespace Inp
variable (I : Inp)

/-- The output's gradient in chunk `c`, head `h`. -/
def D (c : Fin 129) (h : Fin 8) (r : Fin 64) (j : Fin 256) : ℝ :=
  I.dO ⟨64 * c.1 + r.1, by omega⟩ ⟨256 * h.1 + j.1, by omega⟩

/-- The gradient of the corrected values in chunk `c`, head `h`, when the state's gradient after the chunk is `S`. -/
noncomputable def dv (c : Fin 129) (h : Fin 8) (S : Fin 128 → Fin 256 → ℝ) (r : Fin 64) (j : Fin 256) : ℝ :=
  (∑ i, I.k c h r i * S i j) + ∑ u, I.p c h u r * I.D c h u j

/-- The state's gradient before chunk `c`. -/
noncomputable def up (c : Fin 129) (h : Fin 8) (S : Fin 128 → Fin 256 → ℝ) (i : Fin 128) (j : Fin 256) : ℝ :=
  I.g c h * S i j + (∑ u, I.q c h u i * I.D c h u j) - ∑ u, I.w c h u i * I.dv c h S u j

/-- The chunk that step `n` of the scan visits. -/
def ch (n : ℕ) : Fin 129 := ⟨128 - n, by omega⟩

/-- The state's gradient after `n` steps. -/
noncomputable def st (h : Fin 8) : ℕ → Fin 128 → Fin 256 → ℝ
  | 0 => fun _ _ => 0
  | n + 1 => I.up (ch n) h (st h n)

/-- The gradient of the corrected values as the array of all tokens and heads. -/
noncomputable def out4 (R : Fin 8256) (C : Fin 2048) : ℝ :=
  I.dv ⟨R.1 / 64, by omega⟩ ⟨C.1 / 256, by omega⟩ (I.st ⟨C.1 / 256, by omega⟩ (128 - R.1 / 64)) ⟨R.1 % 64, by omega⟩ ⟨C.1 % 256, by omega⟩

/-- The saved gradients of the state after each chunk. -/
noncomputable def out5 (c : Fin 129) (h : Fin 8) (i : Fin 128) (j : Fin 256) : ℝ := I.st h (128 - c.1) i j

theorem out4_eq {R : Fin 8256} {C : Fin 2048} {c : Fin 129} {h : Fin 8} {r : Fin 64} {j : Fin 256} (hR : R.1 = 64 * c.1 + r.1)
    (hC : C.1 = 256 * h.1 + j.1) : I.out4 R C = I.dv c h (I.st h (128 - c.1)) r j := by
  have e1 : (⟨R.1 / 64, by omega⟩ : Fin 129) = c := Fin.ext (by dsimp only; omega)
  have e2 : (⟨C.1 / 256, by omega⟩ : Fin 8) = h := Fin.ext (by dsimp only; omega)
  have e3 : (⟨R.1 % 64, by omega⟩ : Fin 64) = r := Fin.ext (by dsimp only; omega)
  have e4 : (⟨C.1 % 256, by omega⟩ : Fin 256) = j := Fin.ext (by dsimp only; omega)
  have e5 : R.1 / 64 = c.1 := by omega
  unfold out4
  rw [e1, e2, e3, e4, e5]

end Inp
end Cert.Scan
end
-- ==== Proof.ScanPieces.lean ====
module
public import proofs.«01_k».proof.Proof.Gen.KernelIdeal.Value
public import proofs.«01_k».proof.Proof.ScanModel

@[expose] public section

set_option maxRecDepth 16384

noncomputable section

namespace Cert.KernelIdeal.Value

open Cert.KernelIdeal Cert.KernelIdeal.Gen Idealize.ShloMosaic Idealize.ShloMosaic.TcCoe Idealize.SL.Sem

variable [Facts]
open Facts

/-- One chunk's gradient of the corrected values, of one head: from the state's gradient, the chunk's keys beside its scores, and the chunk's output gradient. -/
def opDvn (S : FVec Ideal S128x256 .f32) (A : FVec Ideal S1x1x64x192 .bf16) (D : FVec Ideal S64x256 .f32) : FVec Ideal S64x256 .f32 :=
  addf
    (matmul dot_S64x128_S128x256_S64x256_1_0_0_1_n_n none
      (extractStridedSlice S64x128 ![0, 0] (shapeCast S64x192 A shapeCasts_S1x1x64x192_S64x192) slices_S64x192_o0_0_S64x128)
      (truncf .bf16 S bitsLt_bf16_f32) (constant S64x256 .f32 0x00000000#32))
    (matmul dot_S64x64_S64x256_S64x256_1_0_0_1_n_n none
      (extractStridedSlice S64x64 ![0, 128] (shapeCast S64x192 A shapeCasts_S1x1x64x192_S64x192) slices_S64x192_o0_128_S64x64)
      (truncf .bf16 D bitsLt_bf16_f32) (constant S64x256 .f32 0x00000000#32))

/-- The state's gradient one chunk earlier, of one head. -/
def opUpd (S : FVec Ideal S128x256 .f32) (E : FVec Ideal S1x1x8x128 .f32) (Q : FVec Ideal S1x1x256x64 .bf16) (D : FVec Ideal S64x256 .f32)
    (V : FVec Ideal S64x256 .f32) : FVec Ideal S128x256 .f32 :=
  subf
    (addf
      (mulf (broadcastTo S128x256 (extractStridedSlice S1x1 ![0, 0] (shapeCast S8x128 E shapeCasts_S1x1x8x128_S8x128) slices_S8x128_o0_0_S1x1)
        broadcasts_S1x1_S128x256) S)
      (matmul dot_S128x64_S64x256_S128x256_1_0_0_1_n_n none
        (extractStridedSlice S128x64 ![0, 0] (shapeCast S256x64 Q shapeCasts_S1x1x256x64_S256x64) slices_S256x64_o0_0_S128x64)
        (truncf .bf16 D bitsLt_bf16_f32) (constant S128x256 .f32 0x00000000#32)))
    (matmul dot_S128x64_S64x256_S128x256_1_0_0_1_n_n none
      (extractStridedSlice S128x64 ![128, 0] (shapeCast S256x64 Q shapeCasts_S1x1x256x64_S256x64) slices_S256x64_o128_0_S128x64)
      (truncf .bf16 V bitsLt_bf16_f32) (constant S128x256 .f32 0x00000000#32))

section
variable (arg1 : Memref sig .tc .vmem S192x2048 .f32) (harg1 : arg1.IsWhole) (arg2 : Memref sig .tc .vmem S3x8x64x192 .bf16) (harg2 : arg2.IsWhole) (arg3 : Memref sig .tc .vmem S3x8x256x64 .bf16) (harg3 : arg3.IsWhole) (arg4 : Memref sig .tc .vmem S3x8x8x128 .f32) (harg4 : arg4.IsWhole)
variable (x0 : Vec Ideal S192x2048 .f32) (x1 : Vec Ideal S3x8x64x192 .bf16) (x2 : Vec Ideal S3x8x256x64 .bf16) (x3 : Vec Ideal S3x8x8x128 .f32)

theorem inb1 (l : Fin 3) (h : Fin 8) : ∀ a, (![64 * l.1, 256 * h.1] : Fin 2 → ℕ) a + S64x256.size a ≤ S192x2048.size a := by
  intro a; have := l.isLt; have := h.isLt
  fin_cases a <;> simp <;> omega

theorem inb2 (l : Fin 3) (h : Fin 8) : ∀ a, (![l.1, h.1, 0, 0] : Fin 4 → ℕ) a + S1x1x64x192.size a ≤ S3x8x64x192.size a := by
  intro a; have := l.isLt; have := h.isLt
  fin_cases a <;> simp <;> omega

theorem inb3 (l : Fin 3) (h : Fin 8) : ∀ a, (![l.1, h.1, 0, 0] : Fin 4 → ℕ) a + S1x1x256x64.size a ≤ S3x8x256x64.size a := by
  intro a; have := l.isLt; have := h.isLt
  fin_cases a <;> simp <;> omega

theorem inb4 (l : Fin 3) (h : Fin 8) : ∀ a, (![l.1, h.1, 0, 0] : Fin 4 → ℕ) a + S1x1x8x128.size a ≤ S3x8x8x128.size a := by
  intro a; have := l.isLt; have := h.isLt
  fin_cases a <;> simp <;> omega

theorem inb6 (l : Fin 3) (h : Fin 8) : ∀ a, (![l.1, h.1, 0, 0] : Fin 4 → ℕ) a + S1x1x128x256.size a ≤ S3x8x128x256.size a := by
  intro a; have := l.isLt; have := h.isLt
  fin_cases a <;> simp <;> omega

theorem inb7 (h : Fin 8) : ∀ a, (![h.1, 0, 0] : Fin 3 → ℕ) a + S1x128x256.size a ≤ S8x128x256.size a := by
  intro a; have := h.isLt
  fin_cases a <;> simp <;> omega

/-- The output gradient of chunk `l`, head `h`, as the body loads it. -/
def ld1 (l : Fin 3) (h : Fin 8) : Vec Ideal S64x256 .f32 :=
  View.readAt (Elt Ideal) arg1.view (Rect.unit (s := S192x2048) ![64 * l.1, 256 * h.1] S64x256.size (inb1 l h)).toLoadRect (harg1.unread x0)
/-- The keys beside the scores of chunk `l`, head `h`. -/
def ld2 (l : Fin 3) (h : Fin 8) : Vec Ideal S1x1x64x192 .bf16 :=
  View.readAt (Elt Ideal) arg2.view (Rect.unit (s := S3x8x64x192) ![l.1, h.1, 0, 0] S1x1x64x192.size (inb2 l h)).toLoadRect (harg2.unread x1)
/-- The queries above the solved keys of chunk `l`, head `h`. -/
def ld3 (l : Fin 3) (h : Fin 8) : Vec Ideal S1x1x256x64 .bf16 :=
  View.readAt (Elt Ideal) arg3.view (Rect.unit (s := S3x8x256x64) ![l.1, h.1, 0, 0] S1x1x256x64.size (inb3 l h)).toLoadRect (harg3.unread x2)
/-- The decay of chunk `l`, head `h`. -/
def ld4 (l : Fin 3) (h : Fin 8) : Vec Ideal S1x1x8x128 .f32 :=
  View.readAt (Elt Ideal) arg4.view (Rect.unit (s := S3x8x8x128) ![l.1, h.1, 0, 0] S1x1x8x128.size (inb4 l h)).toLoadRect (harg4.unread x3)

/-- The state's gradient of head `h` before the block's chunk `l`, from what it was after the block. -/
def bst (h : Fin 8) (s : FVec Ideal S128x256 .f32) : ℕ → FVec Ideal S128x256 .f32
  | 0 => s
  | k + 1 => opUpd (bst h s k) (ld4 arg4 harg4 x3 (Fin.ofNat 3 (2 - k)) h) (ld3 arg3 harg3 x2 (Fin.ofNat 3 (2 - k)) h) (ld1 arg1 harg1 x0 (Fin.ofNat 3 (2 - k)) h)
      (opDvn (bst h s k) (ld2 arg2 harg2 x1 (Fin.ofNat 3 (2 - k)) h) (ld1 arg1 harg1 x0 (Fin.ofNat 3 (2 - k)) h))

/-- The piece of the corrected values' gradient for the block's chunk `2 - k`, head `h`. -/
def piece4 (s : Fin 8 → FVec Ideal S128x256 .f32) (k : ℕ) (h : Fin 8) : View.Piece (Elt Ideal) S192x2048 .f32 :=
  ⟨Rect.unit (s := S192x2048) ![64 * (Fin.ofNat 3 (2 - k)).1, 256 * h.1] S64x256.size (inb1 _ h),
   opDvn (bst arg1 harg1 arg2 harg2 arg3 harg3 arg4 harg4 x0 x1 x2 x3 h (s h) k) (ld2 arg2 harg2 x1 (Fin.ofNat 3 (2 - k)) h) (ld1 arg1 harg1 x0 (Fin.ofNat 3 (2 - k)) h)⟩

/-- The piece of the saved state gradients for the block's chunk `2 - k`, head `h`. -/
def piece5 (s : Fin 8 → FVec Ideal S128x256 .f32) (k : ℕ) (h : Fin 8) : View.Piece (Elt Ideal) S3x8x128x256 .bf16 :=
  ⟨Rect.unit (s := S3x8x128x256) ![(Fin.ofNat 3 (2 - k)).1, h.1, 0, 0] S1x1x128x256.size (inb6 _ h),
   shapeCast S1x1x128x256 (truncf .bf16 (bst arg1 harg1 arg2 harg2 arg3 harg3 arg4 harg4 x0 x1 x2 x3 h (s h) k) bitsLt_bf16_f32) shapeCasts_S128x256_S1x1x128x256⟩

/-- The piece of the carried state for head `h`. -/
def piece7 (s : Fin 8 → FVec Ideal S128x256 .f32) (h : Fin 8) : View.Piece (Elt Ideal) S8x128x256 .f32 :=
  ⟨Rect.unit (s := S8x128x256) ![h.1, 0, 0] S1x128x256.size (inb7 h),
   shapeCast S1x128x256 (bst arg1 harg1 arg2 harg2 arg3 harg3 arg4 harg4 x0 x1 x2 x3 h (s h) 3) shapeCasts_S128x256_S1x128x256⟩

end

/-- The state's gradient of head `h` loaded from the carried contents. -/
def ld7 (arg7 : Memref sig .tc .vmem S8x128x256 .f32) (harg7 : arg7.IsWhole) (xs0 : Vec Ideal S8x128x256 .f32) (h : Fin 8) : FVec Ideal S128x256 .f32 :=
  shapeCast S128x256 (View.readAt (Elt Ideal) arg7.view (Rect.unit (s := S8x128x256) ![h.1, 0, 0] S1x128x256.size (inb7 h)).toLoadRect (harg7.unread xs0)) shapeCasts_S1x128x256_S128x256

/-- At the first point the carried state is set to zero before it is loaded. -/
def ld7z (arg7 : Memref sig .tc .vmem S8x128x256 .f32) (h : Fin 8) : FVec Ideal S128x256 .f32 :=
  shapeCast S128x256 (arg7.view.readCov (Val := Elt Ideal)
    [⟨Rect.unit (s := S8x128x256) ![0, 0, 0] S8x128x256.size inb_S8x128x256_S8x128x256_0_0_0, (k0_pay2 : FVec Ideal S8x128x256 .f32)⟩]
    (Rect.unit (s := S8x128x256) ![h.1, 0, 0] S1x128x256.size (inb7 h)).toLoadRect) shapeCasts_S1x128x256_S128x256

section
variable (c : Dev nD) (i : grid0.Coords) (arg1 : Memref sig .tc .vmem S192x2048 .f32) (harg1 : arg1.IsWhole) (arg2 : Memref sig .tc .vmem S3x8x64x192 .bf16) (harg2 : arg2.IsWhole) (arg3 : Memref sig .tc .vmem S3x8x256x64 .bf16) (harg3 : arg3.IsWhole) (arg4 : Memref sig .tc .vmem S3x8x8x128 .f32) (harg4 : arg4.IsWhole) (arg5 : Memref sig .tc .vmem S192x2048 .f32) (harg5 : arg5.IsWhole) (arg6 : Memref sig .tc .vmem S3x8x128x256 .bf16) (harg6 : arg6.IsWhole) (arg7 : Memref sig .tc .vmem S8x128x256 .f32) (harg7 : arg7.IsWhole)
variable (x0 : Vec Ideal S192x2048 .f32) (x1 : Vec Ideal S3x8x64x192 .bf16) (x2 : Vec Ideal S3x8x256x64 .bf16) (x3 : Vec Ideal S3x8x8x128 .f32) (xs0 : Vec Ideal S8x128x256 .f32)

/-- The order in which the heads' pieces lie in a list of stores: the last stored first. -/
def heads : List (Fin 8) := [7, 6, 5, 4, 3, 2, 1, 0]

theorem pieces7_B (hc0 : ¬cond0_0 i) :
    (kernelRun0_B (F := Ideal) c i arg1 harg1 arg2 harg2 arg3 harg3 arg4 harg4 arg5 harg5 arg6 harg6 arg7 harg7 hc0 x0 x1 x2 x3 xs0).2.2.1
      = heads.map (piece7 arg1 harg1 arg2 harg2 arg3 harg3 arg4 harg4 x0 x1 x2 x3 (ld7 arg7 harg7 xs0)) := rfl

theorem pieces4_B (hc0 : ¬cond0_0 i) :
    (kernelRun0_B (F := Ideal) c i arg1 harg1 arg2 harg2 arg3 harg3 arg4 harg4 arg5 harg5 arg6 harg6 arg7 harg7 hc0 x0 x1 x2 x3 xs0).1
      = [2, 1, 0].flatMap fun k => heads.map (piece4 arg1 harg1 arg2 harg2 arg3 harg3 arg4 harg4 x0 x1 x2 x3 (ld7 arg7 harg7 xs0) k) := rfl

theorem pieces5_B (hc0 : ¬cond0_0 i) :
    (kernelRun0_B (F := Ideal) c i arg1 harg1 arg2 harg2 arg3 harg3 arg4 harg4 arg5 harg5 arg6 harg6 arg7 harg7 hc0 x0 x1 x2 x3 xs0).2.1
      = [2, 1, 0].flatMap fun k => heads.map (piece5 arg1 harg1 arg2 harg2 arg3 harg3 arg4 harg4 x0 x1 x2 x3 (ld7 arg7 harg7 xs0) k) := rfl

theorem pieces7_A (hc0 : cond0_0 i) :
    (kernelRun0_A (F := Ideal) c i arg1 harg1 arg2 harg2 arg3 harg3 arg4 harg4 arg5 harg5 arg6 harg6 arg7 harg7 hc0 x0 x1 x2 x3).2.2.1
      = heads.map (piece7 arg1 harg1 arg2 harg2 arg3 harg3 arg4 harg4 x0 x1 x2 x3 (ld7z arg7))
        ++ [⟨Rect.unit (s := S8x128x256) ![0, 0, 0] S8x128x256.size inb_S8x128x256_S8x128x256_0_0_0, (k0_pay2 : FVec Ideal S8x128x256 .f32)⟩] := rfl

theorem pieces4_A (hc0 : cond0_0 i) :
    (kernelRun0_A (F := Ideal) c i arg1 harg1 arg2 harg2 arg3 harg3 arg4 harg4 arg5 harg5 arg6 harg6 arg7 harg7 hc0 x0 x1 x2 x3).1
      = [2, 1, 0].flatMap fun k => heads.map (piece4 arg1 harg1 arg2 harg2 arg3 harg3 arg4 harg4 x0 x1 x2 x3 (ld7z arg7) k) := rfl

theorem pieces5_A (hc0 : cond0_0 i) :
    (kernelRun0_A (F := Ideal) c i arg1 harg1 arg2 harg2 arg3 harg3 arg4 harg4 arg5 harg5 arg6 harg6 arg7 harg7 hc0 x0 x1 x2 x3).2.1
      = [2, 1, 0].flatMap fun k => heads.map (piece5 arg1 harg1 arg2 harg2 arg3 harg3 arg4 harg4 x0 x1 x2 x3 (ld7z arg7) k) := rfl

end

end Cert.KernelIdeal.Value
end
-- ==== Proof.ScanOps.lean ====
module
public import proofs.«01_k».proof.Proof.ScanPieces

@[expose] public section

set_option maxRecDepth 16384

namespace Cert.KernelIdeal.Value

open Cert.KernelIdeal Cert.KernelIdeal.Gen Idealize.ShloMosaic Idealize.ShloMosaic.TcCoe Idealize.SL.Sem

variable [Facts]
open Facts

theorem opDvn_coe {S : FVec Ideal S128x256 .f32} {A : FVec Ideal S1x1x64x192 .bf16} {D : FVec Ideal S64x256 .f32}
    {s : Fin 128 → Fin 256 → ℝ} {ke : Fin 64 → Fin 128 → ℝ} {p : Fin 64 → Fin 64 → ℝ} {d : Fin 64 → Fin 256 → ℝ}
    (hS : ∀ i j, S (ix2 i j) = (s i j : EReal)) (hk : ∀ r k, A (ix4 0 0 r ⟨k.1, by omega⟩) = (ke r k : EReal))
    (hp : ∀ r u, A (ix4 0 0 r ⟨128 + u.1, by omega⟩) = (p u r : EReal)) (hD : ∀ r j, D (ix2 r j) = (d r j : EReal)) (r : Fin 64) (j : Fin 256) :
    opDvn S A D (ix2 r j) = (((∑ i, ke r i * s i j) + ∑ u, p u r * d u j : ℝ) : EReal) := by
  unfold opDvn
  pointwise
  simp only [hS, hk, hp, hD, EReal.coe_add, coe_sum, EReal.coe_mul]

theorem opUpd_coe {S : FVec Ideal S128x256 .f32} {E : FVec Ideal S1x1x8x128 .f32} {Q : FVec Ideal S1x1x256x64 .bf16} {D V : FVec Ideal S64x256 .f32}
    {s : Fin 128 → Fin 256 → ℝ} {g : ℝ} {q w : Fin 64 → Fin 128 → ℝ} {d v : Fin 64 → Fin 256 → ℝ}
    (hS : ∀ i j, S (ix2 i j) = (s i j : EReal)) (hg : E (ix4 0 0 0 0) = (g : EReal))
    (hq : ∀ u i, Q (ix4 0 0 ⟨i.1, by omega⟩ u) = (q u i : EReal)) (hw : ∀ u i, Q (ix4 0 0 ⟨128 + i.1, by omega⟩ u) = (w u i : EReal))
    (hD : ∀ r j, D (ix2 r j) = (d r j : EReal)) (hV : ∀ r j, V (ix2 r j) = (v r j : EReal)) (i : Fin 128) (j : Fin 256) :
    opUpd S E Q D V (ix2 i j) = ((g * s i j + (∑ u, q u i * d u j) - ∑ u, w u i * v u j : ℝ) : EReal) := by
  unfold opUpd
  pointwise
  simp only [hS, hg, hq, hw, hV, hD, EReal.coe_add, EReal.coe_sub, coe_sum, EReal.coe_mul]

end Cert.KernelIdeal.Value
end
-- ==== Proof.ScanBlock.lean ====
module
public import proofs.«01_k».proof.Proof.ScanOps
public import Idealize.ShloMosaic.Lib.WholeRead

@[expose] public section

set_option maxRecDepth 16384

namespace Cert.KernelIdeal.Value

open Cert.KernelIdeal Cert.KernelIdeal.Gen Idealize.ShloMosaic Idealize.ShloMosaic.TcCoe Idealize.SL.Sem
open Cert.Scan

variable [Facts]
open Facts

/-- The four input blocks of the three chunks that a point visits hold the scan's arguments, the chunks counted from the last. -/
structure IsBlock (I : Inp) (n : ℕ) (x0 : Vec Ideal S192x2048 .f32) (x1 : Vec Ideal S3x8x64x192 .bf16) (x2 : Vec Ideal S3x8x256x64 .bf16)
    (x3 : Vec Ideal S3x8x8x128 .f32) : Prop where
  d : ∀ (l : Fin 3) (h : Fin 8) (r : Fin 64) (j : Fin 256),
    x0 (ix2 ⟨64 * l.1 + r.1, by omega⟩ ⟨256 * h.1 + j.1, by omega⟩) = (I.D (Inp.ch (n + (2 - l.1))) h r j : EReal)
  k : ∀ (l : Fin 3) (h : Fin 8) (r : Fin 64) (i : Fin 128), x1 (ix4 l h r ⟨i.1, by omega⟩) = (I.k (Inp.ch (n + (2 - l.1))) h r i : EReal)
  p : ∀ (l : Fin 3) (h : Fin 8) (r u : Fin 64), x1 (ix4 l h r ⟨128 + u.1, by omega⟩) = (I.p (Inp.ch (n + (2 - l.1))) h u r : EReal)
  q : ∀ (l : Fin 3) (h : Fin 8) (u : Fin 64) (i : Fin 128), x2 (ix4 l h ⟨i.1, by omega⟩ u) = (I.q (Inp.ch (n + (2 - l.1))) h u i : EReal)
  w : ∀ (l : Fin 3) (h : Fin 8) (u : Fin 64) (i : Fin 128), x2 (ix4 l h ⟨128 + i.1, by omega⟩ u) = (I.w (Inp.ch (n + (2 - l.1))) h u i : EReal)
  g : ∀ (l : Fin 3) (h : Fin 8), x3 (ix4 l h 0 0) = (I.g (Inp.ch (n + (2 - l.1))) h : EReal)

/-- What the block of the corrected values' gradient holds after the point whose first step is `n`. -/
noncomputable def blk4 (I : Inp) (n : ℕ) (y : S192x2048.Idx) : EReal :=
  ((I.out4 ⟨64 * (126 - n) + (y 0).1, by have := (y 0).isLt; simp at this; omega⟩ (y 1) : ℝ) : EReal)

/-- What the block of the saved state gradients holds after that point. -/
noncomputable def blk5 (I : Inp) (n : ℕ) (y : S3x8x128x256.Idx) : EReal :=
  ((I.out5 ⟨126 - n + (y 0).1, by have := (y 0).isLt; simp at this; omega⟩ (y 1) (y 2) (y 3) : ℝ) : EReal)

/-- What the carried contents hold after `n` steps. -/
noncomputable def blk7 (I : Inp) (n : ℕ) (y : S8x128x256.Idx) : EReal := ((I.st (y 0) n (y 1) (y 2) : ℝ) : EReal)

section
variable (arg1 : Memref sig .tc .vmem S192x2048 .f32) (harg1 : arg1.IsWhole) (arg2 : Memref sig .tc .vmem S3x8x64x192 .bf16) (harg2 : arg2.IsWhole)
  (arg3 : Memref sig .tc .vmem S3x8x256x64 .bf16) (harg3 : arg3.IsWhole) (arg4 : Memref sig .tc .vmem S3x8x8x128 .f32) (harg4 : arg4.IsWhole)
  (arg7 : Memref sig .tc .vmem S8x128x256 .f32) (harg7 : arg7.IsWhole)
variable (x0 : Vec Ideal S192x2048 .f32) (x1 : Vec Ideal S3x8x64x192 .bf16) (x2 : Vec Ideal S3x8x256x64 .bf16) (x3 : Vec Ideal S3x8x8x128 .f32)
  (xs0 : Vec Ideal S8x128x256 .f32)

theorem ld1_apply (l : Fin 3) (h : Fin 8) (r : Fin 64) (j : Fin 256) :
    ld1 arg1 harg1 x0 l h (ix2 r j) = x0 (ix2 ⟨64 * l.1 + r.1, by omega⟩ ⟨256 * h.1 + j.1, by omega⟩) := by
  unfold ld1
  rw [Memref.IsWhole.readAt_unread]
  congr 1; funext a; apply Fin.ext
  fin_cases a <;> simp [ix2, LoadRect.idx]

theorem ld2_apply (l : Fin 3) (h : Fin 8) (r : Fin 64) (k : Fin 192) : ld2 arg2 harg2 x1 l h (ix4 0 0 r k) = x1 (ix4 l h r k) := by
  unfold ld2
  rw [Memref.IsWhole.readAt_unread]
  congr 1; funext a; apply Fin.ext
  fin_cases a <;> simp [ix4, LoadRect.idx]

theorem ld3_apply (l : Fin 3) (h : Fin 8) (r : Fin 256) (k : Fin 64) : ld3 arg3 harg3 x2 l h (ix4 0 0 r k) = x2 (ix4 l h r k) := by
  unfold ld3
  rw [Memref.IsWhole.readAt_unread]
  congr 1; funext a; apply Fin.ext
  fin_cases a <;> simp [ix4, LoadRect.idx]

theorem ld4_apply (l : Fin 3) (h : Fin 8) : ld4 arg4 harg4 x3 l h (ix4 0 0 0 0) = x3 (ix4 l h 0 0) := by
  unfold ld4
  rw [Memref.IsWhole.readAt_unread]
  congr 1; funext a; apply Fin.ext
  fin_cases a <;> simp [ix4, LoadRect.idx]

theorem cast_head (X : FVec Ideal S1x128x256 .f32) (i : Fin 128) (j : Fin 256) :
    shapeCast S128x256 X shapeCasts_S1x128x256_S128x256 (ix2 i j) = X (ix3 0 i j) := by
  pointwise

theorem cast_save (X : FVec Ideal S128x256 .f32) (a b : Fin 1) (i : Fin 128) (j : Fin 256) :
    shapeCast S1x1x128x256 (truncf .bf16 X bitsLt_bf16_f32) shapeCasts_S128x256_S1x1x128x256 (ix4 a b i j) = X (ix2 i j) := by
  pointwise

theorem cast_carry (X : FVec Ideal S128x256 .f32) (a : Fin 1) (i : Fin 128) (j : Fin 256) :
    shapeCast S1x128x256 X shapeCasts_S128x256_S1x128x256 (ix3 a i j) = X (ix2 i j) := by
  pointwise

theorem ld7_apply (h : Fin 8) (i : Fin 128) (j : Fin 256) : ld7 arg7 harg7 xs0 h (ix2 i j) = xs0 (ix3 h i j) := by
  unfold ld7
  refine (cast_head _ i j).trans ?_
  rw [Memref.IsWhole.readAt_unread]
  congr 1; funext a; apply Fin.ext
  fin_cases a <;> simp [ix3, LoadRect.idx]

theorem ld7z_apply (h : Fin 8) (i : Fin 128) (j : Fin 256) : ld7z arg7 h (ix2 i j) = ((0 : ℝ) : EReal) := by
  unfold ld7z
  refine (cast_head _ i j).trans ?_
  rw [View.readCov_eq_canon', View.canon_unit_zero (by funext a; fin_cases a <;> rfl)]
  unfold k0_pay2
  pointwise
  rfl

variable {x0 x1 x2 x3 xs0}
theorem dvn_block {I : Inp} {n : ℕ} (H : IsBlock I n x0 x1 x2 x3) {S : FVec Ideal S128x256 .f32} {s : Fin 128 → Fin 256 → ℝ}
    (hS : ∀ i j, S (ix2 i j) = (s i j : EReal)) (l : Fin 3) (h : Fin 8) (r : Fin 64) (j : Fin 256) :
    opDvn S (ld2 arg2 harg2 x1 l h) (ld1 arg1 harg1 x0 l h) (ix2 r j) = (I.dv (Inp.ch (n + (2 - l.1))) h s r j : EReal) :=
  opDvn_coe hS (fun r k => (ld2_apply ..).trans (H.k l h r k)) (fun r u => (ld2_apply ..).trans (H.p l h r u))
    (fun r j => (ld1_apply ..).trans (H.d l h r j)) r j

theorem bst_block {I : Inp} {n : ℕ} (H : IsBlock I n x0 x1 x2 x3) (h : Fin 8) {S : FVec Ideal S128x256 .f32}
    (hS : ∀ i j, S (ix2 i j) = (I.st h n i j : EReal)) :
    ∀ k ≤ 3, ∀ i j, bst arg1 harg1 arg2 harg2 arg3 harg3 arg4 harg4 x0 x1 x2 x3 h S k (ix2 i j) = (I.st h (n + k) i j : EReal)
  | 0, _, i, j => hS i j
  | k + 1, hk, i, j => by
    have ih := bst_block H h hS k (by omega)
    have e : n + (2 - (Fin.ofNat 3 (2 - k)).1) = n + k := by simp only [Fin.ofNat]; omega
    have hd := dvn_block arg1 harg1 arg2 harg2 H ih (Fin.ofNat 3 (2 - k)) h
    have := opUpd_coe (g := I.g (Inp.ch (n + (2 - (Fin.ofNat 3 (2 - k)).1))) h) ih ((ld4_apply arg4 harg4 x3 (Fin.ofNat 3 (2 - k)) h).trans (H.g _ h))
      (fun u i => (ld3_apply arg3 harg3 x2 (Fin.ofNat 3 (2 - k)) h ..).trans (H.q _ h u i))
      (fun u i => (ld3_apply arg3 harg3 x2 (Fin.ofNat 3 (2 - k)) h ..).trans (H.w _ h u i))
      (fun r j => (ld1_apply arg1 harg1 x0 (Fin.ofNat 3 (2 - k)) h r j).trans (H.d _ h r j)) hd i j
    refine this.trans ?_
    rw [e]
    rfl

theorem piece4_agree {I : Inp} {n : ℕ} (hn : n ≤ 126) (H : IsBlock I n x0 x1 x2 x3) {s : Fin 8 → FVec Ideal S128x256 .f32}
    (hS : ∀ h i j, s h (ix2 i j) = (I.st h n i j : EReal)) (k : ℕ) (hk : k ≤ 2) (h : Fin 8) (x) :
    (piece4 arg1 harg1 arg2 harg2 arg3 harg3 arg4 harg4 x0 x1 x2 x3 s k h).2 x
      = blk4 I n ((piece4 arg1 harg1 arg2 harg2 arg3 harg3 arg4 harg4 x0 x1 x2 x3 s k h).1.emb x) := by
  obtain ⟨r, j, rfl⟩ : ∃ (r : Fin 64) (j : Fin 256), x = ix2 r j := ⟨x 0, x 1, eq_ix2 x⟩
  have e : n + (2 - (Fin.ofNat 3 (2 - k)).1) = n + k := by simp only [Fin.ofNat]; omega
  have hd := dvn_block arg1 harg1 arg2 harg2 H (bst_block arg1 harg1 arg2 harg2 arg3 harg3 arg4 harg4 H h (hS h) k (by omega)) (Fin.ofNat 3 (2 - k)) h r j
  refine hd.trans ?_
  have e' : 128 - (Inp.ch (n + k)).1 = n + k := by simp only [Inp.ch]; omega
  rw [e]
  refine congrArg (fun a : ℝ => (a : EReal)) (Eq.symm ?_)
  refine (Inp.out4_eq I (c := Inp.ch (n + k)) (h := h) (r := r) (j := j) ?_ ?_).trans (by rw [e'])
  · show 64 * (126 - n) + (64 * (Fin.ofNat 3 (2 - k)).1 + 1 * r.1) = 64 * (128 - (n + k)) + r.1
    simp only [Fin.ofNat]; omega
  · show 256 * h.1 + 1 * j.1 = 256 * h.1 + j.1
    omega

theorem piece5_agree {I : Inp} {n : ℕ} (hn : n ≤ 126) (H : IsBlock I n x0 x1 x2 x3) {s : Fin 8 → FVec Ideal S128x256 .f32}
    (hS : ∀ h i j, s h (ix2 i j) = (I.st h n i j : EReal)) (k : ℕ) (hk : k ≤ 2) (h : Fin 8) (x) :
    (piece5 arg1 harg1 arg2 harg2 arg3 harg3 arg4 harg4 x0 x1 x2 x3 s k h).2 x
      = blk5 I n ((piece5 arg1 harg1 arg2 harg2 arg3 harg3 arg4 harg4 x0 x1 x2 x3 s k h).1.emb x) := by
  obtain ⟨a, b, i, j, rfl⟩ : ∃ (a b : Fin 1) (i : Fin 128) (j : Fin 256), x = ix4 a b i j := ⟨x 0, x 1, x 2, x 3, eq_ix4 x⟩
  refine (cast_save _ a b i j).trans ?_
  refine (bst_block arg1 harg1 arg2 harg2 arg3 harg3 arg4 harg4 H h (hS h) k (by omega) i j).trans ?_
  unfold blk5 Inp.out5
  have e1 : 128 - (126 - n + ((Fin.ofNat 3 (2 - k)).1 + 1 * a.1)) = n + k := by simp only [Fin.ofNat]; omega
  show _ = ((I.st _ (128 - (126 - n + ((Fin.ofNat 3 (2 - k)).1 + 1 * a.1))) _ _ : ℝ) : EReal)
  rw [e1]
  congr 2
  · apply Fin.ext; show h.1 = h.1 + 1 * b.1; omega
  · apply Fin.ext; show i.1 = 0 + 1 * i.1; omega
  · apply Fin.ext; show j.1 = 0 + 1 * j.1; omega

theorem piece7_agree {I : Inp} {n : ℕ} (H : IsBlock I n x0 x1 x2 x3) {s : Fin 8 → FVec Ideal S128x256 .f32}
    (hS : ∀ h i j, s h (ix2 i j) = (I.st h n i j : EReal)) (h : Fin 8) (x) :
    (piece7 arg1 harg1 arg2 harg2 arg3 harg3 arg4 harg4 x0 x1 x2 x3 s h).2 x
      = blk7 I (n + 3) ((piece7 arg1 harg1 arg2 harg2 arg3 harg3 arg4 harg4 x0 x1 x2 x3 s h).1.emb x) := by
  obtain ⟨a, i, j, rfl⟩ : ∃ (a : Fin 1) (i : Fin 128) (j : Fin 256), x = ix3 a i j := ⟨x 0, x 1, x 2, eq_ix3 x⟩
  refine (cast_carry (bst arg1 harg1 arg2 harg2 arg3 harg3 arg4 harg4 x0 x1 x2 x3 h (s h) 3) a i j).trans ?_
  refine (bst_block arg1 harg1 arg2 harg2 arg3 harg3 arg4 harg4 H h (hS h) 3 le_rfl i j).trans ?_
  unfold blk7
  congr 2
  · apply Fin.ext; show h.1 = h.1 + 1 * a.1; omega
  · apply Fin.ext; show i.1 = 0 + 1 * i.1; omega
  · apply Fin.ext; show j.1 = 0 + 1 * j.1; omega

end
end Cert.KernelIdeal.Value
end
-- ==== Proof.ScanGrid.lean ====
module
public import proofs.«01_k».proof.Proof.ScanBlock

@[expose] public section

set_option maxRecDepth 16384

namespace Cert.KernelIdeal.Value

open Cert.KernelIdeal Cert.KernelIdeal.Gen Idealize.ShloMosaic Idealize.ShloMosaic.TcCoe Idealize.SL.Sem
open Idealize.ShloMosaic.Pipeline (Dat)
open Cert.Scan

open Facts
variable (m : (ℓ : Loc nD τ sig) → Buf (Elt Ideal) ℓ)

/-- The argument arrays of a device hold the scan's arguments. -/
structure Holds (I : Inp) (c : Dev nD) : Prop where
  d : ∀ R C, (m ((c : Thread nD τ).loc main_arg0) : Vec Ideal S8256x2048 .f32) (ix2 R C) = (I.dO R C : EReal)
  w : ∀ a h r i, (m ((c : Thread nD τ).loc main_arg1) : Vec Ideal S129x8x64x128 .f32) (ix4 a h r i) = (I.w a h r i : EReal)
  q : ∀ a h r i, (m ((c : Thread nD τ).loc main_arg2) : Vec Ideal S129x8x64x128 .f32) (ix4 a h r i) = (I.q a h r i : EReal)
  p : ∀ a h r i, (m ((c : Thread nD τ).loc main_arg3) : Vec Ideal S129x8x64x64 .f32) (ix4 a h r i) = (I.p a h r i : EReal)
  k : ∀ a h r i, (m ((c : Thread nD τ).loc main_arg4) : Vec Ideal S129x8x64x128 .f32) (ix4 a h r i) = (I.k a h r i : EReal)
  g : ∀ a h, (m ((c : Thread nD τ).loc main_arg5) : Vec Ideal S129x8x1x1 .f32) (ix4 a h 0 0) = (I.g a h : EReal)

variable (c : Dev nD)

theorem V_v2 : (V m c main_v2 : FVec Ideal S129x8x64x192 .bf16) = truncf (F := Ideal) (φ := .f32) .bf16 (concatenate S129x8x64x192 3
    [⟨S129x8x64x128, (m ((c : Thread nD τ).loc main_arg4) : Vec Ideal S129x8x64x128 .f32)⟩,
     ⟨S129x8x64x64, transpose S129x8x64x64 [0, 1, 3, 2] (m ((c : Thread nD τ).loc main_arg3) : Vec Ideal S129x8x64x64 .f32) transposes_S129x8x64x64_S129x8x64x64_0_1_3_2⟩]
    concatenates_S129x8x64x128_S129x8x64x64_S129x8x64x192_d3) bitsLt_bf16_f32 := by
  unfold V; after_results

theorem V_v6 : (V m c main_v6 : FVec Ideal S129x8x256x64 .bf16) = truncf (F := Ideal) (φ := .f32) .bf16 (concatenate S129x8x256x64 2
    [⟨S129x8x128x64, transpose S129x8x128x64 [0, 1, 3, 2] (m ((c : Thread nD τ).loc main_arg2) : Vec Ideal S129x8x64x128 .f32) transposes_S129x8x64x128_S129x8x128x64_0_1_3_2⟩,
     ⟨S129x8x128x64, transpose S129x8x128x64 [0, 1, 3, 2] (m ((c : Thread nD τ).loc main_arg1) : Vec Ideal S129x8x64x128 .f32) transposes_S129x8x64x128_S129x8x128x64_0_1_3_2⟩]
    concatenates_S129x8x128x64_S129x8x128x64_S129x8x256x64_d2) bitsLt_bf16_f32 := by
  unfold V; after_results

theorem V_v7 : (V m c main_v7 : Vec Ideal S129x8x8x128 .f32) = broadcastInDim S129x8x8x128 ![0, 1, 2, 3] bcast_S129x8x1x1_S129x8x8x128_0_1_2_3
    (m ((c : Thread nD τ).loc main_arg5) : Vec Ideal S129x8x1x1 .f32) := by
  unfold V; after_results

theorem kpt_k (A4 : FVec Ideal S129x8x64x128 .f32) (A3 : FVec Ideal S129x8x64x64 .f32) (a : Fin 129) (h : Fin 8) (r : Fin 64) (i : Fin 128) :
    truncf (F := Ideal) (φ := .f32) .bf16 (concatenate S129x8x64x192 3 [⟨S129x8x64x128, A4⟩,
      ⟨S129x8x64x64, transpose S129x8x64x64 [0, 1, 3, 2] A3 transposes_S129x8x64x64_S129x8x64x64_0_1_3_2⟩]
      concatenates_S129x8x64x128_S129x8x64x64_S129x8x64x192_d3) bitsLt_bf16_f32 (ix4 a h r ⟨i.1, by omega⟩) = A4 (ix4 a h r i) := by
  pointwise

theorem kpt_p (A4 : FVec Ideal S129x8x64x128 .f32) (A3 : FVec Ideal S129x8x64x64 .f32) (a : Fin 129) (h : Fin 8) (r u : Fin 64) :
    truncf (F := Ideal) (φ := .f32) .bf16 (concatenate S129x8x64x192 3 [⟨S129x8x64x128, A4⟩,
      ⟨S129x8x64x64, transpose S129x8x64x64 [0, 1, 3, 2] A3 transposes_S129x8x64x64_S129x8x64x64_0_1_3_2⟩]
      concatenates_S129x8x64x128_S129x8x64x64_S129x8x64x192_d3) bitsLt_bf16_f32 (ix4 a h r ⟨128 + u.1, by omega⟩) = A3 (ix4 a h u r) := by
  pointwise

theorem qwt_q (A2 A1 : FVec Ideal S129x8x64x128 .f32) (a : Fin 129) (h : Fin 8) (u : Fin 64) (i : Fin 128) :
    truncf (F := Ideal) (φ := .f32) .bf16 (concatenate S129x8x256x64 2
      [⟨S129x8x128x64, transpose S129x8x128x64 [0, 1, 3, 2] A2 transposes_S129x8x64x128_S129x8x128x64_0_1_3_2⟩,
       ⟨S129x8x128x64, transpose S129x8x128x64 [0, 1, 3, 2] A1 transposes_S129x8x64x128_S129x8x128x64_0_1_3_2⟩]
      concatenates_S129x8x128x64_S129x8x128x64_S129x8x256x64_d2) bitsLt_bf16_f32 (ix4 a h ⟨i.1, by omega⟩ u) = A2 (ix4 a h u i) := by
  pointwise

theorem qwt_w (A2 A1 : FVec Ideal S129x8x64x128 .f32) (a : Fin 129) (h : Fin 8) (u : Fin 64) (i : Fin 128) :
    truncf (F := Ideal) (φ := .f32) .bf16 (concatenate S129x8x256x64 2
      [⟨S129x8x128x64, transpose S129x8x128x64 [0, 1, 3, 2] A2 transposes_S129x8x64x128_S129x8x128x64_0_1_3_2⟩,
       ⟨S129x8x128x64, transpose S129x8x128x64 [0, 1, 3, 2] A1 transposes_S129x8x64x128_S129x8x128x64_0_1_3_2⟩]
      concatenates_S129x8x128x64_S129x8x128x64_S129x8x256x64_d2) bitsLt_bf16_f32 (ix4 a h ⟨128 + i.1, by omega⟩ u) = A1 (ix4 a h u i) := by
  pointwise

theorem eg_g (A5 : Vec Ideal S129x8x1x1 .f32) (a : Fin 129) (h : Fin 8) :
    broadcastInDim S129x8x8x128 ![0, 1, 2, 3] bcast_S129x8x1x1_S129x8x8x128_0_1_2_3 A5 (ix4 a h 0 0) = A5 (ix4 a h 0 0) := by
  pointwise

/-- The block that a point visits: the last first. -/
theorem idx0 : ∀ t : Fin cfg0.N, win0_0.index t (0 : Fin 2) = 42 - t.1 ∧ win0_0.index t (1 : Fin 2) = 0 := (by decide +kernel : ∀ t : Fin grid0.N, _)
theorem idx1 : ∀ t : Fin cfg0.N, win0_1.index t (0 : Fin 4) = 42 - t.1 ∧ win0_1.index t (1 : Fin 4) = 0 ∧ win0_1.index t (2 : Fin 4) = 0
    ∧ win0_1.index t (3 : Fin 4) = 0 := (by decide +kernel : ∀ t : Fin grid0.N, _)
theorem idx2 : ∀ t : Fin cfg0.N, win0_2.index t (0 : Fin 4) = 42 - t.1 ∧ win0_2.index t (1 : Fin 4) = 0 ∧ win0_2.index t (2 : Fin 4) = 0
    ∧ win0_2.index t (3 : Fin 4) = 0 := (by decide +kernel : ∀ t : Fin grid0.N, _)
theorem idx3 : ∀ t : Fin cfg0.N, win0_3.index t (0 : Fin 4) = 42 - t.1 ∧ win0_3.index t (1 : Fin 4) = 0 ∧ win0_3.index t (2 : Fin 4) = 0
    ∧ win0_3.index t (3 : Fin 4) = 0 := (by decide +kernel : ∀ t : Fin grid0.N, _)
theorem idx4 : ∀ t : Fin cfg0.N, win0_4.index t (0 : Fin 2) = 42 - t.1 ∧ win0_4.index t (1 : Fin 2) = 0 := (by decide +kernel : ∀ t : Fin grid0.N, _)
theorem idx5 : ∀ t : Fin cfg0.N, win0_5.index t (0 : Fin 4) = 42 - t.1 ∧ win0_5.index t (1 : Fin 4) = 0 ∧ win0_5.index t (2 : Fin 4) = 0
    ∧ win0_5.index t (3 : Fin 4) = 0 := (by decide +kernel : ∀ t : Fin grid0.N, _)

theorem iblk0 (t : Fin cfg0.N) (R : Fin 192) (C : Fin 2048) :
    (iblk m c 0 t : Vec Ideal S192x2048 .f32) (ix2 R C) = (m ((c : Thread nD τ).loc main_arg0) : Vec Ideal S8256x2048 .f32) (ix2 ⟨192 * (42 - t.1) + R.1, by omega⟩ C) := by
  obtain ⟨e0, e1⟩ := idx0 t
  rw [← V_main_arg0 m c]
  refine congrArg (V m c main_arg0) (funext fun a => Fin.ext ?_)
  match a with
  | ⟨0, _⟩ => show win0_0.index t (0 : Fin 2) * 192 + 1 * R.1 = 192 * (42 - t.1) + R.1; omega
  | ⟨1, _⟩ => show win0_0.index t (1 : Fin 2) * 2048 + 1 * C.1 = C.1; omega

theorem iblk1 (t : Fin cfg0.N) (l : Fin 3) (h : Fin 8) (r : Fin 64) (k : Fin 192) :
    (iblk m c 1 t : Vec Ideal S3x8x64x192 .bf16) (ix4 l h r k) = (V m c main_v2 : FVec Ideal S129x8x64x192 .bf16) (ix4 ⟨3 * (42 - t.1) + l.1, by omega⟩ h r k) := by
  obtain ⟨e0, e1, e2, e3⟩ := idx1 t
  refine congrArg (V m c main_v2) (funext fun a => Fin.ext ?_)
  match a with
  | ⟨0, _⟩ => show win0_1.index t (0 : Fin 4) * 3 + 1 * l.1 = 3 * (42 - t.1) + l.1; omega
  | ⟨1, _⟩ => show win0_1.index t (1 : Fin 4) * 8 + 1 * h.1 = h.1; omega
  | ⟨2, _⟩ => show win0_1.index t (2 : Fin 4) * 64 + 1 * r.1 = r.1; omega
  | ⟨3, _⟩ => show win0_1.index t (3 : Fin 4) * 192 + 1 * k.1 = k.1; omega

theorem iblk2 (t : Fin cfg0.N) (l : Fin 3) (h : Fin 8) (r : Fin 256) (k : Fin 64) :
    (iblk m c 2 t : Vec Ideal S3x8x256x64 .bf16) (ix4 l h r k) = (V m c main_v6 : FVec Ideal S129x8x256x64 .bf16) (ix4 ⟨3 * (42 - t.1) + l.1, by omega⟩ h r k) := by
  obtain ⟨e0, e1, e2, e3⟩ := idx2 t
  refine congrArg (V m c main_v6) (funext fun a => Fin.ext ?_)
  match a with
  | ⟨0, _⟩ => show win0_2.index t (0 : Fin 4) * 3 + 1 * l.1 = 3 * (42 - t.1) + l.1; omega
  | ⟨1, _⟩ => show win0_2.index t (1 : Fin 4) * 8 + 1 * h.1 = h.1; omega
  | ⟨2, _⟩ => show win0_2.index t (2 : Fin 4) * 256 + 1 * r.1 = r.1; omega
  | ⟨3, _⟩ => show win0_2.index t (3 : Fin 4) * 64 + 1 * k.1 = k.1; omega

theorem iblk3 (t : Fin cfg0.N) (l : Fin 3) (h : Fin 8) :
    (iblk m c 3 t : Vec Ideal S3x8x8x128 .f32) (ix4 l h 0 0) = (V m c main_v7 : Vec Ideal S129x8x8x128 .f32) (ix4 ⟨3 * (42 - t.1) + l.1, by omega⟩ h 0 0) := by
  obtain ⟨e0, e1, e2, e3⟩ := idx3 t
  refine congrArg (V m c main_v7) (funext fun a => Fin.ext ?_)
  match a with
  | ⟨0, _⟩ => show win0_3.index t (0 : Fin 4) * 3 + 1 * l.1 = 3 * (42 - t.1) + l.1; omega
  | ⟨1, _⟩ => show win0_3.index t (1 : Fin 4) * 8 + 1 * h.1 = h.1; omega
  | ⟨2, _⟩ => show win0_3.index t (2 : Fin 4) * 8 + 1 * 0 = 0; omega
  | ⟨3, _⟩ => show win0_3.index t (3 : Fin 4) * 128 + 1 * 0 = 0; omega

variable {m c}
theorem isBlock {I : Inp} (H : Holds m I c) (t : Fin cfg0.N) : IsBlock I (3 * t.1) (iblk m c 0 t) (iblk m c 1 t) (iblk m c 2 t) (iblk m c 3 t) := by
  have hN : t.1 < 43 := lt_of_lt_of_eq t.isLt N_0
  have e (l : Fin 3) : (⟨3 * (42 - t.1) + l.1, by omega⟩ : Fin 129) = Inp.ch (3 * t.1 + (2 - l.1)) := Fin.ext (by simp only [Inp.ch]; omega)
  constructor
  · intro l h r j
    refine (iblk0 m c t _ _).trans ((H.d _ _).trans ?_)
    rw [← e l]
    unfold Inp.D
    congr 2
    exact Fin.ext (by dsimp only; omega)
  · intro l h r i
    rw [iblk1, V_v2, kpt_k, e, H.k]
  · intro l h r u
    rw [iblk1, V_v2, kpt_p, e, H.p]
  · intro l h u i
    rw [iblk2, V_v6, qwt_q, e, H.q]
  · intro l h u i
    rw [iblk2, V_v6, qwt_w, e, H.w]
  · intro l h
    rw [iblk3, V_v7, eg_g, e, H.g]

end Cert.KernelIdeal.Value
end
-- ==== Proof.ScanRun.lean ====
module
public import proofs.«01_k».proof.Proof.ScanGrid

@[expose] public section

set_option maxRecDepth 16384

namespace Cert.KernelIdeal.Value

open Cert.KernelIdeal Cert.KernelIdeal.Gen Idealize.ShloMosaic Idealize.ShloMosaic.TcCoe Idealize.SL.Sem
open Idealize.ShloMosaic.Pipeline (Dat)
open Cert.Scan

section
variable (c : Dev nD) (i : grid0.Coords) (arg1 : Memref sig .tc .vmem S192x2048 .f32) (harg1 : arg1.IsWhole) (arg2 : Memref sig .tc .vmem S3x8x64x192 .bf16)
  (harg2 : arg2.IsWhole) (arg3 : Memref sig .tc .vmem S3x8x256x64 .bf16) (harg3 : arg3.IsWhole) (arg4 : Memref sig .tc .vmem S3x8x8x128 .f32)
  (harg4 : arg4.IsWhole) (arg5 : Memref sig .tc .vmem S192x2048 .f32) (harg5 : arg5.IsWhole) (arg6 : Memref sig .tc .vmem S3x8x128x256 .bf16)
  (harg6 : arg6.IsWhole) (arg7 : Memref sig .tc .vmem S8x128x256 .f32) (harg7 : arg7.IsWhole)
variable {x0 : Vec Ideal S192x2048 .f32} {x1 : Vec Ideal S3x8x64x192 .bf16} {x2 : Vec Ideal S3x8x256x64 .bf16} {x3 : Vec Ideal S3x8x8x128 .f32}
  {xs0 : Vec Ideal S8x128x256 .f32} {I : Inp} {n : ℕ}

theorem agree4 {s : Fin 8 → FVec Ideal S128x256 .f32} (hn : n ≤ 126) (H : IsBlock I n x0 x1 x2 x3) (hS : ∀ h i j, s h (ix2 i j) = (I.st h n i j : EReal)) :
    ∀ pc ∈ [2, 1, 0].flatMap fun k => heads.map (piece4 arg1 harg1 arg2 harg2 arg3 harg3 arg4 harg4 x0 x1 x2 x3 s k), ∀ x, pc.2 x = blk4 I n (pc.1.emb x) := by
  intro pc hpc
  obtain ⟨k, hk, hpc⟩ := List.mem_flatMap.1 hpc
  obtain ⟨h, _, rfl⟩ := List.mem_map.1 hpc
  refine piece4_agree arg1 harg1 arg2 harg2 arg3 harg3 arg4 harg4 hn H hS k ?_ h
  simp only [List.mem_cons, List.not_mem_nil, or_false] at hk; omega

theorem agree5 {s : Fin 8 → FVec Ideal S128x256 .f32} (hn : n ≤ 126) (H : IsBlock I n x0 x1 x2 x3) (hS : ∀ h i j, s h (ix2 i j) = (I.st h n i j : EReal)) :
    ∀ pc ∈ [2, 1, 0].flatMap fun k => heads.map (piece5 arg1 harg1 arg2 harg2 arg3 harg3 arg4 harg4 x0 x1 x2 x3 s k), ∀ x, pc.2 x = blk5 I n (pc.1.emb x) := by
  intro pc hpc
  obtain ⟨k, hk, hpc⟩ := List.mem_flatMap.1 hpc
  obtain ⟨h, _, rfl⟩ := List.mem_map.1 hpc
  refine piece5_agree arg1 harg1 arg2 harg2 arg3 harg3 arg4 harg4 hn H hS k ?_ h
  simp only [List.mem_cons, List.not_mem_nil, or_false] at hk; omega

theorem agree7 {s : Fin 8 → FVec Ideal S128x256 .f32} (H : IsBlock I n x0 x1 x2 x3) (hS : ∀ h i j, s h (ix2 i j) = (I.st h n i j : EReal)) :
    ∀ pc ∈ heads.map (piece7 arg1 harg1 arg2 harg2 arg3 harg3 arg4 harg4 x0 x1 x2 x3 s), ∀ x, pc.2 x = blk7 I (n + 3) (pc.1.emb x) := by
  intro pc hpc
  obtain ⟨h, _, rfl⟩ := List.mem_map.1 hpc
  exact piece7_agree arg1 harg1 arg2 harg2 arg3 harg3 arg4 harg4 H hS h

theorem cover7 {s : Fin 8 → FVec Ideal S128x256 .f32} (y : S8x128x256.Idx) :
    ∃ pc ∈ heads.map (piece7 arg1 harg1 arg2 harg2 arg3 harg3 arg4 harg4 x0 x1 x2 x3 s), y ∈ pc.1.set := by
  obtain ⟨h, i, j, rfl⟩ : ∃ (h : Fin 8) (i : Fin 128) (j : Fin 256), y = ix3 h i j := ⟨y 0, y 1, y 2, eq_ix3 y⟩
  refine ⟨_, List.mem_map_of_mem (show h ∈ heads from ?_), (Rect.mem_set_unit (inb := inb7 h)).2 fun a => ?_⟩
  · have : ∀ h : Fin 8, h ∈ heads := by decide
    exact this h
  · match a with
    | ⟨0, _⟩ => exact ⟨le_refl h.1, Nat.lt_succ_self h.1⟩
    | ⟨1, _⟩ => exact ⟨Nat.zero_le i.1, by show i.1 < 0 + 128; omega⟩
    | ⟨2, _⟩ => exact ⟨Nat.zero_le j.1, by show j.1 < 0 + 256; omega⟩

theorem st_ld7 (hxs : xs0 = blk7 I n) (h : Fin 8) (i : Fin 128) (j : Fin 256) : ld7 arg7 harg7 xs0 h (ix2 i j) = (I.st h n i j : EReal) := by
  rw [ld7_apply, hxs]; rfl

theorem out_B (hn : n ≤ 126) (H : IsBlock I n x0 x1 x2 x3) (hxs : xs0 = blk7 I n) (hc0 : ¬cond0_0 i) :
    out0_B_4 c i arg1 harg1 arg2 harg2 arg3 harg3 arg4 harg4 arg5 harg5 arg6 harg6 arg7 harg7 hc0 x0 x1 x2 x3 xs0 = blk4 I n
    ∧ out0_B_5 c i arg1 harg1 arg2 harg2 arg3 harg3 arg4 harg4 arg5 harg5 arg6 harg6 arg7 harg7 hc0 x0 x1 x2 x3 xs0 = blk5 I n
    ∧ sout0_B_0 c i arg1 harg1 arg2 harg2 arg3 harg3 arg4 harg4 arg5 harg5 arg6 harg6 arg7 harg7 hc0 x0 x1 x2 x3 xs0 = blk7 I (n + 3) := by
  have hS := st_ld7 arg7 harg7 (xs0 := xs0) hxs
  refine ⟨?_, ?_, ?_⟩
  · unfold out0_B_4
    rw [View.read_writes_junk_eq_canon]
    funext y
    refine canon_of_agree (Val := Elt Ideal) (blk4 I n) _ y (cover0_B_4 ..) ?_
    rw [pieces4_B]
    exact agree4 arg1 harg1 arg2 harg2 arg3 harg3 arg4 harg4 hn H hS
  · unfold out0_B_5
    rw [View.read_writes_junk_eq_canon]
    funext y
    refine canon_of_agree (Val := Elt Ideal) (blk5 I n) _ y (cover0_B_5 ..) ?_
    rw [pieces5_B]
    exact agree5 arg1 harg1 arg2 harg2 arg3 harg3 arg4 harg4 hn H hS
  · unfold sout0_B_0
    rw [View.read_writes_junk_eq_canon]
    funext y
    rw [pieces7_B]
    exact canon_of_agree (Val := Elt Ideal) (blk7 I (n + 3)) _ y (cover7 arg1 harg1 arg2 harg2 arg3 harg3 arg4 harg4 y) (agree7 arg1 harg1 arg2 harg2 arg3 harg3 arg4 harg4 H hS)

theorem out_A (H : IsBlock I 0 x0 x1 x2 x3) (hc0 : cond0_0 i) :
    out0_A_4 c i arg1 harg1 arg2 harg2 arg3 harg3 arg4 harg4 arg5 harg5 arg6 harg6 arg7 harg7 hc0 x0 x1 x2 x3 = blk4 I 0
    ∧ out0_A_5 c i arg1 harg1 arg2 harg2 arg3 harg3 arg4 harg4 arg5 harg5 arg6 harg6 arg7 harg7 hc0 x0 x1 x2 x3 = blk5 I 0
    ∧ sout0_A_0 c i arg1 harg1 arg2 harg2 arg3 harg3 arg4 harg4 arg5 harg5 arg6 harg6 arg7 harg7 hc0 x0 x1 x2 x3 = blk7 I (0 + 3) := by
  have hS (h i j) : ld7z arg7 h (ix2 i j) = (I.st h 0 i j : EReal) := ld7z_apply arg7 h i j
  refine ⟨?_, ?_, ?_⟩
  · unfold out0_A_4
    rw [View.read_writes_junk_eq_canon]
    funext y
    refine canon_of_agree (Val := Elt Ideal) (blk4 I 0) _ y (cover0_A_4 ..) ?_
    rw [pieces4_A]
    exact agree4 arg1 harg1 arg2 harg2 arg3 harg3 arg4 harg4 (Nat.zero_le _) H hS
  · unfold out0_A_5
    rw [View.read_writes_junk_eq_canon]
    funext y
    refine canon_of_agree (Val := Elt Ideal) (blk5 I 0) _ y (cover0_A_5 ..) ?_
    rw [pieces5_A]
    exact agree5 arg1 harg1 arg2 harg2 arg3 harg3 arg4 harg4 (Nat.zero_le _) H hS
  · unfold sout0_A_0
    rw [View.read_writes_junk_eq_canon]
    funext y
    rw [pieces7_A]
    exact canon_append_of_agree (Val := Elt Ideal) (blk7 I (0 + 3)) _ _ y (cover7 arg1 harg1 arg2 harg2 arg3 harg3 arg4 harg4 y) (agree7 arg1 harg1 arg2 harg2 arg3 harg3 arg4 harg4 H hS)
end

variable {m : (ℓ : Loc nD τ sig) → Buf (Elt Ideal) ℓ} {c : Dev nD} {I : Inp}

theorem outs (H : Holds m I c) : ∀ (t : ℕ) (ht : t < cfg0.N),
    (outsAt0 m c t ht).1 = blk4 I (3 * t) ∧ (outsAt0 m c t ht).2.1 = blk5 I (3 * t) ∧ (outsAt0 m c t ht).2.2 = blk7 I (3 * t + 3) := by
  intro t
  induction t with
  | zero =>
    intro ht
    rw [Nat.mul_zero]
    have e := outsAt0_A m c ⟨0, ht⟩ (Nat.zero_mod 43)
    have hb : IsBlock I 0 _ _ _ _ := isBlock H ⟨0, ht⟩
    have h := out_A c (grid0.coords ⟨0, ht⟩) (ms0_0 ⟨0, ht⟩) (hs0_0 ⟨0, ht⟩) (ms0_1 ⟨0, ht⟩) (hs0_1 ⟨0, ht⟩) (ms0_2 ⟨0, ht⟩) (hs0_2 ⟨0, ht⟩) (ms0_3 ⟨0, ht⟩) (hs0_3 ⟨0, ht⟩) (ms0_4 ⟨0, ht⟩) (hs0_4 ⟨0, ht⟩) (ms0_5 ⟨0, ht⟩) (hs0_5 ⟨0, ht⟩) scM0_0 (Memref.isWhole_whole _) hb
      ((hcond0_0 ⟨0, ht⟩).mpr (Nat.zero_mod 43))
    dsimp only at e
    rw [e]
    dsimp only
    exact h
  | succ t ih =>
    intro ht
    have hN : t + 1 < 43 := lt_of_lt_of_eq ht N_0
    have h0 : ¬(t + 1) % 43 = 0 := by omega
    have e := outsAt0_B m c ⟨t + 1, ht⟩ h0
    have hb : IsBlock I (3 * (t + 1)) _ _ _ _ := isBlock H ⟨t + 1, ht⟩
    have h := out_B c (grid0.coords ⟨t + 1, ht⟩) (ms0_0 ⟨t + 1, ht⟩) (hs0_0 ⟨t + 1, ht⟩) (ms0_1 ⟨t + 1, ht⟩) (hs0_1 ⟨t + 1, ht⟩) (ms0_2 ⟨t + 1, ht⟩) (hs0_2 ⟨t + 1, ht⟩) (ms0_3 ⟨t + 1, ht⟩) (hs0_3 ⟨t + 1, ht⟩) (ms0_4 ⟨t + 1, ht⟩) (hs0_4 ⟨t + 1, ht⟩) (ms0_5 ⟨t + 1, ht⟩) (hs0_5 ⟨t + 1, ht⟩) scM0_0 (Memref.isWhole_whole _)
      (by omega) hb (ih (Nat.lt_of_succ_lt ht)).2.2 (fun h => h0 ((hcond0_0 ⟨t + 1, ht⟩).mp h))
    dsimp only at e
    rw [e]
    dsimp only
    exact h

theorem final4 (H : Holds m I c) :
    (dats m 0 c).arrAt 4 cfg0.N = fun y : S8256x2048.Idx => ((I.out4 (y 0) (y 1) : ℝ) : EReal) := by
  refine (dats m 0 c).arrAt_eq_of_cover 4 _ (fun t _ => ?_) fun y => ?_
  · have hN : t.1 < 43 := lt_of_lt_of_eq t.isLt N_0
    rw [flushed4, (outs H t.1 t.isLt).1]
    funext y
    obtain ⟨R, C, rfl⟩ : ∃ (R : Fin 192) (C : Fin 2048), y = ix2 R C := ⟨y 0, y 1, eq_ix2 y⟩
    obtain ⟨e0, e1⟩ := idx4 t
    show ((I.out4 _ _ : ℝ) : EReal) = ((I.out4 _ _ : ℝ) : EReal)
    congr 2
    · apply Fin.ext
      show 64 * (126 - 3 * t.1) + R.1 = win0_4.index t (0 : Fin 2) * 192 + 1 * R.1
      omega
    · apply Fin.ext
      show C.1 = win0_4.index t (1 : Fin 2) * 2048 + 1 * C.1
      omega
  · obtain ⟨R, C, rfl⟩ : ∃ (R : Fin 8256) (C : Fin 2048), y = ix2 R C := ⟨y 0, y 1, eq_ix2 y⟩
    have ht : 42 - R.1 / 192 < cfg0.N := lt_of_lt_of_eq (by omega) N_0.symm
    refine ⟨⟨42 - R.1 / 192, ht⟩, flush0_4 _, ?_⟩
    obtain ⟨e0, e1⟩ := idx4 ⟨42 - R.1 / 192, ht⟩
    have h := ((cfg0.win 4).blk ⟨42 - R.1 / 192, ht⟩).view.emb_mem_set (ix2 (⟨R.1 % 192, by omega⟩ : Fin 192) C)
    have e : ((cfg0.win 4).blk ⟨42 - R.1 / 192, ht⟩).view.emb (ix2 (⟨R.1 % 192, by omega⟩ : Fin 192) C) = ix2 R C := by
      funext a; apply Fin.ext
      match a with
      | ⟨0, _⟩ => show win0_4.index _ (0 : Fin 2) * 192 + 1 * (R.1 % 192) = R.1; rw [e0]; dsimp only; omega
      | ⟨1, _⟩ => show win0_4.index _ (1 : Fin 2) * 2048 + 1 * C.1 = C.1; rw [e1]; omega
    rwa [e] at h

theorem final5 (H : Holds m I c) :
    (dats m 0 c).arrAt 5 cfg0.N = fun y : S129x8x128x256.Idx => ((I.out5 (y 0) (y 1) (y 2) (y 3) : ℝ) : EReal) := by
  refine (dats m 0 c).arrAt_eq_of_cover 5 _ (fun t _ => ?_) fun y => ?_
  · have hN : t.1 < 43 := lt_of_lt_of_eq t.isLt N_0
    rw [flushed5, (outs H t.1 t.isLt).2.1]
    funext y
    obtain ⟨l, h, i, j, rfl⟩ : ∃ (l : Fin 3) (h : Fin 8) (i : Fin 128) (j : Fin 256), y = ix4 l h i j := ⟨y 0, y 1, y 2, y 3, eq_ix4 y⟩
    obtain ⟨e0, e1, e2, e3⟩ := idx5 t
    show ((I.out5 _ _ _ _ : ℝ) : EReal) = ((I.out5 _ _ _ _ : ℝ) : EReal)
    congr 2
    · apply Fin.ext; show 126 - 3 * t.1 + l.1 = win0_5.index t (0 : Fin 4) * 3 + 1 * l.1; omega
    · apply Fin.ext; show h.1 = win0_5.index t (1 : Fin 4) * 8 + 1 * h.1; omega
    · apply Fin.ext; show i.1 = win0_5.index t (2 : Fin 4) * 128 + 1 * i.1; omega
    · apply Fin.ext; show j.1 = win0_5.index t (3 : Fin 4) * 256 + 1 * j.1; omega
  · obtain ⟨R, h, i, j, rfl⟩ : ∃ (R : Fin 129) (h : Fin 8) (i : Fin 128) (j : Fin 256), y = ix4 R h i j := ⟨y 0, y 1, y 2, y 3, eq_ix4 y⟩
    have ht : 42 - R.1 / 3 < cfg0.N := lt_of_lt_of_eq (by omega) N_0.symm
    refine ⟨⟨42 - R.1 / 3, ht⟩, flush0_5 _, ?_⟩
    obtain ⟨e0, e1, e2, e3⟩ := idx5 ⟨42 - R.1 / 3, ht⟩
    have hm := ((cfg0.win 5).blk ⟨42 - R.1 / 3, ht⟩).view.emb_mem_set (ix4 (⟨R.1 % 3, by omega⟩ : Fin 3) h i j)
    have e : ((cfg0.win 5).blk ⟨42 - R.1 / 3, ht⟩).view.emb (ix4 (⟨R.1 % 3, by omega⟩ : Fin 3) h i j) = ix4 R h i j := by
      funext a; apply Fin.ext
      match a with
      | ⟨0, _⟩ => show win0_5.index _ (0 : Fin 4) * 3 + 1 * (R.1 % 3) = R.1; rw [e0]; dsimp only; omega
      | ⟨1, _⟩ => show win0_5.index _ (1 : Fin 4) * 8 + 1 * h.1 = h.1; rw [e1]; omega
      | ⟨2, _⟩ => show win0_5.index _ (2 : Fin 4) * 128 + 1 * i.1 = i.1; rw [e2]; omega
      | ⟨3, _⟩ => show win0_5.index _ (3 : Fin 4) * 256 + 1 * j.1 = j.1; rw [e3]; omega
    rwa [e] at hm

end Cert.KernelIdeal.Value
end
-- ==== Proof.HostSlice.lean ====
module
public import proofs.«01_k».proof.Proof.Common
public import Idealize.ShloMosaic.Lib.DynamicIndex

/-! Reading and writing one slab of a stacked array of rank four at a start that lies inside it. -/

@[expose] public section

namespace Cert

open Idealize.ShloMosaic

variable {α : Type} {n0 n1 n2 n3 : ℕ}

/-- The stack's shape, and one slab's. -/
abbrev Stk (n0 n1 n2 n3 : ℕ) : Shape := ⟨4, ![n0, n1, n2, n3]⟩

theorem slab_fits (a : Fin n0) : (Stk n0 n1 n2 n3).Slices ![a.1, 0, 0, 0] (Stk 1 n1 n2 n3) :=
  ⟨rfl, fun k => by
    match k with
    | ⟨0, _⟩ => show a.1 + 1 ≤ n0; omega
    | ⟨1, _⟩ => show 0 + n1 ≤ n1; omega
    | ⟨2, _⟩ => show 0 + n2 ≤ n2; omega
    | ⟨3, _⟩ => show 0 + n3 ≤ n3; omega⟩

/-- One slab read. -/
theorem slab_read (x : (Stk n0 n1 n2 n3).Idx → α) (start : Fin (Stk n0 n1 n2 n3).rank → ℤ) (h : (Stk n0 n1 n2 n3).Slices (fun _ => 0) (Stk 1 n1 n2 n3))
    (a : Fin n0) (hs : ∀ k, start k = ((![a.1, 0, 0, 0] : Fin 4 → ℕ) k : ℤ)) (z : Fin 1) (i : Fin n1) (j : Fin n2) (k : Fin n3) :
    Host.dynamicSlice (Stk 1 n1 n2 n3) x start h (ix4 z i j k) = x (ix4 a i j k) := by
  rw [Host.dynamicSlice_eq_extractStridedSlice _ x start ![a.1, 0, 0, 0] h (slab_fits a) hs]
  unfold extractStridedSlice
  refine congrArg x (funext fun b => Fin.ext ?_)
  match b with
  | ⟨0, _⟩ => show a.1 + z.1 = a.1; omega
  | ⟨1, _⟩ => show 0 + i.1 = i.1; omega
  | ⟨2, _⟩ => show 0 + j.1 = j.1; omega
  | ⟨3, _⟩ => show 0 + k.1 = k.1; omega

/-- One slab written. -/
theorem slab_write (x : (Stk n0 n1 n2 n3).Idx → α) (u : (Stk 1 n1 n2 n3).Idx → α) (start : Fin (Stk n0 n1 n2 n3).rank → ℤ)
    (h : (Stk n0 n1 n2 n3).Slices (fun _ => 0) (Stk 1 n1 n2 n3)) (a : Fin n0) (hs : ∀ k, start k = ((![a.1, 0, 0, 0] : Fin 4 → ℕ) k : ℤ))
    (b : Fin n0) (i : Fin n1) (j : Fin n2) (k : Fin n3) :
    Host.dynamicUpdateSlice x u start h (ix4 b i j k) = if b = a then u (ix4 0 i j k) else x (ix4 b i j k) := by
  rw [Host.dynamicUpdateSlice_eq_updateSlice x u start h ![a.1, 0, 0, 0] (fun k => by have := (slab_fits (n1 := n1) (n2 := n2) (n3 := n3) a).2 k; rw [hs k]; omega)
    (slab_fits a)]
  unfold updateSlice
  by_cases hb : b = a
  · subst hb
    rw [if_pos rfl, dif_pos]
    · refine congrArg u (funext fun c => Fin.ext ?_)
      match c with
      | ⟨0, _⟩ => show b.1 - b.1 = 0; omega
      | ⟨1, _⟩ => show i.1 - 0 = i.1; omega
      | ⟨2, _⟩ => show j.1 - 0 = j.1; omega
      | ⟨3, _⟩ => show k.1 - 0 = k.1; omega
    · intro c
      match c with
      | ⟨0, _⟩ => exact ⟨le_refl b.1, by show b.1 < b.1 + 1; omega⟩
      | ⟨1, _⟩ => exact ⟨Nat.zero_le i.1, by show i.1 < 0 + n1; omega⟩
      | ⟨2, _⟩ => exact ⟨Nat.zero_le j.1, by show j.1 < 0 + n2; omega⟩
      | ⟨3, _⟩ => exact ⟨Nat.zero_le k.1, by show k.1 < 0 + n3; omega⟩
  · rw [if_neg hb, dif_neg]
    intro hall
    have h0 := hall (0 : Fin 4)
    have h1 : a.1 ≤ b.1 := h0.1
    have h2 : b.1 < a.1 + 1 := h0.2
    exact hb (Fin.ext (by omega))

end Cert
end
-- ==== Proof.ScanRef.lean ====
module
public import proofs.«01_k».proof.Proof.Gen.ReferenceIdeal.Run
public import proofs.«01_k».proof.Proof.ScanModel
public import proofs.«01_k».proof.Proof.HostSlice

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.StableHlo
open Cert.Scan

/-- One chunk's gradient of the corrected values, as the reference's loop computes it for all heads. -/
def opDv (S : FVec Ideal S8x128x256 .f32) (K : FVec Ideal S1x8x64x128 .f32) (P : FVec Ideal S1x8x64x64 .f32) (D : FVec Ideal S8x64x256 .f32) :
    FVec Ideal S8x64x256 .f32 :=
  addf (transpose S8x64x256 [0, 2, 1] (Host.dotGeneral dot_S8x128x256_S8x64x128_S8x256x64_1_2_2_1_0_0 none S
      (shapeCast S8x64x128 K shapeCasts_S1x8x64x128_S8x64x128)) transposes_S8x256x64_S8x64x256_0_2_1)
    (transpose S8x64x256 [0, 2, 1] (Host.dotGeneral dot_S8x64x256_S8x64x64_S8x256x64_1_1_2_2_0_0 none D
      (shapeCast S8x64x64 P shapeCasts_S1x8x64x64_S8x64x64)) transposes_S8x256x64_S8x64x256_0_2_1)

/-- The state's gradient one chunk earlier, as the reference's loop computes it for all heads. -/
def opUp (S : FVec Ideal S8x128x256 .f32) (G : FVec Ideal S1x8x1x1 .f32) (Q W : FVec Ideal S1x8x64x128 .f32) (D V : FVec Ideal S8x64x256 .f32) :
    FVec Ideal S8x128x256 .f32 :=
  addf (addf (mulf S (broadcastInDim S8x128x256 ![0, 1, 2] bcast_S8x1x1_S8x128x256_0_1_2 (shapeCast S8x1x1 G shapeCasts_S1x8x1x1_S8x1x1)))
      (transpose S8x128x256 [0, 2, 1] (Host.dotGeneral dot_S8x64x256_S8x64x128_S8x256x128_1_1_2_2_0_0 none D
        (shapeCast S8x64x128 Q shapeCasts_S1x8x64x128_S8x64x128)) transposes_S8x256x128_S8x128x256_0_2_1))
    (transpose S8x128x256 [0, 2, 1] (Host.dotGeneral dot_S8x64x256_S8x64x128_S8x256x128_1_1_2_2_0_0 none (Host.negf V)
      (shapeCast S8x64x128 W shapeCasts_S1x8x64x128_S8x64x128)) transposes_S8x256x128_S8x128x256_0_2_1)

theorem opDv_coe {S : FVec Ideal S8x128x256 .f32} {K : FVec Ideal S1x8x64x128 .f32} {P : FVec Ideal S1x8x64x64 .f32} {D : FVec Ideal S8x64x256 .f32}
    {I : Inp} {c : Fin 129} {s : Fin 8 → Fin 128 → Fin 256 → ℝ}
    (hS : ∀ h i j, S (ix3 h i j) = (s h i j : EReal)) (hK : ∀ h r i, K (ix4 0 h r i) = (I.k c h r i : EReal))
    (hP : ∀ h u r, P (ix4 0 h u r) = (I.p c h u r : EReal)) (hD : ∀ h r j, D (ix3 h r j) = (I.D c h r j : EReal)) (h : Fin 8) (r : Fin 64) (j : Fin 256) :
    opDv S K P D (ix3 h r j) = (I.dv c h (s h) r j : EReal) := by
  unfold opDv
  pointwise
  simp only [hS, hK, hP, hD, Inp.dv, EReal.coe_add, coe_sum, EReal.coe_mul, mul_comm]

theorem opUp_coe {S : FVec Ideal S8x128x256 .f32} {G : FVec Ideal S1x8x1x1 .f32} {Q W : FVec Ideal S1x8x64x128 .f32} {D V : FVec Ideal S8x64x256 .f32}
    {I : Inp} {c : Fin 129} {s : Fin 8 → Fin 128 → Fin 256 → ℝ}
    (hS : ∀ h i j, S (ix3 h i j) = (s h i j : EReal)) (hG : ∀ h, G (ix4 0 h 0 0) = (I.g c h : EReal)) (hQ : ∀ h r i, Q (ix4 0 h r i) = (I.q c h r i : EReal))
    (hW : ∀ h r i, W (ix4 0 h r i) = (I.w c h r i : EReal)) (hD : ∀ h r j, D (ix3 h r j) = (I.D c h r j : EReal))
    (hV : ∀ h r j, V (ix3 h r j) = (I.dv c h (s h) r j : EReal)) (h : Fin 8) (i : Fin 128) (j : Fin 256) :
    opUp S G Q W D V (ix3 h i j) = (I.up c h (s h) i j : EReal) := by
  unfold opUp
  pointwise
  simp only [hS, hG, hQ, hW, hD, hV, ← EReal.coe_mul, ← EReal.coe_neg, ← coe_sum, ← EReal.coe_add]
  refine congrArg _ ?_
  unfold Inp.up
  simp only [neg_mul, Finset.sum_neg_distrib, ← sub_eq_add_neg, mul_comm]

/-- What the loop's buffers hold after `n` trips. -/
structure Inv (I : Inp) (n : ℕ) (V0 : Valuation τ sig (Elt Ideal)) : Prop where
  d : ∀ a h r j, (V0 (Proc.devRef .tc main_v8_0) : FVec Ideal S129x8x64x256 .f32) (ix4 a h r j) = (I.D a h r j : EReal)
  g : ∀ a h, (V0 (Proc.devRef .tc main_v8_1) : FVec Ideal S129x8x1x1 .f32) (ix4 a h 0 0) = (I.g a h : EReal)
  k : ∀ a h r i, (V0 (Proc.devRef .tc main_v8_2) : FVec Ideal S129x8x64x128 .f32) (ix4 a h r i) = (I.k a h r i : EReal)
  w : ∀ a h r i, (V0 (Proc.devRef .tc main_v8_3) : FVec Ideal S129x8x64x128 .f32) (ix4 a h r i) = (I.w a h r i : EReal)
  q : ∀ a h r i, (V0 (Proc.devRef .tc main_v8_4) : FVec Ideal S129x8x64x128 .f32) (ix4 a h r i) = (I.q a h r i : EReal)
  p : ∀ a h u r, (V0 (Proc.devRef .tc main_v8_5) : FVec Ideal S129x8x64x64 .f32) (ix4 a h u r) = (I.p a h u r : EReal)
  ctr : (V0 (Proc.devRef .tc main_v8_6) : IVec S_ 32) = fun _ => BitVec.ofNat 32 n
  st : ∀ h i j, (V0 (Proc.devRef .tc main_v8_7) : FVec Ideal S8x128x256 .f32) (ix3 h i j) = (I.st h n i j : EReal)
  dv : ∀ a h r j, 129 ≤ a.1 + n → (V0 (Proc.devRef .tc main_v8_8) : FVec Ideal S129x8x64x256 .f32) (ix4 a h r j) = (I.dv a h (I.st h (128 - a.1)) r j : EReal)
  ds : ∀ a h i j, 129 ≤ a.1 + n → (V0 (Proc.devRef .tc main_v8_9) : FVec Ideal S129x8x128x256 .f32) (ix4 a h i j) = (I.out5 a h i j : EReal)

theorem counter : ∀ n : Fin 129, ((129#32 - BitVec.ofNat 32 n.1) - 1#32).toInt = ((128 - n.1 : ℕ) : ℤ) := by decide +kernel

section
variable {I : Inp} {n : ℕ} {V0 : Valuation τ sig (Elt Ideal)}

theorem Inv.start (H : Inv I n V0) (hn : n < 129) (k : Fin 4) :
    (((![res_main_while0b_v13 V0, constantI S_ 32 0#32, constantI S_ 32 0#32, constantI S_ 32 0#32] : Fin 4 → IVec S_ 32)) k (Shape.Idx.first h_S_)).toInt
      = ((![(Inp.ch n).1, 0, 0, 0] : Fin 4 → ℕ) k : ℤ) := by
  match k with
  | ⟨0, _⟩ =>
    show (res_main_while0b_v13 V0 (Shape.Idx.first h_S_) : BitVec 32).toInt = ((128 - n : ℕ) : ℤ)
    have e : (res_main_while0b_v13 V0 (Shape.Idx.first h_S_) : BitVec 32) = (129#32 - BitVec.ofNat 32 n) - 1#32 := by
      unfold res_main_while0b_v13
      show (129#32 - (V0 (Proc.devRef .tc main_v8_6) : IVec S_ 32) _) - 1#32 = _
      rw [H.ctr]
    rw [e]
    exact counter ⟨n, hn⟩
  | ⟨1, _⟩ => rfl
  | ⟨2, _⟩ => rfl
  | ⟨3, _⟩ => rfl

theorem cast_D (X : FVec Ideal S1x8x64x256 .f32) (h : Fin 8) (r : Fin 64) (j : Fin 256) :
    shapeCast S8x64x256 X shapeCasts_S1x8x64x256_S8x64x256 (ix3 h r j) = X (ix4 0 h r j) := by
  pointwise

theorem Inv.v14 (H : Inv I n V0) (hn : n < 129) (h : Fin 8) (r : Fin 64) (j : Fin 256) :
    (res_main_while0b_v14 V0 : FVec Ideal S8x64x256 .f32) (ix3 h r j) = (I.D (Inp.ch n) h r j : EReal) := by
  unfold res_main_while0b_v14
  exact (cast_D _ h r j).trans ((slab_read _ _ _ _ (H.start hn) 0 h r j).trans (H.d _ h r j))

theorem Inv.v26 (H : Inv I n V0) (hn : n < 129) (h : Fin 8) (r : Fin 64) (j : Fin 256) :
    (res_main_while0b_v26 V0 : FVec Ideal S8x64x256 .f32) (ix3 h r j) = (I.dv (Inp.ch n) h (I.st h n) r j : EReal) :=
  opDv_coe (s := fun h => I.st h n) H.st (fun h r i => (slab_read _ _ _ _ (H.start hn) 0 h r i).trans (H.k _ h r i))
    (fun h u r => (slab_read _ _ _ _ (H.start hn) 0 h u r).trans (H.p _ h u r)) (H.v14 hn) h r j

theorem Inv.v7 (H : Inv I n V0) (hn : n < 129) (h : Fin 8) (i : Fin 128) (j : Fin 256) :
    (step_main_v8_7 V0 : FVec Ideal S8x128x256 .f32) (ix3 h i j) = (I.st h (n + 1) i j : EReal) :=
  opUp_coe (s := fun h => I.st h n) H.st (fun h => (slab_read _ _ _ _ (H.start hn) 0 h 0 0).trans (H.g _ h))
    (fun h r i => (slab_read _ _ _ _ (H.start hn) 0 h r i).trans (H.q _ h r i))
    (fun h r i => (slab_read _ _ _ _ (H.start hn) 0 h r i).trans (H.w _ h r i)) (H.v14 hn) (H.v26 hn) h i j

theorem bc8 (X : FVec Ideal S8x64x256 .f32) (h : Fin 8) (r : Fin 64) (j : Fin 256) :
    broadcastInDim S1x8x64x256 ![1, 2, 3] bcast_S8x64x256_S1x8x64x256_1_2_3 X (ix4 0 h r j) = X (ix3 h r j) := by
  pointwise

theorem bc9 (X : FVec Ideal S8x128x256 .f32) (h : Fin 8) (i : Fin 128) (j : Fin 256) :
    broadcastInDim S1x8x128x256 ![1, 2, 3] bcast_S8x128x256_S1x8x128x256_1_2_3 X (ix4 0 h i j) = X (ix3 h i j) := by
  pointwise

theorem Inv.v8 (H : Inv I n V0) (hn : n < 129) (a : Fin 129) (h : Fin 8) (r : Fin 64) (j : Fin 256) (ha : 129 ≤ a.1 + (n + 1)) :
    (step_main_v8_8 V0 : FVec Ideal S129x8x64x256 .f32) (ix4 a h r j) = (I.dv a h (I.st h (128 - a.1)) r j : EReal) := by
  refine (slab_write _ _ _ (by decide +kernel) (Inp.ch n) (H.start hn) a h r j).trans ?_
  by_cases e : a = Inp.ch n
  · rw [if_pos e, bc8]
    have e' : 128 - a.1 = n := by rw [e]; simp only [Inp.ch]; omega
    rw [e', e]
    exact H.v26 hn h r j
  · rw [if_neg e]
    exact H.dv a h r j (by
      have : a.1 ≠ 128 - n := fun h => e (Fin.ext h)
      omega)

theorem Inv.v9 (H : Inv I n V0) (hn : n < 129) (a : Fin 129) (h : Fin 8) (i : Fin 128) (j : Fin 256) (ha : 129 ≤ a.1 + (n + 1)) :
    (step_main_v8_9 V0 : FVec Ideal S129x8x128x256 .f32) (ix4 a h i j) = (I.out5 a h i j : EReal) := by
  refine (slab_write _ _ _ (by decide +kernel) (Inp.ch n) (H.start hn) a h i j).trans ?_
  by_cases e : a = Inp.ch n
  · rw [if_pos e, bc9]
    have e' : 128 - a.1 = n := by rw [e]; simp only [Inp.ch]; omega
    unfold Inp.out5
    rw [e']
    exact H.st h i j
  · rw [if_neg e]
    exact H.ds a h i j (by
      have : a.1 ≠ 128 - n := fun h => e (Fin.ext h)
      omega)

theorem Inv.next (H : Inv I n V0) (hn : n < 129) : Inv I (n + 1) (STEP V0) where
  d := by rw [STEP_main_v8_0]; exact H.d
  g := by rw [STEP_main_v8_1]; exact H.g
  k := by rw [STEP_main_v8_2]; exact H.k
  w := by rw [STEP_main_v8_3]; exact H.w
  q := by rw [STEP_main_v8_4]; exact H.q
  p := by rw [STEP_main_v8_5]; exact H.p
  ctr := by
    rw [STEP_main_v8_6]
    unfold step_main_v8_6
    funext x
    have e : ∀ v : IVec S_ 32, v = (fun _ => BitVec.ofNat 32 n) → addi v (constantI S_ 32 1#32) x = BitVec.ofNat 32 (n + 1) := by
      intro v hv
      rw [hv, BitVec.ofNat_add]
      rfl
    exact e _ H.ctr
  st := by rw [STEP_main_v8_7]; exact H.v7 hn
  dv := by rw [STEP_main_v8_8]; exact H.v8 hn
  ds := by rw [STEP_main_v8_9]; exact H.v9 hn

theorem Inv.iter (H : Inv I 0 V0) : ∀ n ≤ 129, Inv I n (STEP^[n] V0)
  | 0, _ => H
  | n + 1, hn => by
    rw [Function.iterate_succ_apply']
    exact (Inv.iter H n (by omega)).next (by omega)

theorem cast_out (X : FVec Ideal S129x8x64x256 .f32) (R : Fin 8256) (C : Fin 2048) :
    shapeCast S8256x2048 (transpose S129x64x8x256 [0, 2, 1, 3] X transposes_S129x8x64x256_S129x64x8x256_0_2_1_3) shapeCasts_S129x64x8x256_S8256x2048 (ix2 R C)
      = X (ix4 ⟨R.1 / 64, by omega⟩ ⟨C.1 / 256, by omega⟩ ⟨R.1 % 64, by omega⟩ ⟨C.1 % 256, by omega⟩) := by
  pointwise

theorem Inv.out10 (H : Inv I 129 V0) : (out_main_v10 V0 : FVec Ideal S8256x2048 .f32) = fun y => ((I.out4 (y 0) (y 1) : ℝ) : EReal) := by
  funext y
  obtain ⟨R, C, rfl⟩ : ∃ (R : Fin 8256) (C : Fin 2048), y = ix2 R C := ⟨y 0, y 1, eq_ix2 y⟩
  refine (cast_out _ R C).trans ?_
  exact H.dv _ _ _ _ (by omega)

theorem Inv.out11 (H : Inv I 129 V0) : (out_main_v11 V0 : FVec Ideal S129x8x128x256 .bf16) = fun y => ((I.out5 (y 0) (y 1) (y 2) (y 3) : ℝ) : EReal) := by
  funext y
  obtain ⟨a, h, i, j, rfl⟩ : ∃ (a : Fin 129) (h : Fin 8) (i : Fin 128) (j : Fin 256), y = ix4 a h i j := ⟨y 0, y 1, y 2, y 3, eq_ix4 y⟩
  exact H.ds a h i j (by omega)
end

/-! ## The loop's entry -/

variable (m : (ℓ : Loc nD τ sig) → Buf (Elt Ideal) ℓ) (c : Dev nD)

theorem cast_in (X : FVec Ideal S8256x2048 .f32) (a : Fin 129) (h : Fin 8) (r : Fin 64) (j : Fin 256) :
    transpose S129x8x64x256 [0, 2, 1, 3] (shapeCast S129x64x8x256 X shapeCasts_S8256x2048_S129x64x8x256) transposes_S129x64x8x256_S129x8x64x256_0_2_1_3 (ix4 a h r j)
      = X (ix2 ⟨64 * a.1 + r.1, by omega⟩ ⟨256 * h.1 + j.1, by omega⟩) := by
  pointwise
  congr 2 <;> exact Fin.ext (by show _ * _ + _ = _ * _ + _; rw [Nat.mul_comm])

theorem entry0 : entryContents preI m c (Proc.devRef .tc main_v8_0)
    = transpose S129x8x64x256 [0, 2, 1, 3] (shapeCast S129x64x8x256 (m ((c.tc : Thread nD τ).loc main_arg0) : FVec Ideal S8256x2048 .f32) shapeCasts_S8256x2048_S129x64x8x256)
      transposes_S129x64x8x256_S129x8x64x256_0_2_1_3 := by
  simp only [entryContents, afterL_cons, afterL_nil]
  after_reads_simp
  rfl

theorem entry1 : entryContents preI m c (Proc.devRef .tc main_v8_1) = m ((c.tc : Thread nD τ).loc main_arg5) := by
  simp only [entryContents, afterL_cons, afterL_nil]
  after_reads_simp
  rfl

theorem entry2 : entryContents preI m c (Proc.devRef .tc main_v8_2) = m ((c.tc : Thread nD τ).loc main_arg4) := by
  simp only [entryContents, afterL_cons, afterL_nil]
  after_reads_simp
  rfl

theorem entry3 : entryContents preI m c (Proc.devRef .tc main_v8_3) = m ((c.tc : Thread nD τ).loc main_arg1) := by
  simp only [entryContents, afterL_cons, afterL_nil]
  after_reads_simp
  rfl

theorem entry4 : entryContents preI m c (Proc.devRef .tc main_v8_4) = m ((c.tc : Thread nD τ).loc main_arg2) := by
  simp only [entryContents, afterL_cons, afterL_nil]
  after_reads_simp
  rfl

theorem entry5 : entryContents preI m c (Proc.devRef .tc main_v8_5) = m ((c.tc : Thread nD τ).loc main_arg3) := by
  simp only [entryContents, afterL_cons, afterL_nil]
  after_reads_simp
  rfl

theorem entry7 : entryContents preI m c (Proc.devRef .tc main_v8_7)
    = broadcastInDim S8x128x256 ![] bcast_S_S8x128x256 (constant (F := Ideal) S_ .f32 0x00000000#32) := by
  simp only [entryContents, afterL_cons, afterL_nil]
  after_reads_simp
  rfl

/-- The reference's arguments are the real inputs `I`. -/
structure Holds (I : Inp) : Prop where
  d : ∀ R C, (m ((c.tc : Thread nD τ).loc main_arg0) : FVec Ideal S8256x2048 .f32) (ix2 R C) = (I.dO R C : EReal)
  w : ∀ a h r i, (m ((c.tc : Thread nD τ).loc main_arg1) : FVec Ideal S129x8x64x128 .f32) (ix4 a h r i) = (I.w a h r i : EReal)
  q : ∀ a h r i, (m ((c.tc : Thread nD τ).loc main_arg2) : FVec Ideal S129x8x64x128 .f32) (ix4 a h r i) = (I.q a h r i : EReal)
  p : ∀ a h r i, (m ((c.tc : Thread nD τ).loc main_arg3) : FVec Ideal S129x8x64x64 .f32) (ix4 a h r i) = (I.p a h r i : EReal)
  k : ∀ a h r i, (m ((c.tc : Thread nD τ).loc main_arg4) : FVec Ideal S129x8x64x128 .f32) (ix4 a h r i) = (I.k a h r i : EReal)
  g : ∀ a h, (m ((c.tc : Thread nD τ).loc main_arg5) : FVec Ideal S129x8x1x1 .f32) (ix4 a h 0 0) = (I.g a h : EReal)

variable {m c} {I : Inp}

theorem bc_zero (h : Fin 8) (i : Fin 128) (j : Fin 256) :
    broadcastInDim S8x128x256 ![] bcast_S_S8x128x256 (constant (F := Ideal) S_ .f32 0x00000000#32) (ix3 h i j) = (0 : EReal) := by
  pointwise

theorem Holds.entry (H : Holds m c I) : Inv I 0 (entryContents preI m c) where
  d := fun a h r j => by rw [entry0]; exact (cast_in _ a h r j).trans (H.d _ _)
  g := by rw [entry1]; exact H.g
  k := by rw [entry2]; exact H.k
  w := by rw [entry3]; exact H.w
  q := by rw [entry4]; exact H.q
  p := by rw [entry5]; exact H.p
  ctr := ctr_entry m c
  st := fun h i j => by rw [entry7]; exact (bc_zero h i j).trans (by simp [Inp.st])
  dv := fun a _ _ _ ha => absurd ha (by omega)
  ds := fun a _ _ _ ha => absurd ha (by omega)

/-- The reference's first result: the gradients of the chunks' values. -/
theorem Holds.final10 (H : Holds m c I) : (out_main_v10 (STEP^[129] (entryContents preI m c)) : FVec Ideal S8256x2048 .f32)
    = fun y => ((I.out4 (y 0) (y 1) : ℝ) : EReal) := (H.entry.iter 129 le_rfl).out10

/-- The reference's second result: the gradients of the states that enter the chunks. -/
theorem Holds.final11 (H : Holds m c I) : (out_main_v11 (STEP^[129] (entryContents preI m c)) : FVec Ideal S129x8x128x256 .bf16)
    = fun y => ((I.out5 (y 0) (y 1) (y 2) (y 3) : ℝ) : EReal) := (H.entry.iter 129 le_rfl).out11

end Cert.ReferenceIdeal.Value
end
-- ==== Proof.ScanClaim.lean ====
module

public import proofs.«01_k».proof.Defs
public import proofs.«01_k».proof.Proof.ScanRun
public import proofs.«01_k».proof.Proof.ScanRef
public import proofs.«01_k».proof.Proof.Gen.Kernel.Frame
public import Idealize.ShloMosaic.Lib.Quiescent

/-! The claims about the walk of the states' gradients back through the chunks: the kernel and the reference both end with the real arrays that
`Scan.Inp.out4` and `Scan.Inp.out5` describe, of the arguments' real values. -/

@[expose] public section

noncomputable section

namespace Cert.Proof

open Idealize.ShloMosaic Idealize.ShloMosaic.TcCoe Idealize.SL.Sem Cert.Scan

instance facts_finite : Cert.Pre_finite.Facts := ⟨by decide, by decide, by decide, by decide⟩

section
open Cert.KernelIdeal

/-- The real values of the arguments. -/
def scanInp (m : (ℓ : Loc nD τ sig) → Buf (Elt Ideal) ℓ) (c : Dev nD) : Inp where
  dO R C := ((m ((c.tc : Thread nD τ).loc main_arg0) : FVec Ideal S8256x2048 .f32) (ValueIdx.ix2 R C) : EReal).toReal
  w a h r i := ((m ((c.tc : Thread nD τ).loc main_arg1) : FVec Ideal S129x8x64x128 .f32) (ValueIdx.ix4 a h r i) : EReal).toReal
  q a h r i := ((m ((c.tc : Thread nD τ).loc main_arg2) : FVec Ideal S129x8x64x128 .f32) (ValueIdx.ix4 a h r i) : EReal).toReal
  p a h r i := ((m ((c.tc : Thread nD τ).loc main_arg3) : FVec Ideal S129x8x64x64 .f32) (ValueIdx.ix4 a h r i) : EReal).toReal
  k a h r i := ((m ((c.tc : Thread nD τ).loc main_arg4) : FVec Ideal S129x8x64x128 .f32) (ValueIdx.ix4 a h r i) : EReal).toReal
  g a h := ((m ((c.tc : Thread nD τ).loc main_arg5) : FVec Ideal S129x8x1x1 .f32) (ValueIdx.ix4 a h 0 0) : EReal).toReal

theorem scan_holds {m : (ℓ : Loc nD τ sig) → Buf (Elt Ideal) ℓ} (h : Pre_KernelIdeal_finite m) (c : Dev nD) : Value.Holds m (scanInp m c) c where
  d := fun _ _ => real_of_abs_lt _ _ (h c).1 _
  w := fun _ _ _ _ => real_of_abs_lt _ _ (h c).2.1 _
  q := fun _ _ _ _ => real_of_abs_lt _ _ (h c).2.2.1 _
  p := fun _ _ _ _ => real_of_abs_lt _ _ (h c).2.2.2.1 _
  k := fun _ _ _ _ => real_of_abs_lt _ _ (h c).2.2.2.2.1 _
  g := fun _ _ => real_of_abs_lt _ _ (h c).2.2.2.2.2 _
end

theorem scan_frame : quiescent_Kernel := fun m ρ _ => Cert.Kernel.Gen.frame m ρ
theorem scan_frameI : quiescent_KernelIdeal := fun m ρ _ => Cert.KernelIdeal.Gen.frame m ρ
theorem scan_frameI' : quiescent_KernelIdeal_pre_finite := fun m ρ _ => Cert.KernelIdeal.Gen.frame m ρ
theorem scan_frameR : quiescent_ReferenceIdeal := fun m ρ _ =>
  (θ_run Cert.ReferenceIdeal.defs _ _).mono (fun r h => ⟨fun c => (h c).2.2, sem_eq_zero_of_no_sems (by decide) _⟩) (Cert.ReferenceIdeal.Value.run m ρ)
theorem scan_frameR' : quiescent_ReferenceIdeal_pre_finite := fun m ρ _ => scan_frameR m ρ trivial

theorem scan_value : algebraic_KernelIdeal_ReferenceIdeal_pre_finite := fun m ρ m' ρ' hp hag => by
  have hK := fun c => scan_holds hp c
  have hR : ∀ c, Cert.ReferenceIdeal.Value.Holds m' c (scanInp m c) := fun c => by
    obtain ⟨h0, h1, h2, h3, h4, h5⟩ := hag c
    exact ⟨by rw [h0]; exact (hK c).d, by rw [h1]; exact (hK c).w, by rw [h2]; exact (hK c).q, by rw [h3]; exact (hK c).p, by rw [h4]; exact (hK c).k,
      by rw [h5]; exact (hK c).g⟩
  refine ⟨fun c => (fun y => (((scanInp m c).out4 (y 0) (y 1) : ℝ) : EReal)), fun c => (fun y => (((scanInp m c).out5 (y 0) (y 1) (y 2) (y 3) : ℝ) : EReal)), ?_, ?_⟩
  · refine (θ_run Cert.KernelIdeal.defs _ _).mono (fun r h c => ?_) (Cert.KernelIdeal.Value.run_blocks m ρ)
    obtain ⟨h0, h1, h2⟩ := h c
    exact ⟨h0.trans (Cert.KernelIdeal.Value.final4 (hK c)), h1.trans (Cert.KernelIdeal.Value.final5 (hK c)), h2⟩
  · refine (θ_run Cert.ReferenceIdeal.defs _ _).mono (fun r h c => ?_) (Cert.ReferenceIdeal.Value.run m' ρ')
    obtain ⟨h0, h1, h2⟩ := h c
    exact ⟨h0.trans (hR c).final10, h1.trans (hR c).final11, h2⟩

end Cert.Proof
-- ==== Proof.Logistic.lean ====
module
public import proofs.«01_k».proof.Proof.Common
public import Mathlib.Analysis.SpecialFunctions.Trigonometric.DerivHyp

/-! The logistic function in the two forms that the programs use. -/

@[expose] public section

namespace Cert

open Idealize.ShloMosaic

theorem ofBits_half : Ideal.ofBits .f32 0x3F000000#32 = ((1 / 2 : ℝ) : EReal) := by
  simp only [Ideal.ofBits, Ideal.ieee]
  simp
  rw [← EReal.coe_mul]
  norm_num

theorem ofBits_one : Ideal.ofBits .f32 0x3F800000#32 = (1 : EReal) := by
  simp only [Ideal.ofBits, Ideal.ieee]
  simp
  rw [← EReal.coe_mul]
  norm_num

/-- The logistic function of a real. -/
noncomputable def sg (a : ℝ) : ℝ := 1 / (1 + Real.exp (-a))

theorem sg_tanh (a : ℝ) : 1 / 2 * Real.tanh (1 / 2 * a) + 1 / 2 = sg a := by
  unfold sg
  rw [Real.tanh_eq_sinh_div_cosh, Real.sinh_eq, Real.cosh_eq]
  have h : Real.exp (-a) = Real.exp (-(1 / 2 * a)) / Real.exp (1 / 2 * a) := by rw [← Real.exp_sub]; congr 1; ring
  rw [h]
  have h1 := Real.exp_pos (1 / 2 * a)
  have h2 := Real.exp_pos (-(1 / 2 * a))
  generalize Real.exp (1 / 2 * a) = p at *
  generalize Real.exp (-(1 / 2 * a)) = q at *
  have h3 : p + q ≠ 0 := by positivity
  have h4 : p ≠ 0 := h1.ne'
  have h5 : 1 + q / p ≠ 0 := by positivity
  field_simp
  ring

theorem logistic_coe (a : ℝ) : Ideal.div 1 (1 + Ideal.exp (-(a : EReal))) = ((sg a : ℝ) : EReal) := by
  rw [← EReal.coe_neg, Ideal.exp_coe]
  have h : (1 + (Real.exp (-a) : EReal) : EReal) = ((1 + Real.exp (-a) : ℝ) : EReal) := by rw [EReal.coe_add, EReal.coe_one]
  rw [h, Ideal.div_coe (by positivity), one_mul]
  rfl

/-- Half of the hyperbolic tangent of half, plus half, is the logistic function, at the infinities too. -/
theorem logistic_tanh (x : EReal) : Ideal.ofBits .f32 0x3F000000#32 * Ideal.tanh (Ideal.ofBits .f32 0x3F000000#32 * x) + Ideal.ofBits .f32 0x3F000000#32
    = Ideal.div 1 (1 + Ideal.exp (-x)) := by
  rw [ofBits_half]
  have hp : (0 : EReal) < ((1 / 2 : ℝ) : EReal) := by exact_mod_cast (by norm_num : (0 : ℝ) < 1 / 2)
  induction x with
  | bot =>
    rw [EReal.coe_mul_bot_of_pos (by norm_num), Ideal.tanh_bot, EReal.neg_bot, Ideal.exp_top]
    have h : (1 + ⊤ : EReal) = ⊤ := rfl
    rw [h]
    have e : ((1 / 2 : ℝ) : EReal) * (-1) + ((1 / 2 : ℝ) : EReal) = ((1 / 2 * (-1) + 1 / 2 : ℝ) : EReal) := by
      rw [EReal.coe_add, EReal.coe_mul, EReal.coe_neg, EReal.coe_one]
    rw [e]
    simp [Ideal.div]
  | top =>
    rw [EReal.coe_mul_top_of_pos (by norm_num), Ideal.tanh_top, EReal.neg_top, Ideal.exp_bot]
    have e : ((1 / 2 : ℝ) : EReal) * 1 + ((1 / 2 : ℝ) : EReal) = ((1 / 2 * 1 + 1 / 2 : ℝ) : EReal) := by
      rw [EReal.coe_add, EReal.coe_mul, EReal.coe_one]
    rw [e]
    have h : ((1 / 2 * 1 + 1 / 2 : ℝ) : EReal) = 1 := by norm_num
    rw [h]
    simp [Ideal.div]
  | coe a =>
    rw [logistic_coe, ← EReal.coe_mul, Ideal.tanh_coe, ← EReal.coe_mul, ← EReal.coe_add, sg_tanh]

end Cert
end
-- ==== Proof.Ds.lean ====
module

public import proofs.«01_k».proof.Defs
public import proofs.«01_k».proof.Proof.Logistic
public import proofs.«01_k».proof.Proof.Gen.Kernel2.Frame
public import proofs.«01_k».proof.Proof.Gen.Kernel2Ideal.Value
public import proofs.«01_k».proof.Proof.Gen.Reference2Ideal.Run
public import Idealize.ShloMosaic.Lib.Quiescent

/-! The gradients of the gated product of the FFN's projections, after the product by the down weights' transpose. The kernel factors the derivative of
`a · σ(a)` as `σ(a) · (1 + a · (1 - σ(a)))`; the reference adds the two terms of the product rule, which is the same for a finite gradient. -/

@[expose] public section

set_option maxRecDepth 16384

noncomputable section

namespace Cert

/-- The derivative of the gated product's first factor, factored and by the product rule, at a real gradient. -/
theorem silu_deriv (T : ℝ) (a : EReal) (s : EReal) (hs : s = Idealize.ShloMosaic.Ideal.div 1 (1 + Idealize.ShloMosaic.Ideal.exp (-a))) :
    (T : EReal) * (s * (1 + a * (1 - s))) = (T : EReal) * s + a * (T : EReal) * (s * (1 - s)) := by
  induction a with
  | bot =>
    have h : s = 0 := by
      rw [hs, EReal.neg_bot, Idealize.ShloMosaic.Ideal.exp_top]
      have h : (1 + ⊤ : EReal) = ⊤ := rfl
      rw [h]
      simp [Idealize.ShloMosaic.Ideal.div]
    rw [h]; simp
  | top =>
    have h : s = 1 := by
      rw [hs, EReal.neg_top, Idealize.ShloMosaic.Ideal.exp_bot]
      simp [Idealize.ShloMosaic.Ideal.div]
    have e : (1 : EReal) - 1 = 0 := by rw [← EReal.coe_one, ← EReal.coe_sub, sub_self]; rfl
    rw [h, e]; simp
  | coe a =>
    rw [hs, logistic_coe]
    norm_cast
    ring

end Cert

namespace Cert.Kernel2Ideal.Value

open Cert.Kernel2Ideal Cert.Kernel2Ideal.Gen Idealize.ShloMosaic Idealize.ShloMosaic.TcCoe Idealize.SL.Sem

theorem idx0 : ∀ t : Fin cfg0.N, win0_0.index t (0 : Fin 2) = t.1 / 2 ∧ win0_0.index t (1 : Fin 2) = 0 := (by decide +kernel : ∀ t : Fin grid0.N, _)
theorem idx1 : ∀ t : Fin cfg0.N, win0_1.index t (0 : Fin 2) = t.1 % 2 ∧ win0_1.index t (1 : Fin 2) = 0 := (by decide +kernel : ∀ t : Fin grid0.N, _)
theorem idx2 : ∀ t : Fin cfg0.N, win0_2.index t (0 : Fin 2) = t.1 / 2 ∧ win0_2.index t (1 : Fin 2) = t.1 % 2 := (by decide +kernel : ∀ t : Fin grid0.N, _)
theorem idx3 : ∀ t : Fin cfg0.N, win0_3.index t (0 : Fin 2) = t.1 / 2 ∧ win0_3.index t (1 : Fin 2) = t.1 % 2 := (by decide +kernel : ∀ t : Fin grid0.N, _)
theorem idx4 : ∀ t : Fin cfg0.N, win0_4.index t (0 : Fin 2) = t.1 / 2 ∧ win0_4.index t (1 : Fin 2) = t.1 % 2 := (by decide +kernel : ∀ t : Fin grid0.N, _)
theorem idx5 : ∀ t : Fin cfg0.N, win0_5.index t (0 : Fin 2) = t.1 / 2 ∧ win0_5.index t (1 : Fin 2) = t.1 % 2 := (by decide +kernel : ∀ t : Fin grid0.N, _)

theorem pay1 (x : FVec Ideal S688x1024 .bf16) (w : FVec Ideal S1408x1024 .bf16) (R : Fin 688) (C : Fin 1408) :
    (k0_pay1 (F := Ideal) x w (ix2 R C) : EReal) = ∑ k : Fin 1024, (x (ix2 R k) * w (ix2 C k) : EReal) := by
  unfold k0_pay1
  pointwise

/-- The logistic function. -/
def lg (a : EReal) : EReal := Ideal.div 1 (1 + Ideal.exp (-a))

/-- The gradient of the first projection, of the product's gradient and the two projections. -/
def dA (T a b : EReal) : EReal := T * b * (lg a * (1 + a * (1 - lg a)))

/-- The gradient of the second projection. -/
def dB (T a : EReal) : EReal := T * (a * lg a)

theorem pay3 (x : FVec Ideal S688x1024 .bf16) (w : FVec Ideal S1408x1024 .bf16) (a b : FVec Ideal S688x1408 .bf16) (R : Fin 688) (C : Fin 1408) :
    (k0_pay3 (F := Ideal) x w a b (ix2 R C) : EReal) = dA (k0_pay1 (F := Ideal) x w (ix2 R C)) (a (ix2 R C)) (b (ix2 R C)) := by
  unfold k0_pay3 dA lg
  rw [← logistic_tanh, ← ofBits_one]
  generalize k0_pay1 (F := Ideal) x w = A
  unfold k0_pay2
  pointwise

theorem pay4 (x : FVec Ideal S688x1024 .bf16) (w : FVec Ideal S1408x1024 .bf16) (a : FVec Ideal S688x1408 .bf16) (R : Fin 688) (C : Fin 1408) :
    (k0_pay4 (F := Ideal) x w a (ix2 R C) : EReal) = dB (k0_pay1 (F := Ideal) x w (ix2 R C)) (a (ix2 R C)) := by
  unfold k0_pay4 dB lg
  rw [← logistic_tanh]
  generalize k0_pay1 (F := Ideal) x w = A
  unfold k0_pay2
  pointwise

theorem out_eq4 (x : FVec Ideal S688x1024 .bf16) (w : FVec Ideal S1408x1024 .bf16) (a b : FVec Ideal S688x1408 .bf16) :
    out0_4 (F := Ideal) x w a b = k0_pay3 (F := Ideal) x w a b := by
  unfold out0_4
  rw [View.canon_unit_zero vec2_zero, View.ld_unit_zero vec2_zero, View.ld_unit_zero vec2_zero, View.ld_unit_zero vec2_zero, View.ld_unit_zero vec2_zero]
theorem out_eq5 (x : FVec Ideal S688x1024 .bf16) (w : FVec Ideal S1408x1024 .bf16) (a b : FVec Ideal S688x1408 .bf16) :
    out0_5 (F := Ideal) x w a b = k0_pay4 (F := Ideal) x w a := by
  unfold out0_5
  rw [View.canon_unit_zero vec2_zero, View.ld_unit_zero vec2_zero, View.ld_unit_zero vec2_zero, View.ld_unit_zero vec2_zero]

/-- The product's gradient. -/
def prodGrad (x : FVec Ideal S8256x1024 .bf16) (w : FVec Ideal S2816x1024 .bf16) (R : Fin 8256) (C : Fin 2816) : EReal :=
  ∑ k : Fin 1024, (x (ix2 R k) * w (ix2 C k) : EReal)

/-- The first result. -/
def G4 (x : FVec Ideal S8256x1024 .bf16) (w : FVec Ideal S2816x1024 .bf16) (a b : FVec Ideal S8256x2816 .bf16) : FVec Ideal S8256x2816 .bf16 :=
  fun y => dA (prodGrad x w (y 0) (y 1)) (a (ix2 (y 0) (y 1))) (b (ix2 (y 0) (y 1)))

/-- The second result. -/
def G5 (x : FVec Ideal S8256x1024 .bf16) (w : FVec Ideal S2816x1024 .bf16) (a : FVec Ideal S8256x2816 .bf16) : FVec Ideal S8256x2816 .bf16 :=
  fun y => dB (prodGrad x w (y 0) (y 1)) (a (ix2 (y 0) (y 1)))

variable (m : (ℓ : Loc nD τ sig) → Buf (Elt Ideal) ℓ) (c : Dev nD)

theorem iblk0 (t : Fin cfg0.N) (R : Fin 688) (C : Fin 1024) (h : t.1 / 2 * 688 + R.1 < 8256) :
    (iblk m c 0 t : FVec Ideal S688x1024 .bf16) (ix2 R C) = (V m c main_arg0 : FVec Ideal S8256x1024 .bf16) (ix2 ⟨t.1 / 2 * 688 + R.1, h⟩ C) := by
  obtain ⟨e0, e1⟩ := idx0 t
  refine congrArg (V m c main_arg0) (funext fun a => Fin.ext ?_)
  match a with
  | ⟨0, _⟩ => show win0_0.index t (0 : Fin 2) * 688 + 1 * R.1 = t.1 / 2 * 688 + R.1; omega
  | ⟨1, _⟩ => show win0_0.index t (1 : Fin 2) * 1024 + 1 * C.1 = C.1; omega

theorem iblk1 (t : Fin cfg0.N) (R : Fin 1408) (C : Fin 1024) (h : t.1 % 2 * 1408 + R.1 < 2816) :
    (iblk m c 1 t : FVec Ideal S1408x1024 .bf16) (ix2 R C) = (V m c main_arg1 : FVec Ideal S2816x1024 .bf16) (ix2 ⟨t.1 % 2 * 1408 + R.1, h⟩ C) := by
  obtain ⟨e0, e1⟩ := idx1 t
  refine congrArg (V m c main_arg1) (funext fun a => Fin.ext ?_)
  match a with
  | ⟨0, _⟩ => show win0_1.index t (0 : Fin 2) * 1408 + 1 * R.1 = t.1 % 2 * 1408 + R.1; omega
  | ⟨1, _⟩ => show win0_1.index t (1 : Fin 2) * 1024 + 1 * C.1 = C.1; omega

theorem iblk2 (t : Fin cfg0.N) (R : Fin 688) (C : Fin 1408) (h : t.1 / 2 * 688 + R.1 < 8256) (h' : t.1 % 2 * 1408 + C.1 < 2816) :
    (iblk m c 2 t : FVec Ideal S688x1408 .bf16) (ix2 R C)
      = (V m c main_arg2 : FVec Ideal S8256x2816 .bf16) (ix2 ⟨t.1 / 2 * 688 + R.1, h⟩ ⟨t.1 % 2 * 1408 + C.1, h'⟩) := by
  obtain ⟨e0, e1⟩ := idx2 t
  refine congrArg (V m c main_arg2) (funext fun a => Fin.ext ?_)
  match a with
  | ⟨0, _⟩ => show win0_2.index t (0 : Fin 2) * 688 + 1 * R.1 = t.1 / 2 * 688 + R.1; omega
  | ⟨1, _⟩ => show win0_2.index t (1 : Fin 2) * 1408 + 1 * C.1 = t.1 % 2 * 1408 + C.1; omega

theorem iblk3 (t : Fin cfg0.N) (R : Fin 688) (C : Fin 1408) (h : t.1 / 2 * 688 + R.1 < 8256) (h' : t.1 % 2 * 1408 + C.1 < 2816) :
    (iblk m c 3 t : FVec Ideal S688x1408 .bf16) (ix2 R C)
      = (V m c main_arg3 : FVec Ideal S8256x2816 .bf16) (ix2 ⟨t.1 / 2 * 688 + R.1, h⟩ ⟨t.1 % 2 * 1408 + C.1, h'⟩) := by
  obtain ⟨e0, e1⟩ := idx3 t
  refine congrArg (V m c main_arg3) (funext fun a => Fin.ext ?_)
  match a with
  | ⟨0, _⟩ => show win0_3.index t (0 : Fin 2) * 688 + 1 * R.1 = t.1 / 2 * 688 + R.1; omega
  | ⟨1, _⟩ => show win0_3.index t (1 : Fin 2) * 1408 + 1 * C.1 = t.1 % 2 * 1408 + C.1; omega

theorem emb4 (t : Fin cfg0.N) (R : Fin 688) (C : Fin 1408) (h : t.1 / 2 * 688 + R.1 < 8256) (h' : t.1 % 2 * 1408 + C.1 < 2816) :
    ((cfg0.win 4).blk t).view.emb (ix2 R C) = ix2 ⟨t.1 / 2 * 688 + R.1, h⟩ ⟨t.1 % 2 * 1408 + C.1, h'⟩ := by
  obtain ⟨e0, e1⟩ := idx4 t
  funext a; apply Fin.ext
  match a with
  | ⟨0, _⟩ => show win0_4.index t (0 : Fin 2) * 688 + 1 * R.1 = t.1 / 2 * 688 + R.1; omega
  | ⟨1, _⟩ => show win0_4.index t (1 : Fin 2) * 1408 + 1 * C.1 = t.1 % 2 * 1408 + C.1; omega

theorem emb5 (t : Fin cfg0.N) (R : Fin 688) (C : Fin 1408) (h : t.1 / 2 * 688 + R.1 < 8256) (h' : t.1 % 2 * 1408 + C.1 < 2816) :
    ((cfg0.win 5).blk t).view.emb (ix2 R C) = ix2 ⟨t.1 / 2 * 688 + R.1, h⟩ ⟨t.1 % 2 * 1408 + C.1, h'⟩ := by
  obtain ⟨e0, e1⟩ := idx5 t
  funext a; apply Fin.ext
  match a with
  | ⟨0, _⟩ => show win0_5.index t (0 : Fin 2) * 688 + 1 * R.1 = t.1 / 2 * 688 + R.1; omega
  | ⟨1, _⟩ => show win0_5.index t (1 : Fin 2) * 1408 + 1 * C.1 = t.1 % 2 * 1408 + C.1; omega

/-- Every index lies in the block of the grid point that its row and column give. -/
theorem cover_of {S : Finset (⟨2, ![8256, 2816]⟩ : Shape).Idx} (R : Fin 8256) (C : Fin 2816) (r : Fin 8256) (q : Fin 2816) (hr : r.1 = R.1) (hq : q.1 = C.1)
    (h : (ix2 r q : (⟨2, ![8256, 2816]⟩ : Shape).Idx) ∈ S) : (ix2 R C : (⟨2, ![8256, 2816]⟩ : Shape).Idx) ∈ S := by
  rwa [Fin.ext hr, Fin.ext hq] at h

theorem point_lt (R : Fin 8256) (C : Fin 2816) : R.1 / 688 * 2 + C.1 / 1408 < cfg0.N := lt_of_lt_of_eq (by omega) N_0.symm

theorem block (t : Fin cfg0.N) (R : Fin 688) (C : Fin 1408) (h : t.1 / 2 * 688 + R.1 < 8256) (h' : t.1 % 2 * 1408 + C.1 < 2816) :
    (k0_pay1 (F := Ideal) (iblk m c 0 t) (iblk m c 1 t) (ix2 R C) : EReal)
      = prodGrad (V m c main_arg0) (V m c main_arg1) ⟨t.1 / 2 * 688 + R.1, h⟩ ⟨t.1 % 2 * 1408 + C.1, h'⟩ :=
  (pay1 _ _ R C).trans (Finset.sum_congr rfl fun k _ => congrArg₂ (fun a b : EReal => a * b) (iblk0 m c t R k h) (iblk1 m c t C k h'))

theorem final4 : (dats m 0 c).arrAt 4 cfg0.N
    = G4 (m ((c : Thread nD τ).loc main_arg0)) (m ((c : Thread nD τ).loc main_arg1)) (m ((c : Thread nD τ).loc main_arg2))
      (m ((c : Thread nD τ).loc main_arg3)) := by
  refine (dats m 0 c).arrAt_eq_of_cover 4 _ (fun t _ => ?_) fun y => ?_
  · have hN : t.1 < 24 := lt_of_lt_of_eq t.isLt N_0
    rw [flushed4, out_eq4]
    funext y
    obtain ⟨R, C, rfl⟩ : ∃ (R : Fin 688) (C : Fin 1408), y = ix2 R C := ⟨y 0, y 1, eq_ix2 y⟩
    have hR : t.1 / 2 * 688 + R.1 < 8256 := by omega
    have hC : t.1 % 2 * 1408 + C.1 < 2816 := by omega
    refine (pay3 _ _ _ _ R C).trans (Eq.trans ?_ (congrArg (G4 _ _ _ _) (emb4 t R C hR hC)).symm)
    rw [block m c t R C hR hC, iblk2 m c t R C hR hC, iblk3 m c t R C hR hC]
    rfl
  · obtain ⟨R, C, rfl⟩ : ∃ (R : Fin 8256) (C : Fin 2816), y = ix2 R C := ⟨y 0, y 1, eq_ix2 y⟩
    refine ⟨⟨_, point_lt R C⟩, flush0_4 _, ?_⟩
    have h := ((cfg0.win 4).blk ⟨_, point_lt R C⟩).view.emb_mem_set (ix2 (⟨R.1 % 688, by omega⟩ : Fin 688) (⟨C.1 % 1408, by omega⟩ : Fin 1408))
    rw [emb4 _ _ _ (by dsimp only; omega) (by dsimp only; omega)] at h
    exact cover_of R C _ _ (by dsimp only; omega) (by dsimp only; omega) h

theorem final5 : (dats m 0 c).arrAt 5 cfg0.N
    = G5 (m ((c : Thread nD τ).loc main_arg0)) (m ((c : Thread nD τ).loc main_arg1)) (m ((c : Thread nD τ).loc main_arg2)) := by
  refine (dats m 0 c).arrAt_eq_of_cover 5 _ (fun t _ => ?_) fun y => ?_
  · have hN : t.1 < 24 := lt_of_lt_of_eq t.isLt N_0
    rw [flushed5, out_eq5]
    funext y
    obtain ⟨R, C, rfl⟩ : ∃ (R : Fin 688) (C : Fin 1408), y = ix2 R C := ⟨y 0, y 1, eq_ix2 y⟩
    have hR : t.1 / 2 * 688 + R.1 < 8256 := by omega
    have hC : t.1 % 2 * 1408 + C.1 < 2816 := by omega
    refine (pay4 _ _ _ R C).trans (Eq.trans ?_ (congrArg (G5 _ _ _) (emb5 t R C hR hC)).symm)
    rw [block m c t R C hR hC, iblk2 m c t R C hR hC]
    rfl
  · obtain ⟨R, C, rfl⟩ : ∃ (R : Fin 8256) (C : Fin 2816), y = ix2 R C := ⟨y 0, y 1, eq_ix2 y⟩
    refine ⟨⟨_, point_lt R C⟩, flush0_5 _, ?_⟩
    have h := ((cfg0.win 5).blk ⟨_, point_lt R C⟩).view.emb_mem_set (ix2 (⟨R.1 % 688, by omega⟩ : Fin 688) (⟨C.1 % 1408, by omega⟩ : Fin 1408))
    rw [emb5 _ _ _ (by dsimp only; omega) (by dsimp only; omega)] at h
    exact cover_of R C _ _ (by dsimp only; omega) (by dsimp only; omega) h

end Cert.Kernel2Ideal.Value

namespace Cert.Reference2Ideal.Value

open Cert.Reference2Ideal Cert.Reference2Ideal.Gen Idealize.ShloMosaic
open Cert.Kernel2Ideal.Value (prodGrad dA dB lg G4 G5)

/-- The whole product, as the reference forms it. -/
abbrev prod (x : FVec Ideal S8256x1024 .bf16) (w : FVec Ideal S2816x1024 .bf16) : FVec Ideal S8256x2816 .f32 :=
  Host.dotGeneral dot_S8256x1024_S2816x1024_S8256x2816_1_1_0_0_n_n none (extf .f32 x bitsLt_bf16_f32) (extf .f32 w bitsLt_bf16_f32)

theorem prod_apply (x : FVec Ideal S8256x1024 .bf16) (w : FVec Ideal S2816x1024 .bf16) (R : Fin 8256) (C : Fin 2816) :
    (prod x w (ix2 R C) : EReal) = prodGrad x w R C := by
  unfold prodGrad
  pointwise

/-- The logistic function of an array, as the reference forms it. -/
abbrev lgv (A : FVec Ideal S8256x2816 .f32) : FVec Ideal S8256x2816 .f32 :=
  Host.divf (broadcastInDim S8256x2816 ![] bcast_S_S8256x2816 (constant S_ .f32 0x3F800000#32))
    (addf (broadcastInDim S8256x2816 ![] bcast_S_S8256x2816 (constant S_ .f32 0x3F800000#32)) (Host.exp (Host.negf A)))

theorem lgv_apply (A : FVec Ideal S8256x2816 .f32) (R : Fin 8256) (C : Fin 2816) : (lgv A (ix2 R C) : EReal) = lg (A (ix2 R C)) := by
  unfold lg
  pointwise

theorem ref_eq4 (P : FVec Ideal S8256x2816 .f32) (A B L : FVec Ideal S8256x2816 .f32) (R : Fin 8256) (C : Fin 2816) :
    (truncf (F := Ideal) (φ := .f32) .bf16 (addf (mulf (mulf P B) L) (mulf (mulf A (mulf P B))
      (mulf L (subf (broadcastInDim S8256x2816 ![] bcast_S_S8256x2816 (constant S_ .f32 0x3F800000#32)) L)))) bitsLt_bf16_f32 (ix2 R C) : EReal)
      = P (ix2 R C) * B (ix2 R C) * L (ix2 R C) + A (ix2 R C) * (P (ix2 R C) * B (ix2 R C)) * (L (ix2 R C) * (1 - L (ix2 R C))) := by
  pointwise

theorem ref_eq5 (P : FVec Ideal S8256x2816 .f32) (A L : FVec Ideal S8256x2816 .f32) (R : Fin 8256) (C : Fin 2816) :
    (truncf (F := Ideal) (φ := .f32) .bf16 (mulf (mulf A L) P) bitsLt_bf16_f32 (ix2 R C) : EReal) = A (ix2 R C) * L (ix2 R C) * P (ix2 R C) := by
  pointwise

variable (x : FVec Ideal S8256x1024 .bf16) (w : FVec Ideal S2816x1024 .bf16) (a b : FVec Ideal S8256x2816 .bf16)

theorem first (hx : ∀ i, (x i : EReal) = ((x i : EReal).toReal : EReal)) (hw : ∀ i, (w i : EReal) = ((w i : EReal).toReal : EReal))
    (hb : ∀ i, (b i : EReal) = ((b i : EReal).toReal : EReal)) :
    (truncf (F := Ideal) (φ := .f32) .bf16 (addf (mulf (mulf (prod x w) (extf .f32 b bitsLt_bf16_f32)) (lgv (extf .f32 a bitsLt_bf16_f32)))
      (mulf (mulf (extf .f32 a bitsLt_bf16_f32) (mulf (prod x w) (extf .f32 b bitsLt_bf16_f32)))
        (mulf (lgv (extf .f32 a bitsLt_bf16_f32)) (subf (broadcastInDim S8256x2816 ![] bcast_S_S8256x2816 (constant S_ .f32 0x3F800000#32))
          (lgv (extf .f32 a bitsLt_bf16_f32)))))) bitsLt_bf16_f32 : FVec Ideal S8256x2816 .bf16) = G4 x w a b := by
  funext y
  obtain ⟨R, C, rfl⟩ : ∃ (R : Fin 8256) (C : Fin 2816), y = ix2 R C := ⟨y 0, y 1, eq_ix2 y⟩
  refine (ref_eq4 _ _ _ _ R C).trans ?_
  rw [prod_apply, lgv_apply]
  show _ = dA (prodGrad x w R C) (a (ix2 R C)) (b (ix2 R C))
  have hP : prodGrad x w R C = ((∑ k : Fin 1024, (x (ix2 R k) : EReal).toReal * (w (ix2 C k) : EReal).toReal : ℝ) : EReal) := by
    rw [coe_sum]
    exact Finset.sum_congr rfl fun k _ => by rw [EReal.coe_mul, ← hx, ← hw]
  have hB : (extf (F := Ideal) .f32 b bitsLt_bf16_f32 (ix2 R C) : EReal) = ((b (ix2 R C) : EReal).toReal : EReal) := hb _
  have hA : (extf (F := Ideal) .f32 a bitsLt_bf16_f32 (ix2 R C) : EReal) = a (ix2 R C) := rfl
  unfold dA
  rw [hP, hB, hA, hb (ix2 R C), ← EReal.coe_mul]
  exact (silu_deriv _ _ _ rfl).symm

theorem second : (truncf (F := Ideal) (φ := .f32) .bf16 (mulf (mulf (extf .f32 a bitsLt_bf16_f32) (lgv (extf .f32 a bitsLt_bf16_f32))) (prod x w))
      bitsLt_bf16_f32 : FVec Ideal S8256x2816 .bf16) = G5 x w a := by
  funext y
  obtain ⟨R, C, rfl⟩ : ∃ (R : Fin 8256) (C : Fin 2816), y = ix2 R C := ⟨y 0, y 1, eq_ix2 y⟩
  refine (ref_eq5 _ _ _ R C).trans ?_
  rw [prod_apply, lgv_apply]
  exact mul_comm _ _

end Cert.Reference2Ideal.Value

namespace Cert.Proof

open Idealize.ShloMosaic Idealize.ShloMosaic.TcCoe Idealize.SL.Sem

instance facts_finite2 : Cert.Pre_finite2.Facts := ⟨by decide, by decide, by decide, by decide⟩

theorem ds_frame : quiescent_Kernel2 := fun m ρ _ => Cert.Kernel2.Gen.frame m ρ
theorem ds_frameI : quiescent_Kernel2Ideal := fun m ρ _ => Cert.Kernel2Ideal.Gen.frame m ρ
theorem ds_frameI' : quiescent_Kernel2Ideal_pre_finite2 := fun m ρ _ => Cert.Kernel2Ideal.Gen.frame m ρ
theorem ds_frameR : quiescent_Reference2Ideal := fun m ρ _ =>
  (θ_run Cert.Reference2Ideal.defs _ _).mono (fun r h => ⟨fun c => (h c).2.2, sem_eq_zero_of_no_sems (by decide) _⟩) (Cert.Reference2Ideal.Value.run m ρ)
theorem ds_frameR' : quiescent_Reference2Ideal_pre_finite2 := fun m ρ _ => ds_frameR m ρ trivial

theorem ds_value : algebraic_Kernel2Ideal_Reference2Ideal_pre_finite2 := fun m ρ m' ρ' hp hag => by
  refine ⟨fun c => Cert.Kernel2Ideal.Value.G4 (m ((c : Thread Cert.Kernel2Ideal.nD Cert.Kernel2Ideal.τ).loc Cert.Kernel2Ideal.main_arg0))
      (m ((c : Thread Cert.Kernel2Ideal.nD Cert.Kernel2Ideal.τ).loc Cert.Kernel2Ideal.main_arg1))
      (m ((c : Thread Cert.Kernel2Ideal.nD Cert.Kernel2Ideal.τ).loc Cert.Kernel2Ideal.main_arg2))
      (m ((c : Thread Cert.Kernel2Ideal.nD Cert.Kernel2Ideal.τ).loc Cert.Kernel2Ideal.main_arg3)),
    fun c => Cert.Kernel2Ideal.Value.G5 (m ((c : Thread Cert.Kernel2Ideal.nD Cert.Kernel2Ideal.τ).loc Cert.Kernel2Ideal.main_arg0))
      (m ((c : Thread Cert.Kernel2Ideal.nD Cert.Kernel2Ideal.τ).loc Cert.Kernel2Ideal.main_arg1))
      (m ((c : Thread Cert.Kernel2Ideal.nD Cert.Kernel2Ideal.τ).loc Cert.Kernel2Ideal.main_arg2)), ?_, ?_⟩
  · exact (θ_run Cert.Kernel2Ideal.defs _ _).mono (fun r h c => ⟨(h c).1.trans (Cert.Kernel2Ideal.Value.final4 m c),
        (h c).2.1.trans (Cert.Kernel2Ideal.Value.final5 m c), (h c).2.2⟩) (Cert.Kernel2Ideal.Value.run_blocks m ρ)
  · refine (θ_run Cert.Reference2Ideal.defs _ _).mono (fun r h c => ⟨(h c).1.trans ?_, (h c).2.1.trans ?_, (h c).2.2⟩)
      (Cert.Reference2Ideal.Value.run m' ρ')
    · rw [(hag c).1, (hag c).2.1, (hag c).2.2.1, (hag c).2.2.2]
      exact Cert.Reference2Ideal.Value.first _ _ _ _ (fun i => real_of_abs_lt _ _ (hp c).1 i) (fun i => real_of_abs_lt _ _ (hp c).2.1 i)
        (fun i => real_of_abs_lt _ _ (hp c).2.2 i)
    · rw [(hag c).1, (hag c).2.1, (hag c).2.2.1]
      exact Cert.Reference2Ideal.Value.second _ _ _

end Cert.Proof
end
-- ==== Proof.NormBwd.lean ====
module

public import proofs.«01_k».proof.Proof.Common

/-! The gradient of a norm by the mean square, row by row: the kernel's form, which subtracts from the weighted gradient its mean along the normed row,
is the product rule's form, whatever extended reals the row and the gradient hold. -/

@[expose] public section

namespace Cert

open Idealize.ShloMosaic

/-- The mean square of a row, with the norm's small addend; `l` spells the row's length. -/
noncomputable def meanSq (l : BitVec 32) {n : ℕ} (x : Fin n → EReal) : EReal :=
  Ideal.div (∑ j, x j * x j) (Ideal.ofBits .f32 l) + Ideal.ofBits .f32 0x358637BD#32

/-- The kernel's gradient at one place of a row: `x` is the row, `a` the gradient times the norm's weights, `d` what the residual brings, `y` and `b` the row's
and the gradient's values there. -/
noncomputable def normBwd (l : BitVec 32) {n : ℕ} (x a : Fin n → EReal) (d y b : EReal) : EReal :=
  d + Ideal.rsqrt (meanSq l x) * (b - y * Ideal.rsqrt (meanSq l x) * Ideal.div (∑ j, a j * (x j * Ideal.rsqrt (meanSq l x))) (Ideal.ofBits .f32 l))

/-- What the product rule gives for the gradient of half the mean square. -/
noncomputable def meanSqBwd (l : BitVec 32) {n : ℕ} (x a : Fin n → EReal) : EReal :=
  Ideal.div ((∑ j, x j * a j) * (Ideal.ofBits .f32 0xBF000000#32 * Ideal.div (Ideal.rsqrt (meanSq l x)) (meanSq l x))) (Ideal.ofBits .f32 l)

/-- A word that spells a positive real. -/
def Positive (l : BitVec 32) : Prop := ∃ N : ℝ, 0 < N ∧ Ideal.ofBits .f32 l = (N : EReal)

theorem positive_1024 : Positive 0x44800000#32 := by
  refine ⟨1024, by norm_num, ?_⟩
  simp only [Ideal.ofBits, Ideal.ieee]; simp; rw [← EReal.coe_mul]; norm_num

theorem positive_512 : Positive 0x44000000#32 := by
  refine ⟨512, by norm_num, ?_⟩
  simp only [Ideal.ofBits, Ideal.ieee]; simp; rw [← EReal.coe_mul]; norm_num

theorem positive_256 : Positive 0x43800000#32 := by
  refine ⟨256, by norm_num, ?_⟩
  simp only [Ideal.ofBits, Ideal.ieee]; simp; rw [← EReal.coe_mul]; norm_num

theorem ofBits_neg_half : Ideal.ofBits .f32 0xBF000000#32 = ((-(1 / 2) : ℝ) : EReal) := by
  simp only [Ideal.ofBits, Ideal.ieee]; simp; rw [← EReal.coe_mul]; norm_num

theorem ofBits_eps : ∃ e : ℝ, 0 < e ∧ Ideal.ofBits .f32 0x358637BD#32 = (e : EReal) := by
  refine ⟨8796093 / 2 ^ 43, by norm_num, ?_⟩
  simp only [Ideal.ofBits, Ideal.ieee]; simp; rw [← EReal.coe_mul]; norm_num

theorem coe_mul_add (c : ℝ) (h : 0 ≤ c) (y z : EReal) : (c : EReal) * (y + z) = c * y + c * z :=
  EReal.left_distrib_of_nonneg_of_ne_top (EReal.coe_nonneg.2 h) (EReal.coe_ne_top c) y z

theorem coe_mul_sum {ι : Type} (c : ℝ) (h : 0 ≤ c) (s : Finset ι) (f : ι → EReal) : (c : EReal) * ∑ j ∈ s, f j = ∑ j ∈ s, c * f j := by
  classical
  induction s using Finset.induction_on with
  | empty => simp
  | insert a s ha ih => rw [Finset.sum_insert ha, Finset.sum_insert ha, coe_mul_add c h, ih]

theorem add_self (y : EReal) : y + y = ((2 : ℝ) : EReal) * y := by
  rw [show (2 : ℝ) = 1 + 1 by norm_num, EReal.coe_add, EReal.right_distrib_of_nonneg (by simp) (by simp)]
  simp

/-- The mean square is positive infinity or a positive real. -/
theorem meanSq_cases {l : BitVec 32} (hl : Positive l) {n : ℕ} (x : Fin n → EReal) : meanSq l x = ⊤ ∨ ∃ s : ℝ, 0 < s ∧ meanSq l x = (s : EReal) := by
  obtain ⟨e, he, hb⟩ := ofBits_eps
  obtain ⟨N, hN, hl⟩ := hl
  unfold meanSq
  rw [hb, hl, Ideal.div_coe hN.ne']
  have h0 : 0 ≤ ∑ j, x j * x j := Finset.sum_nonneg fun j _ => by
    rcases le_total 0 (x j) with h | h
    · exact mul_nonneg h h
    · rw [← neg_mul_neg]
      exact mul_nonneg (EReal.neg_nonneg.2 h) (EReal.neg_nonneg.2 h)
  induction h : ∑ j, x j * x j with
  | bot => rw [h] at h0; exact absurd h0 (by simp)
  | top =>
    refine Or.inl ?_
    rw [EReal.top_mul_coe_of_pos (by positivity)]
    simp
  | coe q =>
    rw [h] at h0
    have hq : 0 ≤ q := EReal.coe_nonneg.1 h0
    refine Or.inr ⟨q * (1 / N) + e, by positivity, ?_⟩
    rw [EReal.coe_add, EReal.coe_mul]

/-- The two forms of the gradient agree. -/
theorem normBwd_eq {l : BitVec 32} (hl : Positive l) {n : ℕ} (x a : Fin n → EReal) (d y b : EReal) :
    normBwd l x a d y b = d + b * Ideal.rsqrt (meanSq l x) + y * meanSqBwd l x a + meanSqBwd l x a * y := by
  unfold normBwd meanSqBwd
  rw [add_assoc (d + _), add_assoc d]
  have hc := meanSq_cases hl x
  obtain ⟨N, hN, hl⟩ := hl
  rcases hc with h | ⟨s, hs, h⟩ <;> rw [h]
  · have e : Ideal.div 0 ⊤ = 0 := by unfold Ideal.div; simp
    have e' : Ideal.div 0 (Ideal.ofBits .f32 l) = 0 := by rw [hl, Ideal.div_coe hN.ne']; simp
    simp only [Ideal.rsqrt_top, e, e', zero_mul, mul_zero, add_zero]
  · have hr : 0 < Real.sqrt s := Real.sqrt_pos.2 hs
    have e : Ideal.rsqrt (s : EReal) = (((Real.sqrt s)⁻¹ : ℝ) : EReal) := by
      rw [Ideal.rsqrt_coe, if_neg (not_lt.2 hs.le), if_neg hs.ne']
    rw [e]
    have hq : (Real.sqrt s)⁻¹ * (Real.sqrt s)⁻¹ = 1 / s := by rw [← mul_inv, Real.mul_self_sqrt hs.le, one_div]
    have hq0 : 0 ≤ (Real.sqrt s)⁻¹ := inv_nonneg.2 hr.le
    generalize (Real.sqrt s)⁻¹ = q at hq hq0
    rw [hl, ofBits_neg_half, Ideal.div_coe hs.ne', Ideal.div_coe hN.ne', Ideal.div_coe hN.ne']
    have hS : ∑ j, a j * (x j * (q : EReal)) = q * ∑ j, x j * a j := by
      rw [coe_mul_sum q hq0]
      exact Finset.sum_congr rfl fun j _ => by ac_rfl
    rw [hS]
    generalize ∑ j, x j * a j = S
    rw [sub_eq_add_neg, coe_mul_add q hq0, mul_comm _ y, add_self, mul_comm (q : EReal) b]
    congr 2
    rw [mul_neg, ← neg_mul, ← EReal.coe_neg]
    calc ((-q : ℝ) : EReal) * (y * q * (q * S * ((1 / N : ℝ) : EReal)))
        = ((-q * q * q * (1 / N) : ℝ) : EReal) * (y * S) := by simp only [EReal.coe_mul]; ac_rfl
      _ = ((2 * (-(1 / 2) * (q * (1 / s)) * (1 / N)) : ℝ) : EReal) * (y * S) := by rw [← hq]; congr 2; ring
      _ = _ := by simp only [EReal.coe_mul]; ac_rfl

end Cert
-- ==== Proof.Dhn.lean ====
module

public import proofs.«01_k».proof.Defs
public import proofs.«01_k».proof.Proof.NormBwd
public import proofs.«01_k».proof.Proof.Gen.Kernel3.Frame
public import proofs.«01_k».proof.Proof.Gen.Kernel3Ideal.Frame
public import proofs.«01_k».proof.Proof.Gen.Reference3Ideal.Run
public import Idealize.ShloMosaic.Lib.Quiescent

/-! The gradient of swiglu's two projections and of the norm before them: a block of rows is contracted with the first weights and then with the second, each in
two blocks of the long dimension, into an accumulator; at the last block the sum goes back through the norm, and the norm's weights' gradient adds up over the
blocks of rows. -/

@[expose] public section

set_option maxRecDepth 16384

noncomputable section

namespace Cert.Kernel3Ideal.Value

open Cert.Kernel3Ideal Cert.Kernel3Ideal.Gen Idealize.ShloMosaic Idealize.ShloMosaic.TcCoe Idealize.SL.Sem

theorem pay2_congr {a a' : FVec Ideal S688x1024 .f32} {x x' : FVec Ideal S688x1408 .bf16} {w w' : FVec Ideal S1024x1408 .bf16} (h : a = a') (h' : x = x')
    (h'' : w = w') : k0_pay2 (F := Ideal) a x w = k0_pay2 (F := Ideal) a' x' w' := by rw [h, h', h'']

theorem pay9_congr {a a' : FVec Ideal S688x1024 .f32} {x x' : FVec Ideal S688x1408 .bf16} {w w' : FVec Ideal S1024x1408 .bf16} {h h' : FVec Ideal S688x1024 .f32}
    {v v' : FVec Ideal S1x1024 .f32} {d d' : FVec Ideal S688x1024 .f32} (e1 : a = a') (e2 : x = x') (e3 : w = w') (e4 : h = h') (e5 : v = v') (e6 : d = d') :
    k0_pay9 (F := Ideal) a x w h v d = k0_pay9 (F := Ideal) a' x' w' h' v' d' := by rw [e1, e2, e3, e4, e5, e6]

theorem pay11_congr {a a' : FVec Ideal S688x1024 .f32} {x x' : FVec Ideal S688x1408 .bf16} {w w' : FVec Ideal S1024x1408 .bf16} {h h' : FVec Ideal S688x1024 .f32}
    (e1 : a = a') (e2 : x = x') (e3 : w = w') (e4 : h = h') :
    k0_pay11 (F := Ideal) a x w h = k0_pay11 (F := Ideal) a' x' w' h' := by rw [e1, e2, e3, e4]

section stores

variable (c : Dev nD) (i : grid0.Coords) (arg2 : Memref sig .tc .vmem S688x1408 .bf16) (harg2 : arg2.IsWhole) (arg3 : Memref sig .tc .vmem S1024x1408 .bf16)
  (harg3 : arg3.IsWhole) (arg4 : Memref sig .tc .vmem S688x1408 .bf16) (harg4 : arg4.IsWhole) (arg5 : Memref sig .tc .vmem S1024x1408 .bf16)
  (harg5 : arg5.IsWhole) (arg6 : Memref sig .tc .vmem S688x1024 .f32) (harg6 : arg6.IsWhole) (arg7 : Memref sig .tc .vmem S1x1024 .f32) (harg7 : arg7.IsWhole)
  (arg8 : Memref sig .tc .vmem S688x1024 .f32) (harg8 : arg8.IsWhole) (arg9 : Memref sig .tc .vmem S688x1024 .f32) (harg9 : arg9.IsWhole)
  (arg10 : Memref sig .tc .vmem S688x1024 .bf16) (harg10 : arg10.IsWhole) (arg11 : Memref sig .tc .vmem S1x1024 .f32) (harg11 : arg11.IsWhole)
  (arg12 : Memref sig .tc .vmem S688x1024 .f32) (harg12 : arg12.IsWhole) (x0 : FVec Ideal S688x1408 .bf16) (x1 : FVec Ideal S1024x1408 .bf16)
  (x2 : FVec Ideal S688x1408 .bf16) (x3 : FVec Ideal S1024x1408 .bf16) (x4 : FVec Ideal S688x1024 .f32) (x5 : FVec Ideal S1x1024 .f32)
  (x6 : FVec Ideal S688x1024 .f32) (xo9 : FVec Ideal S1x1024 .f32) (xs0 : FVec Ideal S688x1024 .f32)

theorem outA (hc0 : cond0_0 i) (hc1 : ¬cond0_1 i) (hc2 : ¬cond0_2 i) (hc3 : ¬cond0_3 i) :
    sout0_A_0 (F := Ideal) c i arg2 harg2 arg3 harg3 arg4 harg4 arg5 harg5 arg6 harg6 arg7 harg7 arg8 harg8 arg9 harg9 arg10 harg10 arg11 harg11 arg12 harg12 hc0 hc1 hc2 hc3
      x0 x1 x2 x3 x4 x5 x6 = k0_pay1 (F := Ideal) x0 x1 := by
  unfold sout0_A_0
  rw [View.read_writes_junk_eq_canon]
  unfold kernelRun0_A
  dsimp only
  refine (View.canon_unit_zero (S := S688x1024) vec2_zero _ _).trans ?_
  exact congrArg₂ (k0_pay1 (F := Ideal)) (read_whole arg2 harg2 x0 vec2_zero _) (read_whole arg3 harg3 x1 vec2_zero _)

theorem outB (hc0 : ¬cond0_0 i) (hc1 : cond0_1 i) (hc2 : ¬cond0_2 i) (hc3 : ¬cond0_3 i) :
    sout0_B_0 (F := Ideal) c i arg2 harg2 arg3 harg3 arg4 harg4 arg5 harg5 arg6 harg6 arg7 harg7 arg8 harg8 arg9 harg9 arg10 harg10 arg11 harg11 arg12 harg12 hc0 hc1 hc2 hc3
      x0 x1 x2 x3 x4 x5 x6 xs0 = k0_pay2 (F := Ideal) xs0 x0 x1 := by
  unfold sout0_B_0
  rw [View.read_writes_junk_eq_canon]
  unfold kernelRun0_B
  dsimp only
  refine (View.canon_unit_zero (S := S688x1024) vec2_zero _ _).trans ?_
  exact pay2_congr (read_whole arg12 harg12 xs0 vec2_zero _) (read_whole arg2 harg2 x0 vec2_zero _) (read_whole arg3 harg3 x1 vec2_zero _)

theorem outC (hc0 : ¬cond0_0 i) (hc1 : ¬cond0_1 i) (hc2 : cond0_2 i) (hc3 : ¬cond0_3 i) :
    sout0_C_0 (F := Ideal) c i arg2 harg2 arg3 harg3 arg4 harg4 arg5 harg5 arg6 harg6 arg7 harg7 arg8 harg8 arg9 harg9 arg10 harg10 arg11 harg11 arg12 harg12 hc0 hc1 hc2 hc3
      x0 x1 x2 x3 x4 x5 x6 xs0 = k0_pay2 (F := Ideal) xs0 x2 x3 := by
  unfold sout0_C_0
  rw [View.read_writes_junk_eq_canon]
  unfold kernelRun0_C
  dsimp only
  refine (View.canon_unit_zero (S := S688x1024) vec2_zero _ _).trans ?_
  exact pay2_congr (read_whole arg12 harg12 xs0 vec2_zero _) (read_whole arg4 harg4 x2 vec2_zero _) (read_whole arg5 harg5 x3 vec2_zero _)

theorem outD7 (hc0 : ¬cond0_0 i) (hc1 : ¬cond0_1 i) (hc2 : ¬cond0_2 i) (hc3 : cond0_3 i) (hc4 : cond0_4 i) (hc5 : ¬cond0_5 i) :
    out0_D_7 (F := Ideal) c i arg2 harg2 arg3 harg3 arg4 harg4 arg5 harg5 arg6 harg6 arg7 harg7 arg8 harg8 arg9 harg9 arg10 harg10 arg11 harg11 arg12 harg12 hc0 hc1 hc2 hc3 hc4 hc5
      x0 x1 x2 x3 x4 x5 x6 xs0 = k0_pay9 (F := Ideal) xs0 x2 x3 x4 x5 x6 := by
  unfold out0_D_7
  rw [View.read_writes_junk_eq_canon]
  unfold kernelRun0_D
  dsimp only
  refine (View.canon_unit_zero (S := S688x1024) vec2_zero _ _).trans ?_
  exact pay9_congr (read_whole arg12 harg12 xs0 vec2_zero _) (read_whole arg4 harg4 x2 vec2_zero _) (read_whole arg5 harg5 x3 vec2_zero _)
    (read_whole arg6 harg6 x4 vec2_zero _) (read_whole arg7 harg7 x5 vec2_zero _) (read_whole arg8 harg8 x6 vec2_zero _)

theorem outD8 (hc0 : ¬cond0_0 i) (hc1 : ¬cond0_1 i) (hc2 : ¬cond0_2 i) (hc3 : cond0_3 i) (hc4 : cond0_4 i) (hc5 : ¬cond0_5 i) :
    (out0_D_8 (F := Ideal) c i arg2 harg2 arg3 harg3 arg4 harg4 arg5 harg5 arg6 harg6 arg7 harg7 arg8 harg8 arg9 harg9 arg10 harg10 arg11 harg11 arg12 harg12 hc0 hc1 hc2 hc3 hc4 hc5
      x0 x1 x2 x3 x4 x5 x6 xs0 : S688x1024.Idx → EReal) = k0_pay9 (F := Ideal) xs0 x2 x3 x4 x5 x6 := by
  unfold out0_D_8
  rw [View.read_writes_junk_eq_canon]
  unfold kernelRun0_D
  dsimp only
  refine (View.canon_unit_zero (S := S688x1024) vec2_zero _ _).trans ?_
  exact pay9_congr (read_whole arg12 harg12 xs0 vec2_zero _) (read_whole arg4 harg4 x2 vec2_zero _) (read_whole arg5 harg5 x3 vec2_zero _)
    (read_whole arg6 harg6 x4 vec2_zero _) (read_whole arg7 harg7 x5 vec2_zero _) (read_whole arg8 harg8 x6 vec2_zero _)

theorem outD9 (hc0 : ¬cond0_0 i) (hc1 : ¬cond0_1 i) (hc2 : ¬cond0_2 i) (hc3 : cond0_3 i) (hc4 : cond0_4 i) (hc5 : ¬cond0_5 i) :
    out0_D_9 (F := Ideal) c i arg2 harg2 arg3 harg3 arg4 harg4 arg5 harg5 arg6 harg6 arg7 harg7 arg8 harg8 arg9 harg9 arg10 harg10 arg11 harg11 arg12 harg12 hc0 hc1 hc2 hc3 hc4 hc5
      x0 x1 x2 x3 x4 x5 x6 xs0 = k0_pay4 (F := Ideal) (k0_pay11 (F := Ideal) xs0 x2 x3 x4) := by
  unfold out0_D_9
  rw [View.read_writes_junk_eq_canon]
  unfold kernelRun0_D
  dsimp only
  refine (View.canon_unit_zero (S := S1x1024) vec2_zero _ _).trans ?_
  exact congrArg (k0_pay4 (F := Ideal)) (pay11_congr (read_whole arg12 harg12 xs0 vec2_zero _) (read_whole arg4 harg4 x2 vec2_zero _)
    (read_whole arg5 harg5 x3 vec2_zero _) (read_whole arg6 harg6 x4 vec2_zero _))

theorem outE7 (hc0 : ¬cond0_0 i) (hc1 : ¬cond0_1 i) (hc2 : ¬cond0_2 i) (hc3 : cond0_3 i) (hc4 : ¬cond0_4 i) (hc5 : cond0_5 i) :
    out0_E_7 (F := Ideal) c i arg2 harg2 arg3 harg3 arg4 harg4 arg5 harg5 arg6 harg6 arg7 harg7 arg8 harg8 arg9 harg9 arg10 harg10 arg11 harg11 arg12 harg12 hc0 hc1 hc2 hc3 hc4 hc5
      x0 x1 x2 x3 x4 x5 x6 xo9 xs0 = k0_pay9 (F := Ideal) xs0 x2 x3 x4 x5 x6 := by
  unfold out0_E_7
  rw [View.read_writes_junk_eq_canon]
  unfold kernelRun0_E
  dsimp only
  refine (View.canon_unit_zero (S := S688x1024) vec2_zero _ _).trans ?_
  exact pay9_congr (read_whole arg12 harg12 xs0 vec2_zero _) (read_whole arg4 harg4 x2 vec2_zero _) (read_whole arg5 harg5 x3 vec2_zero _)
    (read_whole arg6 harg6 x4 vec2_zero _) (read_whole arg7 harg7 x5 vec2_zero _) (read_whole arg8 harg8 x6 vec2_zero _)

theorem outE8 (hc0 : ¬cond0_0 i) (hc1 : ¬cond0_1 i) (hc2 : ¬cond0_2 i) (hc3 : cond0_3 i) (hc4 : ¬cond0_4 i) (hc5 : cond0_5 i) :
    (out0_E_8 (F := Ideal) c i arg2 harg2 arg3 harg3 arg4 harg4 arg5 harg5 arg6 harg6 arg7 harg7 arg8 harg8 arg9 harg9 arg10 harg10 arg11 harg11 arg12 harg12 hc0 hc1 hc2 hc3 hc4 hc5
      x0 x1 x2 x3 x4 x5 x6 xo9 xs0 : S688x1024.Idx → EReal) = k0_pay9 (F := Ideal) xs0 x2 x3 x4 x5 x6 := by
  unfold out0_E_8
  rw [View.read_writes_junk_eq_canon]
  unfold kernelRun0_E
  dsimp only
  refine (View.canon_unit_zero (S := S688x1024) vec2_zero _ _).trans ?_
  exact pay9_congr (read_whole arg12 harg12 xs0 vec2_zero _) (read_whole arg4 harg4 x2 vec2_zero _) (read_whole arg5 harg5 x3 vec2_zero _)
    (read_whole arg6 harg6 x4 vec2_zero _) (read_whole arg7 harg7 x5 vec2_zero _) (read_whole arg8 harg8 x6 vec2_zero _)

theorem outE9 (hc0 : ¬cond0_0 i) (hc1 : ¬cond0_1 i) (hc2 : ¬cond0_2 i) (hc3 : cond0_3 i) (hc4 : ¬cond0_4 i) (hc5 : cond0_5 i) :
    out0_E_9 (F := Ideal) c i arg2 harg2 arg3 harg3 arg4 harg4 arg5 harg5 arg6 harg6 arg7 harg7 arg8 harg8 arg9 harg9 arg10 harg10 arg11 harg11 arg12 harg12 hc0 hc1 hc2 hc3 hc4 hc5
      x0 x1 x2 x3 x4 x5 x6 xo9 xs0 = k0_pay5 (F := Ideal) (k0_pay11 (F := Ideal) xs0 x2 x3 x4) xo9 := by
  unfold out0_E_9
  rw [View.read_writes_junk_eq_canon]
  unfold kernelRun0_E
  dsimp only
  refine (View.canon_unit_zero (S := S1x1024) vec2_zero _ _).trans ?_
  exact congrArg₂ (k0_pay5 (F := Ideal)) (pay11_congr (read_whole arg12 harg12 xs0 vec2_zero _) (read_whole arg4 harg4 x2 vec2_zero _)
    (read_whole arg5 harg5 x3 vec2_zero _) (read_whole arg6 harg6 x4 vec2_zero _)) (read_whole arg11 harg11 xo9 vec2_zero _)

end stores

/-- A term of a block's product at one index. -/
def prod (x : FVec Ideal S688x1408 .bf16) (w : FVec Ideal S1024x1408 .bf16) (R : Fin 688) (C : Fin 1024) (k : Fin 1408) : EReal :=
  (x (ix2 R k) * w (ix2 C k) : EReal)

theorem pay1 (x : FVec Ideal S688x1408 .bf16) (w : FVec Ideal S1024x1408 .bf16) (R : Fin 688) (C : Fin 1024) :
    (k0_pay1 (F := Ideal) x w (ix2 R C) : EReal) = ∑ k : Fin 1408, prod x w R C k := by
  unfold prod k0_pay1
  pointwise

theorem pay2 (a : FVec Ideal S688x1024 .f32) (x : FVec Ideal S688x1408 .bf16) (w : FVec Ideal S1024x1408 .bf16) (R : Fin 688) (C : Fin 1024) :
    (k0_pay2 (F := Ideal) a x w (ix2 R C) : EReal) = (a (ix2 R C) : EReal) + ∑ k : Fin 1408, prod x w R C k := by
  unfold prod k0_pay2
  pointwise

theorem pay6 (a : FVec Ideal S688x1024 .f32) (x : FVec Ideal S688x1408 .bf16) (w : FVec Ideal S1024x1408 .bf16) (R : Fin 688) (C : Fin 1024) :
    (k0_pay6 (F := Ideal) a x w (ix2 R C) : EReal) = (a (ix2 R C) : EReal) + ∑ k : Fin 1408, prod x w R C k := by
  unfold prod k0_pay6
  pointwise

theorem pay4 (a : FVec Ideal S688x1024 .f32) (C : Fin 1024) :
    (k0_pay4 (F := Ideal) a (ix2 0 C) : EReal) = ∑ k : Fin 688, (a (ix2 k C) : EReal) := by
  unfold k0_pay4
  pointwise

theorem pay5 (a : FVec Ideal S688x1024 .f32) (d : FVec Ideal S1x1024 .f32) (C : Fin 1024) :
    (k0_pay5 (F := Ideal) a d (ix2 0 C) : EReal) = (d (ix2 0 C) : EReal) + ∑ k : Fin 688, (a (ix2 k C) : EReal) := by
  unfold k0_pay5 k0_pay4
  pointwise

theorem pay11 (a : FVec Ideal S688x1024 .f32) (x : FVec Ideal S688x1408 .bf16) (w : FVec Ideal S1024x1408 .bf16) (h : FVec Ideal S688x1024 .f32) (R : Fin 688)
    (C : Fin 1024) :
    (k0_pay11 (F := Ideal) a x w h (ix2 R C) : EReal)
      = (k0_pay6 (F := Ideal) a x w (ix2 R C) : EReal) * ((h (ix2 R C) : EReal) * Ideal.rsqrt (meanSq 0x44800000#32 fun j => (h (ix2 R j) : EReal))) := by
  unfold meanSq k0_pay11 k0_pay8 k0_pay7
  pointwise

theorem pay9 (a : FVec Ideal S688x1024 .f32) (x : FVec Ideal S688x1408 .bf16) (w : FVec Ideal S1024x1408 .bf16) (h : FVec Ideal S688x1024 .f32)
    (v : FVec Ideal S1x1024 .f32) (d : FVec Ideal S688x1024 .f32) (R : Fin 688) (C : Fin 1024) :
    (k0_pay9 (F := Ideal) a x w h v d (ix2 R C) : EReal)
      = normBwd 0x44800000#32 (fun j => (h (ix2 R j) : EReal)) (fun j => (k0_pay6 (F := Ideal) a x w (ix2 R j) : EReal) * (v (ix2 0 j) : EReal)) (d (ix2 R C) : EReal)
        (h (ix2 R C) : EReal) ((k0_pay6 (F := Ideal) a x w (ix2 R C) : EReal) * (v (ix2 0 C) : EReal)) := by
  unfold normBwd meanSq k0_pay9 k0_pay8 k0_pay7
  pointwise

theorem idx0 : ∀ t : Fin cfg0.N, win0_0.index t (0 : Fin 2) = t.1 / 4 ∧ win0_0.index t (1 : Fin 2) = min (t.1 % 4) 1 := (by decide +kernel : ∀ t : Fin grid0.N, _)
theorem idx1 : ∀ t : Fin cfg0.N, win0_1.index t (0 : Fin 2) = 0 ∧ win0_1.index t (1 : Fin 2) = min (t.1 % 4) 1 := (by decide +kernel : ∀ t : Fin grid0.N, _)
theorem idx2 : ∀ t : Fin cfg0.N, win0_2.index t (0 : Fin 2) = t.1 / 4 ∧ win0_2.index t (1 : Fin 2) = t.1 % 4 - 2 := (by decide +kernel : ∀ t : Fin grid0.N, _)
theorem idx3 : ∀ t : Fin cfg0.N, win0_3.index t (0 : Fin 2) = 0 ∧ win0_3.index t (1 : Fin 2) = t.1 % 4 - 2 := (by decide +kernel : ∀ t : Fin grid0.N, _)
theorem idx4 : ∀ t : Fin cfg0.N, win0_4.index t (0 : Fin 2) = t.1 / 4 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = t.1 / 4 ∧ win0_6.index t (1 : Fin 2) = 0 := (by decide +kernel : ∀ t : Fin grid0.N, _)
theorem idx7 : ∀ t : Fin cfg0.N, win0_7.index t (0 : Fin 2) = t.1 / 4 ∧ win0_7.index t (1 : Fin 2) = 0 := (by decide +kernel : ∀ t : Fin grid0.N, _)
theorem idx8 : ∀ t : Fin cfg0.N, win0_8.index t (0 : Fin 2) = t.1 / 4 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)

/-- The terms of a product at one index. -/
def term (x : FVec Ideal S8256x2816 .bf16) (w : FVec Ideal S1024x2816 .bf16) (R : Fin 8256) (C : Fin 1024) : Fin 2816 → EReal :=
  fun k => (x (ix2 R k) * w (ix2 C k) : EReal)

/-- What reaches the norm at one index: the sum of the two products with the transposed weights. -/
def grad (x : FVec Ideal S8256x2816 .bf16) (w : FVec Ideal S1024x2816 .bf16) (x' : FVec Ideal S8256x2816 .bf16) (w' : FVec Ideal S1024x2816 .bf16)
    (R : Fin 8256) (C : Fin 1024) : EReal :=
  (∑ k : Fin 2816, term x' w' R C k) + ∑ k : Fin 2816, term x w R C k

/-- The first result (and the second, which is the same at a narrower type): the gradient of the norm's rows. -/
def G (x : FVec Ideal S8256x2816 .bf16) (w : FVec Ideal S1024x2816 .bf16) (x' : FVec Ideal S8256x2816 .bf16) (w' : FVec Ideal S1024x2816 .bf16)
    (h : FVec Ideal S8256x1024 .f32) (v : FVec Ideal S1x1024 .f32) (r : FVec Ideal S8256x1024 .f32) : FVec Ideal S8256x1024 .f32 :=
  fun y => normBwd 0x44800000#32 (fun j => (h (ix2 (y 0) j) : EReal)) (fun j => grad x w x' w' (y 0) j * (v (ix2 0 j) : EReal)) (r (ix2 (y 0) (y 1)) : EReal)
    (h (ix2 (y 0) (y 1)) : EReal) (grad x w x' w' (y 0) (y 1) * (v (ix2 0 (y 1)) : EReal))

/-- A row's share of the gradient of the norm's weights. -/
def wterm (x : FVec Ideal S8256x2816 .bf16) (w : FVec Ideal S1024x2816 .bf16) (x' : FVec Ideal S8256x2816 .bf16) (w' : FVec Ideal S1024x2816 .bf16)
    (h : FVec Ideal S8256x1024 .f32) (C : Fin 1024) : Fin 8256 → EReal :=
  fun R => grad x w x' w' R C * ((h (ix2 R C) : EReal) * Ideal.rsqrt (meanSq 0x44800000#32 fun j => (h (ix2 R j) : EReal)))

/-- The third result: the gradient of the norm's weights. -/
def W (x : FVec Ideal S8256x2816 .bf16) (w : FVec Ideal S1024x2816 .bf16) (x' : FVec Ideal S8256x2816 .bf16) (w' : FVec Ideal S1024x2816 .bf16)
    (h : FVec Ideal S8256x1024 .f32) : FVec Ideal S1x1024 .f32 :=
  fun y => ∑ R : Fin 8256, wterm x w x' w' h (y 1) R

variable (m : (ℓ : Loc nD τ sig) → Buf (Elt Ideal) ℓ) (c : Dev nD)

theorem iblk0 (t : Fin cfg0.N) (q : Nat) (hq : min (t.1 % 4) 1 = q) (R : Fin 688) (C : Fin 1408) (h : t.1 / 4 * 688 + R.1 < 8256) (h' : q * 1408 + C.1 < 2816) :
    (iblk m c 0 t : FVec Ideal S688x1408 .bf16) (ix2 R C)
      = (V m c main_arg0 : FVec Ideal S8256x2816 .bf16) (ix2 ⟨t.1 / 4 * 688 + R.1, h⟩ ⟨q * 1408 + C.1, h'⟩) := by
  obtain ⟨e0, e1⟩ := idx0 t
  refine congrArg (V m c main_arg0) (funext fun a => Fin.ext ?_)
  match a with
  | ⟨0, _⟩ => show win0_0.index t (0 : Fin 2) * 688 + 1 * R.1 = t.1 / 4 * 688 + R.1; omega
  | ⟨1, _⟩ => show win0_0.index t (1 : Fin 2) * 1408 + 1 * C.1 = q * 1408 + C.1; omega

theorem iblk1 (t : Fin cfg0.N) (q : Nat) (hq : min (t.1 % 4) 1 = q) (R : Fin 1024) (C : Fin 1408) (h' : q * 1408 + C.1 < 2816) :
    (iblk m c 1 t : FVec Ideal S1024x1408 .bf16) (ix2 R C) = (V m c main_arg1 : FVec Ideal S1024x2816 .bf16) (ix2 R ⟨q * 1408 + C.1, h'⟩) := by
  obtain ⟨e0, e1⟩ := idx1 t
  refine congrArg (V m c main_arg1) (funext fun a => Fin.ext ?_)
  match a with
  | ⟨0, _⟩ => show win0_1.index t (0 : Fin 2) * 1024 + 1 * R.1 = R.1; omega
  | ⟨1, _⟩ => show win0_1.index t (1 : Fin 2) * 1408 + 1 * C.1 = q * 1408 + C.1; omega

theorem iblk2 (t : Fin cfg0.N) (q : Nat) (hq : (t.1 % 4 - 2) = q) (R : Fin 688) (C : Fin 1408) (h : t.1 / 4 * 688 + R.1 < 8256) (h' : q * 1408 + C.1 < 2816) :
    (iblk m c 2 t : FVec Ideal S688x1408 .bf16) (ix2 R C)
      = (V m c main_arg2 : FVec Ideal S8256x2816 .bf16) (ix2 ⟨t.1 / 4 * 688 + R.1, h⟩ ⟨q * 1408 + C.1, h'⟩) := by
  obtain ⟨e0, e1⟩ := idx2 t
  refine congrArg (V m c main_arg2) (funext fun a => Fin.ext ?_)
  match a with
  | ⟨0, _⟩ => show win0_2.index t (0 : Fin 2) * 688 + 1 * R.1 = t.1 / 4 * 688 + R.1; omega
  | ⟨1, _⟩ => show win0_2.index t (1 : Fin 2) * 1408 + 1 * C.1 = q * 1408 + C.1; omega

theorem iblk3 (t : Fin cfg0.N) (q : Nat) (hq : (t.1 % 4 - 2) = q) (R : Fin 1024) (C : Fin 1408) (h' : q * 1408 + C.1 < 2816) :
    (iblk m c 3 t : FVec Ideal S1024x1408 .bf16) (ix2 R C) = (V m c main_arg3 : FVec Ideal S1024x2816 .bf16) (ix2 R ⟨q * 1408 + C.1, h'⟩) := by
  obtain ⟨e0, e1⟩ := idx3 t
  refine congrArg (V m c main_arg3) (funext fun a => Fin.ext ?_)
  match a with
  | ⟨0, _⟩ => show win0_3.index t (0 : Fin 2) * 1024 + 1 * R.1 = R.1; omega
  | ⟨1, _⟩ => show win0_3.index t (1 : Fin 2) * 1408 + 1 * C.1 = q * 1408 + C.1; omega

theorem iblk4 (t : Fin cfg0.N) (R : Fin 688) (C : Fin 1024) (h : t.1 / 4 * 688 + R.1 < 8256) :
    (iblk m c 4 t : FVec Ideal S688x1024 .f32) (ix2 R C) = (V m c main_arg4 : FVec Ideal S8256x1024 .f32) (ix2 ⟨t.1 / 4 * 688 + R.1, h⟩ C) := by
  obtain ⟨e0, e1⟩ := idx4 t
  refine congrArg (V m c main_arg4) (funext fun a => Fin.ext ?_)
  match a with
  | ⟨0, _⟩ => show win0_4.index t (0 : Fin 2) * 688 + 1 * R.1 = t.1 / 4 * 688 + R.1; omega
  | ⟨1, _⟩ => show win0_4.index t (1 : Fin 2) * 1024 + 1 * C.1 = C.1; omega

theorem iblk6 (t : Fin cfg0.N) (R : Fin 688) (C : Fin 1024) (h : t.1 / 4 * 688 + R.1 < 8256) :
    (iblk m c 6 t : FVec Ideal S688x1024 .f32) (ix2 R C) = (V m c main_arg6 : FVec Ideal S8256x1024 .f32) (ix2 ⟨t.1 / 4 * 688 + R.1, h⟩ C) := by
  obtain ⟨e0, e1⟩ := idx6 t
  refine congrArg (V m c main_arg6) (funext fun a => Fin.ext ?_)
  match a with
  | ⟨0, _⟩ => show win0_6.index t (0 : Fin 2) * 688 + 1 * R.1 = t.1 / 4 * 688 + R.1; omega
  | ⟨1, _⟩ => show win0_6.index t (1 : Fin 2) * 1024 + 1 * C.1 = C.1; omega

theorem iblk5 (t : Fin cfg0.N) (R : Fin 1) (C : Fin 1024) :
    (iblk m c 5 t : FVec Ideal S1x1024 .f32) (ix2 R C) = (V m c main_arg5 : FVec Ideal S1x1024 .f32) (ix2 R C) := by
  obtain ⟨e0, e1⟩ := idx5 t
  refine congrArg (V m c main_arg5) (funext fun a => Fin.ext ?_)
  match a with
  | ⟨0, _⟩ => show win0_5.index t (0 : Fin 2) * 1 + 1 * R.1 = R.1; omega
  | ⟨1, _⟩ => show win0_5.index t (1 : Fin 2) * 1024 + 1 * C.1 = C.1; omega

theorem emb7 (t : Fin cfg0.N) (R : Fin 688) (C : Fin 1024) (h : t.1 / 4 * 688 + R.1 < 8256) :
    ((cfg0.win 7).blk t).view.emb (ix2 R C) = ix2 ⟨t.1 / 4 * 688 + R.1, h⟩ C := by
  obtain ⟨e0, e1⟩ := idx7 t
  funext a; apply Fin.ext
  match a with
  | ⟨0, _⟩ => show win0_7.index t (0 : Fin 2) * 688 + 1 * R.1 = t.1 / 4 * 688 + R.1; omega
  | ⟨1, _⟩ => show win0_7.index t (1 : Fin 2) * 1024 + 1 * C.1 = C.1; omega

theorem emb8 (t : Fin cfg0.N) (R : Fin 688) (C : Fin 1024) (h : t.1 / 4 * 688 + R.1 < 8256) :
    ((cfg0.win 8).blk t).view.emb (ix2 R C) = ix2 ⟨t.1 / 4 * 688 + R.1, h⟩ C := by
  obtain ⟨e0, e1⟩ := idx8 t
  funext a; apply Fin.ext
  match a with
  | ⟨0, _⟩ => show win0_8.index t (0 : Fin 2) * 688 + 1 * R.1 = t.1 / 4 * 688 + R.1; omega
  | ⟨1, _⟩ => show win0_8.index t (1 : Fin 2) * 1024 + 1 * C.1 = C.1; omega

theorem emb9 (t : Fin cfg0.N) (R : Fin 1) (C : Fin 1024) : ((cfg0.win 9).blk t).view.emb (ix2 R C) = ix2 R C := by
  obtain ⟨e0, e1⟩ := idx9 t
  funext a; apply Fin.ext
  match a with
  | ⟨0, _⟩ => show win0_9.index t (0 : Fin 2) * 1 + 1 * R.1 = R.1; omega
  | ⟨1, _⟩ => show win0_9.index t (1 : Fin 2) * 1024 + 1 * C.1 = C.1; omega

/-- The sum of the terms of the first product up to a point's block: that up to the block before, and the point's product. -/
theorem block0 (t : Fin cfg0.N) (q : Nat) (hq : min (t.1 % 4) 1 = q) (h2 : q < 2) (R : Fin 688) (C : Fin 1024) (h : t.1 / 4 * 688 + R.1 < 8256) :
    ∑ j ∈ Finset.range ((q + 1) * 1408), ext (term (V m c main_arg0) (V m c main_arg1) ⟨t.1 / 4 * 688 + R.1, h⟩ C) j
      = ∑ j ∈ Finset.range (q * 1408), ext (term (V m c main_arg0) (V m c main_arg1) ⟨t.1 / 4 * 688 + R.1, h⟩ C) j
        + ∑ k : Fin 1408, prod (iblk m c 0 t) (iblk m c 1 t) R C k := by
  refine sum_blocks_succ _ _ _ _ fun k => ?_
  have hk : q * 1408 + k.1 < 2816 := by omega
  rw [ext_of_lt _ _ hk]
  exact congrArg₂ (fun a b : EReal => a * b) (iblk0 m c t q hq R k h hk) (iblk1 m c t q hq C k hk)

/-- The sum of the terms of the second product up to a point's block: that up to the block before, and the point's product. -/
theorem block2 (t : Fin cfg0.N) (q : Nat) (hq : (t.1 % 4 - 2) = q) (h2 : q < 2) (R : Fin 688) (C : Fin 1024) (h : t.1 / 4 * 688 + R.1 < 8256) :
    ∑ j ∈ Finset.range ((q + 1) * 1408), ext (term (V m c main_arg2) (V m c main_arg3) ⟨t.1 / 4 * 688 + R.1, h⟩ C) j
      = ∑ j ∈ Finset.range (q * 1408), ext (term (V m c main_arg2) (V m c main_arg3) ⟨t.1 / 4 * 688 + R.1, h⟩ C) j
        + ∑ k : Fin 1408, prod (iblk m c 2 t) (iblk m c 3 t) R C k := by
  refine sum_blocks_succ _ _ _ _ fun k => ?_
  have hk : q * 1408 + k.1 < 2816 := by omega
  rw [ext_of_lt _ _ hk]
  exact congrArg₂ (fun a b : EReal => a * b) (iblk2 m c t q hq R k h hk) (iblk3 m c t q hq C k hk)

/-- What the accumulator holds after the first point of a block of rows. -/
theorem acc0 (t : Fin cfg0.N) (h0 : t.1 % 4 = 0) (R : Fin 688) (C : Fin 1024) (h : t.1 / 4 * 688 + R.1 < 8256) :
    ((outsAt0 m c t.1 t.isLt).2.2.2 (ix2 R C) : EReal)
      = ∑ j ∈ Finset.range (1 * 1408), ext (term (V m c main_arg0) (V m c main_arg1) ⟨t.1 / 4 * 688 + R.1, h⟩ C) j := by
  rw [block0 m c t 0 (by omega) (by omega) R C h, outsAt0_A m c t h0 (by omega) (by omega) (by omega)]
  dsimp only
  rw [outA, pay1]
  exact (zero_add _).symm

/-- What the accumulator holds after the second point: the whole of the first product. -/
theorem acc1 (t : Fin cfg0.N) (h1 : t.1 % 4 = 1) (R : Fin 688) (C : Fin 1024) (h : t.1 / 4 * 688 + R.1 < 8256) :
    ((outsAt0 m c t.1 t.isLt).2.2.2 (ix2 R C) : EReal) = ∑ k : Fin 2816, term (V m c main_arg0) (V m c main_arg1) ⟨t.1 / 4 * 688 + R.1, h⟩ C k := by
  have a := acc0 m c ⟨t.1 - 1, Nat.lt_of_le_of_lt (Nat.sub_le _ _) t.isLt⟩ (by dsimp only; omega) R C (by dsimp only; omega)
  have e : (t.1 - 1) / 4 = t.1 / 4 := by omega
  simp only [e] at a
  refine Eq.trans ?_ (sum_ext _)
  refine Eq.trans ?_ (block0 m c t 1 (by omega) (by omega) R C h).symm
  rw [outsAt0_B m c t (by omega) h1 (by omega) (by omega)]
  dsimp only
  rw [outB, pay2, a]

/-- What the accumulator holds after the third point: the first product and the first block of the second. -/
theorem acc2 (t : Fin cfg0.N) (h2 : t.1 % 4 = 2) (R : Fin 688) (C : Fin 1024) (h : t.1 / 4 * 688 + R.1 < 8256) :
    ((outsAt0 m c t.1 t.isLt).2.2.2 (ix2 R C) : EReal)
      = (∑ k : Fin 2816, term (V m c main_arg0) (V m c main_arg1) ⟨t.1 / 4 * 688 + R.1, h⟩ C k)
        + ∑ j ∈ Finset.range (1 * 1408), ext (term (V m c main_arg2) (V m c main_arg3) ⟨t.1 / 4 * 688 + R.1, h⟩ C) j := by
  have a := acc1 m c ⟨t.1 - 1, Nat.lt_of_le_of_lt (Nat.sub_le _ _) t.isLt⟩ (by dsimp only; omega) R C (by dsimp only; omega)
  have e : (t.1 - 1) / 4 = t.1 / 4 := by omega
  simp only [e] at a
  rw [block2 m c t 0 (by omega) (by omega) R C h, outsAt0_C m c t (by omega) (by omega) h2 (by omega)]
  dsimp only
  rw [outC, pay2, a]
  exact congrArg (fun s : EReal => _ + s) (zero_add _).symm

/-- What reaches the norm at the last point of a block of rows. -/
theorem last (t : Fin cfg0.N) (h3 : t.1 % 4 = 3) (R : Fin 688) (C : Fin 1024) (h : t.1 / 4 * 688 + R.1 < 8256) :
    (k0_pay6 (F := Ideal) (outsAt0 m c (t.1 - 1) (Nat.lt_of_le_of_lt (Nat.sub_le _ _) t.isLt)).2.2.2 (iblk m c 2 t) (iblk m c 3 t) (ix2 R C) : EReal)
      = grad (V m c main_arg0) (V m c main_arg1) (V m c main_arg2) (V m c main_arg3) ⟨t.1 / 4 * 688 + R.1, h⟩ C := by
  have a := acc2 m c ⟨t.1 - 1, Nat.lt_of_le_of_lt (Nat.sub_le _ _) t.isLt⟩ (by dsimp only; omega) R C (by dsimp only; omega)
  have e : (t.1 - 1) / 4 = t.1 / 4 := by omega
  simp only [e] at a
  rw [pay6, a, add_assoc, ← block2 m c t 1 (by omega) (by omega) R C h]
  exact (congrArg (fun s : EReal => _ + s) (sum_ext _)).trans (add_comm _ _)

/-- What the last point of a block of rows leaves for the first two results. -/
theorem rows (t : Fin cfg0.N) (h3 : t.1 % 4 = 3) (R : Fin 688) (C : Fin 1024) (h : t.1 / 4 * 688 + R.1 < 8256) :
    (k0_pay9 (F := Ideal) (outsAt0 m c (t.1 - 1) (Nat.lt_of_le_of_lt (Nat.sub_le _ _) t.isLt)).2.2.2 (iblk m c 2 t) (iblk m c 3 t) (iblk m c 4 t) (iblk m c 5 t)
        (iblk m c 6 t) (ix2 R C) : EReal)
      = G (V m c main_arg0) (V m c main_arg1) (V m c main_arg2) (V m c main_arg3) (V m c main_arg4) (V m c main_arg5) (V m c main_arg6) (ix2 ⟨t.1 / 4 * 688 + R.1, h⟩ C) := by
  rw [pay9]
  simp only [last m c t h3 R _ h, iblk4 m c t R _ h, iblk5 m c t 0 _, iblk6 m c t R _ h]
  rfl

theorem out7 (t : Fin cfg0.N) (h3 : t.1 % 4 = 3) (R : Fin 688) (C : Fin 1024) (h : t.1 / 4 * 688 + R.1 < 8256) :
    ((outsAt0 m c t.1 t.isLt).1 (ix2 R C) : EReal)
      = G (V m c main_arg0) (V m c main_arg1) (V m c main_arg2) (V m c main_arg3) (V m c main_arg4) (V m c main_arg5) (V m c main_arg6) (ix2 ⟨t.1 / 4 * 688 + R.1, h⟩ C) := by
  refine Eq.trans ?_ (rows m c t h3 R C h)
  by_cases h4 : t.1 < 4
  · rw [outsAt0_D m c t (by omega) (by omega) (by omega) h3 h4 (by omega)]
    dsimp only
    rw [outD7]
  · rw [outsAt0_E m c t (by omega) (by omega) (by omega) h3 h4 (by omega)]
    dsimp only
    rw [outE7]

theorem out8 (t : Fin cfg0.N) (h3 : t.1 % 4 = 3) (R : Fin 688) (C : Fin 1024) (h : t.1 / 4 * 688 + R.1 < 8256) :
    ((outsAt0 m c t.1 t.isLt).2.1 (ix2 R C) : EReal)
      = G (V m c main_arg0) (V m c main_arg1) (V m c main_arg2) (V m c main_arg3) (V m c main_arg4) (V m c main_arg5) (V m c main_arg6) (ix2 ⟨t.1 / 4 * 688 + R.1, h⟩ C) := by
  refine Eq.trans ?_ (rows m c t h3 R C h)
  by_cases h4 : t.1 < 4
  · rw [outsAt0_D m c t (by omega) (by omega) (by omega) h3 h4 (by omega)]
    dsimp only
    rw [outD8]
  · rw [outsAt0_E m c t (by omega) (by omega) (by omega) h3 h4 (by omega)]
    dsimp only
    rw [outE8]

/-- A point's share of the gradient of the norm's weights. -/
def share (t : Fin cfg0.N) (C : Fin 1024) (k : Fin 688) : EReal :=
  (k0_pay11 (F := Ideal) (outsAt0 m c (t.1 - 1) (Nat.lt_of_le_of_lt (Nat.sub_le _ _) t.isLt)).2.2.2 (iblk m c 2 t) (iblk m c 3 t) (iblk m c 4 t) (ix2 k C) : EReal)

/-- The sum of the rows' shares up to a point's block: that up to the block before, and the point's. -/
theorem wblock (t : Fin cfg0.N) (h3 : t.1 % 4 = 3) (C : Fin 1024) :
    ∑ j ∈ Finset.range ((t.1 / 4 + 1) * 688), ext (wterm (V m c main_arg0) (V m c main_arg1) (V m c main_arg2) (V m c main_arg3) (V m c main_arg4) C) j
      = ∑ j ∈ Finset.range (t.1 / 4 * 688), ext (wterm (V m c main_arg0) (V m c main_arg1) (V m c main_arg2) (V m c main_arg3) (V m c main_arg4) C) j
        + ∑ k : Fin 688, share m c t C k := by
  refine sum_blocks_succ _ _ _ _ fun k => ?_
  have hN : t.1 < 48 := lt_of_lt_of_eq t.isLt N_0
  have hk : t.1 / 4 * 688 + k.1 < 8256 := by omega
  rw [ext_of_lt _ _ hk]
  unfold share
  rw [pay11]
  simp only [last m c t h3 k _ hk, iblk4 m c t k _ hk]
  rfl

/-- What the third result holds after a point: the sum of the shares of the rows finished so far. -/
theorem wacc (n : Nat) (hn : n < cfg0.N) (C : Fin 1024) (h3 : 3 ≤ n) :
    ((outsAt0 m c n hn).2.2.1 (ix2 0 C) : EReal)
      = ∑ j ∈ Finset.range ((n + 1) / 4 * 688), ext (wterm (V m c main_arg0) (V m c main_arg1) (V m c main_arg2) (V m c main_arg3) (V m c main_arg4) C) j := by
  induction n with
  | zero => omega
  | succ n ih =>
    by_cases h0 : (n + 1) % 4 = 3
    · have key := wblock m c ⟨n + 1, hn⟩ h0 C
      have e : (n + 1) / 4 + 1 = (n + 1 + 1) / 4 := by omega
      have e' : (n + 1) / 4 = n / 4 := by omega
      simp only [e] at key
      rw [key]
      by_cases h4 : n + 1 < 4
      · rw [outsAt0_D m c ⟨n + 1, hn⟩ (by dsimp only; omega) (by dsimp only; omega) (by dsimp only; omega) h0 h4 (by dsimp only; omega)]
        dsimp only
        obtain rfl : n = 2 := by omega
        rw [outD9, pay4]
        exact (zero_add _).symm
      · rw [outsAt0_E m c ⟨n + 1, hn⟩ (by dsimp only; omega) (by dsimp only; omega) (by dsimp only; omega) h0 h4 (by dsimp only; omega)]
        dsimp only
        rw [outE9, pay5]
        exact congrArg (fun a : EReal => a + _) (ih (Nat.lt_of_succ_lt hn) (by omega))
    · have ih := ih (Nat.lt_of_succ_lt hn) (by omega)
      have e : (n + 1) / 4 = (n + 1 + 1) / 4 := by omega
      rw [e] at ih
      rw [← ih]
      by_cases h1 : (n + 1) % 4 = 0
      · rw [outsAt0_A m c ⟨n + 1, hn⟩ h1 (by dsimp only; omega) (by dsimp only; omega) h0]
        rfl
      · by_cases h2 : (n + 1) % 4 = 1
        · rw [outsAt0_B m c ⟨n + 1, hn⟩ h1 h2 (by dsimp only; omega) h0]
          rfl
        · rw [outsAt0_C m c ⟨n + 1, hn⟩ h1 h2 (by dsimp only; omega) h0]
          rfl

theorem flushed7 (t : Fin cfg0.N) : (dats m 0 c).flushed 7 t = (cfg0.win 7).cut (grid0.coords t) ((outsAt0 m c t.val t.isLt).1) := by
  show (cfg0.win 7).cut (grid0.coords t) ((dats m 0 c).after 7 t) = _
  rw [after0_7]

theorem flushed8 (t : Fin cfg0.N) : (dats m 0 c).flushed 8 t = (cfg0.win 8).cut (grid0.coords t) ((outsAt0 m c t.val t.isLt).2.1) := by
  show (cfg0.win 8).cut (grid0.coords t) ((dats m 0 c).after 8 t) = _
  rw [after0_8]

theorem flushed9 (t : Fin cfg0.N) : (dats m 0 c).flushed 9 t = (cfg0.win 9).cut (grid0.coords t) ((outsAt0 m c t.val t.isLt).2.2.1) := by
  show (cfg0.win 9).cut (grid0.coords t) ((dats m 0 c).after 9 t) = _
  rw [after0_9]

theorem final7 : ((dats m 0 c).arrAt 7 cfg0.N : S8256x1024.Idx → EReal)
    = G (V m c main_arg0) (V m c main_arg1) (V m c main_arg2) (V m c main_arg3)
      (V m c main_arg4) (V m c main_arg5) (V m c main_arg6) := by
  refine (dats m 0 c).arrAt_eq_of_cover 7 _ (fun t ht => ?_) fun y => ?_
  · have hN : t.1 < 48 := lt_of_lt_of_eq t.isLt N_0
    have h3 := (flush0_7 t).mp ht
    rw [flushed7]
    funext y
    obtain ⟨R, C, rfl⟩ : ∃ (R : Fin 688) (C : Fin 1024), y = ix2 R C := ⟨y 0, y 1, eq_ix2 y⟩
    exact (out7 m c t h3 R C (by omega)).trans (congrArg (G _ _ _ _ _ _ _) (emb7 t R C (by omega))).symm
  · obtain ⟨R, C, rfl⟩ : ∃ (R : Fin 8256) (C : Fin 1024), y = ix2 R C := ⟨y 0, y 1, eq_ix2 y⟩
    have ht : R.1 / 688 * 4 + 3 < cfg0.N := lt_of_lt_of_eq (by omega) N_0.symm
    refine ⟨⟨_, ht⟩, (flush0_7 _).mpr (by dsimp only; omega), ?_⟩
    have h := ((cfg0.win 7).blk ⟨_, ht⟩).view.emb_mem_set (ix2 (⟨R.1 % 688, by omega⟩ : Fin 688) C)
    rw [emb7 _ _ _ (by dsimp only; omega)] at h
    refine (congrArg (· ∈ ((cfg0.win 7).blk ⟨_, ht⟩).view.set) (congrArg (ix2 · C) (Fin.ext ?_))).mp h
    dsimp only; omega

theorem final8 : ((dats m 0 c).arrAt 8 cfg0.N : S8256x1024.Idx → EReal)
    = G (V m c main_arg0) (V m c main_arg1) (V m c main_arg2) (V m c main_arg3)
      (V m c main_arg4) (V m c main_arg5) (V m c main_arg6) := by
  refine (dats m 0 c).arrAt_eq_of_cover 8 _ (fun t ht => ?_) fun y => ?_
  · have hN : t.1 < 48 := lt_of_lt_of_eq t.isLt N_0
    have h3 := (flush0_8 t).mp ht
    rw [flushed8]
    funext y
    obtain ⟨R, C, rfl⟩ : ∃ (R : Fin 688) (C : Fin 1024), y = ix2 R C := ⟨y 0, y 1, eq_ix2 y⟩
    exact (out8 m c t h3 R C (by omega)).trans (congrArg (G _ _ _ _ _ _ _) (emb8 t R C (by omega))).symm
  · obtain ⟨R, C, rfl⟩ : ∃ (R : Fin 8256) (C : Fin 1024), y = ix2 R C := ⟨y 0, y 1, eq_ix2 y⟩
    have ht : R.1 / 688 * 4 + 3 < cfg0.N := lt_of_lt_of_eq (by omega) N_0.symm
    refine ⟨⟨_, ht⟩, (flush0_8 _).mpr (by dsimp only; omega), ?_⟩
    have h := ((cfg0.win 8).blk ⟨_, ht⟩).view.emb_mem_set (ix2 (⟨R.1 % 688, by omega⟩ : Fin 688) C)
    rw [emb8 _ _ _ (by dsimp only; omega)] at h
    refine (congrArg (· ∈ ((cfg0.win 8).blk ⟨_, ht⟩).view.set) (congrArg (ix2 · C) (Fin.ext ?_))).mp h
    dsimp only; omega

theorem final9 : (dats m 0 c).arrAt 9 cfg0.N
    = W (V m c main_arg0) (V m c main_arg1) (V m c main_arg2) (V m c main_arg3)
      (V m c main_arg4) := by
  refine (dats m 0 c).arrAt_eq_of_cover 9 _ (fun t ht => ?_) fun y => ?_
  · have hN : t.1 < 48 := lt_of_lt_of_eq t.isLt N_0
    have h47 := (flush0_9 t).mp ht
    have e : (t.1 + 1) / 4 = 12 := by omega
    rw [flushed9]
    funext y
    obtain ⟨R, C, rfl⟩ : ∃ (R : Fin 1) (C : Fin 1024), y = ix2 R C := ⟨y 0, y 1, eq_ix2 y⟩
    obtain rfl : R = 0 := Subsingleton.elim _ _
    have key := wacc m c t.1 t.isLt C (by omega)
    rw [e] at key
    exact (key.trans (sum_ext _)).trans (congrArg (W _ _ _ _ _) (emb9 t 0 C)).symm
  · obtain ⟨R, C, rfl⟩ : ∃ (R : Fin 1) (C : Fin 1024), y = ix2 R C := ⟨y 0, y 1, eq_ix2 y⟩
    have ht : 47 < cfg0.N := lt_of_lt_of_eq (by omega) N_0.symm
    refine ⟨⟨47, ht⟩, (flush0_9 _).mpr rfl, ?_⟩
    have h := ((cfg0.win 9).blk ⟨47, ht⟩).view.emb_mem_set (ix2 R C)
    rwa [emb9] at h

theorem run_blocks (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 7 cfg0.N
      ∧ r.2.mem ((c : Thread nD τ).loc main_v0_1) = (dats m 0 c).arrAt 8 cfg0.N
      ∧ r.2.mem ((c : Thread nD τ).loc main_v0_2) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1 7, (h c).1 8, (h c).1 9,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.Kernel3Ideal.Value

namespace Cert.Reference3Ideal.Value

open Cert.Reference3Ideal Cert.Reference3Ideal.Gen Idealize.ShloMosaic Idealize.ShloMosaic.TcCoe

variable (m : (ℓ : Loc nD τ sig) → Buf (Elt Ideal) ℓ) (c : Dev nD)

theorem dh_eq (R : Fin 8256) (C : Fin 1024) :
    (res_out0 m c (ix2 R C) : EReal)
      = Cert.Kernel3Ideal.Value.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (ix2 R C) := by
  refine Eq.trans ?_ (normBwd_eq positive_1024 _ _ _ _ _).symm
  show (res_main_v43 m c (ix2 R C) : EReal) = _
  unfold res_main_v43 meanSqBwd meanSq
  unfold Cert.Kernel3Ideal.Value.grad Cert.Kernel3Ideal.Value.term
  generalize m ((c.tc : Thread nD τ).loc main_arg0) = x
  generalize m ((c.tc : Thread nD τ).loc main_arg1) = w
  generalize m ((c.tc : Thread nD τ).loc main_arg2) = x'
  generalize m ((c.tc : Thread nD τ).loc main_arg3) = w'
  generalize m ((c.tc : Thread nD τ).loc main_arg4) = h
  generalize m ((c.tc : Thread nD τ).loc main_arg5) = v
  generalize m ((c.tc : Thread nD τ).loc main_arg6) = r
  pointwise
  simp only [Finset.univ_unique, Finset.sum_singleton]

theorem dw_eq (x : FVec Ideal S8256x2816 .bf16) (w : FVec Ideal S1024x2816 .bf16) (x' : FVec Ideal S8256x2816 .bf16) (w' : FVec Ideal S1024x2816 .bf16)
    (h : FVec Ideal S8256x1024 .f32) (C : Fin 1024) :
    ((shapeCast _ (Host.reduceAdd (mulf (mulf h (broadcastInDim S8256x1024 ![0, 1] bcast_S8256x1_S8256x1024_0_1 (Host.rsqrt (addf (Host.divf (broadcastInDim S8256x1 ![0] bcast_S8256_S8256x1_0 (Host.reduceAdd (mulf h h) (constant S_ .f32 0x00000000#32) reducesTo_S8256x1024_S8256_d1 h_S_)) (broadcastInDim S8256x1 ![] bcast_S_S8256x1 (constant S_ .f32 0x44800000#32))) (broadcastInDim S8256x1 ![] bcast_S_S8256x1 (constant S_ .f32 0x358637BD#32)))))) (addf (Host.dotGeneral dot_S8256x2816_S1024x2816_S8256x1024_1_1_0_0_n_n none (extf .f32 x' bitsLt_bf16_f32) (extf .f32 w' bitsLt_bf16_f32)) (Host.dotGeneral dot_S8256x2816_S1024x2816_S8256x1024_1_1_0_0_n_n none (extf .f32 x bitsLt_bf16_f32) (extf .f32 w bitsLt_bf16_f32)))) (constant S_ .f32 0x00000000#32) reducesTo_S8256x1024_S1024_d0 h_S_) shapeCasts_S1024_S1x1024 : FVec Ideal S1x1024 .f32) (ix2 0 C) : EReal)
      = Cert.Kernel3Ideal.Value.W x w x' w' h (ix2 0 C) := by
  refine Eq.trans ?_ (Finset.sum_congr rfl fun R _ => mul_comm _ _)
  unfold meanSq Cert.Kernel3Ideal.Value.grad Cert.Kernel3Ideal.Value.term
  pointwise

end Cert.Reference3Ideal.Value

namespace Cert.Proof

open Idealize.ShloMosaic Idealize.ShloMosaic.TcCoe Idealize.SL.Sem

theorem dhn_frame : quiescent_Kernel3 := fun m ρ _ => Cert.Kernel3.Gen.frame m ρ
theorem dhn_frameI : quiescent_Kernel3Ideal := fun m ρ _ => Cert.Kernel3Ideal.Gen.frame m ρ
theorem dhn_frameR : quiescent_Reference3Ideal := fun m ρ _ =>
  (θ_run Cert.Reference3Ideal.defs _ _).mono (fun r h => ⟨fun c => (h c).2.2.2, sem_eq_zero_of_no_sems (by decide) _⟩) (Cert.Reference3Ideal.Value.run m ρ)

theorem dhn_value : algebraic_Kernel3Ideal_Reference3Ideal := fun m ρ m' ρ' _ hag => by
  refine ⟨fun c => Cert.Kernel3Ideal.Value.G (m ((c : Thread Cert.Kernel3Ideal.nD Cert.Kernel3Ideal.τ).loc Cert.Kernel3Ideal.main_arg0))
      (m ((c : Thread Cert.Kernel3Ideal.nD Cert.Kernel3Ideal.τ).loc Cert.Kernel3Ideal.main_arg1))
      (m ((c : Thread Cert.Kernel3Ideal.nD Cert.Kernel3Ideal.τ).loc Cert.Kernel3Ideal.main_arg2))
      (m ((c : Thread Cert.Kernel3Ideal.nD Cert.Kernel3Ideal.τ).loc Cert.Kernel3Ideal.main_arg3))
      (m ((c : Thread Cert.Kernel3Ideal.nD Cert.Kernel3Ideal.τ).loc Cert.Kernel3Ideal.main_arg4))
      (m ((c : Thread Cert.Kernel3Ideal.nD Cert.Kernel3Ideal.τ).loc Cert.Kernel3Ideal.main_arg5))
      (m ((c : Thread Cert.Kernel3Ideal.nD Cert.Kernel3Ideal.τ).loc Cert.Kernel3Ideal.main_arg6)),
    fun c => Cert.Kernel3Ideal.Value.G (m ((c : Thread Cert.Kernel3Ideal.nD Cert.Kernel3Ideal.τ).loc Cert.Kernel3Ideal.main_arg0))
      (m ((c : Thread Cert.Kernel3Ideal.nD Cert.Kernel3Ideal.τ).loc Cert.Kernel3Ideal.main_arg1))
      (m ((c : Thread Cert.Kernel3Ideal.nD Cert.Kernel3Ideal.τ).loc Cert.Kernel3Ideal.main_arg2))
      (m ((c : Thread Cert.Kernel3Ideal.nD Cert.Kernel3Ideal.τ).loc Cert.Kernel3Ideal.main_arg3))
      (m ((c : Thread Cert.Kernel3Ideal.nD Cert.Kernel3Ideal.τ).loc Cert.Kernel3Ideal.main_arg4))
      (m ((c : Thread Cert.Kernel3Ideal.nD Cert.Kernel3Ideal.τ).loc Cert.Kernel3Ideal.main_arg5))
      (m ((c : Thread Cert.Kernel3Ideal.nD Cert.Kernel3Ideal.τ).loc Cert.Kernel3Ideal.main_arg6)),
    fun c => Cert.Kernel3Ideal.Value.W (m ((c : Thread Cert.Kernel3Ideal.nD Cert.Kernel3Ideal.τ).loc Cert.Kernel3Ideal.main_arg0))
      (m ((c : Thread Cert.Kernel3Ideal.nD Cert.Kernel3Ideal.τ).loc Cert.Kernel3Ideal.main_arg1))
      (m ((c : Thread Cert.Kernel3Ideal.nD Cert.Kernel3Ideal.τ).loc Cert.Kernel3Ideal.main_arg2))
      (m ((c : Thread Cert.Kernel3Ideal.nD Cert.Kernel3Ideal.τ).loc Cert.Kernel3Ideal.main_arg3))
      (m ((c : Thread Cert.Kernel3Ideal.nD Cert.Kernel3Ideal.τ).loc Cert.Kernel3Ideal.main_arg4)), ?_, ?_⟩
  · exact (θ_run Cert.Kernel3Ideal.defs _ _).mono (fun r h c =>
      ⟨(h c).1.trans (Cert.Kernel3Ideal.Value.final7 m c), (h c).2.1.trans (Cert.Kernel3Ideal.Value.final8 m c),
        (h c).2.2.1.trans (Cert.Kernel3Ideal.Value.final9 m c), (h c).2.2.2⟩)
      (Cert.Kernel3Ideal.Value.run_blocks m ρ)
  · refine (θ_run Cert.Reference3Ideal.defs _ _).mono (fun r h c => ⟨(h c).1.trans ?_, (h c).2.1.trans ?_, (h c).2.2.1.trans ?_, (h c).2.2.2⟩)
      (Cert.Reference3Ideal.Value.run m' ρ')
    · funext y
      obtain ⟨R, C, rfl⟩ : ∃ (R : Fin 8256) (C : Fin 1024), y = ix2 R C := ⟨y 0, y 1, eq_ix2 y⟩
      refine (Cert.Reference3Ideal.Value.dh_eq m' c R C).trans ?_
      rw [(hag c).1, (hag c).2.1, (hag c).2.2.1, (hag c).2.2.2.1, (hag c).2.2.2.2.1, (hag c).2.2.2.2.2.1, (hag c).2.2.2.2.2.2]
    · funext y
      obtain ⟨R, C, rfl⟩ : ∃ (R : Fin 8256) (C : Fin 1024), y = ix2 R C := ⟨y 0, y 1, eq_ix2 y⟩
      refine (Cert.Reference3Ideal.Value.dh_eq m' c R C).trans ?_
      rw [(hag c).1, (hag c).2.1, (hag c).2.2.1, (hag c).2.2.2.1, (hag c).2.2.2.2.1, (hag c).2.2.2.2.2.1, (hag c).2.2.2.2.2.2]
    · rw [(hag c).1, (hag c).2.1, (hag c).2.2.1, (hag c).2.2.2.1, (hag c).2.2.2.2.1]
      funext y
      obtain ⟨R, C, rfl⟩ : ∃ (R : Fin 1) (C : Fin 1024), y = ix2 R C := ⟨y 0, y 1, eq_ix2 y⟩
      obtain rfl : R = 0 := Subsingleton.elim _ _
      exact Cert.Reference3Ideal.Value.dw_eq _ _ _ _ _ C

end Cert.Proof
end
-- ==== Proof.GateNorm.lean ====
module

public import proofs.«01_k».proof.Proof.NormBwd
public import proofs.«01_k».proof.Proof.Logistic

/-! A norm by the mean square under a gate: what reaches the norm is a gradient times the gate's swish, and the gate's own gradient is the normed and weighted row
times that gradient times the swish's derivative. -/

@[expose] public section

namespace Cert

open Idealize.ShloMosaic

/-- The logistic function of an extended real. -/
noncomputable def logi (g : EReal) : EReal := Ideal.div 1 (1 + Ideal.exp (-g))

/-- The gate's gradient as the kernel forms it, from the output's gradient, the normed and weighted value and the gate. -/
noncomputable def gateBwd (d z g : EReal) : EReal := d * z * (logi g * (1 + g * (1 - logi g)))

/-- The gate's gradient as the product rule forms it. -/
theorem gateBwd_eq (d z : ℝ) (g : EReal) :
    gateBwd d z g = (z : EReal) * d * logi g + g * ((z : EReal) * d) * (logi g * (1 - logi g)) := by
  unfold gateBwd
  rw [← EReal.coe_mul, ← EReal.coe_mul, mul_comm d z]
  generalize z * d = q
  have one : (1 - 1 : EReal) = 0 := by rw [← EReal.coe_one, ← EReal.coe_sub, sub_self, EReal.coe_zero]
  induction g with
  | bot =>
    have e : logi ⊥ = 0 := by
      unfold logi
      rw [EReal.neg_bot, Ideal.exp_top]
      have h : (1 + ⊤ : EReal) = ⊤ := rfl
      rw [h]
      unfold Ideal.div
      simp
    rw [e]
    simp
  | top =>
    have e : logi ⊤ = 1 := by
      unfold logi
      rw [EReal.neg_top, Ideal.exp_bot]
      simp [Ideal.div]
    rw [e, one]
    simp
  | coe a =>
    unfold logi
    rw [logistic_coe]
    rw [← EReal.coe_one]
    simp only [← EReal.coe_sub, ← EReal.coe_mul, ← EReal.coe_add]
    congr 1
    ring

/-- A normed row's values are reals. -/
theorem normed_real {l : BitVec 32} (hl : Positive l) {n : ℕ} (x : Fin n → EReal) (j : Fin n) : ∃ q : ℝ, x j * Ideal.rsqrt (meanSq l x) = (q : EReal) := by
  have hc := meanSq_cases hl x
  rcases hc with h | ⟨s, hs, h⟩
  · exact ⟨0, by rw [h, Ideal.rsqrt_top, mul_zero, EReal.coe_zero]⟩
  · have hsq : ∀ i, 0 ≤ x i * x i := fun i => by
      rcases le_total 0 (x i) with h | h
      · exact mul_nonneg h h
      · rw [← neg_mul_neg]
        exact mul_nonneg (EReal.neg_nonneg.2 h) (EReal.neg_nonneg.2 h)
    have hj : x j * x j ≠ ⊤ := fun e => by
      have hle : x j * x j ≤ ∑ i, x i * x i := Finset.single_le_sum (fun i _ => hsq i) (Finset.mem_univ j)
      rw [e, top_le_iff] at hle
      obtain ⟨N, hN, hl⟩ := hl
      obtain ⟨q, hq, hb⟩ := ofBits_eps
      have : meanSq l x = ⊤ := by
        unfold meanSq
        rw [hle, hl, hb, Ideal.div_coe hN.ne', EReal.top_mul_coe_of_pos (by positivity)]
        simp
      rw [this] at h
      exact EReal.coe_ne_top _ h.symm
    have e : Ideal.rsqrt (s : EReal) = (((Real.sqrt s)⁻¹ : ℝ) : EReal) := by
      rw [Ideal.rsqrt_coe, if_neg (not_lt.2 hs.le), if_neg hs.ne']
    rw [h, e]
    induction hx : x j with
    | bot => rw [hx] at hj; exact absurd (by simp) hj
    | top => rw [hx] at hj; exact absurd (by simp) hj
    | coe a => exact ⟨a * (Real.sqrt s)⁻¹, by rw [EReal.coe_mul]⟩

/-- Every element is a real number. -/
def IsReal {S : Shape} {t : FTy} (x : FVec Ideal S t) : Prop := ∀ i, ∃ a : ℝ, (x i : EReal) = (a : EReal)

end Cert
end
-- ==== Proof.Reduce2.lean ====
module

public import proofs.«01_k».proof.Proof.Common

/-! A sum over the first two of three dimensions. -/

@[expose] public section

namespace Cert

open Idealize.ShloMosaic

theorem drop_two {n0 n1 n2 : ℕ} (h : (⟨3, ![n0, n1, n2]⟩ : Shape).ReducesTo [0, 1] ⟨1, ![n2]⟩) (i : (⟨3, ![n0, n1, n2]⟩ : Shape).Idx) :
    ((h.drop i 0).1 : ℕ) = (i 2).1 := rfl

/-- The sum of a three-dimensional array over its first two dimensions. -/
theorem hostReduceAdd_two {n0 n1 n2 : ℕ} (h : (⟨3, ![n0, n1, n2]⟩ : Shape).ReducesTo [0, 1] ⟨1, ![n2]⟩) (v : (⟨3, ![n0, n1, n2]⟩ : Shape).Idx → EReal)
    (init : EReal) (k : Fin n2) : Ideal.hostReduceAdd h v init (ix1 k) = init + ∑ a : Fin n0, ∑ b : Fin n1, v (ix3 a b k) := by
  unfold Ideal.hostReduceAdd
  refine congrArg (init + ·) ?_
  rw [← Fintype.sum_prod_type']
  symm
  refine Finset.sum_bij (fun p _ => ix3 p.1 p.2 k) ?_ ?_ ?_ fun _ _ => rfl
  · intro p _
    refine Finset.mem_filter.2 ⟨Finset.mem_univ _, funext fun a => Fin.ext ?_⟩
    obtain rfl : a = 0 := Subsingleton.elim (α := Fin 1) _ _
    exact drop_two h _
  · intro p _ q _ e
    exact Prod.ext (congrFun e 0) (congrFun e 1)
  · intro i hi
    have e := (Finset.mem_filter.1 hi).2
    refine ⟨(i 0, i 1), Finset.mem_univ _, ?_⟩
    have : (i 2).1 = k.1 := (drop_two h i).symm.trans (congrArg (fun j => (j 0).1) e)
    refine funext fun a => Fin.ext ?_
    match a with
    | ⟨0, _⟩ => rfl
    | ⟨1, _⟩ => rfl
    | ⟨2, _⟩ => exact this.symm

end Cert
end
-- ==== Proof.Gnorm.lean ====
module

public import proofs.«01_k».proof.Defs
public import proofs.«01_k».proof.Proof.GateNorm
public import proofs.«01_k».proof.Proof.Reduce2
public import proofs.«01_k».proof.Proof.Gen.Kernel4.Frame
public import proofs.«01_k».proof.Proof.Gen.Kernel4Ideal.Frame
public import proofs.«01_k».proof.Proof.Gen.Reference4Ideal.Run
public import Idealize.ShloMosaic.Lib.WholeRead
public import Idealize.ShloMosaic.Lib.Quiescent
public import Idealize.ShloMosaic.Lib.WordCmp

/-! The backward of the delta rule's output norm and gate: the heads' norms of 256 columns each, the gate's swish, and the weights the heads share.

A grid point takes 688 rows and the columns of four heads. It forms the output's gradient for those columns, and from it, head by head, the gradient of the norm's
argument, the gradient of the gate, and a share of the gradient of the norm's weights; the shares are added over all points into one row. The second result is the
projection's gradient, of which the call writes the gate's columns alone. -/

@[expose] public section

set_option maxRecDepth 16384

noncomputable section

namespace Cert.Kernel4Ideal.Value

open Cert.Kernel4Ideal Cert.Kernel4Ideal.Gen Idealize.ShloMosaic Idealize.ShloMosaic.TcCoe Idealize.SL.Sem

/-- A head's gradient of what the norm gives, from the gradient of the output and the gate: the body's operations. -/
def opDn (D : FVec Ideal S688x256 .f32) (G : FVec Ideal S688x256 .f32) : FVec Ideal S688x256 .f32 :=
  mulf D (mulf G (addf (mulf (broadcast S688x256 (Scalar.ofBits .f32 0x3F000000#32)) (tanh (mulf (broadcast S688x256 (Scalar.ofBits .f32 0x3F000000#32)) G)))
    (broadcast S688x256 (Scalar.ofBits .f32 0x3F000000#32))))

/-- The head's stored gradient of the norm's row. -/
def opDo (v : FVec Ideal S1x256 .f32) (O : FVec Ideal S688x256 .f32) (N : FVec Ideal S688x256 .f32) : FVec Ideal S688x256 .f32 :=
  k0_pay11 v (k0_pay5 O) (k0_pay6 O) N

/-- The head's stored gradient of the gate. -/
def opDg (v : FVec Ideal S1x256 .f32) (O : FVec Ideal S688x256 .f32) (G : FVec Ideal S688x256 .f32) (D : FVec Ideal S688x256 .f32) : FVec Ideal S688x256 .bf16 :=
  k0_pay10 G (mulf D (mulf (k0_pay6 O) (broadcastTo S688x256 v broadcasts_S1x256_S688x256))) (k0_pay9 G)

/-- A head's share of the gradient of the norm's weights, row by row. -/
def opDw (O : FVec Ideal S688x256 .f32) (N : FVec Ideal S688x256 .f32) : FVec Ideal S688x256 .f32 := mulf N (k0_pay6 O)

/-- The gradient of the output, of a head's columns. -/
def cols (off : Fin 2 → ℕ) (x : FVec Ideal S688x1024 .bf16) (w : FVec Ideal S1024x1024 .bf16) (h : S688x1024.Slices off S688x256) :
    FVec Ideal S688x256 .f32 :=
  extractStridedSlice S688x256 off (k0_pay2 x w) h

section
variable (x : FVec Ideal S688x1024 .bf16) (w : FVec Ideal S1024x1024 .bf16) (v : FVec Ideal S1x256 .f32) (O G : FVec Ideal S688x256 .f32)

theorem head0 : k0_pay11 v (k0_pay5 O) (k0_pay6 O) (k0_pay7 x w G) = opDo v O (opDn (cols _ x w slices_S688x1024_o0_0_S688x256) G) := rfl
theorem head1 : k0_pay19 v G (k0_pay13 (k0_pay2 x w)) (k0_pay14 O) (k0_pay15 O) (k0_pay16 G) = opDo v O (opDn (cols _ x w slices_S688x1024_o0_256_S688x256) G) := rfl
theorem head2 : k0_pay27 (k0_pay22 O) (k0_pay23 O) (k0_pay26 (k0_pay2 x w) v G) = opDo v O (opDn (cols _ x w slices_S688x1024_o0_512_S688x256) G) := rfl
theorem head3 : k0_pay36 v (k0_pay30 O) (k0_pay31 O) (k0_pay32 (k0_pay2 x w) G) = opDo v O (opDn (cols _ x w slices_S688x1024_o0_768_S688x256) G) := rfl

theorem gate0 : k0_pay10 G (k0_pay8 x w v O) (k0_pay9 G) = opDg v O G (cols _ x w slices_S688x1024_o0_0_S688x256) := rfl
theorem gate1 : k0_pay18 v G (k0_pay13 (k0_pay2 x w)) (k0_pay15 O) = opDg v O G (cols _ x w slices_S688x1024_o0_256_S688x256) := rfl
theorem gate2 : k0_pay25 (k0_pay2 x w) v O G = opDg v O G (cols _ x w slices_S688x1024_o0_512_S688x256) := rfl
theorem gate3 : k0_pay35 G (k0_pay33 (k0_pay2 x w) v O) (k0_pay34 G) = opDg v O G (cols _ x w slices_S688x1024_o0_768_S688x256) := rfl
end

/-- A head's share added to what the heads before left. -/
def opAcc (a : FVec Ideal S1x256 .f32) (O : FVec Ideal S688x256 .f32) (N : FVec Ideal S688x256 .f32) : FVec Ideal S1x256 .f32 :=
  addf a (shapeCast S1x256 (multiReduction .add [0] S256 (opDw O N) 0x00000000#32 reduces_S688x256_S256 (.inl rfl) rfl) shapeCasts_S256_S1x256)

section
variable (x : FVec Ideal S688x1024 .bf16) (w : FVec Ideal S1024x1024 .bf16) (v : FVec Ideal S1x256 .f32) (O G : FVec Ideal S688x256 .f32) (a : FVec Ideal S1x256 .f32)

theorem acc0 : k0_pay12 a (k0_pay6 O) (k0_pay7 x w G) = opAcc a O (opDn (cols _ x w slices_S688x1024_o0_0_S688x256) G) := rfl
theorem acc1 : k0_pay20 a G (k0_pay13 (k0_pay2 x w)) (k0_pay15 O) (k0_pay16 G) = opAcc a O (opDn (cols _ x w slices_S688x1024_o0_256_S688x256) G) := rfl
theorem acc2 : k0_pay28 a (k0_pay23 O) (k0_pay24 (k0_pay2 x w) G) = opAcc a O (opDn (cols _ x w slices_S688x1024_o0_512_S688x256) G) := rfl
theorem acc3 : k0_pay37 a (k0_pay31 O) (k0_pay32 (k0_pay2 x w) G) = opAcc a O (opDn (cols _ x w slices_S688x1024_o0_768_S688x256) G) := rfl
end

theorem acc_at (a : FVec Ideal S1x256 .f32) (O N : FVec Ideal S688x256 .f32) (j : Fin 256) :
    (opAcc a O N (ix2 0 j) : EReal) = (a (ix2 0 j) : EReal) + ∑ R : Fin 688, (opDw O N (ix2 R j) : EReal) := by
  unfold opAcc
  generalize opDw O N = z
  pointwise

theorem dn_at (D G : FVec Ideal S688x256 .f32) (R : Fin 688) (j : Fin 256) :
    (opDn D G (ix2 R j) : EReal) = (D (ix2 R j) : EReal) * ((G (ix2 R j) : EReal) * logi (G (ix2 R j) : EReal)) := by
  unfold logi
  rw [← logistic_tanh]
  unfold opDn
  pointwise

theorem do_at (v : FVec Ideal S1x256 .f32) (O N : FVec Ideal S688x256 .f32) (R : Fin 688) (j : Fin 256) :
    (opDo v O N (ix2 R j) : EReal) = normBwd 0x43800000#32 (fun k => (O (ix2 R k) : EReal)) (fun k => (N (ix2 R k) : EReal) * (v (ix2 0 k) : EReal)) 0
      (O (ix2 R j) : EReal) ((N (ix2 R j) : EReal) * (v (ix2 0 j) : EReal)) := by
  refine Eq.trans ?_ (zero_add _).symm
  unfold opDo meanSq k0_pay11 k0_pay6 k0_pay5
  pointwise

theorem dg_at (v : FVec Ideal S1x256 .f32) (O G D : FVec Ideal S688x256 .f32) (R : Fin 688) (j : Fin 256) :
    (opDg v O G D (ix2 R j) : EReal) = gateBwd (D (ix2 R j) : EReal)
      ((O (ix2 R j) : EReal) * Ideal.rsqrt (meanSq 0x43800000#32 fun k => (O (ix2 R k) : EReal)) * (v (ix2 0 j) : EReal)) (G (ix2 R j) : EReal) := by
  unfold gateBwd logi
  rw [← logistic_tanh, ← ofBits_one]
  unfold opDg meanSq k0_pay10 k0_pay9 k0_pay6 k0_pay5
  pointwise

theorem dw_at (O N : FVec Ideal S688x256 .f32) (R : Fin 688) (j : Fin 256) :
    (opDw O N (ix2 R j) : EReal) = (N (ix2 R j) : EReal) * ((O (ix2 R j) : EReal) * Ideal.rsqrt (meanSq 0x43800000#32 fun k => (O (ix2 R k) : EReal))) := by
  unfold opDw meanSq k0_pay6 k0_pay5
  pointwise

theorem cols_at (q : ℕ) (x : FVec Ideal S688x1024 .bf16) (w : FVec Ideal S1024x1024 .bf16) (h : S688x1024.Slices ![0, q] S688x256) (R : Fin 688)
    (j : Fin 256) (hq : q + j.1 < 1024) :
    (cols ![0, q] x w h (ix2 R j) : EReal) = ∑ k : Fin 1024, (x (ix2 R k) * w (ix2 ⟨q + j.1, hq⟩ k) : EReal) := by
  have e : cols ![0, q] x w h (ix2 R j) = k0_pay2 x w (ix2 R ⟨q + j.1, hq⟩) := by
    unfold cols extractStridedSlice
    refine congrArg (k0_pay2 (F := Ideal) x w) (funext fun a => Fin.ext ?_)
    match a with
    | ⟨0, _⟩ => show 0 + R.1 = R.1; omega
    | ⟨1, _⟩ => rfl
  rw [e]
  unfold k0_pay2
  pointwise

/-- The place of a head's columns: the `k`-th column of the head to which column `C` belongs. -/
def seg (C : Fin 2048) (k : Fin 256) : Fin 2048 := ⟨C.1 / 256 * 256 + k.1, by omega⟩

/-- Where the gate's columns lie among the projection's. -/
def gc (C : Fin 2048) : Fin 6144 := ⟨4096 + C.1, by omega⟩

/-- The gradient of the output at one index. -/
def dy (x : FVec Ideal S8256x1024 .bf16) (w : FVec Ideal S2048x1024 .bf16) (R : Fin 8256) (C : Fin 2048) : EReal :=
  ∑ k : Fin 1024, (x (ix2 R k) * w (ix2 C k) : EReal)

/-- The gradient of what the norm gives, at one index. -/
def dn (x : FVec Ideal S8256x1024 .bf16) (w : FVec Ideal S2048x1024 .bf16) (p : FVec Ideal S8256x6144 .f32) (R : Fin 8256) (C : Fin 2048) : EReal :=
  dy x w R C * ((p (ix2 R (gc C)) : EReal) * logi (p (ix2 R (gc C)) : EReal))

/-- The normed value at one index. -/
def xh (o : FVec Ideal S8256x2048 .f32) (R : Fin 8256) (C : Fin 2048) : EReal :=
  (o (ix2 R C) : EReal) * Ideal.rsqrt (meanSq 0x43800000#32 fun k => (o (ix2 R (seg C k)) : EReal))

/-- The first result: the gradient of the norm's argument. -/
def DO (x : FVec Ideal S8256x1024 .bf16) (w : FVec Ideal S2048x1024 .bf16) (o : FVec Ideal S8256x2048 .f32) (p : FVec Ideal S8256x6144 .f32)
    (v : FVec Ideal S1x256 .f32) : FVec Ideal S8256x2048 .f32 :=
  fun y => normBwd 0x43800000#32 (fun k => (o (ix2 (y 0) (seg (y 1) k)) : EReal)) (fun k => dn x w p (y 0) (seg (y 1) k) * (v (ix2 0 k) : EReal)) 0
    (o (ix2 (y 0) (y 1)) : EReal) (dn x w p (y 0) (y 1) * (v (ix2 0 ⟨(y 1).1 % 256, by omega⟩) : EReal))

/-- The second result, at the gate's columns: the gradient of the gate. -/
def DG (x : FVec Ideal S8256x1024 .bf16) (w : FVec Ideal S2048x1024 .bf16) (o : FVec Ideal S8256x2048 .f32) (p : FVec Ideal S8256x6144 .f32)
    (v : FVec Ideal S1x256 .f32) (R : Fin 8256) (C : Fin 2048) : EReal :=
  gateBwd (dy x w R C) (xh o R C * (v (ix2 0 ⟨C.1 % 256, by omega⟩) : EReal)) (p (ix2 R (gc C)) : EReal)

/-- A row's share of the gradient of the norm's weights. -/
def wterm (x : FVec Ideal S8256x1024 .bf16) (w : FVec Ideal S2048x1024 .bf16) (o : FVec Ideal S8256x2048 .f32) (p : FVec Ideal S8256x6144 .f32)
    (k : Fin 256) : Fin 8256 → EReal :=
  fun R => ∑ h : Fin 8, xh o R ⟨h.1 * 256 + k.1, by omega⟩ * dn x w p R ⟨h.1 * 256 + k.1, by omega⟩

/-- The third result: the gradient of the norm's weights. -/
def W (x : FVec Ideal S8256x1024 .bf16) (w : FVec Ideal S2048x1024 .bf16) (o : FVec Ideal S8256x2048 .f32) (p : FVec Ideal S8256x6144 .f32) :
    FVec Ideal S1x256 .f32 :=
  fun y => ∑ R : Fin 8256, wterm x w o p (y 1) R

theorem seg_head {c : ℕ} (h : c % 256 = 0) (j k : Fin 256) (h1 : c + j.1 < 2048) : seg ⟨c + j.1, h1⟩ k = ⟨c + k.1, by omega⟩ := by
  apply Fin.ext
  show (c + j.1) / 256 * 256 + k.1 = c + k.1
  omega

section head

variable {X : FVec Ideal S8256x1024 .bf16} {Wt : FVec Ideal S2048x1024 .bf16} {o : FVec Ideal S8256x2048 .f32} {p : FVec Ideal S8256x6144 .f32}
  {v : FVec Ideal S1x256 .f32} {r c : ℕ} {hr : r + 688 ≤ 8256} {hc : c + 256 ≤ 2048}

variable (X Wt o p v r c hr hc) in
/-- What one head of one block works on: the norm's argument, the gate, the output's gradient and the norm's weights, at the rows from `r` and the columns
from `c`. -/
structure IsHead (O G D : FVec Ideal S688x256 .f32) (V : FVec Ideal S1x256 .f32) : Prop where
  o (R : Fin 688) (j : Fin 256) : (O (ix2 R j) : EReal) = (o (ix2 ⟨r + R.1, by omega⟩ ⟨c + j.1, by omega⟩) : EReal)
  g (R : Fin 688) (j : Fin 256) : (G (ix2 R j) : EReal) = (p (ix2 ⟨r + R.1, by omega⟩ (gc ⟨c + j.1, by omega⟩)) : EReal)
  d (R : Fin 688) (j : Fin 256) : (D (ix2 R j) : EReal) = dy X Wt ⟨r + R.1, by omega⟩ ⟨c + j.1, by omega⟩
  v : V = v

variable {O G D : FVec Ideal S688x256 .f32} {V : FVec Ideal S1x256 .f32}

theorem head_dn (H : IsHead X Wt o p v r c hr hc O G D V) (R : Fin 688) (j : Fin 256) :
    (opDn D G (ix2 R j) : EReal) = dn X Wt p ⟨r + R.1, by omega⟩ ⟨c + j.1, by omega⟩ := by
  rw [dn_at, H.d, H.g]
  rfl

theorem head_xh (H : IsHead X Wt o p v r c hr hc O G D V) (h : c % 256 = 0) (R : Fin 688) (j : Fin 256) :
    (O (ix2 R j) : EReal) * Ideal.rsqrt (meanSq 0x43800000#32 fun k => (O (ix2 R k) : EReal)) = xh o ⟨r + R.1, by omega⟩ ⟨c + j.1, by omega⟩ := by
  unfold xh
  simp only [H.o, seg_head h]

theorem head_do (H : IsHead X Wt o p v r c hr hc O G D V) (h : c % 256 = 0) (R : Fin 688) (j : Fin 256) :
    (opDo V O (opDn D G) (ix2 R j) : EReal) = DO X Wt o p v (ix2 ⟨r + R.1, by omega⟩ ⟨c + j.1, by omega⟩) := by
  have e : (⟨(c + j.1) % 256, by omega⟩ : Fin 256) = j := Fin.ext (by show (c + j.1) % 256 = j.1; omega)
  rw [do_at]
  unfold DO
  simp only [H.o, head_dn H, H.v, ix2_0, ix2_1, seg_head h, e]

theorem head_dg (H : IsHead X Wt o p v r c hr hc O G D V) (h : c % 256 = 0) (R : Fin 688) (j : Fin 256) :
    (opDg V O G D (ix2 R j) : EReal) = DG X Wt o p v ⟨r + R.1, by omega⟩ ⟨c + j.1, by omega⟩ := by
  have e : (⟨(c + j.1) % 256, by omega⟩ : Fin 256) = j := Fin.ext (by show (c + j.1) % 256 = j.1; omega)
  rw [dg_at, head_xh H h, H.d, H.g, H.v]
  unfold DG
  simp only [e]

theorem head_dw (H : IsHead X Wt o p v r c hr hc O G D V) (h : c % 256 = 0) (R : Fin 688) (j : Fin 256) :
    (opDw O (opDn D G) (ix2 R j) : EReal)
      = xh o ⟨r + R.1, by omega⟩ ⟨c + j.1, by omega⟩ * dn X Wt p ⟨r + R.1, by omega⟩ ⟨c + j.1, by omega⟩ := by
  rw [dw_at, head_xh H h, head_dn H, mul_comm]

end head

/-- A load of a head's columns from a block. -/
def ld (b : Memref sig .tc .vmem S688x1024 .f32) (h : b.IsWhole) (x : FVec Ideal S688x1024 .f32) (a : ℕ)
    (inb : ∀ k, (![0, a] : Fin 2 → ℕ) k + S688x256.size k ≤ S688x1024.size k) : FVec Ideal S688x256 .f32 :=
  b.view.readAt (Elt Ideal) (Rect.unit (s := S688x1024) ![0, a] S688x256.size inb).toLoadRect (h.unread x)

theorem ld_at (b : Memref sig .tc .vmem S688x1024 .f32) (h : b.IsWhole) (x : FVec Ideal S688x1024 .f32) (a : ℕ)
    (inb : ∀ k, (![0, a] : Fin 2 → ℕ) k + S688x256.size k ≤ S688x1024.size k) (ha : a + 256 ≤ 1024) (R : Fin 688) (j : Fin 256) :
    (ld b h x a inb (ix2 R j) : EReal) = (x (ix2 R ⟨a + j.1, by omega⟩) : EReal) := by
  unfold ld
  rw [Memref.IsWhole.readAt_unread]
  congr 1
  funext k
  apply Fin.ext
  fin_cases k <;> simp [ix2, LoadRect.idx]

section stores

variable (X : FVec Ideal S8256x1024 .bf16) (Wt : FVec Ideal S2048x1024 .bf16) (o : FVec Ideal S8256x2048 .f32) (p : FVec Ideal S8256x6144 .f32)
  (v : FVec Ideal S1x256 .f32) (r q : ℕ) (hr : r + 688 ≤ 8256) (hq : q + 1024 ≤ 2048)

/-- What one point works on: the blocks of the arguments at the rows from `r` and the columns from `q`. -/
structure IsTile (x0 : FVec Ideal S688x1024 .bf16) (x1 : FVec Ideal S1024x1024 .bf16) (x2 x3 : FVec Ideal S688x1024 .f32) (x4 : FVec Ideal S1x256 .f32) : Prop where
  d (R : Fin 688) (C : Fin 1024) : (x0 (ix2 R C) : EReal) = (X (ix2 ⟨r + R.1, by omega⟩ C) : EReal)
  w (R : Fin 1024) (C : Fin 1024) : (x1 (ix2 R C) : EReal) = (Wt (ix2 ⟨q + R.1, by omega⟩ C) : EReal)
  o (R : Fin 688) (C : Fin 1024) : (x2 (ix2 R C) : EReal) = (o (ix2 ⟨r + R.1, by omega⟩ ⟨q + C.1, by omega⟩) : EReal)
  g (R : Fin 688) (C : Fin 1024) : (x3 (ix2 R C) : EReal) = (p (ix2 ⟨r + R.1, by omega⟩ (gc ⟨q + C.1, by omega⟩)) : EReal)
  v : x4 = v

/-- The first result's block at a point. -/
def tileO : S688x1024.Idx → EReal :=
  fun y => DO X Wt o p v (ix2 ⟨r + (y 0).1, by have : (y 0).1 < 688 := (y 0).2; omega⟩ ⟨q + (y 1).1, by have : (y 1).1 < 1024 := (y 1).2; omega⟩)

/-- The second result's block at a point. -/
def tileG : S688x1024.Idx → EReal :=
  fun y => DG X Wt o p v ⟨r + (y 0).1, by have : (y 0).1 < 688 := (y 0).2; omega⟩ ⟨q + (y 1).1, by have : (y 1).1 < 1024 := (y 1).2; omega⟩

variable {X Wt o p v r q hr hq}

variable (X Wt o p r q hr hq) in
/-- A row's share, at a point, of the gradient of the norm's weights. -/
def wrow (j : Fin 256) (R : Fin 688) : EReal :=
  ∑ h : Fin 4, xh o ⟨r + R.1, by omega⟩ ⟨q + h.1 * 256 + j.1, by omega⟩ * dn X Wt p ⟨r + R.1, by omega⟩ ⟨q + h.1 * 256 + j.1, by omega⟩

theorem pay1_at (a b : FVec Ideal S1x256 .f32) (j : Fin 256) : (k0_pay1 (F := Ideal) a b (ix2 0 j) : EReal) = (b (ix2 0 j) : EReal) + (a (ix2 0 j) : EReal) := by
  unfold k0_pay1
  pointwise

theorem chain (hm : q % 256 = 0) {O0 G0 D0 O1 G1 D1 O2 G2 D2 O3 G3 D3 : FVec Ideal S688x256 .f32} {V0 V1 V2 V3 : FVec Ideal S1x256 .f32}
    (H0 : IsHead X Wt o p v r (q + 0) hr (by omega) O0 G0 D0 V0) (H1 : IsHead X Wt o p v r (q + 256) hr (by omega) O1 G1 D1 V1)
    (H2 : IsHead X Wt o p v r (q + 512) hr (by omega) O2 G2 D2 V2) (H3 : IsHead X Wt o p v r (q + 768) hr (by omega) O3 G3 D3 V3) (j : Fin 256) :
    (opAcc (opAcc (opAcc (opAcc k0_pay3 O0 (opDn D0 G0)) O1 (opDn D1 G1)) O2 (opDn D2 G2)) O3 (opDn D3 G3) (ix2 0 j) : EReal)
      = ∑ R : Fin 688, wrow X Wt o p r q hr hq j R := by
  have z : (k0_pay3 (F := Ideal) (ix2 0 j) : EReal) = 0 := by
    unfold k0_pay3
    pointwise
  rw [acc_at, acc_at, acc_at, acc_at, z, zero_add, ← Finset.sum_add_distrib, ← Finset.sum_add_distrib, ← Finset.sum_add_distrib]
  refine Finset.sum_congr rfl fun R _ => ?_
  rw [head_dw H0 (by omega), head_dw H1 (by omega), head_dw H2 (by omega), head_dw H3 (by omega)]
  unfold wrow
  rw [Fin.sum_univ_four]
  rfl

variable (arg2 : Memref sig .tc .vmem S688x1024 .bf16) (harg2 : arg2.IsWhole) (arg3 : Memref sig .tc .vmem S1024x1024 .bf16)
  (harg3 : arg3.IsWhole) (arg4 : Memref sig .tc .vmem S688x1024 .f32) (harg4 : arg4.IsWhole) (arg5 : Memref sig .tc .vmem S688x1024 .f32)
  (harg5 : arg5.IsWhole) (arg6 : Memref sig .tc .vmem S1x256 .f32) (harg6 : arg6.IsWhole)
  (x0 : FVec Ideal S688x1024 .bf16) (x1 : FVec Ideal S1024x1024 .bf16) (x2 x3 : FVec Ideal S688x1024 .f32) (x4 : FVec Ideal S1x256 .f32)

/-- A load of the whole of the output gradient's block. -/
def ldx : FVec Ideal S688x1024 .bf16 :=
  arg2.view.readAt (Elt Ideal) (Rect.unit ![0, 0] S688x1024.size inb_S688x1024_S688x1024_0_0).toLoadRect (harg2.unread x0)

/-- A load of the whole of the weights' block. -/
def ldw : FVec Ideal S1024x1024 .bf16 :=
  arg3.view.readAt (Elt Ideal) (Rect.unit ![0, 0] S1024x1024.size inb_S1024x1024_S1024x1024_0_0).toLoadRect (harg3.unread x1)

/-- A load of the whole of the norm's weights. -/
def ldv : FVec Ideal S1x256 .f32 :=
  arg6.view.readAt (Elt Ideal) (Rect.unit ![0, 0] S1x256.size inb_S1x256_S1x256_0_0).toLoadRect (harg6.unread x4)

variable {x0 x1 x2 x3 x4}

theorem head_of_tile (T : IsTile X Wt o p v r q hr hq x0 x1 x2 x3 x4) (a : ℕ) (inb : ∀ k, (![0, a] : Fin 2 → ℕ) k + S688x256.size k ≤ S688x1024.size k)
    (h : S688x1024.Slices ![0, a] S688x256) (ha : a + 256 ≤ 1024) :
    IsHead X Wt o p v r (q + a) hr (by omega) (ld arg4 harg4 x2 a inb) (ld arg5 harg5 x3 a inb) (cols ![0, a] (ldx arg2 harg2 x0) (ldw arg3 harg3 x1) h)
      (ldv arg6 harg6 x4) where
  o R j := by
    rw [ld_at _ _ _ _ _ ha, T.o]
    exact congrArg (fun k : Fin 2048 => (o (ix2 (⟨r + R.1, by omega⟩ : Fin 8256) k) : EReal)) (Fin.ext (by dsimp only; omega))
  g R j := by
    rw [ld_at _ _ _ _ _ ha, T.g]
    exact congrArg (fun k : Fin 2048 => (p (ix2 (⟨r + R.1, by omega⟩ : Fin 8256) (gc k)) : EReal)) (Fin.ext (by dsimp only; omega))
  d R j := by
    have e0 : ldx arg2 harg2 x0 = x0 := read_whole arg2 harg2 x0 vec2_zero _
    have e1 : ldw arg3 harg3 x1 = x1 := read_whole arg3 harg3 x1 vec2_zero _
    rw [e0, e1, cols_at a x0 x1 h R j (by omega)]
    refine Finset.sum_congr rfl fun k _ => congrArg₂ (fun s t : EReal => s * t) (T.d R k) ((T.w _ k).trans ?_)
    exact congrArg (fun l : Fin 2048 => (Wt (ix2 l k) : EReal)) (Fin.ext (by dsimp only; omega))
  v := (read_whole arg6 harg6 x4 vec2_zero _).trans T.v

theorem piece_do (T : IsTile X Wt o p v r q hr hq x0 x1 x2 x3 x4) (hm : q % 256 = 0) (a : ℕ)
    (inb : ∀ k, (![0, a] : Fin 2 → ℕ) k + S688x256.size k ≤ S688x1024.size k)
    (h : S688x1024.Slices ![0, a] S688x256) (ha : a + 256 ≤ 1024) (hm' : a % 256 = 0) (y : S688x256.Idx) :
    (opDo (ldv arg6 harg6 x4) (ld arg4 harg4 x2 a inb) (opDn (cols ![0, a] (ldx arg2 harg2 x0) (ldw arg3 harg3 x1) h) (ld arg5 harg5 x3 a inb)) y : EReal)
      = tileO X Wt o p v r q hr hq ((Rect.unit (s := S688x1024) ![0, a] S688x256.size inb).emb y) := by
  obtain ⟨R, j, rfl⟩ : ∃ (R : Fin 688) (j : Fin 256), y = ix2 R j := ⟨y 0, y 1, eq_ix2 y⟩
  rw [head_do (head_of_tile arg2 harg2 arg3 harg3 arg4 harg4 arg5 harg5 arg6 harg6 T a inb h ha) (by omega)]
  refine congrArg (DO X Wt o p v) (congrArg₂ ix2 (Fin.ext ?_) (Fin.ext ?_))
  · show r + R.1 = r + (0 + 1 * R.1); omega
  · show q + a + j.1 = q + (a + 1 * j.1); omega

theorem piece_dg (T : IsTile X Wt o p v r q hr hq x0 x1 x2 x3 x4) (hm : q % 256 = 0) (a : ℕ)
    (inb : ∀ k, (![0, a] : Fin 2 → ℕ) k + S688x256.size k ≤ S688x1024.size k)
    (h : S688x1024.Slices ![0, a] S688x256) (ha : a + 256 ≤ 1024) (hm' : a % 256 = 0) (y : S688x256.Idx) :
    (opDg (ldv arg6 harg6 x4) (ld arg4 harg4 x2 a inb) (ld arg5 harg5 x3 a inb) (cols ![0, a] (ldx arg2 harg2 x0) (ldw arg3 harg3 x1) h) y : EReal)
      = tileG X Wt o p v r q hr hq ((Rect.unit (s := S688x1024) ![0, a] S688x256.size inb).emb y) := by
  obtain ⟨R, j, rfl⟩ : ∃ (R : Fin 688) (j : Fin 256), y = ix2 R j := ⟨y 0, y 1, eq_ix2 y⟩
  rw [head_dg (head_of_tile arg2 harg2 arg3 harg3 arg4 harg4 arg5 harg5 arg6 harg6 T a inb h ha) (by omega)]
  refine congrArg₂ (DG X Wt o p v) (Fin.ext ?_) (Fin.ext ?_)
  · show r + R.1 = r + (0 + 1 * R.1); omega
  · show q + a + j.1 = q + (a + 1 * j.1); omega

variable (c : Dev nD) (i : grid0.Coords) (arg7 : Memref sig .tc .vmem S688x1024 .f32) (harg7 : arg7.IsWhole)
  (arg8 : Memref sig .tc .vmem S688x1024 .bf16) (harg8 : arg8.IsWhole) (arg9 : Memref sig .tc .vmem S1x256 .f32) (harg9 : arg9.IsWhole)
  (xo7 : FVec Ideal S1x256 .f32)

open kernelRun0_A.sl in
theorem outA5 (hc0 : cond0_0 i) (hc1 : ¬cond0_1 i) (T : IsTile X Wt o p v r q hr hq x0 x1 x2 x3 x4) (hm : q % 256 = 0) :
    out0_A_5 (F := Ideal) c i arg2 harg2 arg3 harg3 arg4 harg4 arg5 harg5 arg6 harg6 arg7 harg7 arg8 harg8 arg9 harg9 hc0 hc1
      x0 x1 x2 x3 x4 = tileO X Wt o p v r q hr hq := by
  unfold out0_A_5
  rw [View.read_writes_junk_eq_canon]
  funext y
  refine canon_of_agree (Val := Elt Ideal) (tileO X Wt o p v r q hr hq) _ y (cover0_A_5 ..) ?_
  unfold kernelRun0_A
  intro pc hpc
  dsimp only at hpc
  simp only [kernelRun0_A.sl.r, r_1, r_2, r_3, r_4, r_5, r_6, r_7, r_8, r_9, r_10, r_11, r_12, r_13, r_14, r_15, r_16, r_17, r_18, r_19, r_20, r_21, r_22, r_23] at hpc
  rcases List.mem_cons.1 hpc with rfl | hpc
  · exact fun y => (congrFun (head3 _ _ _ _ _) y).trans (piece_do arg2 harg2 arg3 harg3 arg4 harg4 arg5 harg5 arg6 harg6 T hm 768 _ slices_S688x1024_o0_768_S688x256 (by omega) rfl y)
  rcases List.mem_cons.1 hpc with rfl | hpc
  · exact fun y => (congrFun (head2 _ _ _ _ _) y).trans (piece_do arg2 harg2 arg3 harg3 arg4 harg4 arg5 harg5 arg6 harg6 T hm 512 _ slices_S688x1024_o0_512_S688x256 (by omega) rfl y)
  rcases List.mem_cons.1 hpc with rfl | hpc
  · exact fun y => (congrFun (head1 _ _ _ _ _) y).trans (piece_do arg2 harg2 arg3 harg3 arg4 harg4 arg5 harg5 arg6 harg6 T hm 256 _ slices_S688x1024_o0_256_S688x256 (by omega) rfl y)
  rcases List.mem_cons.1 hpc with rfl | hpc
  · exact fun y => (congrFun (head0 _ _ _ _ _) y).trans (piece_do arg2 harg2 arg3 harg3 arg4 harg4 arg5 harg5 arg6 harg6 T hm 0 _ slices_S688x1024_o0_0_S688x256 (by omega) rfl y)
  · cases hpc

open kernelRun0_B.sl in
theorem outB5 (hc0 : ¬cond0_0 i) (hc1 : cond0_1 i) (T : IsTile X Wt o p v r q hr hq x0 x1 x2 x3 x4) (hm : q % 256 = 0) :
    out0_B_5 (F := Ideal) c i arg2 harg2 arg3 harg3 arg4 harg4 arg5 harg5 arg6 harg6 arg7 harg7 arg8 harg8 arg9 harg9 hc0 hc1
      x0 x1 x2 x3 x4 xo7 = tileO X Wt o p v r q hr hq := by
  unfold out0_B_5
  rw [View.read_writes_junk_eq_canon]
  funext y
  refine canon_of_agree (Val := Elt Ideal) (tileO X Wt o p v r q hr hq) _ y (cover0_B_5 ..) ?_
  unfold kernelRun0_B
  intro pc hpc
  dsimp only at hpc
  simp only [kernelRun0_B.sl.r, r_1, r_2, r_3, r_4, r_5, r_6, r_7, r_8, r_9, r_10, r_11, r_12, r_13, r_14, r_15, r_16, r_17, r_18, r_19, r_20, r_21, r_22, r_23] at hpc
  rcases List.mem_cons.1 hpc with rfl | hpc
  · exact fun y => (congrFun (head3 _ _ _ _ _) y).trans (piece_do arg2 harg2 arg3 harg3 arg4 harg4 arg5 harg5 arg6 harg6 T hm 768 _ slices_S688x1024_o0_768_S688x256 (by omega) rfl y)
  rcases List.mem_cons.1 hpc with rfl | hpc
  · exact fun y => (congrFun (head2 _ _ _ _ _) y).trans (piece_do arg2 harg2 arg3 harg3 arg4 harg4 arg5 harg5 arg6 harg6 T hm 512 _ slices_S688x1024_o0_512_S688x256 (by omega) rfl y)
  rcases List.mem_cons.1 hpc with rfl | hpc
  · exact fun y => (congrFun (head1 _ _ _ _ _) y).trans (piece_do arg2 harg2 arg3 harg3 arg4 harg4 arg5 harg5 arg6 harg6 T hm 256 _ slices_S688x1024_o0_256_S688x256 (by omega) rfl y)
  rcases List.mem_cons.1 hpc with rfl | hpc
  · exact fun y => (congrFun (head0 _ _ _ _ _) y).trans (piece_do arg2 harg2 arg3 harg3 arg4 harg4 arg5 harg5 arg6 harg6 T hm 0 _ slices_S688x1024_o0_0_S688x256 (by omega) rfl y)
  · cases hpc

open kernelRun0_A.sl in
theorem outA6 (hc0 : cond0_0 i) (hc1 : ¬cond0_1 i) (T : IsTile X Wt o p v r q hr hq x0 x1 x2 x3 x4) (hm : q % 256 = 0) :
    out0_A_6 (F := Ideal) c i arg2 harg2 arg3 harg3 arg4 harg4 arg5 harg5 arg6 harg6 arg7 harg7 arg8 harg8 arg9 harg9 hc0 hc1
      x0 x1 x2 x3 x4 = tileG X Wt o p v r q hr hq := by
  unfold out0_A_6
  rw [View.read_writes_junk_eq_canon]
  funext y
  refine canon_of_agree (Val := Elt Ideal) (tileG X Wt o p v r q hr hq) _ y (cover0_A_6 ..) ?_
  unfold kernelRun0_A
  intro pc hpc
  dsimp only at hpc
  simp only [kernelRun0_A.sl.r, r_1, r_2, r_3, r_4, r_5, r_6, r_7, r_8, r_9, r_10, r_11, r_12, r_13, r_14, r_15, r_16, r_17, r_18, r_19, r_20, r_21, r_22, r_23] at hpc
  rcases List.mem_cons.1 hpc with rfl | hpc
  · exact fun y => (congrFun (gate3 _ _ _ _ _) y).trans (piece_dg arg2 harg2 arg3 harg3 arg4 harg4 arg5 harg5 arg6 harg6 T hm 768 _ slices_S688x1024_o0_768_S688x256 (by omega) rfl y)
  rcases List.mem_cons.1 hpc with rfl | hpc
  · exact fun y => (congrFun (gate2 _ _ _ _ _) y).trans (piece_dg arg2 harg2 arg3 harg3 arg4 harg4 arg5 harg5 arg6 harg6 T hm 512 _ slices_S688x1024_o0_512_S688x256 (by omega) rfl y)
  rcases List.mem_cons.1 hpc with rfl | hpc
  · exact fun y => (congrFun (gate1 _ _ _ _ _) y).trans (piece_dg arg2 harg2 arg3 harg3 arg4 harg4 arg5 harg5 arg6 harg6 T hm 256 _ slices_S688x1024_o0_256_S688x256 (by omega) rfl y)
  rcases List.mem_cons.1 hpc with rfl | hpc
  · exact fun y => (congrFun (gate0 _ _ _ _ _) y).trans (piece_dg arg2 harg2 arg3 harg3 arg4 harg4 arg5 harg5 arg6 harg6 T hm 0 _ slices_S688x1024_o0_0_S688x256 (by omega) rfl y)
  · cases hpc

open kernelRun0_B.sl in
theorem outB6 (hc0 : ¬cond0_0 i) (hc1 : cond0_1 i) (T : IsTile X Wt o p v r q hr hq x0 x1 x2 x3 x4) (hm : q % 256 = 0) :
    out0_B_6 (F := Ideal) c i arg2 harg2 arg3 harg3 arg4 harg4 arg5 harg5 arg6 harg6 arg7 harg7 arg8 harg8 arg9 harg9 hc0 hc1
      x0 x1 x2 x3 x4 xo7 = tileG X Wt o p v r q hr hq := by
  unfold out0_B_6
  rw [View.read_writes_junk_eq_canon]
  funext y
  refine canon_of_agree (Val := Elt Ideal) (tileG X Wt o p v r q hr hq) _ y (cover0_B_6 ..) ?_
  unfold kernelRun0_B
  intro pc hpc
  dsimp only at hpc
  simp only [kernelRun0_B.sl.r, r_1, r_2, r_3, r_4, r_5, r_6, r_7, r_8, r_9, r_10, r_11, r_12, r_13, r_14, r_15, r_16, r_17, r_18, r_19, r_20, r_21, r_22, r_23] at hpc
  rcases List.mem_cons.1 hpc with rfl | hpc
  · exact fun y => (congrFun (gate3 _ _ _ _ _) y).trans (piece_dg arg2 harg2 arg3 harg3 arg4 harg4 arg5 harg5 arg6 harg6 T hm 768 _ slices_S688x1024_o0_768_S688x256 (by omega) rfl y)
  rcases List.mem_cons.1 hpc with rfl | hpc
  · exact fun y => (congrFun (gate2 _ _ _ _ _) y).trans (piece_dg arg2 harg2 arg3 harg3 arg4 harg4 arg5 harg5 arg6 harg6 T hm 512 _ slices_S688x1024_o0_512_S688x256 (by omega) rfl y)
  rcases List.mem_cons.1 hpc with rfl | hpc
  · exact fun y => (congrFun (gate1 _ _ _ _ _) y).trans (piece_dg arg2 harg2 arg3 harg3 arg4 harg4 arg5 harg5 arg6 harg6 T hm 256 _ slices_S688x1024_o0_256_S688x256 (by omega) rfl y)
  rcases List.mem_cons.1 hpc with rfl | hpc
  · exact fun y => (congrFun (gate0 _ _ _ _ _) y).trans (piece_dg arg2 harg2 arg3 harg3 arg4 harg4 arg5 harg5 arg6 harg6 T hm 0 _ slices_S688x1024_o0_0_S688x256 (by omega) rfl y)
  · cases hpc

open kernelRun0_A.sl in
theorem outA7 (hc0 : cond0_0 i) (hc1 : ¬cond0_1 i) (T : IsTile X Wt o p v r q hr hq x0 x1 x2 x3 x4) (hm : q % 256 = 0) (j : Fin 256) :
    (out0_A_7 (F := Ideal) c i arg2 harg2 arg3 harg3 arg4 harg4 arg5 harg5 arg6 harg6 arg7 harg7 arg8 harg8 arg9 harg9 hc0 hc1
      x0 x1 x2 x3 x4 (ix2 0 j) : EReal) = ∑ R : Fin 688, wrow X Wt o p r q hr hq j R := by
  unfold out0_A_7
  rw [View.read_writes_junk_eq_canon]
  unfold kernelRun0_A
  dsimp only
  refine (congrFun (View.canon_unit_zero (S := S1x256) vec2_zero _ _) _).trans ?_
  simp only [kernelRun0_A.sl.r, r_1, r_2, r_3, r_4, r_5, r_6, r_7, r_8, r_9, r_10, r_11, r_12, r_13, r_14, r_15, r_16, r_17, r_18, r_19, r_20, r_21, r_22, r_23]
  rw [acc0, acc1, acc2, acc3]
  exact chain hm (head_of_tile arg2 harg2 arg3 harg3 arg4 harg4 arg5 harg5 arg6 harg6 T 0 _ slices_S688x1024_o0_0_S688x256 (by omega))
    (head_of_tile arg2 harg2 arg3 harg3 arg4 harg4 arg5 harg5 arg6 harg6 T 256 _ slices_S688x1024_o0_256_S688x256 (by omega))
    (head_of_tile arg2 harg2 arg3 harg3 arg4 harg4 arg5 harg5 arg6 harg6 T 512 _ slices_S688x1024_o0_512_S688x256 (by omega))
    (head_of_tile arg2 harg2 arg3 harg3 arg4 harg4 arg5 harg5 arg6 harg6 T 768 _ slices_S688x1024_o0_768_S688x256 (by omega)) j

open kernelRun0_B.sl in
theorem outB7 (hc0 : ¬cond0_0 i) (hc1 : cond0_1 i) (T : IsTile X Wt o p v r q hr hq x0 x1 x2 x3 x4) (hm : q % 256 = 0) (j : Fin 256) :
    (out0_B_7 (F := Ideal) c i arg2 harg2 arg3 harg3 arg4 harg4 arg5 harg5 arg6 harg6 arg7 harg7 arg8 harg8 arg9 harg9 hc0 hc1
      x0 x1 x2 x3 x4 xo7 (ix2 0 j) : EReal) = (xo7 (ix2 0 j) : EReal) + ∑ R : Fin 688, wrow X Wt o p r q hr hq j R := by
  unfold out0_B_7
  rw [View.read_writes_junk_eq_canon]
  unfold kernelRun0_B
  dsimp only
  refine (congrFun (View.canon_unit_zero (S := S1x256) vec2_zero _ _) _).trans ?_
  refine (pay1_at _ _ j).trans ?_
  simp only [r_26, kernelRun0_B.sl.r, r_1, r_2, r_3, r_4, r_5, r_6, r_7, r_8, r_9, r_10, r_11, r_12, r_13, r_14, r_15, r_16, r_17, r_18, r_19, r_20, r_21, r_22, r_23]
  rw [acc0, acc1, acc2, acc3]
  refine congrArg₂ (fun a b : EReal => a + b) (congrFun (read_whole arg9 harg9 xo7 vec2_zero _) _) ?_
  exact chain hm (head_of_tile arg2 harg2 arg3 harg3 arg4 harg4 arg5 harg5 arg6 harg6 T 0 _ slices_S688x1024_o0_0_S688x256 (by omega))
    (head_of_tile arg2 harg2 arg3 harg3 arg4 harg4 arg5 harg5 arg6 harg6 T 256 _ slices_S688x1024_o0_256_S688x256 (by omega))
    (head_of_tile arg2 harg2 arg3 harg3 arg4 harg4 arg5 harg5 arg6 harg6 T 512 _ slices_S688x1024_o0_512_S688x256 (by omega))
    (head_of_tile arg2 harg2 arg3 harg3 arg4 harg4 arg5 harg5 arg6 harg6 T 768 _ slices_S688x1024_o0_768_S688x256 (by omega)) j

end stores

theorem idx0 : ∀ t : Fin cfg0.N, win0_0.index t (0 : Fin 2) = t.1 / 2 ∧ win0_0.index t (1 : Fin 2) = 0 := (by decide +kernel : ∀ t : Fin grid0.N, _)
theorem idx1 : ∀ t : Fin cfg0.N, win0_1.index t (0 : Fin 2) = t.1 % 2 ∧ win0_1.index t (1 : Fin 2) = 0 := (by decide +kernel : ∀ t : Fin grid0.N, _)
theorem idx2 : ∀ t : Fin cfg0.N, win0_2.index t (0 : Fin 2) = t.1 / 2 ∧ win0_2.index t (1 : Fin 2) = t.1 % 2 := (by decide +kernel : ∀ t : Fin grid0.N, _)
theorem idx3 : ∀ t : Fin cfg0.N, win0_3.index t (0 : Fin 2) = t.1 / 2 ∧ win0_3.index t (1 : Fin 2) = 4 + t.1 % 2 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = t.1 / 2 ∧ win0_5.index t (1 : Fin 2) = t.1 % 2 := (by decide +kernel : ∀ t : Fin grid0.N, _)
theorem idx6 : ∀ t : Fin cfg0.N, win0_6.index t (0 : Fin 2) = t.1 / 2 ∧ win0_6.index t (1 : Fin 2) = 4 + t.1 % 2 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)

variable (m : (ℓ : Loc nD τ sig) → Buf (Elt Ideal) ℓ) (c : Dev nD)

theorem row_le (t : Fin cfg0.N) : t.1 / 2 * 688 + 688 ≤ 8256 := by
  have hN : t.1 < 24 := lt_of_lt_of_eq t.isLt N_0
  omega

theorem col_le (t : Fin cfg0.N) : t.1 % 2 * 1024 + 1024 ≤ 2048 := by omega

/-- The blocks a point is given are those of its rows and its columns. -/
theorem tile (t : Fin cfg0.N) : IsTile (V m c main_arg0) (V m c main_arg1) (V m c main_arg2) (V m c main_arg3) (V m c main_arg4) (t.1 / 2 * 688) (t.1 % 2 * 1024)
    (row_le t) (col_le t) (iblk m c 0 t) (iblk m c 1 t) (iblk m c 2 t) (iblk m c 3 t) (iblk m c 4 t) where
  d R C := by
    obtain ⟨e0, e1⟩ := idx0 t
    refine congrArg (V m c main_arg0) (funext fun a => Fin.ext ?_)
    match a with
    | ⟨0, _⟩ => show win0_0.index t (0 : Fin 2) * 688 + 1 * R.1 = t.1 / 2 * 688 + R.1; omega
    | ⟨1, _⟩ => show win0_0.index t (1 : Fin 2) * 1024 + 1 * C.1 = C.1; omega
  w R C := by
    obtain ⟨e0, e1⟩ := idx1 t
    refine congrArg (V m c main_arg1) (funext fun a => Fin.ext ?_)
    match a with
    | ⟨0, _⟩ => show win0_1.index t (0 : Fin 2) * 1024 + 1 * R.1 = t.1 % 2 * 1024 + R.1; omega
    | ⟨1, _⟩ => show win0_1.index t (1 : Fin 2) * 1024 + 1 * C.1 = C.1; omega
  o R C := by
    obtain ⟨e0, e1⟩ := idx2 t
    refine congrArg (V m c main_arg2) (funext fun a => Fin.ext ?_)
    match a with
    | ⟨0, _⟩ => show win0_2.index t (0 : Fin 2) * 688 + 1 * R.1 = t.1 / 2 * 688 + R.1; omega
    | ⟨1, _⟩ => show win0_2.index t (1 : Fin 2) * 1024 + 1 * C.1 = t.1 % 2 * 1024 + C.1; omega
  g R C := by
    obtain ⟨e0, e1⟩ := idx3 t
    refine congrArg (V m c main_arg3) (funext fun a => Fin.ext ?_)
    match a with
    | ⟨0, _⟩ => show win0_3.index t (0 : Fin 2) * 688 + 1 * R.1 = t.1 / 2 * 688 + R.1; omega
    | ⟨1, _⟩ => show win0_3.index t (1 : Fin 2) * 1024 + 1 * C.1 = 4096 + (t.1 % 2 * 1024 + C.1); omega
  v := by
    obtain ⟨e0, e1⟩ := idx4 t
    funext y
    refine congrArg (V m c main_arg4) (funext fun a => Fin.ext ?_)
    match a with
    | ⟨0, _⟩ => show win0_4.index t (0 : Fin 2) * 1 + 1 * (y 0).1 = (y 0).1; omega
    | ⟨1, _⟩ => show win0_4.index t (1 : Fin 2) * 256 + 1 * (y 1).1 = (y 1).1; omega

theorem emb5 (t : Fin cfg0.N) (R : Fin 688) (C : Fin 1024) (h : t.1 / 2 * 688 + R.1 < 8256) :
    ((cfg0.win 5).blk t).view.emb (ix2 R C) = ix2 ⟨t.1 / 2 * 688 + R.1, h⟩ ⟨t.1 % 2 * 1024 + C.1, by omega⟩ := by
  obtain ⟨e0, e1⟩ := idx5 t
  funext a; apply Fin.ext
  match a with
  | ⟨0, _⟩ => show win0_5.index t (0 : Fin 2) * 688 + 1 * R.1 = t.1 / 2 * 688 + R.1; omega
  | ⟨1, _⟩ => show win0_5.index t (1 : Fin 2) * 1024 + 1 * C.1 = t.1 % 2 * 1024 + C.1; omega

theorem emb6 (t : Fin cfg0.N) (R : Fin 688) (C : Fin 1024) (h : t.1 / 2 * 688 + R.1 < 8256) :
    ((cfg0.win 6).blk t).view.emb (ix2 R C) = ix2 ⟨t.1 / 2 * 688 + R.1, h⟩ (gc ⟨t.1 % 2 * 1024 + C.1, by omega⟩) := by
  obtain ⟨e0, e1⟩ := idx6 t
  funext a; apply Fin.ext
  match a with
  | ⟨0, _⟩ => show win0_6.index t (0 : Fin 2) * 688 + 1 * R.1 = t.1 / 2 * 688 + R.1; omega
  | ⟨1, _⟩ => show win0_6.index t (1 : Fin 2) * 1024 + 1 * C.1 = 4096 + (t.1 % 2 * 1024 + C.1); omega

theorem emb7 (t : Fin cfg0.N) (R : Fin 1) (C : Fin 256) : ((cfg0.win 7).blk t).view.emb (ix2 R C) = ix2 R C := by
  obtain ⟨e0, e1⟩ := idx7 t
  funext a; apply Fin.ext
  match a with
  | ⟨0, _⟩ => show win0_7.index t (0 : Fin 2) * 1 + 1 * R.1 = R.1; omega
  | ⟨1, _⟩ => show win0_7.index t (1 : Fin 2) * 256 + 1 * C.1 = C.1; omega

theorem out5 (t : Fin cfg0.N) : (outsAt0 m c t.1 t.isLt).1
    = tileO (V m c main_arg0) (V m c main_arg1) (V m c main_arg2) (V m c main_arg3) (V m c main_arg4) (t.1 / 2 * 688) (t.1 % 2 * 1024) (row_le t) (col_le t) := by
  by_cases h : t.1 % 24 = 0
  · have hN : t.1 < 24 := lt_of_lt_of_eq t.isLt N_0
    rw [outsAt0_A m c t h (by omega)]
    dsimp only
    exact outA5 _ _ _ _ _ _ _ _ _ _ _ _ _ _ _ _ _ _ _ _ (tile m c t) (by omega)
  · rw [outsAt0_B m c t h (by omega)]
    dsimp only
    exact outB5 _ _ _ _ _ _ _ _ _ _ _ _ _ _ _ _ _ _ _ _ _ (tile m c t) (by omega)

theorem out6 (t : Fin cfg0.N) : (outsAt0 m c t.1 t.isLt).2.1
    = tileG (V m c main_arg0) (V m c main_arg1) (V m c main_arg2) (V m c main_arg3) (V m c main_arg4) (t.1 / 2 * 688) (t.1 % 2 * 1024) (row_le t) (col_le t) := by
  by_cases h : t.1 % 24 = 0
  · have hN : t.1 < 24 := lt_of_lt_of_eq t.isLt N_0
    rw [outsAt0_A m c t h (by omega)]
    dsimp only
    exact outA6 _ _ _ _ _ _ _ _ _ _ _ _ _ _ _ _ _ _ _ _ (tile m c t) (by omega)
  · rw [outsAt0_B m c t h (by omega)]
    dsimp only
    exact outB6 _ _ _ _ _ _ _ _ _ _ _ _ _ _ _ _ _ _ _ _ _ (tile m c t) (by omega)

/-- A point's share of the gradient of the norm's weights. -/
def share (t : Fin cfg0.N) (j : Fin 256) : EReal :=
  ∑ R : Fin 688, wrow (V m c main_arg0) (V m c main_arg1) (V m c main_arg2) (V m c main_arg3) (t.1 / 2 * 688) (t.1 % 2 * 1024) (row_le t) (col_le t) j R

theorem out7_first (t : Fin cfg0.N) (h : t.1 % 24 = 0) (h' : ¬1 ≤ t.1) (j : Fin 256) : ((outsAt0 m c t.1 t.isLt).2.2 (ix2 0 j) : EReal) = share m c t j := by
  rw [outsAt0_A m c t h h']
  dsimp only
  exact outA7 _ _ _ _ _ _ _ _ _ _ _ _ _ _ _ _ _ _ _ _ (tile m c t) (by omega) j

theorem out7_next (t : Fin cfg0.N) (h : ¬t.1 % 24 = 0) (h' : 1 ≤ t.1) (j : Fin 256) : ((outsAt0 m c t.1 t.isLt).2.2 (ix2 0 j) : EReal)
    = ((outsAt0 m c (t.1 - 1) (Nat.lt_of_le_of_lt (Nat.sub_le _ _) t.isLt)).2.2 (ix2 0 j) : EReal) + share m c t j := by
  rw [outsAt0_B m c t h h']
  dsimp only
  exact outB7 _ _ _ _ _ _ _ _ _ _ _ _ _ _ _ _ _ _ _ _ _ (tile m c t) (by omega) j

/-- A block of rows' shares: that of the first four heads and that of the last four. -/
theorem wblock (t t' : Fin cfg0.N) (h : t.1 % 2 = 0) (h' : t'.1 = t.1 + 1) (j : Fin 256) :
    ∑ k ∈ Finset.range ((t.1 / 2 + 1) * 688), ext (wterm (V m c main_arg0) (V m c main_arg1) (V m c main_arg2) (V m c main_arg3) j) k
      = ∑ k ∈ Finset.range (t.1 / 2 * 688), ext (wterm (V m c main_arg0) (V m c main_arg1) (V m c main_arg2) (V m c main_arg3) j) k + (share m c t j + share m c t' j) := by
  unfold share
  rw [← Finset.sum_add_distrib]
  refine sum_blocks_succ _ _ _ _ fun R => ?_
  have hN := row_le t
  have hR : t.1 / 2 * 688 + R.1 < 8256 := by omega
  have e1 : t'.1 / 2 = t.1 / 2 := by omega
  have e2 : t'.1 % 2 = 1 := by omega
  rw [ext_of_lt _ _ hR]
  unfold wrow wterm
  simp only [e1, e2, h]
  rw [Fin.sum_univ_four, Fin.sum_univ_four, Fin.sum_univ_eight]
  simp only [← add_assoc]
  rfl

/-- What the third result holds after a point: the shares of the rows finished so far, and of the heads already met in the rows under way. -/
theorem wacc (n : ℕ) (hn : n < cfg0.N) (j : Fin 256) :
    (n % 2 = 0 → ((outsAt0 m c n hn).2.2 (ix2 0 j) : EReal)
      = ∑ k ∈ Finset.range (n / 2 * 688), ext (wterm (V m c main_arg0) (V m c main_arg1) (V m c main_arg2) (V m c main_arg3) j) k + share m c ⟨n, hn⟩ j)
    ∧ (n % 2 = 1 → ((outsAt0 m c n hn).2.2 (ix2 0 j) : EReal)
      = ∑ k ∈ Finset.range ((n / 2 + 1) * 688), ext (wterm (V m c main_arg0) (V m c main_arg1) (V m c main_arg2) (V m c main_arg3) j) k) := by
  induction n with
  | zero => exact ⟨fun _ => (out7_first m c ⟨0, hn⟩ rfl (by dsimp only; omega) j).trans (zero_add _).symm, fun h => by omega⟩
  | succ n ih =>
    have hN : n + 1 < 24 := lt_of_lt_of_eq hn N_0
    have key := out7_next m c ⟨n + 1, hn⟩ (by dsimp only; omega) (by dsimp only; omega) j
    have ih := ih (Nat.lt_of_succ_lt hn)
    refine ⟨fun h => ?_, fun h => ?_⟩
    · have e : (n + 1) / 2 = n / 2 + 1 := by omega
      rw [e, ← ih.2 (by omega)]
      exact key
    · have e : (n + 1) / 2 = n / 2 := by omega
      rw [e, wblock m c ⟨n, Nat.lt_of_succ_lt hn⟩ ⟨n + 1, hn⟩ (by dsimp only; omega) rfl j, ← add_assoc, ← ih.1 (by omega)]
      exact key

theorem flushed5 (t : Fin cfg0.N) : (dats m 0 c).flushed 5 t = (cfg0.win 5).cut (grid0.coords t) ((outsAt0 m c t.val t.isLt).1) := by
  show (cfg0.win 5).cut (grid0.coords t) ((dats m 0 c).after 5 t) = _
  rw [after0_5]

theorem flushed6 (t : Fin cfg0.N) : (dats m 0 c).flushed 6 t = (cfg0.win 6).cut (grid0.coords t) ((outsAt0 m c t.val t.isLt).2.1) := by
  show (cfg0.win 6).cut (grid0.coords t) ((dats m 0 c).after 6 t) = _
  rw [after0_6]

theorem flushed7 (t : Fin cfg0.N) : (dats m 0 c).flushed 7 t = (cfg0.win 7).cut (grid0.coords t) ((outsAt0 m c t.val t.isLt).2.2) := by
  show (cfg0.win 7).cut (grid0.coords t) ((dats m 0 c).after 7 t) = _
  rw [after0_7]

theorem final5 : ((dats m 0 c).arrAt 5 cfg0.N : S8256x2048.Idx → EReal)
    = DO (V m c main_arg0) (V m c main_arg1) (V m c main_arg2) (V m c main_arg3)
      (V m c main_arg4) := by
  refine (dats m 0 c).arrAt_eq_of_cover 5 _ (fun t _ => ?_) fun y => ?_
  · have hN := row_le t
    rw [flushed5, out5]
    funext y
    obtain ⟨R, C, rfl⟩ : ∃ (R : Fin 688) (C : Fin 1024), y = ix2 R C := ⟨y 0, y 1, eq_ix2 y⟩
    exact (congrArg (DO _ _ _ _ _) (emb5 t R C (by omega))).symm
  · obtain ⟨R, C, rfl⟩ : ∃ (R : Fin 8256) (C : Fin 2048), y = ix2 R C := ⟨y 0, y 1, eq_ix2 y⟩
    have ht : R.1 / 688 * 2 + C.1 / 1024 < cfg0.N := lt_of_lt_of_eq (by omega) N_0.symm
    refine ⟨⟨_, ht⟩, flush0_5 _, ?_⟩
    have h := ((cfg0.win 5).blk ⟨_, ht⟩).view.emb_mem_set (ix2 (⟨R.1 % 688, by omega⟩ : Fin 688) (⟨C.1 % 1024, by omega⟩ : Fin 1024))
    rw [emb5 _ _ _ (by dsimp only; omega)] at h
    refine (congrArg (· ∈ ((cfg0.win 5).blk ⟨_, ht⟩).view.set) (congrArg₂ ix2 (Fin.ext ?_) (Fin.ext ?_))).mp h
    · dsimp only; omega
    · dsimp only; omega

theorem final7 : (dats m 0 c).arrAt 7 cfg0.N
    = W (V m c main_arg0) (V m c main_arg1) (V m c main_arg2) (V m c main_arg3) := by
  refine (dats m 0 c).arrAt_eq_of_cover 7 _ (fun t ht => ?_) fun y => ?_
  · have hN : t.1 < 24 := lt_of_lt_of_eq t.isLt N_0
    have h23 := (flush0_7 t).mp ht
    have e : t.1 / 2 + 1 = 12 := by omega
    rw [flushed7]
    funext y
    obtain ⟨R, C, rfl⟩ : ∃ (R : Fin 1) (C : Fin 256), y = ix2 R C := ⟨y 0, y 1, eq_ix2 y⟩
    obtain rfl : R = 0 := Subsingleton.elim _ _
    have key := (wacc m c t.1 t.isLt C).2 (by omega)
    rw [e] at key
    exact (key.trans (sum_ext _)).trans (congrArg (W _ _ _ _) (emb7 t 0 C)).symm
  · obtain ⟨R, C, rfl⟩ : ∃ (R : Fin 1) (C : Fin 256), y = ix2 R C := ⟨y 0, y 1, eq_ix2 y⟩
    have ht : 23 < cfg0.N := lt_of_lt_of_eq (by omega) N_0.symm
    refine ⟨⟨23, ht⟩, (flush0_7 _).mpr rfl, ?_⟩
    have h := ((cfg0.win 7).blk ⟨23, ht⟩).view.emb_mem_set (ix2 R C)
    rwa [emb7] at h

/-- The second result at the columns the call writes. -/
theorem final6 (R : Fin 8256) (C : Fin 2048) : ((dats m 0 c).arrAt 6 cfg0.N (ix2 R (gc C)) : EReal)
    = DG (V m c main_arg0) (V m c main_arg1) (V m c main_arg2) (V m c main_arg3)
      (V m c main_arg4) R C := by
  have ht : R.1 / 688 * 2 + C.1 / 1024 < cfg0.N := lt_of_lt_of_eq (by omega) N_0.symm
  have h := ((cfg0.win 6).blk ⟨_, ht⟩).view.emb_mem_set (ix2 (⟨R.1 % 688, by omega⟩ : Fin 688) (⟨C.1 % 1024, by omega⟩ : Fin 1024))
  rw [emb6 _ _ _ (by dsimp only; omega)] at h
  have e1 : (⟨(R.1 / 688 * 2 + C.1 / 1024) / 2 * 688 + R.1 % 688, by omega⟩ : Fin 8256) = R := Fin.ext (by dsimp only; omega)
  have e2 : (⟨(R.1 / 688 * 2 + C.1 / 1024) % 2 * 1024 + C.1 % 1024, by omega⟩ : Fin 2048) = C := Fin.ext (by dsimp only; omega)
  rw [e1, e2] at h
  refine (dats m 0 c).arrAt_forall_of_flushed 6 (fun i v => ∀ (R : Fin 8256) (C : Fin 2048), i = ix2 R (gc C) → (v : EReal) = DG (V m c main_arg0) (V m c main_arg1) (V m c main_arg2) (V m c main_arg3)
      (V m c main_arg4) R C) (fun t _ y R' C' he => ?_) cfg0.N ⟨_, ht⟩ _ ht (flush0_6 _) h R C rfl
  have hN := row_le t
  rw [flushed6, out6]
  obtain ⟨A, B, rfl⟩ : ∃ (A : Fin 688) (B : Fin 1024), y = ix2 A B := ⟨y 0, y 1, eq_ix2 y⟩
  rw [emb6 t A B (by omega)] at he
  have h0 := congrArg Fin.val (congrFun he 0)
  have h1 := congrArg Fin.val (congrFun he 1)
  refine congrArg₂ (DG _ _ _ _ _) (Fin.ext h0) (Fin.ext ?_)
  change 4096 + (t.1 % 2 * 1024 + B.1) = 4096 + C'.1 at h1
  exact Nat.add_left_cancel h1

theorem run_blocks (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1 5, (h c).1 6, (h c).1 7,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.Kernel4Ideal.Value

namespace Cert.Reference4Ideal.Value

open Cert.Reference4Ideal Cert.Reference4Ideal.Gen Idealize.ShloMosaic Idealize.ShloMosaic.TcCoe Idealize.SL.Sem
open Cert.Kernel4Ideal.Value (dy dn xh DO DG W wterm seg gc)

theorem do_eq (m : (ℓ : Loc nD τ sig) → Buf (Elt Ideal) ℓ) (c : Dev nD) (R : Fin 8256) (C : Fin 2048) :
    (res_main_v51 m c (ix2 R C) : EReal)
      = DO (m ((c : Thread nD τ).loc main_arg0)) (m ((c : Thread nD τ).loc main_arg1)) (m ((c : Thread nD τ).loc main_arg2)) (m ((c : Thread nD τ).loc main_arg3))
          (m ((c : Thread nD τ).loc main_arg4)) (ix2 R C) := by
  refine Eq.trans ?_ (normBwd_eq positive_256 _ _ _ _ _).symm
  unfold res_main_v51 meanSqBwd meanSq dn dy logi seg gc
  generalize m ((c.tc : Thread nD τ).loc main_arg0) = x
  generalize m ((c.tc : Thread nD τ).loc main_arg1) = w
  generalize m ((c.tc : Thread nD τ).loc main_arg2) = o
  generalize m ((c.tc : Thread nD τ).loc main_arg3) = p
  generalize m ((c.tc : Thread nD τ).loc main_arg4) = v
  pointwise
  simp only [Finset.univ_unique, Finset.sum_singleton, zero_add]

/-- The gate's gradient, in the order of the reference, where the output's gradient and the normed value are real. -/
theorem gate (x : FVec Ideal S8256x1024 .bf16) (w : FVec Ideal S2048x1024 .bf16) (o : FVec Ideal S8256x2048 .f32) (p : FVec Ideal S8256x6144 .f32)
    (v : FVec Ideal S1x256 .f32) (hx : IsReal x) (hw : IsReal w) (hv : IsReal v)
    (R : Fin 8256) (C : Fin 2048) :
    DG x w o p v R C = xh o R C * (v (ix2 0 ⟨C.1 % 256, by omega⟩) : EReal) * dy x w R C * logi (p (ix2 R (gc C)) : EReal)
      + (p (ix2 R (gc C)) : EReal) * (xh o R C * (v (ix2 0 ⟨C.1 % 256, by omega⟩) : EReal) * dy x w R C)
        * (logi (p (ix2 R (gc C)) : EReal) * (1 - logi (p (ix2 R (gc C)) : EReal))) := by
  have hd : ∃ a : ℝ, dy x w R C = a := by
    choose fx hx using hx
    choose fw hw using hw
    refine ⟨∑ k : Fin 1024, fx (ix2 R k) * fw (ix2 C k), ?_⟩
    unfold dy
    rw [coe_sum]
    refine Finset.sum_congr rfl fun k _ => ?_
    rw [EReal.coe_mul, ← hx, ← hw]
  have hz : ∃ a : ℝ, xh o R C * (v (ix2 0 ⟨C.1 % 256, by omega⟩) : EReal) = a := by
    have e : seg C ⟨C.1 % 256, by omega⟩ = C := Fin.ext (by show C.1 / 256 * 256 + C.1 % 256 = C.1; omega)
    obtain ⟨b, hb⟩ := normed_real positive_256 (fun k => (o (ix2 R (seg C k)) : EReal)) ⟨C.1 % 256, by omega⟩
    obtain ⟨a, ha⟩ := hv (ix2 0 ⟨C.1 % 256, by omega⟩)
    simp only [e] at hb
    refine ⟨b * a, ?_⟩
    unfold xh
    rw [EReal.coe_mul, ← ha, ← hb]
  obtain ⟨d, hd⟩ := hd
  obtain ⟨z, hz⟩ := hz
  unfold DG
  rw [hd, hz]
  exact gateBwd_eq d z _

theorem run' (m : (ℓ : Loc nD τ sig) → Buf (Elt Ideal) ℓ) (ρ : Dev nD → PrngReg)
    (hx : ∀ c : Dev nD, IsReal (S := S8256x1024) (t := .bf16) (m ((c.tc : Thread nD τ).loc main_arg0)))
    (hw : ∀ c : Dev nD, IsReal (S := S2048x1024) (t := .bf16) (m ((c.tc : Thread nD τ).loc main_arg1)))
    (hv : ∀ c : Dev nD, IsReal (S := S1x256) (t := .f32) (m ((c.tc : Thread nD τ).loc main_arg4))) :
    θ_run defs (onTc (τ := τ) (main (F := Ideal))) ⟨m, fun _ => 0, ρ⟩ fun r => ∀ c : Dev nD,
      (∀ (R : Fin 8256) (C : Fin 2048), (r.2.mem ((c.tc : Thread nD τ).loc main_v51) : S8256x2048.Idx → EReal) (ix2 R C)
        = DO (m ((c : Thread nD τ).loc main_arg0)) (m ((c : Thread nD τ).loc main_arg1)) (m ((c : Thread nD τ).loc main_arg2)) (m ((c : Thread nD τ).loc main_arg3))
          (m ((c : Thread nD τ).loc main_arg4)) (ix2 R C))
      ∧ (∀ (R : Fin 8256) (C : Fin 2048), (r.2.mem ((c.tc : Thread nD τ).loc main_v54) : S8256x6144.Idx → EReal) (ix2 R (gc C))
        = DG (m ((c : Thread nD τ).loc main_arg0)) (m ((c : Thread nD τ).loc main_arg1)) (m ((c : Thread nD τ).loc main_arg2)) (m ((c : Thread nD τ).loc main_arg3))
          (m ((c : Thread nD τ).loc main_arg4)) R C)
      ∧ (∀ k : Fin 256, (r.2.mem ((c.tc : Thread nD τ).loc main_v36) : S1x256.Idx → EReal) (ix2 0 k)
        = W (m ((c : Thread nD τ).loc main_arg0)) (m ((c : Thread nD τ).loc main_arg1)) (m ((c : Thread nD τ).loc main_arg2)) (m ((c : Thread nD τ).loc main_arg3)) (ix2 0 k))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨fun R C => (congrFun (h c).1 (ix2 R C)).trans (do_eq m c R C), fun R C => (congrFun (h c).2.1 (ix2 R (gc C))).trans ?_,
    fun k => (congrFun (h c).2.2.1 (ix2 0 k)).trans ?_, (h c).2.2.2⟩) (Cert.Reference4Ideal.Value.run m ρ)
  · clear h
    refine Eq.trans ?_ (gate _ _ _ _ _ (hx c) (hw c) (hv c) R C).symm
    unfold xh dy meanSq logi gc seg
    generalize m ((c.tc : Thread nD τ).loc main_arg0) = x
    generalize m ((c.tc : Thread nD τ).loc main_arg1) = w
    generalize m ((c.tc : Thread nD τ).loc main_arg2) = o
    generalize m ((c.tc : Thread nD τ).loc main_arg3) = p
    generalize m ((c.tc : Thread nD τ).loc main_arg4) = v
    pointwise
  · clear h
    have e : ∀ h : Fin 8, (h.1 * 256 + k.1) / 256 = h.1 := by omega
    unfold W wterm xh dn dy meanSq logi gc seg
    simp only [ix2_1, e]
    generalize m ((c.tc : Thread nD τ).loc main_arg0) = x
    generalize m ((c.tc : Thread nD τ).loc main_arg1) = w
    generalize m ((c.tc : Thread nD τ).loc main_arg2) = o
    generalize m ((c.tc : Thread nD τ).loc main_arg3) = p
    generalize m ((c.tc : Thread nD τ).loc main_arg4) = v
    pointwise
    rw [hostReduceAdd_two]
    simp only [Finset.univ_unique, Finset.sum_singleton]
    pointwise
    rw [hostReduceAdd_two]
    pointwise

end Cert.Reference4Ideal.Value

namespace Cert.Proof

open Idealize.ShloMosaic Idealize.ShloMosaic.TcCoe Idealize.SL.Sem

instance facts_finite4 : Cert.Pre_finite4.Facts := ⟨by decide, by decide, by decide, by decide⟩
instance facts_gate_columns : Cert.On_gate_columns.Facts := ⟨by decide, by decide, by decide⟩

theorem gnorm_frame : quiescent_Kernel4 := fun m ρ _ => Cert.Kernel4.Gen.frame m ρ
theorem gnorm_frameI : quiescent_Kernel4Ideal := fun m ρ _ => Cert.Kernel4Ideal.Gen.frame m ρ
theorem gnorm_frameI' : quiescent_Kernel4Ideal_pre_finite4 := fun m ρ _ => Cert.Kernel4Ideal.Gen.frame m ρ
theorem gnorm_frameR : quiescent_Reference4Ideal := fun m ρ _ =>
  (θ_run Cert.Reference4Ideal.defs _ _).mono (fun r h => ⟨fun c => (h c).2.2.2, sem_eq_zero_of_no_sems (by decide) _⟩) (Cert.Reference4Ideal.Value.run m ρ)
theorem gnorm_frameR' : quiescent_Reference4Ideal_pre_finite4 := fun m ρ _ => gnorm_frameR m ρ trivial

/-- The columns at which the second result is compared are the gate's. -/
theorem gate_column (a0 : FVec Ideal Cert.On_gate_columns.S8256x1024 .bf16) (a1 : FVec Ideal Cert.On_gate_columns.S2048x1024 .bf16)
    (a2 : FVec Ideal Cert.On_gate_columns.S8256x2048 .f32) (a3 : FVec Ideal Cert.On_gate_columns.S8256x6144 .f32) (a4 : FVec Ideal Cert.On_gate_columns.S1x256 .f32)
    (R : Fin 8256) (C : Fin 6144) (h : (Cert.On_gate_columns.fn (F := Ideal) a0 a1 a2 a3 a4).2.1 (ix2 R C) = 1#1) : 4096 ≤ C.1 := by
  unfold Cert.On_gate_columns.fn at h
  dsimp only at h
  pointwise at h
  exact (Idealize.ShloMosaic.WordCmp.cmpi_sge_ofNat_eq_one_iff (w := 32) (a := C.1) (b := 4096) (by omega) (by omega)).mp h

theorem gnorm_value : algebraic_Kernel4Ideal_Reference4Ideal_on_gate_columns_pre_finite4 := fun m ρ m' ρ' hp hag => by
  refine ⟨fun c => Cert.Kernel4Ideal.Value.DO (m ((c : Thread Cert.Kernel4Ideal.nD Cert.Kernel4Ideal.τ).loc Cert.Kernel4Ideal.main_arg0))
      (m ((c : Thread Cert.Kernel4Ideal.nD Cert.Kernel4Ideal.τ).loc Cert.Kernel4Ideal.main_arg1))
      (m ((c : Thread Cert.Kernel4Ideal.nD Cert.Kernel4Ideal.τ).loc Cert.Kernel4Ideal.main_arg2))
      (m ((c : Thread Cert.Kernel4Ideal.nD Cert.Kernel4Ideal.τ).loc Cert.Kernel4Ideal.main_arg3))
      (m ((c : Thread Cert.Kernel4Ideal.nD Cert.Kernel4Ideal.τ).loc Cert.Kernel4Ideal.main_arg4)),
    fun c => (Cert.Kernel4Ideal.Gen.dats m 0 c).arrAt 6 Cert.Kernel4Ideal.cfg0.N,
    fun c => Cert.Kernel4Ideal.Value.W (m ((c : Thread Cert.Kernel4Ideal.nD Cert.Kernel4Ideal.τ).loc Cert.Kernel4Ideal.main_arg0))
      (m ((c : Thread Cert.Kernel4Ideal.nD Cert.Kernel4Ideal.τ).loc Cert.Kernel4Ideal.main_arg1))
      (m ((c : Thread Cert.Kernel4Ideal.nD Cert.Kernel4Ideal.τ).loc Cert.Kernel4Ideal.main_arg2))
      (m ((c : Thread Cert.Kernel4Ideal.nD Cert.Kernel4Ideal.τ).loc Cert.Kernel4Ideal.main_arg3)), ?_, ?_⟩
  · exact (θ_run Cert.Kernel4Ideal.defs _ _).mono (fun r h c =>
      ⟨fun i _ => congrFun ((h c).1.trans (Cert.Kernel4Ideal.Value.final5 m c)) i, fun i _ => congrFun (h c).2.1 i,
        fun i _ => congrFun ((h c).2.2.1.trans (Cert.Kernel4Ideal.Value.final7 m c)) i, (h c).2.2.2⟩)
      (Cert.Kernel4Ideal.Value.run_blocks m ρ)
  · refine (θ_run Cert.Reference4Ideal.defs _ _).mono (fun r h c => ⟨fun i _ => ?_, fun i hi => ?_, fun i _ => ?_, (h c).2.2.2⟩)
      (Cert.Reference4Ideal.Value.run' m' ρ' (fun c i => ?_) (fun c i => ?_) (fun c i => ?_))
    · obtain ⟨R, C, rfl⟩ : ∃ (R : Fin 8256) (C : Fin 2048), i = ix2 R C := ⟨i 0, i 1, eq_ix2 i⟩
      refine ((h c).1 R C).trans ?_
      rw [(hag c).1, (hag c).2.1, (hag c).2.2.1, (hag c).2.2.2.1, (hag c).2.2.2.2]
    · obtain ⟨R, C, rfl⟩ : ∃ (R : Fin 8256) (C : Fin 6144), i = ix2 R C := ⟨i 0, i 1, eq_ix2 i⟩
      have hC := gate_column _ _ _ _ _ R C hi
      obtain ⟨C, rfl⟩ : ∃ C' : Fin 2048, C = Cert.Kernel4Ideal.Value.gc C' := ⟨⟨C.1 - 4096, by omega⟩, Fin.ext (by show C.1 = 4096 + (C.1 - 4096); omega)⟩
      refine ((h c).2.1 R C).trans (Eq.trans ?_ (Cert.Kernel4Ideal.Value.final6 m c R C).symm)
      rw [(hag c).1, (hag c).2.1, (hag c).2.2.1, (hag c).2.2.2.1, (hag c).2.2.2.2]
    · obtain ⟨R, C, rfl⟩ : ∃ (R : Fin 1) (C : Fin 256), i = ix2 R C := ⟨i 0, i 1, eq_ix2 i⟩
      obtain rfl : R = 0 := Subsingleton.elim _ _
      refine ((h c).2.2.1 C).trans ?_
      rw [(hag c).1, (hag c).2.1, (hag c).2.2.1, (hag c).2.2.2.1]
    · rw [(hag c).1]
      exact ⟨_, real_of_abs_lt _ _ (hp c).1 i⟩
    · rw [(hag c).2.1]
      exact ⟨_, real_of_abs_lt _ _ (hp c).2.1 i⟩
    · rw [(hag c).2.2.2.2]
      exact ⟨_, real_of_abs_lt _ _ (hp c).2.2 i⟩

end Cert.Proof

end
-- ==== Proof.Gu.lean ====
module

public import proofs.«01_k».proof.Defs
public import proofs.«01_k».proof.Proof.Logistic
public import proofs.«01_k».proof.Proof.Gen.Kernel5.Frame
public import proofs.«01_k».proof.Proof.Gen.Kernel5Ideal.Value
public import proofs.«01_k».proof.Proof.Gen.Reference5Ideal.Run
public import Idealize.ShloMosaic.Lib.Quiescent

/-! The FFN's gate and up projections and their gated product: a block of each is whole in the contraction; the kernel forms the logistic function by the
hyperbolic tangent of the half. -/

@[expose] public section

set_option maxRecDepth 16384

noncomputable section

namespace Cert.Kernel5Ideal.Value

open Cert.Kernel5Ideal Cert.Kernel5Ideal.Gen Idealize.ShloMosaic Idealize.ShloMosaic.TcCoe Idealize.SL.Sem

theorem idx0 : ∀ t : Fin cfg0.N, win0_0.index t (0 : Fin 2) = t.1 / 2 ∧ win0_0.index t (1 : Fin 2) = 0 := (by decide +kernel : ∀ t : Fin grid0.N, _)
theorem idx1 : ∀ t : Fin cfg0.N, win0_1.index t (0 : Fin 2) = 0 ∧ win0_1.index t (1 : Fin 2) = t.1 % 2 := (by decide +kernel : ∀ t : Fin grid0.N, _)
theorem idx2 : ∀ t : Fin cfg0.N, win0_2.index t (0 : Fin 2) = 0 ∧ win0_2.index t (1 : Fin 2) = t.1 % 2 := (by decide +kernel : ∀ t : Fin grid0.N, _)
theorem idx3 : ∀ t : Fin cfg0.N, win0_3.index t (0 : Fin 2) = t.1 / 2 ∧ win0_3.index t (1 : Fin 2) = t.1 % 2 := (by decide +kernel : ∀ t : Fin grid0.N, _)
theorem idx4 : ∀ t : Fin cfg0.N, win0_4.index t (0 : Fin 2) = t.1 / 2 ∧ win0_4.index t (1 : Fin 2) = t.1 % 2 := (by decide +kernel : ∀ t : Fin grid0.N, _)
theorem idx5 : ∀ t : Fin cfg0.N, win0_5.index t (0 : Fin 2) = t.1 / 2 ∧ win0_5.index t (1 : Fin 2) = t.1 % 2 := (by decide +kernel : ∀ t : Fin grid0.N, _)

theorem pay1 (x : FVec Ideal S688x1024 .bf16) (w : FVec Ideal S1024x1408 .bf16) (R : Fin 688) (C : Fin 1408) :
    (k0_pay1 (F := Ideal) x w (ix2 R C) : EReal) = ∑ k : Fin 1024, (x (ix2 R k) * w (ix2 k C) : EReal) := by
  unfold k0_pay1
  pointwise

theorem pay2 (x : FVec Ideal S688x1024 .bf16) (w : FVec Ideal S1024x1408 .bf16) : k0_pay2 (F := Ideal) x w = k0_pay1 (F := Ideal) x w := rfl
theorem pay3 (x : FVec Ideal S688x1024 .bf16) (w : FVec Ideal S1024x1408 .bf16) (y : S688x1408.Idx) :
    (k0_pay3 (F := Ideal) x w y : EReal) = k0_pay1 (F := Ideal) x w y := rfl
theorem pay4 (x : FVec Ideal S688x1024 .bf16) (w : FVec Ideal S1024x1408 .bf16) (y : S688x1408.Idx) :
    (k0_pay4 (F := Ideal) x w y : EReal) = k0_pay1 (F := Ideal) x w y := rfl

theorem pay5 (x : FVec Ideal S688x1024 .bf16) (w v : FVec Ideal S1024x1408 .bf16) (R : Fin 688) (C : Fin 1408) :
    (k0_pay5 (F := Ideal) x w v (ix2 R C) : EReal) = (k0_pay1 (F := Ideal) x w (ix2 R C) : EReal)
      * Ideal.div 1 (1 + Ideal.exp (-(k0_pay1 (F := Ideal) x w (ix2 R C) : EReal))) * (k0_pay1 (F := Ideal) x v (ix2 R C) : EReal) := by
  rw [← logistic_tanh]
  unfold k0_pay5
  rw [pay2]
  generalize k0_pay1 (F := Ideal) x w = A
  generalize k0_pay1 (F := Ideal) x v = B
  pointwise

theorem out_eq3 (x : FVec Ideal S688x1024 .bf16) (w v : FVec Ideal S1024x1408 .bf16) : out0_3 (F := Ideal) x w v = k0_pay3 (F := Ideal) x w := by
  unfold out0_3
  rw [View.canon_unit_zero vec2_zero, View.ld_unit_zero vec2_zero, View.ld_unit_zero vec2_zero]
theorem out_eq4 (x : FVec Ideal S688x1024 .bf16) (w v : FVec Ideal S1024x1408 .bf16) : out0_4 (F := Ideal) x w v = k0_pay4 (F := Ideal) x v := by
  unfold out0_4
  rw [View.canon_unit_zero vec2_zero, View.ld_unit_zero vec2_zero, View.ld_unit_zero vec2_zero]
theorem out_eq5 (x : FVec Ideal S688x1024 .bf16) (w v : FVec Ideal S1024x1408 .bf16) : out0_5 (F := Ideal) x w v = k0_pay5 (F := Ideal) x w v := by
  unfold out0_5
  rw [View.canon_unit_zero vec2_zero, View.ld_unit_zero vec2_zero, View.ld_unit_zero vec2_zero, View.ld_unit_zero vec2_zero]

/-- The projection by one of the weights. -/
def proj (x : FVec Ideal S8256x1024 .bf16) (w : FVec Ideal S1024x2816 .bf16) (R : Fin 8256) (C : Fin 2816) : EReal :=
  ∑ k : Fin 1024, (x (ix2 R k) * w (ix2 k C) : EReal)

/-- The gated product of two projections. -/
def gated (a b : EReal) : EReal := a * Ideal.div 1 (1 + Ideal.exp (-a)) * b

/-- The result of a projection. -/
def G (x : FVec Ideal S8256x1024 .bf16) (w : FVec Ideal S1024x2816 .bf16) : FVec Ideal S8256x2816 .bf16 := fun y => proj x w (y 0) (y 1)

/-- The gated result. -/
def G5 (x : FVec Ideal S8256x1024 .bf16) (w v : FVec Ideal S1024x2816 .bf16) : FVec Ideal S8256x2816 .bf16 :=
  fun y => gated (proj x w (y 0) (y 1)) (proj x v (y 0) (y 1))

variable (m : (ℓ : Loc nD τ sig) → Buf (Elt Ideal) ℓ) (c : Dev nD)

theorem iblk0 (t : Fin cfg0.N) (R : Fin 688) (C : Fin 1024) (h : t.1 / 2 * 688 + R.1 < 8256) :
    (iblk m c 0 t : FVec Ideal S688x1024 .bf16) (ix2 R C) = (V m c main_arg0 : FVec Ideal S8256x1024 .bf16) (ix2 ⟨t.1 / 2 * 688 + R.1, h⟩ C) := by
  obtain ⟨e0, e1⟩ := idx0 t
  refine congrArg (V m c main_arg0) (funext fun a => Fin.ext ?_)
  match a with
  | ⟨0, _⟩ => show win0_0.index t (0 : Fin 2) * 688 + 1 * R.1 = t.1 / 2 * 688 + R.1; omega
  | ⟨1, _⟩ => show win0_0.index t (1 : Fin 2) * 1024 + 1 * C.1 = C.1; omega

theorem iblk1 (t : Fin cfg0.N) (R : Fin 1024) (C : Fin 1408) (h : t.1 % 2 * 1408 + C.1 < 2816) :
    (iblk m c 1 t : FVec Ideal S1024x1408 .bf16) (ix2 R C) = (V m c main_arg1 : FVec Ideal S1024x2816 .bf16) (ix2 R ⟨t.1 % 2 * 1408 + C.1, h⟩) := by
  obtain ⟨e0, e1⟩ := idx1 t
  refine congrArg (V m c main_arg1) (funext fun a => Fin.ext ?_)
  match a with
  | ⟨0, _⟩ => show win0_1.index t (0 : Fin 2) * 1024 + 1 * R.1 = R.1; omega
  | ⟨1, _⟩ => show win0_1.index t (1 : Fin 2) * 1408 + 1 * C.1 = t.1 % 2 * 1408 + C.1; omega

theorem iblk2 (t : Fin cfg0.N) (R : Fin 1024) (C : Fin 1408) (h : t.1 % 2 * 1408 + C.1 < 2816) :
    (iblk m c 2 t : FVec Ideal S1024x1408 .bf16) (ix2 R C) = (V m c main_arg2 : FVec Ideal S1024x2816 .bf16) (ix2 R ⟨t.1 % 2 * 1408 + C.1, h⟩) := by
  obtain ⟨e0, e1⟩ := idx2 t
  refine congrArg (V m c main_arg2) (funext fun a => Fin.ext ?_)
  match a with
  | ⟨0, _⟩ => show win0_2.index t (0 : Fin 2) * 1024 + 1 * R.1 = R.1; omega
  | ⟨1, _⟩ => show win0_2.index t (1 : Fin 2) * 1408 + 1 * C.1 = t.1 % 2 * 1408 + C.1; omega

theorem emb3 (t : Fin cfg0.N) (R : Fin 688) (C : Fin 1408) (h : t.1 / 2 * 688 + R.1 < 8256) (h' : t.1 % 2 * 1408 + C.1 < 2816) :
    ((cfg0.win 3).blk t).view.emb (ix2 R C) = ix2 ⟨t.1 / 2 * 688 + R.1, h⟩ ⟨t.1 % 2 * 1408 + C.1, h'⟩ := by
  obtain ⟨e0, e1⟩ := idx3 t
  funext a; apply Fin.ext
  match a with
  | ⟨0, _⟩ => show win0_3.index t (0 : Fin 2) * 688 + 1 * R.1 = t.1 / 2 * 688 + R.1; omega
  | ⟨1, _⟩ => show win0_3.index t (1 : Fin 2) * 1408 + 1 * C.1 = t.1 % 2 * 1408 + C.1; omega

theorem emb4 (t : Fin cfg0.N) (R : Fin 688) (C : Fin 1408) (h : t.1 / 2 * 688 + R.1 < 8256) (h' : t.1 % 2 * 1408 + C.1 < 2816) :
    ((cfg0.win 4).blk t).view.emb (ix2 R C) = ix2 ⟨t.1 / 2 * 688 + R.1, h⟩ ⟨t.1 % 2 * 1408 + C.1, h'⟩ := by
  obtain ⟨e0, e1⟩ := idx4 t
  funext a; apply Fin.ext
  match a with
  | ⟨0, _⟩ => show win0_4.index t (0 : Fin 2) * 688 + 1 * R.1 = t.1 / 2 * 688 + R.1; omega
  | ⟨1, _⟩ => show win0_4.index t (1 : Fin 2) * 1408 + 1 * C.1 = t.1 % 2 * 1408 + C.1; omega

theorem emb5 (t : Fin cfg0.N) (R : Fin 688) (C : Fin 1408) (h : t.1 / 2 * 688 + R.1 < 8256) (h' : t.1 % 2 * 1408 + C.1 < 2816) :
    ((cfg0.win 5).blk t).view.emb (ix2 R C) = ix2 ⟨t.1 / 2 * 688 + R.1, h⟩ ⟨t.1 % 2 * 1408 + C.1, h'⟩ := by
  obtain ⟨e0, e1⟩ := idx5 t
  funext a; apply Fin.ext
  match a with
  | ⟨0, _⟩ => show win0_5.index t (0 : Fin 2) * 688 + 1 * R.1 = t.1 / 2 * 688 + R.1; omega
  | ⟨1, _⟩ => show win0_5.index t (1 : Fin 2) * 1408 + 1 * C.1 = t.1 % 2 * 1408 + C.1; omega

/-- Every index lies in the block of the grid point that its row and column give. -/
theorem cover_of {S : Finset (⟨2, ![8256, 2816]⟩ : Shape).Idx} (R : Fin 8256) (C : Fin 2816) (r : Fin 8256) (q : Fin 2816) (hr : r.1 = R.1) (hq : q.1 = C.1)
    (h : (ix2 r q : (⟨2, ![8256, 2816]⟩ : Shape).Idx) ∈ S) : (ix2 R C : (⟨2, ![8256, 2816]⟩ : Shape).Idx) ∈ S := by
  rwa [Fin.ext hr, Fin.ext hq] at h

theorem point_lt (R : Fin 8256) (C : Fin 2816) : R.1 / 688 * 2 + C.1 / 1408 < cfg0.N := lt_of_lt_of_eq (by omega) N_0.symm

theorem blockA (t : Fin cfg0.N) (R : Fin 688) (C : Fin 1408) (h : t.1 / 2 * 688 + R.1 < 8256) (h' : t.1 % 2 * 1408 + C.1 < 2816) :
    (k0_pay1 (F := Ideal) (iblk m c 0 t) (iblk m c 1 t) (ix2 R C) : EReal)
      = proj (V m c main_arg0) (V m c main_arg1) ⟨t.1 / 2 * 688 + R.1, h⟩ ⟨t.1 % 2 * 1408 + C.1, h'⟩ :=
  (pay1 _ _ R C).trans (Finset.sum_congr rfl fun k _ => congrArg₂ (fun a b : EReal => a * b) (iblk0 m c t R k h) (iblk1 m c t k C h'))

theorem blockB (t : Fin cfg0.N) (R : Fin 688) (C : Fin 1408) (h : t.1 / 2 * 688 + R.1 < 8256) (h' : t.1 % 2 * 1408 + C.1 < 2816) :
    (k0_pay1 (F := Ideal) (iblk m c 0 t) (iblk m c 2 t) (ix2 R C) : EReal)
      = proj (V m c main_arg0) (V m c main_arg2) ⟨t.1 / 2 * 688 + R.1, h⟩ ⟨t.1 % 2 * 1408 + C.1, h'⟩ :=
  (pay1 _ _ R C).trans (Finset.sum_congr rfl fun k _ => congrArg₂ (fun a b : EReal => a * b) (iblk0 m c t R k h) (iblk2 m c t k C h'))

theorem final3 : (dats m 0 c).arrAt 3 cfg0.N = G (m ((c : Thread nD τ).loc main_arg0)) (m ((c : Thread nD τ).loc main_arg1)) := by
  refine (dats m 0 c).arrAt_eq_of_cover 3 _ (fun t _ => ?_) fun y => ?_
  · have hN : t.1 < 24 := lt_of_lt_of_eq t.isLt N_0
    rw [flushed3, out_eq3]
    funext y
    obtain ⟨R, C, rfl⟩ : ∃ (R : Fin 688) (C : Fin 1408), y = ix2 R C := ⟨y 0, y 1, eq_ix2 y⟩
    exact (blockA m c t R C (by omega) (by omega)).trans (congrArg (G _ _) (emb3 t R C (by omega) (by omega))).symm
  · obtain ⟨R, C, rfl⟩ : ∃ (R : Fin 8256) (C : Fin 2816), y = ix2 R C := ⟨y 0, y 1, eq_ix2 y⟩
    refine ⟨⟨_, point_lt R C⟩, flush0_3 _, ?_⟩
    have h := ((cfg0.win 3).blk ⟨_, point_lt R C⟩).view.emb_mem_set (ix2 (⟨R.1 % 688, by omega⟩ : Fin 688) (⟨C.1 % 1408, by omega⟩ : Fin 1408))
    rw [emb3 _ _ _ (by dsimp only; omega) (by dsimp only; omega)] at h
    exact cover_of R C _ _ (by dsimp only; omega) (by dsimp only; omega) h

theorem final4 : (dats m 0 c).arrAt 4 cfg0.N = G (m ((c : Thread nD τ).loc main_arg0)) (m ((c : Thread nD τ).loc main_arg2)) := by
  refine (dats m 0 c).arrAt_eq_of_cover 4 _ (fun t _ => ?_) fun y => ?_
  · have hN : t.1 < 24 := lt_of_lt_of_eq t.isLt N_0
    rw [flushed4, out_eq4]
    funext y
    obtain ⟨R, C, rfl⟩ : ∃ (R : Fin 688) (C : Fin 1408), y = ix2 R C := ⟨y 0, y 1, eq_ix2 y⟩
    exact (blockB m c t R C (by omega) (by omega)).trans (congrArg (G _ _) (emb4 t R C (by omega) (by omega))).symm
  · obtain ⟨R, C, rfl⟩ : ∃ (R : Fin 8256) (C : Fin 2816), y = ix2 R C := ⟨y 0, y 1, eq_ix2 y⟩
    refine ⟨⟨_, point_lt R C⟩, flush0_4 _, ?_⟩
    have h := ((cfg0.win 4).blk ⟨_, point_lt R C⟩).view.emb_mem_set (ix2 (⟨R.1 % 688, by omega⟩ : Fin 688) (⟨C.1 % 1408, by omega⟩ : Fin 1408))
    rw [emb4 _ _ _ (by dsimp only; omega) (by dsimp only; omega)] at h
    exact cover_of R C _ _ (by dsimp only; omega) (by dsimp only; omega) h

theorem final5 : (dats m 0 c).arrAt 5 cfg0.N
    = G5 (m ((c : Thread nD τ).loc main_arg0)) (m ((c : Thread nD τ).loc main_arg1)) (m ((c : Thread nD τ).loc main_arg2)) := by
  refine (dats m 0 c).arrAt_eq_of_cover 5 _ (fun t _ => ?_) fun y => ?_
  · have hN : t.1 < 24 := lt_of_lt_of_eq t.isLt N_0
    rw [flushed5, out_eq5]
    funext y
    obtain ⟨R, C, rfl⟩ : ∃ (R : Fin 688) (C : Fin 1408), y = ix2 R C := ⟨y 0, y 1, eq_ix2 y⟩
    refine (pay5 _ _ _ R C).trans (Eq.trans ?_ (congrArg (G5 _ _ _) (emb5 t R C (by omega) (by omega))).symm)
    exact congrArg₂ gated (blockA m c t R C (by omega) (by omega)) (blockB m c t R C (by omega) (by omega))
  · obtain ⟨R, C, rfl⟩ : ∃ (R : Fin 8256) (C : Fin 2816), y = ix2 R C := ⟨y 0, y 1, eq_ix2 y⟩
    refine ⟨⟨_, point_lt R C⟩, flush0_5 _, ?_⟩
    have h := ((cfg0.win 5).blk ⟨_, point_lt R C⟩).view.emb_mem_set (ix2 (⟨R.1 % 688, by omega⟩ : Fin 688) (⟨C.1 % 1408, by omega⟩ : Fin 1408))
    rw [emb5 _ _ _ (by dsimp only; omega) (by dsimp only; omega)] at h
    exact cover_of R C _ _ (by dsimp only; omega) (by dsimp only; omega) h

end Cert.Kernel5Ideal.Value

namespace Cert.Reference5Ideal.Value

open Cert.Reference5Ideal Cert.Reference5Ideal.Gen Idealize.ShloMosaic
open Cert.Kernel5Ideal.Value (proj gated G G5)

/-- The whole product, as the reference forms it. -/
abbrev prod (x : FVec Ideal S8256x1024 .bf16) (w : FVec Ideal S1024x2816 .bf16) : FVec Ideal S8256x2816 .f32 :=
  Host.dotGeneral dot_S8256x1024_S1024x2816_S8256x2816_1_0_0_1_n_n none (extf .f32 x bitsLt_bf16_f32) (extf .f32 w bitsLt_bf16_f32)

theorem prod_apply (x : FVec Ideal S8256x1024 .bf16) (w : FVec Ideal S1024x2816 .bf16) (R : Fin 8256) (C : Fin 2816) :
    (prod x w (ix2 R C) : EReal) = proj x w R C := by
  unfold proj
  pointwise

theorem ref_eq (x : FVec Ideal S8256x1024 .bf16) (w : FVec Ideal S1024x2816 .bf16) :
    (truncf (F := Ideal) .bf16 (prod x w) bitsLt_bf16_f32 : FVec Ideal S8256x2816 .bf16) = G x w := by
  funext y
  obtain ⟨R, C, rfl⟩ : ∃ (R : Fin 8256) (C : Fin 2816), y = ix2 R C := ⟨y 0, y 1, eq_ix2 y⟩
  exact prod_apply x w R C

theorem gated_apply (A B : FVec Ideal S8256x2816 .f32) (R : Fin 8256) (C : Fin 2816) :
    (truncf (F := Ideal) (φ := .f32) .bf16 (mulf (mulf A (Host.divf (broadcastInDim S8256x2816 ![] bcast_S_S8256x2816 (constant S_ .f32 0x3F800000#32))
      (addf (broadcastInDim S8256x2816 ![] bcast_S_S8256x2816 (constant S_ .f32 0x3F800000#32)) (Host.exp (Host.negf A))))) B) bitsLt_bf16_f32 (ix2 R C) : EReal)
      = gated (A (ix2 R C)) (B (ix2 R C)) := by
  unfold gated
  pointwise

theorem ref_eq5 (x : FVec Ideal S8256x1024 .bf16) (w v : FVec Ideal S1024x2816 .bf16) :
    (truncf (F := Ideal) (φ := .f32) .bf16 (mulf (mulf (prod x w) (Host.divf (broadcastInDim S8256x2816 ![] bcast_S_S8256x2816 (constant S_ .f32 0x3F800000#32))
      (addf (broadcastInDim S8256x2816 ![] bcast_S_S8256x2816 (constant S_ .f32 0x3F800000#32)) (Host.exp (Host.negf (prod x w)))))) (prod x v)) bitsLt_bf16_f32
        : FVec Ideal S8256x2816 .bf16) = G5 x w v := by
  funext y
  obtain ⟨R, C, rfl⟩ : ∃ (R : Fin 8256) (C : Fin 2816), y = ix2 R C := ⟨y 0, y 1, eq_ix2 y⟩
  exact (gated_apply _ _ R C).trans (congrArg₂ gated (prod_apply x w R C) (prod_apply x v R C))

end Cert.Reference5Ideal.Value

namespace Cert.Proof

open Idealize.ShloMosaic Idealize.ShloMosaic.TcCoe Idealize.SL.Sem

theorem gu_frame : quiescent_Kernel5 := fun m ρ _ => Cert.Kernel5.Gen.frame m ρ
theorem gu_frameI : quiescent_Kernel5Ideal := fun m ρ _ => Cert.Kernel5Ideal.Gen.frame m ρ
theorem gu_frameR : quiescent_Reference5Ideal := fun m ρ _ =>
  (θ_run Cert.Reference5Ideal.defs _ _).mono (fun r h => ⟨fun c => (h c).2.2.2, sem_eq_zero_of_no_sems (by decide) _⟩) (Cert.Reference5Ideal.Value.run m ρ)

theorem gu_value : algebraic_Kernel5Ideal_Reference5Ideal := fun m ρ m' ρ' _ hag => by
  refine ⟨fun c => Cert.Kernel5Ideal.Value.G (m ((c : Thread Cert.Kernel5Ideal.nD Cert.Kernel5Ideal.τ).loc Cert.Kernel5Ideal.main_arg0))
      (m ((c : Thread Cert.Kernel5Ideal.nD Cert.Kernel5Ideal.τ).loc Cert.Kernel5Ideal.main_arg1)),
    fun c => Cert.Kernel5Ideal.Value.G (m ((c : Thread Cert.Kernel5Ideal.nD Cert.Kernel5Ideal.τ).loc Cert.Kernel5Ideal.main_arg0))
      (m ((c : Thread Cert.Kernel5Ideal.nD Cert.Kernel5Ideal.τ).loc Cert.Kernel5Ideal.main_arg2)),
    fun c => Cert.Kernel5Ideal.Value.G5 (m ((c : Thread Cert.Kernel5Ideal.nD Cert.Kernel5Ideal.τ).loc Cert.Kernel5Ideal.main_arg0))
      (m ((c : Thread Cert.Kernel5Ideal.nD Cert.Kernel5Ideal.τ).loc Cert.Kernel5Ideal.main_arg1))
      (m ((c : Thread Cert.Kernel5Ideal.nD Cert.Kernel5Ideal.τ).loc Cert.Kernel5Ideal.main_arg2)), ?_, ?_⟩
  · exact (θ_run Cert.Kernel5Ideal.defs _ _).mono (fun r h c => ⟨(h c).1.trans (Cert.Kernel5Ideal.Value.final3 m c),
        (h c).2.1.trans (Cert.Kernel5Ideal.Value.final4 m c), (h c).2.2.1.trans (Cert.Kernel5Ideal.Value.final5 m c), (h c).2.2.2⟩)
      (Cert.Kernel5Ideal.Value.run_blocks m ρ)
  · refine (θ_run Cert.Reference5Ideal.defs _ _).mono (fun r h c => ⟨(h c).1.trans ?_, (h c).2.1.trans ?_, (h c).2.2.1.trans ?_, (h c).2.2.2⟩)
      (Cert.Reference5Ideal.Value.run m' ρ')
    · rw [(hag c).1, (hag c).2.1]
      exact Cert.Reference5Ideal.Value.ref_eq _ _
    · rw [(hag c).1, (hag c).2.2]
      exact Cert.Reference5Ideal.Value.ref_eq _ _
    · rw [(hag c).1, (hag c).2.1, (hag c).2.2]
      exact Cert.Reference5Ideal.Value.ref_eq5 _ _ _

end Cert.Proof
end
-- ==== Proof.Down.lean ====
module

public import proofs.«01_k».proof.Defs
public import proofs.«01_k».proof.Proof.Common
public import proofs.«01_k».proof.Proof.Gen.Kernel6.Frame
public import proofs.«01_k».proof.Proof.Gen.Kernel6Ideal.Value
public import proofs.«01_k».proof.Proof.Gen.Reference6Ideal.Run
public import Idealize.ShloMosaic.Lib.Quiescent

/-! The FFN's down projection with its residual: a block of rows of the product, whole in the contraction, plus the same rows of the residual. -/

@[expose] public section

set_option maxRecDepth 16384

noncomputable section

namespace Cert.Kernel6Ideal.Value

open Cert.Kernel6Ideal Cert.Kernel6Ideal.Gen Idealize.ShloMosaic Idealize.ShloMosaic.TcCoe Idealize.SL.Sem

theorem idx0 : ∀ t : Fin cfg0.N, win0_0.index t (0 : Fin 2) = t.1 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = t.1 ∧ win0_2.index t (1 : Fin 2) = 0 := (by decide +kernel : ∀ t : Fin grid0.N, _)
theorem idx3 : ∀ t : Fin cfg0.N, win0_3.index t (0 : Fin 2) = t.1 ∧ win0_3.index t (1 : Fin 2) = 0 := (by decide +kernel : ∀ t : Fin grid0.N, _)

theorem pay (x : FVec Ideal S688x2816 .bf16) (w : FVec Ideal S2816x1024 .bf16) (u : FVec Ideal S688x1024 .f32) (R : Fin 688) (C : Fin 1024) :
    (k0_pay1 (F := Ideal) x w u (ix2 R C) : EReal) = (∑ k : Fin 2816, (x (ix2 R k) * w (ix2 k C) : EReal)) + (u (ix2 R C) : EReal) := by
  unfold k0_pay1
  pointwise

theorem out_eq (x : FVec Ideal S688x2816 .bf16) (w : FVec Ideal S2816x1024 .bf16) (u : FVec Ideal S688x1024 .f32) :
    out0_3 (F := Ideal) x w u = k0_pay1 (F := Ideal) x w u := by
  unfold out0_3
  rw [View.canon_unit_zero vec2_zero, View.ld_unit_zero vec2_zero, View.ld_unit_zero vec2_zero, View.ld_unit_zero vec2_zero]

/-- The result: the product of the first two arrays, plus the third. -/
def G (x : FVec Ideal S8256x2816 .bf16) (w : FVec Ideal S2816x1024 .bf16) (u : FVec Ideal S8256x1024 .f32) : FVec Ideal S8256x1024 .f32 :=
  fun y => (∑ k : Fin 2816, (x (ix2 (y 0) k) * w (ix2 k (y 1)) : EReal)) + (u (ix2 (y 0) (y 1)) : EReal)

variable (m : (ℓ : Loc nD τ sig) → Buf (Elt Ideal) ℓ) (c : Dev nD)

theorem iblk0 (t : Fin cfg0.N) (R : Fin 688) (C : Fin 2816) (h : t.1 * 688 + R.1 < 8256) :
    (iblk m c 0 t : FVec Ideal S688x2816 .bf16) (ix2 R C) = (V m c main_arg0 : FVec Ideal S8256x2816 .bf16) (ix2 ⟨t.1 * 688 + R.1, h⟩ C) := by
  obtain ⟨e0, e1⟩ := idx0 t
  refine congrArg (V m c main_arg0) (funext fun a => Fin.ext ?_)
  match a with
  | ⟨0, _⟩ => show win0_0.index t (0 : Fin 2) * 688 + 1 * R.1 = t.1 * 688 + R.1; omega
  | ⟨1, _⟩ => show win0_0.index t (1 : Fin 2) * 2816 + 1 * C.1 = C.1; omega

theorem iblk1 (t : Fin cfg0.N) (R : Fin 2816) (C : Fin 1024) :
    (iblk m c 1 t : FVec Ideal S2816x1024 .bf16) (ix2 R C) = (V m c main_arg1 : FVec Ideal S2816x1024 .bf16) (ix2 R C) := by
  obtain ⟨e0, e1⟩ := idx1 t
  refine congrArg (V m c main_arg1) (funext fun a => Fin.ext ?_)
  match a with
  | ⟨0, _⟩ => show win0_1.index t (0 : Fin 2) * 2816 + 1 * R.1 = R.1; omega
  | ⟨1, _⟩ => show win0_1.index t (1 : Fin 2) * 1024 + 1 * C.1 = C.1; omega

theorem iblk2 (t : Fin cfg0.N) (R : Fin 688) (C : Fin 1024) (h : t.1 * 688 + R.1 < 8256) :
    (iblk m c 2 t : FVec Ideal S688x1024 .f32) (ix2 R C) = (V m c main_arg2 : FVec Ideal S8256x1024 .f32) (ix2 ⟨t.1 * 688 + R.1, h⟩ C) := by
  obtain ⟨e0, e1⟩ := idx2 t
  refine congrArg (V m c main_arg2) (funext fun a => Fin.ext ?_)
  match a with
  | ⟨0, _⟩ => show win0_2.index t (0 : Fin 2) * 688 + 1 * R.1 = t.1 * 688 + R.1; omega
  | ⟨1, _⟩ => show win0_2.index t (1 : Fin 2) * 1024 + 1 * C.1 = C.1; omega

theorem emb3 (t : Fin cfg0.N) (R : Fin 688) (C : Fin 1024) (h : t.1 * 688 + R.1 < 8256) :
    ((cfg0.win 3).blk t).view.emb (ix2 R C) = ix2 ⟨t.1 * 688 + R.1, h⟩ C := by
  obtain ⟨e0, e1⟩ := idx3 t
  funext a; apply Fin.ext
  match a with
  | ⟨0, _⟩ => show win0_3.index t (0 : Fin 2) * 688 + 1 * R.1 = t.1 * 688 + R.1; omega
  | ⟨1, _⟩ => show win0_3.index t (1 : Fin 2) * 1024 + 1 * C.1 = C.1; omega

theorem final : (dats m 0 c).arrAt 3 cfg0.N
    = G (m ((c : Thread nD τ).loc main_arg0)) (m ((c : Thread nD τ).loc main_arg1)) (m ((c : Thread nD τ).loc main_arg2)) := by
  refine (dats m 0 c).arrAt_eq_of_cover 3 _ (fun t _ => ?_) fun y => ?_
  · have hN : t.1 < 12 := lt_of_lt_of_eq t.isLt N_0
    rw [flushed3, out_eq]
    funext y
    obtain ⟨R, C, rfl⟩ : ∃ (R : Fin 688) (C : Fin 1024), y = ix2 R C := ⟨y 0, y 1, eq_ix2 y⟩
    refine (pay _ _ _ R C).trans (Eq.trans ?_ (congrArg (G _ _ _) (emb3 t R C (by omega))).symm)
    exact congrArg₂ (fun a b : EReal => a + b)
      (Finset.sum_congr rfl fun k _ => congrArg₂ (fun a b : EReal => a * b) (iblk0 m c t R k (by omega)) (iblk1 m c t k C)) (iblk2 m c t R C (by omega))
  · obtain ⟨R, C, rfl⟩ : ∃ (R : Fin 8256) (C : Fin 1024), y = ix2 R C := ⟨y 0, y 1, eq_ix2 y⟩
    have ht : R.1 / 688 < cfg0.N := lt_of_lt_of_eq (by omega) N_0.symm
    refine ⟨⟨_, ht⟩, flush0_3 _, ?_⟩
    have h := ((cfg0.win 3).blk ⟨_, ht⟩).view.emb_mem_set (ix2 (⟨R.1 % 688, by omega⟩ : Fin 688) C)
    rw [emb3 _ _ _ (by dsimp only; omega)] at h
    refine (congrArg (· ∈ ((cfg0.win 3).blk ⟨_, ht⟩).view.set) (congrArg (fun r => ix2 r C) (Fin.ext ?_))).mp h
    dsimp only; omega

end Cert.Kernel6Ideal.Value

namespace Cert.Reference6Ideal.Value

open Cert.Reference6Ideal Cert.Reference6Ideal.Gen Idealize.ShloMosaic

theorem ref_eq (x : FVec Ideal S8256x2816 .bf16) (w : FVec Ideal S2816x1024 .bf16) (u : FVec Ideal S8256x1024 .f32) :
    (addf u (Host.dotGeneral dot_S8256x2816_S2816x1024_S8256x1024_1_0_0_1_n_n none (extf .f32 x bitsLt_bf16_f32) (extf .f32 w bitsLt_bf16_f32))
      : FVec Ideal S8256x1024 .f32) = Cert.Kernel6Ideal.Value.G x w u := by
  funext y
  obtain ⟨R, C, rfl⟩ : ∃ (R : Fin 8256) (C : Fin 1024), y = ix2 R C := ⟨y 0, y 1, eq_ix2 y⟩
  refine Eq.trans ?_ (add_comm (u (ix2 R C) : EReal) (∑ k : Fin 2816, (x (ix2 R k) * w (ix2 k C) : EReal)))
  pointwise

end Cert.Reference6Ideal.Value

namespace Cert.Proof

open Idealize.ShloMosaic Idealize.ShloMosaic.TcCoe Idealize.SL.Sem

theorem down_frame : quiescent_Kernel6 := fun m ρ _ => Cert.Kernel6.Gen.frame m ρ
theorem down_frameI : quiescent_Kernel6Ideal := fun m ρ _ => Cert.Kernel6Ideal.Gen.frame m ρ
theorem down_frameR : quiescent_Reference6Ideal := fun m ρ _ =>
  (θ_run Cert.Reference6Ideal.defs _ _).mono (fun r h => ⟨fun c => (h c).2, sem_eq_zero_of_no_sems (by decide) _⟩) (Cert.Reference6Ideal.Value.run m ρ)

theorem down_value : algebraic_Kernel6Ideal_Reference6Ideal := fun m ρ m' ρ' _ hag => by
  refine ⟨fun c => Cert.Kernel6Ideal.Value.G (m ((c : Thread Cert.Kernel6Ideal.nD Cert.Kernel6Ideal.τ).loc Cert.Kernel6Ideal.main_arg0))
    (m ((c : Thread Cert.Kernel6Ideal.nD Cert.Kernel6Ideal.τ).loc Cert.Kernel6Ideal.main_arg1))
    (m ((c : Thread Cert.Kernel6Ideal.nD Cert.Kernel6Ideal.τ).loc Cert.Kernel6Ideal.main_arg2)), ?_, ?_⟩
  · exact (θ_run Cert.Kernel6Ideal.defs _ _).mono (fun r h c => ⟨(h c).1.trans (Cert.Kernel6Ideal.Value.final m c), (h c).2⟩)
      (Cert.Kernel6Ideal.Value.run_blocks m ρ)
  · refine (θ_run Cert.Reference6Ideal.defs _ _).mono (fun r h c => ⟨(h c).1.trans ?_, (h c).2⟩) (Cert.Reference6Ideal.Value.run m' ρ')
    rw [(hag c).1, (hag c).2.1, (hag c).2.2]
    exact Cert.Reference6Ideal.Value.ref_eq _ _ _

end Cert.Proof
end
-- ==== Proof.Dwd.lean ====
module

public import proofs.«01_k».proof.Defs
public import proofs.«01_k».proof.Proof.Common
public import proofs.«01_k».proof.Proof.Gen.Kernel7.Frame
public import proofs.«01_k».proof.Proof.Gen.Kernel7Ideal.Value
public import proofs.«01_k».proof.Proof.Gen.Reference7Ideal.Run
public import Idealize.ShloMosaic.Lib.Quiescent

/-! The gradient of the FFN's down weight: blocks of rows are contracted one after another into an accumulator that starts with the first block's product
and is cut to the result after the last; the reference forms the transposed product of the whole arrays. -/

@[expose] public section

set_option maxRecDepth 16384

noncomputable section

namespace Cert.Kernel7Ideal.Value

open Cert.Kernel7Ideal Cert.Kernel7Ideal.Gen Idealize.ShloMosaic Idealize.ShloMosaic.TcCoe Idealize.SL.Sem

theorem pay2_congr {a a' : FVec Ideal S1408x1024 .f32} {b b' : FVec Ideal S1376x1408 .bf16} {d d' : FVec Ideal S1376x1024 .bf16} (h : a = a') (h' : b = b') (h'' : d = d') :
      k0_pay2 (F := Ideal) a b d = k0_pay2 (F := Ideal) a' b' d' := by rw [h, h', h'']

section stores

variable (c : Dev nD) (i : grid0.Coords) (arg3 : Memref sig .tc .vmem S1376x1408 .bf16) (harg3 : arg3.IsWhole) (arg4 : Memref sig .tc .vmem S1376x1024 .bf16) (harg4 : arg4.IsWhole) (arg5 : Memref sig .tc .vmem S1408x1024 .bf16) (harg5 : arg5.IsWhole) (arg6 : Memref sig .tc .vmem S1408x1024 .f32) (harg6 : arg6.IsWhole)
  (x0 : FVec Ideal S1376x1408 .bf16) (x1 : FVec Ideal S1376x1024 .bf16) (xs0 : FVec Ideal S1408x1024 .f32)

theorem outA (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 (F := Ideal) x0 x1 := by
  unfold sout0_A_0
  rw [View.read_writes_junk_eq_canon]
  unfold kernelRun0_A
  dsimp only
  refine (View.canon_unit_zero (S := S1408x1024) vec2_zero _ _).trans ?_
  exact congrArg₂ (k0_pay1 (F := Ideal)) (read_whole arg3 harg3 x0 vec2_zero _) (read_whole arg4 harg4 x1 vec2_zero _)

theorem outB (hc0 : ¬cond0_0 i) (hc1 : cond0_1 i) (hc2 : ¬cond0_2 i) :
    sout0_B_0 (F := Ideal) c i arg3 harg3 arg4 harg4 arg5 harg5 arg6 harg6 hc0 hc1 hc2 x0 x1 xs0 = k0_pay2 (F := Ideal) xs0 x0 x1 := by
  unfold sout0_B_0
  rw [View.read_writes_junk_eq_canon]
  unfold kernelRun0_B
  dsimp only
  refine (View.canon_unit_zero (S := S1408x1024) vec2_zero _ _).trans ?_
  exact pay2_congr (read_whole arg6 harg6 xs0 vec2_zero _) (read_whole arg3 harg3 x0 vec2_zero _) (read_whole arg4 harg4 x1 vec2_zero _)

theorem outC (hc0 : ¬cond0_0 i) (hc1 : cond0_1 i) (hc2 : cond0_2 i) :
    out0_C_2 (F := Ideal) c i arg3 harg3 arg4 harg4 arg5 harg5 arg6 harg6 hc0 hc1 hc2 x0 x1 xs0 = k0_pay3 (F := Ideal) (k0_pay2 (F := Ideal) xs0 x0 x1) := by
  unfold out0_C_2
  rw [View.read_writes_junk_eq_canon]
  unfold kernelRun0_C
  dsimp only
  refine (View.canon_unit_zero (S := S1408x1024) vec2_zero _ _).trans ?_
  unfold kernelRun0_C.sl.v9 kernelRun0_C.sl.HS0_1
  refine congrArg (k0_pay3 (F := Ideal)) ((View.readCov_full _ _ _ _ _).trans ?_)
  exact pay2_congr (read_whole arg6 harg6 xs0 vec2_zero _) (read_whole arg3 harg3 x0 vec2_zero _) (read_whole arg4 harg4 x1 vec2_zero _)

end stores

/-- A term of a block's product at one index. -/
def prod (x : FVec Ideal S1376x1408 .bf16) (w : FVec Ideal S1376x1024 .bf16) (R : Fin 1408) (C : Fin 1024) (k : Fin 1376) : EReal :=
  (x (ix2 k R) * w (ix2 k C) : EReal)

theorem pay1 (x : FVec Ideal S1376x1408 .bf16) (w : FVec Ideal S1376x1024 .bf16) (R : Fin 1408) (C : Fin 1024) :
    (k0_pay1 (F := Ideal) x w (ix2 R C) : EReal) = ∑ k : Fin 1376, prod x w R C k := by
  unfold prod k0_pay1
  pointwise

theorem pay2 (a : FVec Ideal S1408x1024 .f32) (x : FVec Ideal S1376x1408 .bf16) (w : FVec Ideal S1376x1024 .bf16) (R : Fin 1408) (C : Fin 1024) :
    (k0_pay2 (F := Ideal) a x w (ix2 R C) : EReal) = (a (ix2 R C) : EReal) + ∑ k : Fin 1376, prod x w R C k := by
  unfold prod k0_pay2
  pointwise

theorem pay3 (a : FVec Ideal S1408x1024 .f32) : (k0_pay3 (F := Ideal) a : S1408x1024.Idx → EReal) = a := rfl

theorem idx0 : ∀ t : Fin cfg0.N, win0_0.index t (0 : Fin 2) = t.1 % 6 ∧ win0_0.index t (1 : Fin 2) = t.1 / 6 := (by decide +kernel : ∀ t : Fin grid0.N, _)
theorem idx1 : ∀ t : Fin cfg0.N, win0_1.index t (0 : Fin 2) = t.1 % 6 ∧ win0_1.index t (1 : Fin 2) = 0 := (by decide +kernel : ∀ t : Fin grid0.N, _)
theorem idx2 : ∀ t : Fin cfg0.N, win0_2.index t (0 : Fin 2) = t.1 / 6 ∧ win0_2.index t (1 : Fin 2) = 0 := (by decide +kernel : ∀ t : Fin grid0.N, _)

/-- The terms of the result at one index. -/
def term (x : FVec Ideal S8256x2816 .bf16) (w : FVec Ideal S8256x1024 .bf16) (R : Fin 2816) (C : Fin 1024) : Fin 8256 → EReal :=
  fun k => (x (ix2 k R) * w (ix2 k C) : EReal)

/-- The result: the product of the first array, transposed, with the second. -/
def G (x : FVec Ideal S8256x2816 .bf16) (w : FVec Ideal S8256x1024 .bf16) : FVec Ideal S2816x1024 .bf16 :=
  fun y => ∑ k : Fin 8256, term x w (y 0) (y 1) k

variable (m : (ℓ : Loc nD τ sig) → Buf (Elt Ideal) ℓ) (c : Dev nD)

theorem iblk0 (t : Fin cfg0.N) (R : Fin 1376) (C : Fin 1408) (h : t.1 % 6 * 1376 + R.1 < 8256) (h' : t.1 / 6 * 1408 + C.1 < 2816) :
    (iblk m c 0 t : FVec Ideal S1376x1408 .bf16) (ix2 R C)
      = (V m c main_arg0 : FVec Ideal S8256x2816 .bf16) (ix2 ⟨t.1 % 6 * 1376 + R.1, h⟩ ⟨t.1 / 6 * 1408 + C.1, h'⟩) := by
  obtain ⟨e0, e1⟩ := idx0 t
  refine congrArg (V m c main_arg0) (funext fun a => Fin.ext ?_)
  match a with
  | ⟨0, _⟩ => show win0_0.index t (0 : Fin 2) * 1376 + 1 * R.1 = t.1 % 6 * 1376 + R.1; omega
  | ⟨1, _⟩ => show win0_0.index t (1 : Fin 2) * 1408 + 1 * C.1 = t.1 / 6 * 1408 + C.1; omega

theorem iblk1 (t : Fin cfg0.N) (R : Fin 1376) (C : Fin 1024) (h : t.1 % 6 * 1376 + R.1 < 8256) :
    (iblk m c 1 t : FVec Ideal S1376x1024 .bf16) (ix2 R C) = (V m c main_arg1 : FVec Ideal S8256x1024 .bf16) (ix2 ⟨t.1 % 6 * 1376 + R.1, h⟩ C) := by
  obtain ⟨e0, e1⟩ := idx1 t
  refine congrArg (V m c main_arg1) (funext fun a => Fin.ext ?_)
  match a with
  | ⟨0, _⟩ => show win0_1.index t (0 : Fin 2) * 1376 + 1 * R.1 = t.1 % 6 * 1376 + R.1; omega
  | ⟨1, _⟩ => show win0_1.index t (1 : Fin 2) * 1024 + 1 * C.1 = C.1; omega

theorem emb2 (t : Fin cfg0.N) (R : Fin 1408) (C : Fin 1024) (h : t.1 / 6 * 1408 + R.1 < 2816) :
    ((cfg0.win 2).blk t).view.emb (ix2 R C) = ix2 ⟨t.1 / 6 * 1408 + R.1, h⟩ C := by
  obtain ⟨e0, e1⟩ := idx2 t
  funext a; apply Fin.ext
  match a with
  | ⟨0, _⟩ => show win0_2.index t (0 : Fin 2) * 1408 + 1 * R.1 = t.1 / 6 * 1408 + R.1; omega
  | ⟨1, _⟩ => show win0_2.index t (1 : Fin 2) * 1024 + 1 * C.1 = C.1; omega

/-- The sum of the terms up to a point's block: that up to the block before, and the point's product. -/
theorem block (t : Fin cfg0.N) (R : Fin 1408) (C : Fin 1024) (h : t.1 / 6 * 1408 + R.1 < 2816) :
    ∑ j ∈ Finset.range ((t.1 % 6 + 1) * 1376), ext (term (V m c main_arg0) (V m c main_arg1) ⟨t.1 / 6 * 1408 + R.1, h⟩ C) j
      = ∑ j ∈ Finset.range (t.1 % 6 * 1376), ext (term (V m c main_arg0) (V m c main_arg1) ⟨t.1 / 6 * 1408 + R.1, h⟩ C) j
        + ∑ k : Fin 1376, prod (iblk m c 0 t) (iblk m c 1 t) R C k := by
  refine sum_blocks_succ _ _ _ _ fun k => ?_
  have hk : t.1 % 6 * 1376 + k.1 < 8256 := by omega
  rw [ext_of_lt _ _ hk]
  exact congrArg₂ (fun a b : EReal => a * b) (iblk0 m c t k R hk h) (iblk1 m c t k C hk)

/-- What the accumulator holds after a point: the sum of the terms of the blocks so far. -/
theorem acc (n : Nat) (hn : n < cfg0.N) (R : Fin 1408) (C : Fin 1024) (h : n / 6 * 1408 + R.1 < 2816) (h5 : n % 6 ≠ 5) :
    ((outsAt0 m c n hn).2 (ix2 R C) : EReal)
      = ∑ j ∈ Finset.range ((n % 6 + 1) * 1376), ext (term (V m c main_arg0) (V m c main_arg1) ⟨n / 6 * 1408 + R.1, h⟩ C) j := by
  induction n with
  | zero =>
    rw [block m c ⟨0, hn⟩ R C h, outsAt0_A m c ⟨0, hn⟩ rfl (by dsimp only; omega) (by dsimp only; omega)]
    dsimp only
    rw [outA, pay1]
    exact (zero_add _).symm
  | succ n ih =>
    rw [block m c ⟨n + 1, hn⟩ R C h]
    by_cases h0 : (n + 1) % 6 = 0
    · rw [outsAt0_A m c ⟨n + 1, hn⟩ h0 (by dsimp only; omega) h5]
      dsimp only
      rw [outA, pay1, h0, Nat.zero_mul, Finset.range_zero, Finset.sum_empty, zero_add]
    · have e : n % 6 + 1 = (n + 1) % 6 := by omega
      have e' : n / 6 = (n + 1) / 6 := by omega
      have ih := ih (Nat.lt_of_succ_lt hn) (by omega) (by omega)
      simp only [e, e'] at ih
      rw [outsAt0_B m c ⟨n + 1, hn⟩ h0 (by dsimp only; omega) h5]
      dsimp only
      rw [outB, pay2]
      exact congrArg (fun a : EReal => a + _) ih

/-- What the last point of a block of columns leaves for the result. -/
theorem last (t : Fin cfg0.N) (h5 : t.1 % 6 = 5) (R : Fin 1408) (C : Fin 1024) (h : t.1 / 6 * 1408 + R.1 < 2816) :
    ((outsAt0 m c t.1 t.isLt).1 (ix2 R C) : EReal) = G (V m c main_arg0) (V m c main_arg1) (ix2 ⟨t.1 / 6 * 1408 + R.1, h⟩ C) := by
  have key := block m c t R C h
  have a := acc m c (t.1 - 1) (Nat.lt_of_le_of_lt (Nat.sub_le _ _) t.isLt) R C (by omega) (by omega)
  have e : (t.1 - 1) % 6 + 1 = t.1 % 6 := by omega
  have e' : (t.1 - 1) / 6 = t.1 / 6 := by omega
  simp only [e, e'] at a
  rw [← a, h5] at key
  refine Eq.trans ?_ (key.symm.trans (sum_ext _))
  rw [outsAt0_C m c t (by omega) (by omega) h5]
  dsimp only
  rw [outC, pay3, pay2]

theorem final : (dats m 0 c).arrAt 2 cfg0.N = G (m ((c : Thread nD τ).loc main_arg0)) (m ((c : Thread nD τ).loc main_arg1)) := by
  refine (dats m 0 c).arrAt_eq_of_cover 2 _ (fun t ht => ?_) fun y => ?_
  · have hN : t.1 < 12 := lt_of_lt_of_eq t.isLt N_0
    have h5 := (flush0_2 t).mp ht
    rw [flushed2]
    funext y
    obtain ⟨R, C, rfl⟩ : ∃ (R : Fin 1408) (C : Fin 1024), y = ix2 R C := ⟨y 0, y 1, eq_ix2 y⟩
    exact (last m c t h5 R C (by omega)).trans (congrArg (G _ _) (emb2 t R C (by omega))).symm
  · obtain ⟨R, C, rfl⟩ : ∃ (R : Fin 2816) (C : Fin 1024), y = ix2 R C := ⟨y 0, y 1, eq_ix2 y⟩
    have ht : R.1 / 1408 * 6 + 5 < cfg0.N := lt_of_lt_of_eq (by omega) N_0.symm
    refine ⟨⟨_, ht⟩, (flush0_2 _).mpr (by dsimp only; omega), ?_⟩
    have h := ((cfg0.win 2).blk ⟨_, ht⟩).view.emb_mem_set (ix2 (⟨R.1 % 1408, by omega⟩ : Fin 1408) C)
    rw [emb2 _ _ _ (by dsimp only; omega)] at h
    refine (congrArg (· ∈ ((cfg0.win 2).blk ⟨_, ht⟩).view.set) (congrArg (ix2 · C) (Fin.ext ?_))).mp h
    dsimp only; omega

end Cert.Kernel7Ideal.Value

namespace Cert.Reference7Ideal.Value

open Cert.Reference7Ideal Cert.Reference7Ideal.Gen Idealize.ShloMosaic

theorem ref_eq (x : FVec Ideal S8256x2816 .bf16) (w : FVec Ideal S8256x1024 .bf16) :
    (truncf (F := Ideal) (φ := .f32) .bf16 (transpose S2816x1024 [1, 0] (Host.dotGeneral dot_S8256x1024_S8256x2816_S1024x2816_0_0_1_1_n_n none (extf .f32 w bitsLt_bf16_f32)
      (extf .f32 x bitsLt_bf16_f32) : FVec Ideal S1024x2816 .f32) transposes_S1024x2816_S2816x1024_1_0) bitsLt_bf16_f32 : FVec Ideal S2816x1024 .bf16)
      = Cert.Kernel7Ideal.Value.G x w := by
  funext y
  obtain ⟨R, C, rfl⟩ : ∃ (R : Fin 2816) (C : Fin 1024), y = ix2 R C := ⟨y 0, y 1, eq_ix2 y⟩
  refine Eq.trans ?_ (Finset.sum_congr rfl fun k _ => mul_comm (w (ix2 k C) : EReal) (x (ix2 k R) : EReal))
  pointwise

end Cert.Reference7Ideal.Value

namespace Cert.Proof

open Idealize.ShloMosaic Idealize.ShloMosaic.TcCoe Idealize.SL.Sem

theorem dwd_frame : quiescent_Kernel7 := fun m ρ _ => Cert.Kernel7.Gen.frame m ρ
theorem dwd_frameI : quiescent_Kernel7Ideal := fun m ρ _ => Cert.Kernel7Ideal.Gen.frame m ρ
theorem dwd_frameR : quiescent_Reference7Ideal := fun m ρ _ =>
  (θ_run Cert.Reference7Ideal.defs _ _).mono (fun r h => ⟨fun c => (h c).2, sem_eq_zero_of_no_sems (by decide) _⟩) (Cert.Reference7Ideal.Value.run m ρ)

theorem dwd_value : algebraic_Kernel7Ideal_Reference7Ideal := fun m ρ m' ρ' _ hag => by
  refine ⟨fun c => Cert.Kernel7Ideal.Value.G (m ((c : Thread Cert.Kernel7Ideal.nD Cert.Kernel7Ideal.τ).loc Cert.Kernel7Ideal.main_arg0))
    (m ((c : Thread Cert.Kernel7Ideal.nD Cert.Kernel7Ideal.τ).loc Cert.Kernel7Ideal.main_arg1)), ?_, ?_⟩
  · exact (θ_run Cert.Kernel7Ideal.defs _ _).mono (fun r h c => ⟨(h c).1.trans (Cert.Kernel7Ideal.Value.final m c), (h c).2⟩)
      (Cert.Kernel7Ideal.Value.run_blocks m ρ)
  · refine (θ_run Cert.Reference7Ideal.defs _ _).mono (fun r h c => ⟨(h c).1.trans ?_, (h c).2⟩) (Cert.Reference7Ideal.Value.run m' ρ')
    rw [(hag c).1, (hag c).2]
    exact Cert.Reference7Ideal.Value.ref_eq _ _

end Cert.Proof
end
-- ==== Proof.Dwg.lean ====
module

public import proofs.«01_k».proof.Defs
public import proofs.«01_k».proof.Proof.Common
public import proofs.«01_k».proof.Proof.Gen.Kernel8.Frame
public import proofs.«01_k».proof.Proof.Gen.Kernel8Ideal.Value
public import proofs.«01_k».proof.Proof.Gen.Reference8Ideal.Run
public import Idealize.ShloMosaic.Lib.Quiescent

/-! The gradients of the FFN's gate and up weights: a block of columns is contracted over all rows at once, so that its product is the sum over them;
the reference forms the transposed product of the whole arrays. -/

@[expose] public section

set_option maxRecDepth 16384

noncomputable section

namespace Cert.Kernel8Ideal.Value

open Cert.Kernel8Ideal Cert.Kernel8Ideal.Gen Idealize.ShloMosaic Idealize.ShloMosaic.TcCoe Idealize.SL.Sem

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = t.1 := (by decide +kernel : ∀ t : Fin grid0.N, _)
theorem idx2 : ∀ t : Fin cfg0.N, win0_2.index t (0 : Fin 2) = 0 ∧ win0_2.index t (1 : Fin 2) = t.1 := (by decide +kernel : ∀ t : Fin grid0.N, _)

theorem pay (x : FVec Ideal S8256x1024 .bf16) (w : FVec Ideal S8256x256 .bf16) (R : Fin 1024) (C : Fin 256) :
    (k0_pay1 (F := Ideal) x w (ix2 R C) : EReal) = ∑ k : Fin 8256, (x (ix2 k R) * w (ix2 k C) : EReal) := by
  unfold k0_pay1
  pointwise

theorem out_eq (x : FVec Ideal S8256x1024 .bf16) (w : FVec Ideal S8256x256 .bf16) : out0_2 (F := Ideal) x w = k0_pay1 (F := Ideal) x w := by
  unfold out0_2
  rw [View.canon_unit_zero vec2_zero, View.ld_unit_zero vec2_zero, View.ld_unit_zero vec2_zero]

/-- The result: the product of the first array, transposed, with the second. -/
def G (x : FVec Ideal S8256x1024 .bf16) (w : FVec Ideal S8256x2816 .bf16) : FVec Ideal S1024x2816 .bf16 :=
  fun y => ∑ k : Fin 8256, (x (ix2 k (y 0)) * w (ix2 k (y 1)) : EReal)

variable (m : (ℓ : Loc nD τ sig) → Buf (Elt Ideal) ℓ) (c : Dev nD)

theorem iblk0 (t : Fin cfg0.N) (R : Fin 8256) (C : Fin 1024) :
    (iblk m c 0 t : FVec Ideal S8256x1024 .bf16) (ix2 R C) = (V m c main_arg0 : FVec Ideal S8256x1024 .bf16) (ix2 R C) := by
  obtain ⟨e0, e1⟩ := idx0 t
  refine congrArg (V m c main_arg0) (funext fun a => Fin.ext ?_)
  match a with
  | ⟨0, _⟩ => show win0_0.index t (0 : Fin 2) * 8256 + 1 * R.1 = R.1; omega
  | ⟨1, _⟩ => show win0_0.index t (1 : Fin 2) * 1024 + 1 * C.1 = C.1; omega

theorem iblk1 (t : Fin cfg0.N) (R : Fin 8256) (C : Fin 256) (h : t.1 * 256 + C.1 < 2816) :
    (iblk m c 1 t : FVec Ideal S8256x256 .bf16) (ix2 R C) = (V m c main_arg1 : FVec Ideal S8256x2816 .bf16) (ix2 R ⟨t.1 * 256 + C.1, h⟩) := by
  obtain ⟨e0, e1⟩ := idx1 t
  refine congrArg (V m c main_arg1) (funext fun a => Fin.ext ?_)
  match a with
  | ⟨0, _⟩ => show win0_1.index t (0 : Fin 2) * 8256 + 1 * R.1 = R.1; omega
  | ⟨1, _⟩ => show win0_1.index t (1 : Fin 2) * 256 + 1 * C.1 = t.1 * 256 + C.1; omega

theorem emb2 (t : Fin cfg0.N) (R : Fin 1024) (C : Fin 256) (h : t.1 * 256 + C.1 < 2816) :
    ((cfg0.win 2).blk t).view.emb (ix2 R C) = ix2 R ⟨t.1 * 256 + C.1, h⟩ := by
  obtain ⟨e0, e1⟩ := idx2 t
  funext a; apply Fin.ext
  match a with
  | ⟨0, _⟩ => show win0_2.index t (0 : Fin 2) * 1024 + 1 * R.1 = R.1; omega
  | ⟨1, _⟩ => show win0_2.index t (1 : Fin 2) * 256 + 1 * C.1 = t.1 * 256 + C.1; omega

theorem final : (dats m 0 c).arrAt 2 cfg0.N = G (m ((c : Thread nD τ).loc main_arg0)) (m ((c : Thread nD τ).loc main_arg1)) := by
  refine (dats m 0 c).arrAt_eq_of_cover 2 _ (fun t _ => ?_) fun y => ?_
  · have hN : t.1 < 11 := lt_of_lt_of_eq t.isLt N_0
    rw [flushed2, out_eq]
    funext y
    obtain ⟨R, C, rfl⟩ : ∃ (R : Fin 1024) (C : Fin 256), y = ix2 R C := ⟨y 0, y 1, eq_ix2 y⟩
    refine (pay _ _ R C).trans (Eq.trans ?_ (congrArg (G _ _) (emb2 t R C (by omega))).symm)
    exact Finset.sum_congr rfl fun k _ => congrArg₂ (fun a b : EReal => a * b) (iblk0 m c t k R) (iblk1 m c t k C (by omega))
  · obtain ⟨R, C, rfl⟩ : ∃ (R : Fin 1024) (C : Fin 2816), y = ix2 R C := ⟨y 0, y 1, eq_ix2 y⟩
    have ht : C.1 / 256 < cfg0.N := lt_of_lt_of_eq (by omega) N_0.symm
    refine ⟨⟨_, ht⟩, flush0_2 _, ?_⟩
    have h := ((cfg0.win 2).blk ⟨_, ht⟩).view.emb_mem_set (ix2 R (⟨C.1 % 256, by omega⟩ : Fin 256))
    rw [emb2 _ _ _ (by dsimp only; omega)] at h
    refine (congrArg (· ∈ ((cfg0.win 2).blk ⟨_, ht⟩).view.set) (congrArg (ix2 R) (Fin.ext ?_))).mp h
    dsimp only; omega

end Cert.Kernel8Ideal.Value

namespace Cert.Reference8Ideal.Value

open Cert.Reference8Ideal Cert.Reference8Ideal.Gen Idealize.ShloMosaic

theorem ref_eq (x : FVec Ideal S8256x1024 .bf16) (w : FVec Ideal S8256x2816 .bf16) :
    (truncf (F := Ideal) (φ := .f32) .bf16 (transpose S1024x2816 [1, 0] (Host.dotGeneral dot_S8256x2816_S8256x1024_S2816x1024_0_0_1_1_n_n none (extf .f32 w bitsLt_bf16_f32)
      (extf .f32 x bitsLt_bf16_f32) : FVec Ideal S2816x1024 .f32) transposes_S2816x1024_S1024x2816_1_0) bitsLt_bf16_f32 : FVec Ideal S1024x2816 .bf16)
      = Cert.Kernel8Ideal.Value.G x w := by
  funext y
  obtain ⟨R, C, rfl⟩ : ∃ (R : Fin 1024) (C : Fin 2816), y = ix2 R C := ⟨y 0, y 1, eq_ix2 y⟩
  refine Eq.trans ?_ (Finset.sum_congr rfl fun k _ => mul_comm (w (ix2 k C) : EReal) (x (ix2 k R) : EReal))
  pointwise

end Cert.Reference8Ideal.Value

namespace Cert.Proof

open Idealize.ShloMosaic Idealize.ShloMosaic.TcCoe Idealize.SL.Sem

theorem dwg_frame : quiescent_Kernel8 := fun m ρ _ => Cert.Kernel8.Gen.frame m ρ
theorem dwg_frameI : quiescent_Kernel8Ideal := fun m ρ _ => Cert.Kernel8Ideal.Gen.frame m ρ
theorem dwg_frameR : quiescent_Reference8Ideal := fun m ρ _ =>
  (θ_run Cert.Reference8Ideal.defs _ _).mono (fun r h => ⟨fun c => (h c).2, sem_eq_zero_of_no_sems (by decide) _⟩) (Cert.Reference8Ideal.Value.run m ρ)

theorem dwg_value : algebraic_Kernel8Ideal_Reference8Ideal := fun m ρ m' ρ' _ hag => by
  refine ⟨fun c => Cert.Kernel8Ideal.Value.G (m ((c : Thread Cert.Kernel8Ideal.nD Cert.Kernel8Ideal.τ).loc Cert.Kernel8Ideal.main_arg0))
    (m ((c : Thread Cert.Kernel8Ideal.nD Cert.Kernel8Ideal.τ).loc Cert.Kernel8Ideal.main_arg1)), ?_, ?_⟩
  · exact (θ_run Cert.Kernel8Ideal.defs _ _).mono (fun r h c => ⟨(h c).1.trans (Cert.Kernel8Ideal.Value.final m c), (h c).2⟩)
      (Cert.Kernel8Ideal.Value.run_blocks m ρ)
  · refine (θ_run Cert.Reference8Ideal.defs _ _).mono (fun r h c => ⟨(h c).1.trans ?_, (h c).2⟩) (Cert.Reference8Ideal.Value.run m' ρ')
    rw [(hag c).1, (hag c).2]
    exact Cert.Reference8Ideal.Value.ref_eq _ _

end Cert.Proof
end
-- ==== Proof.Proj.lean ====
module

public import proofs.«01_k».proof.Defs
public import proofs.«01_k».proof.Proof.Common
public import proofs.«01_k».proof.Proof.Gen.Kernel9.Frame
public import proofs.«01_k».proof.Proof.Gen.Kernel9Ideal.Value
public import proofs.«01_k».proof.Proof.Gen.Reference9Ideal.Run
public import Idealize.ShloMosaic.Lib.Quiescent

/-! The projection of the gated layer: a block of the product, whole in the contraction, is the sum over it; the blocks make the product of the whole
arrays, which the reference forms at once. -/

@[expose] public section

set_option maxRecDepth 16384

noncomputable section

namespace Cert.Kernel9Ideal.Value

open Cert.Kernel9Ideal Cert.Kernel9Ideal.Gen Idealize.ShloMosaic Idealize.ShloMosaic.TcCoe Idealize.SL.Sem

theorem idx0 : ∀ t : Fin cfg0.N, win0_0.index t (0 : Fin 2) = t.1 / 12 ∧ win0_0.index t (1 : Fin 2) = 0 := (by decide +kernel : ∀ t : Fin grid0.N, _)
theorem idx1 : ∀ t : Fin cfg0.N, win0_1.index t (0 : Fin 2) = 0 ∧ win0_1.index t (1 : Fin 2) = t.1 % 12 := (by decide +kernel : ∀ t : Fin grid0.N, _)
theorem idx2 : ∀ t : Fin cfg0.N, win0_2.index t (0 : Fin 2) = t.1 / 12 ∧ win0_2.index t (1 : Fin 2) = t.1 % 12 := (by decide +kernel : ∀ t : Fin grid0.N, _)

theorem pay (x : FVec Ideal S2752x1024 .bf16) (w : FVec Ideal S1024x512 .bf16) (R : Fin 2752) (C : Fin 512) :
    (k0_pay1 (F := Ideal) x w (ix2 R C) : EReal) = ∑ k : Fin 1024, (x (ix2 R k) * w (ix2 k C) : EReal) := by
  unfold k0_pay1
  pointwise

theorem out_eq (x : FVec Ideal S2752x1024 .bf16) (w : FVec Ideal S1024x512 .bf16) : out0_2 (F := Ideal) x w = k0_pay1 (F := Ideal) x w := by
  unfold out0_2
  rw [View.canon_unit_zero vec2_zero, View.ld_unit_zero vec2_zero, View.ld_unit_zero vec2_zero]

/-- The result: the product of the two arrays. -/
def G (x : FVec Ideal S8256x1024 .bf16) (w : FVec Ideal S1024x6144 .bf16) : FVec Ideal S8256x6144 .f32 :=
  fun y => ∑ k : Fin 1024, (x (ix2 (y 0) k) * w (ix2 k (y 1)) : EReal)

variable (m : (ℓ : Loc nD τ sig) → Buf (Elt Ideal) ℓ) (c : Dev nD)

theorem iblk0 (t : Fin cfg0.N) (R : Fin 2752) (C : Fin 1024) (h : t.1 / 12 * 2752 + R.1 < 8256) :
    (iblk m c 0 t : FVec Ideal S2752x1024 .bf16) (ix2 R C) = (V m c main_arg0 : FVec Ideal S8256x1024 .bf16) (ix2 ⟨t.1 / 12 * 2752 + R.1, h⟩ C) := by
  obtain ⟨e0, e1⟩ := idx0 t
  refine congrArg (V m c main_arg0) (funext fun a => Fin.ext ?_)
  match a with
  | ⟨0, _⟩ => show win0_0.index t (0 : Fin 2) * 2752 + 1 * R.1 = t.1 / 12 * 2752 + R.1; omega
  | ⟨1, _⟩ => show win0_0.index t (1 : Fin 2) * 1024 + 1 * C.1 = C.1; omega

theorem iblk1 (t : Fin cfg0.N) (R : Fin 1024) (C : Fin 512) (h : t.1 % 12 * 512 + C.1 < 6144) :
    (iblk m c 1 t : FVec Ideal S1024x512 .bf16) (ix2 R C) = (V m c main_arg1 : FVec Ideal S1024x6144 .bf16) (ix2 R ⟨t.1 % 12 * 512 + C.1, h⟩) := by
  obtain ⟨e0, e1⟩ := idx1 t
  refine congrArg (V m c main_arg1) (funext fun a => Fin.ext ?_)
  match a with
  | ⟨0, _⟩ => show win0_1.index t (0 : Fin 2) * 1024 + 1 * R.1 = R.1; omega
  | ⟨1, _⟩ => show win0_1.index t (1 : Fin 2) * 512 + 1 * C.1 = t.1 % 12 * 512 + C.1; omega

theorem emb2 (t : Fin cfg0.N) (R : Fin 2752) (C : Fin 512) (h : t.1 / 12 * 2752 + R.1 < 8256) (h' : t.1 % 12 * 512 + C.1 < 6144) :
    ((cfg0.win 2).blk t).view.emb (ix2 R C) = ix2 ⟨t.1 / 12 * 2752 + R.1, h⟩ ⟨t.1 % 12 * 512 + C.1, h'⟩ := by
  obtain ⟨e0, e1⟩ := idx2 t
  funext a; apply Fin.ext
  match a with
  | ⟨0, _⟩ => show win0_2.index t (0 : Fin 2) * 2752 + 1 * R.1 = t.1 / 12 * 2752 + R.1; omega
  | ⟨1, _⟩ => show win0_2.index t (1 : Fin 2) * 512 + 1 * C.1 = t.1 % 12 * 512 + C.1; omega

theorem final : (dats m 0 c).arrAt 2 cfg0.N = G (m ((c : Thread nD τ).loc main_arg0)) (m ((c : Thread nD τ).loc main_arg1)) := by
  refine (dats m 0 c).arrAt_eq_of_cover 2 _ (fun t _ => ?_) fun y => ?_
  · have hN : t.1 < 36 := lt_of_lt_of_eq t.isLt N_0
    rw [flushed2, out_eq]
    funext y
    obtain ⟨R, C, rfl⟩ : ∃ (R : Fin 2752) (C : Fin 512), y = ix2 R C := ⟨y 0, y 1, eq_ix2 y⟩
    refine (pay _ _ R C).trans (Eq.trans ?_ (congrArg (G _ _) (emb2 t R C (by omega) (by omega))).symm)
    exact Finset.sum_congr rfl fun k _ => congrArg₂ (fun a b : EReal => a * b) (iblk0 m c t R k (by omega)) (iblk1 m c t k C (by omega))
  · obtain ⟨R, C, rfl⟩ : ∃ (R : Fin 8256) (C : Fin 6144), y = ix2 R C := ⟨y 0, y 1, eq_ix2 y⟩
    have ht : R.1 / 2752 * 12 + C.1 / 512 < cfg0.N := lt_of_lt_of_eq (by omega) N_0.symm
    refine ⟨⟨_, ht⟩, flush0_2 _, ?_⟩
    have h := ((cfg0.win 2).blk ⟨_, ht⟩).view.emb_mem_set (ix2 (⟨R.1 % 2752, by omega⟩ : Fin 2752) (⟨C.1 % 512, by omega⟩ : Fin 512))
    rw [emb2 _ _ _ (by dsimp only; omega) (by dsimp only; omega)] at h
    refine (congrArg (· ∈ ((cfg0.win 2).blk ⟨_, ht⟩).view.set) (congrArg₂ ix2 (Fin.ext ?_) (Fin.ext ?_))).mp h
    · dsimp only; omega
    · dsimp only; omega

end Cert.Kernel9Ideal.Value

namespace Cert.Reference9Ideal.Value

open Cert.Reference9Ideal Cert.Reference9Ideal.Gen Idealize.ShloMosaic

theorem ref_eq (x : FVec Ideal S8256x1024 .bf16) (w : FVec Ideal S1024x6144 .bf16) :
    (Host.dotGeneral dot_S8256x1024_S1024x6144_S8256x6144_1_0_0_1_n_n none (extf .f32 x bitsLt_bf16_f32) (extf .f32 w bitsLt_bf16_f32) : FVec Ideal S8256x6144 .f32)
      = Cert.Kernel9Ideal.Value.G x w := by
  funext y
  obtain ⟨R, C, rfl⟩ : ∃ (R : Fin 8256) (C : Fin 6144), y = ix2 R C := ⟨y 0, y 1, eq_ix2 y⟩
  show _ = ∑ k : Fin 1024, (x (ix2 R k) * w (ix2 k C) : EReal)
  pointwise

end Cert.Reference9Ideal.Value

namespace Cert.Proof

open Idealize.ShloMosaic Idealize.ShloMosaic.TcCoe Idealize.SL.Sem

theorem proj_frame : quiescent_Kernel9 := fun m ρ _ => Cert.Kernel9.Gen.frame m ρ
theorem proj_frameI : quiescent_Kernel9Ideal := fun m ρ _ => Cert.Kernel9Ideal.Gen.frame m ρ
theorem proj_frameR : quiescent_Reference9Ideal := fun m ρ _ =>
  (θ_run Cert.Reference9Ideal.defs _ _).mono (fun r h => ⟨fun c => (h c).2, sem_eq_zero_of_no_sems (by decide) _⟩) (Cert.Reference9Ideal.Value.run m ρ)

theorem proj_value : algebraic_Kernel9Ideal_Reference9Ideal := fun m ρ m' ρ' _ hag => by
  refine ⟨fun c => Cert.Kernel9Ideal.Value.G (m ((c : Thread Cert.Kernel9Ideal.nD Cert.Kernel9Ideal.τ).loc Cert.Kernel9Ideal.main_arg0))
    (m ((c : Thread Cert.Kernel9Ideal.nD Cert.Kernel9Ideal.τ).loc Cert.Kernel9Ideal.main_arg1)), ?_, ?_⟩
  · exact (θ_run Cert.Kernel9Ideal.defs _ _).mono (fun r h c => ⟨(h c).1.trans (Cert.Kernel9Ideal.Value.final m c), (h c).2⟩)
      (Cert.Kernel9Ideal.Value.run_blocks m ρ)
  · refine (θ_run Cert.Reference9Ideal.defs _ _).mono (fun r h c => ⟨(h c).1.trans ?_, (h c).2⟩) (Cert.Reference9Ideal.Value.run m' ρ')
    rw [(hag c).1, (hag c).2]
    exact Cert.Reference9Ideal.Value.ref_eq _ _

end Cert.Proof
end
-- ==== Proof.Dhnp.lean ====
module

public import proofs.«01_k».proof.Defs
public import proofs.«01_k».proof.Proof.NormBwd
public import proofs.«01_k».proof.Proof.Gen.Kernel10.Frame
public import proofs.«01_k».proof.Proof.Gen.Kernel10Ideal.Frame
public import proofs.«01_k».proof.Proof.Gen.Reference10Ideal.Run
public import Idealize.ShloMosaic.Lib.Quiescent

/-! The gradient of the delta rule's input projection and of the norm before it: a block of rows is contracted with the weights, block by block of the long
dimension, into an accumulator; at the last block the sum goes back through the norm, and the norm's weights' gradient adds up over the blocks of rows. -/

@[expose] public section

set_option maxRecDepth 16384

noncomputable section

namespace Cert.Kernel10Ideal.Value

open Cert.Kernel10Ideal Cert.Kernel10Ideal.Gen Idealize.ShloMosaic Idealize.ShloMosaic.TcCoe Idealize.SL.Sem

theorem pay1_congr {x x' : FVec Ideal S688x1536 .bf16} {w w' : FVec Ideal S1024x1536 .bf16} {d d' : FVec Ideal S688x1024 .f32} (h : x = x') (h' : w = w')
    (h'' : d = d') : k0_pay1 (F := Ideal) x w d = k0_pay1 (F := Ideal) x' w' d' := by rw [h, h', h'']

theorem pay2_congr {a a' : FVec Ideal S688x1024 .f32} {x x' : FVec Ideal S688x1536 .bf16} {w w' : FVec Ideal S1024x1536 .bf16} (h : a = a') (h' : x = x')
    (h'' : w = w') : k0_pay2 (F := Ideal) a x w = k0_pay2 (F := Ideal) a' x' w' := by rw [h, h', h'']

theorem pay8_congr {a a' : FVec Ideal S688x1024 .f32} {x x' : FVec Ideal S688x1536 .bf16} {w w' : FVec Ideal S1024x1536 .bf16} {h h' : FVec Ideal S688x1024 .f32}
    {v v' : FVec Ideal S1x1024 .f32} {d d' : FVec Ideal S688x1024 .f32} (e1 : a = a') (e2 : x = x') (e3 : w = w') (e4 : h = h') (e5 : v = v') (e6 : d = d') :
    k0_pay8 (F := Ideal) a x w h v d = k0_pay8 (F := Ideal) a' x' w' h' v' d' := by rw [e1, e2, e3, e4, e5, e6]

theorem pay10_congr {a a' : FVec Ideal S688x1024 .f32} {x x' : FVec Ideal S688x1536 .bf16} {w w' : FVec Ideal S1024x1536 .bf16} {h h' : FVec Ideal S688x1024 .f32}
    (e1 : a = a') (e2 : x = x') (e3 : w = w') (e4 : h = h') :
    k0_pay10 (F := Ideal) a x w h = k0_pay10 (F := Ideal) a' x' w' h' := by rw [e1, e2, e3, e4]

section stores

variable (c : Dev nD) (i : grid0.Coords) (arg2 : Memref sig .tc .vmem S688x1536 .bf16) (harg2 : arg2.IsWhole) (arg3 : Memref sig .tc .vmem S1024x1536 .bf16)
  (harg3 : arg3.IsWhole) (arg4 : Memref sig .tc .vmem S688x1024 .f32) (harg4 : arg4.IsWhole) (arg5 : Memref sig .tc .vmem S688x1024 .f32) (harg5 : arg5.IsWhole)
  (arg6 : Memref sig .tc .vmem S1x1024 .f32) (harg6 : arg6.IsWhole) (arg7 : Memref sig .tc .vmem S688x1024 .f32) (harg7 : arg7.IsWhole)
  (arg8 : Memref sig .tc .vmem S688x1024 .f32) (harg8 : arg8.IsWhole) (arg9 : Memref sig .tc .vmem S688x1024 .bf16) (harg9 : arg9.IsWhole)
  (arg10 : Memref sig .tc .vmem S1x1024 .f32) (harg10 : arg10.IsWhole) (arg11 : Memref sig .tc .vmem S688x1024 .f32) (harg11 : arg11.IsWhole)
  (x0 : FVec Ideal S688x1536 .bf16) (x1 : FVec Ideal S1024x1536 .bf16) (x2 x3 : FVec Ideal S688x1024 .f32) (x4 : FVec Ideal S1x1024 .f32)
  (x5 : FVec Ideal S688x1024 .f32) (xo8 : FVec Ideal S1x1024 .f32) (xs0 : FVec Ideal S688x1024 .f32)

theorem outA (hc0 : cond0_0 i) (hc1 : ¬cond0_1 i) (hc2 : ¬cond0_2 i) :
    sout0_A_0 (F := Ideal) c i arg2 harg2 arg3 harg3 arg4 harg4 arg5 harg5 arg6 harg6 arg7 harg7 arg8 harg8 arg9 harg9 arg10 harg10 arg11 harg11 hc0 hc1 hc2
      x0 x1 x2 x3 x4 x5 = k0_pay1 (F := Ideal) x0 x1 x2 := by
  unfold sout0_A_0
  rw [View.read_writes_junk_eq_canon]
  unfold kernelRun0_A
  dsimp only
  refine (View.canon_unit_zero (S := S688x1024) vec2_zero _ _).trans ?_
  exact pay1_congr (read_whole arg2 harg2 x0 vec2_zero _) (read_whole arg3 harg3 x1 vec2_zero _) (read_whole arg4 harg4 x2 vec2_zero _)

theorem outB (hc0 : ¬cond0_0 i) (hc1 : cond0_1 i) (hc2 : ¬cond0_2 i) :
    sout0_B_0 (F := Ideal) c i arg2 harg2 arg3 harg3 arg4 harg4 arg5 harg5 arg6 harg6 arg7 harg7 arg8 harg8 arg9 harg9 arg10 harg10 arg11 harg11 hc0 hc1 hc2
      x0 x1 x2 x3 x4 x5 xs0 = k0_pay2 (F := Ideal) xs0 x0 x1 := by
  unfold sout0_B_0
  rw [View.read_writes_junk_eq_canon]
  unfold kernelRun0_B
  dsimp only
  refine (View.canon_unit_zero (S := S688x1024) vec2_zero _ _).trans ?_
  exact pay2_congr (read_whole arg11 harg11 xs0 vec2_zero _) (read_whole arg2 harg2 x0 vec2_zero _) (read_whole arg3 harg3 x1 vec2_zero _)

theorem outC6 (hc0 : ¬cond0_0 i) (hc1 : ¬cond0_1 i) (hc2 : cond0_2 i) (hc3 : cond0_3 i) (hc4 : ¬cond0_4 i) :
    out0_C_6 (F := Ideal) c i arg2 harg2 arg3 harg3 arg4 harg4 arg5 harg5 arg6 harg6 arg7 harg7 arg8 harg8 arg9 harg9 arg10 harg10 arg11 harg11 hc0 hc1 hc2 hc3
      hc4 x0 x1 x2 x3 x4 x5 xs0 = k0_pay8 (F := Ideal) xs0 x0 x1 x3 x4 x5 := by
  unfold out0_C_6
  rw [View.read_writes_junk_eq_canon]
  unfold kernelRun0_C
  dsimp only
  refine (View.canon_unit_zero (S := S688x1024) vec2_zero _ _).trans ?_
  exact pay8_congr (read_whole arg11 harg11 xs0 vec2_zero _) (read_whole arg2 harg2 x0 vec2_zero _) (read_whole arg3 harg3 x1 vec2_zero _)
    (read_whole arg5 harg5 x3 vec2_zero _) (read_whole arg6 harg6 x4 vec2_zero _) (read_whole arg7 harg7 x5 vec2_zero _)

theorem outC7 (hc0 : ¬cond0_0 i) (hc1 : ¬cond0_1 i) (hc2 : cond0_2 i) (hc3 : cond0_3 i) (hc4 : ¬cond0_4 i) :
    (out0_C_7 (F := Ideal) c i arg2 harg2 arg3 harg3 arg4 harg4 arg5 harg5 arg6 harg6 arg7 harg7 arg8 harg8 arg9 harg9 arg10 harg10 arg11 harg11 hc0 hc1 hc2 hc3
      hc4 x0 x1 x2 x3 x4 x5 xs0 : S688x1024.Idx → EReal) = k0_pay8 (F := Ideal) xs0 x0 x1 x3 x4 x5 := by
  unfold out0_C_7
  rw [View.read_writes_junk_eq_canon]
  unfold kernelRun0_C
  dsimp only
  refine (View.canon_unit_zero (S := S688x1024) vec2_zero _ _).trans ?_
  exact pay8_congr (read_whole arg11 harg11 xs0 vec2_zero _) (read_whole arg2 harg2 x0 vec2_zero _) (read_whole arg3 harg3 x1 vec2_zero _)
    (read_whole arg5 harg5 x3 vec2_zero _) (read_whole arg6 harg6 x4 vec2_zero _) (read_whole arg7 harg7 x5 vec2_zero _)

theorem outC8 (hc0 : ¬cond0_0 i) (hc1 : ¬cond0_1 i) (hc2 : cond0_2 i) (hc3 : cond0_3 i) (hc4 : ¬cond0_4 i) :
    out0_C_8 (F := Ideal) c i arg2 harg2 arg3 harg3 arg4 harg4 arg5 harg5 arg6 harg6 arg7 harg7 arg8 harg8 arg9 harg9 arg10 harg10 arg11 harg11 hc0 hc1 hc2 hc3
      hc4 x0 x1 x2 x3 x4 x5 xs0 = k0_pay3 (F := Ideal) (k0_pay10 (F := Ideal) xs0 x0 x1 x3) := by
  unfold out0_C_8
  rw [View.read_writes_junk_eq_canon]
  unfold kernelRun0_C
  dsimp only
  refine (View.canon_unit_zero (S := S1x1024) vec2_zero _ _).trans ?_
  exact congrArg (k0_pay3 (F := Ideal)) (pay10_congr (read_whole arg11 harg11 xs0 vec2_zero _) (read_whole arg2 harg2 x0 vec2_zero _)
    (read_whole arg3 harg3 x1 vec2_zero _) (read_whole arg5 harg5 x3 vec2_zero _))

theorem outD6 (hc0 : ¬cond0_0 i) (hc1 : ¬cond0_1 i) (hc2 : cond0_2 i) (hc3 : ¬cond0_3 i) (hc4 : cond0_4 i) :
    out0_D_6 (F := Ideal) c i arg2 harg2 arg3 harg3 arg4 harg4 arg5 harg5 arg6 harg6 arg7 harg7 arg8 harg8 arg9 harg9 arg10 harg10 arg11 harg11 hc0 hc1 hc2 hc3
      hc4 x0 x1 x2 x3 x4 x5 xo8 xs0 = k0_pay8 (F := Ideal) xs0 x0 x1 x3 x4 x5 := by
  unfold out0_D_6
  rw [View.read_writes_junk_eq_canon]
  unfold kernelRun0_D
  dsimp only
  refine (View.canon_unit_zero (S := S688x1024) vec2_zero _ _).trans ?_
  exact pay8_congr (read_whole arg11 harg11 xs0 vec2_zero _) (read_whole arg2 harg2 x0 vec2_zero _) (read_whole arg3 harg3 x1 vec2_zero _)
    (read_whole arg5 harg5 x3 vec2_zero _) (read_whole arg6 harg6 x4 vec2_zero _) (read_whole arg7 harg7 x5 vec2_zero _)

theorem outD7 (hc0 : ¬cond0_0 i) (hc1 : ¬cond0_1 i) (hc2 : cond0_2 i) (hc3 : ¬cond0_3 i) (hc4 : cond0_4 i) :
    (out0_D_7 (F := Ideal) c i arg2 harg2 arg3 harg3 arg4 harg4 arg5 harg5 arg6 harg6 arg7 harg7 arg8 harg8 arg9 harg9 arg10 harg10 arg11 harg11 hc0 hc1 hc2 hc3
      hc4 x0 x1 x2 x3 x4 x5 xo8 xs0 : S688x1024.Idx → EReal) = k0_pay8 (F := Ideal) xs0 x0 x1 x3 x4 x5 := by
  unfold out0_D_7
  rw [View.read_writes_junk_eq_canon]
  unfold kernelRun0_D
  dsimp only
  refine (View.canon_unit_zero (S := S688x1024) vec2_zero _ _).trans ?_
  exact pay8_congr (read_whole arg11 harg11 xs0 vec2_zero _) (read_whole arg2 harg2 x0 vec2_zero _) (read_whole arg3 harg3 x1 vec2_zero _)
    (read_whole arg5 harg5 x3 vec2_zero _) (read_whole arg6 harg6 x4 vec2_zero _) (read_whole arg7 harg7 x5 vec2_zero _)

theorem outD8 (hc0 : ¬cond0_0 i) (hc1 : ¬cond0_1 i) (hc2 : cond0_2 i) (hc3 : ¬cond0_3 i) (hc4 : cond0_4 i) :
    out0_D_8 (F := Ideal) c i arg2 harg2 arg3 harg3 arg4 harg4 arg5 harg5 arg6 harg6 arg7 harg7 arg8 harg8 arg9 harg9 arg10 harg10 arg11 harg11 hc0 hc1 hc2 hc3
      hc4 x0 x1 x2 x3 x4 x5 xo8 xs0 = k0_pay4 (F := Ideal) (k0_pay10 (F := Ideal) xs0 x0 x1 x3) xo8 := by
  unfold out0_D_8
  rw [View.read_writes_junk_eq_canon]
  unfold kernelRun0_D
  dsimp only
  refine (View.canon_unit_zero (S := S1x1024) vec2_zero _ _).trans ?_
  exact congrArg₂ (k0_pay4 (F := Ideal)) (pay10_congr (read_whole arg11 harg11 xs0 vec2_zero _) (read_whole arg2 harg2 x0 vec2_zero _)
    (read_whole arg3 harg3 x1 vec2_zero _) (read_whole arg5 harg5 x3 vec2_zero _)) (read_whole arg10 harg10 xo8 vec2_zero _)

end stores

/-- A term of a block's product at one index. -/
def prod (x : FVec Ideal S688x1536 .bf16) (w : FVec Ideal S1024x1536 .bf16) (R : Fin 688) (C : Fin 1024) (k : Fin 1536) : EReal :=
  (x (ix2 R k) * w (ix2 C k) : EReal)

theorem pay1 (x : FVec Ideal S688x1536 .bf16) (w : FVec Ideal S1024x1536 .bf16) (d : FVec Ideal S688x1024 .f32) (R : Fin 688) (C : Fin 1024) :
    (k0_pay1 (F := Ideal) x w d (ix2 R C) : EReal) = (∑ k : Fin 1536, prod x w R C k) + (d (ix2 R C) : EReal) := by
  unfold prod k0_pay1
  pointwise

theorem pay2 (a : FVec Ideal S688x1024 .f32) (x : FVec Ideal S688x1536 .bf16) (w : FVec Ideal S1024x1536 .bf16) (R : Fin 688) (C : Fin 1024) :
    (k0_pay2 (F := Ideal) a x w (ix2 R C) : EReal) = (a (ix2 R C) : EReal) + ∑ k : Fin 1536, prod x w R C k := by
  unfold prod k0_pay2
  pointwise

theorem pay5 (a : FVec Ideal S688x1024 .f32) (x : FVec Ideal S688x1536 .bf16) (w : FVec Ideal S1024x1536 .bf16) (R : Fin 688) (C : Fin 1024) :
    (k0_pay5 (F := Ideal) a x w (ix2 R C) : EReal) = (a (ix2 R C) : EReal) + ∑ k : Fin 1536, prod x w R C k := by
  unfold prod k0_pay5
  pointwise

theorem pay3 (a : FVec Ideal S688x1024 .f32) (C : Fin 1024) :
    (k0_pay3 (F := Ideal) a (ix2 0 C) : EReal) = ∑ k : Fin 688, (a (ix2 k C) : EReal) := by
  unfold k0_pay3
  pointwise

theorem pay4 (a : FVec Ideal S688x1024 .f32) (d : FVec Ideal S1x1024 .f32) (C : Fin 1024) :
    (k0_pay4 (F := Ideal) a d (ix2 0 C) : EReal) = (d (ix2 0 C) : EReal) + ∑ k : Fin 688, (a (ix2 k C) : EReal) := by
  unfold k0_pay4 k0_pay3
  pointwise

theorem pay10 (a : FVec Ideal S688x1024 .f32) (x : FVec Ideal S688x1536 .bf16) (w : FVec Ideal S1024x1536 .bf16) (h : FVec Ideal S688x1024 .f32) (R : Fin 688)
    (C : Fin 1024) :
    (k0_pay10 (F := Ideal) a x w h (ix2 R C) : EReal)
      = (k0_pay5 (F := Ideal) a x w (ix2 R C) : EReal) * ((h (ix2 R C) : EReal) * Ideal.rsqrt (meanSq 0x44800000#32 fun j => (h (ix2 R j) : EReal))) := by
  unfold meanSq k0_pay10 k0_pay7 k0_pay6
  pointwise

theorem pay8 (a : FVec Ideal S688x1024 .f32) (x : FVec Ideal S688x1536 .bf16) (w : FVec Ideal S1024x1536 .bf16) (h : FVec Ideal S688x1024 .f32)
    (v : FVec Ideal S1x1024 .f32) (d : FVec Ideal S688x1024 .f32) (R : Fin 688) (C : Fin 1024) :
    (k0_pay8 (F := Ideal) a x w h v d (ix2 R C) : EReal)
      = normBwd 0x44800000#32 (fun j => (h (ix2 R j) : EReal)) (fun j => (k0_pay5 (F := Ideal) a x w (ix2 R j) : EReal) * (v (ix2 0 j) : EReal)) (d (ix2 R C) : EReal)
        (h (ix2 R C) : EReal) ((k0_pay5 (F := Ideal) a x w (ix2 R C) : EReal) * (v (ix2 0 C) : EReal)) := by
  unfold normBwd meanSq k0_pay8 k0_pay7 k0_pay6
  pointwise

theorem idx0 : ∀ t : Fin cfg0.N, win0_0.index t (0 : Fin 2) = t.1 / 4 ∧ win0_0.index t (1 : Fin 2) = t.1 % 4 := (by decide +kernel : ∀ t : Fin grid0.N, _)
theorem idx1 : ∀ t : Fin cfg0.N, win0_1.index t (0 : Fin 2) = 0 ∧ win0_1.index t (1 : Fin 2) = t.1 % 4 := (by decide +kernel : ∀ t : Fin grid0.N, _)
theorem idx2 : ∀ t : Fin cfg0.N, win0_2.index t (0 : Fin 2) = t.1 / 4 ∧ win0_2.index t (1 : Fin 2) = 0 := (by decide +kernel : ∀ t : Fin grid0.N, _)
theorem idx3 : ∀ t : Fin cfg0.N, win0_3.index t (0 : Fin 2) = t.1 / 4 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = t.1 / 4 ∧ win0_5.index t (1 : Fin 2) = 0 := (by decide +kernel : ∀ t : Fin grid0.N, _)
theorem idx6 : ∀ t : Fin cfg0.N, win0_6.index t (0 : Fin 2) = t.1 / 4 ∧ win0_6.index t (1 : Fin 2) = 0 := (by decide +kernel : ∀ t : Fin grid0.N, _)
theorem idx7 : ∀ t : Fin cfg0.N, win0_7.index t (0 : Fin 2) = t.1 / 4 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)

/-- The terms of the product at one index. -/
def term (x : FVec Ideal S8256x6144 .bf16) (w : FVec Ideal S1024x6144 .bf16) (R : Fin 8256) (C : Fin 1024) : Fin 6144 → EReal :=
  fun k => (x (ix2 R k) * w (ix2 C k) : EReal)

/-- An entry of an array of rows. -/
def entry (d : FVec Ideal S8256x1024 .f32) (R : Fin 8256) (C : Fin 1024) : EReal := (d (ix2 R C) : EReal)

/-- What reaches the norm at one index: the product with the transposed weights, added to what another call has computed. -/
def grad (x : FVec Ideal S8256x6144 .bf16) (w : FVec Ideal S1024x6144 .bf16) (d : FVec Ideal S8256x1024 .f32) (R : Fin 8256) (C : Fin 1024) : EReal :=
  entry d R C + ∑ k : Fin 6144, term x w R C k

/-- The first result (and the second, which is the same at a narrower type): the gradient of the norm's rows. -/
def G (x : FVec Ideal S8256x6144 .bf16) (w : FVec Ideal S1024x6144 .bf16) (d h : FVec Ideal S8256x1024 .f32) (v : FVec Ideal S1x1024 .f32)
    (r : FVec Ideal S8256x1024 .f32) : FVec Ideal S8256x1024 .f32 :=
  fun y => normBwd 0x44800000#32 (fun j => (h (ix2 (y 0) j) : EReal)) (fun j => grad x w d (y 0) j * (v (ix2 0 j) : EReal)) (r (ix2 (y 0) (y 1)) : EReal)
    (h (ix2 (y 0) (y 1)) : EReal) (grad x w d (y 0) (y 1) * (v (ix2 0 (y 1)) : EReal))

/-- A row's share of the gradient of the norm's weights. -/
def wterm (x : FVec Ideal S8256x6144 .bf16) (w : FVec Ideal S1024x6144 .bf16) (d h : FVec Ideal S8256x1024 .f32) (C : Fin 1024) : Fin 8256 → EReal :=
  fun R => grad x w d R C * ((h (ix2 R C) : EReal) * Ideal.rsqrt (meanSq 0x44800000#32 fun j => (h (ix2 R j) : EReal)))

/-- The third result: the gradient of the norm's weights. -/
def W (x : FVec Ideal S8256x6144 .bf16) (w : FVec Ideal S1024x6144 .bf16) (d h : FVec Ideal S8256x1024 .f32) : FVec Ideal S1x1024 .f32 :=
  fun y => ∑ R : Fin 8256, wterm x w d h (y 1) R

variable (m : (ℓ : Loc nD τ sig) → Buf (Elt Ideal) ℓ) (c : Dev nD)

theorem iblk0 (t : Fin cfg0.N) (R : Fin 688) (C : Fin 1536) (h : t.1 / 4 * 688 + R.1 < 8256) (h' : t.1 % 4 * 1536 + C.1 < 6144) :
    (iblk m c 0 t : FVec Ideal S688x1536 .bf16) (ix2 R C)
      = (V m c main_arg0 : FVec Ideal S8256x6144 .bf16) (ix2 ⟨t.1 / 4 * 688 + R.1, h⟩ ⟨t.1 % 4 * 1536 + C.1, h'⟩) := by
  obtain ⟨e0, e1⟩ := idx0 t
  refine congrArg (V m c main_arg0) (funext fun a => Fin.ext ?_)
  match a with
  | ⟨0, _⟩ => show win0_0.index t (0 : Fin 2) * 688 + 1 * R.1 = t.1 / 4 * 688 + R.1; omega
  | ⟨1, _⟩ => show win0_0.index t (1 : Fin 2) * 1536 + 1 * C.1 = t.1 % 4 * 1536 + C.1; omega

theorem iblk1 (t : Fin cfg0.N) (R : Fin 1024) (C : Fin 1536) (h' : t.1 % 4 * 1536 + C.1 < 6144) :
    (iblk m c 1 t : FVec Ideal S1024x1536 .bf16) (ix2 R C) = (V m c main_arg1 : FVec Ideal S1024x6144 .bf16) (ix2 R ⟨t.1 % 4 * 1536 + C.1, h'⟩) := by
  obtain ⟨e0, e1⟩ := idx1 t
  refine congrArg (V m c main_arg1) (funext fun a => Fin.ext ?_)
  match a with
  | ⟨0, _⟩ => show win0_1.index t (0 : Fin 2) * 1024 + 1 * R.1 = R.1; omega
  | ⟨1, _⟩ => show win0_1.index t (1 : Fin 2) * 1536 + 1 * C.1 = t.1 % 4 * 1536 + C.1; omega

theorem iblk2 (t : Fin cfg0.N) (R : Fin 688) (C : Fin 1024) (h : t.1 / 4 * 688 + R.1 < 8256) :
    (iblk m c 2 t : FVec Ideal S688x1024 .f32) (ix2 R C) = (V m c main_arg2 : FVec Ideal S8256x1024 .f32) (ix2 ⟨t.1 / 4 * 688 + R.1, h⟩ C) := by
  obtain ⟨e0, e1⟩ := idx2 t
  refine congrArg (V m c main_arg2) (funext fun a => Fin.ext ?_)
  match a with
  | ⟨0, _⟩ => show win0_2.index t (0 : Fin 2) * 688 + 1 * R.1 = t.1 / 4 * 688 + R.1; omega
  | ⟨1, _⟩ => show win0_2.index t (1 : Fin 2) * 1024 + 1 * C.1 = C.1; omega

theorem iblk3 (t : Fin cfg0.N) (R : Fin 688) (C : Fin 1024) (h : t.1 / 4 * 688 + R.1 < 8256) :
    (iblk m c 3 t : FVec Ideal S688x1024 .f32) (ix2 R C) = (V m c main_arg3 : FVec Ideal S8256x1024 .f32) (ix2 ⟨t.1 / 4 * 688 + R.1, h⟩ C) := by
  obtain ⟨e0, e1⟩ := idx3 t
  refine congrArg (V m c main_arg3) (funext fun a => Fin.ext ?_)
  match a with
  | ⟨0, _⟩ => show win0_3.index t (0 : Fin 2) * 688 + 1 * R.1 = t.1 / 4 * 688 + R.1; omega
  | ⟨1, _⟩ => show win0_3.index t (1 : Fin 2) * 1024 + 1 * C.1 = C.1; omega

theorem iblk5 (t : Fin cfg0.N) (R : Fin 688) (C : Fin 1024) (h : t.1 / 4 * 688 + R.1 < 8256) :
    (iblk m c 5 t : FVec Ideal S688x1024 .f32) (ix2 R C) = (V m c main_arg5 : FVec Ideal S8256x1024 .f32) (ix2 ⟨t.1 / 4 * 688 + R.1, h⟩ C) := by
  obtain ⟨e0, e1⟩ := idx5 t
  refine congrArg (V m c main_arg5) (funext fun a => Fin.ext ?_)
  match a with
  | ⟨0, _⟩ => show win0_5.index t (0 : Fin 2) * 688 + 1 * R.1 = t.1 / 4 * 688 + R.1; omega
  | ⟨1, _⟩ => show win0_5.index t (1 : Fin 2) * 1024 + 1 * C.1 = C.1; omega

theorem iblk4 (t : Fin cfg0.N) (R : Fin 1) (C : Fin 1024) :
    (iblk m c 4 t : FVec Ideal S1x1024 .f32) (ix2 R C) = (V m c main_arg4 : FVec Ideal S1x1024 .f32) (ix2 R C) := by
  obtain ⟨e0, e1⟩ := idx4 t
  refine congrArg (V m c main_arg4) (funext fun a => Fin.ext ?_)
  match a with
  | ⟨0, _⟩ => show win0_4.index t (0 : Fin 2) * 1 + 1 * R.1 = R.1; omega
  | ⟨1, _⟩ => show win0_4.index t (1 : Fin 2) * 1024 + 1 * C.1 = C.1; omega

theorem emb6 (t : Fin cfg0.N) (R : Fin 688) (C : Fin 1024) (h : t.1 / 4 * 688 + R.1 < 8256) :
    ((cfg0.win 6).blk t).view.emb (ix2 R C) = ix2 ⟨t.1 / 4 * 688 + R.1, h⟩ C := by
  obtain ⟨e0, e1⟩ := idx6 t
  funext a; apply Fin.ext
  match a with
  | ⟨0, _⟩ => show win0_6.index t (0 : Fin 2) * 688 + 1 * R.1 = t.1 / 4 * 688 + R.1; omega
  | ⟨1, _⟩ => show win0_6.index t (1 : Fin 2) * 1024 + 1 * C.1 = C.1; omega

theorem emb7 (t : Fin cfg0.N) (R : Fin 688) (C : Fin 1024) (h : t.1 / 4 * 688 + R.1 < 8256) :
    ((cfg0.win 7).blk t).view.emb (ix2 R C) = ix2 ⟨t.1 / 4 * 688 + R.1, h⟩ C := by
  obtain ⟨e0, e1⟩ := idx7 t
  funext a; apply Fin.ext
  match a with
  | ⟨0, _⟩ => show win0_7.index t (0 : Fin 2) * 688 + 1 * R.1 = t.1 / 4 * 688 + R.1; omega
  | ⟨1, _⟩ => show win0_7.index t (1 : Fin 2) * 1024 + 1 * C.1 = C.1; omega

theorem emb8 (t : Fin cfg0.N) (R : Fin 1) (C : Fin 1024) : ((cfg0.win 8).blk t).view.emb (ix2 R C) = ix2 R C := by
  obtain ⟨e0, e1⟩ := idx8 t
  funext a; apply Fin.ext
  match a with
  | ⟨0, _⟩ => show win0_8.index t (0 : Fin 2) * 1 + 1 * R.1 = R.1; omega
  | ⟨1, _⟩ => show win0_8.index t (1 : Fin 2) * 1024 + 1 * C.1 = C.1; omega

/-- The sum of the terms up to a point's block: that up to the block before, and the point's product. -/
theorem block (t : Fin cfg0.N) (R : Fin 688) (C : Fin 1024) (h : t.1 / 4 * 688 + R.1 < 8256) :
    ∑ j ∈ Finset.range ((t.1 % 4 + 1) * 1536), ext (term (V m c main_arg0) (V m c main_arg1) ⟨t.1 / 4 * 688 + R.1, h⟩ C) j
      = ∑ j ∈ Finset.range (t.1 % 4 * 1536), ext (term (V m c main_arg0) (V m c main_arg1) ⟨t.1 / 4 * 688 + R.1, h⟩ C) j
        + ∑ k : Fin 1536, prod (iblk m c 0 t) (iblk m c 1 t) R C k := by
  refine sum_blocks_succ _ _ _ _ fun k => ?_
  have hk : t.1 % 4 * 1536 + k.1 < 6144 := by omega
  rw [ext_of_lt _ _ hk]
  exact congrArg₂ (fun a b : EReal => a * b) (iblk0 m c t R k h hk) (iblk1 m c t C k hk)

/-- What the first point of a block of rows leaves in the accumulator. -/
theorem acc_first (t : Fin cfg0.N) (R : Fin 688) (C : Fin 1024) (h : t.1 / 4 * 688 + R.1 < 8256) (h0 : t.1 % 4 = 0) :
    ((outsAt0 m c t.1 t.isLt).2.2.2 (ix2 R C) : EReal)
      = entry (V m c main_arg2) ⟨t.1 / 4 * 688 + R.1, h⟩ C
        + ∑ j ∈ Finset.range ((t.1 % 4 + 1) * 1536), ext (term (V m c main_arg0) (V m c main_arg1) ⟨t.1 / 4 * 688 + R.1, h⟩ C) j := by
  rw [block m c t R C h, outsAt0_A m c t h0 (by omega) (by omega)]
  dsimp only
  rw [outA, pay1, h0, Nat.zero_mul, Finset.range_zero, Finset.sum_empty, zero_add, iblk2 m c t R C h]
  exact add_comm _ _

/-- What the accumulator holds after a point: the third array's entry and the sum of the terms of the blocks so far. -/
theorem acc (n : Nat) (hn : n < cfg0.N) (R : Fin 688) (C : Fin 1024) (h : n / 4 * 688 + R.1 < 8256) (h3 : n % 4 ≠ 3) :
    ((outsAt0 m c n hn).2.2.2 (ix2 R C) : EReal)
      = entry (V m c main_arg2) ⟨n / 4 * 688 + R.1, h⟩ C
        + ∑ j ∈ Finset.range ((n % 4 + 1) * 1536), ext (term (V m c main_arg0) (V m c main_arg1) ⟨n / 4 * 688 + R.1, h⟩ C) j := by
  induction n with
  | zero => exact acc_first m c ⟨0, hn⟩ R C h rfl
  | succ n ih =>
    by_cases h0 : (n + 1) % 4 = 0
    · exact acc_first m c ⟨n + 1, hn⟩ R C h h0
    · rw [block m c ⟨n + 1, hn⟩ R C h]
      have e : n % 4 + 1 = (n + 1) % 4 := by omega
      have e' : n / 4 = (n + 1) / 4 := by omega
      have ih := ih (Nat.lt_of_succ_lt hn) (by omega) (by omega)
      simp only [e, e'] at ih
      rw [outsAt0_B m c ⟨n + 1, hn⟩ h0 (by dsimp only; omega) h3]
      dsimp only
      rw [outB, pay2, ← add_assoc]
      exact congrArg (fun a : EReal => a + _) ih

/-- What reaches the norm at the last point of a block of rows. -/
theorem last (t : Fin cfg0.N) (h3 : t.1 % 4 = 3) (R : Fin 688) (C : Fin 1024) (h : t.1 / 4 * 688 + R.1 < 8256) :
    (k0_pay5 (F := Ideal) (outsAt0 m c (t.1 - 1) (Nat.lt_of_le_of_lt (Nat.sub_le _ _) t.isLt)).2.2.2 (iblk m c 0 t) (iblk m c 1 t) (ix2 R C) : EReal)
      = grad (V m c main_arg0) (V m c main_arg1) (V m c main_arg2) ⟨t.1 / 4 * 688 + R.1, h⟩ C := by
  have key := block m c t R C h
  have a := acc m c (t.1 - 1) (Nat.lt_of_le_of_lt (Nat.sub_le _ _) t.isLt) R C (by omega) (by omega)
  have e : (t.1 - 1) % 4 + 1 = t.1 % 4 := by omega
  have e' : (t.1 - 1) / 4 = t.1 / 4 := by omega
  simp only [e, e'] at a
  rw [pay5, a, add_assoc, ← key, h3]
  exact congrArg (fun s : EReal => _ + s) (sum_ext _)

/-- What the last point of a block of rows leaves for the first two results. -/
theorem rows (t : Fin cfg0.N) (h3 : t.1 % 4 = 3) (R : Fin 688) (C : Fin 1024) (h : t.1 / 4 * 688 + R.1 < 8256) :
    (k0_pay8 (F := Ideal) (outsAt0 m c (t.1 - 1) (Nat.lt_of_le_of_lt (Nat.sub_le _ _) t.isLt)).2.2.2 (iblk m c 0 t) (iblk m c 1 t) (iblk m c 3 t) (iblk m c 4 t)
        (iblk m c 5 t) (ix2 R C) : EReal)
      = G (V m c main_arg0) (V m c main_arg1) (V m c main_arg2) (V m c main_arg3) (V m c main_arg4) (V m c main_arg5) (ix2 ⟨t.1 / 4 * 688 + R.1, h⟩ C) := by
  rw [pay8]
  simp only [last m c t h3 R _ h, iblk3 m c t R _ h, iblk4 m c t 0 _, iblk5 m c t R _ h]
  rfl

theorem out6 (t : Fin cfg0.N) (h3 : t.1 % 4 = 3) (R : Fin 688) (C : Fin 1024) (h : t.1 / 4 * 688 + R.1 < 8256) :
    ((outsAt0 m c t.1 t.isLt).1 (ix2 R C) : EReal)
      = G (V m c main_arg0) (V m c main_arg1) (V m c main_arg2) (V m c main_arg3) (V m c main_arg4) (V m c main_arg5) (ix2 ⟨t.1 / 4 * 688 + R.1, h⟩ C) := by
  refine Eq.trans ?_ (rows m c t h3 R C h)
  by_cases h4 : t.1 < 4
  · rw [outsAt0_C m c t (by omega) (by omega) h3 h4 (by omega)]
    dsimp only
    rw [outC6]
  · rw [outsAt0_D m c t (by omega) (by omega) h3 h4 (by omega)]
    dsimp only
    rw [outD6]

theorem out7 (t : Fin cfg0.N) (h3 : t.1 % 4 = 3) (R : Fin 688) (C : Fin 1024) (h : t.1 / 4 * 688 + R.1 < 8256) :
    ((outsAt0 m c t.1 t.isLt).2.1 (ix2 R C) : EReal)
      = G (V m c main_arg0) (V m c main_arg1) (V m c main_arg2) (V m c main_arg3) (V m c main_arg4) (V m c main_arg5) (ix2 ⟨t.1 / 4 * 688 + R.1, h⟩ C) := by
  refine Eq.trans ?_ (rows m c t h3 R C h)
  by_cases h4 : t.1 < 4
  · rw [outsAt0_C m c t (by omega) (by omega) h3 h4 (by omega)]
    dsimp only
    rw [outC7]
  · rw [outsAt0_D m c t (by omega) (by omega) h3 h4 (by omega)]
    dsimp only
    rw [outD7]

/-- A point's share of the gradient of the norm's weights. -/
def share (t : Fin cfg0.N) (C : Fin 1024) (k : Fin 688) : EReal :=
  (k0_pay10 (F := Ideal) (outsAt0 m c (t.1 - 1) (Nat.lt_of_le_of_lt (Nat.sub_le _ _) t.isLt)).2.2.2 (iblk m c 0 t) (iblk m c 1 t) (iblk m c 3 t) (ix2 k C) : EReal)

/-- The sum of the rows' shares up to a point's block: that up to the block before, and the point's. -/
theorem wblock (t : Fin cfg0.N) (h3 : t.1 % 4 = 3) (C : Fin 1024) :
    ∑ j ∈ Finset.range ((t.1 / 4 + 1) * 688), ext (wterm (V m c main_arg0) (V m c main_arg1) (V m c main_arg2) (V m c main_arg3) C) j
      = ∑ j ∈ Finset.range (t.1 / 4 * 688), ext (wterm (V m c main_arg0) (V m c main_arg1) (V m c main_arg2) (V m c main_arg3) C) j
        + ∑ k : Fin 688, share m c t C k := by
  refine sum_blocks_succ _ _ _ _ fun k => ?_
  have hN : t.1 < 48 := lt_of_lt_of_eq t.isLt N_0
  have hk : t.1 / 4 * 688 + k.1 < 8256 := by omega
  rw [ext_of_lt _ _ hk]
  unfold share
  rw [pay10]
  simp only [last m c t h3 k _ hk, iblk3 m c t k _ hk]
  rfl

/-- What the third result holds after a point: the sum of the shares of the rows finished so far. -/
theorem wacc (n : Nat) (hn : n < cfg0.N) (C : Fin 1024) (h3 : 3 ≤ n) :
    ((outsAt0 m c n hn).2.2.1 (ix2 0 C) : EReal)
      = ∑ j ∈ Finset.range ((n + 1) / 4 * 688), ext (wterm (V m c main_arg0) (V m c main_arg1) (V m c main_arg2) (V m c main_arg3) C) j := by
  induction n with
  | zero => omega
  | succ n ih =>
    by_cases h0 : (n + 1) % 4 = 3
    · have key := wblock m c ⟨n + 1, hn⟩ h0 C
      have e : (n + 1) / 4 + 1 = (n + 1 + 1) / 4 := by omega
      have e' : (n + 1) / 4 = n / 4 := by omega
      simp only [e] at key
      rw [key]
      by_cases h4 : n + 1 < 4
      · rw [outsAt0_C m c ⟨n + 1, hn⟩ (by dsimp only; omega) (by dsimp only; omega) h0 h4 (by dsimp only; omega)]
        dsimp only
        obtain rfl : n = 2 := by omega
        rw [outC8, pay3]
        exact (zero_add _).symm
      · rw [outsAt0_D m c ⟨n + 1, hn⟩ (by dsimp only; omega) (by dsimp only; omega) h0 h4 (by dsimp only; omega)]
        dsimp only
        rw [outD8, pay4]
        exact congrArg (fun a : EReal => a + _) (ih (Nat.lt_of_succ_lt hn) (by omega))
    · have ih := ih (Nat.lt_of_succ_lt hn) (by omega)
      have e : (n + 1) / 4 = (n + 1 + 1) / 4 := by omega
      rw [e] at ih
      rw [← ih]
      by_cases h1 : (n + 1) % 4 = 0
      · rw [outsAt0_A m c ⟨n + 1, hn⟩ h1 (by dsimp only; omega) h0]
        rfl
      · rw [outsAt0_B m c ⟨n + 1, hn⟩ h1 (by dsimp only; omega) h0]
        rfl

theorem flushed6 (t : Fin cfg0.N) : (dats m 0 c).flushed 6 t = (cfg0.win 6).cut (grid0.coords t) ((outsAt0 m c t.val t.isLt).1) := by
  show (cfg0.win 6).cut (grid0.coords t) ((dats m 0 c).after 6 t) = _
  rw [after0_6]

theorem flushed7 (t : Fin cfg0.N) : (dats m 0 c).flushed 7 t = (cfg0.win 7).cut (grid0.coords t) ((outsAt0 m c t.val t.isLt).2.1) := by
  show (cfg0.win 7).cut (grid0.coords t) ((dats m 0 c).after 7 t) = _
  rw [after0_7]

theorem flushed8 (t : Fin cfg0.N) : (dats m 0 c).flushed 8 t = (cfg0.win 8).cut (grid0.coords t) ((outsAt0 m c t.val t.isLt).2.2.1) := by
  show (cfg0.win 8).cut (grid0.coords t) ((dats m 0 c).after 8 t) = _
  rw [after0_8]

theorem final6 : ((dats m 0 c).arrAt 6 cfg0.N : S8256x1024.Idx → EReal)
    = G (V m c main_arg0) (V m c main_arg1) (V m c main_arg2) (V m c main_arg3)
      (V m c main_arg4) (V m c main_arg5) := by
  refine (dats m 0 c).arrAt_eq_of_cover 6 _ (fun t ht => ?_) fun y => ?_
  · have hN : t.1 < 48 := lt_of_lt_of_eq t.isLt N_0
    have h3 := (flush0_6 t).mp ht
    rw [flushed6]
    funext y
    obtain ⟨R, C, rfl⟩ : ∃ (R : Fin 688) (C : Fin 1024), y = ix2 R C := ⟨y 0, y 1, eq_ix2 y⟩
    exact (out6 m c t h3 R C (by omega)).trans (congrArg (G _ _ _ _ _ _) (emb6 t R C (by omega))).symm
  · obtain ⟨R, C, rfl⟩ : ∃ (R : Fin 8256) (C : Fin 1024), y = ix2 R C := ⟨y 0, y 1, eq_ix2 y⟩
    have ht : R.1 / 688 * 4 + 3 < cfg0.N := lt_of_lt_of_eq (by omega) N_0.symm
    refine ⟨⟨_, ht⟩, (flush0_6 _).mpr (by dsimp only; omega), ?_⟩
    have h := ((cfg0.win 6).blk ⟨_, ht⟩).view.emb_mem_set (ix2 (⟨R.1 % 688, by omega⟩ : Fin 688) C)
    rw [emb6 _ _ _ (by dsimp only; omega)] at h
    refine (congrArg (· ∈ ((cfg0.win 6).blk ⟨_, ht⟩).view.set) (congrArg (ix2 · C) (Fin.ext ?_))).mp h
    dsimp only; omega

theorem final7 : ((dats m 0 c).arrAt 7 cfg0.N : S8256x1024.Idx → EReal)
    = G (V m c main_arg0) (V m c main_arg1) (V m c main_arg2) (V m c main_arg3)
      (V m c main_arg4) (V m c main_arg5) := by
  refine (dats m 0 c).arrAt_eq_of_cover 7 _ (fun t ht => ?_) fun y => ?_
  · have hN : t.1 < 48 := lt_of_lt_of_eq t.isLt N_0
    have h3 := (flush0_7 t).mp ht
    rw [flushed7]
    funext y
    obtain ⟨R, C, rfl⟩ : ∃ (R : Fin 688) (C : Fin 1024), y = ix2 R C := ⟨y 0, y 1, eq_ix2 y⟩
    exact (out7 m c t h3 R C (by omega)).trans (congrArg (G _ _ _ _ _ _) (emb7 t R C (by omega))).symm
  · obtain ⟨R, C, rfl⟩ : ∃ (R : Fin 8256) (C : Fin 1024), y = ix2 R C := ⟨y 0, y 1, eq_ix2 y⟩
    have ht : R.1 / 688 * 4 + 3 < cfg0.N := lt_of_lt_of_eq (by omega) N_0.symm
    refine ⟨⟨_, ht⟩, (flush0_7 _).mpr (by dsimp only; omega), ?_⟩
    have h := ((cfg0.win 7).blk ⟨_, ht⟩).view.emb_mem_set (ix2 (⟨R.1 % 688, by omega⟩ : Fin 688) C)
    rw [emb7 _ _ _ (by dsimp only; omega)] at h
    refine (congrArg (· ∈ ((cfg0.win 7).blk ⟨_, ht⟩).view.set) (congrArg (ix2 · C) (Fin.ext ?_))).mp h
    dsimp only; omega

theorem final8 : (dats m 0 c).arrAt 8 cfg0.N
    = W (V m c main_arg0) (V m c main_arg1) (V m c main_arg2) (V m c main_arg3) := by
  refine (dats m 0 c).arrAt_eq_of_cover 8 _ (fun t ht => ?_) fun y => ?_
  · have hN : t.1 < 48 := lt_of_lt_of_eq t.isLt N_0
    have h47 := (flush0_8 t).mp ht
    have e : (t.1 + 1) / 4 = 12 := by omega
    rw [flushed8]
    funext y
    obtain ⟨R, C, rfl⟩ : ∃ (R : Fin 1) (C : Fin 1024), y = ix2 R C := ⟨y 0, y 1, eq_ix2 y⟩
    obtain rfl : R = 0 := Subsingleton.elim _ _
    have key := wacc m c t.1 t.isLt C (by omega)
    rw [e] at key
    exact (key.trans (sum_ext _)).trans (congrArg (W _ _ _ _) (emb8 t 0 C)).symm
  · obtain ⟨R, C, rfl⟩ : ∃ (R : Fin 1) (C : Fin 1024), y = ix2 R C := ⟨y 0, y 1, eq_ix2 y⟩
    have ht : 47 < cfg0.N := lt_of_lt_of_eq (by omega) N_0.symm
    refine ⟨⟨47, ht⟩, (flush0_8 _).mpr rfl, ?_⟩
    have h := ((cfg0.win 8).blk ⟨47, ht⟩).view.emb_mem_set (ix2 R C)
    rwa [emb8] at h

theorem run_blocks (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1 6, (h c).1 7, (h c).1 8,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.Kernel10Ideal.Value

namespace Cert.Reference10Ideal.Value

open Cert.Reference10Ideal Cert.Reference10Ideal.Gen Idealize.ShloMosaic Idealize.ShloMosaic.TcCoe

variable (m : (ℓ : Loc nD τ sig) → Buf (Elt Ideal) ℓ) (c : Dev nD)

theorem dh_eq (R : Fin 8256) (C : Fin 1024) :
    (res_out0 m c (ix2 R C) : EReal)
      = Cert.Kernel10Ideal.Value.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix2 R C) := by
  refine Eq.trans ?_ (normBwd_eq positive_1024 _ _ _ _ _).symm
  show (res_main_v39 m c (ix2 R C) : EReal) = _
  unfold res_main_v39 meanSqBwd meanSq Cert.Kernel10Ideal.Value.grad Cert.Kernel10Ideal.Value.term Cert.Kernel10Ideal.Value.entry
  generalize m ((c.tc : Thread nD τ).loc main_arg0) = x
  generalize m ((c.tc : Thread nD τ).loc main_arg1) = w
  generalize m ((c.tc : Thread nD τ).loc main_arg2) = d
  generalize m ((c.tc : Thread nD τ).loc main_arg3) = h
  generalize m ((c.tc : Thread nD τ).loc main_arg4) = v
  generalize m ((c.tc : Thread nD τ).loc main_arg5) = r
  pointwise
  simp only [Finset.univ_unique, Finset.sum_singleton]

theorem dw_eq (x : FVec Ideal S8256x6144 .bf16) (w : FVec Ideal S1024x6144 .bf16) (d h : FVec Ideal S8256x1024 .f32) (C : Fin 1024) :
    ((shapeCast _ (Host.reduceAdd (mulf (mulf h (broadcastInDim S8256x1024 ![0, 1] bcast_S8256x1_S8256x1024_0_1 (Host.rsqrt (addf (Host.divf (broadcastInDim S8256x1 ![0] bcast_S8256_S8256x1_0 (Host.reduceAdd (mulf h h) (constant S_ .f32 0x00000000#32) reducesTo_S8256x1024_S8256_d1 h_S_)) (broadcastInDim S8256x1 ![] bcast_S_S8256x1 (constant S_ .f32 0x44800000#32))) (broadcastInDim S8256x1 ![] bcast_S_S8256x1 (constant S_ .f32 0x358637BD#32)))))) (addf d (Host.dotGeneral dot_S8256x6144_S1024x6144_S8256x1024_1_1_0_0_n_n none (extf .f32 x bitsLt_bf16_f32) (extf .f32 w bitsLt_bf16_f32)))) (constant S_ .f32 0x00000000#32) reducesTo_S8256x1024_S1024_d0 h_S_) shapeCasts_S1024_S1x1024 : FVec Ideal S1x1024 .f32) (ix2 0 C) : EReal)
      = Cert.Kernel10Ideal.Value.W x w d h (ix2 0 C) := by
  refine Eq.trans ?_ (Finset.sum_congr rfl fun R _ => mul_comm _ _)
  unfold meanSq Cert.Kernel10Ideal.Value.grad Cert.Kernel10Ideal.Value.term Cert.Kernel10Ideal.Value.entry
  pointwise

end Cert.Reference10Ideal.Value

namespace Cert.Proof

open Idealize.ShloMosaic Idealize.ShloMosaic.TcCoe Idealize.SL.Sem

theorem dhnp_frame : quiescent_Kernel10 := fun m ρ _ => Cert.Kernel10.Gen.frame m ρ
theorem dhnp_frameI : quiescent_Kernel10Ideal := fun m ρ _ => Cert.Kernel10Ideal.Gen.frame m ρ
theorem dhnp_frameR : quiescent_Reference10Ideal := fun m ρ _ =>
  (θ_run Cert.Reference10Ideal.defs _ _).mono (fun r h => ⟨fun c => (h c).2.2.2, sem_eq_zero_of_no_sems (by decide) _⟩) (Cert.Reference10Ideal.Value.run m ρ)

theorem dhnp_value : algebraic_Kernel10Ideal_Reference10Ideal := fun m ρ m' ρ' _ hag => by
  refine ⟨fun c => Cert.Kernel10Ideal.Value.G (m ((c : Thread Cert.Kernel10Ideal.nD Cert.Kernel10Ideal.τ).loc Cert.Kernel10Ideal.main_arg0))
      (m ((c : Thread Cert.Kernel10Ideal.nD Cert.Kernel10Ideal.τ).loc Cert.Kernel10Ideal.main_arg1))
      (m ((c : Thread Cert.Kernel10Ideal.nD Cert.Kernel10Ideal.τ).loc Cert.Kernel10Ideal.main_arg2))
      (m ((c : Thread Cert.Kernel10Ideal.nD Cert.Kernel10Ideal.τ).loc Cert.Kernel10Ideal.main_arg3))
      (m ((c : Thread Cert.Kernel10Ideal.nD Cert.Kernel10Ideal.τ).loc Cert.Kernel10Ideal.main_arg4))
      (m ((c : Thread Cert.Kernel10Ideal.nD Cert.Kernel10Ideal.τ).loc Cert.Kernel10Ideal.main_arg5)),
    fun c => Cert.Kernel10Ideal.Value.G (m ((c : Thread Cert.Kernel10Ideal.nD Cert.Kernel10Ideal.τ).loc Cert.Kernel10Ideal.main_arg0))
      (m ((c : Thread Cert.Kernel10Ideal.nD Cert.Kernel10Ideal.τ).loc Cert.Kernel10Ideal.main_arg1))
      (m ((c : Thread Cert.Kernel10Ideal.nD Cert.Kernel10Ideal.τ).loc Cert.Kernel10Ideal.main_arg2))
      (m ((c : Thread Cert.Kernel10Ideal.nD Cert.Kernel10Ideal.τ).loc Cert.Kernel10Ideal.main_arg3))
      (m ((c : Thread Cert.Kernel10Ideal.nD Cert.Kernel10Ideal.τ).loc Cert.Kernel10Ideal.main_arg4))
      (m ((c : Thread Cert.Kernel10Ideal.nD Cert.Kernel10Ideal.τ).loc Cert.Kernel10Ideal.main_arg5)),
    fun c => Cert.Kernel10Ideal.Value.W (m ((c : Thread Cert.Kernel10Ideal.nD Cert.Kernel10Ideal.τ).loc Cert.Kernel10Ideal.main_arg0))
      (m ((c : Thread Cert.Kernel10Ideal.nD Cert.Kernel10Ideal.τ).loc Cert.Kernel10Ideal.main_arg1))
      (m ((c : Thread Cert.Kernel10Ideal.nD Cert.Kernel10Ideal.τ).loc Cert.Kernel10Ideal.main_arg2))
      (m ((c : Thread Cert.Kernel10Ideal.nD Cert.Kernel10Ideal.τ).loc Cert.Kernel10Ideal.main_arg3)), ?_, ?_⟩
  · exact (θ_run Cert.Kernel10Ideal.defs _ _).mono (fun r h c =>
      ⟨(h c).1.trans (Cert.Kernel10Ideal.Value.final6 m c), (h c).2.1.trans (Cert.Kernel10Ideal.Value.final7 m c),
        (h c).2.2.1.trans (Cert.Kernel10Ideal.Value.final8 m c), (h c).2.2.2⟩)
      (Cert.Kernel10Ideal.Value.run_blocks m ρ)
  · refine (θ_run Cert.Reference10Ideal.defs _ _).mono (fun r h c => ⟨(h c).1.trans ?_, (h c).2.1.trans ?_, (h c).2.2.1.trans ?_, (h c).2.2.2⟩)
      (Cert.Reference10Ideal.Value.run m' ρ')
    · funext y
      obtain ⟨R, C, rfl⟩ : ∃ (R : Fin 8256) (C : Fin 1024), y = ix2 R C := ⟨y 0, y 1, eq_ix2 y⟩
      refine (Cert.Reference10Ideal.Value.dh_eq m' c R C).trans ?_
      rw [(hag c).1, (hag c).2.1, (hag c).2.2.1, (hag c).2.2.2.1, (hag c).2.2.2.2.1, (hag c).2.2.2.2.2]
    · funext y
      obtain ⟨R, C, rfl⟩ : ∃ (R : Fin 8256) (C : Fin 1024), y = ix2 R C := ⟨y 0, y 1, eq_ix2 y⟩
      refine (Cert.Reference10Ideal.Value.dh_eq m' c R C).trans ?_
      rw [(hag c).1, (hag c).2.1, (hag c).2.2.1, (hag c).2.2.2.1, (hag c).2.2.2.2.1, (hag c).2.2.2.2.2]
    · rw [(hag c).1, (hag c).2.1, (hag c).2.2.1, (hag c).2.2.2.1]
      funext y
      obtain ⟨R, C, rfl⟩ : ∃ (R : Fin 1) (C : Fin 1024), y = ix2 R C := ⟨y 0, y 1, eq_ix2 y⟩
      obtain rfl : R = 0 := Subsingleton.elim _ _
      exact Cert.Reference10Ideal.Value.dw_eq _ _ _ _ C

end Cert.Proof
end
-- ==== Proof.Dwin.lean ====
module

public import proofs.«01_k».proof.Defs
public import proofs.«01_k».proof.Proof.Common
public import proofs.«01_k».proof.Proof.Gen.Kernel11.Frame
public import proofs.«01_k».proof.Proof.Gen.Kernel11Ideal.Value
public import proofs.«01_k».proof.Proof.Gen.Reference11Ideal.Run
public import Idealize.ShloMosaic.Lib.Quiescent

/-! The gradient of the input weights of the gated layer: a block of columns is contracted over all rows at once, so that its product is the sum over them;
the reference forms the transposed product of the whole arrays. -/

@[expose] public section

set_option maxRecDepth 16384

noncomputable section

namespace Cert.Kernel11Ideal.Value

open Cert.Kernel11Ideal Cert.Kernel11Ideal.Gen Idealize.ShloMosaic Idealize.ShloMosaic.TcCoe Idealize.SL.Sem

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = t.1 := (by decide +kernel : ∀ t : Fin grid0.N, _)
theorem idx2 : ∀ t : Fin cfg0.N, win0_2.index t (0 : Fin 2) = 0 ∧ win0_2.index t (1 : Fin 2) = t.1 := (by decide +kernel : ∀ t : Fin grid0.N, _)

theorem pay (x : FVec Ideal S8256x1024 .bf16) (w : FVec Ideal S8256x512 .bf16) (R : Fin 1024) (C : Fin 512) :
    (k0_pay1 (F := Ideal) x w (ix2 R C) : EReal) = ∑ k : Fin 8256, (x (ix2 k R) * w (ix2 k C) : EReal) := by
  unfold k0_pay1
  pointwise

theorem out_eq (x : FVec Ideal S8256x1024 .bf16) (w : FVec Ideal S8256x512 .bf16) : out0_2 (F := Ideal) x w = k0_pay1 (F := Ideal) x w := by
  unfold out0_2
  rw [View.canon_unit_zero vec2_zero, View.ld_unit_zero vec2_zero, View.ld_unit_zero vec2_zero]

/-- The result: the product of the first array, transposed, with the second. -/
def G (x : FVec Ideal S8256x1024 .bf16) (w : FVec Ideal S8256x6144 .bf16) : FVec Ideal S1024x6144 .bf16 :=
  fun y => ∑ k : Fin 8256, (x (ix2 k (y 0)) * w (ix2 k (y 1)) : EReal)

variable (m : (ℓ : Loc nD τ sig) → Buf (Elt Ideal) ℓ) (c : Dev nD)

theorem iblk0 (t : Fin cfg0.N) (R : Fin 8256) (C : Fin 1024) :
    (iblk m c 0 t : FVec Ideal S8256x1024 .bf16) (ix2 R C) = (V m c main_arg0 : FVec Ideal S8256x1024 .bf16) (ix2 R C) := by
  obtain ⟨e0, e1⟩ := idx0 t
  refine congrArg (V m c main_arg0) (funext fun a => Fin.ext ?_)
  match a with
  | ⟨0, _⟩ => show win0_0.index t (0 : Fin 2) * 8256 + 1 * R.1 = R.1; omega
  | ⟨1, _⟩ => show win0_0.index t (1 : Fin 2) * 1024 + 1 * C.1 = C.1; omega

theorem iblk1 (t : Fin cfg0.N) (R : Fin 8256) (C : Fin 512) (h : t.1 * 512 + C.1 < 6144) :
    (iblk m c 1 t : FVec Ideal S8256x512 .bf16) (ix2 R C) = (V m c main_arg1 : FVec Ideal S8256x6144 .bf16) (ix2 R ⟨t.1 * 512 + C.1, h⟩) := by
  obtain ⟨e0, e1⟩ := idx1 t
  refine congrArg (V m c main_arg1) (funext fun a => Fin.ext ?_)
  match a with
  | ⟨0, _⟩ => show win0_1.index t (0 : Fin 2) * 8256 + 1 * R.1 = R.1; omega
  | ⟨1, _⟩ => show win0_1.index t (1 : Fin 2) * 512 + 1 * C.1 = t.1 * 512 + C.1; omega

theorem emb2 (t : Fin cfg0.N) (R : Fin 1024) (C : Fin 512) (h : t.1 * 512 + C.1 < 6144) :
    ((cfg0.win 2).blk t).view.emb (ix2 R C) = ix2 R ⟨t.1 * 512 + C.1, h⟩ := by
  obtain ⟨e0, e1⟩ := idx2 t
  funext a; apply Fin.ext
  match a with
  | ⟨0, _⟩ => show win0_2.index t (0 : Fin 2) * 1024 + 1 * R.1 = R.1; omega
  | ⟨1, _⟩ => show win0_2.index t (1 : Fin 2) * 512 + 1 * C.1 = t.1 * 512 + C.1; omega

theorem final : (dats m 0 c).arrAt 2 cfg0.N = G (m ((c : Thread nD τ).loc main_arg0)) (m ((c : Thread nD τ).loc main_arg1)) := by
  refine (dats m 0 c).arrAt_eq_of_cover 2 _ (fun t _ => ?_) fun y => ?_
  · have hN : t.1 < 12 := lt_of_lt_of_eq t.isLt N_0
    rw [flushed2, out_eq]
    funext y
    obtain ⟨R, C, rfl⟩ : ∃ (R : Fin 1024) (C : Fin 512), y = ix2 R C := ⟨y 0, y 1, eq_ix2 y⟩
    refine (pay _ _ R C).trans (Eq.trans ?_ (congrArg (G _ _) (emb2 t R C (by omega))).symm)
    exact Finset.sum_congr rfl fun k _ => congrArg₂ (fun a b : EReal => a * b) (iblk0 m c t k R) (iblk1 m c t k C (by omega))
  · obtain ⟨R, C, rfl⟩ : ∃ (R : Fin 1024) (C : Fin 6144), y = ix2 R C := ⟨y 0, y 1, eq_ix2 y⟩
    have ht : C.1 / 512 < cfg0.N := lt_of_lt_of_eq (by omega) N_0.symm
    refine ⟨⟨_, ht⟩, flush0_2 _, ?_⟩
    have h := ((cfg0.win 2).blk ⟨_, ht⟩).view.emb_mem_set (ix2 R (⟨C.1 % 512, by omega⟩ : Fin 512))
    rw [emb2 _ _ _ (by dsimp only; omega)] at h
    refine (congrArg (· ∈ ((cfg0.win 2).blk ⟨_, ht⟩).view.set) (congrArg (ix2 R) (Fin.ext ?_))).mp h
    dsimp only; omega

end Cert.Kernel11Ideal.Value

namespace Cert.Reference11Ideal.Value

open Cert.Reference11Ideal Cert.Reference11Ideal.Gen Idealize.ShloMosaic

theorem ref_eq (x : FVec Ideal S8256x1024 .bf16) (w : FVec Ideal S8256x6144 .bf16) :
    (truncf (F := Ideal) (φ := .f32) .bf16 (transpose S1024x6144 [1, 0] (Host.dotGeneral dot_S8256x6144_S8256x1024_S6144x1024_0_0_1_1_n_n none (extf .f32 w bitsLt_bf16_f32)
      (extf .f32 x bitsLt_bf16_f32) : FVec Ideal S6144x1024 .f32) transposes_S6144x1024_S1024x6144_1_0) bitsLt_bf16_f32 : FVec Ideal S1024x6144 .bf16)
      = Cert.Kernel11Ideal.Value.G x w := by
  funext y
  obtain ⟨R, C, rfl⟩ : ∃ (R : Fin 1024) (C : Fin 6144), y = ix2 R C := ⟨y 0, y 1, eq_ix2 y⟩
  refine Eq.trans ?_ (Finset.sum_congr rfl fun k _ => mul_comm (w (ix2 k C) : EReal) (x (ix2 k R) : EReal))
  pointwise

end Cert.Reference11Ideal.Value

namespace Cert.Proof

open Idealize.ShloMosaic Idealize.ShloMosaic.TcCoe Idealize.SL.Sem

theorem dwin_frame : quiescent_Kernel11 := fun m ρ _ => Cert.Kernel11.Gen.frame m ρ
theorem dwin_frameI : quiescent_Kernel11Ideal := fun m ρ _ => Cert.Kernel11Ideal.Gen.frame m ρ
theorem dwin_frameR : quiescent_Reference11Ideal := fun m ρ _ =>
  (θ_run Cert.Reference11Ideal.defs _ _).mono (fun r h => ⟨fun c => (h c).2, sem_eq_zero_of_no_sems (by decide) _⟩) (Cert.Reference11Ideal.Value.run m ρ)

theorem dwin_value : algebraic_Kernel11Ideal_Reference11Ideal := fun m ρ m' ρ' _ hag => by
  refine ⟨fun c => Cert.Kernel11Ideal.Value.G (m ((c : Thread Cert.Kernel11Ideal.nD Cert.Kernel11Ideal.τ).loc Cert.Kernel11Ideal.main_arg0))
    (m ((c : Thread Cert.Kernel11Ideal.nD Cert.Kernel11Ideal.τ).loc Cert.Kernel11Ideal.main_arg1)), ?_, ?_⟩
  · exact (θ_run Cert.Kernel11Ideal.defs _ _).mono (fun r h c => ⟨(h c).1.trans (Cert.Kernel11Ideal.Value.final m c), (h c).2⟩)
      (Cert.Kernel11Ideal.Value.run_blocks m ρ)
  · refine (θ_run Cert.Reference11Ideal.defs _ _).mono (fun r h c => ⟨(h c).1.trans ?_, (h c).2⟩) (Cert.Reference11Ideal.Value.run m' ρ')
    rw [(hag c).1, (hag c).2]
    exact Cert.Reference11Ideal.Value.ref_eq _ _

end Cert.Proof
end
-- ==== Proof.Rms.lean ====
module

public import proofs.«01_k».proof.Proof.Common

/-! A row normed by its mean square, as an extended real at each index. -/

@[expose] public section

namespace Cert

open Idealize.ShloMosaic

/-- The normed row's value at an index where the row is `x` and the weight is `w`: `s` is the whole row. -/
noncomputable def rms (s : Fin 1024 → EReal) (x w : EReal) : EReal :=
  x * Ideal.rsqrt (Ideal.div (∑ j, s j * s j) (Ideal.ofBits .f32 0x44800000#32) + Ideal.ofBits .f32 0x358637BD#32) * w

end Cert
-- ==== Proof.Outp.lean ====
module

public import proofs.«01_k».proof.Defs
public import proofs.«01_k».proof.Proof.Rms
public import proofs.«01_k».proof.Proof.Gen.Kernel12.Frame
public import proofs.«01_k».proof.Proof.Gen.Kernel12Ideal.Value
public import proofs.«01_k».proof.Proof.Gen.Reference12Ideal.Run
public import Idealize.ShloMosaic.Lib.Quiescent

/-! The mixers' output projection: a block of rows times the whole of the weights, plus what the residual
stream held; the rows of that sum are also normed by their mean square and weighted. -/

@[expose] public section

set_option maxRecDepth 16384

noncomputable section

namespace Cert.Kernel12Ideal.Value

open Cert.Kernel12Ideal Cert.Kernel12Ideal.Gen Idealize.ShloMosaic Idealize.ShloMosaic.TcCoe Idealize.SL.Sem

theorem idx0 : ∀ t : Fin cfg0.N, win0_0.index t (0 : Fin 2) = t.1 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = t.1 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = t.1 ∧ win0_4.index t (1 : Fin 2) = 0 := (by decide +kernel : ∀ t : Fin grid0.N, _)
theorem idx5 : ∀ t : Fin cfg0.N, win0_5.index t (0 : Fin 2) = t.1 ∧ win0_5.index t (1 : Fin 2) = 0 := (by decide +kernel : ∀ t : Fin grid0.N, _)

theorem pay1 (x : FVec Ideal S688x2048 .bf16) (w : FVec Ideal S2048x1024 .bf16) (r : FVec Ideal S688x1024 .f32) (R : Fin 688) (C : Fin 1024) :
    (k0_pay1 (F := Ideal) x w r (ix2 R C) : EReal) = (∑ k : Fin 2048, (x (ix2 R k) * w (ix2 k C) : EReal)) + (r (ix2 R C) : EReal) := by
  unfold k0_pay1
  pointwise

theorem pay2 (x : FVec Ideal S688x2048 .bf16) (w : FVec Ideal S2048x1024 .bf16) (r : FVec Ideal S688x1024 .f32) (nw : FVec Ideal S1x1024 .f32) (R : Fin 688)
    (C : Fin 1024) :
    (k0_pay2 (F := Ideal) x w r nw (ix2 R C) : EReal)
      = rms (fun k => (k0_pay1 (F := Ideal) x w r (ix2 R k) : EReal)) (k0_pay1 (F := Ideal) x w r (ix2 R C) : EReal) (nw (ix2 0 C) : EReal) := by
  unfold k0_pay2 rms
  pointwise

theorem out4_eq (x : FVec Ideal S688x2048 .bf16) (w : FVec Ideal S2048x1024 .bf16) (r : FVec Ideal S688x1024 .f32) (nw : FVec Ideal S1x1024 .f32) :
    out0_4 (F := Ideal) x w r nw = k0_pay1 (F := Ideal) x w r := by
  unfold out0_4
  rw [View.canon_unit_zero vec2_zero, View.ld_unit_zero vec2_zero, View.ld_unit_zero vec2_zero, View.ld_unit_zero vec2_zero]

theorem out5_eq (x : FVec Ideal S688x2048 .bf16) (w : FVec Ideal S2048x1024 .bf16) (r : FVec Ideal S688x1024 .f32) (nw : FVec Ideal S1x1024 .f32) :
    out0_5 (F := Ideal) x w r nw = k0_pay2 (F := Ideal) x w r nw := by
  unfold out0_5
  rw [View.canon_unit_zero vec2_zero, View.ld_unit_zero vec2_zero, View.ld_unit_zero vec2_zero, View.ld_unit_zero vec2_zero, View.ld_unit_zero vec2_zero]

/-- The first result: the product of the first two arrays, plus the third. -/
def G (x : FVec Ideal S8256x2048 .bf16) (w : FVec Ideal S2048x1024 .bf16) (r : FVec Ideal S8256x1024 .f32) : FVec Ideal S8256x1024 .f32 :=
  fun y => (∑ k : Fin 2048, (x (ix2 (y 0) k) * w (ix2 k (y 1)) : EReal)) + (r (ix2 (y 0) (y 1)) : EReal)

/-- The second result: the rows of the first, normed and weighted. -/
def H (x : FVec Ideal S8256x2048 .bf16) (w : FVec Ideal S2048x1024 .bf16) (r : FVec Ideal S8256x1024 .f32) (nw : FVec Ideal S1x1024 .f32) :
    FVec Ideal S8256x1024 .bf16 :=
  fun y => rms (fun k => (G x w r (ix2 (y 0) k) : EReal)) (G x w r (ix2 (y 0) (y 1)) : EReal) (nw (ix2 0 (y 1)) : EReal)

variable (m : (ℓ : Loc nD τ sig) → Buf (Elt Ideal) ℓ) (c : Dev nD)

theorem iblk0 (t : Fin cfg0.N) (R : Fin 688) (C : Fin 2048) (h : t.1 * 688 + R.1 < 8256) :
    (iblk m c 0 t : FVec Ideal S688x2048 .bf16) (ix2 R C) = (V m c main_arg0 : FVec Ideal S8256x2048 .bf16) (ix2 ⟨t.1 * 688 + R.1, h⟩ C) := by
  obtain ⟨e0, e1⟩ := idx0 t
  refine congrArg (V m c main_arg0) (funext fun a => Fin.ext ?_)
  match a with
  | ⟨0, _⟩ => show win0_0.index t (0 : Fin 2) * 688 + 1 * R.1 = t.1 * 688 + R.1; omega
  | ⟨1, _⟩ => show win0_0.index t (1 : Fin 2) * 2048 + 1 * C.1 = C.1; omega

theorem iblk1 (t : Fin cfg0.N) (R : Fin 2048) (C : Fin 1024) :
    (iblk m c 1 t : FVec Ideal S2048x1024 .bf16) (ix2 R C) = (V m c main_arg1 : FVec Ideal S2048x1024 .bf16) (ix2 R C) := by
  obtain ⟨e0, e1⟩ := idx1 t
  refine congrArg (V m c main_arg1) (funext fun a => Fin.ext ?_)
  match a with
  | ⟨0, _⟩ => show win0_1.index t (0 : Fin 2) * 2048 + 1 * R.1 = R.1; omega
  | ⟨1, _⟩ => show win0_1.index t (1 : Fin 2) * 1024 + 1 * C.1 = C.1; omega

theorem iblk2 (t : Fin cfg0.N) (R : Fin 688) (C : Fin 1024) (h : t.1 * 688 + R.1 < 8256) :
    (iblk m c 2 t : FVec Ideal S688x1024 .f32) (ix2 R C) = (V m c main_arg2 : FVec Ideal S8256x1024 .f32) (ix2 ⟨t.1 * 688 + R.1, h⟩ C) := by
  obtain ⟨e0, e1⟩ := idx2 t
  refine congrArg (V m c main_arg2) (funext fun a => Fin.ext ?_)
  match a with
  | ⟨0, _⟩ => show win0_2.index t (0 : Fin 2) * 688 + 1 * R.1 = t.1 * 688 + R.1; omega
  | ⟨1, _⟩ => show win0_2.index t (1 : Fin 2) * 1024 + 1 * C.1 = C.1; omega

theorem iblk3 (t : Fin cfg0.N) (R : Fin 1) (C : Fin 1024) :
    (iblk m c 3 t : FVec Ideal S1x1024 .f32) (ix2 R C) = (V m c main_arg3 : FVec Ideal S1x1024 .f32) (ix2 R C) := by
  obtain ⟨e0, e1⟩ := idx3 t
  refine congrArg (V m c main_arg3) (funext fun a => Fin.ext ?_)
  match a with
  | ⟨0, _⟩ => show win0_3.index t (0 : Fin 2) * 1 + 1 * R.1 = R.1; omega
  | ⟨1, _⟩ => show win0_3.index t (1 : Fin 2) * 1024 + 1 * C.1 = C.1; omega

theorem emb4 (t : Fin cfg0.N) (R : Fin 688) (C : Fin 1024) (h : t.1 * 688 + R.1 < 8256) :
    ((cfg0.win 4).blk t).view.emb (ix2 R C) = ix2 ⟨t.1 * 688 + R.1, h⟩ C := by
  obtain ⟨e0, e1⟩ := idx4 t
  funext a; apply Fin.ext
  match a with
  | ⟨0, _⟩ => show win0_4.index t (0 : Fin 2) * 688 + 1 * R.1 = t.1 * 688 + R.1; omega
  | ⟨1, _⟩ => show win0_4.index t (1 : Fin 2) * 1024 + 1 * C.1 = C.1; omega

theorem emb5 (t : Fin cfg0.N) (R : Fin 688) (C : Fin 1024) (h : t.1 * 688 + R.1 < 8256) :
    ((cfg0.win 5).blk t).view.emb (ix2 R C) = ix2 ⟨t.1 * 688 + R.1, h⟩ C := by
  obtain ⟨e0, e1⟩ := idx5 t
  funext a; apply Fin.ext
  match a with
  | ⟨0, _⟩ => show win0_5.index t (0 : Fin 2) * 688 + 1 * R.1 = t.1 * 688 + R.1; omega
  | ⟨1, _⟩ => show win0_5.index t (1 : Fin 2) * 1024 + 1 * C.1 = C.1; omega

/-- A point's sum is the first result's block. -/
theorem sum_eq (t : Fin cfg0.N) (R : Fin 688) (C : Fin 1024) (h : t.1 * 688 + R.1 < 8256) :
    (k0_pay1 (F := Ideal) (iblk m c 0 t) (iblk m c 1 t) (iblk m c 2 t) (ix2 R C) : EReal)
      = G (V m c main_arg0) (V m c main_arg1) (V m c main_arg2) (ix2 ⟨t.1 * 688 + R.1, h⟩ C) :=
  (pay1 _ _ _ R C).trans (congrArg₂ (fun a b : EReal => a + b)
    (Finset.sum_congr rfl fun k _ => congrArg₂ (fun a b : EReal => a * b) (iblk0 m c t R k h) (iblk1 m c t k C)) (iblk2 m c t R C h))

theorem final4 : (dats m 0 c).arrAt 4 cfg0.N
    = G (m ((c : Thread nD τ).loc main_arg0)) (m ((c : Thread nD τ).loc main_arg1)) (m ((c : Thread nD τ).loc main_arg2)) := by
  refine (dats m 0 c).arrAt_eq_of_cover 4 _ (fun t _ => ?_) fun y => ?_
  · have hN : t.1 < 12 := lt_of_lt_of_eq t.isLt N_0
    rw [flushed4, out4_eq]
    funext y
    obtain ⟨R, C, rfl⟩ : ∃ (R : Fin 688) (C : Fin 1024), y = ix2 R C := ⟨y 0, y 1, eq_ix2 y⟩
    exact (sum_eq m c t R C (by omega)).trans (congrArg (G _ _ _) (emb4 t R C (by omega))).symm
  · obtain ⟨R, C, rfl⟩ : ∃ (R : Fin 8256) (C : Fin 1024), y = ix2 R C := ⟨y 0, y 1, eq_ix2 y⟩
    have ht : R.1 / 688 < cfg0.N := lt_of_lt_of_eq (by omega) N_0.symm
    refine ⟨⟨_, ht⟩, flush0_4 _, ?_⟩
    have h := ((cfg0.win 4).blk ⟨_, ht⟩).view.emb_mem_set (ix2 (⟨R.1 % 688, by omega⟩ : Fin 688) C)
    rw [emb4 _ _ _ (by dsimp only; omega)] at h
    refine (congrArg (· ∈ ((cfg0.win 4).blk ⟨_, ht⟩).view.set) (congrArg (ix2 · C) (Fin.ext ?_))).mp h
    dsimp only; omega

theorem final5 : (dats m 0 c).arrAt 5 cfg0.N
    = H (m ((c : Thread nD τ).loc main_arg0)) (m ((c : Thread nD τ).loc main_arg1)) (m ((c : Thread nD τ).loc main_arg2)) (m ((c : Thread nD τ).loc main_arg3)) := by
  refine (dats m 0 c).arrAt_eq_of_cover 5 _ (fun t _ => ?_) fun y => ?_
  · have hN : t.1 < 12 := lt_of_lt_of_eq t.isLt N_0
    rw [flushed5, out5_eq]
    funext y
    obtain ⟨R, C, rfl⟩ : ∃ (R : Fin 688) (C : Fin 1024), y = ix2 R C := ⟨y 0, y 1, eq_ix2 y⟩
    refine (pay2 _ _ _ _ R C).trans (Eq.trans ?_ (congrArg (H _ _ _ _) (emb5 t R C (by omega))).symm)
    rw [funext fun k => sum_eq m c t R k (by omega), sum_eq m c t R C (by omega)]
    exact congrArg (rms _ _) (iblk3 m c t 0 C)
  · obtain ⟨R, C, rfl⟩ : ∃ (R : Fin 8256) (C : Fin 1024), y = ix2 R C := ⟨y 0, y 1, eq_ix2 y⟩
    have ht : R.1 / 688 < cfg0.N := lt_of_lt_of_eq (by omega) N_0.symm
    refine ⟨⟨_, ht⟩, flush0_5 _, ?_⟩
    have h := ((cfg0.win 5).blk ⟨_, ht⟩).view.emb_mem_set (ix2 (⟨R.1 % 688, by omega⟩ : Fin 688) C)
    rw [emb5 _ _ _ (by dsimp only; omega)] at h
    refine (congrArg (· ∈ ((cfg0.win 5).blk ⟨_, ht⟩).view.set) (congrArg (ix2 · C) (Fin.ext ?_))).mp h
    dsimp only; omega

end Cert.Kernel12Ideal.Value

namespace Cert.Reference12Ideal.Value

open Cert.Reference12Ideal Cert.Reference12Ideal.Gen Idealize.ShloMosaic

theorem ref_eq (x : FVec Ideal S8256x2048 .bf16) (w : FVec Ideal S2048x1024 .bf16) (r : FVec Ideal S8256x1024 .f32) :
    (addf r (Host.dotGeneral dot_S8256x2048_S2048x1024_S8256x1024_1_0_0_1_n_n none (extf .f32 x bitsLt_bf16_f32) (extf .f32 w bitsLt_bf16_f32)) : FVec Ideal S8256x1024 .f32)
      = Cert.Kernel12Ideal.Value.G x w r := by
  funext y
  obtain ⟨R, C, rfl⟩ : ∃ (R : Fin 8256) (C : Fin 1024), y = ix2 R C := ⟨y 0, y 1, eq_ix2 y⟩
  refine Eq.trans ?_ (add_comm (r (ix2 R C) : EReal) (∑ k : Fin 2048, (x (ix2 R k) * w (ix2 k C) : EReal)))
  pointwise

theorem ref2_eq (s : FVec Ideal S8256x1024 .f32) (nw : FVec Ideal S1x1024 .f32) (R : Fin 8256) (C : Fin 1024) :
    ((truncf (F := Ideal) (φ := .f32) .bf16 (mulf (mulf s (broadcastInDim S8256x1024 ![0, 1] bcast_S8256x1_S8256x1024_0_1 (Host.rsqrt (addf (Host.divf (broadcastInDim S8256x1 ![0] bcast_S8256_S8256x1_0 (Host.reduceAdd (mulf s s) (constant S_ .f32 0x00000000#32) reducesTo_S8256x1024_S8256_d1 h_S_)) (broadcastInDim S8256x1 ![] bcast_S_S8256x1 (constant S_ .f32 0x44800000#32))) (broadcastInDim S8256x1 ![] bcast_S_S8256x1 (constant S_ .f32 0x358637BD#32)))))) (broadcastInDim S8256x1024 ![0, 1] bcast_S1x1024_S8256x1024_0_1 nw)) bitsLt_bf16_f32 : FVec Ideal S8256x1024 .bf16) (ix2 R C) : EReal)
      = rms (fun k => (s (ix2 R k) : EReal)) (s (ix2 R C) : EReal) (nw (ix2 0 C) : EReal) := by
  unfold rms
  pointwise

end Cert.Reference12Ideal.Value

namespace Cert.Proof

open Idealize.ShloMosaic Idealize.ShloMosaic.TcCoe Idealize.SL.Sem

theorem outp_frame : quiescent_Kernel12 := fun m ρ _ => Cert.Kernel12.Gen.frame m ρ
theorem outp_frameI : quiescent_Kernel12Ideal := fun m ρ _ => Cert.Kernel12Ideal.Gen.frame m ρ
theorem outp_frameR : quiescent_Reference12Ideal := fun m ρ _ =>
  (θ_run Cert.Reference12Ideal.defs _ _).mono (fun r h => ⟨fun c => (h c).2.2, sem_eq_zero_of_no_sems (by decide) _⟩) (Cert.Reference12Ideal.Value.run m ρ)

theorem outp_value : algebraic_Kernel12Ideal_Reference12Ideal := fun m ρ m' ρ' _ hag => by
  refine ⟨fun c => Cert.Kernel12Ideal.Value.G (m ((c : Thread Cert.Kernel12Ideal.nD Cert.Kernel12Ideal.τ).loc Cert.Kernel12Ideal.main_arg0))
      (m ((c : Thread Cert.Kernel12Ideal.nD Cert.Kernel12Ideal.τ).loc Cert.Kernel12Ideal.main_arg1))
      (m ((c : Thread Cert.Kernel12Ideal.nD Cert.Kernel12Ideal.τ).loc Cert.Kernel12Ideal.main_arg2)),
    fun c => Cert.Kernel12Ideal.Value.H (m ((c : Thread Cert.Kernel12Ideal.nD Cert.Kernel12Ideal.τ).loc Cert.Kernel12Ideal.main_arg0))
      (m ((c : Thread Cert.Kernel12Ideal.nD Cert.Kernel12Ideal.τ).loc Cert.Kernel12Ideal.main_arg1))
      (m ((c : Thread Cert.Kernel12Ideal.nD Cert.Kernel12Ideal.τ).loc Cert.Kernel12Ideal.main_arg2))
      (m ((c : Thread Cert.Kernel12Ideal.nD Cert.Kernel12Ideal.τ).loc Cert.Kernel12Ideal.main_arg3)), ?_, ?_⟩
  · exact (θ_run Cert.Kernel12Ideal.defs _ _).mono (fun r h c =>
      ⟨(h c).1.trans (Cert.Kernel12Ideal.Value.final4 m c), (h c).2.1.trans (Cert.Kernel12Ideal.Value.final5 m c), (h c).2.2⟩)
      (Cert.Kernel12Ideal.Value.run_blocks m ρ)
  · refine (θ_run Cert.Reference12Ideal.defs _ _).mono (fun r h c => ⟨(h c).1.trans ?_, (h c).2.1.trans ?_, (h c).2.2⟩) (Cert.Reference12Ideal.Value.run m' ρ')
    · rw [(hag c).1, (hag c).2.1, (hag c).2.2.1]
      exact Cert.Reference12Ideal.Value.ref_eq _ _ _
    · rw [(hag c).1, (hag c).2.1, (hag c).2.2.1, (hag c).2.2.2, Cert.Reference12Ideal.Value.ref_eq]
      funext y
      obtain ⟨R, C, rfl⟩ : ∃ (R : Fin 8256) (C : Fin 1024), y = ix2 R C := ⟨y 0, y 1, eq_ix2 y⟩
      exact Cert.Reference12Ideal.Value.ref2_eq _ _ R C

end Cert.Proof
end
-- ==== Proof.Dwout.lean ====
module

public import proofs.«01_k».proof.Defs
public import proofs.«01_k».proof.Proof.Common
public import proofs.«01_k».proof.Proof.Gen.Kernel13.Frame
public import proofs.«01_k».proof.Proof.Gen.Kernel13Ideal.Value
public import proofs.«01_k».proof.Proof.Gen.Reference13Ideal.Run
public import Idealize.ShloMosaic.Lib.Quiescent

/-! The gradients of the mixers' output weights: blocks of rows are contracted one after another into an accumulator that starts with the first block's product
and is cut to the result after the last; the reference forms the transposed product of the whole arrays. -/

@[expose] public section

set_option maxRecDepth 16384

noncomputable section

namespace Cert.Kernel13Ideal.Value

open Cert.Kernel13Ideal Cert.Kernel13Ideal.Gen Idealize.ShloMosaic Idealize.ShloMosaic.TcCoe Idealize.SL.Sem

theorem pay2_congr {a a' : FVec Ideal S1024x1024 .f32} {b b' : FVec Ideal S2752x1024 .bf16} {d d' : FVec Ideal S2752x1024 .bf16} (h : a = a') (h' : b = b') (h'' : d = d') :
      k0_pay2 (F := Ideal) a b d = k0_pay2 (F := Ideal) a' b' d' := by rw [h, h', h'']

section stores

variable (c : Dev nD) (i : grid0.Coords) (arg3 : Memref sig .tc .vmem S2752x1024 .bf16) (harg3 : arg3.IsWhole) (arg4 : Memref sig .tc .vmem S2752x1024 .bf16) (harg4 : arg4.IsWhole) (arg5 : Memref sig .tc .vmem S1024x1024 .bf16) (harg5 : arg5.IsWhole) (arg6 : Memref sig .tc .vmem S1024x1024 .f32) (harg6 : arg6.IsWhole)
  (x0 : FVec Ideal S2752x1024 .bf16) (x1 : FVec Ideal S2752x1024 .bf16) (xs0 : FVec Ideal S1024x1024 .f32)

theorem outA (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 (F := Ideal) x0 x1 := by
  unfold sout0_A_0
  rw [View.read_writes_junk_eq_canon]
  unfold kernelRun0_A
  dsimp only
  refine (View.canon_unit_zero (S := S1024x1024) vec2_zero _ _).trans ?_
  exact congrArg₂ (k0_pay1 (F := Ideal)) (read_whole arg3 harg3 x0 vec2_zero _) (read_whole arg4 harg4 x1 vec2_zero _)

theorem outB (hc0 : ¬cond0_0 i) (hc1 : cond0_1 i) (hc2 : ¬cond0_2 i) :
    sout0_B_0 (F := Ideal) c i arg3 harg3 arg4 harg4 arg5 harg5 arg6 harg6 hc0 hc1 hc2 x0 x1 xs0 = k0_pay2 (F := Ideal) xs0 x0 x1 := by
  unfold sout0_B_0
  rw [View.read_writes_junk_eq_canon]
  unfold kernelRun0_B
  dsimp only
  refine (View.canon_unit_zero (S := S1024x1024) vec2_zero _ _).trans ?_
  exact pay2_congr (read_whole arg6 harg6 xs0 vec2_zero _) (read_whole arg3 harg3 x0 vec2_zero _) (read_whole arg4 harg4 x1 vec2_zero _)

theorem outC (hc0 : ¬cond0_0 i) (hc1 : cond0_1 i) (hc2 : cond0_2 i) :
    out0_C_2 (F := Ideal) c i arg3 harg3 arg4 harg4 arg5 harg5 arg6 harg6 hc0 hc1 hc2 x0 x1 xs0 = k0_pay3 (F := Ideal) (k0_pay2 (F := Ideal) xs0 x0 x1) := by
  unfold out0_C_2
  rw [View.read_writes_junk_eq_canon]
  unfold kernelRun0_C
  dsimp only
  refine (View.canon_unit_zero (S := S1024x1024) vec2_zero _ _).trans ?_
  unfold kernelRun0_C.sl.v9 kernelRun0_C.sl.HS0_1
  refine congrArg (k0_pay3 (F := Ideal)) ((View.readCov_full _ _ _ _ _).trans ?_)
  exact pay2_congr (read_whole arg6 harg6 xs0 vec2_zero _) (read_whole arg3 harg3 x0 vec2_zero _) (read_whole arg4 harg4 x1 vec2_zero _)

end stores

/-- A term of a block's product at one index. -/
def prod (x : FVec Ideal S2752x1024 .bf16) (w : FVec Ideal S2752x1024 .bf16) (R : Fin 1024) (C : Fin 1024) (k : Fin 2752) : EReal :=
  (x (ix2 k R) * w (ix2 k C) : EReal)

theorem pay1 (x : FVec Ideal S2752x1024 .bf16) (w : FVec Ideal S2752x1024 .bf16) (R : Fin 1024) (C : Fin 1024) :
    (k0_pay1 (F := Ideal) x w (ix2 R C) : EReal) = ∑ k : Fin 2752, prod x w R C k := by
  unfold prod k0_pay1
  pointwise

theorem pay2 (a : FVec Ideal S1024x1024 .f32) (x : FVec Ideal S2752x1024 .bf16) (w : FVec Ideal S2752x1024 .bf16) (R : Fin 1024) (C : Fin 1024) :
    (k0_pay2 (F := Ideal) a x w (ix2 R C) : EReal) = (a (ix2 R C) : EReal) + ∑ k : Fin 2752, prod x w R C k := by
  unfold prod k0_pay2
  pointwise

theorem pay3 (a : FVec Ideal S1024x1024 .f32) : (k0_pay3 (F := Ideal) a : S1024x1024.Idx → EReal) = a := rfl

theorem idx0 : ∀ t : Fin cfg0.N, win0_0.index t (0 : Fin 2) = t.1 % 3 ∧ win0_0.index t (1 : Fin 2) = t.1 / 3 := (by decide +kernel : ∀ t : Fin grid0.N, _)
theorem idx1 : ∀ t : Fin cfg0.N, win0_1.index t (0 : Fin 2) = t.1 % 3 ∧ win0_1.index t (1 : Fin 2) = 0 := (by decide +kernel : ∀ t : Fin grid0.N, _)
theorem idx2 : ∀ t : Fin cfg0.N, win0_2.index t (0 : Fin 2) = t.1 / 3 ∧ win0_2.index t (1 : Fin 2) = 0 := (by decide +kernel : ∀ t : Fin grid0.N, _)

/-- The terms of the result at one index. -/
def term (x : FVec Ideal S8256x2048 .bf16) (w : FVec Ideal S8256x1024 .bf16) (R : Fin 2048) (C : Fin 1024) : Fin 8256 → EReal :=
  fun k => (x (ix2 k R) * w (ix2 k C) : EReal)

/-- The result: the product of the first array, transposed, with the second. -/
def G (x : FVec Ideal S8256x2048 .bf16) (w : FVec Ideal S8256x1024 .bf16) : FVec Ideal S2048x1024 .bf16 :=
  fun y => ∑ k : Fin 8256, term x w (y 0) (y 1) k

variable (m : (ℓ : Loc nD τ sig) → Buf (Elt Ideal) ℓ) (c : Dev nD)

theorem iblk0 (t : Fin cfg0.N) (R : Fin 2752) (C : Fin 1024) (h : t.1 % 3 * 2752 + R.1 < 8256) (h' : t.1 / 3 * 1024 + C.1 < 2048) :
    (iblk m c 0 t : FVec Ideal S2752x1024 .bf16) (ix2 R C)
      = (V m c main_arg0 : FVec Ideal S8256x2048 .bf16) (ix2 ⟨t.1 % 3 * 2752 + R.1, h⟩ ⟨t.1 / 3 * 1024 + C.1, h'⟩) := by
  obtain ⟨e0, e1⟩ := idx0 t
  refine congrArg (V m c main_arg0) (funext fun a => Fin.ext ?_)
  match a with
  | ⟨0, _⟩ => show win0_0.index t (0 : Fin 2) * 2752 + 1 * R.1 = t.1 % 3 * 2752 + R.1; omega
  | ⟨1, _⟩ => show win0_0.index t (1 : Fin 2) * 1024 + 1 * C.1 = t.1 / 3 * 1024 + C.1; omega

theorem iblk1 (t : Fin cfg0.N) (R : Fin 2752) (C : Fin 1024) (h : t.1 % 3 * 2752 + R.1 < 8256) :
    (iblk m c 1 t : FVec Ideal S2752x1024 .bf16) (ix2 R C) = (V m c main_arg1 : FVec Ideal S8256x1024 .bf16) (ix2 ⟨t.1 % 3 * 2752 + R.1, h⟩ C) := by
  obtain ⟨e0, e1⟩ := idx1 t
  refine congrArg (V m c main_arg1) (funext fun a => Fin.ext ?_)
  match a with
  | ⟨0, _⟩ => show win0_1.index t (0 : Fin 2) * 2752 + 1 * R.1 = t.1 % 3 * 2752 + R.1; omega
  | ⟨1, _⟩ => show win0_1.index t (1 : Fin 2) * 1024 + 1 * C.1 = C.1; omega

theorem emb2 (t : Fin cfg0.N) (R : Fin 1024) (C : Fin 1024) (h : t.1 / 3 * 1024 + R.1 < 2048) :
    ((cfg0.win 2).blk t).view.emb (ix2 R C) = ix2 ⟨t.1 / 3 * 1024 + R.1, h⟩ C := by
  obtain ⟨e0, e1⟩ := idx2 t
  funext a; apply Fin.ext
  match a with
  | ⟨0, _⟩ => show win0_2.index t (0 : Fin 2) * 1024 + 1 * R.1 = t.1 / 3 * 1024 + R.1; omega
  | ⟨1, _⟩ => show win0_2.index t (1 : Fin 2) * 1024 + 1 * C.1 = C.1; omega

/-- The sum of the terms up to a point's block: that up to the block before, and the point's product. -/
theorem block (t : Fin cfg0.N) (R : Fin 1024) (C : Fin 1024) (h : t.1 / 3 * 1024 + R.1 < 2048) :
    ∑ j ∈ Finset.range ((t.1 % 3 + 1) * 2752), ext (term (V m c main_arg0) (V m c main_arg1) ⟨t.1 / 3 * 1024 + R.1, h⟩ C) j
      = ∑ j ∈ Finset.range (t.1 % 3 * 2752), ext (term (V m c main_arg0) (V m c main_arg1) ⟨t.1 / 3 * 1024 + R.1, h⟩ C) j
        + ∑ k : Fin 2752, prod (iblk m c 0 t) (iblk m c 1 t) R C k := by
  refine sum_blocks_succ _ _ _ _ fun k => ?_
  have hk : t.1 % 3 * 2752 + k.1 < 8256 := by omega
  rw [ext_of_lt _ _ hk]
  exact congrArg₂ (fun a b : EReal => a * b) (iblk0 m c t k R hk h) (iblk1 m c t k C hk)

/-- What the accumulator holds after a point: the sum of the terms of the blocks so far. -/
theorem acc (n : Nat) (hn : n < cfg0.N) (R : Fin 1024) (C : Fin 1024) (h : n / 3 * 1024 + R.1 < 2048) (h5 : n % 3 ≠ 2) :
    ((outsAt0 m c n hn).2 (ix2 R C) : EReal)
      = ∑ j ∈ Finset.range ((n % 3 + 1) * 2752), ext (term (V m c main_arg0) (V m c main_arg1) ⟨n / 3 * 1024 + R.1, h⟩ C) j := by
  induction n with
  | zero =>
    rw [block m c ⟨0, hn⟩ R C h, outsAt0_A m c ⟨0, hn⟩ rfl (by dsimp only; omega) (by dsimp only; omega)]
    dsimp only
    rw [outA, pay1]
    exact (zero_add _).symm
  | succ n ih =>
    rw [block m c ⟨n + 1, hn⟩ R C h]
    by_cases h0 : (n + 1) % 3 = 0
    · rw [outsAt0_A m c ⟨n + 1, hn⟩ h0 (by dsimp only; omega) h5]
      dsimp only
      rw [outA, pay1, h0, Nat.zero_mul, Finset.range_zero, Finset.sum_empty, zero_add]
    · have e : n % 3 + 1 = (n + 1) % 3 := by omega
      have e' : n / 3 = (n + 1) / 3 := by omega
      have ih := ih (Nat.lt_of_succ_lt hn) (by omega) (by omega)
      simp only [e, e'] at ih
      rw [outsAt0_B m c ⟨n + 1, hn⟩ h0 (by dsimp only; omega) h5]
      dsimp only
      rw [outB, pay2]
      exact congrArg (fun a : EReal => a + _) ih

/-- What the last point of a block of columns leaves for the result. -/
theorem last (t : Fin cfg0.N) (h5 : t.1 % 3 = 2) (R : Fin 1024) (C : Fin 1024) (h : t.1 / 3 * 1024 + R.1 < 2048) :
    ((outsAt0 m c t.1 t.isLt).1 (ix2 R C) : EReal) = G (V m c main_arg0) (V m c main_arg1) (ix2 ⟨t.1 / 3 * 1024 + R.1, h⟩ C) := by
  have key := block m c t R C h
  have a := acc m c (t.1 - 1) (Nat.lt_of_le_of_lt (Nat.sub_le _ _) t.isLt) R C (by omega) (by omega)
  have e : (t.1 - 1) % 3 + 1 = t.1 % 3 := by omega
  have e' : (t.1 - 1) / 3 = t.1 / 3 := by omega
  simp only [e, e'] at a
  rw [← a, h5] at key
  refine Eq.trans ?_ (key.symm.trans (sum_ext _))
  rw [outsAt0_C m c t (by omega) (by omega) h5]
  dsimp only
  rw [outC, pay3, pay2]

theorem final : (dats m 0 c).arrAt 2 cfg0.N = G (m ((c : Thread nD τ).loc main_arg0)) (m ((c : Thread nD τ).loc main_arg1)) := by
  refine (dats m 0 c).arrAt_eq_of_cover 2 _ (fun t ht => ?_) fun y => ?_
  · have hN : t.1 < 6 := lt_of_lt_of_eq t.isLt N_0
    have h5 := (flush0_2 t).mp ht
    rw [flushed2]
    funext y
    obtain ⟨R, C, rfl⟩ : ∃ (R : Fin 1024) (C : Fin 1024), y = ix2 R C := ⟨y 0, y 1, eq_ix2 y⟩
    exact (last m c t h5 R C (by omega)).trans (congrArg (G _ _) (emb2 t R C (by omega))).symm
  · obtain ⟨R, C, rfl⟩ : ∃ (R : Fin 2048) (C : Fin 1024), y = ix2 R C := ⟨y 0, y 1, eq_ix2 y⟩
    have ht : R.1 / 1024 * 3 + 2 < cfg0.N := lt_of_lt_of_eq (by omega) N_0.symm
    refine ⟨⟨_, ht⟩, (flush0_2 _).mpr (by dsimp only; omega), ?_⟩
    have h := ((cfg0.win 2).blk ⟨_, ht⟩).view.emb_mem_set (ix2 (⟨R.1 % 1024, by omega⟩ : Fin 1024) C)
    rw [emb2 _ _ _ (by dsimp only; omega)] at h
    refine (congrArg (· ∈ ((cfg0.win 2).blk ⟨_, ht⟩).view.set) (congrArg (ix2 · C) (Fin.ext ?_))).mp h
    dsimp only; omega

end Cert.Kernel13Ideal.Value

namespace Cert.Reference13Ideal.Value

open Cert.Reference13Ideal Cert.Reference13Ideal.Gen Idealize.ShloMosaic

theorem ref_eq (x : FVec Ideal S8256x2048 .bf16) (w : FVec Ideal S8256x1024 .bf16) :
    (truncf (F := Ideal) (φ := .f32) .bf16 (transpose S2048x1024 [1, 0] (Host.dotGeneral dot_S8256x1024_S8256x2048_S1024x2048_0_0_1_1_n_n none (extf .f32 w bitsLt_bf16_f32)
      (extf .f32 x bitsLt_bf16_f32) : FVec Ideal S1024x2048 .f32) transposes_S1024x2048_S2048x1024_1_0) bitsLt_bf16_f32 : FVec Ideal S2048x1024 .bf16)
      = Cert.Kernel13Ideal.Value.G x w := by
  funext y
  obtain ⟨R, C, rfl⟩ : ∃ (R : Fin 2048) (C : Fin 1024), y = ix2 R C := ⟨y 0, y 1, eq_ix2 y⟩
  refine Eq.trans ?_ (Finset.sum_congr rfl fun k _ => mul_comm (w (ix2 k C) : EReal) (x (ix2 k R) : EReal))
  pointwise

end Cert.Reference13Ideal.Value

namespace Cert.Proof

open Idealize.ShloMosaic Idealize.ShloMosaic.TcCoe Idealize.SL.Sem

theorem dwout_frame : quiescent_Kernel13 := fun m ρ _ => Cert.Kernel13.Gen.frame m ρ
theorem dwout_frameI : quiescent_Kernel13Ideal := fun m ρ _ => Cert.Kernel13Ideal.Gen.frame m ρ
theorem dwout_frameR : quiescent_Reference13Ideal := fun m ρ _ =>
  (θ_run Cert.Reference13Ideal.defs _ _).mono (fun r h => ⟨fun c => (h c).2, sem_eq_zero_of_no_sems (by decide) _⟩) (Cert.Reference13Ideal.Value.run m ρ)

theorem dwout_value : algebraic_Kernel13Ideal_Reference13Ideal := fun m ρ m' ρ' _ hag => by
  refine ⟨fun c => Cert.Kernel13Ideal.Value.G (m ((c : Thread Cert.Kernel13Ideal.nD Cert.Kernel13Ideal.τ).loc Cert.Kernel13Ideal.main_arg0))
    (m ((c : Thread Cert.Kernel13Ideal.nD Cert.Kernel13Ideal.τ).loc Cert.Kernel13Ideal.main_arg1)), ?_, ?_⟩
  · exact (θ_run Cert.Kernel13Ideal.defs _ _).mono (fun r h c => ⟨(h c).1.trans (Cert.Kernel13Ideal.Value.final m c), (h c).2⟩)
      (Cert.Kernel13Ideal.Value.run_blocks m ρ)
  · refine (θ_run Cert.Reference13Ideal.defs _ _).mono (fun r h c => ⟨(h c).1.trans ?_, (h c).2⟩) (Cert.Reference13Ideal.Value.run m' ρ')
    rw [(hag c).1, (hag c).2]
    exact Cert.Reference13Ideal.Value.ref_eq _ _

end Cert.Proof
end
-- ==== Proof.Downn.lean ====
module

public import proofs.«01_k».proof.Defs
public import proofs.«01_k».proof.Proof.Rms
public import proofs.«01_k».proof.Proof.Gen.Kernel14.Frame
public import proofs.«01_k».proof.Proof.Gen.Kernel14Ideal.Value
public import proofs.«01_k».proof.Proof.Gen.Reference14Ideal.Run
public import Idealize.ShloMosaic.Lib.Quiescent

/-! The first FFN's down projection: a block of rows times the whole of the weights, plus what the residual
stream held; the rows of that sum are also normed by their mean square and weighted. -/

@[expose] public section

set_option maxRecDepth 16384

noncomputable section

namespace Cert.Kernel14Ideal.Value

open Cert.Kernel14Ideal Cert.Kernel14Ideal.Gen Idealize.ShloMosaic Idealize.ShloMosaic.TcCoe Idealize.SL.Sem

theorem idx0 : ∀ t : Fin cfg0.N, win0_0.index t (0 : Fin 2) = t.1 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = t.1 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = t.1 ∧ win0_4.index t (1 : Fin 2) = 0 := (by decide +kernel : ∀ t : Fin grid0.N, _)
theorem idx5 : ∀ t : Fin cfg0.N, win0_5.index t (0 : Fin 2) = t.1 ∧ win0_5.index t (1 : Fin 2) = 0 := (by decide +kernel : ∀ t : Fin grid0.N, _)

theorem pay1 (x : FVec Ideal S688x2816 .bf16) (w : FVec Ideal S2816x1024 .bf16) (r : FVec Ideal S688x1024 .f32) (R : Fin 688) (C : Fin 1024) :
    (k0_pay1 (F := Ideal) x w r (ix2 R C) : EReal) = (∑ k : Fin 2816, (x (ix2 R k) * w (ix2 k C) : EReal)) + (r (ix2 R C) : EReal) := by
  unfold k0_pay1
  pointwise

theorem pay2 (x : FVec Ideal S688x2816 .bf16) (w : FVec Ideal S2816x1024 .bf16) (r : FVec Ideal S688x1024 .f32) (nw : FVec Ideal S1x1024 .f32) (R : Fin 688)
    (C : Fin 1024) :
    (k0_pay2 (F := Ideal) x w r nw (ix2 R C) : EReal)
      = rms (fun k => (k0_pay1 (F := Ideal) x w r (ix2 R k) : EReal)) (k0_pay1 (F := Ideal) x w r (ix2 R C) : EReal) (nw (ix2 0 C) : EReal) := by
  unfold k0_pay2 rms
  pointwise

theorem out4_eq (x : FVec Ideal S688x2816 .bf16) (w : FVec Ideal S2816x1024 .bf16) (r : FVec Ideal S688x1024 .f32) (nw : FVec Ideal S1x1024 .f32) :
    out0_4 (F := Ideal) x w r nw = k0_pay1 (F := Ideal) x w r := by
  unfold out0_4
  rw [View.canon_unit_zero vec2_zero, View.ld_unit_zero vec2_zero, View.ld_unit_zero vec2_zero, View.ld_unit_zero vec2_zero]

theorem out5_eq (x : FVec Ideal S688x2816 .bf16) (w : FVec Ideal S2816x1024 .bf16) (r : FVec Ideal S688x1024 .f32) (nw : FVec Ideal S1x1024 .f32) :
    out0_5 (F := Ideal) x w r nw = k0_pay2 (F := Ideal) x w r nw := by
  unfold out0_5
  rw [View.canon_unit_zero vec2_zero, View.ld_unit_zero vec2_zero, View.ld_unit_zero vec2_zero, View.ld_unit_zero vec2_zero, View.ld_unit_zero vec2_zero]

/-- The first result: the product of the first two arrays, plus the third. -/
def G (x : FVec Ideal S8256x2816 .bf16) (w : FVec Ideal S2816x1024 .bf16) (r : FVec Ideal S8256x1024 .f32) : FVec Ideal S8256x1024 .f32 :=
  fun y => (∑ k : Fin 2816, (x (ix2 (y 0) k) * w (ix2 k (y 1)) : EReal)) + (r (ix2 (y 0) (y 1)) : EReal)

/-- The second result: the rows of the first, normed and weighted. -/
def H (x : FVec Ideal S8256x2816 .bf16) (w : FVec Ideal S2816x1024 .bf16) (r : FVec Ideal S8256x1024 .f32) (nw : FVec Ideal S1x1024 .f32) :
    FVec Ideal S8256x1024 .bf16 :=
  fun y => rms (fun k => (G x w r (ix2 (y 0) k) : EReal)) (G x w r (ix2 (y 0) (y 1)) : EReal) (nw (ix2 0 (y 1)) : EReal)

variable (m : (ℓ : Loc nD τ sig) → Buf (Elt Ideal) ℓ) (c : Dev nD)

theorem iblk0 (t : Fin cfg0.N) (R : Fin 688) (C : Fin 2816) (h : t.1 * 688 + R.1 < 8256) :
    (iblk m c 0 t : FVec Ideal S688x2816 .bf16) (ix2 R C) = (V m c main_arg0 : FVec Ideal S8256x2816 .bf16) (ix2 ⟨t.1 * 688 + R.1, h⟩ C) := by
  obtain ⟨e0, e1⟩ := idx0 t
  refine congrArg (V m c main_arg0) (funext fun a => Fin.ext ?_)
  match a with
  | ⟨0, _⟩ => show win0_0.index t (0 : Fin 2) * 688 + 1 * R.1 = t.1 * 688 + R.1; omega
  | ⟨1, _⟩ => show win0_0.index t (1 : Fin 2) * 2816 + 1 * C.1 = C.1; omega

theorem iblk1 (t : Fin cfg0.N) (R : Fin 2816) (C : Fin 1024) :
    (iblk m c 1 t : FVec Ideal S2816x1024 .bf16) (ix2 R C) = (V m c main_arg1 : FVec Ideal S2816x1024 .bf16) (ix2 R C) := by
  obtain ⟨e0, e1⟩ := idx1 t
  refine congrArg (V m c main_arg1) (funext fun a => Fin.ext ?_)
  match a with
  | ⟨0, _⟩ => show win0_1.index t (0 : Fin 2) * 2816 + 1 * R.1 = R.1; omega
  | ⟨1, _⟩ => show win0_1.index t (1 : Fin 2) * 1024 + 1 * C.1 = C.1; omega

theorem iblk2 (t : Fin cfg0.N) (R : Fin 688) (C : Fin 1024) (h : t.1 * 688 + R.1 < 8256) :
    (iblk m c 2 t : FVec Ideal S688x1024 .f32) (ix2 R C) = (V m c main_arg2 : FVec Ideal S8256x1024 .f32) (ix2 ⟨t.1 * 688 + R.1, h⟩ C) := by
  obtain ⟨e0, e1⟩ := idx2 t
  refine congrArg (V m c main_arg2) (funext fun a => Fin.ext ?_)
  match a with
  | ⟨0, _⟩ => show win0_2.index t (0 : Fin 2) * 688 + 1 * R.1 = t.1 * 688 + R.1; omega
  | ⟨1, _⟩ => show win0_2.index t (1 : Fin 2) * 1024 + 1 * C.1 = C.1; omega

theorem iblk3 (t : Fin cfg0.N) (R : Fin 1) (C : Fin 1024) :
    (iblk m c 3 t : FVec Ideal S1x1024 .f32) (ix2 R C) = (V m c main_arg3 : FVec Ideal S1x1024 .f32) (ix2 R C) := by
  obtain ⟨e0, e1⟩ := idx3 t
  refine congrArg (V m c main_arg3) (funext fun a => Fin.ext ?_)
  match a with
  | ⟨0, _⟩ => show win0_3.index t (0 : Fin 2) * 1 + 1 * R.1 = R.1; omega
  | ⟨1, _⟩ => show win0_3.index t (1 : Fin 2) * 1024 + 1 * C.1 = C.1; omega

theorem emb4 (t : Fin cfg0.N) (R : Fin 688) (C : Fin 1024) (h : t.1 * 688 + R.1 < 8256) :
    ((cfg0.win 4).blk t).view.emb (ix2 R C) = ix2 ⟨t.1 * 688 + R.1, h⟩ C := by
  obtain ⟨e0, e1⟩ := idx4 t
  funext a; apply Fin.ext
  match a with
  | ⟨0, _⟩ => show win0_4.index t (0 : Fin 2) * 688 + 1 * R.1 = t.1 * 688 + R.1; omega
  | ⟨1, _⟩ => show win0_4.index t (1 : Fin 2) * 1024 + 1 * C.1 = C.1; omega

theorem emb5 (t : Fin cfg0.N) (R : Fin 688) (C : Fin 1024) (h : t.1 * 688 + R.1 < 8256) :
    ((cfg0.win 5).blk t).view.emb (ix2 R C) = ix2 ⟨t.1 * 688 + R.1, h⟩ C := by
  obtain ⟨e0, e1⟩ := idx5 t
  funext a; apply Fin.ext
  match a with
  | ⟨0, _⟩ => show win0_5.index t (0 : Fin 2) * 688 + 1 * R.1 = t.1 * 688 + R.1; omega
  | ⟨1, _⟩ => show win0_5.index t (1 : Fin 2) * 1024 + 1 * C.1 = C.1; omega

/-- A point's sum is the first result's block. -/
theorem sum_eq (t : Fin cfg0.N) (R : Fin 688) (C : Fin 1024) (h : t.1 * 688 + R.1 < 8256) :
    (k0_pay1 (F := Ideal) (iblk m c 0 t) (iblk m c 1 t) (iblk m c 2 t) (ix2 R C) : EReal)
      = G (V m c main_arg0) (V m c main_arg1) (V m c main_arg2) (ix2 ⟨t.1 * 688 + R.1, h⟩ C) :=
  (pay1 _ _ _ R C).trans (congrArg₂ (fun a b : EReal => a + b)
    (Finset.sum_congr rfl fun k _ => congrArg₂ (fun a b : EReal => a * b) (iblk0 m c t R k h) (iblk1 m c t k C)) (iblk2 m c t R C h))

theorem final4 : (dats m 0 c).arrAt 4 cfg0.N
    = G (m ((c : Thread nD τ).loc main_arg0)) (m ((c : Thread nD τ).loc main_arg1)) (m ((c : Thread nD τ).loc main_arg2)) := by
  refine (dats m 0 c).arrAt_eq_of_cover 4 _ (fun t _ => ?_) fun y => ?_
  · have hN : t.1 < 12 := lt_of_lt_of_eq t.isLt N_0
    rw [flushed4, out4_eq]
    funext y
    obtain ⟨R, C, rfl⟩ : ∃ (R : Fin 688) (C : Fin 1024), y = ix2 R C := ⟨y 0, y 1, eq_ix2 y⟩
    exact (sum_eq m c t R C (by omega)).trans (congrArg (G _ _ _) (emb4 t R C (by omega))).symm
  · obtain ⟨R, C, rfl⟩ : ∃ (R : Fin 8256) (C : Fin 1024), y = ix2 R C := ⟨y 0, y 1, eq_ix2 y⟩
    have ht : R.1 / 688 < cfg0.N := lt_of_lt_of_eq (by omega) N_0.symm
    refine ⟨⟨_, ht⟩, flush0_4 _, ?_⟩
    have h := ((cfg0.win 4).blk ⟨_, ht⟩).view.emb_mem_set (ix2 (⟨R.1 % 688, by omega⟩ : Fin 688) C)
    rw [emb4 _ _ _ (by dsimp only; omega)] at h
    refine (congrArg (· ∈ ((cfg0.win 4).blk ⟨_, ht⟩).view.set) (congrArg (ix2 · C) (Fin.ext ?_))).mp h
    dsimp only; omega

theorem final5 : (dats m 0 c).arrAt 5 cfg0.N
    = H (m ((c : Thread nD τ).loc main_arg0)) (m ((c : Thread nD τ).loc main_arg1)) (m ((c : Thread nD τ).loc main_arg2)) (m ((c : Thread nD τ).loc main_arg3)) := by
  refine (dats m 0 c).arrAt_eq_of_cover 5 _ (fun t _ => ?_) fun y => ?_
  · have hN : t.1 < 12 := lt_of_lt_of_eq t.isLt N_0
    rw [flushed5, out5_eq]
    funext y
    obtain ⟨R, C, rfl⟩ : ∃ (R : Fin 688) (C : Fin 1024), y = ix2 R C := ⟨y 0, y 1, eq_ix2 y⟩
    refine (pay2 _ _ _ _ R C).trans (Eq.trans ?_ (congrArg (H _ _ _ _) (emb5 t R C (by omega))).symm)
    rw [funext fun k => sum_eq m c t R k (by omega), sum_eq m c t R C (by omega)]
    exact congrArg (rms _ _) (iblk3 m c t 0 C)
  · obtain ⟨R, C, rfl⟩ : ∃ (R : Fin 8256) (C : Fin 1024), y = ix2 R C := ⟨y 0, y 1, eq_ix2 y⟩
    have ht : R.1 / 688 < cfg0.N := lt_of_lt_of_eq (by omega) N_0.symm
    refine ⟨⟨_, ht⟩, flush0_5 _, ?_⟩
    have h := ((cfg0.win 5).blk ⟨_, ht⟩).view.emb_mem_set (ix2 (⟨R.1 % 688, by omega⟩ : Fin 688) C)
    rw [emb5 _ _ _ (by dsimp only; omega)] at h
    refine (congrArg (· ∈ ((cfg0.win 5).blk ⟨_, ht⟩).view.set) (congrArg (ix2 · C) (Fin.ext ?_))).mp h
    dsimp only; omega

end Cert.Kernel14Ideal.Value

namespace Cert.Reference14Ideal.Value

open Cert.Reference14Ideal Cert.Reference14Ideal.Gen Idealize.ShloMosaic

theorem ref_eq (x : FVec Ideal S8256x2816 .bf16) (w : FVec Ideal S2816x1024 .bf16) (r : FVec Ideal S8256x1024 .f32) :
    (addf r (Host.dotGeneral dot_S8256x2816_S2816x1024_S8256x1024_1_0_0_1_n_n none (extf .f32 x bitsLt_bf16_f32) (extf .f32 w bitsLt_bf16_f32)) : FVec Ideal S8256x1024 .f32)
      = Cert.Kernel14Ideal.Value.G x w r := by
  funext y
  obtain ⟨R, C, rfl⟩ : ∃ (R : Fin 8256) (C : Fin 1024), y = ix2 R C := ⟨y 0, y 1, eq_ix2 y⟩
  refine Eq.trans ?_ (add_comm (r (ix2 R C) : EReal) (∑ k : Fin 2816, (x (ix2 R k) * w (ix2 k C) : EReal)))
  pointwise

theorem ref2_eq (s : FVec Ideal S8256x1024 .f32) (nw : FVec Ideal S1x1024 .f32) (R : Fin 8256) (C : Fin 1024) :
    ((truncf (F := Ideal) (φ := .f32) .bf16 (mulf (mulf s (broadcastInDim S8256x1024 ![0, 1] bcast_S8256x1_S8256x1024_0_1 (Host.rsqrt (addf (Host.divf (broadcastInDim S8256x1 ![0] bcast_S8256_S8256x1_0 (Host.reduceAdd (mulf s s) (constant S_ .f32 0x00000000#32) reducesTo_S8256x1024_S8256_d1 h_S_)) (broadcastInDim S8256x1 ![] bcast_S_S8256x1 (constant S_ .f32 0x44800000#32))) (broadcastInDim S8256x1 ![] bcast_S_S8256x1 (constant S_ .f32 0x358637BD#32)))))) (broadcastInDim S8256x1024 ![0, 1] bcast_S1x1024_S8256x1024_0_1 nw)) bitsLt_bf16_f32 : FVec Ideal S8256x1024 .bf16) (ix2 R C) : EReal)
      = rms (fun k => (s (ix2 R k) : EReal)) (s (ix2 R C) : EReal) (nw (ix2 0 C) : EReal) := by
  unfold rms
  pointwise

end Cert.Reference14Ideal.Value

namespace Cert.Proof

open Idealize.ShloMosaic Idealize.ShloMosaic.TcCoe Idealize.SL.Sem

theorem downn_frame : quiescent_Kernel14 := fun m ρ _ => Cert.Kernel14.Gen.frame m ρ
theorem downn_frameI : quiescent_Kernel14Ideal := fun m ρ _ => Cert.Kernel14Ideal.Gen.frame m ρ
theorem downn_frameR : quiescent_Reference14Ideal := fun m ρ _ =>
  (θ_run Cert.Reference14Ideal.defs _ _).mono (fun r h => ⟨fun c => (h c).2.2, sem_eq_zero_of_no_sems (by decide) _⟩) (Cert.Reference14Ideal.Value.run m ρ)

theorem downn_value : algebraic_Kernel14Ideal_Reference14Ideal := fun m ρ m' ρ' _ hag => by
  refine ⟨fun c => Cert.Kernel14Ideal.Value.G (m ((c : Thread Cert.Kernel14Ideal.nD Cert.Kernel14Ideal.τ).loc Cert.Kernel14Ideal.main_arg0))
      (m ((c : Thread Cert.Kernel14Ideal.nD Cert.Kernel14Ideal.τ).loc Cert.Kernel14Ideal.main_arg1))
      (m ((c : Thread Cert.Kernel14Ideal.nD Cert.Kernel14Ideal.τ).loc Cert.Kernel14Ideal.main_arg2)),
    fun c => Cert.Kernel14Ideal.Value.H (m ((c : Thread Cert.Kernel14Ideal.nD Cert.Kernel14Ideal.τ).loc Cert.Kernel14Ideal.main_arg0))
      (m ((c : Thread Cert.Kernel14Ideal.nD Cert.Kernel14Ideal.τ).loc Cert.Kernel14Ideal.main_arg1))
      (m ((c : Thread Cert.Kernel14Ideal.nD Cert.Kernel14Ideal.τ).loc Cert.Kernel14Ideal.main_arg2))
      (m ((c : Thread Cert.Kernel14Ideal.nD Cert.Kernel14Ideal.τ).loc Cert.Kernel14Ideal.main_arg3)), ?_, ?_⟩
  · exact (θ_run Cert.Kernel14Ideal.defs _ _).mono (fun r h c =>
      ⟨(h c).1.trans (Cert.Kernel14Ideal.Value.final4 m c), (h c).2.1.trans (Cert.Kernel14Ideal.Value.final5 m c), (h c).2.2⟩)
      (Cert.Kernel14Ideal.Value.run_blocks m ρ)
  · refine (θ_run Cert.Reference14Ideal.defs _ _).mono (fun r h c => ⟨(h c).1.trans ?_, (h c).2.1.trans ?_, (h c).2.2⟩) (Cert.Reference14Ideal.Value.run m' ρ')
    · rw [(hag c).1, (hag c).2.1, (hag c).2.2.1]
      exact Cert.Reference14Ideal.Value.ref_eq _ _ _
    · rw [(hag c).1, (hag c).2.1, (hag c).2.2.1, (hag c).2.2.2, Cert.Reference14Ideal.Value.ref_eq]
      funext y
      obtain ⟨R, C, rfl⟩ : ∃ (R : Fin 8256) (C : Fin 1024), y = ix2 R C := ⟨y 0, y 1, eq_ix2 y⟩
      exact Cert.Reference14Ideal.Value.ref2_eq _ _ R C

end Cert.Proof
end
-- ==== Proof.Gnormr.lean ====
module

public import proofs.«01_k».proof.Defs
public import proofs.«01_k».proof.Proof.GateNorm
public import proofs.«01_k».proof.Proof.Reduce2
public import proofs.«01_k».proof.Proof.Gen.Kernel15.Frame
public import proofs.«01_k».proof.Proof.Gen.Kernel15Ideal.Frame
public import proofs.«01_k».proof.Proof.Gen.Reference15Ideal.Run
public import Idealize.ShloMosaic.Lib.WholeRead
public import Idealize.ShloMosaic.Lib.Quiescent
public import Idealize.ShloMosaic.Lib.WordCmp

/-! The backward of the retention's output norm and gate: the heads' norms of 512 columns each, the gate's swish, and the weights the heads share.

A grid point takes 688 rows and the columns of two heads. It forms the output's gradient for those columns, and from it, head by head, the gradient of the norm's
argument, the gradient of the gate, and a share of the gradient of the norm's weights; the shares are added over all points into one row. The second result is the
projection's gradient, of which the call writes the gate's columns alone. -/

@[expose] public section

set_option maxRecDepth 16384

noncomputable section

namespace Cert.Kernel15Ideal.Value

open Cert.Kernel15Ideal Cert.Kernel15Ideal.Gen Idealize.ShloMosaic Idealize.ShloMosaic.TcCoe Idealize.SL.Sem

/-- A head's gradient of what the norm gives, from the gradient of the output and the gate: the body's operations. -/
def opDn (D : FVec Ideal S688x512 .f32) (G : FVec Ideal S688x512 .f32) : FVec Ideal S688x512 .f32 :=
  mulf D (mulf G (addf (mulf (broadcast S688x512 (Scalar.ofBits .f32 0x3F000000#32)) (tanh (mulf (broadcast S688x512 (Scalar.ofBits .f32 0x3F000000#32)) G)))
    (broadcast S688x512 (Scalar.ofBits .f32 0x3F000000#32))))

/-- The head's stored gradient of the norm's row. -/
def opDo (v : FVec Ideal S1x512 .f32) (O : FVec Ideal S688x512 .f32) (N : FVec Ideal S688x512 .f32) : FVec Ideal S688x512 .f32 :=
  k0_pay11 v (k0_pay5 O) (k0_pay6 O) N

/-- The head's stored gradient of the gate. -/
def opDg (v : FVec Ideal S1x512 .f32) (O : FVec Ideal S688x512 .f32) (G : FVec Ideal S688x512 .f32) (D : FVec Ideal S688x512 .f32) : FVec Ideal S688x512 .bf16 :=
  k0_pay10 G (mulf D (mulf (k0_pay6 O) (broadcastTo S688x512 v broadcasts_S1x512_S688x512))) (k0_pay9 G)

/-- A head's share of the gradient of the norm's weights, row by row. -/
def opDw (O : FVec Ideal S688x512 .f32) (N : FVec Ideal S688x512 .f32) : FVec Ideal S688x512 .f32 := mulf N (k0_pay6 O)

/-- The gradient of the output, of a head's columns. -/
def cols (off : Fin 2 → ℕ) (x : FVec Ideal S688x1024 .bf16) (w : FVec Ideal S1024x1024 .bf16) (h : S688x1024.Slices off S688x512) :
    FVec Ideal S688x512 .f32 :=
  extractStridedSlice S688x512 off (k0_pay2 x w) h

section
variable (x : FVec Ideal S688x1024 .bf16) (w : FVec Ideal S1024x1024 .bf16) (v : FVec Ideal S1x512 .f32) (O G : FVec Ideal S688x512 .f32)

theorem head0 : k0_pay11 v (k0_pay5 O) (k0_pay6 O) (k0_pay7 x w G) = opDo v O (opDn (cols _ x w slices_S688x1024_o0_0_S688x512) G) := rfl
theorem head1 : k0_pay19 v G (k0_pay13 (k0_pay2 x w)) (k0_pay14 O) (k0_pay15 O) (k0_pay16 G) = opDo v O (opDn (cols _ x w slices_S688x1024_o0_512_S688x512) G) := rfl

theorem gate0 : k0_pay10 G (k0_pay8 x w v O) (k0_pay9 G) = opDg v O G (cols _ x w slices_S688x1024_o0_0_S688x512) := rfl
theorem gate1 : k0_pay18 v G (k0_pay13 (k0_pay2 x w)) (k0_pay15 O) = opDg v O G (cols _ x w slices_S688x1024_o0_512_S688x512) := rfl
end

/-- A head's share added to what the heads before left. -/
def opAcc (a : FVec Ideal S1x512 .f32) (O : FVec Ideal S688x512 .f32) (N : FVec Ideal S688x512 .f32) : FVec Ideal S1x512 .f32 :=
  addf a (shapeCast S1x512 (multiReduction .add [0] S512 (opDw O N) 0x00000000#32 reduces_S688x512_S512 (.inl rfl) rfl) shapeCasts_S512_S1x512)

section
variable (x : FVec Ideal S688x1024 .bf16) (w : FVec Ideal S1024x1024 .bf16) (v : FVec Ideal S1x512 .f32) (O G : FVec Ideal S688x512 .f32) (a : FVec Ideal S1x512 .f32)

theorem acc0 : k0_pay12 a (k0_pay6 O) (k0_pay7 x w G) = opAcc a O (opDn (cols _ x w slices_S688x1024_o0_0_S688x512) G) := rfl
theorem acc1 : k0_pay20 a G (k0_pay13 (k0_pay2 x w)) (k0_pay15 O) (k0_pay16 G) = opAcc a O (opDn (cols _ x w slices_S688x1024_o0_512_S688x512) G) := rfl
end

theorem acc_at (a : FVec Ideal S1x512 .f32) (O N : FVec Ideal S688x512 .f32) (j : Fin 512) :
    (opAcc a O N (ix2 0 j) : EReal) = (a (ix2 0 j) : EReal) + ∑ R : Fin 688, (opDw O N (ix2 R j) : EReal) := by
  unfold opAcc
  generalize opDw O N = z
  pointwise

theorem dn_at (D G : FVec Ideal S688x512 .f32) (R : Fin 688) (j : Fin 512) :
    (opDn D G (ix2 R j) : EReal) = (D (ix2 R j) : EReal) * ((G (ix2 R j) : EReal) * logi (G (ix2 R j) : EReal)) := by
  unfold logi
  rw [← logistic_tanh]
  unfold opDn
  pointwise

theorem do_at (v : FVec Ideal S1x512 .f32) (O N : FVec Ideal S688x512 .f32) (R : Fin 688) (j : Fin 512) :
    (opDo v O N (ix2 R j) : EReal) = normBwd 0x44000000#32 (fun k => (O (ix2 R k) : EReal)) (fun k => (N (ix2 R k) : EReal) * (v (ix2 0 k) : EReal)) 0
      (O (ix2 R j) : EReal) ((N (ix2 R j) : EReal) * (v (ix2 0 j) : EReal)) := by
  refine Eq.trans ?_ (zero_add _).symm
  unfold opDo meanSq k0_pay11 k0_pay6 k0_pay5
  pointwise

theorem dg_at (v : FVec Ideal S1x512 .f32) (O G D : FVec Ideal S688x512 .f32) (R : Fin 688) (j : Fin 512) :
    (opDg v O G D (ix2 R j) : EReal) = gateBwd (D (ix2 R j) : EReal)
      ((O (ix2 R j) : EReal) * Ideal.rsqrt (meanSq 0x44000000#32 fun k => (O (ix2 R k) : EReal)) * (v (ix2 0 j) : EReal)) (G (ix2 R j) : EReal) := by
  unfold gateBwd logi
  rw [← logistic_tanh, ← ofBits_one]
  unfold opDg meanSq k0_pay10 k0_pay9 k0_pay6 k0_pay5
  pointwise

theorem dw_at (O N : FVec Ideal S688x512 .f32) (R : Fin 688) (j : Fin 512) :
    (opDw O N (ix2 R j) : EReal) = (N (ix2 R j) : EReal) * ((O (ix2 R j) : EReal) * Ideal.rsqrt (meanSq 0x44000000#32 fun k => (O (ix2 R k) : EReal))) := by
  unfold opDw meanSq k0_pay6 k0_pay5
  pointwise

theorem cols_at (q : ℕ) (x : FVec Ideal S688x1024 .bf16) (w : FVec Ideal S1024x1024 .bf16) (h : S688x1024.Slices ![0, q] S688x512) (R : Fin 688)
    (j : Fin 512) (hq : q + j.1 < 1024) :
    (cols ![0, q] x w h (ix2 R j) : EReal) = ∑ k : Fin 1024, (x (ix2 R k) * w (ix2 ⟨q + j.1, hq⟩ k) : EReal) := by
  have e : cols ![0, q] x w h (ix2 R j) = k0_pay2 x w (ix2 R ⟨q + j.1, hq⟩) := by
    unfold cols extractStridedSlice
    refine congrArg (k0_pay2 (F := Ideal) x w) (funext fun a => Fin.ext ?_)
    match a with
    | ⟨0, _⟩ => show 0 + R.1 = R.1; omega
    | ⟨1, _⟩ => rfl
  rw [e]
  unfold k0_pay2
  pointwise

/-- The place of a head's columns: the `k`-th column of the head to which column `C` belongs. -/
def seg (C : Fin 2048) (k : Fin 512) : Fin 2048 := ⟨C.1 / 512 * 512 + k.1, by omega⟩

/-- Where the gate's columns lie among the projection's. -/
def gc (C : Fin 2048) : Fin 6144 := ⟨4096 + C.1, by omega⟩

/-- The gradient of the output at one index. -/
def dy (x : FVec Ideal S8256x1024 .bf16) (w : FVec Ideal S2048x1024 .bf16) (R : Fin 8256) (C : Fin 2048) : EReal :=
  ∑ k : Fin 1024, (x (ix2 R k) * w (ix2 C k) : EReal)

/-- The gradient of what the norm gives, at one index. -/
def dn (x : FVec Ideal S8256x1024 .bf16) (w : FVec Ideal S2048x1024 .bf16) (p : FVec Ideal S8256x6144 .f32) (R : Fin 8256) (C : Fin 2048) : EReal :=
  dy x w R C * ((p (ix2 R (gc C)) : EReal) * logi (p (ix2 R (gc C)) : EReal))

/-- The normed value at one index. -/
def xh (o : FVec Ideal S8256x2048 .f32) (R : Fin 8256) (C : Fin 2048) : EReal :=
  (o (ix2 R C) : EReal) * Ideal.rsqrt (meanSq 0x44000000#32 fun k => (o (ix2 R (seg C k)) : EReal))

/-- The first result: the gradient of the norm's argument. -/
def DO (x : FVec Ideal S8256x1024 .bf16) (w : FVec Ideal S2048x1024 .bf16) (o : FVec Ideal S8256x2048 .f32) (p : FVec Ideal S8256x6144 .f32)
    (v : FVec Ideal S1x512 .f32) : FVec Ideal S8256x2048 .f32 :=
  fun y => normBwd 0x44000000#32 (fun k => (o (ix2 (y 0) (seg (y 1) k)) : EReal)) (fun k => dn x w p (y 0) (seg (y 1) k) * (v (ix2 0 k) : EReal)) 0
    (o (ix2 (y 0) (y 1)) : EReal) (dn x w p (y 0) (y 1) * (v (ix2 0 ⟨(y 1).1 % 512, by omega⟩) : EReal))

/-- The second result, at the gate's columns: the gradient of the gate. -/
def DG (x : FVec Ideal S8256x1024 .bf16) (w : FVec Ideal S2048x1024 .bf16) (o : FVec Ideal S8256x2048 .f32) (p : FVec Ideal S8256x6144 .f32)
    (v : FVec Ideal S1x512 .f32) (R : Fin 8256) (C : Fin 2048) : EReal :=
  gateBwd (dy x w R C) (xh o R C * (v (ix2 0 ⟨C.1 % 512, by omega⟩) : EReal)) (p (ix2 R (gc C)) : EReal)

/-- A row's share of the gradient of the norm's weights. -/
def wterm (x : FVec Ideal S8256x1024 .bf16) (w : FVec Ideal S2048x1024 .bf16) (o : FVec Ideal S8256x2048 .f32) (p : FVec Ideal S8256x6144 .f32)
    (k : Fin 512) : Fin 8256 → EReal :=
  fun R => ∑ h : Fin 4, xh o R ⟨h.1 * 512 + k.1, by omega⟩ * dn x w p R ⟨h.1 * 512 + k.1, by omega⟩

/-- The third result: the gradient of the norm's weights. -/
def W (x : FVec Ideal S8256x1024 .bf16) (w : FVec Ideal S2048x1024 .bf16) (o : FVec Ideal S8256x2048 .f32) (p : FVec Ideal S8256x6144 .f32) :
    FVec Ideal S1x512 .f32 :=
  fun y => ∑ R : Fin 8256, wterm x w o p (y 1) R

theorem seg_head {c : ℕ} (h : c % 512 = 0) (j k : Fin 512) (h1 : c + j.1 < 2048) : seg ⟨c + j.1, h1⟩ k = ⟨c + k.1, by omega⟩ := by
  apply Fin.ext
  show (c + j.1) / 512 * 512 + k.1 = c + k.1
  omega

section head

variable {X : FVec Ideal S8256x1024 .bf16} {Wt : FVec Ideal S2048x1024 .bf16} {o : FVec Ideal S8256x2048 .f32} {p : FVec Ideal S8256x6144 .f32}
  {v : FVec Ideal S1x512 .f32} {r c : ℕ} {hr : r + 688 ≤ 8256} {hc : c + 512 ≤ 2048}

variable (X Wt o p v r c hr hc) in
/-- What one head of one block works on: the norm's argument, the gate, the output's gradient and the norm's weights, at the rows from `r` and the columns
from `c`. -/
structure IsHead (O G D : FVec Ideal S688x512 .f32) (V : FVec Ideal S1x512 .f32) : Prop where
  o (R : Fin 688) (j : Fin 512) : (O (ix2 R j) : EReal) = (o (ix2 ⟨r + R.1, by omega⟩ ⟨c + j.1, by omega⟩) : EReal)
  g (R : Fin 688) (j : Fin 512) : (G (ix2 R j) : EReal) = (p (ix2 ⟨r + R.1, by omega⟩ (gc ⟨c + j.1, by omega⟩)) : EReal)
  d (R : Fin 688) (j : Fin 512) : (D (ix2 R j) : EReal) = dy X Wt ⟨r + R.1, by omega⟩ ⟨c + j.1, by omega⟩
  v : V = v

variable {O G D : FVec Ideal S688x512 .f32} {V : FVec Ideal S1x512 .f32}

theorem head_dn (H : IsHead X Wt o p v r c hr hc O G D V) (R : Fin 688) (j : Fin 512) :
    (opDn D G (ix2 R j) : EReal) = dn X Wt p ⟨r + R.1, by omega⟩ ⟨c + j.1, by omega⟩ := by
  rw [dn_at, H.d, H.g]
  rfl

theorem head_xh (H : IsHead X Wt o p v r c hr hc O G D V) (h : c % 512 = 0) (R : Fin 688) (j : Fin 512) :
    (O (ix2 R j) : EReal) * Ideal.rsqrt (meanSq 0x44000000#32 fun k => (O (ix2 R k) : EReal)) = xh o ⟨r + R.1, by omega⟩ ⟨c + j.1, by omega⟩ := by
  unfold xh
  simp only [H.o, seg_head h]

theorem head_do (H : IsHead X Wt o p v r c hr hc O G D V) (h : c % 512 = 0) (R : Fin 688) (j : Fin 512) :
    (opDo V O (opDn D G) (ix2 R j) : EReal) = DO X Wt o p v (ix2 ⟨r + R.1, by omega⟩ ⟨c + j.1, by omega⟩) := by
  have e : (⟨(c + j.1) % 512, by omega⟩ : Fin 512) = j := Fin.ext (by show (c + j.1) % 512 = j.1; omega)
  rw [do_at]
  unfold DO
  simp only [H.o, head_dn H, H.v, ix2_0, ix2_1, seg_head h, e]

theorem head_dg (H : IsHead X Wt o p v r c hr hc O G D V) (h : c % 512 = 0) (R : Fin 688) (j : Fin 512) :
    (opDg V O G D (ix2 R j) : EReal) = DG X Wt o p v ⟨r + R.1, by omega⟩ ⟨c + j.1, by omega⟩ := by
  have e : (⟨(c + j.1) % 512, by omega⟩ : Fin 512) = j := Fin.ext (by show (c + j.1) % 512 = j.1; omega)
  rw [dg_at, head_xh H h, H.d, H.g, H.v]
  unfold DG
  simp only [e]

theorem head_dw (H : IsHead X Wt o p v r c hr hc O G D V) (h : c % 512 = 0) (R : Fin 688) (j : Fin 512) :
    (opDw O (opDn D G) (ix2 R j) : EReal)
      = xh o ⟨r + R.1, by omega⟩ ⟨c + j.1, by omega⟩ * dn X Wt p ⟨r + R.1, by omega⟩ ⟨c + j.1, by omega⟩ := by
  rw [dw_at, head_xh H h, head_dn H, mul_comm]

end head

/-- A load of a head's columns from a block. -/
def ld (b : Memref sig .tc .vmem S688x1024 .f32) (h : b.IsWhole) (x : FVec Ideal S688x1024 .f32) (a : ℕ)
    (inb : ∀ k, (![0, a] : Fin 2 → ℕ) k + S688x512.size k ≤ S688x1024.size k) : FVec Ideal S688x512 .f32 :=
  b.view.readAt (Elt Ideal) (Rect.unit (s := S688x1024) ![0, a] S688x512.size inb).toLoadRect (h.unread x)

theorem ld_at (b : Memref sig .tc .vmem S688x1024 .f32) (h : b.IsWhole) (x : FVec Ideal S688x1024 .f32) (a : ℕ)
    (inb : ∀ k, (![0, a] : Fin 2 → ℕ) k + S688x512.size k ≤ S688x1024.size k) (ha : a + 512 ≤ 1024) (R : Fin 688) (j : Fin 512) :
    (ld b h x a inb (ix2 R j) : EReal) = (x (ix2 R ⟨a + j.1, by omega⟩) : EReal) := by
  unfold ld
  rw [Memref.IsWhole.readAt_unread]
  congr 1
  funext k
  apply Fin.ext
  fin_cases k <;> simp [ix2, LoadRect.idx]

section stores

variable (X : FVec Ideal S8256x1024 .bf16) (Wt : FVec Ideal S2048x1024 .bf16) (o : FVec Ideal S8256x2048 .f32) (p : FVec Ideal S8256x6144 .f32)
  (v : FVec Ideal S1x512 .f32) (r q : ℕ) (hr : r + 688 ≤ 8256) (hq : q + 1024 ≤ 2048)

/-- What one point works on: the blocks of the arguments at the rows from `r` and the columns from `q`. -/
structure IsTile (x0 : FVec Ideal S688x1024 .bf16) (x1 : FVec Ideal S1024x1024 .bf16) (x2 x3 : FVec Ideal S688x1024 .f32) (x4 : FVec Ideal S1x512 .f32) : Prop where
  d (R : Fin 688) (C : Fin 1024) : (x0 (ix2 R C) : EReal) = (X (ix2 ⟨r + R.1, by omega⟩ C) : EReal)
  w (R : Fin 1024) (C : Fin 1024) : (x1 (ix2 R C) : EReal) = (Wt (ix2 ⟨q + R.1, by omega⟩ C) : EReal)
  o (R : Fin 688) (C : Fin 1024) : (x2 (ix2 R C) : EReal) = (o (ix2 ⟨r + R.1, by omega⟩ ⟨q + C.1, by omega⟩) : EReal)
  g (R : Fin 688) (C : Fin 1024) : (x3 (ix2 R C) : EReal) = (p (ix2 ⟨r + R.1, by omega⟩ (gc ⟨q + C.1, by omega⟩)) : EReal)
  v : x4 = v

/-- The first result's block at a point. -/
def tileO : S688x1024.Idx → EReal :=
  fun y => DO X Wt o p v (ix2 ⟨r + (y 0).1, by have : (y 0).1 < 688 := (y 0).2; omega⟩ ⟨q + (y 1).1, by have : (y 1).1 < 1024 := (y 1).2; omega⟩)

/-- The second result's block at a point. -/
def tileG : S688x1024.Idx → EReal :=
  fun y => DG X Wt o p v ⟨r + (y 0).1, by have : (y 0).1 < 688 := (y 0).2; omega⟩ ⟨q + (y 1).1, by have : (y 1).1 < 1024 := (y 1).2; omega⟩

variable {X Wt o p v r q hr hq}

variable (X Wt o p r q hr hq) in
/-- A row's share, at a point, of the gradient of the norm's weights. -/
def wrow (j : Fin 512) (R : Fin 688) : EReal :=
  ∑ h : Fin 2, xh o ⟨r + R.1, by omega⟩ ⟨q + h.1 * 512 + j.1, by omega⟩ * dn X Wt p ⟨r + R.1, by omega⟩ ⟨q + h.1 * 512 + j.1, by omega⟩

theorem pay1_at (a b : FVec Ideal S1x512 .f32) (j : Fin 512) : (k0_pay1 (F := Ideal) a b (ix2 0 j) : EReal) = (b (ix2 0 j) : EReal) + (a (ix2 0 j) : EReal) := by
  unfold k0_pay1
  pointwise

theorem chain (hm : q % 512 = 0) {O0 G0 D0 O1 G1 D1 : FVec Ideal S688x512 .f32} {V0 V1 : FVec Ideal S1x512 .f32}
    (H0 : IsHead X Wt o p v r (q + 0) hr (by omega) O0 G0 D0 V0) (H1 : IsHead X Wt o p v r (q + 512) hr (by omega) O1 G1 D1 V1) (j : Fin 512) :
    (opAcc (opAcc k0_pay3 O0 (opDn D0 G0)) O1 (opDn D1 G1) (ix2 0 j) : EReal) = ∑ R : Fin 688, wrow X Wt o p r q hr hq j R := by
  have z : (k0_pay3 (F := Ideal) (ix2 0 j) : EReal) = 0 := by
    unfold k0_pay3
    pointwise
  rw [acc_at, acc_at, z, zero_add, ← Finset.sum_add_distrib]
  refine Finset.sum_congr rfl fun R _ => ?_
  rw [head_dw H0 (by omega), head_dw H1 (by omega)]
  unfold wrow
  rw [Fin.sum_univ_two]
  rfl

variable (arg2 : Memref sig .tc .vmem S688x1024 .bf16) (harg2 : arg2.IsWhole) (arg3 : Memref sig .tc .vmem S1024x1024 .bf16)
  (harg3 : arg3.IsWhole) (arg4 : Memref sig .tc .vmem S688x1024 .f32) (harg4 : arg4.IsWhole) (arg5 : Memref sig .tc .vmem S688x1024 .f32)
  (harg5 : arg5.IsWhole) (arg6 : Memref sig .tc .vmem S1x512 .f32) (harg6 : arg6.IsWhole)
  (x0 : FVec Ideal S688x1024 .bf16) (x1 : FVec Ideal S1024x1024 .bf16) (x2 x3 : FVec Ideal S688x1024 .f32) (x4 : FVec Ideal S1x512 .f32)

/-- A load of the whole of the output gradient's block. -/
def ldx : FVec Ideal S688x1024 .bf16 :=
  arg2.view.readAt (Elt Ideal) (Rect.unit ![0, 0] S688x1024.size inb_S688x1024_S688x1024_0_0).toLoadRect (harg2.unread x0)

/-- A load of the whole of the weights' block. -/
def ldw : FVec Ideal S1024x1024 .bf16 :=
  arg3.view.readAt (Elt Ideal) (Rect.unit ![0, 0] S1024x1024.size inb_S1024x1024_S1024x1024_0_0).toLoadRect (harg3.unread x1)

/-- A load of the whole of the norm's weights. -/
def ldv : FVec Ideal S1x512 .f32 :=
  arg6.view.readAt (Elt Ideal) (Rect.unit ![0, 0] S1x512.size inb_S1x512_S1x512_0_0).toLoadRect (harg6.unread x4)

variable {x0 x1 x2 x3 x4}

theorem head_of_tile (T : IsTile X Wt o p v r q hr hq x0 x1 x2 x3 x4) (a : ℕ) (inb : ∀ k, (![0, a] : Fin 2 → ℕ) k + S688x512.size k ≤ S688x1024.size k)
    (h : S688x1024.Slices ![0, a] S688x512) (ha : a + 512 ≤ 1024) :
    IsHead X Wt o p v r (q + a) hr (by omega) (ld arg4 harg4 x2 a inb) (ld arg5 harg5 x3 a inb) (cols ![0, a] (ldx arg2 harg2 x0) (ldw arg3 harg3 x1) h)
      (ldv arg6 harg6 x4) where
  o R j := by
    rw [ld_at _ _ _ _ _ ha, T.o]
    exact congrArg (fun k : Fin 2048 => (o (ix2 (⟨r + R.1, by omega⟩ : Fin 8256) k) : EReal)) (Fin.ext (by dsimp only; omega))
  g R j := by
    rw [ld_at _ _ _ _ _ ha, T.g]
    exact congrArg (fun k : Fin 2048 => (p (ix2 (⟨r + R.1, by omega⟩ : Fin 8256) (gc k)) : EReal)) (Fin.ext (by dsimp only; omega))
  d R j := by
    have e0 : ldx arg2 harg2 x0 = x0 := read_whole arg2 harg2 x0 vec2_zero _
    have e1 : ldw arg3 harg3 x1 = x1 := read_whole arg3 harg3 x1 vec2_zero _
    rw [e0, e1, cols_at a x0 x1 h R j (by omega)]
    refine Finset.sum_congr rfl fun k _ => congrArg₂ (fun s t : EReal => s * t) (T.d R k) ((T.w _ k).trans ?_)
    exact congrArg (fun l : Fin 2048 => (Wt (ix2 l k) : EReal)) (Fin.ext (by dsimp only; omega))
  v := (read_whole arg6 harg6 x4 vec2_zero _).trans T.v

theorem piece_do (T : IsTile X Wt o p v r q hr hq x0 x1 x2 x3 x4) (hm : q % 512 = 0) (a : ℕ)
    (inb : ∀ k, (![0, a] : Fin 2 → ℕ) k + S688x512.size k ≤ S688x1024.size k)
    (h : S688x1024.Slices ![0, a] S688x512) (ha : a + 512 ≤ 1024) (hm' : a % 512 = 0) (y : S688x512.Idx) :
    (opDo (ldv arg6 harg6 x4) (ld arg4 harg4 x2 a inb) (opDn (cols ![0, a] (ldx arg2 harg2 x0) (ldw arg3 harg3 x1) h) (ld arg5 harg5 x3 a inb)) y : EReal)
      = tileO X Wt o p v r q hr hq ((Rect.unit (s := S688x1024) ![0, a] S688x512.size inb).emb y) := by
  obtain ⟨R, j, rfl⟩ : ∃ (R : Fin 688) (j : Fin 512), y = ix2 R j := ⟨y 0, y 1, eq_ix2 y⟩
  rw [head_do (head_of_tile arg2 harg2 arg3 harg3 arg4 harg4 arg5 harg5 arg6 harg6 T a inb h ha) (by omega)]
  refine congrArg (DO X Wt o p v) (congrArg₂ ix2 (Fin.ext ?_) (Fin.ext ?_))
  · show r + R.1 = r + (0 + 1 * R.1); omega
  · show q + a + j.1 = q + (a + 1 * j.1); omega

theorem piece_dg (T : IsTile X Wt o p v r q hr hq x0 x1 x2 x3 x4) (hm : q % 512 = 0) (a : ℕ)
    (inb : ∀ k, (![0, a] : Fin 2 → ℕ) k + S688x512.size k ≤ S688x1024.size k)
    (h : S688x1024.Slices ![0, a] S688x512) (ha : a + 512 ≤ 1024) (hm' : a % 512 = 0) (y : S688x512.Idx) :
    (opDg (ldv arg6 harg6 x4) (ld arg4 harg4 x2 a inb) (ld arg5 harg5 x3 a inb) (cols ![0, a] (ldx arg2 harg2 x0) (ldw arg3 harg3 x1) h) y : EReal)
      = tileG X Wt o p v r q hr hq ((Rect.unit (s := S688x1024) ![0, a] S688x512.size inb).emb y) := by
  obtain ⟨R, j, rfl⟩ : ∃ (R : Fin 688) (j : Fin 512), y = ix2 R j := ⟨y 0, y 1, eq_ix2 y⟩
  rw [head_dg (head_of_tile arg2 harg2 arg3 harg3 arg4 harg4 arg5 harg5 arg6 harg6 T a inb h ha) (by omega)]
  refine congrArg₂ (DG X Wt o p v) (Fin.ext ?_) (Fin.ext ?_)
  · show r + R.1 = r + (0 + 1 * R.1); omega
  · show q + a + j.1 = q + (a + 1 * j.1); omega

variable (c : Dev nD) (i : grid0.Coords) (arg7 : Memref sig .tc .vmem S688x1024 .f32) (harg7 : arg7.IsWhole)
  (arg8 : Memref sig .tc .vmem S688x1024 .bf16) (harg8 : arg8.IsWhole) (arg9 : Memref sig .tc .vmem S1x512 .f32) (harg9 : arg9.IsWhole)
  (xo7 : FVec Ideal S1x512 .f32)

open kernelRun0_A.sl in
theorem outA5 (hc0 : cond0_0 i) (hc1 : ¬cond0_1 i) (T : IsTile X Wt o p v r q hr hq x0 x1 x2 x3 x4) (hm : q % 512 = 0) :
    out0_A_5 (F := Ideal) c i arg2 harg2 arg3 harg3 arg4 harg4 arg5 harg5 arg6 harg6 arg7 harg7 arg8 harg8 arg9 harg9 hc0 hc1
      x0 x1 x2 x3 x4 = tileO X Wt o p v r q hr hq := by
  unfold out0_A_5
  rw [View.read_writes_junk_eq_canon]
  funext y
  refine canon_of_agree (Val := Elt Ideal) (tileO X Wt o p v r q hr hq) _ y (cover0_A_5 ..) ?_
  unfold kernelRun0_A
  intro pc hpc
  dsimp only at hpc
  simp only [kernelRun0_A.sl.r, r_1, r_2, r_3, r_4, r_5, r_6, r_7, r_8, r_9, r_10, r_11, r_12, r_13, r_14] at hpc
  rcases List.mem_cons.1 hpc with rfl | hpc
  · exact fun y => (congrFun (head1 _ _ _ _ _) y).trans (piece_do arg2 harg2 arg3 harg3 arg4 harg4 arg5 harg5 arg6 harg6 T hm 512 _ slices_S688x1024_o0_512_S688x512 (by omega) rfl y)
  rcases List.mem_cons.1 hpc with rfl | hpc
  · exact fun y => (congrFun (head0 _ _ _ _ _) y).trans (piece_do arg2 harg2 arg3 harg3 arg4 harg4 arg5 harg5 arg6 harg6 T hm 0 _ slices_S688x1024_o0_0_S688x512 (by omega) rfl y)
  · cases hpc

open kernelRun0_B.sl in
theorem outB5 (hc0 : ¬cond0_0 i) (hc1 : cond0_1 i) (T : IsTile X Wt o p v r q hr hq x0 x1 x2 x3 x4) (hm : q % 512 = 0) :
    out0_B_5 (F := Ideal) c i arg2 harg2 arg3 harg3 arg4 harg4 arg5 harg5 arg6 harg6 arg7 harg7 arg8 harg8 arg9 harg9 hc0 hc1
      x0 x1 x2 x3 x4 xo7 = tileO X Wt o p v r q hr hq := by
  unfold out0_B_5
  rw [View.read_writes_junk_eq_canon]
  funext y
  refine canon_of_agree (Val := Elt Ideal) (tileO X Wt o p v r q hr hq) _ y (cover0_B_5 ..) ?_
  unfold kernelRun0_B
  intro pc hpc
  dsimp only at hpc
  simp only [kernelRun0_B.sl.r, r_1, r_2, r_3, r_4, r_5, r_6, r_7, r_8, r_9, r_10, r_11, r_12, r_13, r_14] at hpc
  rcases List.mem_cons.1 hpc with rfl | hpc
  · exact fun y => (congrFun (head1 _ _ _ _ _) y).trans (piece_do arg2 harg2 arg3 harg3 arg4 harg4 arg5 harg5 arg6 harg6 T hm 512 _ slices_S688x1024_o0_512_S688x512 (by omega) rfl y)
  rcases List.mem_cons.1 hpc with rfl | hpc
  · exact fun y => (congrFun (head0 _ _ _ _ _) y).trans (piece_do arg2 harg2 arg3 harg3 arg4 harg4 arg5 harg5 arg6 harg6 T hm 0 _ slices_S688x1024_o0_0_S688x512 (by omega) rfl y)
  · cases hpc

open kernelRun0_A.sl in
theorem outA6 (hc0 : cond0_0 i) (hc1 : ¬cond0_1 i) (T : IsTile X Wt o p v r q hr hq x0 x1 x2 x3 x4) (hm : q % 512 = 0) :
    out0_A_6 (F := Ideal) c i arg2 harg2 arg3 harg3 arg4 harg4 arg5 harg5 arg6 harg6 arg7 harg7 arg8 harg8 arg9 harg9 hc0 hc1
      x0 x1 x2 x3 x4 = tileG X Wt o p v r q hr hq := by
  unfold out0_A_6
  rw [View.read_writes_junk_eq_canon]
  funext y
  refine canon_of_agree (Val := Elt Ideal) (tileG X Wt o p v r q hr hq) _ y (cover0_A_6 ..) ?_
  unfold kernelRun0_A
  intro pc hpc
  dsimp only at hpc
  simp only [kernelRun0_A.sl.r, r_1, r_2, r_3, r_4, r_5, r_6, r_7, r_8, r_9, r_10, r_11, r_12, r_13, r_14] at hpc
  rcases List.mem_cons.1 hpc with rfl | hpc
  · exact fun y => (congrFun (gate1 _ _ _ _ _) y).trans (piece_dg arg2 harg2 arg3 harg3 arg4 harg4 arg5 harg5 arg6 harg6 T hm 512 _ slices_S688x1024_o0_512_S688x512 (by omega) rfl y)
  rcases List.mem_cons.1 hpc with rfl | hpc
  · exact fun y => (congrFun (gate0 _ _ _ _ _) y).trans (piece_dg arg2 harg2 arg3 harg3 arg4 harg4 arg5 harg5 arg6 harg6 T hm 0 _ slices_S688x1024_o0_0_S688x512 (by omega) rfl y)
  · cases hpc

open kernelRun0_B.sl in
theorem outB6 (hc0 : ¬cond0_0 i) (hc1 : cond0_1 i) (T : IsTile X Wt o p v r q hr hq x0 x1 x2 x3 x4) (hm : q % 512 = 0) :
    out0_B_6 (F := Ideal) c i arg2 harg2 arg3 harg3 arg4 harg4 arg5 harg5 arg6 harg6 arg7 harg7 arg8 harg8 arg9 harg9 hc0 hc1
      x0 x1 x2 x3 x4 xo7 = tileG X Wt o p v r q hr hq := by
  unfold out0_B_6
  rw [View.read_writes_junk_eq_canon]
  funext y
  refine canon_of_agree (Val := Elt Ideal) (tileG X Wt o p v r q hr hq) _ y (cover0_B_6 ..) ?_
  unfold kernelRun0_B
  intro pc hpc
  dsimp only at hpc
  simp only [kernelRun0_B.sl.r, r_1, r_2, r_3, r_4, r_5, r_6, r_7, r_8, r_9, r_10, r_11, r_12, r_13, r_14] at hpc
  rcases List.mem_cons.1 hpc with rfl | hpc
  · exact fun y => (congrFun (gate1 _ _ _ _ _) y).trans (piece_dg arg2 harg2 arg3 harg3 arg4 harg4 arg5 harg5 arg6 harg6 T hm 512 _ slices_S688x1024_o0_512_S688x512 (by omega) rfl y)
  rcases List.mem_cons.1 hpc with rfl | hpc
  · exact fun y => (congrFun (gate0 _ _ _ _ _) y).trans (piece_dg arg2 harg2 arg3 harg3 arg4 harg4 arg5 harg5 arg6 harg6 T hm 0 _ slices_S688x1024_o0_0_S688x512 (by omega) rfl y)
  · cases hpc

open kernelRun0_A.sl in
theorem outA7 (hc0 : cond0_0 i) (hc1 : ¬cond0_1 i) (T : IsTile X Wt o p v r q hr hq x0 x1 x2 x3 x4) (hm : q % 512 = 0) (j : Fin 512) :
    (out0_A_7 (F := Ideal) c i arg2 harg2 arg3 harg3 arg4 harg4 arg5 harg5 arg6 harg6 arg7 harg7 arg8 harg8 arg9 harg9 hc0 hc1
      x0 x1 x2 x3 x4 (ix2 0 j) : EReal) = ∑ R : Fin 688, wrow X Wt o p r q hr hq j R := by
  unfold out0_A_7
  rw [View.read_writes_junk_eq_canon]
  unfold kernelRun0_A
  dsimp only
  refine (congrFun (View.canon_unit_zero (S := S1x512) vec2_zero _ _) _).trans ?_
  simp only [kernelRun0_A.sl.r, r_1, r_2, r_3, r_4, r_5, r_6, r_7, r_8, r_9, r_10, r_11, r_12, r_13, r_14]
  rw [acc0, acc1]
  exact chain hm (head_of_tile arg2 harg2 arg3 harg3 arg4 harg4 arg5 harg5 arg6 harg6 T 0 _ slices_S688x1024_o0_0_S688x512 (by omega))
    (head_of_tile arg2 harg2 arg3 harg3 arg4 harg4 arg5 harg5 arg6 harg6 T 512 _ slices_S688x1024_o0_512_S688x512 (by omega)) j

open kernelRun0_B.sl in
theorem outB7 (hc0 : ¬cond0_0 i) (hc1 : cond0_1 i) (T : IsTile X Wt o p v r q hr hq x0 x1 x2 x3 x4) (hm : q % 512 = 0) (j : Fin 512) :
    (out0_B_7 (F := Ideal) c i arg2 harg2 arg3 harg3 arg4 harg4 arg5 harg5 arg6 harg6 arg7 harg7 arg8 harg8 arg9 harg9 hc0 hc1
      x0 x1 x2 x3 x4 xo7 (ix2 0 j) : EReal) = (xo7 (ix2 0 j) : EReal) + ∑ R : Fin 688, wrow X Wt o p r q hr hq j R := by
  unfold out0_B_7
  rw [View.read_writes_junk_eq_canon]
  unfold kernelRun0_B
  dsimp only
  refine (congrFun (View.canon_unit_zero (S := S1x512) vec2_zero _ _) _).trans ?_
  refine (pay1_at _ _ j).trans ?_
  simp only [kernelRun0_B.sl.r, r_1, r_2, r_3, r_4, r_5, r_6, r_7, r_8, r_9, r_10, r_11, r_12, r_13, r_14]
  rw [acc0, acc1]
  refine congrArg₂ (fun a b : EReal => a + b) (congrFun (read_whole arg9 harg9 xo7 vec2_zero _) _) ?_
  exact chain hm (head_of_tile arg2 harg2 arg3 harg3 arg4 harg4 arg5 harg5 arg6 harg6 T 0 _ slices_S688x1024_o0_0_S688x512 (by omega))
    (head_of_tile arg2 harg2 arg3 harg3 arg4 harg4 arg5 harg5 arg6 harg6 T 512 _ slices_S688x1024_o0_512_S688x512 (by omega)) j

end stores

theorem idx0 : ∀ t : Fin cfg0.N, win0_0.index t (0 : Fin 2) = t.1 / 2 ∧ win0_0.index t (1 : Fin 2) = 0 := (by decide +kernel : ∀ t : Fin grid0.N, _)
theorem idx1 : ∀ t : Fin cfg0.N, win0_1.index t (0 : Fin 2) = t.1 % 2 ∧ win0_1.index t (1 : Fin 2) = 0 := (by decide +kernel : ∀ t : Fin grid0.N, _)
theorem idx2 : ∀ t : Fin cfg0.N, win0_2.index t (0 : Fin 2) = t.1 / 2 ∧ win0_2.index t (1 : Fin 2) = t.1 % 2 := (by decide +kernel : ∀ t : Fin grid0.N, _)
theorem idx3 : ∀ t : Fin cfg0.N, win0_3.index t (0 : Fin 2) = t.1 / 2 ∧ win0_3.index t (1 : Fin 2) = 4 + t.1 % 2 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = t.1 / 2 ∧ win0_5.index t (1 : Fin 2) = t.1 % 2 := (by decide +kernel : ∀ t : Fin grid0.N, _)
theorem idx6 : ∀ t : Fin cfg0.N, win0_6.index t (0 : Fin 2) = t.1 / 2 ∧ win0_6.index t (1 : Fin 2) = 4 + t.1 % 2 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)

variable (m : (ℓ : Loc nD τ sig) → Buf (Elt Ideal) ℓ) (c : Dev nD)

theorem row_le (t : Fin cfg0.N) : t.1 / 2 * 688 + 688 ≤ 8256 := by
  have hN : t.1 < 24 := lt_of_lt_of_eq t.isLt N_0
  omega

theorem col_le (t : Fin cfg0.N) : t.1 % 2 * 1024 + 1024 ≤ 2048 := by omega

/-- The blocks a point is given are those of its rows and its columns. -/
theorem tile (t : Fin cfg0.N) : IsTile (V m c main_arg0) (V m c main_arg1) (V m c main_arg2) (V m c main_arg3) (V m c main_arg4) (t.1 / 2 * 688) (t.1 % 2 * 1024)
    (row_le t) (col_le t) (iblk m c 0 t) (iblk m c 1 t) (iblk m c 2 t) (iblk m c 3 t) (iblk m c 4 t) where
  d R C := by
    obtain ⟨e0, e1⟩ := idx0 t
    refine congrArg (V m c main_arg0) (funext fun a => Fin.ext ?_)
    match a with
    | ⟨0, _⟩ => show win0_0.index t (0 : Fin 2) * 688 + 1 * R.1 = t.1 / 2 * 688 + R.1; omega
    | ⟨1, _⟩ => show win0_0.index t (1 : Fin 2) * 1024 + 1 * C.1 = C.1; omega
  w R C := by
    obtain ⟨e0, e1⟩ := idx1 t
    refine congrArg (V m c main_arg1) (funext fun a => Fin.ext ?_)
    match a with
    | ⟨0, _⟩ => show win0_1.index t (0 : Fin 2) * 1024 + 1 * R.1 = t.1 % 2 * 1024 + R.1; omega
    | ⟨1, _⟩ => show win0_1.index t (1 : Fin 2) * 1024 + 1 * C.1 = C.1; omega
  o R C := by
    obtain ⟨e0, e1⟩ := idx2 t
    refine congrArg (V m c main_arg2) (funext fun a => Fin.ext ?_)
    match a with
    | ⟨0, _⟩ => show win0_2.index t (0 : Fin 2) * 688 + 1 * R.1 = t.1 / 2 * 688 + R.1; omega
    | ⟨1, _⟩ => show win0_2.index t (1 : Fin 2) * 1024 + 1 * C.1 = t.1 % 2 * 1024 + C.1; omega
  g R C := by
    obtain ⟨e0, e1⟩ := idx3 t
    refine congrArg (V m c main_arg3) (funext fun a => Fin.ext ?_)
    match a with
    | ⟨0, _⟩ => show win0_3.index t (0 : Fin 2) * 688 + 1 * R.1 = t.1 / 2 * 688 + R.1; omega
    | ⟨1, _⟩ => show win0_3.index t (1 : Fin 2) * 1024 + 1 * C.1 = 4096 + (t.1 % 2 * 1024 + C.1); omega
  v := by
    obtain ⟨e0, e1⟩ := idx4 t
    funext y
    refine congrArg (V m c main_arg4) (funext fun a => Fin.ext ?_)
    match a with
    | ⟨0, _⟩ => show win0_4.index t (0 : Fin 2) * 1 + 1 * (y 0).1 = (y 0).1; omega
    | ⟨1, _⟩ => show win0_4.index t (1 : Fin 2) * 512 + 1 * (y 1).1 = (y 1).1; omega

theorem emb5 (t : Fin cfg0.N) (R : Fin 688) (C : Fin 1024) (h : t.1 / 2 * 688 + R.1 < 8256) :
    ((cfg0.win 5).blk t).view.emb (ix2 R C) = ix2 ⟨t.1 / 2 * 688 + R.1, h⟩ ⟨t.1 % 2 * 1024 + C.1, by omega⟩ := by
  obtain ⟨e0, e1⟩ := idx5 t
  funext a; apply Fin.ext
  match a with
  | ⟨0, _⟩ => show win0_5.index t (0 : Fin 2) * 688 + 1 * R.1 = t.1 / 2 * 688 + R.1; omega
  | ⟨1, _⟩ => show win0_5.index t (1 : Fin 2) * 1024 + 1 * C.1 = t.1 % 2 * 1024 + C.1; omega

theorem emb6 (t : Fin cfg0.N) (R : Fin 688) (C : Fin 1024) (h : t.1 / 2 * 688 + R.1 < 8256) :
    ((cfg0.win 6).blk t).view.emb (ix2 R C) = ix2 ⟨t.1 / 2 * 688 + R.1, h⟩ (gc ⟨t.1 % 2 * 1024 + C.1, by omega⟩) := by
  obtain ⟨e0, e1⟩ := idx6 t
  funext a; apply Fin.ext
  match a with
  | ⟨0, _⟩ => show win0_6.index t (0 : Fin 2) * 688 + 1 * R.1 = t.1 / 2 * 688 + R.1; omega
  | ⟨1, _⟩ => show win0_6.index t (1 : Fin 2) * 1024 + 1 * C.1 = 4096 + (t.1 % 2 * 1024 + C.1); omega

theorem emb7 (t : Fin cfg0.N) (R : Fin 1) (C : Fin 512) : ((cfg0.win 7).blk t).view.emb (ix2 R C) = ix2 R C := by
  obtain ⟨e0, e1⟩ := idx7 t
  funext a; apply Fin.ext
  match a with
  | ⟨0, _⟩ => show win0_7.index t (0 : Fin 2) * 1 + 1 * R.1 = R.1; omega
  | ⟨1, _⟩ => show win0_7.index t (1 : Fin 2) * 512 + 1 * C.1 = C.1; omega

theorem out5 (t : Fin cfg0.N) : (outsAt0 m c t.1 t.isLt).1
    = tileO (V m c main_arg0) (V m c main_arg1) (V m c main_arg2) (V m c main_arg3) (V m c main_arg4) (t.1 / 2 * 688) (t.1 % 2 * 1024) (row_le t) (col_le t) := by
  by_cases h : t.1 % 24 = 0
  · have hN : t.1 < 24 := lt_of_lt_of_eq t.isLt N_0
    rw [outsAt0_A m c t h (by omega)]
    dsimp only
    exact outA5 _ _ _ _ _ _ _ _ _ _ _ _ _ _ _ _ _ _ _ _ (tile m c t) (by omega)
  · rw [outsAt0_B m c t h (by omega)]
    dsimp only
    exact outB5 _ _ _ _ _ _ _ _ _ _ _ _ _ _ _ _ _ _ _ _ _ (tile m c t) (by omega)

theorem out6 (t : Fin cfg0.N) : (outsAt0 m c t.1 t.isLt).2.1
    = tileG (V m c main_arg0) (V m c main_arg1) (V m c main_arg2) (V m c main_arg3) (V m c main_arg4) (t.1 / 2 * 688) (t.1 % 2 * 1024) (row_le t) (col_le t) := by
  by_cases h : t.1 % 24 = 0
  · have hN : t.1 < 24 := lt_of_lt_of_eq t.isLt N_0
    rw [outsAt0_A m c t h (by omega)]
    dsimp only
    exact outA6 _ _ _ _ _ _ _ _ _ _ _ _ _ _ _ _ _ _ _ _ (tile m c t) (by omega)
  · rw [outsAt0_B m c t h (by omega)]
    dsimp only
    exact outB6 _ _ _ _ _ _ _ _ _ _ _ _ _ _ _ _ _ _ _ _ _ (tile m c t) (by omega)

/-- A point's share of the gradient of the norm's weights. -/
def share (t : Fin cfg0.N) (j : Fin 512) : EReal :=
  ∑ R : Fin 688, wrow (V m c main_arg0) (V m c main_arg1) (V m c main_arg2) (V m c main_arg3) (t.1 / 2 * 688) (t.1 % 2 * 1024) (row_le t) (col_le t) j R

theorem out7_first (t : Fin cfg0.N) (h : t.1 % 24 = 0) (h' : ¬1 ≤ t.1) (j : Fin 512) : ((outsAt0 m c t.1 t.isLt).2.2 (ix2 0 j) : EReal) = share m c t j := by
  rw [outsAt0_A m c t h h']
  dsimp only
  exact outA7 _ _ _ _ _ _ _ _ _ _ _ _ _ _ _ _ _ _ _ _ (tile m c t) (by omega) j

theorem out7_next (t : Fin cfg0.N) (h : ¬t.1 % 24 = 0) (h' : 1 ≤ t.1) (j : Fin 512) : ((outsAt0 m c t.1 t.isLt).2.2 (ix2 0 j) : EReal)
    = ((outsAt0 m c (t.1 - 1) (Nat.lt_of_le_of_lt (Nat.sub_le _ _) t.isLt)).2.2 (ix2 0 j) : EReal) + share m c t j := by
  rw [outsAt0_B m c t h h']
  dsimp only
  exact outB7 _ _ _ _ _ _ _ _ _ _ _ _ _ _ _ _ _ _ _ _ _ (tile m c t) (by omega) j

/-- A block of rows' shares: that of the first two heads and that of the last two. -/
theorem wblock (t t' : Fin cfg0.N) (h : t.1 % 2 = 0) (h' : t'.1 = t.1 + 1) (j : Fin 512) :
    ∑ k ∈ Finset.range ((t.1 / 2 + 1) * 688), ext (wterm (V m c main_arg0) (V m c main_arg1) (V m c main_arg2) (V m c main_arg3) j) k
      = ∑ k ∈ Finset.range (t.1 / 2 * 688), ext (wterm (V m c main_arg0) (V m c main_arg1) (V m c main_arg2) (V m c main_arg3) j) k + (share m c t j + share m c t' j) := by
  unfold share
  rw [← Finset.sum_add_distrib]
  refine sum_blocks_succ _ _ _ _ fun R => ?_
  have hN := row_le t
  have hR : t.1 / 2 * 688 + R.1 < 8256 := by omega
  have e1 : t'.1 / 2 = t.1 / 2 := by omega
  have e2 : t'.1 % 2 = 1 := by omega
  rw [ext_of_lt _ _ hR]
  unfold wrow wterm
  simp only [e1, e2, h]
  rw [Fin.sum_univ_two, Fin.sum_univ_two, Fin.sum_univ_four]
  simp only [← add_assoc]
  rfl

/-- What the third result holds after a point: the shares of the rows finished so far, and of the heads already met in the rows under way. -/
theorem wacc (n : ℕ) (hn : n < cfg0.N) (j : Fin 512) :
    (n % 2 = 0 → ((outsAt0 m c n hn).2.2 (ix2 0 j) : EReal)
      = ∑ k ∈ Finset.range (n / 2 * 688), ext (wterm (V m c main_arg0) (V m c main_arg1) (V m c main_arg2) (V m c main_arg3) j) k + share m c ⟨n, hn⟩ j)
    ∧ (n % 2 = 1 → ((outsAt0 m c n hn).2.2 (ix2 0 j) : EReal)
      = ∑ k ∈ Finset.range ((n / 2 + 1) * 688), ext (wterm (V m c main_arg0) (V m c main_arg1) (V m c main_arg2) (V m c main_arg3) j) k) := by
  induction n with
  | zero => exact ⟨fun _ => (out7_first m c ⟨0, hn⟩ rfl (by dsimp only; omega) j).trans (zero_add _).symm, fun h => by omega⟩
  | succ n ih =>
    have hN : n + 1 < 24 := lt_of_lt_of_eq hn N_0
    have key := out7_next m c ⟨n + 1, hn⟩ (by dsimp only; omega) (by dsimp only; omega) j
    have ih := ih (Nat.lt_of_succ_lt hn)
    refine ⟨fun h => ?_, fun h => ?_⟩
    · have e : (n + 1) / 2 = n / 2 + 1 := by omega
      rw [e, ← ih.2 (by omega)]
      exact key
    · have e : (n + 1) / 2 = n / 2 := by omega
      rw [e, wblock m c ⟨n, Nat.lt_of_succ_lt hn⟩ ⟨n + 1, hn⟩ (by dsimp only; omega) rfl j, ← add_assoc, ← ih.1 (by omega)]
      exact key

theorem flushed5 (t : Fin cfg0.N) : (dats m 0 c).flushed 5 t = (cfg0.win 5).cut (grid0.coords t) ((outsAt0 m c t.val t.isLt).1) := by
  show (cfg0.win 5).cut (grid0.coords t) ((dats m 0 c).after 5 t) = _
  rw [after0_5]

theorem flushed6 (t : Fin cfg0.N) : (dats m 0 c).flushed 6 t = (cfg0.win 6).cut (grid0.coords t) ((outsAt0 m c t.val t.isLt).2.1) := by
  show (cfg0.win 6).cut (grid0.coords t) ((dats m 0 c).after 6 t) = _
  rw [after0_6]

theorem flushed7 (t : Fin cfg0.N) : (dats m 0 c).flushed 7 t = (cfg0.win 7).cut (grid0.coords t) ((outsAt0 m c t.val t.isLt).2.2) := by
  show (cfg0.win 7).cut (grid0.coords t) ((dats m 0 c).after 7 t) = _
  rw [after0_7]

theorem final5 : ((dats m 0 c).arrAt 5 cfg0.N : S8256x2048.Idx → EReal)
    = DO (V m c main_arg0) (V m c main_arg1) (V m c main_arg2) (V m c main_arg3)
      (V m c main_arg4) := by
  refine (dats m 0 c).arrAt_eq_of_cover 5 _ (fun t _ => ?_) fun y => ?_
  · have hN := row_le t
    rw [flushed5, out5]
    funext y
    obtain ⟨R, C, rfl⟩ : ∃ (R : Fin 688) (C : Fin 1024), y = ix2 R C := ⟨y 0, y 1, eq_ix2 y⟩
    exact (congrArg (DO _ _ _ _ _) (emb5 t R C (by omega))).symm
  · obtain ⟨R, C, rfl⟩ : ∃ (R : Fin 8256) (C : Fin 2048), y = ix2 R C := ⟨y 0, y 1, eq_ix2 y⟩
    have ht : R.1 / 688 * 2 + C.1 / 1024 < cfg0.N := lt_of_lt_of_eq (by omega) N_0.symm
    refine ⟨⟨_, ht⟩, flush0_5 _, ?_⟩
    have h := ((cfg0.win 5).blk ⟨_, ht⟩).view.emb_mem_set (ix2 (⟨R.1 % 688, by omega⟩ : Fin 688) (⟨C.1 % 1024, by omega⟩ : Fin 1024))
    rw [emb5 _ _ _ (by dsimp only; omega)] at h
    refine (congrArg (· ∈ ((cfg0.win 5).blk ⟨_, ht⟩).view.set) (congrArg₂ ix2 (Fin.ext ?_) (Fin.ext ?_))).mp h
    · dsimp only; omega
    · dsimp only; omega

theorem final7 : (dats m 0 c).arrAt 7 cfg0.N
    = W (V m c main_arg0) (V m c main_arg1) (V m c main_arg2) (V m c main_arg3) := by
  refine (dats m 0 c).arrAt_eq_of_cover 7 _ (fun t ht => ?_) fun y => ?_
  · have hN : t.1 < 24 := lt_of_lt_of_eq t.isLt N_0
    have h23 := (flush0_7 t).mp ht
    have e : t.1 / 2 + 1 = 12 := by omega
    rw [flushed7]
    funext y
    obtain ⟨R, C, rfl⟩ : ∃ (R : Fin 1) (C : Fin 512), y = ix2 R C := ⟨y 0, y 1, eq_ix2 y⟩
    obtain rfl : R = 0 := Subsingleton.elim _ _
    have key := (wacc m c t.1 t.isLt C).2 (by omega)
    rw [e] at key
    exact (key.trans (sum_ext _)).trans (congrArg (W _ _ _ _) (emb7 t 0 C)).symm
  · obtain ⟨R, C, rfl⟩ : ∃ (R : Fin 1) (C : Fin 512), y = ix2 R C := ⟨y 0, y 1, eq_ix2 y⟩
    have ht : 23 < cfg0.N := lt_of_lt_of_eq (by omega) N_0.symm
    refine ⟨⟨23, ht⟩, (flush0_7 _).mpr rfl, ?_⟩
    have h := ((cfg0.win 7).blk ⟨23, ht⟩).view.emb_mem_set (ix2 R C)
    rwa [emb7] at h

/-- The second result at the columns the call writes. -/
theorem final6 (R : Fin 8256) (C : Fin 2048) : ((dats m 0 c).arrAt 6 cfg0.N (ix2 R (gc C)) : EReal)
    = DG (V m c main_arg0) (V m c main_arg1) (V m c main_arg2) (V m c main_arg3)
      (V m c main_arg4) R C := by
  have ht : R.1 / 688 * 2 + C.1 / 1024 < cfg0.N := lt_of_lt_of_eq (by omega) N_0.symm
  have h := ((cfg0.win 6).blk ⟨_, ht⟩).view.emb_mem_set (ix2 (⟨R.1 % 688, by omega⟩ : Fin 688) (⟨C.1 % 1024, by omega⟩ : Fin 1024))
  rw [emb6 _ _ _ (by dsimp only; omega)] at h
  have e1 : (⟨(R.1 / 688 * 2 + C.1 / 1024) / 2 * 688 + R.1 % 688, by omega⟩ : Fin 8256) = R := Fin.ext (by dsimp only; omega)
  have e2 : (⟨(R.1 / 688 * 2 + C.1 / 1024) % 2 * 1024 + C.1 % 1024, by omega⟩ : Fin 2048) = C := Fin.ext (by dsimp only; omega)
  rw [e1, e2] at h
  refine (dats m 0 c).arrAt_forall_of_flushed 6 (fun i v => ∀ (R : Fin 8256) (C : Fin 2048), i = ix2 R (gc C) → (v : EReal) = DG (V m c main_arg0) (V m c main_arg1) (V m c main_arg2) (V m c main_arg3)
      (V m c main_arg4) R C) (fun t _ y R' C' he => ?_) cfg0.N ⟨_, ht⟩ _ ht (flush0_6 _) h R C rfl
  have hN := row_le t
  rw [flushed6, out6]
  obtain ⟨A, B, rfl⟩ : ∃ (A : Fin 688) (B : Fin 1024), y = ix2 A B := ⟨y 0, y 1, eq_ix2 y⟩
  rw [emb6 t A B (by omega)] at he
  have h0 := congrArg Fin.val (congrFun he 0)
  have h1 := congrArg Fin.val (congrFun he 1)
  refine congrArg₂ (DG _ _ _ _ _) (Fin.ext h0) (Fin.ext ?_)
  change 4096 + (t.1 % 2 * 1024 + B.1) = 4096 + C'.1 at h1
  exact Nat.add_left_cancel h1

theorem run_blocks (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1 5, (h c).1 6, (h c).1 7,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.Kernel15Ideal.Value

namespace Cert.Reference15Ideal.Value

open Cert.Reference15Ideal Cert.Reference15Ideal.Gen Idealize.ShloMosaic Idealize.ShloMosaic.TcCoe Idealize.SL.Sem
open Cert.Kernel15Ideal.Value (dy dn xh DO DG W wterm seg gc)

theorem do_eq (m : (ℓ : Loc nD τ sig) → Buf (Elt Ideal) ℓ) (c : Dev nD) (R : Fin 8256) (C : Fin 2048) :
    (res_main_v51 m c (ix2 R C) : EReal)
      = DO (m ((c : Thread nD τ).loc main_arg0)) (m ((c : Thread nD τ).loc main_arg1)) (m ((c : Thread nD τ).loc main_arg2)) (m ((c : Thread nD τ).loc main_arg3))
          (m ((c : Thread nD τ).loc main_arg4)) (ix2 R C) := by
  refine Eq.trans ?_ (normBwd_eq positive_512 _ _ _ _ _).symm
  unfold res_main_v51 meanSqBwd meanSq dn dy logi seg gc
  generalize m ((c.tc : Thread nD τ).loc main_arg0) = x
  generalize m ((c.tc : Thread nD τ).loc main_arg1) = w
  generalize m ((c.tc : Thread nD τ).loc main_arg2) = o
  generalize m ((c.tc : Thread nD τ).loc main_arg3) = p
  generalize m ((c.tc : Thread nD τ).loc main_arg4) = v
  pointwise
  simp only [Finset.univ_unique, Finset.sum_singleton, zero_add]

/-- The gate's gradient, in the order of the reference, where the output's gradient and the normed value are real. -/
theorem gate (x : FVec Ideal S8256x1024 .bf16) (w : FVec Ideal S2048x1024 .bf16) (o : FVec Ideal S8256x2048 .f32) (p : FVec Ideal S8256x6144 .f32)
    (v : FVec Ideal S1x512 .f32) (hx : IsReal x) (hw : IsReal w) (hv : IsReal v)
    (R : Fin 8256) (C : Fin 2048) :
    DG x w o p v R C = xh o R C * (v (ix2 0 ⟨C.1 % 512, by omega⟩) : EReal) * dy x w R C * logi (p (ix2 R (gc C)) : EReal)
      + (p (ix2 R (gc C)) : EReal) * (xh o R C * (v (ix2 0 ⟨C.1 % 512, by omega⟩) : EReal) * dy x w R C)
        * (logi (p (ix2 R (gc C)) : EReal) * (1 - logi (p (ix2 R (gc C)) : EReal))) := by
  have hd : ∃ a : ℝ, dy x w R C = a := by
    choose fx hx using hx
    choose fw hw using hw
    refine ⟨∑ k : Fin 1024, fx (ix2 R k) * fw (ix2 C k), ?_⟩
    unfold dy
    rw [coe_sum]
    refine Finset.sum_congr rfl fun k _ => ?_
    rw [EReal.coe_mul, ← hx, ← hw]
  have hz : ∃ a : ℝ, xh o R C * (v (ix2 0 ⟨C.1 % 512, by omega⟩) : EReal) = a := by
    have e : seg C ⟨C.1 % 512, by omega⟩ = C := Fin.ext (by show C.1 / 512 * 512 + C.1 % 512 = C.1; omega)
    obtain ⟨b, hb⟩ := normed_real positive_512 (fun k => (o (ix2 R (seg C k)) : EReal)) ⟨C.1 % 512, by omega⟩
    obtain ⟨a, ha⟩ := hv (ix2 0 ⟨C.1 % 512, by omega⟩)
    simp only [e] at hb
    refine ⟨b * a, ?_⟩
    unfold xh
    rw [EReal.coe_mul, ← ha, ← hb]
  obtain ⟨d, hd⟩ := hd
  obtain ⟨z, hz⟩ := hz
  unfold DG
  rw [hd, hz]
  exact gateBwd_eq d z _

theorem run' (m : (ℓ : Loc nD τ sig) → Buf (Elt Ideal) ℓ) (ρ : Dev nD → PrngReg)
    (hx : ∀ c : Dev nD, IsReal (S := S8256x1024) (t := .bf16) (m ((c.tc : Thread nD τ).loc main_arg0)))
    (hw : ∀ c : Dev nD, IsReal (S := S2048x1024) (t := .bf16) (m ((c.tc : Thread nD τ).loc main_arg1)))
    (hv : ∀ c : Dev nD, IsReal (S := S1x512) (t := .f32) (m ((c.tc : Thread nD τ).loc main_arg4))) :
    θ_run defs (onTc (τ := τ) (main (F := Ideal))) ⟨m, fun _ => 0, ρ⟩ fun r => ∀ c : Dev nD,
      (∀ (R : Fin 8256) (C : Fin 2048), (r.2.mem ((c.tc : Thread nD τ).loc main_v51) : S8256x2048.Idx → EReal) (ix2 R C)
        = DO (m ((c : Thread nD τ).loc main_arg0)) (m ((c : Thread nD τ).loc main_arg1)) (m ((c : Thread nD τ).loc main_arg2)) (m ((c : Thread nD τ).loc main_arg3))
          (m ((c : Thread nD τ).loc main_arg4)) (ix2 R C))
      ∧ (∀ (R : Fin 8256) (C : Fin 2048), (r.2.mem ((c.tc : Thread nD τ).loc main_v54) : S8256x6144.Idx → EReal) (ix2 R (gc C))
        = DG (m ((c : Thread nD τ).loc main_arg0)) (m ((c : Thread nD τ).loc main_arg1)) (m ((c : Thread nD τ).loc main_arg2)) (m ((c : Thread nD τ).loc main_arg3))
          (m ((c : Thread nD τ).loc main_arg4)) R C)
      ∧ (∀ k : Fin 512, (r.2.mem ((c.tc : Thread nD τ).loc main_v36) : S1x512.Idx → EReal) (ix2 0 k)
        = W (m ((c : Thread nD τ).loc main_arg0)) (m ((c : Thread nD τ).loc main_arg1)) (m ((c : Thread nD τ).loc main_arg2)) (m ((c : Thread nD τ).loc main_arg3)) (ix2 0 k))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨fun R C => (congrFun (h c).1 (ix2 R C)).trans (do_eq m c R C), fun R C => (congrFun (h c).2.1 (ix2 R (gc C))).trans ?_,
    fun k => (congrFun (h c).2.2.1 (ix2 0 k)).trans ?_, (h c).2.2.2⟩) (Cert.Reference15Ideal.Value.run m ρ)
  · clear h
    refine Eq.trans ?_ (gate _ _ _ _ _ (hx c) (hw c) (hv c) R C).symm
    unfold xh dy meanSq logi gc seg
    generalize m ((c.tc : Thread nD τ).loc main_arg0) = x
    generalize m ((c.tc : Thread nD τ).loc main_arg1) = w
    generalize m ((c.tc : Thread nD τ).loc main_arg2) = o
    generalize m ((c.tc : Thread nD τ).loc main_arg3) = p
    generalize m ((c.tc : Thread nD τ).loc main_arg4) = v
    pointwise
  · clear h
    have e : ∀ h : Fin 4, (h.1 * 512 + k.1) / 512 = h.1 := by omega
    unfold W wterm xh dn dy meanSq logi gc seg
    simp only [ix2_1, e]
    generalize m ((c.tc : Thread nD τ).loc main_arg0) = x
    generalize m ((c.tc : Thread nD τ).loc main_arg1) = w
    generalize m ((c.tc : Thread nD τ).loc main_arg2) = o
    generalize m ((c.tc : Thread nD τ).loc main_arg3) = p
    generalize m ((c.tc : Thread nD τ).loc main_arg4) = v
    pointwise
    rw [hostReduceAdd_two]
    simp only [Finset.univ_unique, Finset.sum_singleton]
    pointwise
    rw [hostReduceAdd_two]
    pointwise

end Cert.Reference15Ideal.Value

namespace Cert.Proof

open Idealize.ShloMosaic Idealize.ShloMosaic.TcCoe Idealize.SL.Sem

instance facts_finite15 : Cert.Pre_finite15.Facts := ⟨by decide, by decide, by decide, by decide⟩
instance facts_gate_columns15 : Cert.On_gate_columns15.Facts := ⟨by decide, by decide, by decide⟩

theorem gnormr_frame : quiescent_Kernel15 := fun m ρ _ => Cert.Kernel15.Gen.frame m ρ
theorem gnormr_frameI : quiescent_Kernel15Ideal := fun m ρ _ => Cert.Kernel15Ideal.Gen.frame m ρ
theorem gnormr_frameI' : quiescent_Kernel15Ideal_pre_finite15 := fun m ρ _ => Cert.Kernel15Ideal.Gen.frame m ρ
theorem gnormr_frameR : quiescent_Reference15Ideal := fun m ρ _ =>
  (θ_run Cert.Reference15Ideal.defs _ _).mono (fun r h => ⟨fun c => (h c).2.2.2, sem_eq_zero_of_no_sems (by decide) _⟩) (Cert.Reference15Ideal.Value.run m ρ)
theorem gnormr_frameR' : quiescent_Reference15Ideal_pre_finite15 := fun m ρ _ => gnormr_frameR m ρ trivial

/-- The columns at which the second result is compared are the gate's. -/
theorem gate_column15 (a0 : FVec Ideal Cert.On_gate_columns15.S8256x1024 .bf16) (a1 : FVec Ideal Cert.On_gate_columns15.S2048x1024 .bf16)
    (a2 : FVec Ideal Cert.On_gate_columns15.S8256x2048 .f32) (a3 : FVec Ideal Cert.On_gate_columns15.S8256x6144 .f32) (a4 : FVec Ideal Cert.On_gate_columns15.S1x512 .f32)
    (R : Fin 8256) (C : Fin 6144) (h : (Cert.On_gate_columns15.fn (F := Ideal) a0 a1 a2 a3 a4).2.1 (ix2 R C) = 1#1) : 4096 ≤ C.1 := by
  unfold Cert.On_gate_columns15.fn at h
  dsimp only at h
  pointwise at h
  exact (Idealize.ShloMosaic.WordCmp.cmpi_sge_ofNat_eq_one_iff (w := 32) (a := C.1) (b := 4096) (by omega) (by omega)).mp h

theorem gnormr_value : algebraic_Kernel15Ideal_Reference15Ideal_on_gate_columns15_pre_finite15 := fun m ρ m' ρ' hp hag => by
  refine ⟨fun c => Cert.Kernel15Ideal.Value.DO (m ((c : Thread Cert.Kernel15Ideal.nD Cert.Kernel15Ideal.τ).loc Cert.Kernel15Ideal.main_arg0))
      (m ((c : Thread Cert.Kernel15Ideal.nD Cert.Kernel15Ideal.τ).loc Cert.Kernel15Ideal.main_arg1))
      (m ((c : Thread Cert.Kernel15Ideal.nD Cert.Kernel15Ideal.τ).loc Cert.Kernel15Ideal.main_arg2))
      (m ((c : Thread Cert.Kernel15Ideal.nD Cert.Kernel15Ideal.τ).loc Cert.Kernel15Ideal.main_arg3))
      (m ((c : Thread Cert.Kernel15Ideal.nD Cert.Kernel15Ideal.τ).loc Cert.Kernel15Ideal.main_arg4)),
    fun c => (Cert.Kernel15Ideal.Gen.dats m 0 c).arrAt 6 Cert.Kernel15Ideal.cfg0.N,
    fun c => Cert.Kernel15Ideal.Value.W (m ((c : Thread Cert.Kernel15Ideal.nD Cert.Kernel15Ideal.τ).loc Cert.Kernel15Ideal.main_arg0))
      (m ((c : Thread Cert.Kernel15Ideal.nD Cert.Kernel15Ideal.τ).loc Cert.Kernel15Ideal.main_arg1))
      (m ((c : Thread Cert.Kernel15Ideal.nD Cert.Kernel15Ideal.τ).loc Cert.Kernel15Ideal.main_arg2))
      (m ((c : Thread Cert.Kernel15Ideal.nD Cert.Kernel15Ideal.τ).loc Cert.Kernel15Ideal.main_arg3)), ?_, ?_⟩
  · exact (θ_run Cert.Kernel15Ideal.defs _ _).mono (fun r h c =>
      ⟨fun i _ => congrFun ((h c).1.trans (Cert.Kernel15Ideal.Value.final5 m c)) i, fun i _ => congrFun (h c).2.1 i,
        fun i _ => congrFun ((h c).2.2.1.trans (Cert.Kernel15Ideal.Value.final7 m c)) i, (h c).2.2.2⟩)
      (Cert.Kernel15Ideal.Value.run_blocks m ρ)
  · refine (θ_run Cert.Reference15Ideal.defs _ _).mono (fun r h c => ⟨fun i _ => ?_, fun i hi => ?_, fun i _ => ?_, (h c).2.2.2⟩)
      (Cert.Reference15Ideal.Value.run' m' ρ' (fun c i => ?_) (fun c i => ?_) (fun c i => ?_))
    · obtain ⟨R, C, rfl⟩ : ∃ (R : Fin 8256) (C : Fin 2048), i = ix2 R C := ⟨i 0, i 1, eq_ix2 i⟩
      refine ((h c).1 R C).trans ?_
      rw [(hag c).1, (hag c).2.1, (hag c).2.2.1, (hag c).2.2.2.1, (hag c).2.2.2.2]
    · obtain ⟨R, C, rfl⟩ : ∃ (R : Fin 8256) (C : Fin 6144), i = ix2 R C := ⟨i 0, i 1, eq_ix2 i⟩
      have hC := gate_column15 _ _ _ _ _ R C hi
      obtain ⟨C, rfl⟩ : ∃ C' : Fin 2048, C = Cert.Kernel15Ideal.Value.gc C' := ⟨⟨C.1 - 4096, by omega⟩, Fin.ext (by show C.1 = 4096 + (C.1 - 4096); omega)⟩
      refine ((h c).2.1 R C).trans (Eq.trans ?_ (Cert.Kernel15Ideal.Value.final6 m c R C).symm)
      rw [(hag c).1, (hag c).2.1, (hag c).2.2.1, (hag c).2.2.2.1, (hag c).2.2.2.2]
    · obtain ⟨R, C, rfl⟩ : ∃ (R : Fin 1) (C : Fin 512), i = ix2 R C := ⟨i 0, i 1, eq_ix2 i⟩
      obtain rfl : R = 0 := Subsingleton.elim _ _
      refine ((h c).2.2.1 C).trans ?_
      rw [(hag c).1, (hag c).2.1, (hag c).2.2.1, (hag c).2.2.2.1]
    · rw [(hag c).1]
      exact ⟨_, real_of_abs_lt _ _ (hp c).1 i⟩
    · rw [(hag c).2.1]
      exact ⟨_, real_of_abs_lt _ _ (hp c).2.1 i⟩
    · rw [(hag c).2.2.2.2]
      exact ⟨_, real_of_abs_lt _ _ (hp c).2.2 i⟩

end Cert.Proof

end
-- ==== Proof.Adam.lean ====
module

public import proofs.«01_k».proof.Proof.Common

/-! The optimiser's step at one place: the gradient is the sum of the eight devices' parts, the two moments are weighted means of what they were and of the
gradient and its square, and the weight's change is the first moment over the second's square root, with the decay of the weight, times the step's length. The
kernel and the reference compute it place by place with the same constants, so the lemmas here are stated for arrays of any shape. -/

@[expose] public section

noncomputable section

namespace Cert.Adam

open Idealize.ShloMosaic

/-- The gradient: the sum of the devices' parts. -/
def total (f : Fin 8 → EReal) : EReal := ∑ s, f s

/-- The new first moment, from the gradient and the old one. -/
def mom (g m : EReal) : EReal := Ideal.ofBits .f32 0x3F666666#32 * m + Ideal.ofBits .f32 0x3DCCCCCD#32 * g

/-- The new second moment, from the gradient and the old one. -/
def vel (g v : EReal) : EReal := Ideal.ofBits .f32 0x3F7FBE77#32 * v + Ideal.ofBits .f32 0x3A83126F#32 * (g * g)

/-- The weight's change, from the gradient, the weight and the two old moments. -/
def delta (g w m v : EReal) : EReal :=
  Ideal.ofBits .f32 0xBA83126F#32 * (Ideal.div (Ideal.div (mom g m) (Ideal.ofBits .f32 0x3F26BD02#32))
    (Ideal.sqrt (Ideal.div (vel g v) (Ideal.ofBits .f32 0x3C231ACC#32)) + Ideal.ofBits .f32 0x322BCC77#32) + Ideal.ofBits .f32 0x3C23D70A#32 * w)

/-- A device's part of a block, read as a page of the block of all parts. -/
theorem part {Val : EltTy → Type} {e : EltTy} {r c : ℕ} (x : (⟨3, ![8, r, c]⟩ : Shape).Idx → Val e) (k : Fin 8)
    (h : ∀ a, (![k.1, 0, 0] : Fin 3 → ℕ) a + (![1, r, c] : Fin 3 → ℕ) a ≤ (⟨3, ![8, r, c]⟩ : Shape).size a) (R : Fin r) (C : Fin c) :
    View.ld (Val := Val) x (Rect.unit (s := ⟨3, ![8, r, c]⟩) ![k.1, 0, 0] ![1, r, c] h) (ix3 0 R C)
      = x (ix3 k R C) := by
  refine congrArg x (funext fun a => Fin.ext ?_)
  match a with
  | ⟨0, _⟩ => show k.1 + 1 * 0 = k.1; omega
  | ⟨1, _⟩ => show 0 + 1 * R.1 = R.1; omega
  | ⟨2, _⟩ => show 0 + 1 * C.1 = C.1; omega

/-- Two sums of eight terms, equal term by term. -/
theorem add_eight {a b c d e f g h a' b' c' d' e' f' g' h' : EReal} (ha : a = a') (hb : b = b') (hc : c = c') (hd : d = d') (he : e = e') (hf : f = f')
    (hg : g = g') (hh : h = h') : a + b + c + d + e + f + g + h = a' + b' + c' + d' + e' + f' + g' + h' := by
  rw [ha, hb, hc, hd, he, hf, hg, hh]

section
variable {S : Shape} (g w m v : FVec Ideal S .f32) (b : (⟨0, ![]⟩ : Shape).BroadcastsInDim S ![])

/-- The reference's spelling of a constant over the whole array. -/
def all (l : BitVec 32) : FVec Ideal S .f32 := broadcastInDim S ![] b (constant (F := Ideal) ⟨0, ![]⟩ .f32 l)

/-- The reference's first moment, place by place. -/
theorem mom_ref : addf (mulf (all b 0x3F666666#32) m) (mulf (all b 0x3DCCCCCD#32) g) = fun y => mom (g y) (m y) := rfl

/-- The reference's second moment, place by place. -/
theorem vel_ref : addf (mulf (all b 0x3F7FBE77#32) v) (mulf (all b 0x3A83126F#32) (mulf g g)) = fun y => vel (g y) (v y) := rfl

/-- The reference's change of the weight, place by place. -/
theorem delta_ref : mulf (all b 0xBA83126F#32) (addf (Host.divf (Host.divf (addf (mulf (all b 0x3F666666#32) m) (mulf (all b 0x3DCCCCCD#32) g)) (all b 0x3F26BD02#32))
    (addf (Host.sqrt (Host.divf (addf (mulf (all b 0x3F7FBE77#32) v) (mulf (all b 0x3A83126F#32) (mulf g g))) (all b 0x3C231ACC#32))) (all b 0x322BCC77#32)))
    (mulf (all b 0x3C23D70A#32) w)) = fun y => delta (g y) (w y) (m y) (v y) := rfl
end

end Cert.Adam
end
-- ==== Proof.AdamRetIn.lean ====
module

public import proofs.«01_k».proof.Defs
public import proofs.«01_k».proof.Proof.Adam
public import proofs.«01_k».proof.Proof.Gen.Kernel16.Frame
public import proofs.«01_k».proof.Proof.Gen.Kernel16Ideal.Value
public import proofs.«01_k».proof.Proof.Gen.Reference16Ideal.Run
public import Idealize.ShloMosaic.Lib.Quiescent

/-! The optimiser's step of the retention layer's input weights: a grid point takes 256 of the 1024 rows, of every array, and its four results are the rows of
the gradient, of the weight's change and of the two moments. -/

@[expose] public section

set_option maxRecDepth 16384

noncomputable section

namespace Cert.Kernel16Ideal.Value

open Cert.Kernel16Ideal Cert.Kernel16Ideal.Gen Cert.Adam Idealize.ShloMosaic Idealize.ShloMosaic.TcCoe Idealize.SL.Sem

theorem idx0 : ∀ t : Fin cfg0.N, win0_0.index t (0 : Fin 3) = 0 ∧ win0_0.index t (1 : Fin 3) = t.1 ∧ win0_0.index t (2 : Fin 3) = 0 :=
  (by decide +kernel : ∀ t : Fin grid0.N, _)
/-- The windows of the weight, the moments and the results all move alike. -/
theorem idx1 : ∀ t : Fin cfg0.N, win0_1.index t (0 : Fin 2) = t.1 ∧ win0_1.index t (1 : Fin 2) = 0 := (by decide +kernel : ∀ t : Fin grid0.N, _)

theorem sum_at (a b c d e f g h : FVec Ideal S1x256x768 .bf16) (R : Fin 256) (C : Fin 768) : (k0_pay4 (F := Ideal) a b c d e f g h (ix2 R C) : EReal)
    = (a (ix3 0 R C) : EReal) + (b (ix3 0 R C) : EReal) + (c (ix3 0 R C) : EReal) + (d (ix3 0 R C) : EReal) + (e (ix3 0 R C) : EReal) + (f (ix3 0 R C) : EReal)
      + (g (ix3 0 R C) : EReal) + (h (ix3 0 R C) : EReal) := by
  unfold k0_pay4
  pointwise

section
variable (x : FVec Ideal S8x256x768 .bf16) (w m v : FVec Ideal S256x768 .f32)

theorem grad_at (R : Fin 256) (C : Fin 768) : (k0_pay5 (F := Ideal) x w m v (ix2 R C) : EReal) = total fun s => (x (ix3 s R C) : EReal) := by
  unfold k0_pay5 total
  rw [Fin.sum_univ_eight, sum_at]
  have e := fun (k : Fin 8) h => part (Val := Elt Ideal) (e := .bf16) x k h R C
  exact add_eight (e 0 _) (e 1 _) (e 2 _) (e 3 _) (e 4 _) (e 5 _) (e 6 _) (e 7 _)

theorem out4 : out0_4 (F := Ideal) x w m v = k0_pay5 (F := Ideal) x w m v := by
  unfold out0_4
  rw [View.canon_unit_zero vec2_zero]

theorem out5 : out0_5 (F := Ideal) x w m v = fun y => delta (k0_pay5 (F := Ideal) x w m v y) (w y) (m y) (v y) := by
  unfold out0_5
  rw [View.canon_unit_zero vec2_zero, View.ld_unit_zero vec2_zero, View.ld_unit_zero vec2_zero, View.ld_unit_zero vec2_zero]
  rfl

theorem out6 : out0_6 (F := Ideal) x w m v = fun y => mom (k0_pay5 (F := Ideal) x w m v y) (m y) := by
  unfold out0_6
  rw [View.canon_unit_zero vec2_zero, View.ld_unit_zero vec2_zero]
  rfl

theorem out7 : out0_7 (F := Ideal) x w m v = fun y => vel (k0_pay5 (F := Ideal) x w m v y) (v y) := by
  unfold out0_7
  rw [View.canon_unit_zero vec2_zero, View.ld_unit_zero vec2_zero]
  rfl
end

/-- The first result: the gradient. -/
def G (x : FVec Ideal S8x1024x768 .bf16) : FVec Ideal S1024x768 .f32 := fun y => total fun s => (x (ix3 s (y 0) (y 1)) : EReal)

/-- The second result: the weight's change. -/
def D (x : FVec Ideal S8x1024x768 .bf16) (w m v : FVec Ideal S1024x768 .f32) : FVec Ideal S1024x768 .f32 := fun y => delta (G x y) (w y) (m y) (v y)

/-- The third result: the first moment. -/
def M (x : FVec Ideal S8x1024x768 .bf16) (m : FVec Ideal S1024x768 .f32) : FVec Ideal S1024x768 .f32 := fun y => mom (G x y) (m y)

/-- The fourth result: the second moment. -/
def W (x : FVec Ideal S8x1024x768 .bf16) (v : FVec Ideal S1024x768 .f32) : FVec Ideal S1024x768 .f32 := fun y => vel (G x y) (v y)

variable (m : (ℓ : Loc nD τ sig) → Buf (Elt Ideal) ℓ) (c : Dev nD)

theorem row_lt (t : Fin cfg0.N) (R : Fin 256) : t.1 * 256 + R.1 < 1024 := by
  have := lt_of_lt_of_eq t.isLt N_0
  omega

theorem iblk0 (t : Fin cfg0.N) (s : Fin 8) (R : Fin 256) (C : Fin 768) :
    (iblk m c 0 t : FVec Ideal S8x256x768 .bf16) (ix3 s R C) = (V m c main_arg0 : FVec Ideal S8x1024x768 .bf16) (ix3 s ⟨t.1 * 256 + R.1, row_lt t R⟩ C) := by
  obtain ⟨e0, e1, e2⟩ := idx0 t
  refine congrArg (V m c main_arg0) (funext fun a => Fin.ext ?_)
  match a with
  | ⟨0, _⟩ => show win0_0.index t (0 : Fin 3) * 8 + 1 * s.1 = s.1; omega
  | ⟨1, _⟩ => show win0_0.index t (1 : Fin 3) * 256 + 1 * R.1 = t.1 * 256 + R.1; omega
  | ⟨2, _⟩ => show win0_0.index t (2 : Fin 3) * 768 + 1 * C.1 = C.1; omega

theorem emb (t : Fin cfg0.N) (R : Fin 256) (C : Fin 768) :
    ((cfg0.win 1).blk t).view.emb (ix2 R C) = (ix2 ⟨t.1 * 256 + R.1, row_lt t R⟩ C : S1024x768.Idx) := by
  obtain ⟨e0, e1⟩ := idx1 t
  funext a; apply Fin.ext
  match a with
  | ⟨0, _⟩ => show win0_1.index t (0 : Fin 2) * 256 + 1 * R.1 = t.1 * 256 + R.1; omega
  | ⟨1, _⟩ => show win0_1.index t (1 : Fin 2) * 768 + 1 * C.1 = C.1; omega

theorem iblk1 (t : Fin cfg0.N) (R : Fin 256) (C : Fin 768) :
    (iblk m c 1 t : FVec Ideal S256x768 .f32) (ix2 R C) = (V m c main_arg1 : FVec Ideal S1024x768 .f32) (ix2 ⟨t.1 * 256 + R.1, row_lt t R⟩ C) :=
  congrArg (V m c main_arg1) (emb t R C)

theorem iblk2 (t : Fin cfg0.N) (R : Fin 256) (C : Fin 768) :
    (iblk m c 2 t : FVec Ideal S256x768 .f32) (ix2 R C) = (V m c main_arg2 : FVec Ideal S1024x768 .f32) (ix2 ⟨t.1 * 256 + R.1, row_lt t R⟩ C) :=
  congrArg (V m c main_arg2) (emb t R C)

theorem iblk3 (t : Fin cfg0.N) (R : Fin 256) (C : Fin 768) :
    (iblk m c 3 t : FVec Ideal S256x768 .f32) (ix2 R C) = (V m c main_arg3 : FVec Ideal S1024x768 .f32) (ix2 ⟨t.1 * 256 + R.1, row_lt t R⟩ C) :=
  congrArg (V m c main_arg3) (emb t R C)

/-- The gradient of a block's rows is the whole array's at those rows. -/
theorem grad (t : Fin cfg0.N) (R : Fin 256) (C : Fin 768) :
    (k0_pay5 (F := Ideal) (iblk m c 0 t) (iblk m c 1 t) (iblk m c 2 t) (iblk m c 3 t) (ix2 R C) : EReal)
      = G (V m c main_arg0) (ix2 ⟨t.1 * 256 + R.1, row_lt t R⟩ C) :=
  (grad_at _ _ _ _ R C).trans (congrArg total (funext fun s => iblk0 m c t s R C))

/-- Every place lies in some block. -/
theorem cover (y : S1024x768.Idx) : ∃ t : Fin cfg0.N, ∃ z : S256x768.Idx, ((cfg0.win 1).blk t).view.emb z = y := by
  obtain ⟨R, C, rfl⟩ : ∃ (R : Fin 1024) (C : Fin 768), y = ix2 R C := ⟨y 0, y 1, eq_ix2 y⟩
  refine ⟨⟨R.1 / 256, lt_of_lt_of_eq (by omega) N_0.symm⟩, ix2 (⟨R.1 % 256, by omega⟩ : Fin 256) C, (emb _ _ _).trans (congrArg₂ ix2 (Fin.ext ?_) rfl)⟩
  dsimp only; omega

theorem result4 : (dats m 0 c).arrAt 4 cfg0.N = G (V m c main_arg0) := by
  refine (dats m 0 c).arrAt_eq_of_cover 4 _ (fun t _ => ?_) fun y => ?_
  · rw [flushed4, out4]
    funext y
    obtain ⟨R, C, rfl⟩ : ∃ (R : Fin 256) (C : Fin 768), y = ix2 R C := ⟨y 0, y 1, eq_ix2 y⟩
    exact (grad m c t R C).trans (congrArg (G _) (emb t R C)).symm
  · obtain ⟨t, z, rfl⟩ := cover y
    exact ⟨t, flush0_4 t, ((cfg0.win 4).blk t).view.emb_mem_set z⟩

theorem result5 : (dats m 0 c).arrAt 5 cfg0.N = D (V m c main_arg0) (V m c main_arg1) (V m c main_arg2) (V m c main_arg3) := by
  refine (dats m 0 c).arrAt_eq_of_cover 5 _ (fun t _ => ?_) fun y => ?_
  · rw [flushed5, out5]
    funext y
    obtain ⟨R, C, rfl⟩ : ∃ (R : Fin 256) (C : Fin 768), y = ix2 R C := ⟨y 0, y 1, eq_ix2 y⟩
    refine Eq.trans ?_ (congrArg (D _ _ _ _) (emb t R C)).symm
    exact (congrFun (congrFun (congrArg₂ delta (grad m c t R C) (iblk1 m c t R C)) _) _).trans
      (congrArg₂ (delta _ _) (iblk2 m c t R C) (iblk3 m c t R C))
  · obtain ⟨t, z, rfl⟩ := cover y
    exact ⟨t, flush0_5 t, ((cfg0.win 5).blk t).view.emb_mem_set z⟩

theorem result6 : (dats m 0 c).arrAt 6 cfg0.N = M (V m c main_arg0) (V m c main_arg2) := by
  refine (dats m 0 c).arrAt_eq_of_cover 6 _ (fun t _ => ?_) fun y => ?_
  · rw [flushed6, out6]
    funext y
    obtain ⟨R, C, rfl⟩ : ∃ (R : Fin 256) (C : Fin 768), y = ix2 R C := ⟨y 0, y 1, eq_ix2 y⟩
    exact (congrArg₂ mom (grad m c t R C) (iblk2 m c t R C)).trans (congrArg (M _ _) (emb t R C)).symm
  · obtain ⟨t, z, rfl⟩ := cover y
    exact ⟨t, flush0_6 t, ((cfg0.win 6).blk t).view.emb_mem_set z⟩

theorem result7 : (dats m 0 c).arrAt 7 cfg0.N = W (V m c main_arg0) (V m c main_arg3) := by
  refine (dats m 0 c).arrAt_eq_of_cover 7 _ (fun t _ => ?_) fun y => ?_
  · rw [flushed7, out7]
    funext y
    obtain ⟨R, C, rfl⟩ : ∃ (R : Fin 256) (C : Fin 768), y = ix2 R C := ⟨y 0, y 1, eq_ix2 y⟩
    exact (congrArg₂ vel (grad m c t R C) (iblk3 m c t R C)).trans (congrArg (W _ _) (emb t R C)).symm
  · obtain ⟨t, z, rfl⟩ := cover y
    exact ⟨t, flush0_7 t, ((cfg0.win 7).blk t).view.emb_mem_set z⟩

end Cert.Kernel16Ideal.Value

namespace Cert.Reference16Ideal.Value

open Cert.Reference16Ideal Cert.Reference16Ideal.Gen Cert.Adam Idealize.ShloMosaic

theorem ref_grad (x : FVec Ideal S8x1024x768 .bf16) :
    (Host.reduceAdd (extf .f32 x bitsLt_bf16_f32) (constant S_ .f32 0x00000000#32) reducesTo_S8x1024x768_S1024x768_d0 h_S_ : FVec Ideal S1024x768 .f32)
      = Cert.Kernel16Ideal.Value.G x := by
  funext y
  obtain ⟨R, C, rfl⟩ : ∃ (R : Fin 1024) (C : Fin 768), y = ix2 R C := ⟨y 0, y 1, eq_ix2 y⟩
  show _ = ∑ s : Fin 8, (x (ix3 s R C) : EReal)
  pointwise

end Cert.Reference16Ideal.Value

namespace Cert.Proof

open Idealize.ShloMosaic Idealize.ShloMosaic.TcCoe Idealize.SL.Sem

theorem adam_ret_in_frame : quiescent_Kernel16 := fun m ρ _ => Cert.Kernel16.Gen.frame m ρ
theorem adam_ret_in_frameI : quiescent_Kernel16Ideal := fun m ρ _ => Cert.Kernel16Ideal.Gen.frame m ρ
theorem adam_ret_in_frameR : quiescent_Reference16Ideal := fun m ρ _ =>
  (θ_run Cert.Reference16Ideal.defs _ _).mono (fun r h => ⟨fun c => (h c).2.2.2.2, sem_eq_zero_of_no_sems (by decide) _⟩)
    (Cert.Reference16Ideal.Value.run m ρ)

theorem adam_ret_in_value : algebraic_Kernel16Ideal_Reference16Ideal := fun m ρ m' ρ' _ hag => by
  refine ⟨fun c => Cert.Kernel16Ideal.Value.G (Cert.Kernel16Ideal.Gen.V m c Cert.Kernel16Ideal.main_arg0),
    fun c => Cert.Kernel16Ideal.Value.D (Cert.Kernel16Ideal.Gen.V m c Cert.Kernel16Ideal.main_arg0) (Cert.Kernel16Ideal.Gen.V m c Cert.Kernel16Ideal.main_arg1)
      (Cert.Kernel16Ideal.Gen.V m c Cert.Kernel16Ideal.main_arg2) (Cert.Kernel16Ideal.Gen.V m c Cert.Kernel16Ideal.main_arg3),
    fun c => Cert.Kernel16Ideal.Value.M (Cert.Kernel16Ideal.Gen.V m c Cert.Kernel16Ideal.main_arg0) (Cert.Kernel16Ideal.Gen.V m c Cert.Kernel16Ideal.main_arg2),
    fun c => Cert.Kernel16Ideal.Value.W (Cert.Kernel16Ideal.Gen.V m c Cert.Kernel16Ideal.main_arg0) (Cert.Kernel16Ideal.Gen.V m c Cert.Kernel16Ideal.main_arg3),
    ?_, ?_⟩
  · exact (θ_run Cert.Kernel16Ideal.defs _ _).mono (fun r h c => ⟨(h c).1.trans (Cert.Kernel16Ideal.Value.result4 m c),
      (h c).2.1.trans (Cert.Kernel16Ideal.Value.result5 m c), (h c).2.2.1.trans (Cert.Kernel16Ideal.Value.result6 m c),
      (h c).2.2.2.1.trans (Cert.Kernel16Ideal.Value.result7 m c), (h c).2.2.2.2⟩) (Cert.Kernel16Ideal.Value.run_blocks m ρ)
  · refine (θ_run Cert.Reference16Ideal.defs _ _).mono (fun r h c => ?_) (Cert.Reference16Ideal.Value.run m' ρ')
    have H := h c
    rw [(hag c).1, (hag c).2.1, (hag c).2.2.1, (hag c).2.2.2, Cert.Reference16Ideal.Value.ref_grad] at H
    exact ⟨H.1, H.2.1.trans (Cert.Adam.delta_ref _ _ _ _ _), H.2.2.1.trans (Cert.Adam.mom_ref _ _ _), H.2.2.2.1.trans (Cert.Adam.vel_ref _ _ _),
      (h c).2.2.2.2⟩

end Cert.Proof
end
-- ==== Proof.AdamDnOut.lean ====
module

public import proofs.«01_k».proof.Defs
public import proofs.«01_k».proof.Proof.Adam
public import proofs.«01_k».proof.Proof.Gen.Kernel17.Frame
public import proofs.«01_k».proof.Proof.Gen.Kernel17Ideal.Value
public import proofs.«01_k».proof.Proof.Gen.Reference17Ideal.Run
public import Idealize.ShloMosaic.Lib.Quiescent

/-! The optimiser's step of the delta rule's output weights: a grid point takes 128 of the 256 rows, of every array, and its four results are the rows of
the gradient, of the weight's change and of the two moments. -/

@[expose] public section

set_option maxRecDepth 16384

noncomputable section

namespace Cert.Kernel17Ideal.Value

open Cert.Kernel17Ideal Cert.Kernel17Ideal.Gen Cert.Adam Idealize.ShloMosaic Idealize.ShloMosaic.TcCoe Idealize.SL.Sem

theorem idx0 : ∀ t : Fin cfg0.N, win0_0.index t (0 : Fin 3) = 0 ∧ win0_0.index t (1 : Fin 3) = t.1 ∧ win0_0.index t (2 : Fin 3) = 0 :=
  (by decide +kernel : ∀ t : Fin grid0.N, _)
/-- The windows of the weight, the moments and the results all move alike. -/
theorem idx1 : ∀ t : Fin cfg0.N, win0_1.index t (0 : Fin 2) = t.1 ∧ win0_1.index t (1 : Fin 2) = 0 := (by decide +kernel : ∀ t : Fin grid0.N, _)

theorem sum_at (a b c d e f g h : FVec Ideal S1x128x1024 .bf16) (R : Fin 128) (C : Fin 1024) : (k0_pay4 (F := Ideal) a b c d e f g h (ix2 R C) : EReal)
    = (a (ix3 0 R C) : EReal) + (b (ix3 0 R C) : EReal) + (c (ix3 0 R C) : EReal) + (d (ix3 0 R C) : EReal) + (e (ix3 0 R C) : EReal) + (f (ix3 0 R C) : EReal)
      + (g (ix3 0 R C) : EReal) + (h (ix3 0 R C) : EReal) := by
  unfold k0_pay4
  pointwise

section
variable (x : FVec Ideal S8x128x1024 .bf16) (w m v : FVec Ideal S128x1024 .f32)

theorem grad_at (R : Fin 128) (C : Fin 1024) : (k0_pay5 (F := Ideal) x w m v (ix2 R C) : EReal) = total fun s => (x (ix3 s R C) : EReal) := by
  unfold k0_pay5 total
  rw [Fin.sum_univ_eight, sum_at]
  have e := fun (k : Fin 8) h => part (Val := Elt Ideal) (e := .bf16) x k h R C
  exact add_eight (e 0 _) (e 1 _) (e 2 _) (e 3 _) (e 4 _) (e 5 _) (e 6 _) (e 7 _)

theorem out4 : out0_4 (F := Ideal) x w m v = k0_pay5 (F := Ideal) x w m v := by
  unfold out0_4
  rw [View.canon_unit_zero vec2_zero]

theorem out5 : out0_5 (F := Ideal) x w m v = fun y => delta (k0_pay5 (F := Ideal) x w m v y) (w y) (m y) (v y) := by
  unfold out0_5
  rw [View.canon_unit_zero vec2_zero, View.ld_unit_zero vec2_zero, View.ld_unit_zero vec2_zero, View.ld_unit_zero vec2_zero]
  rfl

theorem out6 : out0_6 (F := Ideal) x w m v = fun y => mom (k0_pay5 (F := Ideal) x w m v y) (m y) := by
  unfold out0_6
  rw [View.canon_unit_zero vec2_zero, View.ld_unit_zero vec2_zero]
  rfl

theorem out7 : out0_7 (F := Ideal) x w m v = fun y => vel (k0_pay5 (F := Ideal) x w m v y) (v y) := by
  unfold out0_7
  rw [View.canon_unit_zero vec2_zero, View.ld_unit_zero vec2_zero]
  rfl
end

/-- The first result: the gradient. -/
def G (x : FVec Ideal S8x256x1024 .bf16) : FVec Ideal S256x1024 .f32 := fun y => total fun s => (x (ix3 s (y 0) (y 1)) : EReal)

/-- The second result: the weight's change. -/
def D (x : FVec Ideal S8x256x1024 .bf16) (w m v : FVec Ideal S256x1024 .f32) : FVec Ideal S256x1024 .f32 := fun y => delta (G x y) (w y) (m y) (v y)

/-- The third result: the first moment. -/
def M (x : FVec Ideal S8x256x1024 .bf16) (m : FVec Ideal S256x1024 .f32) : FVec Ideal S256x1024 .f32 := fun y => mom (G x y) (m y)

/-- The fourth result: the second moment. -/
def W (x : FVec Ideal S8x256x1024 .bf16) (v : FVec Ideal S256x1024 .f32) : FVec Ideal S256x1024 .f32 := fun y => vel (G x y) (v y)

variable (m : (ℓ : Loc nD τ sig) → Buf (Elt Ideal) ℓ) (c : Dev nD)

theorem row_lt (t : Fin cfg0.N) (R : Fin 128) : t.1 * 128 + R.1 < 256 := by
  have := lt_of_lt_of_eq t.isLt N_0
  omega

theorem iblk0 (t : Fin cfg0.N) (s : Fin 8) (R : Fin 128) (C : Fin 1024) :
    (iblk m c 0 t : FVec Ideal S8x128x1024 .bf16) (ix3 s R C) = (V m c main_arg0 : FVec Ideal S8x256x1024 .bf16) (ix3 s ⟨t.1 * 128 + R.1, row_lt t R⟩ C) := by
  obtain ⟨e0, e1, e2⟩ := idx0 t
  refine congrArg (V m c main_arg0) (funext fun a => Fin.ext ?_)
  match a with
  | ⟨0, _⟩ => show win0_0.index t (0 : Fin 3) * 8 + 1 * s.1 = s.1; omega
  | ⟨1, _⟩ => show win0_0.index t (1 : Fin 3) * 128 + 1 * R.1 = t.1 * 128 + R.1; omega
  | ⟨2, _⟩ => show win0_0.index t (2 : Fin 3) * 1024 + 1 * C.1 = C.1; omega

theorem emb (t : Fin cfg0.N) (R : Fin 128) (C : Fin 1024) :
    ((cfg0.win 1).blk t).view.emb (ix2 R C) = (ix2 ⟨t.1 * 128 + R.1, row_lt t R⟩ C : S256x1024.Idx) := by
  obtain ⟨e0, e1⟩ := idx1 t
  funext a; apply Fin.ext
  match a with
  | ⟨0, _⟩ => show win0_1.index t (0 : Fin 2) * 128 + 1 * R.1 = t.1 * 128 + R.1; omega
  | ⟨1, _⟩ => show win0_1.index t (1 : Fin 2) * 1024 + 1 * C.1 = C.1; omega

theorem iblk1 (t : Fin cfg0.N) (R : Fin 128) (C : Fin 1024) :
    (iblk m c 1 t : FVec Ideal S128x1024 .f32) (ix2 R C) = (V m c main_arg1 : FVec Ideal S256x1024 .f32) (ix2 ⟨t.1 * 128 + R.1, row_lt t R⟩ C) :=
  congrArg (V m c main_arg1) (emb t R C)

theorem iblk2 (t : Fin cfg0.N) (R : Fin 128) (C : Fin 1024) :
    (iblk m c 2 t : FVec Ideal S128x1024 .f32) (ix2 R C) = (V m c main_arg2 : FVec Ideal S256x1024 .f32) (ix2 ⟨t.1 * 128 + R.1, row_lt t R⟩ C) :=
  congrArg (V m c main_arg2) (emb t R C)

theorem iblk3 (t : Fin cfg0.N) (R : Fin 128) (C : Fin 1024) :
    (iblk m c 3 t : FVec Ideal S128x1024 .f32) (ix2 R C) = (V m c main_arg3 : FVec Ideal S256x1024 .f32) (ix2 ⟨t.1 * 128 + R.1, row_lt t R⟩ C) :=
  congrArg (V m c main_arg3) (emb t R C)

/-- The gradient of a block's rows is the whole array's at those rows. -/
theorem grad (t : Fin cfg0.N) (R : Fin 128) (C : Fin 1024) :
    (k0_pay5 (F := Ideal) (iblk m c 0 t) (iblk m c 1 t) (iblk m c 2 t) (iblk m c 3 t) (ix2 R C) : EReal)
      = G (V m c main_arg0) (ix2 ⟨t.1 * 128 + R.1, row_lt t R⟩ C) :=
  (grad_at _ _ _ _ R C).trans (congrArg total (funext fun s => iblk0 m c t s R C))

/-- Every place lies in some block. -/
theorem cover (y : S256x1024.Idx) : ∃ t : Fin cfg0.N, ∃ z : S128x1024.Idx, ((cfg0.win 1).blk t).view.emb z = y := by
  obtain ⟨R, C, rfl⟩ : ∃ (R : Fin 256) (C : Fin 1024), y = ix2 R C := ⟨y 0, y 1, eq_ix2 y⟩
  refine ⟨⟨R.1 / 128, lt_of_lt_of_eq (by omega) N_0.symm⟩, ix2 (⟨R.1 % 128, by omega⟩ : Fin 128) C, (emb _ _ _).trans (congrArg₂ ix2 (Fin.ext ?_) rfl)⟩
  dsimp only; omega

theorem result4 : (dats m 0 c).arrAt 4 cfg0.N = G (V m c main_arg0) := by
  refine (dats m 0 c).arrAt_eq_of_cover 4 _ (fun t _ => ?_) fun y => ?_
  · rw [flushed4, out4]
    funext y
    obtain ⟨R, C, rfl⟩ : ∃ (R : Fin 128) (C : Fin 1024), y = ix2 R C := ⟨y 0, y 1, eq_ix2 y⟩
    exact (grad m c t R C).trans (congrArg (G _) (emb t R C)).symm
  · obtain ⟨t, z, rfl⟩ := cover y
    exact ⟨t, flush0_4 t, ((cfg0.win 4).blk t).view.emb_mem_set z⟩

theorem result5 : (dats m 0 c).arrAt 5 cfg0.N = D (V m c main_arg0) (V m c main_arg1) (V m c main_arg2) (V m c main_arg3) := by
  refine (dats m 0 c).arrAt_eq_of_cover 5 _ (fun t _ => ?_) fun y => ?_
  · rw [flushed5, out5]
    funext y
    obtain ⟨R, C, rfl⟩ : ∃ (R : Fin 128) (C : Fin 1024), y = ix2 R C := ⟨y 0, y 1, eq_ix2 y⟩
    refine Eq.trans ?_ (congrArg (D _ _ _ _) (emb t R C)).symm
    exact (congrFun (congrFun (congrArg₂ delta (grad m c t R C) (iblk1 m c t R C)) _) _).trans
      (congrArg₂ (delta _ _) (iblk2 m c t R C) (iblk3 m c t R C))
  · obtain ⟨t, z, rfl⟩ := cover y
    exact ⟨t, flush0_5 t, ((cfg0.win 5).blk t).view.emb_mem_set z⟩

theorem result6 : (dats m 0 c).arrAt 6 cfg0.N = M (V m c main_arg0) (V m c main_arg2) := by
  refine (dats m 0 c).arrAt_eq_of_cover 6 _ (fun t _ => ?_) fun y => ?_
  · rw [flushed6, out6]
    funext y
    obtain ⟨R, C, rfl⟩ : ∃ (R : Fin 128) (C : Fin 1024), y = ix2 R C := ⟨y 0, y 1, eq_ix2 y⟩
    exact (congrArg₂ mom (grad m c t R C) (iblk2 m c t R C)).trans (congrArg (M _ _) (emb t R C)).symm
  · obtain ⟨t, z, rfl⟩ := cover y
    exact ⟨t, flush0_6 t, ((cfg0.win 6).blk t).view.emb_mem_set z⟩

theorem result7 : (dats m 0 c).arrAt 7 cfg0.N = W (V m c main_arg0) (V m c main_arg3) := by
  refine (dats m 0 c).arrAt_eq_of_cover 7 _ (fun t _ => ?_) fun y => ?_
  · rw [flushed7, out7]
    funext y
    obtain ⟨R, C, rfl⟩ : ∃ (R : Fin 128) (C : Fin 1024), y = ix2 R C := ⟨y 0, y 1, eq_ix2 y⟩
    exact (congrArg₂ vel (grad m c t R C) (iblk3 m c t R C)).trans (congrArg (W _ _) (emb t R C)).symm
  · obtain ⟨t, z, rfl⟩ := cover y
    exact ⟨t, flush0_7 t, ((cfg0.win 7).blk t).view.emb_mem_set z⟩

end Cert.Kernel17Ideal.Value

namespace Cert.Reference17Ideal.Value

open Cert.Reference17Ideal Cert.Reference17Ideal.Gen Cert.Adam Idealize.ShloMosaic

theorem ref_grad (x : FVec Ideal S8x256x1024 .bf16) :
    (Host.reduceAdd (extf .f32 x bitsLt_bf16_f32) (constant S_ .f32 0x00000000#32) reducesTo_S8x256x1024_S256x1024_d0 h_S_ : FVec Ideal S256x1024 .f32)
      = Cert.Kernel17Ideal.Value.G x := by
  funext y
  obtain ⟨R, C, rfl⟩ : ∃ (R : Fin 256) (C : Fin 1024), y = ix2 R C := ⟨y 0, y 1, eq_ix2 y⟩
  show _ = ∑ s : Fin 8, (x (ix3 s R C) : EReal)
  pointwise

end Cert.Reference17Ideal.Value

namespace Cert.Proof

open Idealize.ShloMosaic Idealize.ShloMosaic.TcCoe Idealize.SL.Sem

theorem adam_dn_out_frame : quiescent_Kernel17 := fun m ρ _ => Cert.Kernel17.Gen.frame m ρ
theorem adam_dn_out_frameI : quiescent_Kernel17Ideal := fun m ρ _ => Cert.Kernel17Ideal.Gen.frame m ρ
theorem adam_dn_out_frameR : quiescent_Reference17Ideal := fun m ρ _ =>
  (θ_run Cert.Reference17Ideal.defs _ _).mono (fun r h => ⟨fun c => (h c).2.2.2.2, sem_eq_zero_of_no_sems (by decide) _⟩)
    (Cert.Reference17Ideal.Value.run m ρ)

theorem adam_dn_out_value : algebraic_Kernel17Ideal_Reference17Ideal := fun m ρ m' ρ' _ hag => by
  refine ⟨fun c => Cert.Kernel17Ideal.Value.G (Cert.Kernel17Ideal.Gen.V m c Cert.Kernel17Ideal.main_arg0),
    fun c => Cert.Kernel17Ideal.Value.D (Cert.Kernel17Ideal.Gen.V m c Cert.Kernel17Ideal.main_arg0) (Cert.Kernel17Ideal.Gen.V m c Cert.Kernel17Ideal.main_arg1)
      (Cert.Kernel17Ideal.Gen.V m c Cert.Kernel17Ideal.main_arg2) (Cert.Kernel17Ideal.Gen.V m c Cert.Kernel17Ideal.main_arg3),
    fun c => Cert.Kernel17Ideal.Value.M (Cert.Kernel17Ideal.Gen.V m c Cert.Kernel17Ideal.main_arg0) (Cert.Kernel17Ideal.Gen.V m c Cert.Kernel17Ideal.main_arg2),
    fun c => Cert.Kernel17Ideal.Value.W (Cert.Kernel17Ideal.Gen.V m c Cert.Kernel17Ideal.main_arg0) (Cert.Kernel17Ideal.Gen.V m c Cert.Kernel17Ideal.main_arg3),
    ?_, ?_⟩
  · exact (θ_run Cert.Kernel17Ideal.defs _ _).mono (fun r h c => ⟨(h c).1.trans (Cert.Kernel17Ideal.Value.result4 m c),
      (h c).2.1.trans (Cert.Kernel17Ideal.Value.result5 m c), (h c).2.2.1.trans (Cert.Kernel17Ideal.Value.result6 m c),
      (h c).2.2.2.1.trans (Cert.Kernel17Ideal.Value.result7 m c), (h c).2.2.2.2⟩) (Cert.Kernel17Ideal.Value.run_blocks m ρ)
  · refine (θ_run Cert.Reference17Ideal.defs _ _).mono (fun r h c => ?_) (Cert.Reference17Ideal.Value.run m' ρ')
    have H := h c
    rw [(hag c).1, (hag c).2.1, (hag c).2.2.1, (hag c).2.2.2, Cert.Reference17Ideal.Value.ref_grad] at H
    exact ⟨H.1, H.2.1.trans (Cert.Adam.delta_ref _ _ _ _ _), H.2.2.1.trans (Cert.Adam.mom_ref _ _ _), H.2.2.2.1.trans (Cert.Adam.vel_ref _ _ _),
      (h c).2.2.2.2⟩

end Cert.Proof
end
-- ==== Proof.AdamDnIn.lean ====
module

public import proofs.«01_k».proof.Defs
public import proofs.«01_k».proof.Proof.Adam
public import proofs.«01_k».proof.Proof.Gen.Kernel18.Frame
public import proofs.«01_k».proof.Proof.Gen.Kernel18Ideal.Value
public import proofs.«01_k».proof.Proof.Gen.Reference18Ideal.Run
public import Idealize.ShloMosaic.Lib.Quiescent

/-! The optimiser's step of the delta rule's input weights: a grid point takes 128 of the 1024 rows, of every array, and its four results are the rows of
the gradient, of the weight's change and of the two moments. -/

@[expose] public section

set_option maxRecDepth 16384

noncomputable section

namespace Cert.Kernel18Ideal.Value

open Cert.Kernel18Ideal Cert.Kernel18Ideal.Gen Cert.Adam Idealize.ShloMosaic Idealize.ShloMosaic.TcCoe Idealize.SL.Sem

theorem idx0 : ∀ t : Fin cfg0.N, win0_0.index t (0 : Fin 3) = 0 ∧ win0_0.index t (1 : Fin 3) = t.1 ∧ win0_0.index t (2 : Fin 3) = 0 :=
  (by decide +kernel : ∀ t : Fin grid0.N, _)
/-- The windows of the weight, the moments and the results all move alike. -/
theorem idx1 : ∀ t : Fin cfg0.N, win0_1.index t (0 : Fin 2) = t.1 ∧ win0_1.index t (1 : Fin 2) = 0 := (by decide +kernel : ∀ t : Fin grid0.N, _)

theorem sum_at (a b c d e f g h : FVec Ideal S1x128x770 .bf16) (R : Fin 128) (C : Fin 770) : (k0_pay4 (F := Ideal) a b c d e f g h (ix2 R C) : EReal)
    = (a (ix3 0 R C) : EReal) + (b (ix3 0 R C) : EReal) + (c (ix3 0 R C) : EReal) + (d (ix3 0 R C) : EReal) + (e (ix3 0 R C) : EReal) + (f (ix3 0 R C) : EReal)
      + (g (ix3 0 R C) : EReal) + (h (ix3 0 R C) : EReal) := by
  unfold k0_pay4
  pointwise

section
variable (x : FVec Ideal S8x128x770 .bf16) (w m v : FVec Ideal S128x770 .f32)

theorem grad_at (R : Fin 128) (C : Fin 770) : (k0_pay5 (F := Ideal) x w m v (ix2 R C) : EReal) = total fun s => (x (ix3 s R C) : EReal) := by
  unfold k0_pay5 total
  rw [Fin.sum_univ_eight, sum_at]
  have e := fun (k : Fin 8) h => part (Val := Elt Ideal) (e := .bf16) x k h R C
  exact add_eight (e 0 _) (e 1 _) (e 2 _) (e 3 _) (e 4 _) (e 5 _) (e 6 _) (e 7 _)

theorem out4 : out0_4 (F := Ideal) x w m v = k0_pay5 (F := Ideal) x w m v := by
  unfold out0_4
  rw [View.canon_unit_zero vec2_zero]

theorem out5 : out0_5 (F := Ideal) x w m v = fun y => delta (k0_pay5 (F := Ideal) x w m v y) (w y) (m y) (v y) := by
  unfold out0_5
  rw [View.canon_unit_zero vec2_zero, View.ld_unit_zero vec2_zero, View.ld_unit_zero vec2_zero, View.ld_unit_zero vec2_zero]
  rfl

theorem out6 : out0_6 (F := Ideal) x w m v = fun y => mom (k0_pay5 (F := Ideal) x w m v y) (m y) := by
  unfold out0_6
  rw [View.canon_unit_zero vec2_zero, View.ld_unit_zero vec2_zero]
  rfl

theorem out7 : out0_7 (F := Ideal) x w m v = fun y => vel (k0_pay5 (F := Ideal) x w m v y) (v y) := by
  unfold out0_7
  rw [View.canon_unit_zero vec2_zero, View.ld_unit_zero vec2_zero]
  rfl
end

/-- The first result: the gradient. -/
def G (x : FVec Ideal S8x1024x770 .bf16) : FVec Ideal S1024x770 .f32 := fun y => total fun s => (x (ix3 s (y 0) (y 1)) : EReal)

/-- The second result: the weight's change. -/
def D (x : FVec Ideal S8x1024x770 .bf16) (w m v : FVec Ideal S1024x770 .f32) : FVec Ideal S1024x770 .f32 := fun y => delta (G x y) (w y) (m y) (v y)

/-- The third result: the first moment. -/
def M (x : FVec Ideal S8x1024x770 .bf16) (m : FVec Ideal S1024x770 .f32) : FVec Ideal S1024x770 .f32 := fun y => mom (G x y) (m y)

/-- The fourth result: the second moment. -/
def W (x : FVec Ideal S8x1024x770 .bf16) (v : FVec Ideal S1024x770 .f32) : FVec Ideal S1024x770 .f32 := fun y => vel (G x y) (v y)

variable (m : (ℓ : Loc nD τ sig) → Buf (Elt Ideal) ℓ) (c : Dev nD)

theorem row_lt (t : Fin cfg0.N) (R : Fin 128) : t.1 * 128 + R.1 < 1024 := by
  have := lt_of_lt_of_eq t.isLt N_0
  omega

theorem iblk0 (t : Fin cfg0.N) (s : Fin 8) (R : Fin 128) (C : Fin 770) :
    (iblk m c 0 t : FVec Ideal S8x128x770 .bf16) (ix3 s R C) = (V m c main_arg0 : FVec Ideal S8x1024x770 .bf16) (ix3 s ⟨t.1 * 128 + R.1, row_lt t R⟩ C) := by
  obtain ⟨e0, e1, e2⟩ := idx0 t
  refine congrArg (V m c main_arg0) (funext fun a => Fin.ext ?_)
  match a with
  | ⟨0, _⟩ => show win0_0.index t (0 : Fin 3) * 8 + 1 * s.1 = s.1; omega
  | ⟨1, _⟩ => show win0_0.index t (1 : Fin 3) * 128 + 1 * R.1 = t.1 * 128 + R.1; omega
  | ⟨2, _⟩ => show win0_0.index t (2 : Fin 3) * 770 + 1 * C.1 = C.1; omega

theorem emb (t : Fin cfg0.N) (R : Fin 128) (C : Fin 770) :
    ((cfg0.win 1).blk t).view.emb (ix2 R C) = (ix2 ⟨t.1 * 128 + R.1, row_lt t R⟩ C : S1024x770.Idx) := by
  obtain ⟨e0, e1⟩ := idx1 t
  funext a; apply Fin.ext
  match a with
  | ⟨0, _⟩ => show win0_1.index t (0 : Fin 2) * 128 + 1 * R.1 = t.1 * 128 + R.1; omega
  | ⟨1, _⟩ => show win0_1.index t (1 : Fin 2) * 770 + 1 * C.1 = C.1; omega

theorem iblk1 (t : Fin cfg0.N) (R : Fin 128) (C : Fin 770) :
    (iblk m c 1 t : FVec Ideal S128x770 .f32) (ix2 R C) = (V m c main_arg1 : FVec Ideal S1024x770 .f32) (ix2 ⟨t.1 * 128 + R.1, row_lt t R⟩ C) :=
  congrArg (V m c main_arg1) (emb t R C)

theorem iblk2 (t : Fin cfg0.N) (R : Fin 128) (C : Fin 770) :
    (iblk m c 2 t : FVec Ideal S128x770 .f32) (ix2 R C) = (V m c main_arg2 : FVec Ideal S1024x770 .f32) (ix2 ⟨t.1 * 128 + R.1, row_lt t R⟩ C) :=
  congrArg (V m c main_arg2) (emb t R C)

theorem iblk3 (t : Fin cfg0.N) (R : Fin 128) (C : Fin 770) :
    (iblk m c 3 t : FVec Ideal S128x770 .f32) (ix2 R C) = (V m c main_arg3 : FVec Ideal S1024x770 .f32) (ix2 ⟨t.1 * 128 + R.1, row_lt t R⟩ C) :=
  congrArg (V m c main_arg3) (emb t R C)

/-- The gradient of a block's rows is the whole array's at those rows. -/
theorem grad (t : Fin cfg0.N) (R : Fin 128) (C : Fin 770) :
    (k0_pay5 (F := Ideal) (iblk m c 0 t) (iblk m c 1 t) (iblk m c 2 t) (iblk m c 3 t) (ix2 R C) : EReal)
      = G (V m c main_arg0) (ix2 ⟨t.1 * 128 + R.1, row_lt t R⟩ C) :=
  (grad_at _ _ _ _ R C).trans (congrArg total (funext fun s => iblk0 m c t s R C))

/-- Every place lies in some block. -/
theorem cover (y : S1024x770.Idx) : ∃ t : Fin cfg0.N, ∃ z : S128x770.Idx, ((cfg0.win 1).blk t).view.emb z = y := by
  obtain ⟨R, C, rfl⟩ : ∃ (R : Fin 1024) (C : Fin 770), y = ix2 R C := ⟨y 0, y 1, eq_ix2 y⟩
  refine ⟨⟨R.1 / 128, lt_of_lt_of_eq (by omega) N_0.symm⟩, ix2 (⟨R.1 % 128, by omega⟩ : Fin 128) C, (emb _ _ _).trans (congrArg₂ ix2 (Fin.ext ?_) rfl)⟩
  dsimp only; omega

theorem result4 : (dats m 0 c).arrAt 4 cfg0.N = G (V m c main_arg0) := by
  refine (dats m 0 c).arrAt_eq_of_cover 4 _ (fun t _ => ?_) fun y => ?_
  · rw [flushed4, out4]
    funext y
    obtain ⟨R, C, rfl⟩ : ∃ (R : Fin 128) (C : Fin 770), y = ix2 R C := ⟨y 0, y 1, eq_ix2 y⟩
    exact (grad m c t R C).trans (congrArg (G _) (emb t R C)).symm
  · obtain ⟨t, z, rfl⟩ := cover y
    exact ⟨t, flush0_4 t, ((cfg0.win 4).blk t).view.emb_mem_set z⟩

theorem result5 : (dats m 0 c).arrAt 5 cfg0.N = D (V m c main_arg0) (V m c main_arg1) (V m c main_arg2) (V m c main_arg3) := by
  refine (dats m 0 c).arrAt_eq_of_cover 5 _ (fun t _ => ?_) fun y => ?_
  · rw [flushed5, out5]
    funext y
    obtain ⟨R, C, rfl⟩ : ∃ (R : Fin 128) (C : Fin 770), y = ix2 R C := ⟨y 0, y 1, eq_ix2 y⟩
    refine Eq.trans ?_ (congrArg (D _ _ _ _) (emb t R C)).symm
    exact (congrFun (congrFun (congrArg₂ delta (grad m c t R C) (iblk1 m c t R C)) _) _).trans
      (congrArg₂ (delta _ _) (iblk2 m c t R C) (iblk3 m c t R C))
  · obtain ⟨t, z, rfl⟩ := cover y
    exact ⟨t, flush0_5 t, ((cfg0.win 5).blk t).view.emb_mem_set z⟩

theorem result6 : (dats m 0 c).arrAt 6 cfg0.N = M (V m c main_arg0) (V m c main_arg2) := by
  refine (dats m 0 c).arrAt_eq_of_cover 6 _ (fun t _ => ?_) fun y => ?_
  · rw [flushed6, out6]
    funext y
    obtain ⟨R, C, rfl⟩ : ∃ (R : Fin 128) (C : Fin 770), y = ix2 R C := ⟨y 0, y 1, eq_ix2 y⟩
    exact (congrArg₂ mom (grad m c t R C) (iblk2 m c t R C)).trans (congrArg (M _ _) (emb t R C)).symm
  · obtain ⟨t, z, rfl⟩ := cover y
    exact ⟨t, flush0_6 t, ((cfg0.win 6).blk t).view.emb_mem_set z⟩

theorem result7 : (dats m 0 c).arrAt 7 cfg0.N = W (V m c main_arg0) (V m c main_arg3) := by
  refine (dats m 0 c).arrAt_eq_of_cover 7 _ (fun t _ => ?_) fun y => ?_
  · rw [flushed7, out7]
    funext y
    obtain ⟨R, C, rfl⟩ : ∃ (R : Fin 128) (C : Fin 770), y = ix2 R C := ⟨y 0, y 1, eq_ix2 y⟩
    exact (congrArg₂ vel (grad m c t R C) (iblk3 m c t R C)).trans (congrArg (W _ _) (emb t R C)).symm
  · obtain ⟨t, z, rfl⟩ := cover y
    exact ⟨t, flush0_7 t, ((cfg0.win 7).blk t).view.emb_mem_set z⟩

end Cert.Kernel18Ideal.Value

namespace Cert.Reference18Ideal.Value

open Cert.Reference18Ideal Cert.Reference18Ideal.Gen Cert.Adam Idealize.ShloMosaic

theorem ref_grad (x : FVec Ideal S8x1024x770 .bf16) :
    (Host.reduceAdd (extf .f32 x bitsLt_bf16_f32) (constant S_ .f32 0x00000000#32) reducesTo_S8x1024x770_S1024x770_d0 h_S_ : FVec Ideal S1024x770 .f32)
      = Cert.Kernel18Ideal.Value.G x := by
  funext y
  obtain ⟨R, C, rfl⟩ : ∃ (R : Fin 1024) (C : Fin 770), y = ix2 R C := ⟨y 0, y 1, eq_ix2 y⟩
  show _ = ∑ s : Fin 8, (x (ix3 s R C) : EReal)
  pointwise

end Cert.Reference18Ideal.Value

namespace Cert.Proof

open Idealize.ShloMosaic Idealize.ShloMosaic.TcCoe Idealize.SL.Sem

theorem adam_dn_in_frame : quiescent_Kernel18 := fun m ρ _ => Cert.Kernel18.Gen.frame m ρ
theorem adam_dn_in_frameI : quiescent_Kernel18Ideal := fun m ρ _ => Cert.Kernel18Ideal.Gen.frame m ρ
theorem adam_dn_in_frameR : quiescent_Reference18Ideal := fun m ρ _ =>
  (θ_run Cert.Reference18Ideal.defs _ _).mono (fun r h => ⟨fun c => (h c).2.2.2.2, sem_eq_zero_of_no_sems (by decide) _⟩)
    (Cert.Reference18Ideal.Value.run m ρ)

theorem adam_dn_in_value : algebraic_Kernel18Ideal_Reference18Ideal := fun m ρ m' ρ' _ hag => by
  refine ⟨fun c => Cert.Kernel18Ideal.Value.G (Cert.Kernel18Ideal.Gen.V m c Cert.Kernel18Ideal.main_arg0),
    fun c => Cert.Kernel18Ideal.Value.D (Cert.Kernel18Ideal.Gen.V m c Cert.Kernel18Ideal.main_arg0) (Cert.Kernel18Ideal.Gen.V m c Cert.Kernel18Ideal.main_arg1)
      (Cert.Kernel18Ideal.Gen.V m c Cert.Kernel18Ideal.main_arg2) (Cert.Kernel18Ideal.Gen.V m c Cert.Kernel18Ideal.main_arg3),
    fun c => Cert.Kernel18Ideal.Value.M (Cert.Kernel18Ideal.Gen.V m c Cert.Kernel18Ideal.main_arg0) (Cert.Kernel18Ideal.Gen.V m c Cert.Kernel18Ideal.main_arg2),
    fun c => Cert.Kernel18Ideal.Value.W (Cert.Kernel18Ideal.Gen.V m c Cert.Kernel18Ideal.main_arg0) (Cert.Kernel18Ideal.Gen.V m c Cert.Kernel18Ideal.main_arg3),
    ?_, ?_⟩
  · exact (θ_run Cert.Kernel18Ideal.defs _ _).mono (fun r h c => ⟨(h c).1.trans (Cert.Kernel18Ideal.Value.result4 m c),
      (h c).2.1.trans (Cert.Kernel18Ideal.Value.result5 m c), (h c).2.2.1.trans (Cert.Kernel18Ideal.Value.result6 m c),
      (h c).2.2.2.1.trans (Cert.Kernel18Ideal.Value.result7 m c), (h c).2.2.2.2⟩) (Cert.Kernel18Ideal.Value.run_blocks m ρ)
  · refine (θ_run Cert.Reference18Ideal.defs _ _).mono (fun r h c => ?_) (Cert.Reference18Ideal.Value.run m' ρ')
    have H := h c
    rw [(hag c).1, (hag c).2.1, (hag c).2.2.1, (hag c).2.2.2, Cert.Reference18Ideal.Value.ref_grad] at H
    exact ⟨H.1, H.2.1.trans (Cert.Adam.delta_ref _ _ _ _ _), H.2.2.1.trans (Cert.Adam.mom_ref _ _ _), H.2.2.2.1.trans (Cert.Adam.vel_ref _ _ _),
      (h c).2.2.2.2⟩

end Cert.Proof
end
-- ==== Proof.AdamGate.lean ====
module

public import proofs.«01_k».proof.Defs
public import proofs.«01_k».proof.Proof.Adam
public import proofs.«01_k».proof.Proof.Gen.Kernel19.Frame
public import proofs.«01_k».proof.Proof.Gen.Kernel19Ideal.Value
public import proofs.«01_k».proof.Proof.Gen.Reference19Ideal.Run
public import Idealize.ShloMosaic.Lib.Quiescent

/-! The optimiser's step of the feed-forward gates' weights, of both layers one below the other: a grid point takes 512 of the 2048 rows, of every array, and its four results are the rows of
the gradient, of the weight's change and of the two moments. -/

@[expose] public section

set_option maxRecDepth 16384

noncomputable section

namespace Cert.Kernel19Ideal.Value

open Cert.Kernel19Ideal Cert.Kernel19Ideal.Gen Cert.Adam Idealize.ShloMosaic Idealize.ShloMosaic.TcCoe Idealize.SL.Sem

theorem idx0 : ∀ t : Fin cfg0.N, win0_0.index t (0 : Fin 3) = 0 ∧ win0_0.index t (1 : Fin 3) = t.1 ∧ win0_0.index t (2 : Fin 3) = 0 :=
  (by decide +kernel : ∀ t : Fin grid0.N, _)
/-- The windows of the weight, the moments and the results all move alike. -/
theorem idx1 : ∀ t : Fin cfg0.N, win0_1.index t (0 : Fin 2) = t.1 ∧ win0_1.index t (1 : Fin 2) = 0 := (by decide +kernel : ∀ t : Fin grid0.N, _)

theorem sum_at (a b c d e f g h : FVec Ideal S1x512x352 .bf16) (R : Fin 512) (C : Fin 352) : (k0_pay4 (F := Ideal) a b c d e f g h (ix2 R C) : EReal)
    = (a (ix3 0 R C) : EReal) + (b (ix3 0 R C) : EReal) + (c (ix3 0 R C) : EReal) + (d (ix3 0 R C) : EReal) + (e (ix3 0 R C) : EReal) + (f (ix3 0 R C) : EReal)
      + (g (ix3 0 R C) : EReal) + (h (ix3 0 R C) : EReal) := by
  unfold k0_pay4
  pointwise

section
variable (x : FVec Ideal S8x512x352 .bf16) (w m v : FVec Ideal S512x352 .f32)

theorem grad_at (R : Fin 512) (C : Fin 352) : (k0_pay5 (F := Ideal) x w m v (ix2 R C) : EReal) = total fun s => (x (ix3 s R C) : EReal) := by
  unfold k0_pay5 total
  rw [Fin.sum_univ_eight, sum_at]
  have e := fun (k : Fin 8) h => part (Val := Elt Ideal) (e := .bf16) x k h R C
  exact add_eight (e 0 _) (e 1 _) (e 2 _) (e 3 _) (e 4 _) (e 5 _) (e 6 _) (e 7 _)

theorem out4 : out0_4 (F := Ideal) x w m v = k0_pay5 (F := Ideal) x w m v := by
  unfold out0_4
  rw [View.canon_unit_zero vec2_zero]

theorem out5 : out0_5 (F := Ideal) x w m v = fun y => delta (k0_pay5 (F := Ideal) x w m v y) (w y) (m y) (v y) := by
  unfold out0_5
  rw [View.canon_unit_zero vec2_zero, View.ld_unit_zero vec2_zero, View.ld_unit_zero vec2_zero, View.ld_unit_zero vec2_zero]
  rfl

theorem out6 : out0_6 (F := Ideal) x w m v = fun y => mom (k0_pay5 (F := Ideal) x w m v y) (m y) := by
  unfold out0_6
  rw [View.canon_unit_zero vec2_zero, View.ld_unit_zero vec2_zero]
  rfl

theorem out7 : out0_7 (F := Ideal) x w m v = fun y => vel (k0_pay5 (F := Ideal) x w m v y) (v y) := by
  unfold out0_7
  rw [View.canon_unit_zero vec2_zero, View.ld_unit_zero vec2_zero]
  rfl
end

/-- The first result: the gradient. -/
def G (x : FVec Ideal S8x2048x352 .bf16) : FVec Ideal S2048x352 .f32 := fun y => total fun s => (x (ix3 s (y 0) (y 1)) : EReal)

/-- The second result: the weight's change. -/
def D (x : FVec Ideal S8x2048x352 .bf16) (w m v : FVec Ideal S2048x352 .f32) : FVec Ideal S2048x352 .f32 := fun y => delta (G x y) (w y) (m y) (v y)

/-- The third result: the first moment. -/
def M (x : FVec Ideal S8x2048x352 .bf16) (m : FVec Ideal S2048x352 .f32) : FVec Ideal S2048x352 .f32 := fun y => mom (G x y) (m y)

/-- The fourth result: the second moment. -/
def W (x : FVec Ideal S8x2048x352 .bf16) (v : FVec Ideal S2048x352 .f32) : FVec Ideal S2048x352 .f32 := fun y => vel (G x y) (v y)

variable (m : (ℓ : Loc nD τ sig) → Buf (Elt Ideal) ℓ) (c : Dev nD)

theorem row_lt (t : Fin cfg0.N) (R : Fin 512) : t.1 * 512 + R.1 < 2048 := by
  have := lt_of_lt_of_eq t.isLt N_0
  omega

theorem iblk0 (t : Fin cfg0.N) (s : Fin 8) (R : Fin 512) (C : Fin 352) :
    (iblk m c 0 t : FVec Ideal S8x512x352 .bf16) (ix3 s R C) = (V m c main_arg0 : FVec Ideal S8x2048x352 .bf16) (ix3 s ⟨t.1 * 512 + R.1, row_lt t R⟩ C) := by
  obtain ⟨e0, e1, e2⟩ := idx0 t
  refine congrArg (V m c main_arg0) (funext fun a => Fin.ext ?_)
  match a with
  | ⟨0, _⟩ => show win0_0.index t (0 : Fin 3) * 8 + 1 * s.1 = s.1; omega
  | ⟨1, _⟩ => show win0_0.index t (1 : Fin 3) * 512 + 1 * R.1 = t.1 * 512 + R.1; omega
  | ⟨2, _⟩ => show win0_0.index t (2 : Fin 3) * 352 + 1 * C.1 = C.1; omega

theorem emb (t : Fin cfg0.N) (R : Fin 512) (C : Fin 352) :
    ((cfg0.win 1).blk t).view.emb (ix2 R C) = (ix2 ⟨t.1 * 512 + R.1, row_lt t R⟩ C : S2048x352.Idx) := by
  obtain ⟨e0, e1⟩ := idx1 t
  funext a; apply Fin.ext
  match a with
  | ⟨0, _⟩ => show win0_1.index t (0 : Fin 2) * 512 + 1 * R.1 = t.1 * 512 + R.1; omega
  | ⟨1, _⟩ => show win0_1.index t (1 : Fin 2) * 352 + 1 * C.1 = C.1; omega

theorem iblk1 (t : Fin cfg0.N) (R : Fin 512) (C : Fin 352) :
    (iblk m c 1 t : FVec Ideal S512x352 .f32) (ix2 R C) = (V m c main_arg1 : FVec Ideal S2048x352 .f32) (ix2 ⟨t.1 * 512 + R.1, row_lt t R⟩ C) :=
  congrArg (V m c main_arg1) (emb t R C)

theorem iblk2 (t : Fin cfg0.N) (R : Fin 512) (C : Fin 352) :
    (iblk m c 2 t : FVec Ideal S512x352 .f32) (ix2 R C) = (V m c main_arg2 : FVec Ideal S2048x352 .f32) (ix2 ⟨t.1 * 512 + R.1, row_lt t R⟩ C) :=
  congrArg (V m c main_arg2) (emb t R C)

theorem iblk3 (t : Fin cfg0.N) (R : Fin 512) (C : Fin 352) :
    (iblk m c 3 t : FVec Ideal S512x352 .f32) (ix2 R C) = (V m c main_arg3 : FVec Ideal S2048x352 .f32) (ix2 ⟨t.1 * 512 + R.1, row_lt t R⟩ C) :=
  congrArg (V m c main_arg3) (emb t R C)

/-- The gradient of a block's rows is the whole array's at those rows. -/
theorem grad (t : Fin cfg0.N) (R : Fin 512) (C : Fin 352) :
    (k0_pay5 (F := Ideal) (iblk m c 0 t) (iblk m c 1 t) (iblk m c 2 t) (iblk m c 3 t) (ix2 R C) : EReal)
      = G (V m c main_arg0) (ix2 ⟨t.1 * 512 + R.1, row_lt t R⟩ C) :=
  (grad_at _ _ _ _ R C).trans (congrArg total (funext fun s => iblk0 m c t s R C))

/-- Every place lies in some block. -/
theorem cover (y : S2048x352.Idx) : ∃ t : Fin cfg0.N, ∃ z : S512x352.Idx, ((cfg0.win 1).blk t).view.emb z = y := by
  obtain ⟨R, C, rfl⟩ : ∃ (R : Fin 2048) (C : Fin 352), y = ix2 R C := ⟨y 0, y 1, eq_ix2 y⟩
  refine ⟨⟨R.1 / 512, lt_of_lt_of_eq (by omega) N_0.symm⟩, ix2 (⟨R.1 % 512, by omega⟩ : Fin 512) C, (emb _ _ _).trans (congrArg₂ ix2 (Fin.ext ?_) rfl)⟩
  dsimp only; omega

theorem result4 : (dats m 0 c).arrAt 4 cfg0.N = G (V m c main_arg0) := by
  refine (dats m 0 c).arrAt_eq_of_cover 4 _ (fun t _ => ?_) fun y => ?_
  · rw [flushed4, out4]
    funext y
    obtain ⟨R, C, rfl⟩ : ∃ (R : Fin 512) (C : Fin 352), y = ix2 R C := ⟨y 0, y 1, eq_ix2 y⟩
    exact (grad m c t R C).trans (congrArg (G _) (emb t R C)).symm
  · obtain ⟨t, z, rfl⟩ := cover y
    exact ⟨t, flush0_4 t, ((cfg0.win 4).blk t).view.emb_mem_set z⟩

theorem result5 : (dats m 0 c).arrAt 5 cfg0.N = D (V m c main_arg0) (V m c main_arg1) (V m c main_arg2) (V m c main_arg3) := by
  refine (dats m 0 c).arrAt_eq_of_cover 5 _ (fun t _ => ?_) fun y => ?_
  · rw [flushed5, out5]
    funext y
    obtain ⟨R, C, rfl⟩ : ∃ (R : Fin 512) (C : Fin 352), y = ix2 R C := ⟨y 0, y 1, eq_ix2 y⟩
    refine Eq.trans ?_ (congrArg (D _ _ _ _) (emb t R C)).symm
    exact (congrFun (congrFun (congrArg₂ delta (grad m c t R C) (iblk1 m c t R C)) _) _).trans
      (congrArg₂ (delta _ _) (iblk2 m c t R C) (iblk3 m c t R C))
  · obtain ⟨t, z, rfl⟩ := cover y
    exact ⟨t, flush0_5 t, ((cfg0.win 5).blk t).view.emb_mem_set z⟩

theorem result6 : (dats m 0 c).arrAt 6 cfg0.N = M (V m c main_arg0) (V m c main_arg2) := by
  refine (dats m 0 c).arrAt_eq_of_cover 6 _ (fun t _ => ?_) fun y => ?_
  · rw [flushed6, out6]
    funext y
    obtain ⟨R, C, rfl⟩ : ∃ (R : Fin 512) (C : Fin 352), y = ix2 R C := ⟨y 0, y 1, eq_ix2 y⟩
    exact (congrArg₂ mom (grad m c t R C) (iblk2 m c t R C)).trans (congrArg (M _ _) (emb t R C)).symm
  · obtain ⟨t, z, rfl⟩ := cover y
    exact ⟨t, flush0_6 t, ((cfg0.win 6).blk t).view.emb_mem_set z⟩

theorem result7 : (dats m 0 c).arrAt 7 cfg0.N = W (V m c main_arg0) (V m c main_arg3) := by
  refine (dats m 0 c).arrAt_eq_of_cover 7 _ (fun t _ => ?_) fun y => ?_
  · rw [flushed7, out7]
    funext y
    obtain ⟨R, C, rfl⟩ : ∃ (R : Fin 512) (C : Fin 352), y = ix2 R C := ⟨y 0, y 1, eq_ix2 y⟩
    exact (congrArg₂ vel (grad m c t R C) (iblk3 m c t R C)).trans (congrArg (W _ _) (emb t R C)).symm
  · obtain ⟨t, z, rfl⟩ := cover y
    exact ⟨t, flush0_7 t, ((cfg0.win 7).blk t).view.emb_mem_set z⟩

end Cert.Kernel19Ideal.Value

namespace Cert.Reference19Ideal.Value

open Cert.Reference19Ideal Cert.Reference19Ideal.Gen Cert.Adam Idealize.ShloMosaic

theorem ref_grad (x : FVec Ideal S8x2048x352 .bf16) :
    (Host.reduceAdd (extf .f32 x bitsLt_bf16_f32) (constant S_ .f32 0x00000000#32) reducesTo_S8x2048x352_S2048x352_d0 h_S_ : FVec Ideal S2048x352 .f32)
      = Cert.Kernel19Ideal.Value.G x := by
  funext y
  obtain ⟨R, C, rfl⟩ : ∃ (R : Fin 2048) (C : Fin 352), y = ix2 R C := ⟨y 0, y 1, eq_ix2 y⟩
  show _ = ∑ s : Fin 8, (x (ix3 s R C) : EReal)
  pointwise

end Cert.Reference19Ideal.Value

namespace Cert.Proof

open Idealize.ShloMosaic Idealize.ShloMosaic.TcCoe Idealize.SL.Sem

theorem adam_gate_frame : quiescent_Kernel19 := fun m ρ _ => Cert.Kernel19.Gen.frame m ρ
theorem adam_gate_frameI : quiescent_Kernel19Ideal := fun m ρ _ => Cert.Kernel19Ideal.Gen.frame m ρ
theorem adam_gate_frameR : quiescent_Reference19Ideal := fun m ρ _ =>
  (θ_run Cert.Reference19Ideal.defs _ _).mono (fun r h => ⟨fun c => (h c).2.2.2.2, sem_eq_zero_of_no_sems (by decide) _⟩)
    (Cert.Reference19Ideal.Value.run m ρ)

theorem adam_gate_value : algebraic_Kernel19Ideal_Reference19Ideal := fun m ρ m' ρ' _ hag => by
  refine ⟨fun c => Cert.Kernel19Ideal.Value.G (Cert.Kernel19Ideal.Gen.V m c Cert.Kernel19Ideal.main_arg0),
    fun c => Cert.Kernel19Ideal.Value.D (Cert.Kernel19Ideal.Gen.V m c Cert.Kernel19Ideal.main_arg0) (Cert.Kernel19Ideal.Gen.V m c Cert.Kernel19Ideal.main_arg1)
      (Cert.Kernel19Ideal.Gen.V m c Cert.Kernel19Ideal.main_arg2) (Cert.Kernel19Ideal.Gen.V m c Cert.Kernel19Ideal.main_arg3),
    fun c => Cert.Kernel19Ideal.Value.M (Cert.Kernel19Ideal.Gen.V m c Cert.Kernel19Ideal.main_arg0) (Cert.Kernel19Ideal.Gen.V m c Cert.Kernel19Ideal.main_arg2),
    fun c => Cert.Kernel19Ideal.Value.W (Cert.Kernel19Ideal.Gen.V m c Cert.Kernel19Ideal.main_arg0) (Cert.Kernel19Ideal.Gen.V m c Cert.Kernel19Ideal.main_arg3),
    ?_, ?_⟩
  · exact (θ_run Cert.Kernel19Ideal.defs _ _).mono (fun r h c => ⟨(h c).1.trans (Cert.Kernel19Ideal.Value.result4 m c),
      (h c).2.1.trans (Cert.Kernel19Ideal.Value.result5 m c), (h c).2.2.1.trans (Cert.Kernel19Ideal.Value.result6 m c),
      (h c).2.2.2.1.trans (Cert.Kernel19Ideal.Value.result7 m c), (h c).2.2.2.2⟩) (Cert.Kernel19Ideal.Value.run_blocks m ρ)
  · refine (θ_run Cert.Reference19Ideal.defs _ _).mono (fun r h c => ?_) (Cert.Reference19Ideal.Value.run m' ρ')
    have H := h c
    rw [(hag c).1, (hag c).2.1, (hag c).2.2.1, (hag c).2.2.2, Cert.Reference19Ideal.Value.ref_grad] at H
    exact ⟨H.1, H.2.1.trans (Cert.Adam.delta_ref _ _ _ _ _), H.2.2.1.trans (Cert.Adam.mom_ref _ _ _), H.2.2.2.1.trans (Cert.Adam.vel_ref _ _ _),
      (h c).2.2.2.2⟩

end Cert.Proof
end
-- ==== Proof.AdamDown.lean ====
module

public import proofs.«01_k».proof.Defs
public import proofs.«01_k».proof.Proof.Adam
public import proofs.«01_k».proof.Proof.Gen.Kernel20.Frame
public import proofs.«01_k».proof.Proof.Gen.Kernel20Ideal.Value
public import proofs.«01_k».proof.Proof.Gen.Reference20Ideal.Run
public import Idealize.ShloMosaic.Lib.Quiescent

/-! The optimiser's step of the feed-forward layers' second weights, of both layers one below the other: a grid point takes 176 of the 704 rows, of every array, and its four results are the rows of
the gradient, of the weight's change and of the two moments. -/

@[expose] public section

set_option maxRecDepth 16384

noncomputable section

namespace Cert.Kernel20Ideal.Value

open Cert.Kernel20Ideal Cert.Kernel20Ideal.Gen Cert.Adam Idealize.ShloMosaic Idealize.ShloMosaic.TcCoe Idealize.SL.Sem

theorem idx0 : ∀ t : Fin cfg0.N, win0_0.index t (0 : Fin 3) = 0 ∧ win0_0.index t (1 : Fin 3) = t.1 ∧ win0_0.index t (2 : Fin 3) = 0 :=
  (by decide +kernel : ∀ t : Fin grid0.N, _)
/-- The windows of the weight, the moments and the results all move alike. -/
theorem idx1 : ∀ t : Fin cfg0.N, win0_1.index t (0 : Fin 2) = t.1 ∧ win0_1.index t (1 : Fin 2) = 0 := (by decide +kernel : ∀ t : Fin grid0.N, _)

theorem sum_at (a b c d e f g h : FVec Ideal S1x176x1024 .bf16) (R : Fin 176) (C : Fin 1024) : (k0_pay4 (F := Ideal) a b c d e f g h (ix2 R C) : EReal)
    = (a (ix3 0 R C) : EReal) + (b (ix3 0 R C) : EReal) + (c (ix3 0 R C) : EReal) + (d (ix3 0 R C) : EReal) + (e (ix3 0 R C) : EReal) + (f (ix3 0 R C) : EReal)
      + (g (ix3 0 R C) : EReal) + (h (ix3 0 R C) : EReal) := by
  unfold k0_pay4
  pointwise

section
variable (x : FVec Ideal S8x176x1024 .bf16) (w m v : FVec Ideal S176x1024 .f32)

theorem grad_at (R : Fin 176) (C : Fin 1024) : (k0_pay5 (F := Ideal) x w m v (ix2 R C) : EReal) = total fun s => (x (ix3 s R C) : EReal) := by
  unfold k0_pay5 total
  rw [Fin.sum_univ_eight, sum_at]
  have e := fun (k : Fin 8) h => part (Val := Elt Ideal) (e := .bf16) x k h R C
  exact add_eight (e 0 _) (e 1 _) (e 2 _) (e 3 _) (e 4 _) (e 5 _) (e 6 _) (e 7 _)

theorem out4 : out0_4 (F := Ideal) x w m v = k0_pay5 (F := Ideal) x w m v := by
  unfold out0_4
  rw [View.canon_unit_zero vec2_zero]

theorem out5 : out0_5 (F := Ideal) x w m v = fun y => delta (k0_pay5 (F := Ideal) x w m v y) (w y) (m y) (v y) := by
  unfold out0_5
  rw [View.canon_unit_zero vec2_zero, View.ld_unit_zero vec2_zero, View.ld_unit_zero vec2_zero, View.ld_unit_zero vec2_zero]
  rfl

theorem out6 : out0_6 (F := Ideal) x w m v = fun y => mom (k0_pay5 (F := Ideal) x w m v y) (m y) := by
  unfold out0_6
  rw [View.canon_unit_zero vec2_zero, View.ld_unit_zero vec2_zero]
  rfl

theorem out7 : out0_7 (F := Ideal) x w m v = fun y => vel (k0_pay5 (F := Ideal) x w m v y) (v y) := by
  unfold out0_7
  rw [View.canon_unit_zero vec2_zero, View.ld_unit_zero vec2_zero]
  rfl
end

/-- The first result: the gradient. -/
def G (x : FVec Ideal S8x704x1024 .bf16) : FVec Ideal S704x1024 .f32 := fun y => total fun s => (x (ix3 s (y 0) (y 1)) : EReal)

/-- The second result: the weight's change. -/
def D (x : FVec Ideal S8x704x1024 .bf16) (w m v : FVec Ideal S704x1024 .f32) : FVec Ideal S704x1024 .f32 := fun y => delta (G x y) (w y) (m y) (v y)

/-- The third result: the first moment. -/
def M (x : FVec Ideal S8x704x1024 .bf16) (m : FVec Ideal S704x1024 .f32) : FVec Ideal S704x1024 .f32 := fun y => mom (G x y) (m y)

/-- The fourth result: the second moment. -/
def W (x : FVec Ideal S8x704x1024 .bf16) (v : FVec Ideal S704x1024 .f32) : FVec Ideal S704x1024 .f32 := fun y => vel (G x y) (v y)

variable (m : (ℓ : Loc nD τ sig) → Buf (Elt Ideal) ℓ) (c : Dev nD)

theorem row_lt (t : Fin cfg0.N) (R : Fin 176) : t.1 * 176 + R.1 < 704 := by
  have := lt_of_lt_of_eq t.isLt N_0
  omega

theorem iblk0 (t : Fin cfg0.N) (s : Fin 8) (R : Fin 176) (C : Fin 1024) :
    (iblk m c 0 t : FVec Ideal S8x176x1024 .bf16) (ix3 s R C) = (V m c main_arg0 : FVec Ideal S8x704x1024 .bf16) (ix3 s ⟨t.1 * 176 + R.1, row_lt t R⟩ C) := by
  obtain ⟨e0, e1, e2⟩ := idx0 t
  refine congrArg (V m c main_arg0) (funext fun a => Fin.ext ?_)
  match a with
  | ⟨0, _⟩ => show win0_0.index t (0 : Fin 3) * 8 + 1 * s.1 = s.1; omega
  | ⟨1, _⟩ => show win0_0.index t (1 : Fin 3) * 176 + 1 * R.1 = t.1 * 176 + R.1; omega
  | ⟨2, _⟩ => show win0_0.index t (2 : Fin 3) * 1024 + 1 * C.1 = C.1; omega

theorem emb (t : Fin cfg0.N) (R : Fin 176) (C : Fin 1024) :
    ((cfg0.win 1).blk t).view.emb (ix2 R C) = (ix2 ⟨t.1 * 176 + R.1, row_lt t R⟩ C : S704x1024.Idx) := by
  obtain ⟨e0, e1⟩ := idx1 t
  funext a; apply Fin.ext
  match a with
  | ⟨0, _⟩ => show win0_1.index t (0 : Fin 2) * 176 + 1 * R.1 = t.1 * 176 + R.1; omega
  | ⟨1, _⟩ => show win0_1.index t (1 : Fin 2) * 1024 + 1 * C.1 = C.1; omega

theorem iblk1 (t : Fin cfg0.N) (R : Fin 176) (C : Fin 1024) :
    (iblk m c 1 t : FVec Ideal S176x1024 .f32) (ix2 R C) = (V m c main_arg1 : FVec Ideal S704x1024 .f32) (ix2 ⟨t.1 * 176 + R.1, row_lt t R⟩ C) :=
  congrArg (V m c main_arg1) (emb t R C)

theorem iblk2 (t : Fin cfg0.N) (R : Fin 176) (C : Fin 1024) :
    (iblk m c 2 t : FVec Ideal S176x1024 .f32) (ix2 R C) = (V m c main_arg2 : FVec Ideal S704x1024 .f32) (ix2 ⟨t.1 * 176 + R.1, row_lt t R⟩ C) :=
  congrArg (V m c main_arg2) (emb t R C)

theorem iblk3 (t : Fin cfg0.N) (R : Fin 176) (C : Fin 1024) :
    (iblk m c 3 t : FVec Ideal S176x1024 .f32) (ix2 R C) = (V m c main_arg3 : FVec Ideal S704x1024 .f32) (ix2 ⟨t.1 * 176 + R.1, row_lt t R⟩ C) :=
  congrArg (V m c main_arg3) (emb t R C)

/-- The gradient of a block's rows is the whole array's at those rows. -/
theorem grad (t : Fin cfg0.N) (R : Fin 176) (C : Fin 1024) :
    (k0_pay5 (F := Ideal) (iblk m c 0 t) (iblk m c 1 t) (iblk m c 2 t) (iblk m c 3 t) (ix2 R C) : EReal)
      = G (V m c main_arg0) (ix2 ⟨t.1 * 176 + R.1, row_lt t R⟩ C) :=
  (grad_at _ _ _ _ R C).trans (congrArg total (funext fun s => iblk0 m c t s R C))

/-- Every place lies in some block. -/
theorem cover (y : S704x1024.Idx) : ∃ t : Fin cfg0.N, ∃ z : S176x1024.Idx, ((cfg0.win 1).blk t).view.emb z = y := by
  obtain ⟨R, C, rfl⟩ : ∃ (R : Fin 704) (C : Fin 1024), y = ix2 R C := ⟨y 0, y 1, eq_ix2 y⟩
  refine ⟨⟨R.1 / 176, lt_of_lt_of_eq (by omega) N_0.symm⟩, ix2 (⟨R.1 % 176, by omega⟩ : Fin 176) C, (emb _ _ _).trans (congrArg₂ ix2 (Fin.ext ?_) rfl)⟩
  dsimp only; omega

theorem result4 : (dats m 0 c).arrAt 4 cfg0.N = G (V m c main_arg0) := by
  refine (dats m 0 c).arrAt_eq_of_cover 4 _ (fun t _ => ?_) fun y => ?_
  · rw [flushed4, out4]
    funext y
    obtain ⟨R, C, rfl⟩ : ∃ (R : Fin 176) (C : Fin 1024), y = ix2 R C := ⟨y 0, y 1, eq_ix2 y⟩
    exact (grad m c t R C).trans (congrArg (G _) (emb t R C)).symm
  · obtain ⟨t, z, rfl⟩ := cover y
    exact ⟨t, flush0_4 t, ((cfg0.win 4).blk t).view.emb_mem_set z⟩

theorem result5 : (dats m 0 c).arrAt 5 cfg0.N = D (V m c main_arg0) (V m c main_arg1) (V m c main_arg2) (V m c main_arg3) := by
  refine (dats m 0 c).arrAt_eq_of_cover 5 _ (fun t _ => ?_) fun y => ?_
  · rw [flushed5, out5]
    funext y
    obtain ⟨R, C, rfl⟩ : ∃ (R : Fin 176) (C : Fin 1024), y = ix2 R C := ⟨y 0, y 1, eq_ix2 y⟩
    refine Eq.trans ?_ (congrArg (D _ _ _ _) (emb t R C)).symm
    exact (congrFun (congrFun (congrArg₂ delta (grad m c t R C) (iblk1 m c t R C)) _) _).trans
      (congrArg₂ (delta _ _) (iblk2 m c t R C) (iblk3 m c t R C))
  · obtain ⟨t, z, rfl⟩ := cover y
    exact ⟨t, flush0_5 t, ((cfg0.win 5).blk t).view.emb_mem_set z⟩

theorem result6 : (dats m 0 c).arrAt 6 cfg0.N = M (V m c main_arg0) (V m c main_arg2) := by
  refine (dats m 0 c).arrAt_eq_of_cover 6 _ (fun t _ => ?_) fun y => ?_
  · rw [flushed6, out6]
    funext y
    obtain ⟨R, C, rfl⟩ : ∃ (R : Fin 176) (C : Fin 1024), y = ix2 R C := ⟨y 0, y 1, eq_ix2 y⟩
    exact (congrArg₂ mom (grad m c t R C) (iblk2 m c t R C)).trans (congrArg (M _ _) (emb t R C)).symm
  · obtain ⟨t, z, rfl⟩ := cover y
    exact ⟨t, flush0_6 t, ((cfg0.win 6).blk t).view.emb_mem_set z⟩

theorem result7 : (dats m 0 c).arrAt 7 cfg0.N = W (V m c main_arg0) (V m c main_arg3) := by
  refine (dats m 0 c).arrAt_eq_of_cover 7 _ (fun t _ => ?_) fun y => ?_
  · rw [flushed7, out7]
    funext y
    obtain ⟨R, C, rfl⟩ : ∃ (R : Fin 176) (C : Fin 1024), y = ix2 R C := ⟨y 0, y 1, eq_ix2 y⟩
    exact (congrArg₂ vel (grad m c t R C) (iblk3 m c t R C)).trans (congrArg (W _ _) (emb t R C)).symm
  · obtain ⟨t, z, rfl⟩ := cover y
    exact ⟨t, flush0_7 t, ((cfg0.win 7).blk t).view.emb_mem_set z⟩

end Cert.Kernel20Ideal.Value

namespace Cert.Reference20Ideal.Value

open Cert.Reference20Ideal Cert.Reference20Ideal.Gen Cert.Adam Idealize.ShloMosaic

theorem ref_grad (x : FVec Ideal S8x704x1024 .bf16) :
    (Host.reduceAdd (extf .f32 x bitsLt_bf16_f32) (constant S_ .f32 0x00000000#32) reducesTo_S8x704x1024_S704x1024_d0 h_S_ : FVec Ideal S704x1024 .f32)
      = Cert.Kernel20Ideal.Value.G x := by
  funext y
  obtain ⟨R, C, rfl⟩ : ∃ (R : Fin 704) (C : Fin 1024), y = ix2 R C := ⟨y 0, y 1, eq_ix2 y⟩
  show _ = ∑ s : Fin 8, (x (ix3 s R C) : EReal)
  pointwise

end Cert.Reference20Ideal.Value

namespace Cert.Proof

open Idealize.ShloMosaic Idealize.ShloMosaic.TcCoe Idealize.SL.Sem

theorem adam_down_frame : quiescent_Kernel20 := fun m ρ _ => Cert.Kernel20.Gen.frame m ρ
theorem adam_down_frameI : quiescent_Kernel20Ideal := fun m ρ _ => Cert.Kernel20Ideal.Gen.frame m ρ
theorem adam_down_frameR : quiescent_Reference20Ideal := fun m ρ _ =>
  (θ_run Cert.Reference20Ideal.defs _ _).mono (fun r h => ⟨fun c => (h c).2.2.2.2, sem_eq_zero_of_no_sems (by decide) _⟩)
    (Cert.Reference20Ideal.Value.run m ρ)

theorem adam_down_value : algebraic_Kernel20Ideal_Reference20Ideal := fun m ρ m' ρ' _ hag => by
  refine ⟨fun c => Cert.Kernel20Ideal.Value.G (Cert.Kernel20Ideal.Gen.V m c Cert.Kernel20Ideal.main_arg0),
    fun c => Cert.Kernel20Ideal.Value.D (Cert.Kernel20Ideal.Gen.V m c Cert.Kernel20Ideal.main_arg0) (Cert.Kernel20Ideal.Gen.V m c Cert.Kernel20Ideal.main_arg1)
      (Cert.Kernel20Ideal.Gen.V m c Cert.Kernel20Ideal.main_arg2) (Cert.Kernel20Ideal.Gen.V m c Cert.Kernel20Ideal.main_arg3),
    fun c => Cert.Kernel20Ideal.Value.M (Cert.Kernel20Ideal.Gen.V m c Cert.Kernel20Ideal.main_arg0) (Cert.Kernel20Ideal.Gen.V m c Cert.Kernel20Ideal.main_arg2),
    fun c => Cert.Kernel20Ideal.Value.W (Cert.Kernel20Ideal.Gen.V m c Cert.Kernel20Ideal.main_arg0) (Cert.Kernel20Ideal.Gen.V m c Cert.Kernel20Ideal.main_arg3),
    ?_, ?_⟩
  · exact (θ_run Cert.Kernel20Ideal.defs _ _).mono (fun r h c => ⟨(h c).1.trans (Cert.Kernel20Ideal.Value.result4 m c),
      (h c).2.1.trans (Cert.Kernel20Ideal.Value.result5 m c), (h c).2.2.1.trans (Cert.Kernel20Ideal.Value.result6 m c),
      (h c).2.2.2.1.trans (Cert.Kernel20Ideal.Value.result7 m c), (h c).2.2.2.2⟩) (Cert.Kernel20Ideal.Value.run_blocks m ρ)
  · refine (θ_run Cert.Reference20Ideal.defs _ _).mono (fun r h c => ?_) (Cert.Reference20Ideal.Value.run m' ρ')
    have H := h c
    rw [(hag c).1, (hag c).2.1, (hag c).2.2.1, (hag c).2.2.2, Cert.Reference20Ideal.Value.ref_grad] at H
    exact ⟨H.1, H.2.1.trans (Cert.Adam.delta_ref _ _ _ _ _), H.2.2.1.trans (Cert.Adam.mom_ref _ _ _), H.2.2.2.1.trans (Cert.Adam.vel_ref _ _ _),
      (h c).2.2.2.2⟩

end Cert.Proof
end
-- ==== Proof.AdamSmall.lean ====
module

public import proofs.«01_k».proof.Defs
public import proofs.«01_k».proof.Proof.Adam
public import proofs.«01_k».proof.Proof.Gen.Kernel21.Frame
public import proofs.«01_k».proof.Proof.Gen.Kernel21Ideal.Value
public import proofs.«01_k».proof.Proof.Gen.Reference21Ideal.Run
public import Idealize.ShloMosaic.Lib.Quiescent

/-! The optimiser's step of the small weights, packed into rows: a grid point takes all ten rows, of every array, and its four results are the rows of
the gradient, of the weight's change and of the two moments. -/

@[expose] public section

set_option maxRecDepth 16384

noncomputable section

namespace Cert.Kernel21Ideal.Value

open Cert.Kernel21Ideal Cert.Kernel21Ideal.Gen Cert.Adam Idealize.ShloMosaic Idealize.ShloMosaic.TcCoe Idealize.SL.Sem

theorem idx0 : ∀ t : Fin cfg0.N, win0_0.index t (0 : Fin 3) = 0 ∧ win0_0.index t (1 : Fin 3) = t.1 ∧ win0_0.index t (2 : Fin 3) = 0 :=
  (by decide +kernel : ∀ t : Fin grid0.N, _)
/-- The windows of the weight, the moments and the results all move alike. -/
theorem idx1 : ∀ t : Fin cfg0.N, win0_1.index t (0 : Fin 2) = t.1 ∧ win0_1.index t (1 : Fin 2) = 0 := (by decide +kernel : ∀ t : Fin grid0.N, _)

theorem sum_at (a b c d e f g h : FVec Ideal S1x10x1024 .f32) (R : Fin 10) (C : Fin 1024) : (k0_pay3 (F := Ideal) a b c d e f g h (ix2 R C) : EReal)
    = (a (ix3 0 R C) : EReal) + (b (ix3 0 R C) : EReal) + (c (ix3 0 R C) : EReal) + (d (ix3 0 R C) : EReal) + (e (ix3 0 R C) : EReal) + (f (ix3 0 R C) : EReal)
      + (g (ix3 0 R C) : EReal) + (h (ix3 0 R C) : EReal) := by
  unfold k0_pay3
  pointwise

section
variable (x : FVec Ideal S8x10x1024 .f32) (w m v : FVec Ideal S10x1024 .f32)

theorem grad_at (R : Fin 10) (C : Fin 1024) : (k0_pay5 (F := Ideal) x w m v (ix2 R C) : EReal) = total fun s => (x (ix3 s R C) : EReal) := by
  unfold k0_pay5 total
  rw [Fin.sum_univ_eight, sum_at]
  have e := fun (k : Fin 8) h => part (Val := Elt Ideal) (e := .f32) x k h R C
  exact add_eight (e 0 _) (e 1 _) (e 2 _) (e 3 _) (e 4 _) (e 5 _) (e 6 _) (e 7 _)

theorem out4 : out0_4 (F := Ideal) x w m v = k0_pay5 (F := Ideal) x w m v := by
  unfold out0_4
  rw [View.canon_unit_zero vec2_zero]

theorem out5 : out0_5 (F := Ideal) x w m v = fun y => delta (k0_pay5 (F := Ideal) x w m v y) (w y) (m y) (v y) := by
  unfold out0_5 k0_pay6
  rw [View.canon_unit_zero vec2_zero, View.ld_unit_zero vec2_zero, View.ld_unit_zero vec2_zero, View.ld_unit_zero vec2_zero]
  rfl

theorem out6 : out0_6 (F := Ideal) x w m v = fun y => mom (k0_pay5 (F := Ideal) x w m v y) (m y) := by
  unfold out0_6
  unfold k0_pay6
  rw [View.canon_unit_zero vec2_zero, View.ld_unit_zero vec2_zero]
  rfl

theorem out7 : out0_7 (F := Ideal) x w m v = fun y => vel (k0_pay5 (F := Ideal) x w m v y) (v y) := by
  unfold out0_7
  rw [View.canon_unit_zero vec2_zero, View.ld_unit_zero vec2_zero]
  rfl
end

/-- The first result: the gradient. -/
def G (x : FVec Ideal S8x10x1024 .f32) : FVec Ideal S10x1024 .f32 := fun y => total fun s => (x (ix3 s (y 0) (y 1)) : EReal)

/-- The second result: the weight's change. -/
def D (x : FVec Ideal S8x10x1024 .f32) (w m v : FVec Ideal S10x1024 .f32) : FVec Ideal S10x1024 .f32 := fun y => delta (G x y) (w y) (m y) (v y)

/-- The third result: the first moment. -/
def M (x : FVec Ideal S8x10x1024 .f32) (m : FVec Ideal S10x1024 .f32) : FVec Ideal S10x1024 .f32 := fun y => mom (G x y) (m y)

/-- The fourth result: the second moment. -/
def W (x : FVec Ideal S8x10x1024 .f32) (v : FVec Ideal S10x1024 .f32) : FVec Ideal S10x1024 .f32 := fun y => vel (G x y) (v y)

variable (m : (ℓ : Loc nD τ sig) → Buf (Elt Ideal) ℓ) (c : Dev nD)

theorem row_lt (t : Fin cfg0.N) (R : Fin 10) : t.1 * 10 + R.1 < 10 := by
  have := lt_of_lt_of_eq t.isLt N_0
  omega

theorem iblk0 (t : Fin cfg0.N) (s : Fin 8) (R : Fin 10) (C : Fin 1024) :
    (iblk m c 0 t : FVec Ideal S8x10x1024 .f32) (ix3 s R C) = (V m c main_arg0 : FVec Ideal S8x10x1024 .f32) (ix3 s ⟨t.1 * 10 + R.1, row_lt t R⟩ C) := by
  obtain ⟨e0, e1, e2⟩ := idx0 t
  refine congrArg (V m c main_arg0) (funext fun a => Fin.ext ?_)
  match a with
  | ⟨0, _⟩ => show win0_0.index t (0 : Fin 3) * 8 + 1 * s.1 = s.1; omega
  | ⟨1, _⟩ => show win0_0.index t (1 : Fin 3) * 10 + 1 * R.1 = t.1 * 10 + R.1; omega
  | ⟨2, _⟩ => show win0_0.index t (2 : Fin 3) * 1024 + 1 * C.1 = C.1; omega

theorem emb (t : Fin cfg0.N) (R : Fin 10) (C : Fin 1024) :
    ((cfg0.win 1).blk t).view.emb (ix2 R C) = (ix2 ⟨t.1 * 10 + R.1, row_lt t R⟩ C : S10x1024.Idx) := by
  obtain ⟨e0, e1⟩ := idx1 t
  funext a; apply Fin.ext
  match a with
  | ⟨0, _⟩ => show win0_1.index t (0 : Fin 2) * 10 + 1 * R.1 = t.1 * 10 + R.1; omega
  | ⟨1, _⟩ => show win0_1.index t (1 : Fin 2) * 1024 + 1 * C.1 = C.1; omega

theorem iblk1 (t : Fin cfg0.N) (R : Fin 10) (C : Fin 1024) :
    (iblk m c 1 t : FVec Ideal S10x1024 .f32) (ix2 R C) = (V m c main_arg1 : FVec Ideal S10x1024 .f32) (ix2 ⟨t.1 * 10 + R.1, row_lt t R⟩ C) :=
  congrArg (V m c main_arg1) (emb t R C)

theorem iblk2 (t : Fin cfg0.N) (R : Fin 10) (C : Fin 1024) :
    (iblk m c 2 t : FVec Ideal S10x1024 .f32) (ix2 R C) = (V m c main_arg2 : FVec Ideal S10x1024 .f32) (ix2 ⟨t.1 * 10 + R.1, row_lt t R⟩ C) :=
  congrArg (V m c main_arg2) (emb t R C)

theorem iblk3 (t : Fin cfg0.N) (R : Fin 10) (C : Fin 1024) :
    (iblk m c 3 t : FVec Ideal S10x1024 .f32) (ix2 R C) = (V m c main_arg3 : FVec Ideal S10x1024 .f32) (ix2 ⟨t.1 * 10 + R.1, row_lt t R⟩ C) :=
  congrArg (V m c main_arg3) (emb t R C)

/-- The gradient of a block's rows is the whole array's at those rows. -/
theorem grad (t : Fin cfg0.N) (R : Fin 10) (C : Fin 1024) :
    (k0_pay5 (F := Ideal) (iblk m c 0 t) (iblk m c 1 t) (iblk m c 2 t) (iblk m c 3 t) (ix2 R C) : EReal)
      = G (V m c main_arg0) (ix2 ⟨t.1 * 10 + R.1, row_lt t R⟩ C) :=
  (grad_at _ _ _ _ R C).trans (congrArg total (funext fun s => iblk0 m c t s R C))

/-- Every place lies in some block. -/
theorem cover (y : S10x1024.Idx) : ∃ t : Fin cfg0.N, ∃ z : S10x1024.Idx, ((cfg0.win 1).blk t).view.emb z = y := by
  obtain ⟨R, C, rfl⟩ : ∃ (R : Fin 10) (C : Fin 1024), y = ix2 R C := ⟨y 0, y 1, eq_ix2 y⟩
  refine ⟨⟨R.1 / 10, lt_of_lt_of_eq (by omega) N_0.symm⟩, ix2 (⟨R.1 % 10, by omega⟩ : Fin 10) C, (emb _ _ _).trans (congrArg₂ ix2 (Fin.ext ?_) rfl)⟩
  dsimp only; omega

theorem result4 : (dats m 0 c).arrAt 4 cfg0.N = G (V m c main_arg0) := by
  refine (dats m 0 c).arrAt_eq_of_cover 4 _ (fun t _ => ?_) fun y => ?_
  · rw [flushed4, out4]
    funext y
    obtain ⟨R, C, rfl⟩ : ∃ (R : Fin 10) (C : Fin 1024), y = ix2 R C := ⟨y 0, y 1, eq_ix2 y⟩
    exact (grad m c t R C).trans (congrArg (G _) (emb t R C)).symm
  · obtain ⟨t, z, rfl⟩ := cover y
    exact ⟨t, flush0_4 t, ((cfg0.win 4).blk t).view.emb_mem_set z⟩

theorem result5 : (dats m 0 c).arrAt 5 cfg0.N = D (V m c main_arg0) (V m c main_arg1) (V m c main_arg2) (V m c main_arg3) := by
  refine (dats m 0 c).arrAt_eq_of_cover 5 _ (fun t _ => ?_) fun y => ?_
  · rw [flushed5, out5]
    funext y
    obtain ⟨R, C, rfl⟩ : ∃ (R : Fin 10) (C : Fin 1024), y = ix2 R C := ⟨y 0, y 1, eq_ix2 y⟩
    refine Eq.trans ?_ (congrArg (D _ _ _ _) (emb t R C)).symm
    exact (congrFun (congrFun (congrArg₂ delta (grad m c t R C) (iblk1 m c t R C)) _) _).trans
      (congrArg₂ (delta _ _) (iblk2 m c t R C) (iblk3 m c t R C))
  · obtain ⟨t, z, rfl⟩ := cover y
    exact ⟨t, flush0_5 t, ((cfg0.win 5).blk t).view.emb_mem_set z⟩

theorem result6 : (dats m 0 c).arrAt 6 cfg0.N = M (V m c main_arg0) (V m c main_arg2) := by
  refine (dats m 0 c).arrAt_eq_of_cover 6 _ (fun t _ => ?_) fun y => ?_
  · rw [flushed6, out6]
    funext y
    obtain ⟨R, C, rfl⟩ : ∃ (R : Fin 10) (C : Fin 1024), y = ix2 R C := ⟨y 0, y 1, eq_ix2 y⟩
    exact (congrArg₂ mom (grad m c t R C) (iblk2 m c t R C)).trans (congrArg (M _ _) (emb t R C)).symm
  · obtain ⟨t, z, rfl⟩ := cover y
    exact ⟨t, flush0_6 t, ((cfg0.win 6).blk t).view.emb_mem_set z⟩

theorem result7 : (dats m 0 c).arrAt 7 cfg0.N = W (V m c main_arg0) (V m c main_arg3) := by
  refine (dats m 0 c).arrAt_eq_of_cover 7 _ (fun t _ => ?_) fun y => ?_
  · rw [flushed7, out7]
    funext y
    obtain ⟨R, C, rfl⟩ : ∃ (R : Fin 10) (C : Fin 1024), y = ix2 R C := ⟨y 0, y 1, eq_ix2 y⟩
    exact (congrArg₂ vel (grad m c t R C) (iblk3 m c t R C)).trans (congrArg (W _ _) (emb t R C)).symm
  · obtain ⟨t, z, rfl⟩ := cover y
    exact ⟨t, flush0_7 t, ((cfg0.win 7).blk t).view.emb_mem_set z⟩

end Cert.Kernel21Ideal.Value

namespace Cert.Reference21Ideal.Value

open Cert.Reference21Ideal Cert.Reference21Ideal.Gen Cert.Adam Idealize.ShloMosaic

theorem ref_grad (x : FVec Ideal S8x10x1024 .f32) :
    (Host.reduceAdd (x) (constant S_ .f32 0x00000000#32) reducesTo_S8x10x1024_S10x1024_d0 h_S_ : FVec Ideal S10x1024 .f32)
      = Cert.Kernel21Ideal.Value.G x := by
  funext y
  obtain ⟨R, C, rfl⟩ : ∃ (R : Fin 10) (C : Fin 1024), y = ix2 R C := ⟨y 0, y 1, eq_ix2 y⟩
  show _ = ∑ s : Fin 8, (x (ix3 s R C) : EReal)
  pointwise

end Cert.Reference21Ideal.Value

namespace Cert.Proof

open Idealize.ShloMosaic Idealize.ShloMosaic.TcCoe Idealize.SL.Sem

theorem adam_small_frame : quiescent_Kernel21 := fun m ρ _ => Cert.Kernel21.Gen.frame m ρ
theorem adam_small_frameI : quiescent_Kernel21Ideal := fun m ρ _ => Cert.Kernel21Ideal.Gen.frame m ρ
theorem adam_small_frameR : quiescent_Reference21Ideal := fun m ρ _ =>
  (θ_run Cert.Reference21Ideal.defs _ _).mono (fun r h => ⟨fun c => (h c).2.2.2.2, sem_eq_zero_of_no_sems (by decide) _⟩)
    (Cert.Reference21Ideal.Value.run m ρ)

theorem adam_small_value : algebraic_Kernel21Ideal_Reference21Ideal := fun m ρ m' ρ' _ hag => by
  refine ⟨fun c => Cert.Kernel21Ideal.Value.G (Cert.Kernel21Ideal.Gen.V m c Cert.Kernel21Ideal.main_arg0),
    fun c => Cert.Kernel21Ideal.Value.D (Cert.Kernel21Ideal.Gen.V m c Cert.Kernel21Ideal.main_arg0) (Cert.Kernel21Ideal.Gen.V m c Cert.Kernel21Ideal.main_arg1)
      (Cert.Kernel21Ideal.Gen.V m c Cert.Kernel21Ideal.main_arg2) (Cert.Kernel21Ideal.Gen.V m c Cert.Kernel21Ideal.main_arg3),
    fun c => Cert.Kernel21Ideal.Value.M (Cert.Kernel21Ideal.Gen.V m c Cert.Kernel21Ideal.main_arg0) (Cert.Kernel21Ideal.Gen.V m c Cert.Kernel21Ideal.main_arg2),
    fun c => Cert.Kernel21Ideal.Value.W (Cert.Kernel21Ideal.Gen.V m c Cert.Kernel21Ideal.main_arg0) (Cert.Kernel21Ideal.Gen.V m c Cert.Kernel21Ideal.main_arg3),
    ?_, ?_⟩
  · exact (θ_run Cert.Kernel21Ideal.defs _ _).mono (fun r h c => ⟨(h c).1.trans (Cert.Kernel21Ideal.Value.result4 m c),
      (h c).2.1.trans (Cert.Kernel21Ideal.Value.result5 m c), (h c).2.2.1.trans (Cert.Kernel21Ideal.Value.result6 m c),
      (h c).2.2.2.1.trans (Cert.Kernel21Ideal.Value.result7 m c), (h c).2.2.2.2⟩) (Cert.Kernel21Ideal.Value.run_blocks m ρ)
  · refine (θ_run Cert.Reference21Ideal.defs _ _).mono (fun r h c => ?_) (Cert.Reference21Ideal.Value.run m' ρ')
    have H := h c
    rw [(hag c).1, (hag c).2.1, (hag c).2.2.1, (hag c).2.2.2, Cert.Reference21Ideal.Value.ref_grad] at H
    exact ⟨H.1, H.2.1.trans (Cert.Adam.delta_ref _ _ _ _ _), H.2.2.1.trans (Cert.Adam.mom_ref _ _ _), H.2.2.2.1.trans (Cert.Adam.vel_ref _ _ _),
      (h c).2.2.2.2⟩

end Cert.Proof
end
-- ==== Proof.FinalTile.lean ====
module

public import proofs.«01_k».proof.Defs
public import proofs.«01_k».proof.Proof.NormBwd
public import proofs.«01_k».proof.Proof.Gen.Kernel22.Frame
public import proofs.«01_k».proof.Proof.Gen.Kernel22Ideal.Value
public import proofs.«01_k».proof.Proof.Gen.Reference22Ideal.Run
public import Idealize.ShloMosaic.Lib.WholeRead
public import Idealize.ShloMosaic.Lib.Quiescent
public import Idealize.ShloMosaic.Lib.KernelVsHost

/-! The final norm, the loss of one device and the loss's gradient.

A grid point takes 192 rows in three chunks of 64. A chunk norms its rows, forms the difference to the target's rows, which start 64 rows later than the rows of
the argument, and from it the gradient of the norm's argument, a share of the gradient of the norm's weights and a share of the loss. The first chunk of all has no
target: its difference is multiplied by zero. The shares are added over all points. -/

@[expose] public section

set_option maxRecDepth 16384

noncomputable section

namespace Cert.Kernel22Ideal.Value

open Cert.Kernel22Ideal Cert.Kernel22Ideal.Gen Idealize.ShloMosaic Idealize.ShloMosaic.TcCoe Idealize.SL.Sem

/-- Whether a chunk has a target, as a number: the chunk is the `n`-th of point `a`. -/
def live (a n : BitVec 32) : Ideal .f32 := Scalar.sitofp .f32 (Scalar.extui (Scalar.cmpi .sgt (Scalar.addi (Scalar.muli a 3#32) n) 0#32) : BitVec 32)

/-- A chunk's difference to the target. -/
def opE (x : FVec Ideal S64x1024 .f32) (w : FVec Ideal S1x1024 .f32) (t : FVec Ideal S64x1024 .f32) (l : Ideal .f32) : FVec Ideal S64x1024 .f32 :=
  mulf (subf (mulf (k0_pay7 x) (broadcastTo S64x1024 w broadcasts_S1x1024_S64x1024)) t) (broadcast S64x1024 l)

/-- A chunk's gradient of what the norm gives. -/
def opDy (x : FVec Ideal S64x1024 .f32) (w : FVec Ideal S1x1024 .f32) (t : FVec Ideal S64x1024 .f32) (l : Ideal .f32) : FVec Ideal S64x1024 .f32 :=
  mulf (opE x w t l) (broadcast S64x1024 (Scalar.ofBits .f32 0x3A800000#32))

/-- A chunk's gradient of the norm's argument. -/
def opDx (x : FVec Ideal S64x1024 .f32) (w : FVec Ideal S1x1024 .f32) (t : FVec Ideal S64x1024 .f32) (l : Ideal .f32) : FVec Ideal S64x1024 .f32 :=
  k0_pay18 w (k0_pay6 x) (k0_pay7 x) (opDy x w t l)

/-- The same, in the second result's type. -/
def opDxb (x : FVec Ideal S64x1024 .f32) (w : FVec Ideal S1x1024 .f32) (t : FVec Ideal S64x1024 .f32) (l : Ideal .f32) : FVec Ideal S64x1024 .bf16 :=
  k0_pay19 w (k0_pay6 x) (k0_pay7 x) (opDy x w t l)

/-- A chunk's share of the gradient of the weights added to what the chunks before left. -/
def opW (a : FVec Ideal S1x1024 .f32) (x : FVec Ideal S64x1024 .f32) (w : FVec Ideal S1x1024 .f32) (t : FVec Ideal S64x1024 .f32) (l : Ideal .f32) : FVec Ideal S1x1024 .f32 :=
  k0_pay12 a (k0_pay7 x) (opDy x w t l)

/-- A chunk's share of the loss added to what the chunks before left. -/
def opL (a : FVec Ideal S1x1 .f32) (x : FVec Ideal S64x1024 .f32) (w : FVec Ideal S1x1024 .f32) (t : FVec Ideal S64x1024 .f32) (l : Ideal .f32) : FVec Ideal S1x1 .f32 :=
  k0_pay13 a (opE x w t l)

section
variable (i : grid0.Coords) (g : BitVec 32) (x : FVec Ideal S64x1024 .f32) (w : FVec Ideal S1x1024 .f32) (t : FVec Ideal S64x1024 .f32) (a : FVec Ideal S1x1024 .f32)
  (b : FVec Ideal S1x1 .f32)

theorem rs1 : k0_pay14 (F := Ideal) x = k0_pay6 x := by unfold k0_pay14 k0_pay6; rfl
theorem rs2 : k0_pay24 (F := Ideal) (k0_pay23 x) = k0_pay6 x := by unfold k0_pay24 k0_pay23 k0_pay6; rfl
theorem xh1 : k0_pay15 (F := Ideal) x = k0_pay7 x := by unfold k0_pay15 k0_pay7; rw [rs1]
theorem xh2 : k0_pay25 (F := Ideal) x (k0_pay23 x) = k0_pay7 x := by unfold k0_pay25 k0_pay7; rw [rs2]
theorem e0 : k0_pay8 i w x t = opE x w t (live (BitVec.ofNat 32 (i 0).val) 0#32) := by unfold k0_pay8 opE live; rfl
theorem e1 : k0_pay16 g w x t = opE x w t (live g 1#32) := by unfold k0_pay16 opE live; rw [xh1]
theorem e2 : k0_pay26 w (k0_pay22 g) x (k0_pay23 x) t = opE x w t (live g 2#32) := by unfold k0_pay26 k0_pay22 opE live; rw [xh2]
theorem dy0 : k0_pay9 i w x t = opDy x w t (live (BitVec.ofNat 32 (i 0).val) 0#32) := by unfold k0_pay9 opDy; rw [e0]
theorem dy1 : k0_pay17 g w x t = opDy x w t (live g 1#32) := by unfold k0_pay17 opDy; rw [e1]
theorem dy2 : k0_pay27 w (k0_pay22 g) x (k0_pay23 x) t = opDy x w t (live g 2#32) := by unfold k0_pay27 opDy; rw [e2]
theorem dx0 : k0_pay10 i w x t = opDx x w t (live (BitVec.ofNat 32 (i 0).val) 0#32) := by unfold k0_pay10 opDx k0_pay18; rw [dy0]
theorem dx1 : k0_pay18 w (k0_pay14 x) (k0_pay15 x) (k0_pay17 g w x t) = opDx x w t (live g 1#32) := by unfold opDx; rw [rs1, xh1, dy1]
theorem dx2 : k0_pay28 w (k0_pay22 g) x (k0_pay23 x) t = opDx x w t (live g 2#32) := by unfold k0_pay28 opDx k0_pay18; rw [dy2, xh2, rs2]
theorem dxb0 : k0_pay11 (k0_pay10 i w x t) = opDxb x w t (live (BitVec.ofNat 32 (i 0).val) 0#32) := by rw [dx0]; unfold k0_pay11 opDxb opDx k0_pay19; rfl
theorem dxb1 : k0_pay19 w (k0_pay14 x) (k0_pay15 x) (k0_pay17 g w x t) = opDxb x w t (live g 1#32) := by unfold opDxb; rw [rs1, xh1, dy1]
theorem dxb2 : k0_pay29 w (k0_pay22 g) x (k0_pay23 x) t = opDxb x w t (live g 2#32) := by unfold k0_pay29 opDxb k0_pay19; rw [dx2, opDx]
theorem w0 : k0_pay12 a (k0_pay7 x) (k0_pay9 i w x t) = opW a x w t (live (BitVec.ofNat 32 (i 0).val) 0#32) := by rw [dy0, opW]
theorem w1 : k0_pay20 a (k0_pay15 x) (k0_pay17 g w x t) = opW a x w t (live g 1#32) := by rw [dy1, xh1]; unfold k0_pay20 opW k0_pay12; rfl
theorem w2 : k0_pay30 w a (k0_pay22 g) x (k0_pay23 x) t = opW a x w t (live g 2#32) := by unfold k0_pay30 opW k0_pay12; rw [dy2, xh2]
theorem l0 : k0_pay13 b (k0_pay8 i w x t) = opL b x w t (live (BitVec.ofNat 32 (i 0).val) 0#32) := by rw [e0, opL]
theorem l1 : k0_pay21 b (k0_pay16 g w x t) = opL b x w t (live g 1#32) := by rw [e1]; unfold k0_pay21 opL k0_pay13; rfl
theorem l2 : k0_pay31 w b (k0_pay22 g) x (k0_pay23 x) t = shapeCast S1x1 (opL b x w t (live g 2#32)) shapeCasts_S1x1_S1x1 := by
  unfold k0_pay31 opL k0_pay13; rw [e2]
end

theorem word (a : Fin 43) : ∀ n : Fin 3, (Scalar.extui (Scalar.cmpi .sgt (Scalar.addi (Scalar.muli (BitVec.ofNat 32 a.val) 3#32) (BitVec.ofNat 32 n.val)) 0#32) : BitVec 32)
    = if 0 < a.val * 3 + n.val then 1#32 else 0#32 := by
  revert a
  decide +kernel

theorem live_at (a : Fin 43) (n : Fin 3) : (live (BitVec.ofNat 32 a.val) (BitVec.ofNat 32 n.val) : EReal) = if 0 < a.val * 3 + n.val then 1 else 0 := by
  unfold live
  rw [word]
  split
  · rw [Ideal.scalar_sitofp_def]
    simp
  · exact sitofp_zero

theorem xh_at (x : FVec Ideal S64x1024 .f32) (R : Fin 64) (C : Fin 1024) :
    (k0_pay7 (F := Ideal) x (ix2 R C) : EReal) = (x (ix2 R C) : EReal) * Ideal.rsqrt (meanSq 0x44800000#32 fun k => (x (ix2 R k) : EReal)) := by
  unfold k0_pay7 k0_pay6 meanSq
  pointwise

theorem e_at (x : FVec Ideal S64x1024 .f32) (w : FVec Ideal S1x1024 .f32) (t : FVec Ideal S64x1024 .f32) (l : Ideal .f32) (R : Fin 64) (C : Fin 1024) :
    (opE x w t l (ix2 R C) : EReal)
      = ((x (ix2 R C) : EReal) * Ideal.rsqrt (meanSq 0x44800000#32 fun k => (x (ix2 R k) : EReal)) * (w (ix2 0 C) : EReal) - (t (ix2 R C) : EReal)) * (l : EReal) := by
  rw [← xh_at]
  unfold opE
  generalize k0_pay7 (F := Ideal) x = z
  pointwise

theorem dy_at (x : FVec Ideal S64x1024 .f32) (w : FVec Ideal S1x1024 .f32) (t : FVec Ideal S64x1024 .f32) (l : Ideal .f32) (R : Fin 64) (C : Fin 1024) :
    (opDy x w t l (ix2 R C) : EReal) = (opE x w t l (ix2 R C) : EReal) * Ideal.ofBits .f32 0x3A800000#32 := by
  unfold opDy
  generalize opE x w t l = z
  pointwise

theorem dx_at (x : FVec Ideal S64x1024 .f32) (w : FVec Ideal S1x1024 .f32) (t : FVec Ideal S64x1024 .f32) (l : Ideal .f32) (R : Fin 64) (C : Fin 1024) :
    (opDx x w t l (ix2 R C) : EReal) = normBwd 0x44800000#32 (fun k => (x (ix2 R k) : EReal)) (fun k => (opDy x w t l (ix2 R k) : EReal) * (w (ix2 0 k) : EReal)) 0
      (x (ix2 R C) : EReal) ((opDy x w t l (ix2 R C) : EReal) * (w (ix2 0 C) : EReal)) := by
  refine Eq.trans ?_ (zero_add _).symm
  unfold opDx
  generalize opDy x w t l = z
  unfold meanSq k0_pay18 k0_pay7 k0_pay6
  pointwise

theorem dxb_at (x : FVec Ideal S64x1024 .f32) (w : FVec Ideal S1x1024 .f32) (t : FVec Ideal S64x1024 .f32) (l : Ideal .f32) (y : S64x1024.Idx) :
    (opDxb x w t l y : EReal) = (opDx x w t l y : EReal) := rfl

theorem w_at (a : FVec Ideal S1x1024 .f32) (x : FVec Ideal S64x1024 .f32) (w : FVec Ideal S1x1024 .f32) (t : FVec Ideal S64x1024 .f32) (l : Ideal .f32) (C : Fin 1024) :
    (opW a x w t l (ix2 0 C) : EReal) = (a (ix2 0 C) : EReal) + ∑ R : Fin 64, (opDy x w t l (ix2 R C) : EReal)
      * ((x (ix2 R C) : EReal) * Ideal.rsqrt (meanSq 0x44800000#32 fun k => (x (ix2 R k) : EReal))) := by
  simp only [← xh_at]
  unfold opW
  generalize opDy x w t l = z
  generalize k0_pay7 (F := Ideal) x = z'
  unfold k0_pay12
  pointwise

theorem ofBits_half : Ideal.ofBits .f32 0x3F000000#32 = ((1 / 2 : ℝ) : EReal) := by
  simp only [Ideal.ofBits, Ideal.ieee]; simp; rw [← EReal.coe_mul]; norm_num

theorem l_at (a : FVec Ideal S1x1 .f32) (x : FVec Ideal S64x1024 .f32) (w : FVec Ideal S1x1024 .f32) (t : FVec Ideal S64x1024 .f32) (l : Ideal .f32) :
    (opL a x w t l (ix2 0 0) : EReal) = (a (ix2 0 0) : EReal) + ∑ R : Fin 64, Ideal.ofBits .f32 0x3F000000#32
      * ((∑ C : Fin 1024, (opE x w t l (ix2 R C) : EReal) * (opE x w t l (ix2 R C) : EReal)) * Ideal.ofBits .f32 0x3A800000#32) := by
  have e : ∀ f : Fin 64 → EReal, ∑ R : Fin 64, Ideal.ofBits .f32 0x3F000000#32 * f R = Ideal.ofBits .f32 0x3F000000#32 * ∑ R : Fin 64, f R := by
    intro f
    rw [ofBits_half, coe_mul_sum _ (by norm_num)]
  rw [e]
  unfold opL
  generalize opE x w t l = z
  unfold k0_pay13
  pointwise

/-- The normed value at one index. -/
def xh (h : FVec Ideal S8256x1024 .f32) (R : Fin 8256) (C : Fin 1024) : EReal :=
  (h (ix2 R C) : EReal) * Ideal.rsqrt (meanSq 0x44800000#32 fun k => (h (ix2 R k) : EReal))

/-- The difference to the target at one index; the first 64 rows have none. -/
def err (h : FVec Ideal S8256x1024 .f32) (w : FVec Ideal S1x1024 .f32) (t : FVec Ideal S8192x1024 .f32) (R : Fin 8256) (C : Fin 1024) : EReal :=
  if H : 64 ≤ R.1 then xh h R C * (w (ix2 0 C) : EReal) - (t (ix2 ⟨R.1 - 64, by omega⟩ C) : EReal) else 0

/-- The gradient of what the norm gives at one index. -/
def dy (h : FVec Ideal S8256x1024 .f32) (w : FVec Ideal S1x1024 .f32) (t : FVec Ideal S8192x1024 .f32) (R : Fin 8256) (C : Fin 1024) : EReal :=
  err h w t R C * Ideal.ofBits .f32 0x3A800000#32

/-- The first and second results: the gradient of the norm's argument. -/
def DH (h : FVec Ideal S8256x1024 .f32) (w : FVec Ideal S1x1024 .f32) (t : FVec Ideal S8192x1024 .f32) : S8256x1024.Idx → EReal :=
  fun y => normBwd 0x44800000#32 (fun k => (h (ix2 (y 0) k) : EReal)) (fun k => dy h w t (y 0) k * (w (ix2 0 k) : EReal)) 0
    (h (ix2 (y 0) (y 1)) : EReal) (dy h w t (y 0) (y 1) * (w (ix2 0 (y 1)) : EReal))

/-- A row's share of the gradient of the norm's weights. -/
def wterm (h : FVec Ideal S8256x1024 .f32) (w : FVec Ideal S1x1024 .f32) (t : FVec Ideal S8192x1024 .f32) (C : Fin 1024) : Fin 8256 → EReal :=
  fun R => dy h w t R C * xh h R C

/-- The third result: the gradient of the norm's weights. -/
def W (h : FVec Ideal S8256x1024 .f32) (w : FVec Ideal S1x1024 .f32) (t : FVec Ideal S8192x1024 .f32) : S1x1024.Idx → EReal :=
  fun y => ∑ R : Fin 8256, wterm h w t (y 1) R

/-- A row's share of the loss. -/
def lterm (h : FVec Ideal S8256x1024 .f32) (w : FVec Ideal S1x1024 .f32) (t : FVec Ideal S8192x1024 .f32) : Fin 8256 → EReal :=
  fun R => Ideal.ofBits .f32 0x3F000000#32 * ((∑ C : Fin 1024, err h w t R C * err h w t R C) * Ideal.ofBits .f32 0x3A800000#32)

/-- The fourth result: the loss, in every column. -/
def LS (h : FVec Ideal S8256x1024 .f32) (w : FVec Ideal S1x1024 .f32) (t : FVec Ideal S8192x1024 .f32) : S1x128.Idx → EReal :=
  fun _ => ∑ R : Fin 8256, lterm h w t R

section chunk

variable {h : FVec Ideal S8256x1024 .f32} {w : FVec Ideal S1x1024 .f32} {t : FVec Ideal S8192x1024 .f32} {r : ℕ} {hr : r + 64 ≤ 8256}

variable (h w t r hr) in
/-- What one chunk works on: the rows from `r`. -/
structure IsChunk (x : FVec Ideal S64x1024 .f32) (v : FVec Ideal S1x1024 .f32) (s : FVec Ideal S64x1024 .f32) (l : Ideal .f32) : Prop where
  x (R : Fin 64) (C : Fin 1024) : (x (ix2 R C) : EReal) = (h (ix2 ⟨r + R.1, by omega⟩ C) : EReal)
  v : v = w
  e (R : Fin 64) (C : Fin 1024) : (xh h ⟨r + R.1, by omega⟩ C * (w (ix2 0 C) : EReal) - (s (ix2 R C) : EReal)) * (l : EReal) = err h w t ⟨r + R.1, by omega⟩ C

variable {x s : FVec Ideal S64x1024 .f32} {v : FVec Ideal S1x1024 .f32} {l : Ideal .f32}

theorem chunk_xh (H : IsChunk h w t r hr x v s l) (R : Fin 64) (C : Fin 1024) :
    (x (ix2 R C) : EReal) * Ideal.rsqrt (meanSq 0x44800000#32 fun k => (x (ix2 R k) : EReal)) = xh h ⟨r + R.1, by omega⟩ C := by
  unfold xh
  simp only [H.x]

theorem chunk_e (H : IsChunk h w t r hr x v s l) (R : Fin 64) (C : Fin 1024) : (opE x v s l (ix2 R C) : EReal) = err h w t ⟨r + R.1, by omega⟩ C := by
  rw [e_at, chunk_xh H, H.v, H.e]

theorem chunk_dy (H : IsChunk h w t r hr x v s l) (R : Fin 64) (C : Fin 1024) : (opDy x v s l (ix2 R C) : EReal) = dy h w t ⟨r + R.1, by omega⟩ C := by
  rw [dy_at, chunk_e H]
  rfl

theorem chunk_dx (H : IsChunk h w t r hr x v s l) (R : Fin 64) (C : Fin 1024) : (opDx x v s l (ix2 R C) : EReal) = DH h w t (ix2 ⟨r + R.1, by omega⟩ C) := by
  rw [dx_at]
  unfold DH
  simp only [H.x, H.v, ← chunk_dy H, ix2_0, ix2_1]

theorem chunk_w (H : IsChunk h w t r hr x v s l) (a : FVec Ideal S1x1024 .f32) (C : Fin 1024) :
    (opW a x v s l (ix2 0 C) : EReal) = (a (ix2 0 C) : EReal) + ∑ R : Fin 64, wterm h w t C ⟨r + R.1, by omega⟩ := by
  rw [w_at]
  simp only [chunk_xh H, chunk_dy H]
  rfl

theorem chunk_l (H : IsChunk h w t r hr x v s l) (a : FVec Ideal S1x1 .f32) :
    (opL a x v s l (ix2 0 0) : EReal) = (a (ix2 0 0) : EReal) + ∑ R : Fin 64, lterm h w t ⟨r + R.1, by omega⟩ := by
  rw [l_at]
  simp only [chunk_e H]
  rfl

end chunk

end Cert.Kernel22Ideal.Value

end
-- ==== Proof.FinalLoss.lean ====
module

public import proofs.«01_k».proof.Proof.FinalTile

/-! The final norm, the loss of one device and the loss's gradient: what the call leaves and what the reference leaves.

The chunks of a point are put together to the point's rows, and the points' shares to the whole sums. -/

@[expose] public section

set_option maxRecDepth 16384

noncomputable section

namespace Cert.Kernel22Ideal.Value

open Cert.Kernel22Ideal Cert.Kernel22Ideal.Gen Idealize.ShloMosaic Idealize.ShloMosaic.TcCoe Idealize.SL.Sem

section stores

variable (h : FVec Ideal S8256x1024 .f32) (w : FVec Ideal S1x1024 .f32) (t : FVec Ideal S8192x1024 .f32) (r : ℕ) (hr : r + 192 ≤ 8256) (g : BitVec 32)

/-- What one point works on: the argument's rows from `r`, the weights, and each chunk's target. -/
structure IsTile (x0 : FVec Ideal S192x1024 .f32) (x1 : FVec Ideal S1x1024 .f32) (x2 x3 x4 : FVec Ideal S64x1024 .f32) : Prop where
  x (R : Fin 192) (C : Fin 1024) : (x0 (ix2 R C) : EReal) = (h (ix2 ⟨r + R.1, by omega⟩ C) : EReal)
  v : x1 = w
  e0 (R : Fin 64) (C : Fin 1024) : (xh h ⟨r + 0 + R.1, by omega⟩ C * (w (ix2 0 C) : EReal) - (x2 (ix2 R C) : EReal)) * (live g 0#32 : EReal)
    = err h w t ⟨r + 0 + R.1, by omega⟩ C
  e1 (R : Fin 64) (C : Fin 1024) : (xh h ⟨r + 64 + R.1, by omega⟩ C * (w (ix2 0 C) : EReal) - (x3 (ix2 R C) : EReal)) * (live g 1#32 : EReal)
    = err h w t ⟨r + 64 + R.1, by omega⟩ C
  e2 (R : Fin 64) (C : Fin 1024) : (xh h ⟨r + 128 + R.1, by omega⟩ C * (w (ix2 0 C) : EReal) - (x4 (ix2 R C) : EReal)) * (live g 2#32 : EReal)
    = err h w t ⟨r + 128 + R.1, by omega⟩ C

/-- The gradient's block at a point. -/
def tileH : S192x1024.Idx → EReal := fun y => DH h w t (ix2 ⟨r + (y 0).1, by have : (y 0).1 < 192 := (y 0).2; omega⟩ (y 1))

/-- A point's rows' shares, of 192 rows in three chunks. -/
def rows (f : Fin 8256 → EReal) : EReal :=
  (∑ R : Fin 64, f ⟨r + 0 + R.1, by omega⟩) + (∑ R : Fin 64, f ⟨r + 64 + R.1, by omega⟩) + ∑ R : Fin 64, f ⟨r + 128 + R.1, by omega⟩

variable {h w t r hr g}

theorem pay1_at (b : FVec Ideal S1x1 .f32) (j : Fin 128) : (k0_pay1 (F := Ideal) (shapeCast S1x1 b shapeCasts_S1x1_S1x1) (ix2 0 j) : EReal) = (b (ix2 0 0) : EReal) := by
  unfold k0_pay1
  pointwise

theorem pay2_at (a b : FVec Ideal S1x1024 .f32) (j : Fin 1024) : (k0_pay2 (F := Ideal) a b (ix2 0 j) : EReal) = (b (ix2 0 j) : EReal) + (a (ix2 0 j) : EReal) := by
  unfold k0_pay2
  pointwise

theorem pay3_at (b : FVec Ideal S1x1 .f32) (a : FVec Ideal S1x128 .f32) (j : Fin 128) : (k0_pay3 (F := Ideal) (shapeCast S1x1 b shapeCasts_S1x1_S1x1) a (ix2 0 j) : EReal)
    = (a (ix2 0 j) : EReal) + (b (ix2 0 0) : EReal) := by
  unfold k0_pay3 k0_pay1
  pointwise

section
variable {X0 X1 X2 s0 s1 s2 : FVec Ideal S64x1024 .f32} {v0 v1 v2 : FVec Ideal S1x1024 .f32} {l0 l1 l2 : Ideal .f32}
  (H0 : IsChunk h w t (r + 0) (by omega) X0 v0 s0 l0) (H1 : IsChunk h w t (r + 64) (by omega) X1 v1 s1 l1) (H2 : IsChunk h w t (r + 128) (by omega) X2 v2 s2 l2)
include H0 H1 H2

theorem chain_w (C : Fin 1024) : (opW (opW (opW k0_pay4 X0 v0 s0 l0) X1 v1 s1 l1) X2 v2 s2 l2 (ix2 0 C) : EReal) = rows r hr (wterm h w t C) := by
  have z : (k0_pay4 (F := Ideal) (ix2 0 C) : EReal) = 0 := by
    unfold k0_pay4
    pointwise
  rw [chunk_w H2, chunk_w H1, chunk_w H0, z, zero_add]
  rfl

theorem chain_l : (opL (opL (opL k0_pay5 X0 v0 s0 l0) X1 v1 s1 l1) X2 v2 s2 l2 (ix2 0 0) : EReal) = rows r hr (lterm h w t) := by
  have z : (k0_pay5 (F := Ideal) (ix2 0 0) : EReal) = 0 := by
    unfold k0_pay5
    pointwise
  rw [chunk_l H2, chunk_l H1, chunk_l H0, z, zero_add]
  rfl
end

variable (arg1 : Memref sig .tc .vmem S192x1024 .f32) (harg1 : arg1.IsWhole) (arg2 : Memref sig .tc .vmem S1x1024 .f32) (harg2 : arg2.IsWhole)
  (arg3 : Memref sig .tc .vmem S64x1024 .f32) (harg3 : arg3.IsWhole) (arg4 : Memref sig .tc .vmem S64x1024 .f32) (harg4 : arg4.IsWhole)
  (arg5 : Memref sig .tc .vmem S64x1024 .f32) (harg5 : arg5.IsWhole)
  (x0 : FVec Ideal S192x1024 .f32) (x1 : FVec Ideal S1x1024 .f32) (x2 x3 x4 : FVec Ideal S64x1024 .f32)

/-- A load of a chunk's rows. -/
def ldx (a : ℕ) (inb : ∀ k, (![a, 0] : Fin 2 → ℕ) k + S64x1024.size k ≤ S192x1024.size k) : FVec Ideal S64x1024 .f32 :=
  arg1.view.readAt (Elt Ideal) (Rect.unit (s := S192x1024) ![a, 0] S64x1024.size inb).toLoadRect (harg1.unread x0)

theorem ldx_at (a : ℕ) (inb : ∀ k, (![a, 0] : Fin 2 → ℕ) k + S64x1024.size k ≤ S192x1024.size k) (R : Fin 64) (C : Fin 1024) (ha : a + R.1 < 192) :
    (ldx arg1 harg1 x0 a inb (ix2 R C) : EReal) = (x0 (ix2 ⟨a + R.1, ha⟩ C) : EReal) := by
  unfold ldx
  rw [Memref.IsWhole.readAt_unread]
  congr 1
  funext k
  apply Fin.ext
  fin_cases k <;> simp [ix2, LoadRect.idx]

/-- A load of the weights. -/
def ldv : FVec Ideal S1x1024 .f32 :=
  arg2.view.readAt (Elt Ideal) (Rect.unit (s := S1x1024) ![0, 0] S1x1024.size inb_S1x1024_S1x1024_0_0).toLoadRect (harg2.unread x1)

/-- A load of a chunk's target. -/
def ldt (b : Memref sig .tc .vmem S64x1024 .f32) (hb : b.IsWhole) (y : FVec Ideal S64x1024 .f32) : FVec Ideal S64x1024 .f32 :=
  b.view.readAt (Elt Ideal) (Rect.unit (s := S64x1024) ![0, 0] S64x1024.size inb_S64x1024_S64x1024_0_0).toLoadRect (hb.unread y)

theorem ldv_eq : ldv arg2 harg2 x1 = x1 := read_whole arg2 harg2 x1 vec2_zero _

theorem ldt_eq (b : Memref sig .tc .vmem S64x1024 .f32) (hb : b.IsWhole) (y : FVec Ideal S64x1024 .f32) : ldt b hb y = y := read_whole b hb y vec2_zero _

variable {x0 x1 x2 x3 x4}

theorem chunk_of {a : ℕ} (inb : ∀ k, (![a, 0] : Fin 2 → ℕ) k + S64x1024.size k ≤ S192x1024.size k) (ha : a + 64 ≤ 192)
    (T : IsTile h w t r hr g x0 x1 x2 x3 x4) (b : Memref sig .tc .vmem S64x1024 .f32) (hb : b.IsWhole) (y : FVec Ideal S64x1024 .f32) (l : Ideal .f32)
    (e : ∀ (R : Fin 64) (C : Fin 1024), (xh h ⟨r + a + R.1, by omega⟩ C * (w (ix2 0 C) : EReal) - (y (ix2 R C) : EReal)) * (l : EReal) = err h w t ⟨r + a + R.1, by omega⟩ C) :
    IsChunk h w t (r + a) (by omega) (ldx arg1 harg1 x0 a inb) (ldv arg2 harg2 x1) (ldt b hb y) l where
  x R C := by
    refine (ldx_at _ _ _ _ _ R C (by omega)).trans ((T.x _ C).trans ?_)
    exact congrArg (fun k : Fin 8256 => (h (ix2 k C) : EReal)) (Fin.ext (by dsimp only; omega))
  v := (ldv_eq arg2 harg2 x1).trans T.v
  e R C := by
    refine Eq.trans ?_ (e R C)
    rw [ldt_eq]

theorem piece {a : ℕ} (inb : ∀ k, (![a, 0] : Fin 2 → ℕ) k + S64x1024.size k ≤ S192x1024.size k) (ha : a + 64 ≤ 192)
    {X s : FVec Ideal S64x1024 .f32} {v : FVec Ideal S1x1024 .f32} {l : Ideal .f32} (H : IsChunk h w t (r + a) (by omega) X v s l) (y : S64x1024.Idx) :
    (opDx X v s l y : EReal) = tileH h w t r hr ((Rect.unit (s := S192x1024) ![a, 0] S64x1024.size inb).emb y) := by
  obtain ⟨R, C, rfl⟩ : ∃ (R : Fin 64) (C : Fin 1024), y = ix2 R C := ⟨y 0, y 1, eq_ix2 y⟩
  rw [chunk_dx H]
  refine congrArg (DH h w t) (congrArg₂ ix2 (Fin.ext ?_) (Fin.ext ?_))
  · show r + a + R.1 = r + (a + 1 * R.1); omega
  · show C.1 = 0 + 1 * C.1; omega

variable (c : Dev nD) (i : grid0.Coords) (arg6 : Memref sig .tc .vmem S192x1024 .f32) (harg6 : arg6.IsWhole)
  (arg7 : Memref sig .tc .vmem S192x1024 .bf16) (harg7 : arg7.IsWhole) (arg8 : Memref sig .tc .vmem S1x1024 .f32) (harg8 : arg8.IsWhole)
  (arg9 : Memref sig .tc .vmem S1x128 .f32) (harg9 : arg9.IsWhole)
  (xo7 : FVec Ideal S1x1024 .f32) (xo8 : FVec Ideal S1x128 .f32)

open kernelRun0_A.sl in
theorem outA5 (hc0 : cond0_0 i) (hc1 : ¬cond0_1 i) (T : IsTile h w t r hr (BitVec.ofNat 32 (i 0).val) x0 x1 x2 x3 x4) :
    out0_A_5 (F := Ideal) c i arg1 harg1 arg2 harg2 arg3 harg3 arg4 harg4 arg5 harg5 arg6 harg6 arg7 harg7 arg8 harg8 arg9 harg9 hc0 hc1
      x0 x1 x2 x3 x4 = tileH h w t r hr := by
  unfold out0_A_5
  rw [View.read_writes_junk_eq_canon]
  funext y
  refine canon_of_agree (Val := Elt Ideal) (tileH h w t r hr) _ y (cover0_A_5 ..) ?_
  unfold kernelRun0_A
  intro pc hpc
  dsimp only at hpc
  simp only [kernelRun0_A.sl.r, r_1, r_2, r_3, r_4, r_5, r_6, r_7, r_8, r_9, r_10, r_11, r_12, r_13, r_14, r_15, r_16, r_17] at hpc
  rcases List.mem_cons.1 hpc with rfl | hpc
  · exact fun y => (congrFun (dx2 _ _ _ _) y).trans (piece inb_S192x1024_S64x1024_128_0 (by omega) (chunk_of arg1 harg1 arg2 harg2 _ (by omega) T arg5 harg5 _ _ T.e2) y)
  rcases List.mem_cons.1 hpc with rfl | hpc
  · exact fun y => (congrFun (dx1 _ _ _ _) y).trans (piece inb_S192x1024_S64x1024_64_0 (by omega) (chunk_of arg1 harg1 arg2 harg2 _ (by omega) T arg4 harg4 _ _ T.e1) y)
  rcases List.mem_cons.1 hpc with rfl | hpc
  · exact fun y => (congrFun (dx0 i _ _ _) y).trans (piece inb_S192x1024_S64x1024_0_0 (by omega) (chunk_of arg1 harg1 arg2 harg2 _ (by omega) T arg3 harg3 _ _ T.e0) y)
  · cases hpc

open kernelRun0_B.sl in
theorem outB5 (hc0 : ¬cond0_0 i) (hc1 : cond0_1 i) (T : IsTile h w t r hr (BitVec.ofNat 32 (i 0).val) x0 x1 x2 x3 x4) :
    out0_B_5 (F := Ideal) c i arg1 harg1 arg2 harg2 arg3 harg3 arg4 harg4 arg5 harg5 arg6 harg6 arg7 harg7 arg8 harg8 arg9 harg9 hc0 hc1
      x0 x1 x2 x3 x4 xo7 xo8 = tileH h w t r hr := by
  unfold out0_B_5
  rw [View.read_writes_junk_eq_canon]
  funext y
  refine canon_of_agree (Val := Elt Ideal) (tileH h w t r hr) _ y (cover0_B_5 ..) ?_
  unfold kernelRun0_B
  intro pc hpc
  dsimp only at hpc
  simp only [kernelRun0_B.sl.r, r_1, r_2, r_3, r_4, r_5, r_6, r_7, r_8, r_9, r_10, r_11, r_12, r_13, r_14, r_15, r_16, r_17] at hpc
  rcases List.mem_cons.1 hpc with rfl | hpc
  · exact fun y => (congrFun (dx2 _ _ _ _) y).trans (piece inb_S192x1024_S64x1024_128_0 (by omega) (chunk_of arg1 harg1 arg2 harg2 _ (by omega) T arg5 harg5 _ _ T.e2) y)
  rcases List.mem_cons.1 hpc with rfl | hpc
  · exact fun y => (congrFun (dx1 _ _ _ _) y).trans (piece inb_S192x1024_S64x1024_64_0 (by omega) (chunk_of arg1 harg1 arg2 harg2 _ (by omega) T arg4 harg4 _ _ T.e1) y)
  rcases List.mem_cons.1 hpc with rfl | hpc
  · exact fun y => (congrFun (dx0 i _ _ _) y).trans (piece inb_S192x1024_S64x1024_0_0 (by omega) (chunk_of arg1 harg1 arg2 harg2 _ (by omega) T arg3 harg3 _ _ T.e0) y)
  · cases hpc

open kernelRun0_A.sl in
theorem outA6 (hc0 : cond0_0 i) (hc1 : ¬cond0_1 i) (T : IsTile h w t r hr (BitVec.ofNat 32 (i 0).val) x0 x1 x2 x3 x4) :
    out0_A_6 (F := Ideal) c i arg1 harg1 arg2 harg2 arg3 harg3 arg4 harg4 arg5 harg5 arg6 harg6 arg7 harg7 arg8 harg8 arg9 harg9 hc0 hc1
      x0 x1 x2 x3 x4 = tileH h w t r hr := by
  unfold out0_A_6
  rw [View.read_writes_junk_eq_canon]
  funext y
  refine canon_of_agree (Val := Elt Ideal) (tileH h w t r hr) _ y (cover0_A_6 ..) ?_
  unfold kernelRun0_A
  intro pc hpc
  dsimp only at hpc
  simp only [kernelRun0_A.sl.r, r_1, r_2, r_3, r_4, r_5, r_6, r_7, r_8, r_9, r_10, r_11, r_12, r_13, r_14, r_15, r_16, r_17] at hpc
  rcases List.mem_cons.1 hpc with rfl | hpc
  · exact fun y => (congrFun (dxb2 _ _ _ _) y).trans (piece inb_S192x1024_S64x1024_128_0 (by omega) (chunk_of arg1 harg1 arg2 harg2 _ (by omega) T arg5 harg5 _ _ T.e2) y)
  rcases List.mem_cons.1 hpc with rfl | hpc
  · exact fun y => (congrFun (dxb1 _ _ _ _) y).trans (piece inb_S192x1024_S64x1024_64_0 (by omega) (chunk_of arg1 harg1 arg2 harg2 _ (by omega) T arg4 harg4 _ _ T.e1) y)
  rcases List.mem_cons.1 hpc with rfl | hpc
  · exact fun y => (congrFun (dxb0 i _ _ _) y).trans (piece inb_S192x1024_S64x1024_0_0 (by omega) (chunk_of arg1 harg1 arg2 harg2 _ (by omega) T arg3 harg3 _ _ T.e0) y)
  · cases hpc

open kernelRun0_B.sl in
theorem outB6 (hc0 : ¬cond0_0 i) (hc1 : cond0_1 i) (T : IsTile h w t r hr (BitVec.ofNat 32 (i 0).val) x0 x1 x2 x3 x4) :
    out0_B_6 (F := Ideal) c i arg1 harg1 arg2 harg2 arg3 harg3 arg4 harg4 arg5 harg5 arg6 harg6 arg7 harg7 arg8 harg8 arg9 harg9 hc0 hc1
      x0 x1 x2 x3 x4 xo7 xo8 = tileH h w t r hr := by
  unfold out0_B_6
  rw [View.read_writes_junk_eq_canon]
  funext y
  refine canon_of_agree (Val := Elt Ideal) (tileH h w t r hr) _ y (cover0_B_6 ..) ?_
  unfold kernelRun0_B
  intro pc hpc
  dsimp only at hpc
  simp only [kernelRun0_B.sl.r, r_1, r_2, r_3, r_4, r_5, r_6, r_7, r_8, r_9, r_10, r_11, r_12, r_13, r_14, r_15, r_16, r_17] at hpc
  rcases List.mem_cons.1 hpc with rfl | hpc
  · exact fun y => (congrFun (dxb2 _ _ _ _) y).trans (piece inb_S192x1024_S64x1024_128_0 (by omega) (chunk_of arg1 harg1 arg2 harg2 _ (by omega) T arg5 harg5 _ _ T.e2) y)
  rcases List.mem_cons.1 hpc with rfl | hpc
  · exact fun y => (congrFun (dxb1 _ _ _ _) y).trans (piece inb_S192x1024_S64x1024_64_0 (by omega) (chunk_of arg1 harg1 arg2 harg2 _ (by omega) T arg4 harg4 _ _ T.e1) y)
  rcases List.mem_cons.1 hpc with rfl | hpc
  · exact fun y => (congrFun (dxb0 i _ _ _) y).trans (piece inb_S192x1024_S64x1024_0_0 (by omega) (chunk_of arg1 harg1 arg2 harg2 _ (by omega) T arg3 harg3 _ _ T.e0) y)
  · cases hpc

open kernelRun0_A.sl in
theorem outA7 (hc0 : cond0_0 i) (hc1 : ¬cond0_1 i) (T : IsTile h w t r hr (BitVec.ofNat 32 (i 0).val) x0 x1 x2 x3 x4) (j : Fin 1024) :
    (out0_A_7 (F := Ideal) c i arg1 harg1 arg2 harg2 arg3 harg3 arg4 harg4 arg5 harg5 arg6 harg6 arg7 harg7 arg8 harg8 arg9 harg9 hc0 hc1
      x0 x1 x2 x3 x4 (ix2 0 j) : EReal) = rows r hr (wterm h w t j) := by
  unfold out0_A_7
  rw [View.read_writes_junk_eq_canon]
  unfold kernelRun0_A
  dsimp only
  refine (congrFun (View.canon_unit_zero (S := S1x1024) vec2_zero _ _) _).trans ?_
  simp only [kernelRun0_A.sl.r, r_1, r_2, r_3, r_4, r_5, r_6, r_7, r_8, r_9, r_10, r_11, r_12, r_13, r_14, r_15, r_16, r_17]
  rw [w0, w1, w2]
  exact (chain_w (chunk_of arg1 harg1 arg2 harg2 inb_S192x1024_S64x1024_0_0 (by omega) T arg3 harg3 _ _ T.e0) (chunk_of arg1 harg1 arg2 harg2 inb_S192x1024_S64x1024_64_0 (by omega) T arg4 harg4 _ _ T.e1) (chunk_of arg1 harg1 arg2 harg2 inb_S192x1024_S64x1024_128_0 (by omega) T arg5 harg5 _ _ T.e2) j)

open kernelRun0_B.sl in
theorem outB7 (hc0 : ¬cond0_0 i) (hc1 : cond0_1 i) (T : IsTile h w t r hr (BitVec.ofNat 32 (i 0).val) x0 x1 x2 x3 x4) (j : Fin 1024) :
    (out0_B_7 (F := Ideal) c i arg1 harg1 arg2 harg2 arg3 harg3 arg4 harg4 arg5 harg5 arg6 harg6 arg7 harg7 arg8 harg8 arg9 harg9 hc0 hc1
      x0 x1 x2 x3 x4 xo7 xo8 (ix2 0 j) : EReal) = (xo7 (ix2 0 j) : EReal) + rows r hr (wterm h w t j) := by
  unfold out0_B_7
  rw [View.read_writes_junk_eq_canon]
  unfold kernelRun0_B
  dsimp only
  refine (congrFun (View.canon_unit_zero (S := S1x1024) vec2_zero _ _) _).trans ?_
  simp only [kernelRun0_B.sl.r, r_1, r_2, r_3, r_4, r_5, r_6, r_7, r_8, r_9, r_10, r_11, r_12, r_13, r_14, r_15, r_16, r_17]
  rw [w0, w1, w2]
  refine (pay2_at _ _ j).trans ?_
  refine congrArg₂ (fun a b : EReal => a + b) (congrFun (read_whole arg8 harg8 xo7 vec2_zero _) _) ?_
  exact (chain_w (chunk_of arg1 harg1 arg2 harg2 inb_S192x1024_S64x1024_0_0 (by omega) T arg3 harg3 _ _ T.e0) (chunk_of arg1 harg1 arg2 harg2 inb_S192x1024_S64x1024_64_0 (by omega) T arg4 harg4 _ _ T.e1) (chunk_of arg1 harg1 arg2 harg2 inb_S192x1024_S64x1024_128_0 (by omega) T arg5 harg5 _ _ T.e2) j)

open kernelRun0_A.sl in
theorem outA8 (hc0 : cond0_0 i) (hc1 : ¬cond0_1 i) (T : IsTile h w t r hr (BitVec.ofNat 32 (i 0).val) x0 x1 x2 x3 x4) (j : Fin 128) :
    (out0_A_8 (F := Ideal) c i arg1 harg1 arg2 harg2 arg3 harg3 arg4 harg4 arg5 harg5 arg6 harg6 arg7 harg7 arg8 harg8 arg9 harg9 hc0 hc1
      x0 x1 x2 x3 x4 (ix2 0 j) : EReal) = rows r hr (lterm h w t) := by
  unfold out0_A_8
  rw [View.read_writes_junk_eq_canon]
  unfold kernelRun0_A
  dsimp only
  refine (congrFun (View.canon_unit_zero (S := S1x128) vec2_zero _ _) _).trans ?_
  simp only [kernelRun0_A.sl.r, r_1, r_2, r_3, r_4, r_5, r_6, r_7, r_8, r_9, r_10, r_11, r_12, r_13, r_14, r_15, r_16, r_17]
  rw [l0, l1, l2]
  exact (pay1_at _ j).trans (chain_l (chunk_of arg1 harg1 arg2 harg2 inb_S192x1024_S64x1024_0_0 (by omega) T arg3 harg3 _ _ T.e0) (chunk_of arg1 harg1 arg2 harg2 inb_S192x1024_S64x1024_64_0 (by omega) T arg4 harg4 _ _ T.e1) (chunk_of arg1 harg1 arg2 harg2 inb_S192x1024_S64x1024_128_0 (by omega) T arg5 harg5 _ _ T.e2))

open kernelRun0_B.sl in
theorem outB8 (hc0 : ¬cond0_0 i) (hc1 : cond0_1 i) (T : IsTile h w t r hr (BitVec.ofNat 32 (i 0).val) x0 x1 x2 x3 x4) (j : Fin 128) :
    (out0_B_8 (F := Ideal) c i arg1 harg1 arg2 harg2 arg3 harg3 arg4 harg4 arg5 harg5 arg6 harg6 arg7 harg7 arg8 harg8 arg9 harg9 hc0 hc1
      x0 x1 x2 x3 x4 xo7 xo8 (ix2 0 j) : EReal) = (xo8 (ix2 0 j) : EReal) + rows r hr (lterm h w t) := by
  unfold out0_B_8
  rw [View.read_writes_junk_eq_canon]
  unfold kernelRun0_B
  dsimp only
  refine (congrFun (View.canon_unit_zero (S := S1x128) vec2_zero _ _) _).trans ?_
  simp only [kernelRun0_B.sl.r, r_1, r_2, r_3, r_4, r_5, r_6, r_7, r_8, r_9, r_10, r_11, r_12, r_13, r_14, r_15, r_16, r_17]
  rw [l0, l1, l2]
  refine (pay3_at _ _ j).trans ?_
  refine congrArg₂ (fun a b : EReal => a + b) (congrFun (read_whole arg9 harg9 xo8 vec2_zero _) _) ?_
  exact (chain_l (chunk_of arg1 harg1 arg2 harg2 inb_S192x1024_S64x1024_0_0 (by omega) T arg3 harg3 _ _ T.e0) (chunk_of arg1 harg1 arg2 harg2 inb_S192x1024_S64x1024_64_0 (by omega) T arg4 harg4 _ _ T.e1) (chunk_of arg1 harg1 arg2 harg2 inb_S192x1024_S64x1024_128_0 (by omega) T arg5 harg5 _ _ T.e2))

end stores

theorem idx0 : ∀ t : Fin cfg0.N, win0_0.index t (0 : Fin 2) = t.1 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 3 * t.1 - 1 ∧ win0_2.index t (1 : Fin 2) = 0 := (by decide +kernel : ∀ t : Fin grid0.N, _)
theorem idx3 : ∀ t : Fin cfg0.N, win0_3.index t (0 : Fin 2) = 3 * t.1 ∧ win0_3.index t (1 : Fin 2) = 0 := (by decide +kernel : ∀ t : Fin grid0.N, _)
theorem idx4 : ∀ t : Fin cfg0.N, win0_4.index t (0 : Fin 2) = 3 * t.1 + 1 ∧ win0_4.index t (1 : Fin 2) = 0 := (by decide +kernel : ∀ t : Fin grid0.N, _)
theorem idx5 : ∀ t : Fin cfg0.N, win0_5.index t (0 : Fin 2) = t.1 ∧ win0_5.index t (1 : Fin 2) = 0 := (by decide +kernel : ∀ t : Fin grid0.N, _)
theorem idx6 : ∀ t : Fin cfg0.N, win0_6.index t (0 : Fin 2) = t.1 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem coord : ∀ t : Fin cfg0.N, (grid0.coords t 0).val = t.1 := (by decide +kernel : ∀ t : Fin grid0.N, _)

/-- Where a chunk has a target, the difference is what its rows' place says. -/
theorem err_live (h : FVec Ideal S8256x1024 .f32) (w : FVec Ideal S1x1024 .f32) (t : FVec Ideal S8192x1024 .f32) (R : Fin 8256) (C : Fin 1024) (s l : EReal)
    (hl : l = 1) (hR : 64 ≤ R.1) (hs : s = (t (ix2 ⟨R.1 - 64, by omega⟩ C) : EReal)) :
    (xh h R C * (w (ix2 0 C) : EReal) - s) * l = err h w t R C := by
  unfold err
  rw [dif_pos hR, hl, mul_one, hs]

/-- The first chunk of all has no target. -/
theorem err_dead (h : FVec Ideal S8256x1024 .f32) (w : FVec Ideal S1x1024 .f32) (t : FVec Ideal S8192x1024 .f32) (R : Fin 8256) (C : Fin 1024) (s l : EReal)
    (hl : l = 0) (hR : ¬64 ≤ R.1) :
    (xh h R C * (w (ix2 0 C) : EReal) - s) * l = err h w t R C := by
  unfold err
  rw [dif_neg hR, hl, mul_zero]

theorem live0 (a : ℕ) (ha : a < 43) : (live (BitVec.ofNat 32 a) 0#32 : EReal) = if 0 < a * 3 + 0 then 1 else 0 := live_at ⟨a, ha⟩ 0
theorem live1 (a : ℕ) (ha : a < 43) : (live (BitVec.ofNat 32 a) 1#32 : EReal) = 1 := (live_at ⟨a, ha⟩ 1).trans (if_pos (Nat.succ_pos _))
theorem live2 (a : ℕ) (ha : a < 43) : (live (BitVec.ofNat 32 a) 2#32 : EReal) = 1 := (live_at ⟨a, ha⟩ 2).trans (if_pos (Nat.succ_pos _))

/-- A point's rows among all rows: three chunks of 64. -/
theorem sum_rows (f : Fin 8256 → EReal) (n : ℕ) (h : n * 192 + 192 ≤ 8256) :
    ∑ k ∈ Finset.range ((n + 1) * 192), ext f k = ∑ k ∈ Finset.range (n * 192), ext f k + rows (n * 192) h f := by
  have h0 := sum_blocks_succ f (3 * n) 64 (fun R => f ⟨n * 192 + 0 + R.1, by omega⟩) fun R => by
    rw [ext_of_lt f _ (by omega)]
    exact congrArg f (Fin.ext (by dsimp only; omega))
  have h1 := sum_blocks_succ f (3 * n + 1) 64 (fun R => f ⟨n * 192 + 64 + R.1, by omega⟩) fun R => by
    rw [ext_of_lt f _ (by omega)]
    exact congrArg f (Fin.ext (by dsimp only; omega))
  have h2 := sum_blocks_succ f (3 * n + 1 + 1) 64 (fun R => f ⟨n * 192 + 128 + R.1, by omega⟩) fun R => by
    rw [ext_of_lt f _ (by omega)]
    exact congrArg f (Fin.ext (by dsimp only; omega))
  have e : (n + 1) * 192 = (3 * n + 1 + 1 + 1) * 64 := by omega
  have e' : n * 192 = 3 * n * 64 := by omega
  unfold rows
  rw [e, h2, h1, h0, ← e', add_assoc, add_assoc, add_assoc]

variable (m : (ℓ : Loc nD τ sig) → Buf (Elt Ideal) ℓ) (c : Dev nD)

theorem row_le (t : Fin cfg0.N) : t.1 * 192 + 192 ≤ 8256 := by
  have hN : t.1 < 43 := lt_of_lt_of_eq t.isLt N_0
  omega

/-- The blocks a point is given are those of its rows. -/
theorem tile (t : Fin cfg0.N) : IsTile (V m c main_arg0) (V m c main_arg1) (V m c main_arg2) (t.1 * 192) (row_le t) (BitVec.ofNat 32 (grid0.coords t 0).val)
    (iblk m c 0 t) (iblk m c 1 t) (iblk m c 2 t) (iblk m c 3 t) (iblk m c 4 t) where
  x R C := by
    obtain ⟨e0, e1⟩ := idx0 t
    refine congrArg (V m c main_arg0) (funext fun a => Fin.ext ?_)
    match a with
    | ⟨0, _⟩ => show win0_0.index t (0 : Fin 2) * 192 + 1 * R.1 = t.1 * 192 + R.1; omega
    | ⟨1, _⟩ => show win0_0.index t (1 : Fin 2) * 1024 + 1 * C.1 = C.1; omega
  v := by
    obtain ⟨e0, e1⟩ := idx1 t
    funext y
    refine congrArg (V m c main_arg1) (funext fun a => Fin.ext ?_)
    match a with
    | ⟨0, _⟩ => show win0_1.index t (0 : Fin 2) * 1 + 1 * (y 0).1 = (y 0).1; omega
    | ⟨1, _⟩ => show win0_1.index t (1 : Fin 2) * 1024 + 1 * (y 1).1 = (y 1).1; omega
  e0 R C := by
    have hN : t.1 < 43 := lt_of_lt_of_eq t.isLt N_0
    rw [coord]
    by_cases h : t.1 = 0
    · exact err_dead _ _ _ _ _ _ _ ((live0 _ hN).trans (if_neg (by omega))) (by dsimp only; omega)
    · refine err_live _ _ _ _ _ _ _ ((live0 _ hN).trans (if_pos (by omega))) (by dsimp only; omega) ?_
      obtain ⟨e0, e1⟩ := idx2 t
      refine congrArg (V m c main_arg2) (funext fun a => Fin.ext ?_)
      match a with
      | ⟨0, _⟩ => show win0_2.index t (0 : Fin 2) * 64 + 1 * R.1 = t.1 * 192 + 0 + R.1 - 64; omega
      | ⟨1, _⟩ => show win0_2.index t (1 : Fin 2) * 1024 + 1 * C.1 = C.1; omega
  e1 R C := by
    have hN : t.1 < 43 := lt_of_lt_of_eq t.isLt N_0
    rw [coord]
    refine err_live _ _ _ _ _ _ _ (live1 _ hN) (by dsimp only; omega) ?_
    obtain ⟨e0, e1⟩ := idx3 t
    refine congrArg (V m c main_arg2) (funext fun a => Fin.ext ?_)
    match a with
    | ⟨0, _⟩ => show win0_3.index t (0 : Fin 2) * 64 + 1 * R.1 = t.1 * 192 + 64 + R.1 - 64; omega
    | ⟨1, _⟩ => show win0_3.index t (1 : Fin 2) * 1024 + 1 * C.1 = C.1; omega
  e2 R C := by
    have hN : t.1 < 43 := lt_of_lt_of_eq t.isLt N_0
    rw [coord]
    refine err_live _ _ _ _ _ _ _ (live2 _ hN) (by dsimp only; omega) ?_
    obtain ⟨e0, e1⟩ := idx4 t
    refine congrArg (V m c main_arg2) (funext fun a => Fin.ext ?_)
    match a with
    | ⟨0, _⟩ => show win0_4.index t (0 : Fin 2) * 64 + 1 * R.1 = t.1 * 192 + 128 + R.1 - 64; omega
    | ⟨1, _⟩ => show win0_4.index t (1 : Fin 2) * 1024 + 1 * C.1 = C.1; omega

theorem emb5 (t : Fin cfg0.N) (R : Fin 192) (C : Fin 1024) (h : t.1 * 192 + R.1 < 8256) :
    ((cfg0.win 5).blk t).view.emb (ix2 R C) = ix2 ⟨t.1 * 192 + R.1, h⟩ C := by
  obtain ⟨e0, e1⟩ := idx5 t
  funext a; apply Fin.ext
  match a with
  | ⟨0, _⟩ => show win0_5.index t (0 : Fin 2) * 192 + 1 * R.1 = t.1 * 192 + R.1; omega
  | ⟨1, _⟩ => show win0_5.index t (1 : Fin 2) * 1024 + 1 * C.1 = C.1; omega

theorem emb6 (t : Fin cfg0.N) (R : Fin 192) (C : Fin 1024) (h : t.1 * 192 + R.1 < 8256) :
    ((cfg0.win 6).blk t).view.emb (ix2 R C) = ix2 ⟨t.1 * 192 + R.1, h⟩ C := by
  obtain ⟨e0, e1⟩ := idx6 t
  funext a; apply Fin.ext
  match a with
  | ⟨0, _⟩ => show win0_6.index t (0 : Fin 2) * 192 + 1 * R.1 = t.1 * 192 + R.1; omega
  | ⟨1, _⟩ => show win0_6.index t (1 : Fin 2) * 1024 + 1 * C.1 = C.1; omega

theorem emb7 (t : Fin cfg0.N) (R : Fin 1) (C : Fin 1024) : ((cfg0.win 7).blk t).view.emb (ix2 R C) = ix2 R C := by
  obtain ⟨e0, e1⟩ := idx7 t
  funext a; apply Fin.ext
  match a with
  | ⟨0, _⟩ => show win0_7.index t (0 : Fin 2) * 1 + 1 * R.1 = R.1; omega
  | ⟨1, _⟩ => show win0_7.index t (1 : Fin 2) * 1024 + 1 * C.1 = C.1; omega

theorem emb8 (t : Fin cfg0.N) (R : Fin 1) (C : Fin 128) : ((cfg0.win 8).blk t).view.emb (ix2 R C) = ix2 R C := by
  obtain ⟨e0, e1⟩ := idx8 t
  funext a; apply Fin.ext
  match a with
  | ⟨0, _⟩ => show win0_8.index t (0 : Fin 2) * 1 + 1 * R.1 = R.1; omega
  | ⟨1, _⟩ => show win0_8.index t (1 : Fin 2) * 128 + 1 * C.1 = C.1; omega

theorem out5 (t : Fin cfg0.N) : (outsAt0 m c t.1 t.isLt).1 = tileH (V m c main_arg0) (V m c main_arg1) (V m c main_arg2) (t.1 * 192) (row_le t) := by
  have hN : t.1 < 43 := lt_of_lt_of_eq t.isLt N_0
  by_cases h : t.1 % 43 = 0
  · rw [outsAt0_A m c t h (by omega)]
    dsimp only
    exact outA5 _ _ _ _ _ _ _ _ _ _ _ _ _ _ _ _ _ _ _ _ _ _ (tile m c t)
  · rw [outsAt0_B m c t h (by omega)]
    dsimp only
    exact outB5 _ _ _ _ _ _ _ _ _ _ _ _ _ _ _ _ _ _ _ _ _ _ _ _ (tile m c t)

theorem out6 (t : Fin cfg0.N) : (outsAt0 m c t.1 t.isLt).2.1 = tileH (V m c main_arg0) (V m c main_arg1) (V m c main_arg2) (t.1 * 192) (row_le t) := by
  have hN : t.1 < 43 := lt_of_lt_of_eq t.isLt N_0
  by_cases h : t.1 % 43 = 0
  · rw [outsAt0_A m c t h (by omega)]
    dsimp only
    exact outA6 _ _ _ _ _ _ _ _ _ _ _ _ _ _ _ _ _ _ _ _ _ _ (tile m c t)
  · rw [outsAt0_B m c t h (by omega)]
    dsimp only
    exact outB6 _ _ _ _ _ _ _ _ _ _ _ _ _ _ _ _ _ _ _ _ _ _ _ _ (tile m c t)

/-- What the third result holds after a point: the shares of the rows up to the point's last. -/
theorem wacc (n : ℕ) (hn : n < cfg0.N) (j : Fin 1024) : ((outsAt0 m c n hn).2.2.1 (ix2 0 j) : EReal)
    = ∑ k ∈ Finset.range ((n + 1) * 192), ext (wterm (V m c main_arg0) (V m c main_arg1) (V m c main_arg2) j) k := by
  have hN : n < 43 := lt_of_lt_of_eq hn N_0
  rw [sum_rows _ n (row_le ⟨n, hn⟩)]
  induction n with
  | zero =>
    rw [outsAt0_A m c ⟨0, hn⟩ rfl (by dsimp only; omega)]
    dsimp only
    refine (outA7 _ _ _ _ _ _ _ _ _ _ _ _ _ _ _ _ _ _ _ _ _ _ (tile m c ⟨0, hn⟩) j).trans ?_
    exact (zero_add _).symm
  | succ n ih =>
    have ih := ih (Nat.lt_of_succ_lt hn) (by omega)
    rw [← sum_rows _ n (row_le ⟨n, Nat.lt_of_succ_lt hn⟩)] at ih
    rw [← ih, outsAt0_B m c ⟨n + 1, hn⟩ (by dsimp only; omega) (by dsimp only; omega)]
    dsimp only
    exact outB7 _ _ _ _ _ _ _ _ _ _ _ _ _ _ _ _ _ _ _ _ _ _ _ _ (tile m c ⟨n + 1, hn⟩) j

/-- What the fourth result holds after a point. -/
theorem lacc (n : ℕ) (hn : n < cfg0.N) (j : Fin 128) : ((outsAt0 m c n hn).2.2.2 (ix2 0 j) : EReal)
    = ∑ k ∈ Finset.range ((n + 1) * 192), ext (lterm (V m c main_arg0) (V m c main_arg1) (V m c main_arg2)) k := by
  have hN : n < 43 := lt_of_lt_of_eq hn N_0
  rw [sum_rows _ n (row_le ⟨n, hn⟩)]
  induction n with
  | zero =>
    rw [outsAt0_A m c ⟨0, hn⟩ rfl (by dsimp only; omega)]
    dsimp only
    refine (outA8 _ _ _ _ _ _ _ _ _ _ _ _ _ _ _ _ _ _ _ _ _ _ (tile m c ⟨0, hn⟩) j).trans ?_
    exact (zero_add _).symm
  | succ n ih =>
    have ih := ih (Nat.lt_of_succ_lt hn) (by omega)
    rw [← sum_rows _ n (row_le ⟨n, Nat.lt_of_succ_lt hn⟩)] at ih
    rw [← ih, outsAt0_B m c ⟨n + 1, hn⟩ (by dsimp only; omega) (by dsimp only; omega)]
    dsimp only
    exact outB8 _ _ _ _ _ _ _ _ _ _ _ _ _ _ _ _ _ _ _ _ _ _ _ _ (tile m c ⟨n + 1, hn⟩) j

theorem final5 : ((dats m 0 c).arrAt 5 cfg0.N : S8256x1024.Idx → EReal)
    = DH (V m c main_arg0) (V m c main_arg1) (V m c main_arg2) := by
  refine (dats m 0 c).arrAt_eq_of_cover 5 _ (fun t _ => ?_) fun y => ?_
  · have hN := row_le t
    rw [flushed5, out5]
    funext y
    obtain ⟨R, C, rfl⟩ : ∃ (R : Fin 192) (C : Fin 1024), y = ix2 R C := ⟨y 0, y 1, eq_ix2 y⟩
    exact (congrArg (DH _ _ _) (emb5 t R C (by omega))).symm
  · obtain ⟨R, C, rfl⟩ : ∃ (R : Fin 8256) (C : Fin 1024), y = ix2 R C := ⟨y 0, y 1, eq_ix2 y⟩
    have ht : R.1 / 192 < cfg0.N := lt_of_lt_of_eq (by omega) N_0.symm
    refine ⟨⟨_, ht⟩, flush0_5 _, ?_⟩
    have h := ((cfg0.win 5).blk ⟨_, ht⟩).view.emb_mem_set (ix2 (⟨R.1 % 192, by omega⟩ : Fin 192) C)
    rw [emb5 _ _ _ (by dsimp only; omega)] at h
    refine (congrArg (· ∈ ((cfg0.win 5).blk ⟨_, ht⟩).view.set) (congrArg₂ ix2 (Fin.ext ?_) rfl)).mp h
    dsimp only; omega

theorem final6 : ((dats m 0 c).arrAt 6 cfg0.N : S8256x1024.Idx → EReal)
    = DH (V m c main_arg0) (V m c main_arg1) (V m c main_arg2) := by
  refine (dats m 0 c).arrAt_eq_of_cover 6 _ (fun t _ => ?_) fun y => ?_
  · have hN := row_le t
    rw [flushed6, out6]
    funext y
    obtain ⟨R, C, rfl⟩ : ∃ (R : Fin 192) (C : Fin 1024), y = ix2 R C := ⟨y 0, y 1, eq_ix2 y⟩
    exact (congrArg (DH _ _ _) (emb6 t R C (by omega))).symm
  · obtain ⟨R, C, rfl⟩ : ∃ (R : Fin 8256) (C : Fin 1024), y = ix2 R C := ⟨y 0, y 1, eq_ix2 y⟩
    have ht : R.1 / 192 < cfg0.N := lt_of_lt_of_eq (by omega) N_0.symm
    refine ⟨⟨_, ht⟩, flush0_6 _, ?_⟩
    have h := ((cfg0.win 6).blk ⟨_, ht⟩).view.emb_mem_set (ix2 (⟨R.1 % 192, by omega⟩ : Fin 192) C)
    rw [emb6 _ _ _ (by dsimp only; omega)] at h
    refine (congrArg (· ∈ ((cfg0.win 6).blk ⟨_, ht⟩).view.set) (congrArg₂ ix2 (Fin.ext ?_) rfl)).mp h
    dsimp only; omega

theorem final7 : ((dats m 0 c).arrAt 7 cfg0.N : S1x1024.Idx → EReal)
    = W (V m c main_arg0) (V m c main_arg1) (V m c main_arg2) := by
  refine (dats m 0 c).arrAt_eq_of_cover 7 _ (fun t ht => ?_) fun y => ?_
  · have hN : t.1 < 43 := lt_of_lt_of_eq t.isLt N_0
    have h42 := (flush0_7 t).mp ht
    have e : t.1 + 1 = 43 := by omega
    rw [flushed7]
    funext y
    obtain ⟨R, C, rfl⟩ : ∃ (R : Fin 1) (C : Fin 1024), y = ix2 R C := ⟨y 0, y 1, eq_ix2 y⟩
    obtain rfl : R = 0 := Subsingleton.elim _ _
    have key := wacc m c t.1 t.isLt C
    rw [e] at key
    exact (key.trans (sum_ext _)).trans (congrArg (W _ _ _) (emb7 t 0 C)).symm
  · obtain ⟨R, C, rfl⟩ : ∃ (R : Fin 1) (C : Fin 1024), y = ix2 R C := ⟨y 0, y 1, eq_ix2 y⟩
    have ht : 42 < cfg0.N := lt_of_lt_of_eq (by omega) N_0.symm
    refine ⟨⟨42, ht⟩, (flush0_7 _).mpr rfl, ?_⟩
    have h := ((cfg0.win 7).blk ⟨42, ht⟩).view.emb_mem_set (ix2 R C)
    rwa [emb7] at h

theorem final8 : ((dats m 0 c).arrAt 8 cfg0.N : S1x128.Idx → EReal)
    = LS (V m c main_arg0) (V m c main_arg1) (V m c main_arg2) := by
  refine (dats m 0 c).arrAt_eq_of_cover 8 _ (fun t ht => ?_) fun y => ?_
  · have hN : t.1 < 43 := lt_of_lt_of_eq t.isLt N_0
    have h42 := (flush0_8 t).mp ht
    have e : t.1 + 1 = 43 := by omega
    rw [flushed8]
    funext y
    obtain ⟨R, C, rfl⟩ : ∃ (R : Fin 1) (C : Fin 128), y = ix2 R C := ⟨y 0, y 1, eq_ix2 y⟩
    obtain rfl : R = 0 := Subsingleton.elim _ _
    have key := lacc m c t.1 t.isLt C
    rw [e] at key
    exact (key.trans (sum_ext _)).trans (congrArg (LS _ _ _) (emb8 t 0 C)).symm
  · obtain ⟨R, C, rfl⟩ : ∃ (R : Fin 1) (C : Fin 128), y = ix2 R C := ⟨y 0, y 1, eq_ix2 y⟩
    have ht : 42 < cfg0.N := lt_of_lt_of_eq (by omega) N_0.symm
    refine ⟨⟨42, ht⟩, (flush0_8 _).mpr rfl, ?_⟩
    have h := ((cfg0.win 8).blk ⟨42, ht⟩).view.emb_mem_set (ix2 R C)
    rwa [emb8] at h

end Cert.Kernel22Ideal.Value

end
-- ==== Proof.FinalClaim.lean ====
module

public import proofs.«01_k».proof.Proof.FinalLoss

/-! The final norm, the loss of one device and the loss's gradient: the reference's results and the claim.

The reference takes the rows from the 64th, forms the loss, and differentiates it; the gradient of what the norm gives is zero in the first 64 rows. -/

@[expose] public section

set_option maxRecDepth 16384

noncomputable section

namespace Cert.Reference22Ideal.Value

open Cert.Reference22Ideal Cert.Reference22Ideal.Gen Idealize.ShloMosaic Idealize.ShloMosaic.TcCoe Idealize.SL.Sem
open Cert.Kernel22Ideal.Value (xh err dy DH wterm W lterm LS ofBits_half)

theorem ofBits_two : Ideal.ofBits .f32 0x40000000#32 = ((2 : ℝ) : EReal) := by
  simp only [Ideal.ofBits, Ideal.ieee]; simp; rw [← EReal.coe_mul]; norm_num

theorem ofBits_unit : Ideal.ofBits .f32 0x3F800000#32 = ((1 : ℝ) : EReal) := by
  simp only [Ideal.ofBits, Ideal.ieee]; simp; rw [← EReal.coe_mul]; norm_num

theorem ofBits_step : Ideal.ofBits .f32 0x3A800000#32 = ((1 / 1024 : ℝ) : EReal) := by
  simp only [Ideal.ofBits, Ideal.ieee]; simp; rw [← EReal.coe_mul]; norm_num

theorem ofBits_1024 : Ideal.ofBits .f32 0x44800000#32 = ((1024 : ℝ) : EReal) := by
  simp only [Ideal.ofBits, Ideal.ieee]; simp; rw [← EReal.coe_mul]; norm_num

theorem div_1024 (y : EReal) : Ideal.div y (Ideal.ofBits .f32 0x44800000#32) = y * Ideal.ofBits .f32 0x3A800000#32 := by
  rw [ofBits_1024, ofBits_step, Ideal.div_coe (by norm_num)]

theorem scale (y : EReal) : Ideal.div (Ideal.ofBits .f32 0x3F000000#32 * Ideal.ofBits .f32 0x3F800000#32) (Ideal.ofBits .f32 0x44800000#32)
    * (Ideal.ofBits .f32 0x40000000#32 * y) = y * Ideal.ofBits .f32 0x3A800000#32 := by
  rw [div_1024, ofBits_half, ofBits_unit, ofBits_two, ofBits_step, ← mul_assoc, ← EReal.coe_mul, ← EReal.coe_mul, ← EReal.coe_mul, mul_comm]
  norm_num

theorem pad_in (x : FVec Ideal S8192x1024 .f32) (v : FVec Ideal S_ .f32) (h : S8192x1024.Pads ![64, 0] ![0, 0] ![0, 0] S8256x1024) (hu : 0 < S_.numel)
    (r : Fin 8192) (C : Fin 1024) (hr : 64 + r.1 < 8256) : (pad S8256x1024 ![64, 0] ![0, 0] ![0, 0] x v h hu (ix2 ⟨64 + r.1, hr⟩ C) : EReal) = (x (ix2 r C) : EReal) := by
  rw [pad_apply, dif_pos]
  · refine congrArg x (funext fun a => Fin.ext ?_)
    match a with
    | ⟨0, _⟩ => show (64 + r.1 - 64) / (0 + 1) = r.1; omega
    | ⟨1, _⟩ => show (C.1 - 0) / (0 + 1) = C.1; omega
  · intro a
    match a with
    | ⟨0, _⟩ =>
      show 64 ≤ 64 + r.1 ∧ (64 + r.1 - 64) % (0 + 1) = 0 ∧ (64 + r.1 - 64) / (0 + 1) < 8192
      omega
    | ⟨1, _⟩ =>
      show 0 ≤ C.1 ∧ (C.1 - 0) % (0 + 1) = 0 ∧ (C.1 - 0) / (0 + 1) < 1024
      omega

theorem pad_out (x : FVec Ideal S8192x1024 .f32) (v : FVec Ideal S_ .f32) (h : S8192x1024.Pads ![64, 0] ![0, 0] ![0, 0] S8256x1024) (hu : 0 < S_.numel)
    (R : Fin 8256) (C : Fin 1024) (hR : R.1 < 64) : (pad S8256x1024 ![64, 0] ![0, 0] ![0, 0] x v h hu (ix2 R C) : EReal) = (v (Shape.Idx.first hu) : EReal) := by
  rw [pad_apply, dif_neg]
  intro hin
  have h0 : 64 ≤ R.1 := (hin (0 : Fin 2)).1
  omega

theorem err_in (h : FVec Ideal S8256x1024 .f32) (w : FVec Ideal S1x1024 .f32) (t : FVec Ideal S8192x1024 .f32) (r : Fin 8192) (C : Fin 1024) (hr : 64 + r.1 < 8256) :
    err h w t ⟨64 + r.1, hr⟩ C = xh h ⟨64 + r.1, hr⟩ C * (w (ix2 0 C) : EReal) - (t (ix2 r C) : EReal) := by
  have e : (⟨64 + r.1 - 64, by omega⟩ : Fin 8192) = r := Fin.ext (by dsimp only; omega)
  unfold err
  rw [dif_pos (by dsimp only; omega)]
  simp only [e]

theorem err_out (h : FVec Ideal S8256x1024 .f32) (w : FVec Ideal S1x1024 .f32) (t : FVec Ideal S8192x1024 .f32) (R : Fin 8256) (C : Fin 1024) (hR : R.1 < 64) :
    err h w t R C = 0 := by
  unfold err
  rw [dif_neg (by omega)]

/-- The reference's difference to the target. -/
def diff (h : FVec Ideal S8256x1024 .f32) (w : FVec Ideal S1x1024 .f32) (t : FVec Ideal S8192x1024 .f32) : FVec Ideal S8192x1024 .f32 :=
  subf (extractStridedSlice S8192x1024 ![64, 0] (mulf (mulf h (broadcastInDim S8256x1024 ![0, 1] bcast_S8256x1_S8256x1024_0_1 (Host.rsqrt (addf (Host.divf (broadcastInDim S8256x1 ![0] bcast_S8256_S8256x1_0 (Host.reduceAdd (mulf h h) (constant S_ .f32 0x00000000#32) reducesTo_S8256x1024_S8256_d1 h_S_)) (broadcastInDim S8256x1 ![] bcast_S_S8256x1 (constant S_ .f32 0x44800000#32))) (broadcastInDim S8256x1 ![] bcast_S_S8256x1 (constant S_ .f32 0x358637BD#32)))))) (broadcastInDim S8256x1024 ![0, 1] bcast_S1x1024_S8256x1024_0_1 w)) slices_S8256x1024_S8192x1024_64_0) t

theorem diff_at (h : FVec Ideal S8256x1024 .f32) (w : FVec Ideal S1x1024 .f32) (t : FVec Ideal S8192x1024 .f32) (r : Fin 8192) (C : Fin 1024) :
    (diff h w t (ix2 r C) : EReal) = err h w t ⟨64 + r.1, by omega⟩ C := by
  rw [err_in]
  unfold diff xh meanSq
  pointwise

/-- The reference's gradient of what the norm gives. -/
def grad (h : FVec Ideal S8256x1024 .f32) (w : FVec Ideal S1x1024 .f32) (t : FVec Ideal S8192x1024 .f32) : FVec Ideal S8256x1024 .f32 :=
  pad S8256x1024 ![64, 0] ![0, 0] ![0, 0] (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (diff h w t))) (constant S_ .f32 0x00000000#32) pads_S8192x1024_S8256x1024_6400_000 h_S_

theorem grad_at (h : FVec Ideal S8256x1024 .f32) (w : FVec Ideal S1x1024 .f32) (t : FVec Ideal S8192x1024 .f32) (R : Fin 8256) (C : Fin 1024) :
    (grad h w t (ix2 R C) : EReal) = dy h w t R C := by
  unfold grad dy
  by_cases hR : R.1 < 64
  · rw [pad_out _ _ _ _ R C hR, err_out h w t R C hR, zero_mul]
    show Ideal.ofBits .f32 0x00000000#32 = 0
    exact Ideal.ofBits_zero _
  · obtain ⟨r, e⟩ : ∃ r : Fin 8192, R = ⟨64 + r.1, by omega⟩ := ⟨⟨R.1 - 64, by omega⟩, Fin.ext (by dsimp only; omega)⟩
    rw [e, pad_in, ← diff_at, ← scale]
    generalize diff h w t = d
    pointwise

variable (m : (ℓ : Loc nD τ sig) → Buf (Elt Ideal) ℓ) (c : Dev nD)

theorem dh_eq (R : Fin 8256) (C : Fin 1024) : (res_main_v50 m c (ix2 R C) : EReal)
    = DH (m ((c : Thread nD τ).loc main_arg0)) (m ((c : Thread nD τ).loc main_arg1)) (m ((c : Thread nD τ).loc main_arg2)) (ix2 R C) := by
  refine Eq.trans ?_ (normBwd_eq positive_1024 _ _ _ _ _).symm
  unfold res_main_v50 meanSqBwd meanSq
  have e := grad_at (m ((c.tc : Thread nD τ).loc main_arg0)) (m ((c.tc : Thread nD τ).loc main_arg1)) (m ((c.tc : Thread nD τ).loc main_arg2))
  rw [← diff, ← grad]
  generalize grad (m ((c.tc : Thread nD τ).loc main_arg0)) (m ((c.tc : Thread nD τ).loc main_arg1)) (m ((c.tc : Thread nD τ).loc main_arg2)) = g at e ⊢
  generalize m ((c.tc : Thread nD τ).loc main_arg0) = x at e ⊢
  generalize m ((c.tc : Thread nD τ).loc main_arg1) = w at e ⊢
  pointwise
  simp only [Finset.univ_unique, Finset.sum_singleton, zero_add, ← e]

theorem dhb_eq (R : Fin 8256) (C : Fin 1024) : (res_main_v51 m c (ix2 R C) : EReal)
    = DH (m ((c : Thread nD τ).loc main_arg0)) (m ((c : Thread nD τ).loc main_arg1)) (m ((c : Thread nD τ).loc main_arg2)) (ix2 R C) :=
  dh_eq m c R C

theorem dw_eq (h : FVec Ideal S8256x1024 .f32) (w : FVec Ideal S1x1024 .f32) (t : FVec Ideal S8192x1024 .f32) (C : Fin 1024) :
    ((shapeCast _ (Host.reduceAdd (mulf (mulf h (broadcastInDim S8256x1024 ![0, 1] bcast_S8256x1_S8256x1024_0_1 (Host.rsqrt (addf (Host.divf (broadcastInDim S8256x1 ![0] bcast_S8256_S8256x1_0 (Host.reduceAdd (mulf h h) (constant S_ .f32 0x00000000#32) reducesTo_S8256x1024_S8256_d1 h_S_)) (broadcastInDim S8256x1 ![] bcast_S_S8256x1 (constant S_ .f32 0x44800000#32))) (broadcastInDim S8256x1 ![] bcast_S_S8256x1 (constant S_ .f32 0x358637BD#32)))))) (grad h w t)) (constant S_ .f32 0x00000000#32) reducesTo_S8256x1024_S1024_d0 h_S_) shapeCasts_S1024_S1x1024 : FVec Ideal S1x1024 .f32) (ix2 0 C) : EReal)
      = W h w t (ix2 0 C) := by
  have e := grad_at h w t
  refine Eq.trans ?_ (Finset.sum_congr rfl fun R _ => mul_comm _ _)
  unfold xh meanSq
  generalize grad h w t = g at e ⊢
  pointwise
  simp only [← e]

/-- The loss of a row in the reference. -/
def row (h : FVec Ideal S8256x1024 .f32) (w : FVec Ideal S1x1024 .f32) (t : FVec Ideal S8192x1024 .f32) (R : Fin 8256) : EReal :=
  (∑ C : Fin 1024, err h w t R C * err h w t R C) * Ideal.ofBits .f32 0x3A800000#32

theorem sum_rows (f : Fin 8256 → EReal) (h0 : ∀ R : Fin 8256, R.1 < 64 → f R = 0) : ∑ R, f R = ∑ r : Fin 8192, f ⟨64 + r.1, by omega⟩ := by
  refine (Fin.sum_univ_add (a := 64) (b := 8192) f).trans ?_
  rw [Finset.sum_eq_zero fun R _ => h0 _ R.isLt, zero_add]
  rfl

theorem loss_eq (h : FVec Ideal S8256x1024 .f32) (w : FVec Ideal S1x1024 .f32) (t : FVec Ideal S8192x1024 .f32) (C : Fin 128) :
    ((broadcastInDim S1x128 ![] bcast_S_S1x128 (mulf (constant S_ .f32 0x3F000000#32) (Host.reduceAdd (Host.divf (Host.reduceAdd (mulf (diff h w t) (diff h w t)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)) : FVec Ideal S1x128 .f32) (ix2 0 C) : EReal)
      = LS h w t (ix2 0 C) := by
  have hs : LS h w t (ix2 0 C) = Ideal.ofBits .f32 0x3F000000#32 * ∑ r : Fin 8192, row h w t ⟨64 + r.1, by omega⟩ := by
    rw [← sum_rows (row h w t), ofBits_half, coe_mul_sum _ (by norm_num), ← ofBits_half]
    · rfl
    · intro R hR
      unfold row
      simp only [err_out h w t R _ hR, zero_mul, Finset.sum_const_zero]
  rw [hs]
  have e := diff_at h w t
  unfold row
  simp only [← e, ← div_1024]
  generalize diff h w t = d
  pointwise

end Cert.Reference22Ideal.Value

namespace Cert.Proof

open Idealize.ShloMosaic Idealize.ShloMosaic.TcCoe Idealize.SL.Sem

theorem final_loss_frame : quiescent_Kernel22 := fun m ρ _ => Cert.Kernel22.Gen.frame m ρ
theorem final_loss_frameI : quiescent_Kernel22Ideal := fun m ρ _ => Cert.Kernel22Ideal.Gen.frame m ρ
theorem final_loss_frameR : quiescent_Reference22Ideal := fun m ρ _ =>
  (θ_run Cert.Reference22Ideal.defs _ _).mono (fun r h => ⟨fun c => (h c).2.2.2.2, sem_eq_zero_of_no_sems (by decide) _⟩) (Cert.Reference22Ideal.Value.run m ρ)

theorem final_loss_value : algebraic_Kernel22Ideal_Reference22Ideal := fun m ρ m' ρ' _ hag => by
  refine ⟨fun c => Cert.Kernel22Ideal.Value.DH (m ((c : Thread Cert.Kernel22Ideal.nD Cert.Kernel22Ideal.τ).loc Cert.Kernel22Ideal.main_arg0))
      (m ((c : Thread Cert.Kernel22Ideal.nD Cert.Kernel22Ideal.τ).loc Cert.Kernel22Ideal.main_arg1))
      (m ((c : Thread Cert.Kernel22Ideal.nD Cert.Kernel22Ideal.τ).loc Cert.Kernel22Ideal.main_arg2)),
    fun c => Cert.Kernel22Ideal.Value.DH (m ((c : Thread Cert.Kernel22Ideal.nD Cert.Kernel22Ideal.τ).loc Cert.Kernel22Ideal.main_arg0))
      (m ((c : Thread Cert.Kernel22Ideal.nD Cert.Kernel22Ideal.τ).loc Cert.Kernel22Ideal.main_arg1))
      (m ((c : Thread Cert.Kernel22Ideal.nD Cert.Kernel22Ideal.τ).loc Cert.Kernel22Ideal.main_arg2)),
    fun c => Cert.Kernel22Ideal.Value.W (m ((c : Thread Cert.Kernel22Ideal.nD Cert.Kernel22Ideal.τ).loc Cert.Kernel22Ideal.main_arg0))
      (m ((c : Thread Cert.Kernel22Ideal.nD Cert.Kernel22Ideal.τ).loc Cert.Kernel22Ideal.main_arg1))
      (m ((c : Thread Cert.Kernel22Ideal.nD Cert.Kernel22Ideal.τ).loc Cert.Kernel22Ideal.main_arg2)),
    fun c => Cert.Kernel22Ideal.Value.LS (m ((c : Thread Cert.Kernel22Ideal.nD Cert.Kernel22Ideal.τ).loc Cert.Kernel22Ideal.main_arg0))
      (m ((c : Thread Cert.Kernel22Ideal.nD Cert.Kernel22Ideal.τ).loc Cert.Kernel22Ideal.main_arg1))
      (m ((c : Thread Cert.Kernel22Ideal.nD Cert.Kernel22Ideal.τ).loc Cert.Kernel22Ideal.main_arg2)), ?_, ?_⟩
  · exact (θ_run Cert.Kernel22Ideal.defs _ _).mono (fun r h c =>
      ⟨(h c).1.trans (Cert.Kernel22Ideal.Value.final5 m c), (h c).2.1.trans (Cert.Kernel22Ideal.Value.final6 m c),
        (h c).2.2.1.trans (Cert.Kernel22Ideal.Value.final7 m c), (h c).2.2.2.1.trans (Cert.Kernel22Ideal.Value.final8 m c), (h c).2.2.2.2⟩)
      (Cert.Kernel22Ideal.Value.run_blocks m ρ)
  · refine (θ_run Cert.Reference22Ideal.defs _ _).mono (fun r h c =>
      ⟨(h c).1.trans ?_, (h c).2.1.trans ?_, (h c).2.2.1.trans ?_, (h c).2.2.2.1.trans ?_, (h c).2.2.2.2⟩)
      (Cert.Reference22Ideal.Value.run m' ρ')
    · funext y
      obtain ⟨R, C, rfl⟩ : ∃ (R : Fin 8256) (C : Fin 1024), y = ix2 R C := ⟨y 0, y 1, eq_ix2 y⟩
      refine (Cert.Reference22Ideal.Value.dh_eq m' c R C).trans ?_
      rw [(hag c).1, (hag c).2.1, (hag c).2.2]
    · funext y
      obtain ⟨R, C, rfl⟩ : ∃ (R : Fin 8256) (C : Fin 1024), y = ix2 R C := ⟨y 0, y 1, eq_ix2 y⟩
      refine (Cert.Reference22Ideal.Value.dhb_eq m' c R C).trans ?_
      rw [(hag c).1, (hag c).2.1, (hag c).2.2]
    · rw [(hag c).1, (hag c).2.1, (hag c).2.2]
      funext y
      obtain ⟨R, C, rfl⟩ : ∃ (R : Fin 1) (C : Fin 1024), y = ix2 R C := ⟨y 0, y 1, eq_ix2 y⟩
      obtain rfl : R = 0 := Subsingleton.elim _ _
      exact Cert.Reference22Ideal.Value.dw_eq _ _ _ C
    · rw [(hag c).1, (hag c).2.1, (hag c).2.2]
      funext y
      obtain ⟨R, C, rfl⟩ : ∃ (R : Fin 1) (C : Fin 128), y = ix2 R C := ⟨y 0, y 1, eq_ix2 y⟩
      obtain rfl : R = 0 := Subsingleton.elim _ _
      exact Cert.Reference22Ideal.Value.loss_eq _ _ _ C

end Cert.Proof

end
-- ==== Proof.Projba.lean ====
module

public import proofs.«01_k».proof.Defs
public import proofs.«01_k».proof.Proof.Common
public import proofs.«01_k».proof.Proof.Gen.Kernel23.Frame
public import proofs.«01_k».proof.Proof.Gen.Kernel23Ideal.Value
public import proofs.«01_k».proof.Proof.Gen.Reference23Ideal.Run
public import Idealize.ShloMosaic.Lib.Quiescent

/-! The projection to the write strengths and the decays: a block of rows is whole in the contraction and holds all columns; the blocks make the product of the
whole arrays, which the reference forms at once. -/

@[expose] public section

set_option maxRecDepth 16384

noncomputable section

namespace Cert.Kernel23Ideal.Value

open Cert.Kernel23Ideal Cert.Kernel23Ideal.Gen Idealize.ShloMosaic Idealize.ShloMosaic.TcCoe Idealize.SL.Sem

theorem idx0 : ∀ t : Fin cfg0.N, win0_0.index t (0 : Fin 2) = t.1 / 1 ∧ win0_0.index t (1 : Fin 2) = 0 := (by decide +kernel : ∀ t : Fin grid0.N, _)
theorem idx1 : ∀ t : Fin cfg0.N, win0_1.index t (0 : Fin 2) = 0 ∧ win0_1.index t (1 : Fin 2) = t.1 % 1 := (by decide +kernel : ∀ t : Fin grid0.N, _)
theorem idx2 : ∀ t : Fin cfg0.N, win0_2.index t (0 : Fin 2) = t.1 / 1 ∧ win0_2.index t (1 : Fin 2) = t.1 % 1 := (by decide +kernel : ∀ t : Fin grid0.N, _)

theorem pay (x : FVec Ideal S2752x1024 .bf16) (w : FVec Ideal S1024x128 .bf16) (R : Fin 2752) (C : Fin 128) :
    (k0_pay1 (F := Ideal) x w (ix2 R C) : EReal) = ∑ k : Fin 1024, (x (ix2 R k) * w (ix2 k C) : EReal) := by
  unfold k0_pay1
  pointwise

theorem out_eq (x : FVec Ideal S2752x1024 .bf16) (w : FVec Ideal S1024x128 .bf16) : out0_2 (F := Ideal) x w = k0_pay1 (F := Ideal) x w := by
  unfold out0_2
  rw [View.canon_unit_zero vec2_zero, View.ld_unit_zero vec2_zero, View.ld_unit_zero vec2_zero]

/-- The result: the product of the two arrays. -/
def G (x : FVec Ideal S8256x1024 .bf16) (w : FVec Ideal S1024x128 .bf16) : FVec Ideal S8256x128 .f32 :=
  fun y => ∑ k : Fin 1024, (x (ix2 (y 0) k) * w (ix2 k (y 1)) : EReal)

variable (m : (ℓ : Loc nD τ sig) → Buf (Elt Ideal) ℓ) (c : Dev nD)

theorem iblk0 (t : Fin cfg0.N) (R : Fin 2752) (C : Fin 1024) (h : t.1 / 1 * 2752 + R.1 < 8256) :
    (iblk m c 0 t : FVec Ideal S2752x1024 .bf16) (ix2 R C) = (V m c main_arg0 : FVec Ideal S8256x1024 .bf16) (ix2 ⟨t.1 / 1 * 2752 + R.1, h⟩ C) := by
  obtain ⟨e0, e1⟩ := idx0 t
  refine congrArg (V m c main_arg0) (funext fun a => Fin.ext ?_)
  match a with
  | ⟨0, _⟩ => show win0_0.index t (0 : Fin 2) * 2752 + 1 * R.1 = t.1 / 1 * 2752 + R.1; omega
  | ⟨1, _⟩ => show win0_0.index t (1 : Fin 2) * 1024 + 1 * C.1 = C.1; omega

theorem iblk1 (t : Fin cfg0.N) (R : Fin 1024) (C : Fin 128) (h : t.1 % 1 * 128 + C.1 < 128) :
    (iblk m c 1 t : FVec Ideal S1024x128 .bf16) (ix2 R C) = (V m c main_arg1 : FVec Ideal S1024x128 .bf16) (ix2 R ⟨t.1 % 1 * 128 + C.1, h⟩) := by
  obtain ⟨e0, e1⟩ := idx1 t
  refine congrArg (V m c main_arg1) (funext fun a => Fin.ext ?_)
  match a with
  | ⟨0, _⟩ => show win0_1.index t (0 : Fin 2) * 1024 + 1 * R.1 = R.1; omega
  | ⟨1, _⟩ => show win0_1.index t (1 : Fin 2) * 128 + 1 * C.1 = t.1 % 1 * 128 + C.1; omega

theorem emb2 (t : Fin cfg0.N) (R : Fin 2752) (C : Fin 128) (h : t.1 / 1 * 2752 + R.1 < 8256) (h' : t.1 % 1 * 128 + C.1 < 128) :
    ((cfg0.win 2).blk t).view.emb (ix2 R C) = ix2 ⟨t.1 / 1 * 2752 + R.1, h⟩ ⟨t.1 % 1 * 128 + C.1, h'⟩ := by
  obtain ⟨e0, e1⟩ := idx2 t
  funext a; apply Fin.ext
  match a with
  | ⟨0, _⟩ => show win0_2.index t (0 : Fin 2) * 2752 + 1 * R.1 = t.1 / 1 * 2752 + R.1; omega
  | ⟨1, _⟩ => show win0_2.index t (1 : Fin 2) * 128 + 1 * C.1 = t.1 % 1 * 128 + C.1; omega

theorem final : (dats m 0 c).arrAt 2 cfg0.N = G (m ((c : Thread nD τ).loc main_arg0)) (m ((c : Thread nD τ).loc main_arg1)) := by
  refine (dats m 0 c).arrAt_eq_of_cover 2 _ (fun t _ => ?_) fun y => ?_
  · have hN : t.1 < 3 := lt_of_lt_of_eq t.isLt N_0
    rw [flushed2, out_eq]
    funext y
    obtain ⟨R, C, rfl⟩ : ∃ (R : Fin 2752) (C : Fin 128), y = ix2 R C := ⟨y 0, y 1, eq_ix2 y⟩
    refine (pay _ _ R C).trans (Eq.trans ?_ (congrArg (G _ _) (emb2 t R C (by omega) (by omega))).symm)
    exact Finset.sum_congr rfl fun k _ => congrArg₂ (fun a b : EReal => a * b) (iblk0 m c t R k (by omega)) (iblk1 m c t k C (by omega))
  · obtain ⟨R, C, rfl⟩ : ∃ (R : Fin 8256) (C : Fin 128), y = ix2 R C := ⟨y 0, y 1, eq_ix2 y⟩
    have ht : R.1 / 2752 * 1 + C.1 / 128 < cfg0.N := lt_of_lt_of_eq (by omega) N_0.symm
    refine ⟨⟨_, ht⟩, flush0_2 _, ?_⟩
    have h := ((cfg0.win 2).blk ⟨_, ht⟩).view.emb_mem_set (ix2 (⟨R.1 % 2752, by omega⟩ : Fin 2752) (⟨C.1 % 128, by omega⟩ : Fin 128))
    rw [emb2 _ _ _ (by dsimp only; omega) (by dsimp only; omega)] at h
    refine (congrArg (· ∈ ((cfg0.win 2).blk ⟨_, ht⟩).view.set) (congrArg₂ ix2 (Fin.ext ?_) (Fin.ext ?_))).mp h
    · dsimp only; omega
    · dsimp only; omega

end Cert.Kernel23Ideal.Value

namespace Cert.Reference23Ideal.Value

open Cert.Reference23Ideal Cert.Reference23Ideal.Gen Idealize.ShloMosaic

theorem ref_eq (x : FVec Ideal S8256x1024 .bf16) (w : FVec Ideal S1024x128 .bf16) :
    (Host.dotGeneral dot_S8256x1024_S1024x128_S8256x128_1_0_0_1_n_n none (extf .f32 x bitsLt_bf16_f32) (extf .f32 w bitsLt_bf16_f32) : FVec Ideal S8256x128 .f32)
      = Cert.Kernel23Ideal.Value.G x w := by
  funext y
  obtain ⟨R, C, rfl⟩ : ∃ (R : Fin 8256) (C : Fin 128), y = ix2 R C := ⟨y 0, y 1, eq_ix2 y⟩
  show _ = ∑ k : Fin 1024, (x (ix2 R k) * w (ix2 k C) : EReal)
  pointwise

end Cert.Reference23Ideal.Value

namespace Cert.Proof

open Idealize.ShloMosaic Idealize.ShloMosaic.TcCoe Idealize.SL.Sem

theorem projba_frame : quiescent_Kernel23 := fun m ρ _ => Cert.Kernel23.Gen.frame m ρ
theorem projba_frameI : quiescent_Kernel23Ideal := fun m ρ _ => Cert.Kernel23Ideal.Gen.frame m ρ
theorem projba_frameR : quiescent_Reference23Ideal := fun m ρ _ =>
  (θ_run Cert.Reference23Ideal.defs _ _).mono (fun r h => ⟨fun c => (h c).2, sem_eq_zero_of_no_sems (by decide) _⟩) (Cert.Reference23Ideal.Value.run m ρ)

theorem projba_value : algebraic_Kernel23Ideal_Reference23Ideal := fun m ρ m' ρ' _ hag => by
  refine ⟨fun c => Cert.Kernel23Ideal.Value.G (m ((c : Thread Cert.Kernel23Ideal.nD Cert.Kernel23Ideal.τ).loc Cert.Kernel23Ideal.main_arg0))
    (m ((c : Thread Cert.Kernel23Ideal.nD Cert.Kernel23Ideal.τ).loc Cert.Kernel23Ideal.main_arg1)), ?_, ?_⟩
  · exact (θ_run Cert.Kernel23Ideal.defs _ _).mono (fun r h c => ⟨(h c).1.trans (Cert.Kernel23Ideal.Value.final m c), (h c).2⟩)
      (Cert.Kernel23Ideal.Value.run_blocks m ρ)
  · refine (θ_run Cert.Reference23Ideal.defs _ _).mono (fun r h c => ⟨(h c).1.trans ?_, (h c).2⟩) (Cert.Reference23Ideal.Value.run m' ρ')
    rw [(hag c).1, (hag c).2]
    exact Cert.Reference23Ideal.Value.ref_eq _ _

end Cert.Proof
end
-- ==== Proof.Dhnba.lean ====
module

public import proofs.«01_k».proof.Defs
public import proofs.«01_k».proof.Proof.Common
public import proofs.«01_k».proof.Proof.Gen.Kernel24.Frame
public import proofs.«01_k».proof.Proof.Gen.Kernel24Ideal.Value
public import proofs.«01_k».proof.Proof.Gen.Reference24Ideal.Run
public import Idealize.ShloMosaic.Lib.Quiescent

/-! The gradient of the argument of the projection to the write strengths and the decays: a block of rows is whole in the contraction and holds all columns; the
blocks make the product of the whole arrays by the transposed weights, which the reference forms at once. -/

@[expose] public section

set_option maxRecDepth 16384

noncomputable section

namespace Cert.Kernel24Ideal.Value

open Cert.Kernel24Ideal Cert.Kernel24Ideal.Gen Idealize.ShloMosaic Idealize.ShloMosaic.TcCoe Idealize.SL.Sem

theorem idx0 : ∀ t : Fin cfg0.N, win0_0.index t (0 : Fin 2) = t.1 / 1 ∧ win0_0.index t (1 : Fin 2) = 0 := (by decide +kernel : ∀ t : Fin grid0.N, _)
theorem idx1 : ∀ t : Fin cfg0.N, win0_1.index t (0 : Fin 2) = 0 ∧ win0_1.index t (1 : Fin 2) = t.1 % 1 := (by decide +kernel : ∀ t : Fin grid0.N, _)
theorem idx2 : ∀ t : Fin cfg0.N, win0_2.index t (0 : Fin 2) = t.1 / 1 ∧ win0_2.index t (1 : Fin 2) = t.1 % 1 := (by decide +kernel : ∀ t : Fin grid0.N, _)

theorem pay (x : FVec Ideal S1376x128 .bf16) (w : FVec Ideal S1024x128 .bf16) (R : Fin 1376) (C : Fin 1024) :
    (k0_pay1 (F := Ideal) x w (ix2 R C) : EReal) = ∑ k : Fin 128, (x (ix2 R k) * w (ix2 C k) : EReal) := by
  unfold k0_pay1
  pointwise

theorem out_eq (x : FVec Ideal S1376x128 .bf16) (w : FVec Ideal S1024x128 .bf16) : out0_2 (F := Ideal) x w = k0_pay1 (F := Ideal) x w := by
  unfold out0_2
  rw [View.canon_unit_zero vec2_zero, View.ld_unit_zero vec2_zero, View.ld_unit_zero vec2_zero]

/-- The result: the product of the two arrays. -/
def G (x : FVec Ideal S8256x128 .bf16) (w : FVec Ideal S1024x128 .bf16) : FVec Ideal S8256x1024 .f32 :=
  fun y => ∑ k : Fin 128, (x (ix2 (y 0) k) * w (ix2 (y 1) k) : EReal)

variable (m : (ℓ : Loc nD τ sig) → Buf (Elt Ideal) ℓ) (c : Dev nD)

theorem iblk0 (t : Fin cfg0.N) (R : Fin 1376) (C : Fin 128) (h : t.1 / 1 * 1376 + R.1 < 8256) :
    (iblk m c 0 t : FVec Ideal S1376x128 .bf16) (ix2 R C) = (V m c main_arg0 : FVec Ideal S8256x128 .bf16) (ix2 ⟨t.1 / 1 * 1376 + R.1, h⟩ C) := by
  obtain ⟨e0, e1⟩ := idx0 t
  refine congrArg (V m c main_arg0) (funext fun a => Fin.ext ?_)
  match a with
  | ⟨0, _⟩ => show win0_0.index t (0 : Fin 2) * 1376 + 1 * R.1 = t.1 / 1 * 1376 + R.1; omega
  | ⟨1, _⟩ => show win0_0.index t (1 : Fin 2) * 128 + 1 * C.1 = C.1; omega

theorem iblk1 (t : Fin cfg0.N) (R : Fin 1024) (C : Fin 128) (h : t.1 % 1 * 1024 + R.1 < 1024) :
    (iblk m c 1 t : FVec Ideal S1024x128 .bf16) (ix2 R C) = (V m c main_arg1 : FVec Ideal S1024x128 .bf16) (ix2 ⟨t.1 % 1 * 1024 + R.1, h⟩ C) := by
  obtain ⟨e0, e1⟩ := idx1 t
  refine congrArg (V m c main_arg1) (funext fun a => Fin.ext ?_)
  match a with
  | ⟨0, _⟩ => show win0_1.index t (0 : Fin 2) * 1024 + 1 * R.1 = t.1 % 1 * 1024 + R.1; omega
  | ⟨1, _⟩ => show win0_1.index t (1 : Fin 2) * 128 + 1 * C.1 = C.1; omega

theorem emb2 (t : Fin cfg0.N) (R : Fin 1376) (C : Fin 1024) (h : t.1 / 1 * 1376 + R.1 < 8256) (h' : t.1 % 1 * 1024 + C.1 < 1024) :
    ((cfg0.win 2).blk t).view.emb (ix2 R C) = ix2 ⟨t.1 / 1 * 1376 + R.1, h⟩ ⟨t.1 % 1 * 1024 + C.1, h'⟩ := by
  obtain ⟨e0, e1⟩ := idx2 t
  funext a; apply Fin.ext
  match a with
  | ⟨0, _⟩ => show win0_2.index t (0 : Fin 2) * 1376 + 1 * R.1 = t.1 / 1 * 1376 + R.1; omega
  | ⟨1, _⟩ => show win0_2.index t (1 : Fin 2) * 1024 + 1 * C.1 = t.1 % 1 * 1024 + C.1; omega

theorem final : (dats m 0 c).arrAt 2 cfg0.N = G (m ((c : Thread nD τ).loc main_arg0)) (m ((c : Thread nD τ).loc main_arg1)) := by
  refine (dats m 0 c).arrAt_eq_of_cover 2 _ (fun t _ => ?_) fun y => ?_
  · have hN : t.1 < 6 := lt_of_lt_of_eq t.isLt N_0
    rw [flushed2, out_eq]
    funext y
    obtain ⟨R, C, rfl⟩ : ∃ (R : Fin 1376) (C : Fin 1024), y = ix2 R C := ⟨y 0, y 1, eq_ix2 y⟩
    refine (pay _ _ R C).trans (Eq.trans ?_ (congrArg (G _ _) (emb2 t R C (by omega) (by omega))).symm)
    exact Finset.sum_congr rfl fun k _ => congrArg₂ (fun a b : EReal => a * b) (iblk0 m c t R k (by omega)) (iblk1 m c t C k (by omega))
  · obtain ⟨R, C, rfl⟩ : ∃ (R : Fin 8256) (C : Fin 1024), y = ix2 R C := ⟨y 0, y 1, eq_ix2 y⟩
    have ht : R.1 / 1376 * 1 + C.1 / 1024 < cfg0.N := lt_of_lt_of_eq (by omega) N_0.symm
    refine ⟨⟨_, ht⟩, flush0_2 _, ?_⟩
    have h := ((cfg0.win 2).blk ⟨_, ht⟩).view.emb_mem_set (ix2 (⟨R.1 % 1376, by omega⟩ : Fin 1376) (⟨C.1 % 1024, by omega⟩ : Fin 1024))
    rw [emb2 _ _ _ (by dsimp only; omega) (by dsimp only; omega)] at h
    refine (congrArg (· ∈ ((cfg0.win 2).blk ⟨_, ht⟩).view.set) (congrArg₂ ix2 (Fin.ext ?_) (Fin.ext ?_))).mp h
    · dsimp only; omega
    · dsimp only; omega

end Cert.Kernel24Ideal.Value

namespace Cert.Reference24Ideal.Value

open Cert.Reference24Ideal Cert.Reference24Ideal.Gen Idealize.ShloMosaic

theorem ref_eq (x : FVec Ideal S8256x128 .bf16) (w : FVec Ideal S1024x128 .bf16) :
    (Host.dotGeneral dot_S8256x128_S1024x128_S8256x1024_1_1_0_0_n_n none (extf .f32 x bitsLt_bf16_f32) (extf .f32 w bitsLt_bf16_f32) : FVec Ideal S8256x1024 .f32)
      = Cert.Kernel24Ideal.Value.G x w := by
  funext y
  obtain ⟨R, C, rfl⟩ : ∃ (R : Fin 8256) (C : Fin 1024), y = ix2 R C := ⟨y 0, y 1, eq_ix2 y⟩
  show _ = ∑ k : Fin 128, (x (ix2 R k) * w (ix2 C k) : EReal)
  pointwise

end Cert.Reference24Ideal.Value

namespace Cert.Proof

open Idealize.ShloMosaic Idealize.ShloMosaic.TcCoe Idealize.SL.Sem

theorem dhnba_frame : quiescent_Kernel24 := fun m ρ _ => Cert.Kernel24.Gen.frame m ρ
theorem dhnba_frameI : quiescent_Kernel24Ideal := fun m ρ _ => Cert.Kernel24Ideal.Gen.frame m ρ
theorem dhnba_frameR : quiescent_Reference24Ideal := fun m ρ _ =>
  (θ_run Cert.Reference24Ideal.defs _ _).mono (fun r h => ⟨fun c => (h c).2, sem_eq_zero_of_no_sems (by decide) _⟩) (Cert.Reference24Ideal.Value.run m ρ)

theorem dhnba_value : algebraic_Kernel24Ideal_Reference24Ideal := fun m ρ m' ρ' _ hag => by
  refine ⟨fun c => Cert.Kernel24Ideal.Value.G (m ((c : Thread Cert.Kernel24Ideal.nD Cert.Kernel24Ideal.τ).loc Cert.Kernel24Ideal.main_arg0))
    (m ((c : Thread Cert.Kernel24Ideal.nD Cert.Kernel24Ideal.τ).loc Cert.Kernel24Ideal.main_arg1)), ?_, ?_⟩
  · exact (θ_run Cert.Kernel24Ideal.defs _ _).mono (fun r h c => ⟨(h c).1.trans (Cert.Kernel24Ideal.Value.final m c), (h c).2⟩)
      (Cert.Kernel24Ideal.Value.run_blocks m ρ)
  · refine (θ_run Cert.Reference24Ideal.defs _ _).mono (fun r h c => ⟨(h c).1.trans ?_, (h c).2⟩) (Cert.Reference24Ideal.Value.run m' ρ')
    rw [(hag c).1, (hag c).2]
    exact Cert.Reference24Ideal.Value.ref_eq _ _

end Cert.Proof
end
-- ==== Proof.Dwba.lean ====
module

public import proofs.«01_k».proof.Defs
public import proofs.«01_k».proof.Proof.Common
public import proofs.«01_k».proof.Proof.Gen.Kernel25.Frame
public import proofs.«01_k».proof.Proof.Gen.Kernel25Ideal.Value
public import proofs.«01_k».proof.Proof.Gen.Reference25Ideal.Run
public import Idealize.ShloMosaic.Lib.Quiescent

/-! The gradient of the weights of the projection to the write strengths and the decays: blocks of rows are contracted one after another into an accumulator that starts with the first block's product
and is cut to the result after the last; the reference forms the transposed product of the whole arrays. -/

@[expose] public section

set_option maxRecDepth 16384

noncomputable section

namespace Cert.Kernel25Ideal.Value

open Cert.Kernel25Ideal Cert.Kernel25Ideal.Gen Idealize.ShloMosaic Idealize.ShloMosaic.TcCoe Idealize.SL.Sem

theorem pay2_congr {a a' : FVec Ideal S1024x128 .f32} {b b' : FVec Ideal S2752x1024 .bf16} {d d' : FVec Ideal S2752x128 .bf16} (h : a = a') (h' : b = b') (h'' : d = d') :
      k0_pay2 (F := Ideal) a b d = k0_pay2 (F := Ideal) a' b' d' := by rw [h, h', h'']

section stores

variable (c : Dev nD) (i : grid0.Coords) (arg3 : Memref sig .tc .vmem S2752x1024 .bf16) (harg3 : arg3.IsWhole) (arg4 : Memref sig .tc .vmem S2752x128 .bf16) (harg4 : arg4.IsWhole) (arg5 : Memref sig .tc .vmem S1024x128 .bf16) (harg5 : arg5.IsWhole) (arg6 : Memref sig .tc .vmem S1024x128 .f32) (harg6 : arg6.IsWhole)
  (x0 : FVec Ideal S2752x1024 .bf16) (x1 : FVec Ideal S2752x128 .bf16) (xs0 : FVec Ideal S1024x128 .f32)

theorem outA (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 (F := Ideal) x0 x1 := by
  unfold sout0_A_0
  rw [View.read_writes_junk_eq_canon]
  unfold kernelRun0_A
  dsimp only
  refine (View.canon_unit_zero (S := S1024x128) vec2_zero _ _).trans ?_
  exact congrArg₂ (k0_pay1 (F := Ideal)) (read_whole arg3 harg3 x0 vec2_zero _) (read_whole arg4 harg4 x1 vec2_zero _)

theorem outB (hc0 : ¬cond0_0 i) (hc1 : cond0_1 i) (hc2 : ¬cond0_2 i) :
    sout0_B_0 (F := Ideal) c i arg3 harg3 arg4 harg4 arg5 harg5 arg6 harg6 hc0 hc1 hc2 x0 x1 xs0 = k0_pay2 (F := Ideal) xs0 x0 x1 := by
  unfold sout0_B_0
  rw [View.read_writes_junk_eq_canon]
  unfold kernelRun0_B
  dsimp only
  refine (View.canon_unit_zero (S := S1024x128) vec2_zero _ _).trans ?_
  exact pay2_congr (read_whole arg6 harg6 xs0 vec2_zero _) (read_whole arg3 harg3 x0 vec2_zero _) (read_whole arg4 harg4 x1 vec2_zero _)

theorem outC (hc0 : ¬cond0_0 i) (hc1 : cond0_1 i) (hc2 : cond0_2 i) :
    out0_C_2 (F := Ideal) c i arg3 harg3 arg4 harg4 arg5 harg5 arg6 harg6 hc0 hc1 hc2 x0 x1 xs0 = k0_pay3 (F := Ideal) (k0_pay2 (F := Ideal) xs0 x0 x1) := by
  unfold out0_C_2
  rw [View.read_writes_junk_eq_canon]
  unfold kernelRun0_C
  dsimp only
  refine (View.canon_unit_zero (S := S1024x128) vec2_zero _ _).trans ?_
  unfold kernelRun0_C.sl.v9 kernelRun0_C.sl.HS0_1
  refine congrArg (k0_pay3 (F := Ideal)) ((View.readCov_full _ _ _ _ _).trans ?_)
  exact pay2_congr (read_whole arg6 harg6 xs0 vec2_zero _) (read_whole arg3 harg3 x0 vec2_zero _) (read_whole arg4 harg4 x1 vec2_zero _)

end stores

/-- A term of a block's product at one index. -/
def prod (x : FVec Ideal S2752x1024 .bf16) (w : FVec Ideal S2752x128 .bf16) (R : Fin 1024) (C : Fin 128) (k : Fin 2752) : EReal :=
  (x (ix2 k R) * w (ix2 k C) : EReal)

theorem pay1 (x : FVec Ideal S2752x1024 .bf16) (w : FVec Ideal S2752x128 .bf16) (R : Fin 1024) (C : Fin 128) :
    (k0_pay1 (F := Ideal) x w (ix2 R C) : EReal) = ∑ k : Fin 2752, prod x w R C k := by
  unfold prod k0_pay1
  pointwise

theorem pay2 (a : FVec Ideal S1024x128 .f32) (x : FVec Ideal S2752x1024 .bf16) (w : FVec Ideal S2752x128 .bf16) (R : Fin 1024) (C : Fin 128) :
    (k0_pay2 (F := Ideal) a x w (ix2 R C) : EReal) = (a (ix2 R C) : EReal) + ∑ k : Fin 2752, prod x w R C k := by
  unfold prod k0_pay2
  pointwise

theorem pay3 (a : FVec Ideal S1024x128 .f32) : (k0_pay3 (F := Ideal) a : S1024x128.Idx → EReal) = a := rfl

theorem idx0 : ∀ t : Fin cfg0.N, win0_0.index t (0 : Fin 2) = t.1 % 3 ∧ win0_0.index t (1 : Fin 2) = t.1 / 3 := (by decide +kernel : ∀ t : Fin grid0.N, _)
theorem idx1 : ∀ t : Fin cfg0.N, win0_1.index t (0 : Fin 2) = t.1 % 3 ∧ win0_1.index t (1 : Fin 2) = 0 := (by decide +kernel : ∀ t : Fin grid0.N, _)
theorem idx2 : ∀ t : Fin cfg0.N, win0_2.index t (0 : Fin 2) = t.1 / 3 ∧ win0_2.index t (1 : Fin 2) = 0 := (by decide +kernel : ∀ t : Fin grid0.N, _)

/-- The terms of the result at one index. -/
def term (x : FVec Ideal S8256x1024 .bf16) (w : FVec Ideal S8256x128 .bf16) (R : Fin 1024) (C : Fin 128) : Fin 8256 → EReal :=
  fun k => (x (ix2 k R) * w (ix2 k C) : EReal)

/-- The result: the product of the first array, transposed, with the second. -/
def G (x : FVec Ideal S8256x1024 .bf16) (w : FVec Ideal S8256x128 .bf16) : FVec Ideal S1024x128 .bf16 :=
  fun y => ∑ k : Fin 8256, term x w (y 0) (y 1) k

variable (m : (ℓ : Loc nD τ sig) → Buf (Elt Ideal) ℓ) (c : Dev nD)

theorem iblk0 (t : Fin cfg0.N) (R : Fin 2752) (C : Fin 1024) (h : t.1 % 3 * 2752 + R.1 < 8256) (h' : t.1 / 3 * 1024 + C.1 < 1024) :
    (iblk m c 0 t : FVec Ideal S2752x1024 .bf16) (ix2 R C)
      = (V m c main_arg0 : FVec Ideal S8256x1024 .bf16) (ix2 ⟨t.1 % 3 * 2752 + R.1, h⟩ ⟨t.1 / 3 * 1024 + C.1, h'⟩) := by
  obtain ⟨e0, e1⟩ := idx0 t
  refine congrArg (V m c main_arg0) (funext fun a => Fin.ext ?_)
  match a with
  | ⟨0, _⟩ => show win0_0.index t (0 : Fin 2) * 2752 + 1 * R.1 = t.1 % 3 * 2752 + R.1; omega
  | ⟨1, _⟩ => show win0_0.index t (1 : Fin 2) * 1024 + 1 * C.1 = t.1 / 3 * 1024 + C.1; omega

theorem iblk1 (t : Fin cfg0.N) (R : Fin 2752) (C : Fin 128) (h : t.1 % 3 * 2752 + R.1 < 8256) :
    (iblk m c 1 t : FVec Ideal S2752x128 .bf16) (ix2 R C) = (V m c main_arg1 : FVec Ideal S8256x128 .bf16) (ix2 ⟨t.1 % 3 * 2752 + R.1, h⟩ C) := by
  obtain ⟨e0, e1⟩ := idx1 t
  refine congrArg (V m c main_arg1) (funext fun a => Fin.ext ?_)
  match a with
  | ⟨0, _⟩ => show win0_1.index t (0 : Fin 2) * 2752 + 1 * R.1 = t.1 % 3 * 2752 + R.1; omega
  | ⟨1, _⟩ => show win0_1.index t (1 : Fin 2) * 128 + 1 * C.1 = C.1; omega

theorem emb2 (t : Fin cfg0.N) (R : Fin 1024) (C : Fin 128) (h : t.1 / 3 * 1024 + R.1 < 1024) :
    ((cfg0.win 2).blk t).view.emb (ix2 R C) = ix2 ⟨t.1 / 3 * 1024 + R.1, h⟩ C := by
  obtain ⟨e0, e1⟩ := idx2 t
  funext a; apply Fin.ext
  match a with
  | ⟨0, _⟩ => show win0_2.index t (0 : Fin 2) * 1024 + 1 * R.1 = t.1 / 3 * 1024 + R.1; omega
  | ⟨1, _⟩ => show win0_2.index t (1 : Fin 2) * 128 + 1 * C.1 = C.1; omega

/-- The sum of the terms up to a point's block: that up to the block before, and the point's product. -/
theorem block (t : Fin cfg0.N) (R : Fin 1024) (C : Fin 128) (h : t.1 / 3 * 1024 + R.1 < 1024) :
    ∑ j ∈ Finset.range ((t.1 % 3 + 1) * 2752), ext (term (V m c main_arg0) (V m c main_arg1) ⟨t.1 / 3 * 1024 + R.1, h⟩ C) j
      = ∑ j ∈ Finset.range (t.1 % 3 * 2752), ext (term (V m c main_arg0) (V m c main_arg1) ⟨t.1 / 3 * 1024 + R.1, h⟩ C) j
        + ∑ k : Fin 2752, prod (iblk m c 0 t) (iblk m c 1 t) R C k := by
  refine sum_blocks_succ _ _ _ _ fun k => ?_
  have hk : t.1 % 3 * 2752 + k.1 < 8256 := by omega
  rw [ext_of_lt _ _ hk]
  exact congrArg₂ (fun a b : EReal => a * b) (iblk0 m c t k R hk h) (iblk1 m c t k C hk)

/-- What the accumulator holds after a point: the sum of the terms of the blocks so far. -/
theorem acc (n : Nat) (hn : n < cfg0.N) (R : Fin 1024) (C : Fin 128) (h : n / 3 * 1024 + R.1 < 1024) (h5 : n % 3 ≠ 2) :
    ((outsAt0 m c n hn).2 (ix2 R C) : EReal)
      = ∑ j ∈ Finset.range ((n % 3 + 1) * 2752), ext (term (V m c main_arg0) (V m c main_arg1) ⟨n / 3 * 1024 + R.1, h⟩ C) j := by
  induction n with
  | zero =>
    rw [block m c ⟨0, hn⟩ R C h, outsAt0_A m c ⟨0, hn⟩ rfl (by dsimp only; omega) (by dsimp only; omega)]
    dsimp only
    rw [outA, pay1]
    exact (zero_add _).symm
  | succ n ih =>
    rw [block m c ⟨n + 1, hn⟩ R C h]
    by_cases h0 : (n + 1) % 3 = 0
    · rw [outsAt0_A m c ⟨n + 1, hn⟩ h0 (by dsimp only; omega) h5]
      dsimp only
      rw [outA, pay1, h0, Nat.zero_mul, Finset.range_zero, Finset.sum_empty, zero_add]
    · have e : n % 3 + 1 = (n + 1) % 3 := by omega
      have e' : n / 3 = (n + 1) / 3 := by omega
      have ih := ih (Nat.lt_of_succ_lt hn) (by omega) (by omega)
      simp only [e, e'] at ih
      rw [outsAt0_B m c ⟨n + 1, hn⟩ h0 (by dsimp only; omega) h5]
      dsimp only
      rw [outB, pay2]
      exact congrArg (fun a : EReal => a + _) ih

/-- What the last point of a block of columns leaves for the result. -/
theorem last (t : Fin cfg0.N) (h5 : t.1 % 3 = 2) (R : Fin 1024) (C : Fin 128) (h : t.1 / 3 * 1024 + R.1 < 1024) :
    ((outsAt0 m c t.1 t.isLt).1 (ix2 R C) : EReal) = G (V m c main_arg0) (V m c main_arg1) (ix2 ⟨t.1 / 3 * 1024 + R.1, h⟩ C) := by
  have key := block m c t R C h
  have a := acc m c (t.1 - 1) (Nat.lt_of_le_of_lt (Nat.sub_le _ _) t.isLt) R C (by omega) (by omega)
  have e : (t.1 - 1) % 3 + 1 = t.1 % 3 := by omega
  have e' : (t.1 - 1) / 3 = t.1 / 3 := by omega
  simp only [e, e'] at a
  rw [← a, h5] at key
  refine Eq.trans ?_ (key.symm.trans (sum_ext _))
  rw [outsAt0_C m c t (by omega) (by omega) h5]
  dsimp only
  rw [outC, pay3, pay2]

theorem final : (dats m 0 c).arrAt 2 cfg0.N = G (m ((c : Thread nD τ).loc main_arg0)) (m ((c : Thread nD τ).loc main_arg1)) := by
  refine (dats m 0 c).arrAt_eq_of_cover 2 _ (fun t ht => ?_) fun y => ?_
  · have hN : t.1 < 3 := lt_of_lt_of_eq t.isLt N_0
    have h5 := (flush0_2 t).mp ht
    rw [flushed2]
    funext y
    obtain ⟨R, C, rfl⟩ : ∃ (R : Fin 1024) (C : Fin 128), y = ix2 R C := ⟨y 0, y 1, eq_ix2 y⟩
    exact (last m c t h5 R C (by omega)).trans (congrArg (G _ _) (emb2 t R C (by omega))).symm
  · obtain ⟨R, C, rfl⟩ : ∃ (R : Fin 1024) (C : Fin 128), y = ix2 R C := ⟨y 0, y 1, eq_ix2 y⟩
    have ht : R.1 / 1024 * 3 + 2 < cfg0.N := lt_of_lt_of_eq (by omega) N_0.symm
    refine ⟨⟨_, ht⟩, (flush0_2 _).mpr (by dsimp only; omega), ?_⟩
    have h := ((cfg0.win 2).blk ⟨_, ht⟩).view.emb_mem_set (ix2 (⟨R.1 % 1024, by omega⟩ : Fin 1024) C)
    rw [emb2 _ _ _ (by dsimp only; omega)] at h
    refine (congrArg (· ∈ ((cfg0.win 2).blk ⟨_, ht⟩).view.set) (congrArg (ix2 · C) (Fin.ext ?_))).mp h
    dsimp only; omega

end Cert.Kernel25Ideal.Value

namespace Cert.Reference25Ideal.Value

open Cert.Reference25Ideal Cert.Reference25Ideal.Gen Idealize.ShloMosaic

theorem ref_eq (x : FVec Ideal S8256x1024 .bf16) (w : FVec Ideal S8256x128 .bf16) :
    (truncf (F := Ideal) (φ := .f32) .bf16 (transpose S1024x128 [1, 0] (Host.dotGeneral dot_S8256x128_S8256x1024_S128x1024_0_0_1_1_n_n none (extf .f32 w bitsLt_bf16_f32)
      (extf .f32 x bitsLt_bf16_f32) : FVec Ideal S128x1024 .f32) transposes_S128x1024_S1024x128_1_0) bitsLt_bf16_f32 : FVec Ideal S1024x128 .bf16)
      = Cert.Kernel25Ideal.Value.G x w := by
  funext y
  obtain ⟨R, C, rfl⟩ : ∃ (R : Fin 1024) (C : Fin 128), y = ix2 R C := ⟨y 0, y 1, eq_ix2 y⟩
  refine Eq.trans ?_ (Finset.sum_congr rfl fun k _ => mul_comm (w (ix2 k C) : EReal) (x (ix2 k R) : EReal))
  pointwise

end Cert.Reference25Ideal.Value

namespace Cert.Proof

open Idealize.ShloMosaic Idealize.ShloMosaic.TcCoe Idealize.SL.Sem

theorem dwba_frame : quiescent_Kernel25 := fun m ρ _ => Cert.Kernel25.Gen.frame m ρ
theorem dwba_frameI : quiescent_Kernel25Ideal := fun m ρ _ => Cert.Kernel25Ideal.Gen.frame m ρ
theorem dwba_frameR : quiescent_Reference25Ideal := fun m ρ _ =>
  (θ_run Cert.Reference25Ideal.defs _ _).mono (fun r h => ⟨fun c => (h c).2, sem_eq_zero_of_no_sems (by decide) _⟩) (Cert.Reference25Ideal.Value.run m ρ)

theorem dwba_value : algebraic_Kernel25Ideal_Reference25Ideal := fun m ρ m' ρ' _ hag => by
  refine ⟨fun c => Cert.Kernel25Ideal.Value.G (m ((c : Thread Cert.Kernel25Ideal.nD Cert.Kernel25Ideal.τ).loc Cert.Kernel25Ideal.main_arg0))
    (m ((c : Thread Cert.Kernel25Ideal.nD Cert.Kernel25Ideal.τ).loc Cert.Kernel25Ideal.main_arg1)), ?_, ?_⟩
  · exact (θ_run Cert.Kernel25Ideal.defs _ _).mono (fun r h c => ⟨(h c).1.trans (Cert.Kernel25Ideal.Value.final m c), (h c).2⟩)
      (Cert.Kernel25Ideal.Value.run_blocks m ρ)
  · refine (θ_run Cert.Reference25Ideal.defs _ _).mono (fun r h c => ⟨(h c).1.trans ?_, (h c).2⟩) (Cert.Reference25Ideal.Value.run m' ρ')
    rw [(hag c).1, (hag c).2]
    exact Cert.Reference25Ideal.Value.ref_eq _ _

end Cert.Proof
end
-- ==== Proof.Gnormf.lean ====
module

public import proofs.«01_k».proof.Defs
public import proofs.«01_k».proof.Proof.Common
public import proofs.«01_k».proof.Proof.Logistic
public import proofs.«01_k».proof.Proof.NormBwd
public import proofs.«01_k».proof.Proof.Gen.Kernel26.Frame
public import proofs.«01_k».proof.Proof.Gen.Kernel26Ideal.Value
public import proofs.«01_k».proof.Proof.Gen.Reference26Ideal.Run
public import Idealize.ShloMosaic.Lib.Quiescent

/-! The gated norm of the delta rule's heads: the kernel norms the eight heads of a block of rows one after the other, each a slice of the columns; the reference
folds the columns into heads and norms along a head. -/

@[expose] public section

set_option maxRecDepth 16384

noncomputable section

namespace Cert.Kernel26Ideal.Value

open Cert.Kernel26Ideal Cert.Kernel26Ideal.Gen Idealize.ShloMosaic Idealize.ShloMosaic.TcCoe Idealize.SL.Sem

theorem idx0 : ∀ t : Fin cfg0.N, win0_0.index t (0 : Fin 2) = t.1 ∧ win0_0.index t (1 : Fin 2) = 0 := (by decide +kernel : ∀ t : Fin grid0.N, _)
theorem idx1 : ∀ t : Fin cfg0.N, win0_1.index t (0 : Fin 2) = t.1 ∧ win0_1.index t (1 : Fin 2) = 2 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = t.1 ∧ win0_3.index t (1 : Fin 2) = 0 := (by decide +kernel : ∀ t : Fin grid0.N, _)

/-- One place of a gated head: `x` is the head's row, `y` its value there, `v` the weight and `g` the gate. -/
def gatedNorm (x : Fin 256 → EReal) (y v g : EReal) : EReal :=
  y * Ideal.rsqrt (meanSq 0x43800000#32 x) * v * (g * Ideal.div 1 (1 + Ideal.exp (-g)))

theorem pay (v : FVec Ideal S1x256 .f32) (x g : FVec Ideal S192x256 .f32) (R : Fin 192) (C : Fin 256) :
    (k0_pay2 (F := Ideal) v x g (ix2 R C) : EReal) = gatedNorm (fun j => (x (ix2 R j) : EReal)) (x (ix2 R C)) (v (ix2 0 C)) (g (ix2 R C)) := by
  unfold gatedNorm meanSq
  rw [← logistic_tanh]
  unfold k0_pay2
  pointwise

/-- The place of a tile's column in its head. -/
abbrev inHead {n : ℕ} (C : Fin n) (j : Fin 256) (h : C.1 / 256 * 256 + j.1 < n) : Fin n := ⟨C.1 / 256 * 256 + j.1, h⟩

/-- What the body leaves of a tile. -/
def tile (x g : FVec Ideal S192x2048 .f32) (v : FVec Ideal S1x256 .f32) : FVec Ideal S192x2048 .bf16 := fun y =>
  gatedNorm (fun j => (x (ix2 (y 0) (inHead (y 1 : Fin 2048) j (by have : (y 1 : Fin 2048).1 < 2048 := (y 1).isLt; omega))) : EReal)) (x y)
    (v (ix2 0 ⟨(y 1 : Fin 2048).1 % 256, by omega⟩)) (g y)

/-- A load of the columns from the `a`-th. -/
def cols (x : FVec Ideal S192x2048 .f32) (a : ℕ) (inb : ∀ k, (![0, a] : Fin 2 → ℕ) k + S192x256.size k ≤ S192x2048.size k) : FVec Ideal S192x256 .f32 :=
  View.ld (Val := Elt Ideal) (e' := .f32) x (Rect.unit (s := S192x2048) ![0, a] S192x256.size inb)

theorem ld_at (x : FVec Ideal S192x2048 .f32) (a : ℕ) (inb : ∀ k, (![0, a] : Fin 2 → ℕ) k + S192x256.size k ≤ S192x2048.size k) (R : Fin 192) (C : Fin 256)
    (ha : a + C.1 < 2048) :
    (cols x a inb (ix2 R C) : EReal) = x (ix2 R ⟨a + C.1, ha⟩) := by
  refine congrArg x (funext fun k => Fin.ext ?_)
  match k with
  | ⟨0, _⟩ => show 0 + 1 * R.1 = R.1; omega
  | ⟨1, _⟩ => show a + 1 * C.1 = a + C.1; omega

theorem piece (x g : FVec Ideal S192x2048 .f32) (v : FVec Ideal S1x256 .f32) (a : ℕ)
    (inb : ∀ k, (![0, a] : Fin 2 → ℕ) k + S192x256.size k ≤ S192x2048.size k) (ha : a + 256 ≤ 2048) (hm : a % 256 = 0) (y : S192x256.Idx) :
    (k0_pay2 (F := Ideal) v (cols x a inb) (cols g a inb) y
      : EReal) = tile x g v ((Rect.unit (s := S192x2048) ![0, a] S192x256.size inb).emb y) := by
  obtain ⟨R, C, rfl⟩ : ∃ (R : Fin 192) (C : Fin 256), y = ix2 R C := ⟨y 0, y 1, eq_ix2 y⟩
  have e : (Rect.unit (s := S192x2048) ![0, a] S192x256.size inb).emb (ix2 R C) = ix2 R ⟨a + C.1, by omega⟩ := by
    funext k; apply Fin.ext
    match k with
    | ⟨0, _⟩ => show 0 + 1 * R.1 = R.1; omega
    | ⟨1, _⟩ => show a + 1 * C.1 = a + C.1; omega
  rw [pay, e, ld_at _ _ _ _ _ (by omega), ld_at _ _ _ _ _ (by omega)]
  have hx : (fun j : Fin 256 => (cols x a inb (ix2 R j) : EReal))
      = fun j : Fin 256 => (x (ix2 R (inHead (⟨a + C.1, by omega⟩ : Fin 2048) j (by dsimp only; omega))) : EReal) := funext fun j => by
    rw [ld_at _ _ _ _ _ (by omega)]
    exact congrArg (fun k : Fin 2048 => (x (ix2 R k) : EReal)) (Fin.ext (by dsimp only; omega))
  have hv : (C : Fin 256) = ⟨(a + C.1) % 256, by omega⟩ := Fin.ext (by dsimp only; omega)
  rw [hx]
  show gatedNorm _ _ (v (ix2 0 C)) _ = gatedNorm _ _ (v (ix2 0 ⟨(a + C.1) % 256, _⟩)) _
  rw [← hv]
  rfl

theorem p3 (v : FVec Ideal S1x256 .f32) (x g : FVec Ideal S192x256 .f32) : k0_pay4 (F := Ideal) (k0_pay3 (F := Ideal) v x) g = k0_pay2 (F := Ideal) v x g := rfl
theorem p4 (v : FVec Ideal S1x256 .f32) (x g : FVec Ideal S192x256 .f32) : k0_pay5 (F := Ideal) v x g = k0_pay2 (F := Ideal) v x g := rfl
theorem p5 (v : FVec Ideal S1x256 .f32) (x g : FVec Ideal S192x256 .f32) : k0_pay6 (F := Ideal) v x g = k0_pay2 (F := Ideal) v x g := rfl
theorem p6 (v : FVec Ideal S1x256 .f32) (x g : FVec Ideal S192x256 .f32) : k0_pay9 (F := Ideal) (k0_pay7 (F := Ideal) v x) g (k0_pay8 (F := Ideal) g) = k0_pay2 (F := Ideal) v x g := rfl
theorem p7 (v : FVec Ideal S1x256 .f32) (x g : FVec Ideal S192x256 .f32) : k0_pay10 (F := Ideal) v x g = k0_pay2 (F := Ideal) v x g := rfl
theorem p8 (v : FVec Ideal S1x256 .f32) (x g : FVec Ideal S192x256 .f32) :
    k0_pay12 (F := Ideal) v x (k0_pay11 (F := Ideal) x) (Scalar.ofBits .f32 0x43800000#32) g = k0_pay2 (F := Ideal) v x g := rfl
theorem p9 (v : FVec Ideal S1x256 .f32) (x g : FVec Ideal S192x256 .f32) : k0_pay1 (F := Ideal) (k0_pay13 (F := Ideal) v x) g (k0_pay14 (F := Ideal) g) (k0_pay15 (F := Ideal)) = k0_pay2 (F := Ideal) v x g := rfl

theorem out_eq (x g : FVec Ideal S192x2048 .f32) (v : FVec Ideal S1x256 .f32) : out0_3 (F := Ideal) x g v = tile x g v := by
  unfold out0_3
  rw [View.ld_unit_zero vec2_zero, p3, p4, p5, p6, p7, p8, p9]
  funext y
  refine canon_of_agree (Val := Elt Ideal) (tile x g v) _ y (cover0_3 ..) ?_
  intro pc hpc
  rcases List.mem_cons.1 hpc with rfl | hpc
  · exact fun y => piece x g v 1792 inb_S192x2048_S192x256_0_1792 (by omega) (by omega) y
  rcases List.mem_cons.1 hpc with rfl | hpc
  · exact fun y => piece x g v 1536 inb_S192x2048_S192x256_0_1536 (by omega) (by omega) y
  rcases List.mem_cons.1 hpc with rfl | hpc
  · exact fun y => piece x g v 1280 inb_S192x2048_S192x256_0_1280 (by omega) (by omega) y
  rcases List.mem_cons.1 hpc with rfl | hpc
  · exact fun y => piece x g v 1024 inb_S192x2048_S192x256_0_1024 (by omega) (by omega) y
  rcases List.mem_cons.1 hpc with rfl | hpc
  · exact fun y => piece x g v 768 inb_S192x2048_S192x256_0_768 (by omega) (by omega) y
  rcases List.mem_cons.1 hpc with rfl | hpc
  · exact fun y => piece x g v 512 inb_S192x2048_S192x256_0_512 (by omega) (by omega) y
  rcases List.mem_cons.1 hpc with rfl | hpc
  · exact fun y => piece x g v 256 inb_S192x2048_S192x256_0_256 (by omega) (by omega) y
  rcases List.mem_cons.1 hpc with rfl | hpc
  · exact fun y => piece x g v 0 inb_S192x2048_S192x256_0_0 (by omega) (by omega) y
  · cases hpc

/-- The result at a row and a column. -/
def res (x : FVec Ideal S8256x2048 .f32) (p : FVec Ideal S8256x6144 .f32) (v : FVec Ideal S1x256 .f32) (R : Fin 8256) (C : Fin 2048) : EReal :=
  gatedNorm (fun j => (x (ix2 R (inHead C j (by omega))) : EReal)) (x (ix2 R C)) (v (ix2 0 ⟨C.1 % 256, by omega⟩)) (p (ix2 R ⟨4096 + C.1, by omega⟩))

/-- The result: every head normed, weighted and gated. -/
def G (x : FVec Ideal S8256x2048 .f32) (p : FVec Ideal S8256x6144 .f32) (v : FVec Ideal S1x256 .f32) : FVec Ideal S8256x2048 .bf16 :=
  fun y => res x p v (y 0) (y 1)

variable (m : (ℓ : Loc nD τ sig) → Buf (Elt Ideal) ℓ) (c : Dev nD)

theorem iblk0 (t : Fin cfg0.N) (R : Fin 192) (C : Fin 2048) (h : t.1 * 192 + R.1 < 8256) :
    (iblk m c 0 t : FVec Ideal S192x2048 .f32) (ix2 R C) = (V m c main_arg0 : FVec Ideal S8256x2048 .f32) (ix2 ⟨t.1 * 192 + R.1, h⟩ C) := by
  obtain ⟨e0, e1⟩ := idx0 t
  refine congrArg (V m c main_arg0) (funext fun a => Fin.ext ?_)
  match a with
  | ⟨0, _⟩ => show win0_0.index t (0 : Fin 2) * 192 + 1 * R.1 = t.1 * 192 + R.1; omega
  | ⟨1, _⟩ => show win0_0.index t (1 : Fin 2) * 2048 + 1 * C.1 = C.1; omega

theorem iblk1 (t : Fin cfg0.N) (R : Fin 192) (C : Fin 2048) (h : t.1 * 192 + R.1 < 8256) (h' : 4096 + C.1 < 6144) :
    (iblk m c 1 t : FVec Ideal S192x2048 .f32) (ix2 R C) = (V m c main_arg1 : FVec Ideal S8256x6144 .f32) (ix2 ⟨t.1 * 192 + R.1, h⟩ ⟨4096 + C.1, h'⟩) := by
  obtain ⟨e0, e1⟩ := idx1 t
  refine congrArg (V m c main_arg1) (funext fun a => Fin.ext ?_)
  match a with
  | ⟨0, _⟩ => show win0_1.index t (0 : Fin 2) * 192 + 1 * R.1 = t.1 * 192 + R.1; omega
  | ⟨1, _⟩ => show win0_1.index t (1 : Fin 2) * 2048 + 1 * C.1 = 4096 + C.1; omega

theorem iblk2 (t : Fin cfg0.N) (C : Fin 256) :
    (iblk m c 2 t : FVec Ideal S1x256 .f32) (ix2 0 C) = (V m c main_arg2 : FVec Ideal S1x256 .f32) (ix2 0 C) := by
  obtain ⟨e0, e1⟩ := idx2 t
  refine congrArg (V m c main_arg2) (funext fun a => Fin.ext ?_)
  match a with
  | ⟨0, _⟩ => show win0_2.index t (0 : Fin 2) * 1 + 1 * 0 = 0; omega
  | ⟨1, _⟩ => show win0_2.index t (1 : Fin 2) * 256 + 1 * C.1 = C.1; omega

theorem emb3 (t : Fin cfg0.N) (R : Fin 192) (C : Fin 2048) (h : t.1 * 192 + R.1 < 8256) :
    ((cfg0.win 3).blk t).view.emb (ix2 R C) = ix2 ⟨t.1 * 192 + R.1, h⟩ C := by
  obtain ⟨e0, e1⟩ := idx3 t
  funext a; apply Fin.ext
  match a with
  | ⟨0, _⟩ => show win0_3.index t (0 : Fin 2) * 192 + 1 * R.1 = t.1 * 192 + R.1; omega
  | ⟨1, _⟩ => show win0_3.index t (1 : Fin 2) * 2048 + 1 * C.1 = C.1; omega

theorem final : (dats m 0 c).arrAt 3 cfg0.N = G (m ((c : Thread nD τ).loc main_arg0)) (m ((c : Thread nD τ).loc main_arg1)) (m ((c : Thread nD τ).loc main_arg2)) := by
  refine (dats m 0 c).arrAt_eq_of_cover 3 _ (fun t _ => ?_) fun y => ?_
  · have hN : t.1 < 43 := lt_of_lt_of_eq t.isLt N_0
    rw [flushed3, out_eq]
    funext y
    obtain ⟨R, C, rfl⟩ : ∃ (R : Fin 192) (C : Fin 2048), y = ix2 R C := ⟨y 0, y 1, eq_ix2 y⟩
    refine Eq.trans ?_ (congrArg (G _ _ _) (emb3 t R C (by omega))).symm
    show gatedNorm (fun j => ((iblk m c 0 t : FVec Ideal S192x2048 .f32) (ix2 R (inHead C j _)) : EReal)) ((iblk m c 0 t : FVec Ideal S192x2048 .f32) (ix2 R C))
      ((iblk m c 2 t : FVec Ideal S1x256 .f32) (ix2 0 ⟨C.1 % 256, _⟩)) ((iblk m c 1 t : FVec Ideal S192x2048 .f32) (ix2 R C)) = _
    rw [iblk0 m c t R C (by omega), iblk1 m c t R C (by omega) (by omega), iblk2 m c t,
      show (fun j : Fin 256 => ((iblk m c 0 t : FVec Ideal S192x2048 .f32) (ix2 R (inHead C j (by omega))) : EReal)) = _ from
        funext fun j => iblk0 m c t R (inHead C j (by omega)) (by omega)]
    rfl
  · obtain ⟨R, C, rfl⟩ : ∃ (R : Fin 8256) (C : Fin 2048), y = ix2 R C := ⟨y 0, y 1, eq_ix2 y⟩
    have ht : R.1 / 192 < cfg0.N := lt_of_lt_of_eq (by omega) N_0.symm
    refine ⟨⟨_, ht⟩, flush0_3 _, ?_⟩
    have h := ((cfg0.win 3).blk ⟨_, ht⟩).view.emb_mem_set (ix2 (⟨R.1 % 192, by omega⟩ : Fin 192) C)
    rw [emb3 _ _ _ (by dsimp only; omega)] at h
    refine (congrArg (· ∈ ((cfg0.win 3).blk ⟨_, ht⟩).view.set) (congrArg₂ ix2 (Fin.ext ?_) rfl)).mp h
    dsimp only; omega

end Cert.Kernel26Ideal.Value

namespace Cert.Reference26Ideal.Value

open Cert.Reference26Ideal Cert.Reference26Ideal.Gen Idealize.ShloMosaic

theorem ref_eq (x : FVec Ideal S8256x2048 .f32) (p : FVec Ideal S8256x6144 .f32) (v : FVec Ideal S1x256 .f32) :
    (truncf (F := Ideal) (φ := .f32) .bf16 (shapeCast S8256x2048 (mulf (mulf (mulf (shapeCast S8256x8x256 x shapeCasts_S8256x2048_S8256x8x256) (broadcastInDim S8256x8x256 ![0, 1, 2] bcast_S8256x8x1_S8256x8x256_0_1_2 (Host.rsqrt (addf (Host.divf (broadcastInDim S8256x8x1 ![0, 1] bcast_S8256x8_S8256x8x1_0_1 (Host.reduceAdd (mulf (shapeCast S8256x8x256 x shapeCasts_S8256x2048_S8256x8x256) (shapeCast S8256x8x256 x shapeCasts_S8256x2048_S8256x8x256)) (constant S_ .f32 0x00000000#32) reducesTo_S8256x8x256_S8256x8_d2 h_S_)) (broadcastInDim S8256x8x1 ![] bcast_S_S8256x8x1 (constant S_ .f32 0x43800000#32))) (broadcastInDim S8256x8x1 ![] bcast_S_S8256x8x1 (constant S_ .f32 0x358637BD#32)))))) (broadcastInDim S8256x8x256 ![0, 1, 2] bcast_S1x1x256_S8256x8x256_0_1_2 (broadcastInDim S1x1x256 ![1, 2] bcast_S1x256_S1x1x256_1_2 v))) (mulf (shapeCast S8256x8x256 (extractStridedSlice S8256x2048 ![0, 4096] p slices_S8256x6144_S8256x2048_0_4096) shapeCasts_S8256x2048_S8256x8x256) (Host.divf (broadcastInDim S8256x8x256 ![] bcast_S_S8256x8x256 (constant S_ .f32 0x3F800000#32)) (addf (broadcastInDim S8256x8x256 ![] bcast_S_S8256x8x256 (constant S_ .f32 0x3F800000#32)) (Host.exp (Host.negf (shapeCast S8256x8x256 (extractStridedSlice S8256x2048 ![0, 4096] p slices_S8256x6144_S8256x2048_0_4096) shapeCasts_S8256x2048_S8256x8x256))))))) shapeCasts_S8256x8x256_S8256x2048) bitsLt_bf16_f32 : FVec Ideal S8256x2048 .bf16)
      = Cert.Kernel26Ideal.Value.G x p v := by
  funext y
  obtain ⟨R, C, rfl⟩ : ∃ (R : Fin 8256) (C : Fin 2048), y = ix2 R C := ⟨y 0, y 1, eq_ix2 y⟩
  show _ = Cert.Kernel26Ideal.Value.res x p v R C
  unfold Cert.Kernel26Ideal.Value.res Cert.Kernel26Ideal.Value.gatedNorm meanSq
  pointwise

end Cert.Reference26Ideal.Value

namespace Cert.Proof

open Idealize.ShloMosaic Idealize.ShloMosaic.TcCoe Idealize.SL.Sem

theorem gnormf_frame : quiescent_Kernel26 := fun m ρ _ => Cert.Kernel26.Gen.frame m ρ
theorem gnormf_frameI : quiescent_Kernel26Ideal := fun m ρ _ => Cert.Kernel26Ideal.Gen.frame m ρ
theorem gnormf_frameR : quiescent_Reference26Ideal := fun m ρ _ =>
  (θ_run Cert.Reference26Ideal.defs _ _).mono (fun r h => ⟨fun c => (h c).2, sem_eq_zero_of_no_sems (by decide) _⟩) (Cert.Reference26Ideal.Value.run m ρ)

theorem gnormf_value : algebraic_Kernel26Ideal_Reference26Ideal := fun m ρ m' ρ' _ hag => by
  refine ⟨fun c => Cert.Kernel26Ideal.Value.G (m ((c : Thread Cert.Kernel26Ideal.nD Cert.Kernel26Ideal.τ).loc Cert.Kernel26Ideal.main_arg0))
    (m ((c : Thread Cert.Kernel26Ideal.nD Cert.Kernel26Ideal.τ).loc Cert.Kernel26Ideal.main_arg1))
    (m ((c : Thread Cert.Kernel26Ideal.nD Cert.Kernel26Ideal.τ).loc Cert.Kernel26Ideal.main_arg2)), ?_, ?_⟩
  · exact (θ_run Cert.Kernel26Ideal.defs _ _).mono (fun r h c => ⟨(h c).1.trans (Cert.Kernel26Ideal.Value.final m c), (h c).2⟩)
      (Cert.Kernel26Ideal.Value.run_blocks m ρ)
  · refine (θ_run Cert.Reference26Ideal.defs _ _).mono (fun r h c => ⟨(h c).1.trans ?_, (h c).2⟩) (Cert.Reference26Ideal.Value.run m' ρ')
    rw [(hag c).1, (hag c).2.1, (hag c).2.2]
    exact Cert.Reference26Ideal.Value.ref_eq _ _ _

end Cert.Proof
end
-- ==== Proof.Embed.lean ====
module

public import proofs.«01_k».proof.Defs
public import proofs.«01_k».proof.Proof.Common
public import proofs.«01_k».proof.Proof.Rms
public import proofs.«01_k».proof.Proof.Gen.Kernel27.Frame
public import proofs.«01_k».proof.Proof.Gen.Kernel27Ideal.Value
public import proofs.«01_k».proof.Proof.Gen.Reference27Ideal.Run
public import Idealize.ShloMosaic.Lib.Quiescent

/-! The first layer's argument and its norm. A grid point writes three chunks of 64 rows; the first chunk of all is 48 rows of zeros and the 16 meta tokens,
every other one 64 tokens. The reference puts the three arrays one after another and norms every row. -/

@[expose] public section

set_option maxRecDepth 16384

noncomputable section

namespace Cert.Kernel27Ideal.Value

open Cert.Kernel27Ideal Cert.Kernel27Ideal.Gen Idealize.ShloMosaic Idealize.ShloMosaic.TcCoe Idealize.SL.Sem

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 3 * t.1 - 1 ∧ win0_2.index t (1 : Fin 2) = 0 := (by decide +kernel : ∀ t : Fin grid0.N, _)
theorem idx3 : ∀ t : Fin cfg0.N, win0_3.index t (0 : Fin 2) = 3 * t.1 ∧ win0_3.index t (1 : Fin 2) = 0 := (by decide +kernel : ∀ t : Fin grid0.N, _)
theorem idx4 : ∀ t : Fin cfg0.N, win0_4.index t (0 : Fin 2) = 3 * t.1 + 1 ∧ win0_4.index t (1 : Fin 2) = 0 := (by decide +kernel : ∀ t : Fin grid0.N, _)
theorem idx5 : ∀ t : Fin cfg0.N, win0_5.index t (0 : Fin 2) = t.1 ∧ win0_5.index t (1 : Fin 2) = 0 := (by decide +kernel : ∀ t : Fin grid0.N, _)
theorem idx6 : ∀ t : Fin cfg0.N, win0_6.index t (0 : Fin 2) = t.1 ∧ win0_6.index t (1 : Fin 2) = 0 := (by decide +kernel : ∀ t : Fin grid0.N, _)
theorem coord : ∀ t : Fin cfg0.N, (grid0.coords t 0).val = t.1 := (by decide +kernel : ∀ t : Fin grid0.N, _)

theorem word (a : Fin 43) : ∀ n : Fin 3, Scalar.cmpi .sgt (Scalar.addi (Scalar.muli (BitVec.ofNat 32 a.val) 3#32) (BitVec.ofNat 32 n.val)) 0#32
    = if 0 < a.val * 3 + n.val then 1#1 else 0#1 := by
  revert a
  decide +kernel

theorem word0 (a : ℕ) (ha : a < 43) : Scalar.cmpi .sgt (Scalar.addi (Scalar.muli (BitVec.ofNat 32 a) 3#32) 0#32) 0#32 = if 0 < a * 3 + 0 then 1#1 else 0#1 :=
  word ⟨a, ha⟩ 0
theorem word1 (a : ℕ) (ha : a < 43) : Scalar.cmpi .sgt (Scalar.addi (Scalar.muli (BitVec.ofNat 32 a) 3#32) 1#32) 0#32 = 1#1 :=
  (word ⟨a, ha⟩ 1).trans (if_pos (Nat.succ_pos _))
theorem word2 (a : ℕ) (ha : a < 43) : Scalar.cmpi .sgt (Scalar.addi (Scalar.muli (BitVec.ofNat 32 a) 3#32) 2#32) 0#32 = 1#1 :=
  (word ⟨a, ha⟩ 2).trans (if_pos (Nat.succ_pos _))

/-- The layer's argument at a row and a column. -/
def emb (x : FVec Ideal S8192x1024 .f32) (mt : FVec Ideal S16x1024 .f32) (R : Fin 8256) (C : Fin 1024) : EReal :=
  if R.1 < 48 then 0 else if h : R.1 < 64 then mt (ix2 ⟨(R.1 - 48) % 16, by omega⟩ C) else x (ix2 ⟨R.1 - 64, by omega⟩ C)

theorem emb_pad (x : FVec Ideal S8192x1024 .f32) (mt : FVec Ideal S16x1024 .f32) (R : Fin 8256) (C : Fin 1024) (h : R.1 < 48) : emb x mt R C = 0 := if_pos h
theorem emb_meta (x : FVec Ideal S8192x1024 .f32) (mt : FVec Ideal S16x1024 .f32) (R : Fin 16) (C : Fin 1024) (h : 48 + R.1 < 8256) :
    emb x mt ⟨48 + R.1, h⟩ C = mt (ix2 R C) := by
  unfold emb
  rw [if_neg (by dsimp only; omega), dif_pos (by dsimp only; omega)]
  exact congrArg (fun k : Fin 16 => (mt (ix2 k C) : EReal)) (Fin.ext (by dsimp only; omega))
theorem emb_tok (x : FVec Ideal S8192x1024 .f32) (mt : FVec Ideal S16x1024 .f32) (R : Fin 8192) (C : Fin 1024) (h : 64 + R.1 < 8256) :
    emb x mt ⟨64 + R.1, h⟩ C = x (ix2 R C) := by
  unfold emb
  rw [if_neg (by dsimp only; omega), dif_neg (by dsimp only; omega)]
  exact congrArg (fun k : Fin 8192 => (x (ix2 k C) : EReal)) (Fin.ext (by dsimp only; omega))

theorem pad_at (mt : FVec Ideal S16x1024 .f32) (R : Fin 48) (C : Fin 1024) (h : R.1 < 64) : (k0_pay4 (F := Ideal) mt (ix2 ⟨R.1, h⟩ C) : EReal) = 0 := by
  unfold k0_pay4
  pointwise
theorem meta_at (mt : FVec Ideal S16x1024 .f32) (R : Fin 16) (C : Fin 1024) (h : 48 + R.1 < 64) :
    (k0_pay4 (F := Ideal) mt (ix2 ⟨48 + R.1, h⟩ C) : EReal) = mt (ix2 R C) := by
  unfold k0_pay4
  pointwise

/-- The first chunk. -/
theorem first (x : FVec Ideal S8192x1024 .f32) (mt : FVec Ideal S16x1024 .f32) (R : Fin 64) (C : Fin 1024) (h : R.1 < 8256) :
    (k0_pay4 (F := Ideal) mt (ix2 R C) : EReal) = emb x mt ⟨R.1, h⟩ C := by
  by_cases hR : R.1 < 48
  · rw [emb_pad _ _ _ _ hR]
    exact pad_at mt ⟨R.1, hR⟩ C R.isLt
  · have e : R = ⟨48 + (R.1 - 48), by omega⟩ := Fin.ext (by dsimp only; omega)
    have e' : (⟨R.1, h⟩ : Fin 8256) = ⟨48 + (R.1 - 48), by omega⟩ := Fin.ext (by dsimp only; omega)
    rw [e']
    refine Eq.trans ?_ (emb_meta x mt ⟨R.1 - 48, by omega⟩ C (by dsimp only; omega)).symm
    refine Eq.trans (congrArg (fun k : Fin 64 => (k0_pay4 (F := Ideal) mt (ix2 k C) : EReal)) e) ?_
    exact meta_at mt ⟨R.1 - 48, by omega⟩ C (by dsimp only; omega)

theorem norm_at (v : FVec Ideal S1x1024 .f32) (X : FVec Ideal S64x1024 .f32) (R : Fin 64) (C : Fin 1024) :
    (k0_pay1 (F := Ideal) v X (mulf X X) (ix2 R C) : EReal) = rms (fun j => (X (ix2 R j) : EReal)) (X (ix2 R C)) (v (ix2 0 C)) := by
  unfold k0_pay1 rms
  pointwise

theorem n0 (i : grid0.Coords) (mt : FVec Ideal S16x1024 .f32) (v : FVec Ideal S1x1024 .f32) (X : FVec Ideal S64x1024 .f32) :
    k0_pay6 (F := Ideal) i mt v X = k0_pay1 (F := Ideal) v (k0_pay5 (F := Ideal) i mt X) (mulf (k0_pay5 (F := Ideal) i mt X) (k0_pay5 (F := Ideal) i mt X)) := rfl
theorem n1 (i : grid0.Coords) (mt : FVec Ideal S16x1024 .f32) (X : FVec Ideal S64x1024 .f32) :
    k0_pay8 (F := Ideal) i mt X = mulf (k0_pay7 (F := Ideal) i mt X) (k0_pay7 (F := Ideal) i mt X) := rfl
theorem n2 (a : BitVec 32) (p : FVec Ideal S64x1024 .f32) (v : FVec Ideal S1x1024 .f32) (X : FVec Ideal S64x1024 .f32) :
    k0_pay3 (F := Ideal) a p v X = k0_pay1 (F := Ideal) v (k0_pay2 (F := Ideal) a p X) (mulf (k0_pay2 (F := Ideal) a p X) (k0_pay2 (F := Ideal) a p X)) := rfl

theorem sel0 (i : grid0.Coords) (h : (i 0).val < 43) (mt : FVec Ideal S16x1024 .f32) (X : FVec Ideal S64x1024 .f32) :
    k0_pay5 (F := Ideal) i mt X = if 0 < (i 0).val * 3 + 0 then X else k0_pay4 (F := Ideal) mt := by
  unfold k0_pay5
  dsimp only
  rw [word0 _ h]
  split
  · exact if_pos rfl
  · exact if_neg (by decide)
theorem sel1 (i : grid0.Coords) (h : (i 0).val < 43) (mt : FVec Ideal S16x1024 .f32) (X : FVec Ideal S64x1024 .f32) :
    k0_pay7 (F := Ideal) i mt X = X := by
  unfold k0_pay7
  dsimp only
  rw [word1 _ h]
  exact if_pos rfl
theorem sel2 (a : ℕ) (h : a < 43) (p : FVec Ideal S64x1024 .f32) (X : FVec Ideal S64x1024 .f32) :
    k0_pay2 (F := Ideal) (BitVec.ofNat 32 a) p X = X := by
  unfold k0_pay2
  dsimp only
  rw [word2 _ h]
  exact if_pos rfl

/-- The layer's argument. -/
def H (x : FVec Ideal S8192x1024 .f32) (mt : FVec Ideal S16x1024 .f32) : FVec Ideal S8256x1024 .f32 := fun y => emb x mt (y 0) (y 1)

/-- Its norm at a row and a column. -/
def nrm (x : FVec Ideal S8192x1024 .f32) (mt : FVec Ideal S16x1024 .f32) (w : FVec Ideal S1x1024 .f32) (R : Fin 8256) (C : Fin 1024) : EReal :=
  rms (fun j => emb x mt R j) (emb x mt R C) (w (ix2 0 C))

/-- Its norm. -/
def HN (x : FVec Ideal S8192x1024 .f32) (mt : FVec Ideal S16x1024 .f32) (w : FVec Ideal S1x1024 .f32) : FVec Ideal S8256x1024 .bf16 :=
  fun y => nrm x mt w (y 0) (y 1)

/-- A chunk whose first row is the `r`-th. -/
def IsChunk (x : FVec Ideal S8192x1024 .f32) (mt : FVec Ideal S16x1024 .f32) (r : ℕ) (hr : r + 64 ≤ 8256) (X : FVec Ideal S64x1024 .f32) : Prop :=
  ∀ (R : Fin 64) (C : Fin 1024), (X (ix2 R C) : EReal) = emb x mt ⟨r + R.1, by omega⟩ C

section
variable (x : FVec Ideal S8192x1024 .f32) (mt : FVec Ideal S16x1024 .f32) (w : FVec Ideal S1x1024 .f32) (r : ℕ) (hr : r + 192 ≤ 8256)

def tileH : FVec Ideal S192x1024 .f32 := fun y => emb x mt ⟨r + (y 0 : Fin 192).1, by have : (y 0 : Fin 192).1 < 192 := (y 0).isLt; omega⟩ (y 1)
def tileN : FVec Ideal S192x1024 .bf16 := fun y => nrm x mt w ⟨r + (y 0 : Fin 192).1, by have : (y 0 : Fin 192).1 < 192 := (y 0).isLt; omega⟩ (y 1)

variable {a : ℕ} (inb : ∀ k, (![a, 0] : Fin 2 → ℕ) k + S64x1024.size k ≤ S192x1024.size k) (ha : a + 64 ≤ 192)

theorem piece_h {X : FVec Ideal S64x1024 .f32} (h : IsChunk x mt (r + a) (by omega) X) (y : S64x1024.Idx) :
    (X y : EReal) = tileH x mt r hr ((Rect.unit (s := S192x1024) ![a, 0] S64x1024.size inb).emb y) := by
  obtain ⟨R, C, rfl⟩ : ∃ (R : Fin 64) (C : Fin 1024), y = ix2 R C := ⟨y 0, y 1, eq_ix2 y⟩
  refine (h R C).trans (congrArg₂ (emb x mt) (Fin.ext ?_) (Fin.ext ?_))
  · show r + a + R.1 = r + (a + 1 * R.1); omega
  · show C.1 = 0 + 1 * C.1; omega

theorem piece_n {X : FVec Ideal S64x1024 .f32} (h : IsChunk x mt (r + a) (by omega) X) (y : S64x1024.Idx) :
    (k0_pay1 (F := Ideal) w X (mulf X X) y : EReal) = tileN x mt w r hr ((Rect.unit (s := S192x1024) ![a, 0] S64x1024.size inb).emb y) := by
  obtain ⟨R, C, rfl⟩ : ∃ (R : Fin 64) (C : Fin 1024), y = ix2 R C := ⟨y 0, y 1, eq_ix2 y⟩
  rw [norm_at, h R C, show (fun j : Fin 1024 => (X (ix2 R j) : EReal)) = _ from funext fun j => h R j]
  refine congrArg₂ (nrm x mt w) (Fin.ext ?_) (Fin.ext ?_)
  · show r + a + R.1 = r + (a + 1 * R.1); omega
  · show C.1 = 0 + 1 * C.1; omega

end

section
variable (x : FVec Ideal S8192x1024 .f32) (mt : FVec Ideal S16x1024 .f32) (w : FVec Ideal S1x1024 .f32) (r : ℕ) (hr : r + 192 ≤ 8256)
variable (i : grid0.Coords) (hi : (i 0).val < 43) (x2 x3 x4 : FVec Ideal S64x1024 .f32)
  (h0 : IsChunk x mt (r + 0) (by omega) (k0_pay5 (F := Ideal) i mt x2)) (h1 : IsChunk x mt (r + 64) (by omega) x3) (h2 : IsChunk x mt (r + 128) (by omega) x4)
include h0 h1 h2 hi

theorem out5 : out0_5 (F := Ideal) i mt w x2 x3 x4 = tileH x mt r hr := by
  unfold out0_5
  rw [View.ld_unit_zero vec2_zero, View.ld_unit_zero vec2_zero, View.ld_unit_zero vec2_zero, View.ld_unit_zero vec2_zero, sel1 i hi, sel2 _ hi]
  funext y
  refine canon_of_agree (Val := Elt Ideal) (tileH x mt r hr) _ y (cover0_5 ..) ?_
  intro pc hpc
  rcases List.mem_cons.1 hpc with rfl | hpc
  · exact fun y => piece_h x mt r hr inb_S192x1024_S64x1024_128_0 (by omega) h2 y
  rcases List.mem_cons.1 hpc with rfl | hpc
  · exact fun y => piece_h x mt r hr inb_S192x1024_S64x1024_64_0 (by omega) h1 y
  rcases List.mem_cons.1 hpc with rfl | hpc
  · exact fun y => piece_h x mt r hr inb_S192x1024_S64x1024_0_0 (by omega) h0 y
  · cases hpc

theorem out6 : out0_6 (F := Ideal) i mt w x2 x3 x4 = tileN x mt w r hr := by
  unfold out0_6
  rw [View.ld_unit_zero vec2_zero, View.ld_unit_zero vec2_zero, View.ld_unit_zero vec2_zero, View.ld_unit_zero vec2_zero, View.ld_unit_zero vec2_zero,
    n0, n1, n2, sel1 i hi, sel2 _ hi]
  funext y
  refine canon_of_agree (Val := Elt Ideal) (tileN x mt w r hr) _ y (cover0_6 ..) ?_
  intro pc hpc
  rcases List.mem_cons.1 hpc with rfl | hpc
  · exact fun y => piece_n x mt w r hr inb_S192x1024_S64x1024_128_0 (by omega) h2 y
  rcases List.mem_cons.1 hpc with rfl | hpc
  · exact fun y => piece_n x mt w r hr inb_S192x1024_S64x1024_64_0 (by omega) h1 y
  rcases List.mem_cons.1 hpc with rfl | hpc
  · exact fun y => piece_n x mt w r hr inb_S192x1024_S64x1024_0_0 (by omega) h0 y
  · cases hpc
end

variable (m : (ℓ : Loc nD τ sig) → Buf (Elt Ideal) ℓ) (c : Dev nD)

theorem iblk0 (t : Fin cfg0.N) : (iblk m c 0 t : FVec Ideal S16x1024 .f32) = (V m c main_arg1 : FVec Ideal S16x1024 .f32) := by
  funext y
  obtain ⟨R, C, rfl⟩ : ∃ (R : Fin 16) (C : Fin 1024), y = ix2 R C := ⟨y 0, y 1, eq_ix2 y⟩
  obtain ⟨e0, e1⟩ := idx0 t
  refine congrArg (V m c main_arg1) (funext fun a => Fin.ext ?_)
  match a with
  | ⟨0, _⟩ => show win0_0.index t (0 : Fin 2) * 16 + 1 * R.1 = R.1; omega
  | ⟨1, _⟩ => show win0_0.index t (1 : Fin 2) * 1024 + 1 * C.1 = C.1; omega

theorem iblk1 (t : Fin cfg0.N) : (iblk m c 1 t : FVec Ideal S1x1024 .f32) = (V m c main_arg2 : FVec Ideal S1x1024 .f32) := by
  funext y
  obtain ⟨R, C, rfl⟩ : ∃ (R : Fin 1) (C : Fin 1024), y = ix2 R C := ⟨y 0, y 1, eq_ix2 y⟩
  obtain ⟨e0, e1⟩ := idx1 t
  refine congrArg (V m c main_arg2) (funext fun a => Fin.ext ?_)
  match a with
  | ⟨0, _⟩ => show win0_1.index t (0 : Fin 2) * 1 + 1 * R.1 = R.1; omega
  | ⟨1, _⟩ => show win0_1.index t (1 : Fin 2) * 1024 + 1 * C.1 = C.1; omega

theorem row_le (t : Fin cfg0.N) : t.1 * 192 + 192 ≤ 8256 := by
  have hN : t.1 < 43 := lt_of_lt_of_eq t.isLt N_0
  omega

theorem tok (x : FVec Ideal S8192x1024 .f32) (mt : FVec Ideal S16x1024 .f32) (k : Fin 8192) (R : Fin 8256) (C : Fin 1024) (h : R.1 = 64 + k.1) :
    (x (ix2 k C) : EReal) = emb x mt R C := by
  rw [show R = ⟨64 + k.1, by omega⟩ from Fin.ext h]
  exact (emb_tok x mt k C _).symm

theorem chunk0 (t : Fin cfg0.N) : IsChunk (V m c main_arg0) (V m c main_arg1) (t.1 * 192 + 0) (by have := row_le t; omega)
    (k0_pay5 (F := Ideal) (grid0.coords t) (V m c main_arg1 : FVec Ideal S16x1024 .f32) (iblk m c 2 t : FVec Ideal S64x1024 .f32)) := by
  have hN : t.1 < 43 := lt_of_lt_of_eq t.isLt N_0
  intro R C
  rw [sel0 _ (by rw [coord]; exact hN), coord]
  by_cases h : 0 < t.1 * 3 + 0
  · rw [if_pos h]
    refine Eq.trans ?_ (tok (V m c main_arg0) (V m c main_arg1) ⟨t.1 * 192 + R.1 - 64, by omega⟩ _ C (by dsimp only; omega))
    obtain ⟨e0, e1⟩ := idx2 t
    refine congrArg (V m c main_arg0) (funext fun a => Fin.ext ?_)
    match a with
    | ⟨0, _⟩ => show win0_2.index t (0 : Fin 2) * 64 + 1 * R.1 = t.1 * 192 + R.1 - 64; omega
    | ⟨1, _⟩ => show win0_2.index t (1 : Fin 2) * 1024 + 1 * C.1 = C.1; omega
  · rw [if_neg h]
    refine (first (V m c main_arg0) _ R C (by omega)).trans (congrArg (fun k : Fin 8256 => emb _ _ k C) (Fin.ext ?_))
    dsimp only; omega

theorem chunk1 (t : Fin cfg0.N) : IsChunk (V m c main_arg0) (V m c main_arg1) (t.1 * 192 + 64) (by have := row_le t; omega) (iblk m c 3 t : FVec Ideal S64x1024 .f32) := by
  have hN : t.1 < 43 := lt_of_lt_of_eq t.isLt N_0
  intro R C
  refine Eq.trans ?_ (tok (V m c main_arg0) (V m c main_arg1) ⟨t.1 * 192 + R.1, by omega⟩ _ C (by dsimp only; omega))
  obtain ⟨e0, e1⟩ := idx3 t
  refine congrArg (V m c main_arg0) (funext fun a => Fin.ext ?_)
  match a with
  | ⟨0, _⟩ => show win0_3.index t (0 : Fin 2) * 64 + 1 * R.1 = t.1 * 192 + R.1; omega
  | ⟨1, _⟩ => show win0_3.index t (1 : Fin 2) * 1024 + 1 * C.1 = C.1; omega

theorem chunk2 (t : Fin cfg0.N) : IsChunk (V m c main_arg0) (V m c main_arg1) (t.1 * 192 + 128) (by have := row_le t; omega) (iblk m c 4 t : FVec Ideal S64x1024 .f32) := by
  have hN : t.1 < 43 := lt_of_lt_of_eq t.isLt N_0
  intro R C
  refine Eq.trans ?_ (tok (V m c main_arg0) (V m c main_arg1) ⟨t.1 * 192 + 64 + R.1, by omega⟩ _ C (by dsimp only; omega))
  obtain ⟨e0, e1⟩ := idx4 t
  refine congrArg (V m c main_arg0) (funext fun a => Fin.ext ?_)
  match a with
  | ⟨0, _⟩ => show win0_4.index t (0 : Fin 2) * 64 + 1 * R.1 = t.1 * 192 + 64 + R.1; omega
  | ⟨1, _⟩ => show win0_4.index t (1 : Fin 2) * 1024 + 1 * C.1 = C.1; omega

theorem emb5 (t : Fin cfg0.N) (R : Fin 192) (C : Fin 1024) (h : t.1 * 192 + R.1 < 8256) :
    ((cfg0.win 5).blk t).view.emb (ix2 R C) = ix2 ⟨t.1 * 192 + R.1, h⟩ C := by
  obtain ⟨e0, e1⟩ := idx5 t
  funext a; apply Fin.ext
  match a with
  | ⟨0, _⟩ => show win0_5.index t (0 : Fin 2) * 192 + 1 * R.1 = t.1 * 192 + R.1; omega
  | ⟨1, _⟩ => show win0_5.index t (1 : Fin 2) * 1024 + 1 * C.1 = C.1; omega

theorem cover5 (y : S8256x1024.Idx) : ∃ t : Fin cfg0.N, (cfg0.win 5).flush t = true ∧ y ∈ ((cfg0.win 5).blk t).view.set := by
  obtain ⟨R, C, rfl⟩ : ∃ (R : Fin 8256) (C : Fin 1024), y = ix2 R C := ⟨y 0, y 1, eq_ix2 y⟩
  have ht : R.1 / 192 < cfg0.N := lt_of_lt_of_eq (by omega) N_0.symm
  refine ⟨⟨_, ht⟩, flush0_5 _, ?_⟩
  have h := ((cfg0.win 5).blk ⟨_, ht⟩).view.emb_mem_set (ix2 (⟨R.1 % 192, by omega⟩ : Fin 192) C)
  rw [emb5 _ _ _ (by dsimp only; omega)] at h
  refine (congrArg (· ∈ ((cfg0.win 5).blk ⟨_, ht⟩).view.set) (congrArg₂ ix2 (Fin.ext ?_) rfl)).mp h
  dsimp only; omega

theorem emb6 (t : Fin cfg0.N) (R : Fin 192) (C : Fin 1024) (h : t.1 * 192 + R.1 < 8256) :
    ((cfg0.win 6).blk t).view.emb (ix2 R C) = ix2 ⟨t.1 * 192 + R.1, h⟩ C := by
  obtain ⟨e0, e1⟩ := idx6 t
  funext a; apply Fin.ext
  match a with
  | ⟨0, _⟩ => show win0_6.index t (0 : Fin 2) * 192 + 1 * R.1 = t.1 * 192 + R.1; omega
  | ⟨1, _⟩ => show win0_6.index t (1 : Fin 2) * 1024 + 1 * C.1 = C.1; omega

theorem cover6 (y : S8256x1024.Idx) : ∃ t : Fin cfg0.N, (cfg0.win 6).flush t = true ∧ y ∈ ((cfg0.win 6).blk t).view.set := by
  obtain ⟨R, C, rfl⟩ : ∃ (R : Fin 8256) (C : Fin 1024), y = ix2 R C := ⟨y 0, y 1, eq_ix2 y⟩
  have ht : R.1 / 192 < cfg0.N := lt_of_lt_of_eq (by omega) N_0.symm
  refine ⟨⟨_, ht⟩, flush0_6 _, ?_⟩
  have h := ((cfg0.win 6).blk ⟨_, ht⟩).view.emb_mem_set (ix2 (⟨R.1 % 192, by omega⟩ : Fin 192) C)
  rw [emb6 _ _ _ (by dsimp only; omega)] at h
  refine (congrArg (· ∈ ((cfg0.win 6).blk ⟨_, ht⟩).view.set) (congrArg₂ ix2 (Fin.ext ?_) rfl)).mp h
  dsimp only; omega

theorem final5 : (dats m 0 c).arrAt 5 cfg0.N = H (m ((c : Thread nD τ).loc main_arg0)) (m ((c : Thread nD τ).loc main_arg1)) := by
  refine (dats m 0 c).arrAt_eq_of_cover 5 _ (fun t _ => ?_) fun y => cover5 y
  have hN : t.1 < 43 := lt_of_lt_of_eq t.isLt N_0
  rw [flushed5, iblk0 m c t, iblk1 m c t,
    out5 (V m c main_arg0) (V m c main_arg1) (V m c main_arg2) (t.1 * 192) (row_le t) (grid0.coords t) ((coord t).trans_lt hN) _ _ _ (chunk0 m c t) (chunk1 m c t) (chunk2 m c t)]
  funext y
  obtain ⟨R, C, rfl⟩ : ∃ (R : Fin 192) (C : Fin 1024), y = ix2 R C := ⟨y 0, y 1, eq_ix2 y⟩
  exact (congrArg (H _ _) (emb5 t R C (by omega))).symm

theorem final6 : (dats m 0 c).arrAt 6 cfg0.N
    = HN (m ((c : Thread nD τ).loc main_arg0)) (m ((c : Thread nD τ).loc main_arg1)) (m ((c : Thread nD τ).loc main_arg2)) := by
  refine (dats m 0 c).arrAt_eq_of_cover 6 _ (fun t _ => ?_) fun y => cover6 y
  have hN : t.1 < 43 := lt_of_lt_of_eq t.isLt N_0
  rw [flushed6, iblk0 m c t, iblk1 m c t,
    out6 (V m c main_arg0) (V m c main_arg1) (V m c main_arg2) (t.1 * 192) (row_le t) (grid0.coords t) ((coord t).trans_lt hN) _ _ _ (chunk0 m c t) (chunk1 m c t) (chunk2 m c t)]
  funext y
  obtain ⟨R, C, rfl⟩ : ∃ (R : Fin 192) (C : Fin 1024), y = ix2 R C := ⟨y 0, y 1, eq_ix2 y⟩
  exact (congrArg (HN _ _ _) (emb6 t R C (by omega))).symm

end Cert.Kernel27Ideal.Value

namespace Cert.Reference27Ideal.Value

open Cert.Reference27Ideal Cert.Reference27Ideal.Gen Idealize.ShloMosaic

/-- The three arrays one after another. -/
def cat (x : FVec Ideal S8192x1024 .f32) (mt : FVec Ideal S16x1024 .f32) : FVec Ideal S8256x1024 .f32 :=
  concatenate S8256x1024 0 [⟨S48x1024, (broadcastInDim S48x1024 ![] bcast_S_S48x1024 (constant (F := Ideal) S_ .f32 0x00000000#32))⟩, ⟨S16x1024, mt⟩, ⟨S8192x1024, x⟩]
    concatenates_S48x1024_S16x1024_S8192x1024_S8256x1024_d0

theorem cat_pad (x : FVec Ideal S8192x1024 .f32) (mt : FVec Ideal S16x1024 .f32) (R : Fin 48) (C : Fin 1024) (h : R.1 < 8256) :
    (cat x mt (ix2 ⟨R.1, h⟩ C) : EReal) = 0 := by
  unfold cat
  pointwise
theorem cat_meta (x : FVec Ideal S8192x1024 .f32) (mt : FVec Ideal S16x1024 .f32) (R : Fin 16) (C : Fin 1024) (h : 48 + R.1 < 8256) :
    (cat x mt (ix2 ⟨48 + R.1, h⟩ C) : EReal) = mt (ix2 R C) := by
  unfold cat
  pointwise
theorem cat_tok (x : FVec Ideal S8192x1024 .f32) (mt : FVec Ideal S16x1024 .f32) (R : Fin 8192) (C : Fin 1024) (h : 64 + R.1 < 8256) :
    (cat x mt (ix2 ⟨64 + R.1, h⟩ C) : EReal) = x (ix2 R C) := by
  unfold cat
  pointwise
  rw [dif_neg (by omega), dif_neg (by omega)]
  exact congrArg (fun k : Fin 8192 => (x (ix2 k C) : EReal)) (Fin.ext (by dsimp only; omega))

theorem cat_at (x : FVec Ideal S8192x1024 .f32) (mt : FVec Ideal S16x1024 .f32) (R : Fin 8256) (C : Fin 1024) :
    (cat x mt (ix2 R C) : EReal) = Cert.Kernel27Ideal.Value.emb x mt R C := by
  by_cases h : R.1 < 48
  · rw [Cert.Kernel27Ideal.Value.emb_pad _ _ _ _ h]
    exact cat_pad x mt ⟨R.1, h⟩ C R.isLt
  by_cases h' : R.1 < 64
  · have e : R = ⟨48 + (R.1 - 48), by omega⟩ := Fin.ext (by dsimp only; omega)
    rw [e]
    exact (cat_meta x mt ⟨R.1 - 48, by omega⟩ C (by dsimp only; omega)).trans (Cert.Kernel27Ideal.Value.emb_meta x mt ⟨R.1 - 48, by omega⟩ C (by dsimp only; omega)).symm
  · have e : R = ⟨64 + (R.1 - 64), by omega⟩ := Fin.ext (by dsimp only; omega)
    rw [e]
    exact (cat_tok x mt ⟨R.1 - 64, by omega⟩ C (by dsimp only; omega)).trans (Cert.Kernel27Ideal.Value.emb_tok x mt ⟨R.1 - 64, by omega⟩ C (by dsimp only; omega)).symm

theorem ref_h (x : FVec Ideal S8192x1024 .f32) (mt : FVec Ideal S16x1024 .f32) : cat x mt = Cert.Kernel27Ideal.Value.H x mt := by
  funext y
  obtain ⟨R, C, rfl⟩ : ∃ (R : Fin 8256) (C : Fin 1024), y = ix2 R C := ⟨y 0, y 1, eq_ix2 y⟩
  exact cat_at x mt R C

theorem norm_at (h : FVec Ideal S8256x1024 .f32) (w : FVec Ideal S1x1024 .f32) (R : Fin 8256) (C : Fin 1024) :
    ((truncf (F := Ideal) (φ := .f32) .bf16 (mulf (mulf h (broadcastInDim S8256x1024 ![0, 1] bcast_S8256x1_S8256x1024_0_1 (Host.rsqrt (addf (Host.divf (broadcastInDim S8256x1 ![0] bcast_S8256_S8256x1_0 (Host.reduceAdd (mulf h h) (constant S_ .f32 0x00000000#32) reducesTo_S8256x1024_S8256_d1 h_S_)) (broadcastInDim S8256x1 ![] bcast_S_S8256x1 (constant S_ .f32 0x44800000#32))) (broadcastInDim S8256x1 ![] bcast_S_S8256x1 (constant S_ .f32 0x358637BD#32)))))) (broadcastInDim S8256x1024 ![0, 1] bcast_S1x1024_S8256x1024_0_1 w)) bitsLt_bf16_f32 : FVec Ideal S8256x1024 .bf16)
      (ix2 R C) : EReal) = rms (fun j => (h (ix2 R j) : EReal)) (h (ix2 R C)) (w (ix2 0 C)) := by
  unfold rms
  pointwise

theorem ref_n (x : FVec Ideal S8192x1024 .f32) (mt : FVec Ideal S16x1024 .f32) (w : FVec Ideal S1x1024 .f32) :
    (truncf (F := Ideal) (φ := .f32) .bf16 (mulf (mulf (cat x mt) (broadcastInDim S8256x1024 ![0, 1] bcast_S8256x1_S8256x1024_0_1 (Host.rsqrt (addf (Host.divf (broadcastInDim S8256x1 ![0] bcast_S8256_S8256x1_0 (Host.reduceAdd (mulf (cat x mt) (cat x mt)) (constant S_ .f32 0x00000000#32) reducesTo_S8256x1024_S8256_d1 h_S_)) (broadcastInDim S8256x1 ![] bcast_S_S8256x1 (constant S_ .f32 0x44800000#32))) (broadcastInDim S8256x1 ![] bcast_S_S8256x1 (constant S_ .f32 0x358637BD#32)))))) (broadcastInDim S8256x1024 ![0, 1] bcast_S1x1024_S8256x1024_0_1 w)) bitsLt_bf16_f32 : FVec Ideal S8256x1024 .bf16)
      = Cert.Kernel27Ideal.Value.HN x mt w := by
  funext y
  obtain ⟨R, C, rfl⟩ : ∃ (R : Fin 8256) (C : Fin 1024), y = ix2 R C := ⟨y 0, y 1, eq_ix2 y⟩
  refine (norm_at (cat x mt) w R C).trans ?_
  rw [cat_at, show (fun j : Fin 1024 => (cat x mt (ix2 R j) : EReal)) = _ from funext fun j => cat_at x mt R j]
  rfl

end Cert.Reference27Ideal.Value

namespace Cert.Proof

open Idealize.ShloMosaic Idealize.ShloMosaic.TcCoe Idealize.SL.Sem

theorem embed_frame : quiescent_Kernel27 := fun m ρ _ => Cert.Kernel27.Gen.frame m ρ
theorem embed_frameI : quiescent_Kernel27Ideal := fun m ρ _ => Cert.Kernel27Ideal.Gen.frame m ρ
theorem embed_frameR : quiescent_Reference27Ideal := fun m ρ _ =>
  (θ_run Cert.Reference27Ideal.defs _ _).mono (fun r h => ⟨fun c => (h c).2.2, sem_eq_zero_of_no_sems (by decide) _⟩) (Cert.Reference27Ideal.Value.run m ρ)

theorem embed_value : algebraic_Kernel27Ideal_Reference27Ideal := fun m ρ m' ρ' _ hag => by
  refine ⟨fun c => Cert.Kernel27Ideal.Value.H (m ((c : Thread Cert.Kernel27Ideal.nD Cert.Kernel27Ideal.τ).loc Cert.Kernel27Ideal.main_arg0))
    (m ((c : Thread Cert.Kernel27Ideal.nD Cert.Kernel27Ideal.τ).loc Cert.Kernel27Ideal.main_arg1)),
    fun c => Cert.Kernel27Ideal.Value.HN (m ((c : Thread Cert.Kernel27Ideal.nD Cert.Kernel27Ideal.τ).loc Cert.Kernel27Ideal.main_arg0))
    (m ((c : Thread Cert.Kernel27Ideal.nD Cert.Kernel27Ideal.τ).loc Cert.Kernel27Ideal.main_arg1))
    (m ((c : Thread Cert.Kernel27Ideal.nD Cert.Kernel27Ideal.τ).loc Cert.Kernel27Ideal.main_arg2)), ?_, ?_⟩
  · exact (θ_run Cert.Kernel27Ideal.defs _ _).mono (fun r h c => ⟨(h c).1.trans (Cert.Kernel27Ideal.Value.final5 m c),
      (h c).2.1.trans (Cert.Kernel27Ideal.Value.final6 m c), (h c).2.2⟩) (Cert.Kernel27Ideal.Value.run_blocks m ρ)
  · refine (θ_run Cert.Reference27Ideal.defs _ _).mono (fun r h c => ⟨(h c).1.trans ?_, (h c).2.1.trans ?_, (h c).2.2⟩) (Cert.Reference27Ideal.Value.run m' ρ')
    · rw [(hag c).1, (hag c).2.1]
      exact Cert.Reference27Ideal.Value.ref_h _ _
    · rw [(hag c).1, (hag c).2.1, (hag c).2.2]
      exact Cert.Reference27Ideal.Value.ref_n _ _ _

end Cert.Proof
end
-- ==== Proof.lean ====
/- The claims of this directory, each proved in the module named after its call. -/
module

public import proofs.«01_k».proof.Defs
public import proofs.«01_k».proof.Proof.ScanClaim
public import proofs.«01_k».proof.Proof.Ds
public import proofs.«01_k».proof.Proof.Dhn
public import proofs.«01_k».proof.Proof.Gnorm
public import proofs.«01_k».proof.Proof.Gu
public import proofs.«01_k».proof.Proof.Down
public import proofs.«01_k».proof.Proof.Dwd
public import proofs.«01_k».proof.Proof.Dwg
public import proofs.«01_k».proof.Proof.Proj
public import proofs.«01_k».proof.Proof.Dhnp
public import proofs.«01_k».proof.Proof.Dwin
public import proofs.«01_k».proof.Proof.Outp
public import proofs.«01_k».proof.Proof.Dwout
public import proofs.«01_k».proof.Proof.Downn
public import proofs.«01_k».proof.Proof.Gnormr
public import proofs.«01_k».proof.Proof.AdamRetIn
public import proofs.«01_k».proof.Proof.AdamDnOut
public import proofs.«01_k».proof.Proof.AdamDnIn
public import proofs.«01_k».proof.Proof.AdamGate
public import proofs.«01_k».proof.Proof.AdamDown
public import proofs.«01_k».proof.Proof.AdamSmall
public import proofs.«01_k».proof.Proof.FinalClaim
public import proofs.«01_k».proof.Proof.Projba
public import proofs.«01_k».proof.Proof.Dhnba
public import proofs.«01_k».proof.Proof.Dwba
public import proofs.«01_k».proof.Proof.Gnormf
public import proofs.«01_k».proof.Proof.Embed

@[expose] public section

noncomputable section

namespace Cert.Proof

open Idealize.ShloMosaic Idealize.SL.Sem

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  facts_finite, facts_finite2, facts_finite4, facts_finite15, facts_gate_columns, facts_gate_columns15,
  scan_frame, scan_frameI, scan_frameI', scan_frameR, scan_frameR',
  ds_frame, ds_frameI, ds_frameI', ds_frameR, ds_frameR',
  dhn_frame, dhn_frameI, dhn_frameR,
  gnorm_frame, gnorm_frameI, gnorm_frameI', gnorm_frameR, gnorm_frameR',
  gu_frame, gu_frameI, gu_frameR,
  down_frame, down_frameI, down_frameR,
  dwd_frame, dwd_frameI, dwd_frameR,
  dwg_frame, dwg_frameI, dwg_frameR,
  proj_frame, proj_frameI, proj_frameR,
  dhnp_frame, dhnp_frameI, dhnp_frameR,
  dwin_frame, dwin_frameI, dwin_frameR,
  outp_frame, outp_frameI, outp_frameR,
  dwout_frame, dwout_frameI, dwout_frameR,
  downn_frame, downn_frameI, downn_frameR,
  gnormr_frame, gnormr_frameI, gnormr_frameI', gnormr_frameR, gnormr_frameR',
  adam_ret_in_frame, adam_ret_in_frameI, adam_ret_in_frameR,
  adam_dn_out_frame, adam_dn_out_frameI, adam_dn_out_frameR,
  adam_dn_in_frame, adam_dn_in_frameI, adam_dn_in_frameR,
  adam_gate_frame, adam_gate_frameI, adam_gate_frameR,
  adam_down_frame, adam_down_frameI, adam_down_frameR,
  adam_small_frame, adam_small_frameI, adam_small_frameR,
  final_loss_frame, final_loss_frameI, final_loss_frameR,
  projba_frame, projba_frameI, projba_frameR,
  dhnba_frame, dhnba_frameI, dhnba_frameR,
  dwba_frame, dwba_frameI, dwba_frameR,
  gnormf_frame, gnormf_frameI, gnormf_frameR,
  embed_frame, embed_frameI, embed_frameR,
  trivial, scan_value,
  trivial, ds_value,
  trivial, dhn_value,
  trivial, gnorm_value,
  trivial, gu_value,
  trivial, down_value,
  trivial, dwd_value,
  trivial, dwg_value,
  trivial, proj_value,
  trivial, dhnp_value,
  trivial, dwin_value,
  trivial, outp_value,
  trivial, dwout_value,
  trivial, downn_value,
  trivial, gnormr_value,
  trivial, adam_ret_in_value,
  trivial, adam_dn_out_value,
  trivial, adam_dn_in_value,
  trivial, adam_gate_value,
  trivial, adam_down_value,
  trivial, adam_small_value,
  trivial, final_loss_value,
  trivial, projba_value,
  trivial, dhnba_value,
  trivial, dwba_value,
  trivial, gnormf_value,
  trivial, embed_value⟩

end Cert.Proof

end
